-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_from_finite_KernelIdeal [hPre_scores_from_finite_KernelIdeal : Cert.Pre_scores_from_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_scores_from_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_scores_from_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_scores_from_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_from_finite_ReferenceIdeal [hPre_scores_from_finite_ReferenceIdeal : Cert.Pre_scores_from_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_from_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_scores_from_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_scores_from_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_scores_from_finite_KernelIdeal [hKernelIdeal : Cert.KernelIdeal.Facts] [hPre_scores_from_finite_KernelIdeal : Cert.Pre_scores_from_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_from_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_scores_from_finite_ReferenceIdeal [hReferenceIdeal : Cert.ReferenceIdeal.Facts] [hPre_scores_from_finite_ReferenceIdeal : Cert.Pre_scores_from_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_from_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_scores_from_finite_KernelIdeal [hKernelIdeal : Cert.KernelIdeal.Facts] [hReferenceIdeal : Cert.ReferenceIdeal.Facts] [hPre_scores_from_finite_KernelIdeal : Cert.Pre_scores_from_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_from_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 16384]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![1024, 1024]⟩ ⟨2, ![16384, 1024]⟩ 0 16 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v43) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_scores_from_finite_KernelIdeal : Cert.Pre_scores_from_finite_KernelIdeal.Facts) (hPre_scores_from_finite_ReferenceIdeal : Cert.Pre_scores_from_finite_ReferenceIdeal.Facts),
    quiescent_Kernel (hKernel := hKernel)
    ∧ quiescent_KernelIdeal (hKernelIdeal := hKernelIdeal)
    ∧ quiescent_KernelIdeal_pre_scores_from_finite_KernelIdeal (hKernelIdeal := hKernelIdeal) (hPre_scores_from_finite_KernelIdeal := hPre_scores_from_finite_KernelIdeal)
    ∧ quiescent_ReferenceIdeal (hReferenceIdeal := hReferenceIdeal)
    ∧ quiescent_ReferenceIdeal_pre_scores_from_finite_ReferenceIdeal (hReferenceIdeal := hReferenceIdeal) (hPre_scores_from_finite_ReferenceIdeal := hPre_scores_from_finite_ReferenceIdeal)
    ∧ preserves_Kernel_KernelIdeal
    ∧ algebraic_KernelIdeal_ReferenceIdeal_pre_scores_from_finite_KernelIdeal (hKernelIdeal := hKernelIdeal) (hReferenceIdeal := hReferenceIdeal) (hPre_scores_from_finite_KernelIdeal := hPre_scores_from_finite_KernelIdeal)
-- ==== Pre_scores_from_finite_KernelIdeal.lean ====
abbrev S1x1024x1024 : Shape := ⟨3, ![1, 1024, 1024]⟩
abbrev S1024x1024 : Shape := ⟨2, ![1024, 1024]⟩
abbrev S1x1024x128x128 : Shape := ⟨4, ![1, 1024, 128, 128]⟩
abbrev S_ : Shape := ⟨0, ![]⟩

class Facts : Prop where
  bcast_S_S1x1024x1024 : S_.BroadcastsInDim S1x1024x1024 (![] : Fin 0 → Fin S1x1024x1024.rank)
  bcast_S_S1024x1024 : S_.BroadcastsInDim S1024x1024 (![] : Fin 0 → Fin S1024x1024.rank)
  bcast_S_S1x1024x128x128 : S_.BroadcastsInDim S1x1024x128x128 (![] : Fin 0 → Fin S1x1024x128x128.rank)

variable [Facts]

def fn {F : FTy → Type} [FloatOps F] (main_arg0 : FVec F S1x1024x1024 .f32) (main_arg1 : FVec F S1024x1024 .f32) (main_arg2 : FVec F S1x1024x128x128 .f32) (main_arg3 : FVec F S1x1024x128x128 .f32) (main_arg4 : FVec F S1024x1024 .f32) : IVec S1x1024x1024 1 × IVec S1024x1024 1 × IVec S1x1024x128x128 1 :=
  let main_v0 : FVec F S1x1024x1024 .f32 := Host.absf main_arg0
  let main_cst : FVec F S_ .f32 := constant S_ .f32 0x7F800000#32
  let main_v1 : FVec F S1x1024x1024 .f32 := broadcastInDim S1x1024x1024 ![] bcast_S_S1x1024x1024 main_cst
  let main_v2 : IVec S1x1024x1024 1 := cmpf .olt main_v0 main_v1
  let main_v3 : FVec F S1024x1024 .f32 := Host.absf main_arg1
  let main_cst_0 : FVec F S_ .f32 := constant S_ .f32 0x7F800000#32
  let main_v4 : FVec F S1024x1024 .f32 := broadcastInDim S1024x1024 ![] bcast_S_S1024x1024 main_cst_0
  let main_v5 : IVec S1024x1024 1 := cmpf .olt main_v3 main_v4
  let main_v6 : FVec F S1x1024x128x128 .f32 := Host.absf main_arg2
  let main_cst_1 : FVec F S_ .f32 := constant S_ .f32 0x7F800000#32
  let main_v7 : FVec F S1x1024x128x128 .f32 := broadcastInDim S1x1024x128x128 ![] bcast_S_S1x1024x128x128 main_cst_1
  let main_v8 : IVec S1x1024x128x128 1 := cmpf .olt main_v6 main_v7
  (main_v2, main_v5, main_v8)
-- ==== Pre_scores_from_finite_ReferenceIdeal.lean ====
abbrev S1x1024x1024 : Shape := ⟨3, ![1, 1024, 1024]⟩
abbrev S1024x16384 : Shape := ⟨2, ![1024, 16384]⟩
abbrev S1x1024x128x128 : Shape := ⟨4, ![1, 1024, 128, 128]⟩
abbrev S16384x1024 : Shape := ⟨2, ![16384, 1024]⟩
abbrev S_ : Shape := ⟨0, ![]⟩

class Facts : Prop where
  bcast_S_S1x1024x1024 : S_.BroadcastsInDim S1x1024x1024 (![] : Fin 0 → Fin S1x1024x1024.rank)
  bcast_S_S1024x16384 : S_.BroadcastsInDim S1024x16384 (![] : Fin 0 → Fin S1024x16384.rank)
  bcast_S_S1x1024x128x128 : S_.BroadcastsInDim S1x1024x128x128 (![] : Fin 0 → Fin S1x1024x128x128.rank)

variable [Facts]

def fn {F : FTy → Type} [FloatOps F] (main_arg0 : FVec F S1x1024x1024 .f32) (main_arg1 : FVec F S1024x16384 .f32) (main_arg2 : FVec F S1x1024x128x128 .f32) (main_arg3 : FVec F S1x1024x128x128 .f32) (main_arg4 : FVec F S16384x1024 .f32) : IVec S1x1024x1024 1 × IVec S1024x16384 1 × IVec S1x1024x128x128 1 :=
  let main_v0 : FVec F S1x1024x1024 .f32 := Host.absf main_arg0
  let main_cst : FVec F S_ .f32 := constant S_ .f32 0x7F800000#32
  let main_v1 : FVec F S1x1024x1024 .f32 := broadcastInDim S1x1024x1024 ![] bcast_S_S1x1024x1024 main_cst
  let main_v2 : IVec S1x1024x1024 1 := cmpf .olt main_v0 main_v1
  let main_v3 : FVec F S1024x16384 .f32 := Host.absf main_arg1
  let main_cst_0 : FVec F S_ .f32 := constant S_ .f32 0x7F800000#32
  let main_v4 : FVec F S1024x16384 .f32 := broadcastInDim S1024x16384 ![] bcast_S_S1024x16384 main_cst_0
  let main_v5 : IVec S1024x16384 1 := cmpf .olt main_v3 main_v4
  let main_v6 : FVec F S1x1024x128x128 .f32 := Host.absf main_arg2
  let main_cst_1 : FVec F S_ .f32 := constant S_ .f32 0x7F800000#32
  let main_v7 : FVec F S1x1024x128x128 .f32 := broadcastInDim S1x1024x128x128 ![] bcast_S_S1x1024x128x128 main_cst_1
  let main_v8 : IVec S1x1024x128x128 1 := cmpf .olt main_v6 main_v7
  (main_v2, main_v5, main_v8)
-- ==== Kernel.lean ====
abbrev S1x1024x1024 : Shape := ⟨3, ![1, 1024, 1024]⟩
abbrev S1024x1024 : Shape := ⟨2, ![1024, 1024]⟩
abbrev S1x1024x128x128 : Shape := ⟨4, ![1, 1024, 128, 128]⟩
abbrev S1024x8x128 : Shape := ⟨3, ![1024, 8, 128]⟩
abbrev S2 : Shape := ⟨1, ![2]⟩
abbrev S256x1024 : Shape := ⟨2, ![256, 1024]⟩
abbrev S128x1024 : Shape := ⟨2, ![128, 1024]⟩
abbrev S64x1024 : Shape := ⟨2, ![64, 1024]⟩
abbrev S32x1024 : Shape := ⟨2, ![32, 1024]⟩
abbrev S4x2 : Shape := ⟨2, ![4, 2]⟩
abbrev S_ : Shape := ⟨0, ![]⟩
abbrev S1 : Shape := ⟨1, ![1]⟩
abbrev S1x1024x8x128 : Shape := ⟨4, ![1, 1024, 8, 128]⟩
abbrev S1024x1x128 : Shape := ⟨3, ![1024, 1, 128]⟩
abbrev S1024x128 : Shape := ⟨2, ![1024, 128]⟩
abbrev S256x128 : Shape := ⟨2, ![256, 128]⟩
abbrev S256 : Shape := ⟨1, ![256]⟩
abbrev S256x1 : Shape := ⟨2, ![256, 1]⟩
abbrev S1x1 : Shape := ⟨2, ![1, 1]⟩
abbrev S16x1024 : Shape := ⟨2, ![16, 1024]⟩

abbrev nBuf : Space → Nat
  | .hbm => 6
  | .vmem => 39
  | .smem => 0
  | _ => 0

abbrev bufTy : (tb : Table) → Fin (tcTables nBuf tb) → BufTy
  | .hbm, ⟨0, _⟩ => ⟨S1x1024x1024, .f32⟩
  | .hbm, ⟨1, _⟩ => ⟨S1024x1024, .f32⟩
  | .hbm, ⟨2, _⟩ => ⟨S1x1024x128x128, .f32⟩
  | .hbm, ⟨3, _⟩ => ⟨S1x1024x128x128, .f32⟩
  | .hbm, ⟨4, _⟩ => ⟨S1024x1024, .f32⟩
  | .hbm, ⟨5, _⟩ => ⟨S1024x1024, .f32⟩
  | .local _ .vmem, ⟨0, _⟩ => ⟨S1x1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x8x128, .f32⟩
  | .local _ .vmem, ⟨5, _⟩ => ⟨S1024x8x128, .f32⟩
  | .local _ .vmem, ⟨6, _⟩ => ⟨S1024x1024, .bf16⟩
  | .local _ .vmem, ⟨7, _⟩ => ⟨S256x1024, .bf16⟩
  | .local _ .vmem, ⟨8, _⟩ => ⟨S128x1024, .bf16⟩
  | .local _ .vmem, ⟨9, _⟩ => ⟨S64x1024, .bf16⟩
  | .local _ .vmem, ⟨10, _⟩ => ⟨S32x1024, .bf16⟩
  | .local _ .vmem, ⟨11, _⟩ => ⟨S256x1024, .bf16⟩
  | .local _ .vmem, ⟨12, _⟩ => ⟨S128x1024, .bf16⟩
  | .local _ .vmem, ⟨13, _⟩ => ⟨S64x1024, .bf16⟩
  | .local _ .vmem, ⟨14, _⟩ => ⟨S32x1024, .bf16⟩
  | .local _ .vmem, ⟨15, _⟩ => ⟨S32x1024, .bf16⟩
  | .local _ .vmem, ⟨16, _⟩ => ⟨S64x1024, .bf16⟩
  | .local _ .vmem, ⟨17, _⟩ => ⟨S128x1024, .bf16⟩
  | .local _ .vmem, ⟨18, _⟩ => ⟨S256x1024, .bf16⟩
  | .local _ .vmem, ⟨19, _⟩ => ⟨S32x1024, .bf16⟩
  | .local _ .vmem, ⟨20, _⟩ => ⟨S64x1024, .bf16⟩
  | .local _ .vmem, ⟨21, _⟩ => ⟨S128x1024, .bf16⟩
  | .local _ .vmem, ⟨22, _⟩ => ⟨S256x1024, .bf16⟩
  | .local _ .vmem, ⟨23, _⟩ => ⟨S256x1024, .bf16⟩
  | .local _ .vmem, ⟨24, _⟩ => ⟨S128x1024, .bf16⟩
  | .local _ .vmem, ⟨25, _⟩ => ⟨S64x1024, .bf16⟩
  | .local _ .vmem, ⟨26, _⟩ => ⟨S32x1024, .bf16⟩
  | .local _ .vmem, ⟨27, _⟩ => ⟨S256x1024, .bf16⟩
  | .local _ .vmem, ⟨28, _⟩ => ⟨S128x1024, .bf16⟩
  | .local _ .vmem, ⟨29, _⟩ => ⟨S64x1024, .bf16⟩
  | .local _ .vmem, ⟨30, _⟩ => ⟨S32x1024, .bf16⟩
  | .local _ .vmem, ⟨31, _⟩ => ⟨S32x1024, .bf16⟩
  | .local _ .vmem, ⟨32, _⟩ => ⟨S64x1024, .bf16⟩
  | .local _ .vmem, ⟨33, _⟩ => ⟨S128x1024, .bf16⟩
  | .local _ .vmem, ⟨34, _⟩ => ⟨S256x1024, .bf16⟩
  | .local _ .vmem, ⟨35, _⟩ => ⟨S32x1024, .bf16⟩
  | .local _ .vmem, ⟨36, _⟩ => ⟨S64x1024, .bf16⟩
  | .local _ .vmem, ⟨37, _⟩ => ⟨S128x1024, .bf16⟩
  | .local _ .vmem, ⟨38, _⟩ => ⟨S256x1024, .bf16⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 1 → Bool
  | ⟨0, _⟩ => false
  | _ => false

abbrev dmaSemScoped : Fin 70 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | _ => false

abbrev sig : RefSig :=
  (ofTc nBuf bufTy 1 70 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch8 : Ref sig .tc := ⟨.vmem, 11, rfl⟩
abbrev cc0_scratch9 : Ref sig .tc := ⟨.vmem, 12, rfl⟩
abbrev cc0_scratch10 : Ref sig .tc := ⟨.vmem, 13, rfl⟩
abbrev cc0_scratch11 : Ref sig .tc := ⟨.vmem, 14, rfl⟩
abbrev cc0_scratch12 : Ref sig .tc := ⟨.vmem, 15, rfl⟩
abbrev cc0_scratch13 : Ref sig .tc := ⟨.vmem, 16, rfl⟩
abbrev cc0_scratch14 : Ref sig .tc := ⟨.vmem, 17, rfl⟩
abbrev cc0_scratch15 : Ref sig .tc := ⟨.vmem, 18, rfl⟩
abbrev cc0_scratch16 : Ref sig .tc := ⟨.vmem, 19, rfl⟩
abbrev cc0_scratch17 : Ref sig .tc := ⟨.vmem, 20, rfl⟩
abbrev cc0_scratch18 : Ref sig .tc := ⟨.vmem, 21, rfl⟩
abbrev cc0_scratch19 : Ref sig .tc := ⟨.vmem, 22, rfl⟩
abbrev cc0_scratch20 : Ref sig .tc := ⟨.vmem, 23, rfl⟩
abbrev cc0_scratch21 : Ref sig .tc := ⟨.vmem, 24, rfl⟩
abbrev cc0_scratch22 : Ref sig .tc := ⟨.vmem, 25, rfl⟩
abbrev cc0_scratch23 : Ref sig .tc := ⟨.vmem, 26, rfl⟩
abbrev cc0_scratch24 : Ref sig .tc := ⟨.vmem, 27, rfl⟩
abbrev cc0_scratch25 : Ref sig .tc := ⟨.vmem, 28, rfl⟩
abbrev cc0_scratch26 : Ref sig .tc := ⟨.vmem, 29, rfl⟩
abbrev cc0_scratch27 : Ref sig .tc := ⟨.vmem, 30, rfl⟩
abbrev cc0_scratch28 : Ref sig .tc := ⟨.vmem, 31, rfl⟩
abbrev cc0_scratch29 : Ref sig .tc := ⟨.vmem, 32, rfl⟩
abbrev cc0_scratch30 : Ref sig .tc := ⟨.vmem, 33, rfl⟩
abbrev cc0_scratch31 : Ref sig .tc := ⟨.vmem, 34, rfl⟩
abbrev cc0_scratch32 : Ref sig .tc := ⟨.vmem, 35, rfl⟩
abbrev cc0_scratch33 : Ref sig .tc := ⟨.vmem, 36, rfl⟩
abbrev cc0_scratch34 : Ref sig .tc := ⟨.vmem, 37, rfl⟩
abbrev cc0_scratch35 : Ref sig .tc := ⟨.vmem, 38, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_56 : BitVec 32 := 0#32
  let c4_i32_41 : BitVec 32 := 4#32
  let c2_i32_40 : BitVec 32 := 2#32
  let v4 : BitVec 32 := Dev.word d0
  let c1_i32_1 : BitVec 32 := 1#32
  let v5 : BitVec 32 := Scalar.divsi v4 c1_i32_1
  let c16_i32_0 : BitVec 32 := 16#32
  let v6 : BitVec 32 := Scalar.remsi v5 c16_i32_0
  let c0_i32 : BitVec 32 := 0#32
  let v8 : BitVec 1 := Scalar.cmpi .sgt v6 c0_i32
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c4_i32 : BitVec 32 := 4#32
  let c0_i32_3 : BitVec 32 := 0#32
  let v13 : BitVec 1 := Scalar.cmpi .sgt c4_i32 c0_i32_3
  let v14 : BitVec 32 := Scalar.extui v13
  let c0_i32_4 : BitVec 32 := 0#32
  let v15 : BitVec 1 := Scalar.cmpi .slt c4_i32 c0_i32_4
  let v16 : BitVec 32 := Scalar.extui v15
  let v17 : BitVec 32 := Scalar.subi v14 v16
  let v18 : BitVec 1 := Scalar.cmpi .ne v12 v17
  let v19 : BitVec 32 := Scalar.remsi v6 c4_i32
  let c0_i32_5 : BitVec 32 := 0#32
  let v20 : BitVec 1 := Scalar.cmpi .ne v19 c0_i32_5
  let v21 : BitVec 1 := Scalar.andi v18 v20
  let v7 : BitVec 32 := Scalar.divsi v6 c4_i32
  let c1_i32_6 : BitVec 32 := 1#32
  let v22 : BitVec 32 := Scalar.subi v7 c1_i32_6
  let v23 : BitVec 32 := Scalar.select v21 v22 v7
  let c0_i32_32 : BitVec 32 := 0#32
  let v73 : BitVec 1 := Scalar.cmpi .sgt v23 c0_i32_32
  let v74 : BitVec 32 := Scalar.extui v73
  let c0_i32_33 : BitVec 32 := 0#32
  let v75 : BitVec 1 := Scalar.cmpi .slt v23 c0_i32_33
  let v76 : BitVec 32 := Scalar.extui v75
  let v77 : BitVec 32 := Scalar.subi v74 v76
  let c2_i32_31 : BitVec 32 := 2#32
  let c0_i32_34 : BitVec 32 := 0#32
  let v78 : BitVec 1 := Scalar.cmpi .sgt c2_i32_31 c0_i32_34
  let v79 : BitVec 32 := Scalar.extui v78
  let c0_i32_35 : BitVec 32 := 0#32
  let v80 : BitVec 1 := Scalar.cmpi .slt c2_i32_31 c0_i32_35
  let v81 : BitVec 32 := Scalar.extui v80
  let v82 : BitVec 32 := Scalar.subi v79 v81
  let v83 : BitVec 1 := Scalar.cmpi .ne v77 v82
  let v84 : BitVec 32 := Scalar.remsi v23 c2_i32_31
  let c0_i32_36 : BitVec 32 := 0#32
  let v85 : BitVec 1 := Scalar.cmpi .ne v84 c0_i32_36
  let v86 : BitVec 1 := Scalar.andi v83 v85
  let v72 : BitVec 32 := Scalar.divsi v23 c2_i32_31
  let c1_i32_37 : BitVec 32 := 1#32
  let v87 : BitVec 32 := Scalar.subi v72 c1_i32_37
  let v88 : BitVec 32 := Scalar.select v86 v87 v72
  let v93 : BitVec 32 := Scalar.muli c2_i32_40 v88
  let c2_i32_25 : BitVec 32 := 2#32
  let c0_i32_26 : BitVec 32 := 0#32
  let v62 : BitVec 1 := Scalar.cmpi .eq c2_i32_25 c0_i32_26
  let c1_i32_27 : BitVec 32 := 1#32
  let v63 : BitVec 32 := Scalar.select v62 c1_i32_27 c2_i32_25
  let v64 : BitVec 32 := Scalar.remsi v23 v63
  let c0_i32_29 : BitVec 32 := 0#32
  let v66 : BitVec 1 := Scalar.cmpi .slt v64 c0_i32_29
  let c0_i32_30 : BitVec 32 := 0#32
  let v67 : BitVec 1 := Scalar.cmpi .slt v63 c0_i32_30
  let v68 : BitVec 1 := Scalar.xori v66 v67
  let c0_i32_28 : BitVec 32 := 0#32
  let v65 : BitVec 1 := Scalar.cmpi .ne v64 c0_i32_28
  let v69 : BitVec 1 := Scalar.andi v68 v65
  let v70 : BitVec 32 := Scalar.addi v64 v63
  let v71 : BitVec 32 := Scalar.select v69 v70 v64
  let v94 : BitVec 32 := Scalar.addi v93 v71
  let v95 : BitVec 32 := Scalar.muli c4_i32_41 v94
  let c1_i32_38 : BitVec 32 := 1#32
  let c4_i32_7 : BitVec 32 := 4#32
  let c0_i32_8 : BitVec 32 := 0#32
  let v24 : BitVec 1 := Scalar.cmpi .eq c4_i32_7 c0_i32_8
  let c1_i32_9 : BitVec 32 := 1#32
  let v25 : BitVec 32 := Scalar.select v24 c1_i32_9 c4_i32_7
  let v26 : BitVec 32 := Scalar.remsi v6 v25
  let c0_i32_11 : BitVec 32 := 0#32
  let v28 : BitVec 1 := Scalar.cmpi .slt v26 c0_i32_11
  let c0_i32_12 : BitVec 32 := 0#32
  let v29 : BitVec 1 := Scalar.cmpi .slt v25 c0_i32_12
  let v30 : BitVec 1 := Scalar.xori v28 v29
  let c0_i32_10 : BitVec 32 := 0#32
  let v27 : BitVec 1 := Scalar.cmpi .ne v26 c0_i32_10
  let v31 : BitVec 1 := Scalar.andi v30 v27
  let v32 : BitVec 32 := Scalar.addi v26 v25
  let v33 : BitVec 32 := Scalar.select v31 v32 v26
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v33 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_13 : BitVec 32 := 0#32
  let v35 : BitVec 1 := Scalar.cmpi .sgt v33 c0_i32_13
  let v36 : BitVec 32 := Scalar.extui v35
  let c0_i32_14 : BitVec 32 := 0#32
  let v37 : BitVec 1 := Scalar.cmpi .slt v33 c0_i32_14
  let v38 : BitVec 32 := Scalar.extui v37
  let v39 : BitVec 32 := Scalar.subi v36 v38
  let c2_i32 : BitVec 32 := 2#32
  let c0_i32_15 : BitVec 32 := 0#32
  let v40 : BitVec 1 := Scalar.cmpi .sgt c2_i32 c0_i32_15
  let v41 : BitVec 32 := Scalar.extui v40
  let c0_i32_16 : BitVec 32 := 0#32
  let v42 : BitVec 1 := Scalar.cmpi .slt c2_i32 c0_i32_16
  let v43 : BitVec 32 := Scalar.extui v42
  let v44 : BitVec 32 := Scalar.subi v41 v43
  let v45 : BitVec 1 := Scalar.cmpi .ne v39 v44
  let v46 : BitVec 32 := Scalar.remsi v33 c2_i32
  let c0_i32_17 : BitVec 32 := 0#32
  let v47 : BitVec 1 := Scalar.cmpi .ne v46 c0_i32_17
  let v48 : BitVec 1 := Scalar.andi v45 v47
  let v34 : BitVec 32 := Scalar.divsi v33 c2_i32
  let c1_i32_18 : BitVec 32 := 1#32
  let v49 : BitVec 32 := Scalar.subi v34 c1_i32_18
  let v50 : BitVec 32 := Scalar.select v48 v49 v34
  let v61 : BitVec 32 := Scalar.xori v60 v50
  let v89 : BitVec 32 := Scalar.subi c1_i32_38 v61
  let v90 : BitVec 32 := Scalar.xori v89 v50
  let c2_i32_39 : BitVec 32 := 2#32
  let v91 : BitVec 32 := Scalar.muli c2_i32_39 v50
  let v92 : BitVec 32 := Scalar.addi v90 v91
  let v96 : BitVec 32 := Scalar.addi v95 v92
  let c1_i32_55 : BitVec 32 := 1#32
  let v122 : BitVec 32 := Scalar.muli v96 c1_i32_55
  let v123 : BitVec 32 := Scalar.addi c0_i32_56 v122
  v123.toNat
def k0_dev2 (d0 : Dev nD) : Nat :=
  let c0_i32_59 : BitVec 32 := 0#32
  let c4_i32_45 : BitVec 32 := 4#32
  let c2_i32_44 : BitVec 32 := 2#32
  let v4 : BitVec 32 := Dev.word d0
  let c1_i32_1 : BitVec 32 := 1#32
  let v5 : BitVec 32 := Scalar.divsi v4 c1_i32_1
  let c16_i32_0 : BitVec 32 := 16#32
  let v6 : BitVec 32 := Scalar.remsi v5 c16_i32_0
  let c0_i32 : BitVec 32 := 0#32
  let v8 : BitVec 1 := Scalar.cmpi .sgt v6 c0_i32
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c4_i32 : BitVec 32 := 4#32
  let c0_i32_3 : BitVec 32 := 0#32
  let v13 : BitVec 1 := Scalar.cmpi .sgt c4_i32 c0_i32_3
  let v14 : BitVec 32 := Scalar.extui v13
  let c0_i32_4 : BitVec 32 := 0#32
  let v15 : BitVec 1 := Scalar.cmpi .slt c4_i32 c0_i32_4
  let v16 : BitVec 32 := Scalar.extui v15
  let v17 : BitVec 32 := Scalar.subi v14 v16
  let v18 : BitVec 1 := Scalar.cmpi .ne v12 v17
  let v19 : BitVec 32 := Scalar.remsi v6 c4_i32
  let c0_i32_5 : BitVec 32 := 0#32
  let v20 : BitVec 1 := Scalar.cmpi .ne v19 c0_i32_5
  let v21 : BitVec 1 := Scalar.andi v18 v20
  let v7 : BitVec 32 := Scalar.divsi v6 c4_i32
  let c1_i32_6 : BitVec 32 := 1#32
  let v22 : BitVec 32 := Scalar.subi v7 c1_i32_6
  let v23 : BitVec 32 := Scalar.select v21 v22 v7
  let c0_i32_32 : BitVec 32 := 0#32
  let v73 : BitVec 1 := Scalar.cmpi .sgt v23 c0_i32_32
  let v74 : BitVec 32 := Scalar.extui v73
  let c0_i32_33 : BitVec 32 := 0#32
  let v75 : BitVec 1 := Scalar.cmpi .slt v23 c0_i32_33
  let v76 : BitVec 32 := Scalar.extui v75
  let v77 : BitVec 32 := Scalar.subi v74 v76
  let c2_i32_31 : BitVec 32 := 2#32
  let c0_i32_34 : BitVec 32 := 0#32
  let v78 : BitVec 1 := Scalar.cmpi .sgt c2_i32_31 c0_i32_34
  let v79 : BitVec 32 := Scalar.extui v78
  let c0_i32_35 : BitVec 32 := 0#32
  let v80 : BitVec 1 := Scalar.cmpi .slt c2_i32_31 c0_i32_35
  let v81 : BitVec 32 := Scalar.extui v80
  let v82 : BitVec 32 := Scalar.subi v79 v81
  let v83 : BitVec 1 := Scalar.cmpi .ne v77 v82
  let v84 : BitVec 32 := Scalar.remsi v23 c2_i32_31
  let c0_i32_36 : BitVec 32 := 0#32
  let v85 : BitVec 1 := Scalar.cmpi .ne v84 c0_i32_36
  let v86 : BitVec 1 := Scalar.andi v83 v85
  let v72 : BitVec 32 := Scalar.divsi v23 c2_i32_31
  let c1_i32_37 : BitVec 32 := 1#32
  let v87 : BitVec 32 := Scalar.subi v72 c1_i32_37
  let v88 : BitVec 32 := Scalar.select v86 v87 v72
  let v101 : BitVec 32 := Scalar.muli c2_i32_44 v88
  let c2_i32_25 : BitVec 32 := 2#32
  let c0_i32_26 : BitVec 32 := 0#32
  let v62 : BitVec 1 := Scalar.cmpi .eq c2_i32_25 c0_i32_26
  let c1_i32_27 : BitVec 32 := 1#32
  let v63 : BitVec 32 := Scalar.select v62 c1_i32_27 c2_i32_25
  let v64 : BitVec 32 := Scalar.remsi v23 v63
  let c0_i32_29 : BitVec 32 := 0#32
  let v66 : BitVec 1 := Scalar.cmpi .slt v64 c0_i32_29
  let c0_i32_30 : BitVec 32 := 0#32
  let v67 : BitVec 1 := Scalar.cmpi .slt v63 c0_i32_30
  let v68 : BitVec 1 := Scalar.xori v66 v67
  let c0_i32_28 : BitVec 32 := 0#32
  let v65 : BitVec 1 := Scalar.cmpi .ne v64 c0_i32_28
  let v69 : BitVec 1 := Scalar.andi v68 v65
  let v70 : BitVec 32 := Scalar.addi v64 v63
  let v71 : BitVec 32 := Scalar.select v69 v70 v64
  let v102 : BitVec 32 := Scalar.addi v101 v71
  let v103 : BitVec 32 := Scalar.muli c4_i32_45 v102
  let c4_i32_7 : BitVec 32 := 4#32
  let c0_i32_8 : BitVec 32 := 0#32
  let v24 : BitVec 1 := Scalar.cmpi .eq c4_i32_7 c0_i32_8
  let c1_i32_9 : BitVec 32 := 1#32
  let v25 : BitVec 32 := Scalar.select v24 c1_i32_9 c4_i32_7
  let v26 : BitVec 32 := Scalar.remsi v6 v25
  let c0_i32_11 : BitVec 32 := 0#32
  let v28 : BitVec 1 := Scalar.cmpi .slt v26 c0_i32_11
  let c0_i32_12 : BitVec 32 := 0#32
  let v29 : BitVec 1 := Scalar.cmpi .slt v25 c0_i32_12
  let v30 : BitVec 1 := Scalar.xori v28 v29
  let c0_i32_10 : BitVec 32 := 0#32
  let v27 : BitVec 1 := Scalar.cmpi .ne v26 c0_i32_10
  let v31 : BitVec 1 := Scalar.andi v30 v27
  let v32 : BitVec 32 := Scalar.addi v26 v25
  let v33 : BitVec 32 := Scalar.select v31 v32 v26
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v33 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_13 : BitVec 32 := 0#32
  let v35 : BitVec 1 := Scalar.cmpi .sgt v33 c0_i32_13
  let v36 : BitVec 32 := Scalar.extui v35
  let c0_i32_14 : BitVec 32 := 0#32
  let v37 : BitVec 1 := Scalar.cmpi .slt v33 c0_i32_14
  let v38 : BitVec 32 := Scalar.extui v37
  let v39 : BitVec 32 := Scalar.subi v36 v38
  let c2_i32 : BitVec 32 := 2#32
  let c0_i32_15 : BitVec 32 := 0#32
  let v40 : BitVec 1 := Scalar.cmpi .sgt c2_i32 c0_i32_15
  let v41 : BitVec 32 := Scalar.extui v40
  let c0_i32_16 : BitVec 32 := 0#32
  let v42 : BitVec 1 := Scalar.cmpi .slt c2_i32 c0_i32_16
  let v43 : BitVec 32 := Scalar.extui v42
  let v44 : BitVec 32 := Scalar.subi v41 v43
  let v45 : BitVec 1 := Scalar.cmpi .ne v39 v44
  let v46 : BitVec 32 := Scalar.remsi v33 c2_i32
  let c0_i32_17 : BitVec 32 := 0#32
  let v47 : BitVec 1 := Scalar.cmpi .ne v46 c0_i32_17
  let v48 : BitVec 1 := Scalar.andi v45 v47
  let v34 : BitVec 32 := Scalar.divsi v33 c2_i32
  let c1_i32_18 : BitVec 32 := 1#32
  let v49 : BitVec 32 := Scalar.subi v34 c1_i32_18
  let v50 : BitVec 32 := Scalar.select v48 v49 v34
  let v61 : BitVec 32 := Scalar.xori v60 v50
  let c1_i32_42 : BitVec 32 := 1#32
  let v97 : BitVec 32 := Scalar.subi c1_i32_42 v50
  let v98 : BitVec 32 := Scalar.xori v61 v97
  let c2_i32_43 : BitVec 32 := 2#32
  let v99 : BitVec 32 := Scalar.muli c2_i32_43 v97
  let v100 : BitVec 32 := Scalar.addi v98 v99
  let v104 : BitVec 32 := Scalar.addi v103 v100
  let c1_i32_58 : BitVec 32 := 1#32
  let v124 : BitVec 32 := Scalar.muli v104 c1_i32_58
  let v125 : BitVec 32 := Scalar.addi c0_i32_59 v124
  v125.toNat
def k0_dev3 (d0 : Dev nD) : Nat :=
  let c0_i32_62 : BitVec 32 := 0#32
  let c4_i32_49 : BitVec 32 := 4#32
  let c2_i32_48 : BitVec 32 := 2#32
  let v4 : BitVec 32 := Dev.word d0
  let c1_i32_1 : BitVec 32 := 1#32
  let v5 : BitVec 32 := Scalar.divsi v4 c1_i32_1
  let c16_i32_0 : BitVec 32 := 16#32
  let v6 : BitVec 32 := Scalar.remsi v5 c16_i32_0
  let c0_i32 : BitVec 32 := 0#32
  let v8 : BitVec 1 := Scalar.cmpi .sgt v6 c0_i32
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c4_i32 : BitVec 32 := 4#32
  let c0_i32_3 : BitVec 32 := 0#32
  let v13 : BitVec 1 := Scalar.cmpi .sgt c4_i32 c0_i32_3
  let v14 : BitVec 32 := Scalar.extui v13
  let c0_i32_4 : BitVec 32 := 0#32
  let v15 : BitVec 1 := Scalar.cmpi .slt c4_i32 c0_i32_4
  let v16 : BitVec 32 := Scalar.extui v15
  let v17 : BitVec 32 := Scalar.subi v14 v16
  let v18 : BitVec 1 := Scalar.cmpi .ne v12 v17
  let v19 : BitVec 32 := Scalar.remsi v6 c4_i32
  let c0_i32_5 : BitVec 32 := 0#32
  let v20 : BitVec 1 := Scalar.cmpi .ne v19 c0_i32_5
  let v21 : BitVec 1 := Scalar.andi v18 v20
  let v7 : BitVec 32 := Scalar.divsi v6 c4_i32
  let c1_i32_6 : BitVec 32 := 1#32
  let v22 : BitVec 32 := Scalar.subi v7 c1_i32_6
  let v23 : BitVec 32 := Scalar.select v21 v22 v7
  let c0_i32_32 : BitVec 32 := 0#32
  let v73 : BitVec 1 := Scalar.cmpi .sgt v23 c0_i32_32
  let v74 : BitVec 32 := Scalar.extui v73
  let c0_i32_33 : BitVec 32 := 0#32
  let v75 : BitVec 1 := Scalar.cmpi .slt v23 c0_i32_33
  let v76 : BitVec 32 := Scalar.extui v75
  let v77 : BitVec 32 := Scalar.subi v74 v76
  let c2_i32_31 : BitVec 32 := 2#32
  let c0_i32_34 : BitVec 32 := 0#32
  let v78 : BitVec 1 := Scalar.cmpi .sgt c2_i32_31 c0_i32_34
  let v79 : BitVec 32 := Scalar.extui v78
  let c0_i32_35 : BitVec 32 := 0#32
  let v80 : BitVec 1 := Scalar.cmpi .slt c2_i32_31 c0_i32_35
  let v81 : BitVec 32 := Scalar.extui v80
  let v82 : BitVec 32 := Scalar.subi v79 v81
  let v83 : BitVec 1 := Scalar.cmpi .ne v77 v82
  let v84 : BitVec 32 := Scalar.remsi v23 c2_i32_31
  let c0_i32_36 : BitVec 32 := 0#32
  let v85 : BitVec 1 := Scalar.cmpi .ne v84 c0_i32_36
  let v86 : BitVec 1 := Scalar.andi v83 v85
  let v72 : BitVec 32 := Scalar.divsi v23 c2_i32_31
  let c1_i32_37 : BitVec 32 := 1#32
  let v87 : BitVec 32 := Scalar.subi v72 c1_i32_37
  let v88 : BitVec 32 := Scalar.select v86 v87 v72
  let v109 : BitVec 32 := Scalar.muli c2_i32_48 v88
  let c1_i32_46 : BitVec 32 := 1#32
  let c2_i32_25 : BitVec 32 := 2#32
  let c0_i32_26 : BitVec 32 := 0#32
  let v62 : BitVec 1 := Scalar.cmpi .eq c2_i32_25 c0_i32_26
  let c1_i32_27 : BitVec 32 := 1#32
  let v63 : BitVec 32 := Scalar.select v62 c1_i32_27 c2_i32_25
  let v64 : BitVec 32 := Scalar.remsi v23 v63
  let c0_i32_29 : BitVec 32 := 0#32
  let v66 : BitVec 1 := Scalar.cmpi .slt v64 c0_i32_29
  let c0_i32_30 : BitVec 32 := 0#32
  let v67 : BitVec 1 := Scalar.cmpi .slt v63 c0_i32_30
  let v68 : BitVec 1 := Scalar.xori v66 v67
  let c0_i32_28 : BitVec 32 := 0#32
  let v65 : BitVec 1 := Scalar.cmpi .ne v64 c0_i32_28
  let v69 : BitVec 1 := Scalar.andi v68 v65
  let v70 : BitVec 32 := Scalar.addi v64 v63
  let v71 : BitVec 32 := Scalar.select v69 v70 v64
  let v105 : BitVec 32 := Scalar.subi c1_i32_46 v71
  let v110 : BitVec 32 := Scalar.addi v109 v105
  let v111 : BitVec 32 := Scalar.muli c4_i32_49 v110
  let c4_i32_7 : BitVec 32 := 4#32
  let c0_i32_8 : BitVec 32 := 0#32
  let v24 : BitVec 1 := Scalar.cmpi .eq c4_i32_7 c0_i32_8
  let c1_i32_9 : BitVec 32 := 1#32
  let v25 : BitVec 32 := Scalar.select v24 c1_i32_9 c4_i32_7
  let v26 : BitVec 32 := Scalar.remsi v6 v25
  let c0_i32_11 : BitVec 32 := 0#32
  let v28 : BitVec 1 := Scalar.cmpi .slt v26 c0_i32_11
  let c0_i32_12 : BitVec 32 := 0#32
  let v29 : BitVec 1 := Scalar.cmpi .slt v25 c0_i32_12
  let v30 : BitVec 1 := Scalar.xori v28 v29
  let c0_i32_10 : BitVec 32 := 0#32
  let v27 : BitVec 1 := Scalar.cmpi .ne v26 c0_i32_10
  let v31 : BitVec 1 := Scalar.andi v30 v27
  let v32 : BitVec 32 := Scalar.addi v26 v25
  let v33 : BitVec 32 := Scalar.select v31 v32 v26
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v33 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_13 : BitVec 32 := 0#32
  let v35 : BitVec 1 := Scalar.cmpi .sgt v33 c0_i32_13
  let v36 : BitVec 32 := Scalar.extui v35
  let c0_i32_14 : BitVec 32 := 0#32
  let v37 : BitVec 1 := Scalar.cmpi .slt v33 c0_i32_14
  let v38 : BitVec 32 := Scalar.extui v37
  let v39 : BitVec 32 := Scalar.subi v36 v38
  let c2_i32 : BitVec 32 := 2#32
  let c0_i32_15 : BitVec 32 := 0#32
  let v40 : BitVec 1 := Scalar.cmpi .sgt c2_i32 c0_i32_15
  let v41 : BitVec 32 := Scalar.extui v40
  let c0_i32_16 : BitVec 32 := 0#32
  let v42 : BitVec 1 := Scalar.cmpi .slt c2_i32 c0_i32_16
  let v43 : BitVec 32 := Scalar.extui v42
  let v44 : BitVec 32 := Scalar.subi v41 v43
  let v45 : BitVec 1 := Scalar.cmpi .ne v39 v44
  let v46 : BitVec 32 := Scalar.remsi v33 c2_i32
  let c0_i32_17 : BitVec 32 := 0#32
  let v47 : BitVec 1 := Scalar.cmpi .ne v46 c0_i32_17
  let v48 : BitVec 1 := Scalar.andi v45 v47
  let v34 : BitVec 32 := Scalar.divsi v33 c2_i32
  let c1_i32_18 : BitVec 32 := 1#32
  let v49 : BitVec 32 := Scalar.subi v34 c1_i32_18
  let v50 : BitVec 32 := Scalar.select v48 v49 v34
  let v61 : BitVec 32 := Scalar.xori v60 v50
  let v106 : BitVec 32 := Scalar.xori v61 v50
  let c2_i32_47 : BitVec 32 := 2#32
  let v107 : BitVec 32 := Scalar.muli c2_i32_47 v50
  let v108 : BitVec 32 := Scalar.addi v106 v107
  let v112 : BitVec 32 := Scalar.addi v111 v108
  let c1_i32_61 : BitVec 32 := 1#32
  let v126 : BitVec 32 := Scalar.muli v112 c1_i32_61
  let v127 : BitVec 32 := Scalar.addi c0_i32_62 v126
  v127.toNat
def k0_dev4 (d0 : Dev nD) : Nat :=
  let c0_i32_65 : BitVec 32 := 0#32
  let c4_i32_53 : BitVec 32 := 4#32
  let c2_i32_52 : BitVec 32 := 2#32
  let c1_i32_50 : BitVec 32 := 1#32
  let v4 : BitVec 32 := Dev.word d0
  let c1_i32_1 : BitVec 32 := 1#32
  let v5 : BitVec 32 := Scalar.divsi v4 c1_i32_1
  let c16_i32_0 : BitVec 32 := 16#32
  let v6 : BitVec 32 := Scalar.remsi v5 c16_i32_0
  let c0_i32 : BitVec 32 := 0#32
  let v8 : BitVec 1 := Scalar.cmpi .sgt v6 c0_i32
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c4_i32 : BitVec 32 := 4#32
  let c0_i32_3 : BitVec 32 := 0#32
  let v13 : BitVec 1 := Scalar.cmpi .sgt c4_i32 c0_i32_3
  let v14 : BitVec 32 := Scalar.extui v13
  let c0_i32_4 : BitVec 32 := 0#32
  let v15 : BitVec 1 := Scalar.cmpi .slt c4_i32 c0_i32_4
  let v16 : BitVec 32 := Scalar.extui v15
  let v17 : BitVec 32 := Scalar.subi v14 v16
  let v18 : BitVec 1 := Scalar.cmpi .ne v12 v17
  let v19 : BitVec 32 := Scalar.remsi v6 c4_i32
  let c0_i32_5 : BitVec 32 := 0#32
  let v20 : BitVec 1 := Scalar.cmpi .ne v19 c0_i32_5
  let v21 : BitVec 1 := Scalar.andi v18 v20
  let v7 : BitVec 32 := Scalar.divsi v6 c4_i32
  let c1_i32_6 : BitVec 32 := 1#32
  let v22 : BitVec 32 := Scalar.subi v7 c1_i32_6
  let v23 : BitVec 32 := Scalar.select v21 v22 v7
  let c0_i32_32 : BitVec 32 := 0#32
  let v73 : BitVec 1 := Scalar.cmpi .sgt v23 c0_i32_32
  let v74 : BitVec 32 := Scalar.extui v73
  let c0_i32_33 : BitVec 32 := 0#32
  let v75 : BitVec 1 := Scalar.cmpi .slt v23 c0_i32_33
  let v76 : BitVec 32 := Scalar.extui v75
  let v77 : BitVec 32 := Scalar.subi v74 v76
  let c2_i32_31 : BitVec 32 := 2#32
  let c0_i32_34 : BitVec 32 := 0#32
  let v78 : BitVec 1 := Scalar.cmpi .sgt c2_i32_31 c0_i32_34
  let v79 : BitVec 32 := Scalar.extui v78
  let c0_i32_35 : BitVec 32 := 0#32
  let v80 : BitVec 1 := Scalar.cmpi .slt c2_i32_31 c0_i32_35
  let v81 : BitVec 32 := Scalar.extui v80
  let v82 : BitVec 32 := Scalar.subi v79 v81
  let v83 : BitVec 1 := Scalar.cmpi .ne v77 v82
  let v84 : BitVec 32 := Scalar.remsi v23 c2_i32_31
  let c0_i32_36 : BitVec 32 := 0#32
  let v85 : BitVec 1 := Scalar.cmpi .ne v84 c0_i32_36
  let v86 : BitVec 1 := Scalar.andi v83 v85
  let v72 : BitVec 32 := Scalar.divsi v23 c2_i32_31
  let c1_i32_37 : BitVec 32 := 1#32
  let v87 : BitVec 32 := Scalar.subi v72 c1_i32_37
  let v88 : BitVec 32 := Scalar.select v86 v87 v72
  let v113 : BitVec 32 := Scalar.subi c1_i32_50 v88
  let v117 : BitVec 32 := Scalar.muli c2_i32_52 v113
  let c2_i32_25 : BitVec 32 := 2#32
  let c0_i32_26 : BitVec 32 := 0#32
  let v62 : BitVec 1 := Scalar.cmpi .eq c2_i32_25 c0_i32_26
  let c1_i32_27 : BitVec 32 := 1#32
  let v63 : BitVec 32 := Scalar.select v62 c1_i32_27 c2_i32_25
  let v64 : BitVec 32 := Scalar.remsi v23 v63
  let c0_i32_29 : BitVec 32 := 0#32
  let v66 : BitVec 1 := Scalar.cmpi .slt v64 c0_i32_29
  let c0_i32_30 : BitVec 32 := 0#32
  let v67 : BitVec 1 := Scalar.cmpi .slt v63 c0_i32_30
  let v68 : BitVec 1 := Scalar.xori v66 v67
  let c0_i32_28 : BitVec 32 := 0#32
  let v65 : BitVec 1 := Scalar.cmpi .ne v64 c0_i32_28
  let v69 : BitVec 1 := Scalar.andi v68 v65
  let v70 : BitVec 32 := Scalar.addi v64 v63
  let v71 : BitVec 32 := Scalar.select v69 v70 v64
  let v118 : BitVec 32 := Scalar.addi v117 v71
  let v119 : BitVec 32 := Scalar.muli c4_i32_53 v118
  let c4_i32_7 : BitVec 32 := 4#32
  let c0_i32_8 : BitVec 32 := 0#32
  let v24 : BitVec 1 := Scalar.cmpi .eq c4_i32_7 c0_i32_8
  let c1_i32_9 : BitVec 32 := 1#32
  let v25 : BitVec 32 := Scalar.select v24 c1_i32_9 c4_i32_7
  let v26 : BitVec 32 := Scalar.remsi v6 v25
  let c0_i32_11 : BitVec 32 := 0#32
  let v28 : BitVec 1 := Scalar.cmpi .slt v26 c0_i32_11
  let c0_i32_12 : BitVec 32 := 0#32
  let v29 : BitVec 1 := Scalar.cmpi .slt v25 c0_i32_12
  let v30 : BitVec 1 := Scalar.xori v28 v29
  let c0_i32_10 : BitVec 32 := 0#32
  let v27 : BitVec 1 := Scalar.cmpi .ne v26 c0_i32_10
  let v31 : BitVec 1 := Scalar.andi v30 v27
  let v32 : BitVec 32 := Scalar.addi v26 v25
  let v33 : BitVec 32 := Scalar.select v31 v32 v26
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v33 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_13 : BitVec 32 := 0#32
  let v35 : BitVec 1 := Scalar.cmpi .sgt v33 c0_i32_13
  let v36 : BitVec 32 := Scalar.extui v35
  let c0_i32_14 : BitVec 32 := 0#32
  let v37 : BitVec 1 := Scalar.cmpi .slt v33 c0_i32_14
  let v38 : BitVec 32 := Scalar.extui v37
  let v39 : BitVec 32 := Scalar.subi v36 v38
  let c2_i32 : BitVec 32 := 2#32
  let c0_i32_15 : BitVec 32 := 0#32
  let v40 : BitVec 1 := Scalar.cmpi .sgt c2_i32 c0_i32_15
  let v41 : BitVec 32 := Scalar.extui v40
  let c0_i32_16 : BitVec 32 := 0#32
  let v42 : BitVec 1 := Scalar.cmpi .slt c2_i32 c0_i32_16
  let v43 : BitVec 32 := Scalar.extui v42
  let v44 : BitVec 32 := Scalar.subi v41 v43
  let v45 : BitVec 1 := Scalar.cmpi .ne v39 v44
  let v46 : BitVec 32 := Scalar.remsi v33 c2_i32
  let c0_i32_17 : BitVec 32 := 0#32
  let v47 : BitVec 1 := Scalar.cmpi .ne v46 c0_i32_17
  let v48 : BitVec 1 := Scalar.andi v45 v47
  let v34 : BitVec 32 := Scalar.divsi v33 c2_i32
  let c1_i32_18 : BitVec 32 := 1#32
  let v49 : BitVec 32 := Scalar.subi v34 c1_i32_18
  let v50 : BitVec 32 := Scalar.select v48 v49 v34
  let v61 : BitVec 32 := Scalar.xori v60 v50
  let v114 : BitVec 32 := Scalar.xori v61 v50
  let c2_i32_51 : BitVec 32 := 2#32
  let v115 : BitVec 32 := Scalar.muli c2_i32_51 v50
  let v116 : BitVec 32 := Scalar.addi v114 v115
  let v120 : BitVec 32 := Scalar.addi v119 v116
  let c1_i32_64 : BitVec 32 := 1#32
  let v128 : BitVec 32 := Scalar.muli v120 c1_i32_64
  let v129 : BitVec 32 := Scalar.addi c0_i32_65 v128
  v129.toNat
def k0_off1 (d0 : Dev nD) : Fin 4 → Nat :=
  let c0_i32_67 : BitVec 32 := 0#32
  let c0_i32_69 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v3 : BitVec 32 := Scalar.muli v2 c8_i32
  let c0_i32_70 : BitVec 32 := 0#32
  ![0, 0, v3.toNat, 0]
def k0_off2 (d0 : Dev nD) : Fin 2 → Nat :=
  let c1_i32_133 : BitVec 32 := 1#32
  let v4 : BitVec 32 := Dev.word d0
  let c1_i32_1 : BitVec 32 := 1#32
  let v5 : BitVec 32 := Scalar.divsi v4 c1_i32_1
  let c16_i32_0 : BitVec 32 := 16#32
  let v6 : BitVec 32 := Scalar.remsi v5 c16_i32_0
  let c4_i32_7 : BitVec 32 := 4#32
  let c0_i32_8 : BitVec 32 := 0#32
  let v24 : BitVec 1 := Scalar.cmpi .eq c4_i32_7 c0_i32_8
  let c1_i32_9 : BitVec 32 := 1#32
  let v25 : BitVec 32 := Scalar.select v24 c1_i32_9 c4_i32_7
  let v26 : BitVec 32 := Scalar.remsi v6 v25
  let c0_i32_11 : BitVec 32 := 0#32
  let v28 : BitVec 1 := Scalar.cmpi .slt v26 c0_i32_11
  let c0_i32_12 : BitVec 32 := 0#32
  let v29 : BitVec 1 := Scalar.cmpi .slt v25 c0_i32_12
  let v30 : BitVec 1 := Scalar.xori v28 v29
  let c0_i32_10 : BitVec 32 := 0#32
  let v27 : BitVec 1 := Scalar.cmpi .ne v26 c0_i32_10
  let v31 : BitVec 1 := Scalar.andi v30 v27
  let v32 : BitVec 32 := Scalar.addi v26 v25
  let v33 : BitVec 32 := Scalar.select v31 v32 v26
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v33 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_13 : BitVec 32 := 0#32
  let v35 : BitVec 1 := Scalar.cmpi .sgt v33 c0_i32_13
  let v36 : BitVec 32 := Scalar.extui v35
  let c0_i32_14 : BitVec 32 := 0#32
  let v37 : BitVec 1 := Scalar.cmpi .slt v33 c0_i32_14
  let v38 : BitVec 32 := Scalar.extui v37
  let v39 : BitVec 32 := Scalar.subi v36 v38
  let c2_i32 : BitVec 32 := 2#32
  let c0_i32_15 : BitVec 32 := 0#32
  let v40 : BitVec 1 := Scalar.cmpi .sgt c2_i32 c0_i32_15
  let v41 : BitVec 32 := Scalar.extui v40
  let c0_i32_16 : BitVec 32 := 0#32
  let v42 : BitVec 1 := Scalar.cmpi .slt c2_i32 c0_i32_16
  let v43 : BitVec 32 := Scalar.extui v42
  let v44 : BitVec 32 := Scalar.subi v41 v43
  let v45 : BitVec 1 := Scalar.cmpi .ne v39 v44
  let v46 : BitVec 32 := Scalar.remsi v33 c2_i32
  let c0_i32_17 : BitVec 32 := 0#32
  let v47 : BitVec 1 := Scalar.cmpi .ne v46 c0_i32_17
  let v48 : BitVec 1 := Scalar.andi v45 v47
  let v34 : BitVec 32 := Scalar.divsi v33 c2_i32
  let c1_i32_18 : BitVec 32 := 1#32
  let v49 : BitVec 32 := Scalar.subi v34 c1_i32_18
  let v50 : BitVec 32 := Scalar.select v48 v49 v34
  let v61 : BitVec 32 := Scalar.xori v60 v50
  let v210 : BitVec 32 := Scalar.subi c1_i32_133 v61
  let c256_i32 : BitVec 32 := 256#32
  let v211 : BitVec 32 := Scalar.muli v210 c256_i32
  let v235 : Index := Scalar.indexCast v211
  let c0_142 : Index := 0#32
  ![v235.toNat, 0]
def k0_off3 (d0 : Dev nD) : Fin 2 → Nat :=
  let c1_i32_133 : BitVec 32 := 1#32
  let v4 : BitVec 32 := Dev.word d0
  let c1_i32_1 : BitVec 32 := 1#32
  let v5 : BitVec 32 := Scalar.divsi v4 c1_i32_1
  let c16_i32_0 : BitVec 32 := 16#32
  let v6 : BitVec 32 := Scalar.remsi v5 c16_i32_0
  let c4_i32_7 : BitVec 32 := 4#32
  let c0_i32_8 : BitVec 32 := 0#32
  let v24 : BitVec 1 := Scalar.cmpi .eq c4_i32_7 c0_i32_8
  let c1_i32_9 : BitVec 32 := 1#32
  let v25 : BitVec 32 := Scalar.select v24 c1_i32_9 c4_i32_7
  let v26 : BitVec 32 := Scalar.remsi v6 v25
  let c0_i32_11 : BitVec 32 := 0#32
  let v28 : BitVec 1 := Scalar.cmpi .slt v26 c0_i32_11
  let c0_i32_12 : BitVec 32 := 0#32
  let v29 : BitVec 1 := Scalar.cmpi .slt v25 c0_i32_12
  let v30 : BitVec 1 := Scalar.xori v28 v29
  let c0_i32_10 : BitVec 32 := 0#32
  let v27 : BitVec 1 := Scalar.cmpi .ne v26 c0_i32_10
  let v31 : BitVec 1 := Scalar.andi v30 v27
  let v32 : BitVec 32 := Scalar.addi v26 v25
  let v33 : BitVec 32 := Scalar.select v31 v32 v26
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v33 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_13 : BitVec 32 := 0#32
  let v35 : BitVec 1 := Scalar.cmpi .sgt v33 c0_i32_13
  let v36 : BitVec 32 := Scalar.extui v35
  let c0_i32_14 : BitVec 32 := 0#32
  let v37 : BitVec 1 := Scalar.cmpi .slt v33 c0_i32_14
  let v38 : BitVec 32 := Scalar.extui v37
  let v39 : BitVec 32 := Scalar.subi v36 v38
  let c2_i32 : BitVec 32 := 2#32
  let c0_i32_15 : BitVec 32 := 0#32
  let v40 : BitVec 1 := Scalar.cmpi .sgt c2_i32 c0_i32_15
  let v41 : BitVec 32 := Scalar.extui v40
  let c0_i32_16 : BitVec 32 := 0#32
  let v42 : BitVec 1 := Scalar.cmpi .slt c2_i32 c0_i32_16
  let v43 : BitVec 32 := Scalar.extui v42
  let v44 : BitVec 32 := Scalar.subi v41 v43
  let v45 : BitVec 1 := Scalar.cmpi .ne v39 v44
  let v46 : BitVec 32 := Scalar.remsi v33 c2_i32
  let c0_i32_17 : BitVec 32 := 0#32
  let v47 : BitVec 1 := Scalar.cmpi .ne v46 c0_i32_17
  let v48 : BitVec 1 := Scalar.andi v45 v47
  let v34 : BitVec 32 := Scalar.divsi v33 c2_i32
  let c1_i32_18 : BitVec 32 := 1#32
  let v49 : BitVec 32 := Scalar.subi v34 c1_i32_18
  let v50 : BitVec 32 := Scalar.select v48 v49 v34
  let v61 : BitVec 32 := Scalar.xori v60 v50
  let v210 : BitVec 32 := Scalar.subi c1_i32_133 v61
  let c256_i32 : BitVec 32 := 256#32
  let v211 : BitVec 32 := Scalar.muli v210 c256_i32
  let v246 : Index := Scalar.indexCast v211
  let c128 : Index := 128#32
  ![v246.toNat, 128]
def k0_off4 (d0 : Dev nD) : Fin 2 → Nat :=
  let c1_i32_133 : BitVec 32 := 1#32
  let v4 : BitVec 32 := Dev.word d0
  let c1_i32_1 : BitVec 32 := 1#32
  let v5 : BitVec 32 := Scalar.divsi v4 c1_i32_1
  let c16_i32_0 : BitVec 32 := 16#32
  let v6 : BitVec 32 := Scalar.remsi v5 c16_i32_0
  let c4_i32_7 : BitVec 32 := 4#32
  let c0_i32_8 : BitVec 32 := 0#32
  let v24 : BitVec 1 := Scalar.cmpi .eq c4_i32_7 c0_i32_8
  let c1_i32_9 : BitVec 32 := 1#32
  let v25 : BitVec 32 := Scalar.select v24 c1_i32_9 c4_i32_7
  let v26 : BitVec 32 := Scalar.remsi v6 v25
  let c0_i32_11 : BitVec 32 := 0#32
  let v28 : BitVec 1 := Scalar.cmpi .slt v26 c0_i32_11
  let c0_i32_12 : BitVec 32 := 0#32
  let v29 : BitVec 1 := Scalar.cmpi .slt v25 c0_i32_12
  let v30 : BitVec 1 := Scalar.xori v28 v29
  let c0_i32_10 : BitVec 32 := 0#32
  let v27 : BitVec 1 := Scalar.cmpi .ne v26 c0_i32_10
  let v31 : BitVec 1 := Scalar.andi v30 v27
  let v32 : BitVec 32 := Scalar.addi v26 v25
  let v33 : BitVec 32 := Scalar.select v31 v32 v26
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v33 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_13 : BitVec 32 := 0#32
  let v35 : BitVec 1 := Scalar.cmpi .sgt v33 c0_i32_13
  let v36 : BitVec 32 := Scalar.extui v35
  let c0_i32_14 : BitVec 32 := 0#32
  let v37 : BitVec 1 := Scalar.cmpi .slt v33 c0_i32_14
  let v38 : BitVec 32 := Scalar.extui v37
  let v39 : BitVec 32 := Scalar.subi v36 v38
  let c2_i32 : BitVec 32 := 2#32
  let c0_i32_15 : BitVec 32 := 0#32
  let v40 : BitVec 1 := Scalar.cmpi .sgt c2_i32 c0_i32_15
  let v41 : BitVec 32 := Scalar.extui v40
  let c0_i32_16 : BitVec 32 := 0#32
  let v42 : BitVec 1 := Scalar.cmpi .slt c2_i32 c0_i32_16
  let v43 : BitVec 32 := Scalar.extui v42
  let v44 : BitVec 32 := Scalar.subi v41 v43
  let v45 : BitVec 1 := Scalar.cmpi .ne v39 v44
  let v46 : BitVec 32 := Scalar.remsi v33 c2_i32
  let c0_i32_17 : BitVec 32 := 0#32
  let v47 : BitVec 1 := Scalar.cmpi .ne v46 c0_i32_17
  let v48 : BitVec 1 := Scalar.andi v45 v47
  let v34 : BitVec 32 := Scalar.divsi v33 c2_i32
  let c1_i32_18 : BitVec 32 := 1#32
  let v49 : BitVec 32 := Scalar.subi v34 c1_i32_18
  let v50 : BitVec 32 := Scalar.select v48 v49 v34
  let v61 : BitVec 32 := Scalar.xori v60 v50
  let v210 : BitVec 32 := Scalar.subi c1_i32_133 v61
  let c256_i32 : BitVec 32 := 256#32
  let v211 : BitVec 32 := Scalar.muli v210 c256_i32
  let v257 : Index := Scalar.indexCast v211
  let c256 : Index := 256#32
  ![v257.toNat, 256]
def k0_off5 (d0 : Dev nD) : Fin 2 → Nat :=
  let c1_i32_133 : BitVec 32 := 1#32
  let v4 : BitVec 32 := Dev.word d0
  let c1_i32_1 : BitVec 32 := 1#32
  let v5 : BitVec 32 := Scalar.divsi v4 c1_i32_1
  let c16_i32_0 : BitVec 32 := 16#32
  let v6 : BitVec 32 := Scalar.remsi v5 c16_i32_0
  let c4_i32_7 : BitVec 32 := 4#32
  let c0_i32_8 : BitVec 32 := 0#32
  let v24 : BitVec 1 := Scalar.cmpi .eq c4_i32_7 c0_i32_8
  let c1_i32_9 : BitVec 32 := 1#32
  let v25 : BitVec 32 := Scalar.select v24 c1_i32_9 c4_i32_7
  let v26 : BitVec 32 := Scalar.remsi v6 v25
  let c0_i32_11 : BitVec 32 := 0#32
  let v28 : BitVec 1 := Scalar.cmpi .slt v26 c0_i32_11
  let c0_i32_12 : BitVec 32 := 0#32
  let v29 : BitVec 1 := Scalar.cmpi .slt v25 c0_i32_12
  let v30 : BitVec 1 := Scalar.xori v28 v29
  let c0_i32_10 : BitVec 32 := 0#32
  let v27 : BitVec 1 := Scalar.cmpi .ne v26 c0_i32_10
  let v31 : BitVec 1 := Scalar.andi v30 v27
  let v32 : BitVec 32 := Scalar.addi v26 v25
  let v33 : BitVec 32 := Scalar.select v31 v32 v26
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v33 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_13 : BitVec 32 := 0#32
  let v35 : BitVec 1 := Scalar.cmpi .sgt v33 c0_i32_13
  let v36 : BitVec 32 := Scalar.extui v35
  let c0_i32_14 : BitVec 32 := 0#32
  let v37 : BitVec 1 := Scalar.cmpi .slt v33 c0_i32_14
  let v38 : BitVec 32 := Scalar.extui v37
  let v39 : BitVec 32 := Scalar.subi v36 v38
  let c2_i32 : BitVec 32 := 2#32
  let c0_i32_15 : BitVec 32 := 0#32
  let v40 : BitVec 1 := Scalar.cmpi .sgt c2_i32 c0_i32_15
  let v41 : BitVec 32 := Scalar.extui v40
  let c0_i32_16 : BitVec 32 := 0#32
  let v42 : BitVec 1 := Scalar.cmpi .slt c2_i32 c0_i32_16
  let v43 : BitVec 32 := Scalar.extui v42
  let v44 : BitVec 32 := Scalar.subi v41 v43
  let v45 : BitVec 1 := Scalar.cmpi .ne v39 v44
  let v46 : BitVec 32 := Scalar.remsi v33 c2_i32
  let c0_i32_17 : BitVec 32 := 0#32
  let v47 : BitVec 1 := Scalar.cmpi .ne v46 c0_i32_17
  let v48 : BitVec 1 := Scalar.andi v45 v47
  let v34 : BitVec 32 := Scalar.divsi v33 c2_i32
  let c1_i32_18 : BitVec 32 := 1#32
  let v49 : BitVec 32 := Scalar.subi v34 c1_i32_18
  let v50 : BitVec 32 := Scalar.select v48 v49 v34
  let v61 : BitVec 32 := Scalar.xori v60 v50
  let v210 : BitVec 32 := Scalar.subi c1_i32_133 v61
  let c256_i32 : BitVec 32 := 256#32
  let v211 : BitVec 32 := Scalar.muli v210 c256_i32
  let v268 : Index := Scalar.indexCast v211
  let c384 : Index := 384#32
  ![v268.toNat, 384]
def k0_off6 (d0 : Dev nD) : Fin 2 → Nat :=
  let c1_i32_133 : BitVec 32 := 1#32
  let v4 : BitVec 32 := Dev.word d0
  let c1_i32_1 : BitVec 32 := 1#32
  let v5 : BitVec 32 := Scalar.divsi v4 c1_i32_1
  let c16_i32_0 : BitVec 32 := 16#32
  let v6 : BitVec 32 := Scalar.remsi v5 c16_i32_0
  let c4_i32_7 : BitVec 32 := 4#32
  let c0_i32_8 : BitVec 32 := 0#32
  let v24 : BitVec 1 := Scalar.cmpi .eq c4_i32_7 c0_i32_8
  let c1_i32_9 : BitVec 32 := 1#32
  let v25 : BitVec 32 := Scalar.select v24 c1_i32_9 c4_i32_7
  let v26 : BitVec 32 := Scalar.remsi v6 v25
  let c0_i32_11 : BitVec 32 := 0#32
  let v28 : BitVec 1 := Scalar.cmpi .slt v26 c0_i32_11
  let c0_i32_12 : BitVec 32 := 0#32
  let v29 : BitVec 1 := Scalar.cmpi .slt v25 c0_i32_12
  let v30 : BitVec 1 := Scalar.xori v28 v29
  let c0_i32_10 : BitVec 32 := 0#32
  let v27 : BitVec 1 := Scalar.cmpi .ne v26 c0_i32_10
  let v31 : BitVec 1 := Scalar.andi v30 v27
  let v32 : BitVec 32 := Scalar.addi v26 v25
  let v33 : BitVec 32 := Scalar.select v31 v32 v26
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v33 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_13 : BitVec 32 := 0#32
  let v35 : BitVec 1 := Scalar.cmpi .sgt v33 c0_i32_13
  let v36 : BitVec 32 := Scalar.extui v35
  let c0_i32_14 : BitVec 32 := 0#32
  let v37 : BitVec 1 := Scalar.cmpi .slt v33 c0_i32_14
  let v38 : BitVec 32 := Scalar.extui v37
  let v39 : BitVec 32 := Scalar.subi v36 v38
  let c2_i32 : BitVec 32 := 2#32
  let c0_i32_15 : BitVec 32 := 0#32
  let v40 : BitVec 1 := Scalar.cmpi .sgt c2_i32 c0_i32_15
  let v41 : BitVec 32 := Scalar.extui v40
  let c0_i32_16 : BitVec 32 := 0#32
  let v42 : BitVec 1 := Scalar.cmpi .slt c2_i32 c0_i32_16
  let v43 : BitVec 32 := Scalar.extui v42
  let v44 : BitVec 32 := Scalar.subi v41 v43
  let v45 : BitVec 1 := Scalar.cmpi .ne v39 v44
  let v46 : BitVec 32 := Scalar.remsi v33 c2_i32
  let c0_i32_17 : BitVec 32 := 0#32
  let v47 : BitVec 1 := Scalar.cmpi .ne v46 c0_i32_17
  let v48 : BitVec 1 := Scalar.andi v45 v47
  let v34 : BitVec 32 := Scalar.divsi v33 c2_i32
  let c1_i32_18 : BitVec 32 := 1#32
  let v49 : BitVec 32 := Scalar.subi v34 c1_i32_18
  let v50 : BitVec 32 := Scalar.select v48 v49 v34
  let v61 : BitVec 32 := Scalar.xori v60 v50
  let v210 : BitVec 32 := Scalar.subi c1_i32_133 v61
  let c256_i32 : BitVec 32 := 256#32
  let v211 : BitVec 32 := Scalar.muli v210 c256_i32
  let v279 : Index := Scalar.indexCast v211
  let c512 : Index := 512#32
  ![v279.toNat, 512]
def k0_off7 (d0 : Dev nD) : Fin 2 → Nat :=
  let c1_i32_133 : BitVec 32 := 1#32
  let v4 : BitVec 32 := Dev.word d0
  let c1_i32_1 : BitVec 32 := 1#32
  let v5 : BitVec 32 := Scalar.divsi v4 c1_i32_1
  let c16_i32_0 : BitVec 32 := 16#32
  let v6 : BitVec 32 := Scalar.remsi v5 c16_i32_0
  let c4_i32_7 : BitVec 32 := 4#32
  let c0_i32_8 : BitVec 32 := 0#32
  let v24 : BitVec 1 := Scalar.cmpi .eq c4_i32_7 c0_i32_8
  let c1_i32_9 : BitVec 32 := 1#32
  let v25 : BitVec 32 := Scalar.select v24 c1_i32_9 c4_i32_7
  let v26 : BitVec 32 := Scalar.remsi v6 v25
  let c0_i32_11 : BitVec 32 := 0#32
  let v28 : BitVec 1 := Scalar.cmpi .slt v26 c0_i32_11
  let c0_i32_12 : BitVec 32 := 0#32
  let v29 : BitVec 1 := Scalar.cmpi .slt v25 c0_i32_12
  let v30 : BitVec 1 := Scalar.xori v28 v29
  let c0_i32_10 : BitVec 32 := 0#32
  let v27 : BitVec 1 := Scalar.cmpi .ne v26 c0_i32_10
  let v31 : BitVec 1 := Scalar.andi v30 v27
  let v32 : BitVec 32 := Scalar.addi v26 v25
  let v33 : BitVec 32 := Scalar.select v31 v32 v26
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v33 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_13 : BitVec 32 := 0#32
  let v35 : BitVec 1 := Scalar.cmpi .sgt v33 c0_i32_13
  let v36 : BitVec 32 := Scalar.extui v35
  let c0_i32_14 : BitVec 32 := 0#32
  let v37 : BitVec 1 := Scalar.cmpi .slt v33 c0_i32_14
  let v38 : BitVec 32 := Scalar.extui v37
  let v39 : BitVec 32 := Scalar.subi v36 v38
  let c2_i32 : BitVec 32 := 2#32
  let c0_i32_15 : BitVec 32 := 0#32
  let v40 : BitVec 1 := Scalar.cmpi .sgt c2_i32 c0_i32_15
  let v41 : BitVec 32 := Scalar.extui v40
  let c0_i32_16 : BitVec 32 := 0#32
  let v42 : BitVec 1 := Scalar.cmpi .slt c2_i32 c0_i32_16
  let v43 : BitVec 32 := Scalar.extui v42
  let v44 : BitVec 32 := Scalar.subi v41 v43
  let v45 : BitVec 1 := Scalar.cmpi .ne v39 v44
  let v46 : BitVec 32 := Scalar.remsi v33 c2_i32
  let c0_i32_17 : BitVec 32 := 0#32
  let v47 : BitVec 1 := Scalar.cmpi .ne v46 c0_i32_17
  let v48 : BitVec 1 := Scalar.andi v45 v47
  let v34 : BitVec 32 := Scalar.divsi v33 c2_i32
  let c1_i32_18 : BitVec 32 := 1#32
  let v49 : BitVec 32 := Scalar.subi v34 c1_i32_18
  let v50 : BitVec 32 := Scalar.select v48 v49 v34
  let v61 : BitVec 32 := Scalar.xori v60 v50
  let v210 : BitVec 32 := Scalar.subi c1_i32_133 v61
  let c256_i32 : BitVec 32 := 256#32
  let v211 : BitVec 32 := Scalar.muli v210 c256_i32
  let v290 : Index := Scalar.indexCast v211
  let c640 : Index := 640#32
  ![v290.toNat, 640]
def k0_off8 (d0 : Dev nD) : Fin 2 → Nat :=
  let c1_i32_133 : BitVec 32 := 1#32
  let v4 : BitVec 32 := Dev.word d0
  let c1_i32_1 : BitVec 32 := 1#32
  let v5 : BitVec 32 := Scalar.divsi v4 c1_i32_1
  let c16_i32_0 : BitVec 32 := 16#32
  let v6 : BitVec 32 := Scalar.remsi v5 c16_i32_0
  let c4_i32_7 : BitVec 32 := 4#32
  let c0_i32_8 : BitVec 32 := 0#32
  let v24 : BitVec 1 := Scalar.cmpi .eq c4_i32_7 c0_i32_8
  let c1_i32_9 : BitVec 32 := 1#32
  let v25 : BitVec 32 := Scalar.select v24 c1_i32_9 c4_i32_7
  let v26 : BitVec 32 := Scalar.remsi v6 v25
  let c0_i32_11 : BitVec 32 := 0#32
  let v28 : BitVec 1 := Scalar.cmpi .slt v26 c0_i32_11
  let c0_i32_12 : BitVec 32 := 0#32
  let v29 : BitVec 1 := Scalar.cmpi .slt v25 c0_i32_12
  let v30 : BitVec 1 := Scalar.xori v28 v29
  let c0_i32_10 : BitVec 32 := 0#32
  let v27 : BitVec 1 := Scalar.cmpi .ne v26 c0_i32_10
  let v31 : BitVec 1 := Scalar.andi v30 v27
  let v32 : BitVec 32 := Scalar.addi v26 v25
  let v33 : BitVec 32 := Scalar.select v31 v32 v26
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v33 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_13 : BitVec 32 := 0#32
  let v35 : BitVec 1 := Scalar.cmpi .sgt v33 c0_i32_13
  let v36 : BitVec 32 := Scalar.extui v35
  let c0_i32_14 : BitVec 32 := 0#32
  let v37 : BitVec 1 := Scalar.cmpi .slt v33 c0_i32_14
  let v38 : BitVec 32 := Scalar.extui v37
  let v39 : BitVec 32 := Scalar.subi v36 v38
  let c2_i32 : BitVec 32 := 2#32
  let c0_i32_15 : BitVec 32 := 0#32
  let v40 : BitVec 1 := Scalar.cmpi .sgt c2_i32 c0_i32_15
  let v41 : BitVec 32 := Scalar.extui v40
  let c0_i32_16 : BitVec 32 := 0#32
  let v42 : BitVec 1 := Scalar.cmpi .slt c2_i32 c0_i32_16
  let v43 : BitVec 32 := Scalar.extui v42
  let v44 : BitVec 32 := Scalar.subi v41 v43
  let v45 : BitVec 1 := Scalar.cmpi .ne v39 v44
  let v46 : BitVec 32 := Scalar.remsi v33 c2_i32
  let c0_i32_17 : BitVec 32 := 0#32
  let v47 : BitVec 1 := Scalar.cmpi .ne v46 c0_i32_17
  let v48 : BitVec 1 := Scalar.andi v45 v47
  let v34 : BitVec 32 := Scalar.divsi v33 c2_i32
  let c1_i32_18 : BitVec 32 := 1#32
  let v49 : BitVec 32 := Scalar.subi v34 c1_i32_18
  let v50 : BitVec 32 := Scalar.select v48 v49 v34
  let v61 : BitVec 32 := Scalar.xori v60 v50
  let v210 : BitVec 32 := Scalar.subi c1_i32_133 v61
  let c256_i32 : BitVec 32 := 256#32
  let v211 : BitVec 32 := Scalar.muli v210 c256_i32
  let v301 : Index := Scalar.indexCast v211
  let c768 : Index := 768#32
  ![v301.toNat, 768]
def k0_off9 (d0 : Dev nD) : Fin 2 → Nat :=
  let c1_i32_133 : BitVec 32 := 1#32
  let v4 : BitVec 32 := Dev.word d0
  let c1_i32_1 : BitVec 32 := 1#32
  let v5 : BitVec 32 := Scalar.divsi v4 c1_i32_1
  let c16_i32_0 : BitVec 32 := 16#32
  let v6 : BitVec 32 := Scalar.remsi v5 c16_i32_0
  let c4_i32_7 : BitVec 32 := 4#32
  let c0_i32_8 : BitVec 32 := 0#32
  let v24 : BitVec 1 := Scalar.cmpi .eq c4_i32_7 c0_i32_8
  let c1_i32_9 : BitVec 32 := 1#32
  let v25 : BitVec 32 := Scalar.select v24 c1_i32_9 c4_i32_7
  let v26 : BitVec 32 := Scalar.remsi v6 v25
  let c0_i32_11 : BitVec 32 := 0#32
  let v28 : BitVec 1 := Scalar.cmpi .slt v26 c0_i32_11
  let c0_i32_12 : BitVec 32 := 0#32
  let v29 : BitVec 1 := Scalar.cmpi .slt v25 c0_i32_12
  let v30 : BitVec 1 := Scalar.xori v28 v29
  let c0_i32_10 : BitVec 32 := 0#32
  let v27 : BitVec 1 := Scalar.cmpi .ne v26 c0_i32_10
  let v31 : BitVec 1 := Scalar.andi v30 v27
  let v32 : BitVec 32 := Scalar.addi v26 v25
  let v33 : BitVec 32 := Scalar.select v31 v32 v26
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v33 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_13 : BitVec 32 := 0#32
  let v35 : BitVec 1 := Scalar.cmpi .sgt v33 c0_i32_13
  let v36 : BitVec 32 := Scalar.extui v35
  let c0_i32_14 : BitVec 32 := 0#32
  let v37 : BitVec 1 := Scalar.cmpi .slt v33 c0_i32_14
  let v38 : BitVec 32 := Scalar.extui v37
  let v39 : BitVec 32 := Scalar.subi v36 v38
  let c2_i32 : BitVec 32 := 2#32
  let c0_i32_15 : BitVec 32 := 0#32
  let v40 : BitVec 1 := Scalar.cmpi .sgt c2_i32 c0_i32_15
  let v41 : BitVec 32 := Scalar.extui v40
  let c0_i32_16 : BitVec 32 := 0#32
  let v42 : BitVec 1 := Scalar.cmpi .slt c2_i32 c0_i32_16
  let v43 : BitVec 32 := Scalar.extui v42
  let v44 : BitVec 32 := Scalar.subi v41 v43
  let v45 : BitVec 1 := Scalar.cmpi .ne v39 v44
  let v46 : BitVec 32 := Scalar.remsi v33 c2_i32
  let c0_i32_17 : BitVec 32 := 0#32
  let v47 : BitVec 1 := Scalar.cmpi .ne v46 c0_i32_17
  let v48 : BitVec 1 := Scalar.andi v45 v47
  let v34 : BitVec 32 := Scalar.divsi v33 c2_i32
  let c1_i32_18 : BitVec 32 := 1#32
  let v49 : BitVec 32 := Scalar.subi v34 c1_i32_18
  let v50 : BitVec 32 := Scalar.select v48 v49 v34
  let v61 : BitVec 32 := Scalar.xori v60 v50
  let v210 : BitVec 32 := Scalar.subi c1_i32_133 v61
  let c256_i32 : BitVec 32 := 256#32
  let v211 : BitVec 32 := Scalar.muli v210 c256_i32
  let v312 : Index := Scalar.indexCast v211
  let c896 : Index := 896#32
  ![v312.toNat, 896]
def k0_off10 (d0 : Dev nD) : Fin 2 → Nat :=
  let c1_i32_133 : BitVec 32 := 1#32
  let v4 : BitVec 32 := Dev.word d0
  let c1_i32_1 : BitVec 32 := 1#32
  let v5 : BitVec 32 := Scalar.divsi v4 c1_i32_1
  let c16_i32_0 : BitVec 32 := 16#32
  let v6 : BitVec 32 := Scalar.remsi v5 c16_i32_0
  let c4_i32_7 : BitVec 32 := 4#32
  let c0_i32_8 : BitVec 32 := 0#32
  let v24 : BitVec 1 := Scalar.cmpi .eq c4_i32_7 c0_i32_8
  let c1_i32_9 : BitVec 32 := 1#32
  let v25 : BitVec 32 := Scalar.select v24 c1_i32_9 c4_i32_7
  let v26 : BitVec 32 := Scalar.remsi v6 v25
  let c0_i32_11 : BitVec 32 := 0#32
  let v28 : BitVec 1 := Scalar.cmpi .slt v26 c0_i32_11
  let c0_i32_12 : BitVec 32 := 0#32
  let v29 : BitVec 1 := Scalar.cmpi .slt v25 c0_i32_12
  let v30 : BitVec 1 := Scalar.xori v28 v29
  let c0_i32_10 : BitVec 32 := 0#32
  let v27 : BitVec 1 := Scalar.cmpi .ne v26 c0_i32_10
  let v31 : BitVec 1 := Scalar.andi v30 v27
  let v32 : BitVec 32 := Scalar.addi v26 v25
  let v33 : BitVec 32 := Scalar.select v31 v32 v26
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v33 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_13 : BitVec 32 := 0#32
  let v35 : BitVec 1 := Scalar.cmpi .sgt v33 c0_i32_13
  let v36 : BitVec 32 := Scalar.extui v35
  let c0_i32_14 : BitVec 32 := 0#32
  let v37 : BitVec 1 := Scalar.cmpi .slt v33 c0_i32_14
  let v38 : BitVec 32 := Scalar.extui v37
  let v39 : BitVec 32 := Scalar.subi v36 v38
  let c2_i32 : BitVec 32 := 2#32
  let c0_i32_15 : BitVec 32 := 0#32
  let v40 : BitVec 1 := Scalar.cmpi .sgt c2_i32 c0_i32_15
  let v41 : BitVec 32 := Scalar.extui v40
  let c0_i32_16 : BitVec 32 := 0#32
  let v42 : BitVec 1 := Scalar.cmpi .slt c2_i32 c0_i32_16
  let v43 : BitVec 32 := Scalar.extui v42
  let v44 : BitVec 32 := Scalar.subi v41 v43
  let v45 : BitVec 1 := Scalar.cmpi .ne v39 v44
  let v46 : BitVec 32 := Scalar.remsi v33 c2_i32
  let c0_i32_17 : BitVec 32 := 0#32
  let v47 : BitVec 1 := Scalar.cmpi .ne v46 c0_i32_17
  let v48 : BitVec 1 := Scalar.andi v45 v47
  let v34 : BitVec 32 := Scalar.divsi v33 c2_i32
  let c1_i32_18 : BitVec 32 := 1#32
  let v49 : BitVec 32 := Scalar.subi v34 c1_i32_18
  let v50 : BitVec 32 := Scalar.select v48 v49 v34
  let v61 : BitVec 32 := Scalar.xori v60 v50
  let v210 : BitVec 32 := Scalar.subi c1_i32_133 v61
  let c256_i32 : BitVec 32 := 256#32
  let v211 : BitVec 32 := Scalar.muli v210 c256_i32
  let v326 : Index := Scalar.indexCast v211
  let c0_168 : Index := 0#32
  ![v326.toNat, 0]
def k0_off11 (d0 : Dev nD) : Fin 2 → Nat :=
  let c512_i32 : BitVec 32 := 512#32
  let c1_i32_134 : BitVec 32 := 1#32
  let v4 : BitVec 32 := Dev.word d0
  let c1_i32_1 : BitVec 32 := 1#32
  let v5 : BitVec 32 := Scalar.divsi v4 c1_i32_1
  let c16_i32_0 : BitVec 32 := 16#32
  let v6 : BitVec 32 := Scalar.remsi v5 c16_i32_0
  let c4_i32_7 : BitVec 32 := 4#32
  let c0_i32_8 : BitVec 32 := 0#32
  let v24 : BitVec 1 := Scalar.cmpi .eq c4_i32_7 c0_i32_8
  let c1_i32_9 : BitVec 32 := 1#32
  let v25 : BitVec 32 := Scalar.select v24 c1_i32_9 c4_i32_7
  let v26 : BitVec 32 := Scalar.remsi v6 v25
  let c0_i32_11 : BitVec 32 := 0#32
  let v28 : BitVec 1 := Scalar.cmpi .slt v26 c0_i32_11
  let c0_i32_12 : BitVec 32 := 0#32
  let v29 : BitVec 1 := Scalar.cmpi .slt v25 c0_i32_12
  let v30 : BitVec 1 := Scalar.xori v28 v29
  let c0_i32_10 : BitVec 32 := 0#32
  let v27 : BitVec 1 := Scalar.cmpi .ne v26 c0_i32_10
  let v31 : BitVec 1 := Scalar.andi v30 v27
  let v32 : BitVec 32 := Scalar.addi v26 v25
  let v33 : BitVec 32 := Scalar.select v31 v32 v26
  let c0_i32_13 : BitVec 32 := 0#32
  let v35 : BitVec 1 := Scalar.cmpi .sgt v33 c0_i32_13
  let v36 : BitVec 32 := Scalar.extui v35
  let c0_i32_14 : BitVec 32 := 0#32
  let v37 : BitVec 1 := Scalar.cmpi .slt v33 c0_i32_14
  let v38 : BitVec 32 := Scalar.extui v37
  let v39 : BitVec 32 := Scalar.subi v36 v38
  let c2_i32 : BitVec 32 := 2#32
  let c0_i32_15 : BitVec 32 := 0#32
  let v40 : BitVec 1 := Scalar.cmpi .sgt c2_i32 c0_i32_15
  let v41 : BitVec 32 := Scalar.extui v40
  let c0_i32_16 : BitVec 32 := 0#32
  let v42 : BitVec 1 := Scalar.cmpi .slt c2_i32 c0_i32_16
  let v43 : BitVec 32 := Scalar.extui v42
  let v44 : BitVec 32 := Scalar.subi v41 v43
  let v45 : BitVec 1 := Scalar.cmpi .ne v39 v44
  let v46 : BitVec 32 := Scalar.remsi v33 c2_i32
  let c0_i32_17 : BitVec 32 := 0#32
  let v47 : BitVec 1 := Scalar.cmpi .ne v46 c0_i32_17
  let v48 : BitVec 1 := Scalar.andi v45 v47
  let v34 : BitVec 32 := Scalar.divsi v33 c2_i32
  let c1_i32_18 : BitVec 32 := 1#32
  let v49 : BitVec 32 := Scalar.subi v34 c1_i32_18
  let v50 : BitVec 32 := Scalar.select v48 v49 v34
  let v212 : BitVec 32 := Scalar.subi c1_i32_134 v50
  let c256_i32_135 : BitVec 32 := 256#32
  let v213 : BitVec 32 := Scalar.muli v212 c256_i32_135
  let v214 : BitVec 32 := Scalar.addi c512_i32 v213
  let v345 : Index := Scalar.indexCast v214
  let c0_174 : Index := 0#32
  ![v345.toNat, 0]
def k0_off12 (d0 : Dev nD) : Fin 2 → Nat :=
  let c512_i32 : BitVec 32 := 512#32
  let c1_i32_134 : BitVec 32 := 1#32
  let v4 : BitVec 32 := Dev.word d0
  let c1_i32_1 : BitVec 32 := 1#32
  let v5 : BitVec 32 := Scalar.divsi v4 c1_i32_1
  let c16_i32_0 : BitVec 32 := 16#32
  let v6 : BitVec 32 := Scalar.remsi v5 c16_i32_0
  let c4_i32_7 : BitVec 32 := 4#32
  let c0_i32_8 : BitVec 32 := 0#32
  let v24 : BitVec 1 := Scalar.cmpi .eq c4_i32_7 c0_i32_8
  let c1_i32_9 : BitVec 32 := 1#32
  let v25 : BitVec 32 := Scalar.select v24 c1_i32_9 c4_i32_7
  let v26 : BitVec 32 := Scalar.remsi v6 v25
  let c0_i32_11 : BitVec 32 := 0#32
  let v28 : BitVec 1 := Scalar.cmpi .slt v26 c0_i32_11
  let c0_i32_12 : BitVec 32 := 0#32
  let v29 : BitVec 1 := Scalar.cmpi .slt v25 c0_i32_12
  let v30 : BitVec 1 := Scalar.xori v28 v29
  let c0_i32_10 : BitVec 32 := 0#32
  let v27 : BitVec 1 := Scalar.cmpi .ne v26 c0_i32_10
  let v31 : BitVec 1 := Scalar.andi v30 v27
  let v32 : BitVec 32 := Scalar.addi v26 v25
  let v33 : BitVec 32 := Scalar.select v31 v32 v26
  let c0_i32_13 : BitVec 32 := 0#32
  let v35 : BitVec 1 := Scalar.cmpi .sgt v33 c0_i32_13
  let v36 : BitVec 32 := Scalar.extui v35
  let c0_i32_14 : BitVec 32 := 0#32
  let v37 : BitVec 1 := Scalar.cmpi .slt v33 c0_i32_14
  let v38 : BitVec 32 := Scalar.extui v37
  let v39 : BitVec 32 := Scalar.subi v36 v38
  let c2_i32 : BitVec 32 := 2#32
  let c0_i32_15 : BitVec 32 := 0#32
  let v40 : BitVec 1 := Scalar.cmpi .sgt c2_i32 c0_i32_15
  let v41 : BitVec 32 := Scalar.extui v40
  let c0_i32_16 : BitVec 32 := 0#32
  let v42 : BitVec 1 := Scalar.cmpi .slt c2_i32 c0_i32_16
  let v43 : BitVec 32 := Scalar.extui v42
  let v44 : BitVec 32 := Scalar.subi v41 v43
  let v45 : BitVec 1 := Scalar.cmpi .ne v39 v44
  let v46 : BitVec 32 := Scalar.remsi v33 c2_i32
  let c0_i32_17 : BitVec 32 := 0#32
  let v47 : BitVec 1 := Scalar.cmpi .ne v46 c0_i32_17
  let v48 : BitVec 1 := Scalar.andi v45 v47
  let v34 : BitVec 32 := Scalar.divsi v33 c2_i32
  let c1_i32_18 : BitVec 32 := 1#32
  let v49 : BitVec 32 := Scalar.subi v34 c1_i32_18
  let v50 : BitVec 32 := Scalar.select v48 v49 v34
  let v212 : BitVec 32 := Scalar.subi c1_i32_134 v50
  let c256_i32_135 : BitVec 32 := 256#32
  let v213 : BitVec 32 := Scalar.muli v212 c256_i32_135
  let v214 : BitVec 32 := Scalar.addi c512_i32 v213
  let v356 : Index := Scalar.indexCast v214
  let c128_178 : Index := 128#32
  ![v356.toNat, 128]
def k0_off13 (d0 : Dev nD) : Fin 2 → Nat :=
  let c512_i32 : BitVec 32 := 512#32
  let c1_i32_134 : BitVec 32 := 1#32
  let v4 : BitVec 32 := Dev.word d0
  let c1_i32_1 : BitVec 32 := 1#32
  let v5 : BitVec 32 := Scalar.divsi v4 c1_i32_1
  let c16_i32_0 : BitVec 32 := 16#32
  let v6 : BitVec 32 := Scalar.remsi v5 c16_i32_0
  let c4_i32_7 : BitVec 32 := 4#32
  let c0_i32_8 : BitVec 32 := 0#32
  let v24 : BitVec 1 := Scalar.cmpi .eq c4_i32_7 c0_i32_8
  let c1_i32_9 : BitVec 32 := 1#32
  let v25 : BitVec 32 := Scalar.select v24 c1_i32_9 c4_i32_7
  let v26 : BitVec 32 := Scalar.remsi v6 v25
  let c0_i32_11 : BitVec 32 := 0#32
  let v28 : BitVec 1 := Scalar.cmpi .slt v26 c0_i32_11
  let c0_i32_12 : BitVec 32 := 0#32
  let v29 : BitVec 1 := Scalar.cmpi .slt v25 c0_i32_12
  let v30 : BitVec 1 := Scalar.xori v28 v29
  let c0_i32_10 : BitVec 32 := 0#32
  let v27 : BitVec 1 := Scalar.cmpi .ne v26 c0_i32_10
  let v31 : BitVec 1 := Scalar.andi v30 v27
  let v32 : BitVec 32 := Scalar.addi v26 v25
  let v33 : BitVec 32 := Scalar.select v31 v32 v26
  let c0_i32_13 : BitVec 32 := 0#32
  let v35 : BitVec 1 := Scalar.cmpi .sgt v33 c0_i32_13
  let v36 : BitVec 32 := Scalar.extui v35
  let c0_i32_14 : BitVec 32 := 0#32
  let v37 : BitVec 1 := Scalar.cmpi .slt v33 c0_i32_14
  let v38 : BitVec 32 := Scalar.extui v37
  let v39 : BitVec 32 := Scalar.subi v36 v38
  let c2_i32 : BitVec 32 := 2#32
  let c0_i32_15 : BitVec 32 := 0#32
  let v40 : BitVec 1 := Scalar.cmpi .sgt c2_i32 c0_i32_15
  let v41 : BitVec 32 := Scalar.extui v40
  let c0_i32_16 : BitVec 32 := 0#32
  let v42 : BitVec 1 := Scalar.cmpi .slt c2_i32 c0_i32_16
  let v43 : BitVec 32 := Scalar.extui v42
  let v44 : BitVec 32 := Scalar.subi v41 v43
  let v45 : BitVec 1 := Scalar.cmpi .ne v39 v44
  let v46 : BitVec 32 := Scalar.remsi v33 c2_i32
  let c0_i32_17 : BitVec 32 := 0#32
  let v47 : BitVec 1 := Scalar.cmpi .ne v46 c0_i32_17
  let v48 : BitVec 1 := Scalar.andi v45 v47
  let v34 : BitVec 32 := Scalar.divsi v33 c2_i32
  let c1_i32_18 : BitVec 32 := 1#32
  let v49 : BitVec 32 := Scalar.subi v34 c1_i32_18
  let v50 : BitVec 32 := Scalar.select v48 v49 v34
  let v212 : BitVec 32 := Scalar.subi c1_i32_134 v50
  let c256_i32_135 : BitVec 32 := 256#32
  let v213 : BitVec 32 := Scalar.muli v212 c256_i32_135
  let v214 : BitVec 32 := Scalar.addi c512_i32 v213
  let v367 : Index := Scalar.indexCast v214
  let c256_182 : Index := 256#32
  ![v367.toNat, 256]
def k0_off14 (d0 : Dev nD) : Fin 2 → Nat :=
  let c512_i32 : BitVec 32 := 512#32
  let c1_i32_134 : BitVec 32 := 1#32
  let v4 : BitVec 32 := Dev.word d0
  let c1_i32_1 : BitVec 32 := 1#32
  let v5 : BitVec 32 := Scalar.divsi v4 c1_i32_1
  let c16_i32_0 : BitVec 32 := 16#32
  let v6 : BitVec 32 := Scalar.remsi v5 c16_i32_0
  let c4_i32_7 : BitVec 32 := 4#32
  let c0_i32_8 : BitVec 32 := 0#32
  let v24 : BitVec 1 := Scalar.cmpi .eq c4_i32_7 c0_i32_8
  let c1_i32_9 : BitVec 32 := 1#32
  let v25 : BitVec 32 := Scalar.select v24 c1_i32_9 c4_i32_7
  let v26 : BitVec 32 := Scalar.remsi v6 v25
  let c0_i32_11 : BitVec 32 := 0#32
  let v28 : BitVec 1 := Scalar.cmpi .slt v26 c0_i32_11
  let c0_i32_12 : BitVec 32 := 0#32
  let v29 : BitVec 1 := Scalar.cmpi .slt v25 c0_i32_12
  let v30 : BitVec 1 := Scalar.xori v28 v29
  let c0_i32_10 : BitVec 32 := 0#32
  let v27 : BitVec 1 := Scalar.cmpi .ne v26 c0_i32_10
  let v31 : BitVec 1 := Scalar.andi v30 v27
  let v32 : BitVec 32 := Scalar.addi v26 v25
  let v33 : BitVec 32 := Scalar.select v31 v32 v26
  let c0_i32_13 : BitVec 32 := 0#32
  let v35 : BitVec 1 := Scalar.cmpi .sgt v33 c0_i32_13
  let v36 : BitVec 32 := Scalar.extui v35
  let c0_i32_14 : BitVec 32 := 0#32
  let v37 : BitVec 1 := Scalar.cmpi .slt v33 c0_i32_14
  let v38 : BitVec 32 := Scalar.extui v37
  let v39 : BitVec 32 := Scalar.subi v36 v38
  let c2_i32 : BitVec 32 := 2#32
  let c0_i32_15 : BitVec 32 := 0#32
  let v40 : BitVec 1 := Scalar.cmpi .sgt c2_i32 c0_i32_15
  let v41 : BitVec 32 := Scalar.extui v40
  let c0_i32_16 : BitVec 32 := 0#32
  let v42 : BitVec 1 := Scalar.cmpi .slt c2_i32 c0_i32_16
  let v43 : BitVec 32 := Scalar.extui v42
  let v44 : BitVec 32 := Scalar.subi v41 v43
  let v45 : BitVec 1 := Scalar.cmpi .ne v39 v44
  let v46 : BitVec 32 := Scalar.remsi v33 c2_i32
  let c0_i32_17 : BitVec 32 := 0#32
  let v47 : BitVec 1 := Scalar.cmpi .ne v46 c0_i32_17
  let v48 : BitVec 1 := Scalar.andi v45 v47
  let v34 : BitVec 32 := Scalar.divsi v33 c2_i32
  let c1_i32_18 : BitVec 32 := 1#32
  let v49 : BitVec 32 := Scalar.subi v34 c1_i32_18
  let v50 : BitVec 32 := Scalar.select v48 v49 v34
  let v212 : BitVec 32 := Scalar.subi c1_i32_134 v50
  let c256_i32_135 : BitVec 32 := 256#32
  let v213 : BitVec 32 := Scalar.muli v212 c256_i32_135
  let v214 : BitVec 32 := Scalar.addi c512_i32 v213
  let v378 : Index := Scalar.indexCast v214
  let c384_186 : Index := 384#32
  ![v378.toNat, 384]
def k0_off15 (d0 : Dev nD) : Fin 2 → Nat :=
  let c512_i32 : BitVec 32 := 512#32
  let c1_i32_134 : BitVec 32 := 1#32
  let v4 : BitVec 32 := Dev.word d0
  let c1_i32_1 : BitVec 32 := 1#32
  let v5 : BitVec 32 := Scalar.divsi v4 c1_i32_1
  let c16_i32_0 : BitVec 32 := 16#32
  let v6 : BitVec 32 := Scalar.remsi v5 c16_i32_0
  let c4_i32_7 : BitVec 32 := 4#32
  let c0_i32_8 : BitVec 32 := 0#32
  let v24 : BitVec 1 := Scalar.cmpi .eq c4_i32_7 c0_i32_8
  let c1_i32_9 : BitVec 32 := 1#32
  let v25 : BitVec 32 := Scalar.select v24 c1_i32_9 c4_i32_7
  let v26 : BitVec 32 := Scalar.remsi v6 v25
  let c0_i32_11 : BitVec 32 := 0#32
  let v28 : BitVec 1 := Scalar.cmpi .slt v26 c0_i32_11
  let c0_i32_12 : BitVec 32 := 0#32
  let v29 : BitVec 1 := Scalar.cmpi .slt v25 c0_i32_12
  let v30 : BitVec 1 := Scalar.xori v28 v29
  let c0_i32_10 : BitVec 32 := 0#32
  let v27 : BitVec 1 := Scalar.cmpi .ne v26 c0_i32_10
  let v31 : BitVec 1 := Scalar.andi v30 v27
  let v32 : BitVec 32 := Scalar.addi v26 v25
  let v33 : BitVec 32 := Scalar.select v31 v32 v26
  let c0_i32_13 : BitVec 32 := 0#32
  let v35 : BitVec 1 := Scalar.cmpi .sgt v33 c0_i32_13
  let v36 : BitVec 32 := Scalar.extui v35
  let c0_i32_14 : BitVec 32 := 0#32
  let v37 : BitVec 1 := Scalar.cmpi .slt v33 c0_i32_14
  let v38 : BitVec 32 := Scalar.extui v37
  let v39 : BitVec 32 := Scalar.subi v36 v38
  let c2_i32 : BitVec 32 := 2#32
  let c0_i32_15 : BitVec 32 := 0#32
  let v40 : BitVec 1 := Scalar.cmpi .sgt c2_i32 c0_i32_15
  let v41 : BitVec 32 := Scalar.extui v40
  let c0_i32_16 : BitVec 32 := 0#32
  let v42 : BitVec 1 := Scalar.cmpi .slt c2_i32 c0_i32_16
  let v43 : BitVec 32 := Scalar.extui v42
  let v44 : BitVec 32 := Scalar.subi v41 v43
  let v45 : BitVec 1 := Scalar.cmpi .ne v39 v44
  let v46 : BitVec 32 := Scalar.remsi v33 c2_i32
  let c0_i32_17 : BitVec 32 := 0#32
  let v47 : BitVec 1 := Scalar.cmpi .ne v46 c0_i32_17
  let v48 : BitVec 1 := Scalar.andi v45 v47
  let v34 : BitVec 32 := Scalar.divsi v33 c2_i32
  let c1_i32_18 : BitVec 32 := 1#32
  let v49 : BitVec 32 := Scalar.subi v34 c1_i32_18
  let v50 : BitVec 32 := Scalar.select v48 v49 v34
  let v212 : BitVec 32 := Scalar.subi c1_i32_134 v50
  let c256_i32_135 : BitVec 32 := 256#32
  let v213 : BitVec 32 := Scalar.muli v212 c256_i32_135
  let v214 : BitVec 32 := Scalar.addi c512_i32 v213
  let v389 : Index := Scalar.indexCast v214
  let c512_190 : Index := 512#32
  ![v389.toNat, 512]
def k0_off16 (d0 : Dev nD) : Fin 2 → Nat :=
  let c512_i32 : BitVec 32 := 512#32
  let c1_i32_134 : BitVec 32 := 1#32
  let v4 : BitVec 32 := Dev.word d0
  let c1_i32_1 : BitVec 32 := 1#32
  let v5 : BitVec 32 := Scalar.divsi v4 c1_i32_1
  let c16_i32_0 : BitVec 32 := 16#32
  let v6 : BitVec 32 := Scalar.remsi v5 c16_i32_0
  let c4_i32_7 : BitVec 32 := 4#32
  let c0_i32_8 : BitVec 32 := 0#32
  let v24 : BitVec 1 := Scalar.cmpi .eq c4_i32_7 c0_i32_8
  let c1_i32_9 : BitVec 32 := 1#32
  let v25 : BitVec 32 := Scalar.select v24 c1_i32_9 c4_i32_7
  let v26 : BitVec 32 := Scalar.remsi v6 v25
  let c0_i32_11 : BitVec 32 := 0#32
  let v28 : BitVec 1 := Scalar.cmpi .slt v26 c0_i32_11
  let c0_i32_12 : BitVec 32 := 0#32
  let v29 : BitVec 1 := Scalar.cmpi .slt v25 c0_i32_12
  let v30 : BitVec 1 := Scalar.xori v28 v29
  let c0_i32_10 : BitVec 32 := 0#32
  let v27 : BitVec 1 := Scalar.cmpi .ne v26 c0_i32_10
  let v31 : BitVec 1 := Scalar.andi v30 v27
  let v32 : BitVec 32 := Scalar.addi v26 v25
  let v33 : BitVec 32 := Scalar.select v31 v32 v26
  let c0_i32_13 : BitVec 32 := 0#32
  let v35 : BitVec 1 := Scalar.cmpi .sgt v33 c0_i32_13
  let v36 : BitVec 32 := Scalar.extui v35
  let c0_i32_14 : BitVec 32 := 0#32
  let v37 : BitVec 1 := Scalar.cmpi .slt v33 c0_i32_14
  let v38 : BitVec 32 := Scalar.extui v37
  let v39 : BitVec 32 := Scalar.subi v36 v38
  let c2_i32 : BitVec 32 := 2#32
  let c0_i32_15 : BitVec 32 := 0#32
  let v40 : BitVec 1 := Scalar.cmpi .sgt c2_i32 c0_i32_15
  let v41 : BitVec 32 := Scalar.extui v40
  let c0_i32_16 : BitVec 32 := 0#32
  let v42 : BitVec 1 := Scalar.cmpi .slt c2_i32 c0_i32_16
  let v43 : BitVec 32 := Scalar.extui v42
  let v44 : BitVec 32 := Scalar.subi v41 v43
  let v45 : BitVec 1 := Scalar.cmpi .ne v39 v44
  let v46 : BitVec 32 := Scalar.remsi v33 c2_i32
  let c0_i32_17 : BitVec 32 := 0#32
  let v47 : BitVec 1 := Scalar.cmpi .ne v46 c0_i32_17
  let v48 : BitVec 1 := Scalar.andi v45 v47
  let v34 : BitVec 32 := Scalar.divsi v33 c2_i32
  let c1_i32_18 : BitVec 32 := 1#32
  let v49 : BitVec 32 := Scalar.subi v34 c1_i32_18
  let v50 : BitVec 32 := Scalar.select v48 v49 v34
  let v212 : BitVec 32 := Scalar.subi c1_i32_134 v50
  let c256_i32_135 : BitVec 32 := 256#32
  let v213 : BitVec 32 := Scalar.muli v212 c256_i32_135
  let v214 : BitVec 32 := Scalar.addi c512_i32 v213
  let v400 : Index := Scalar.indexCast v214
  let c640_194 : Index := 640#32
  ![v400.toNat, 640]
def k0_off17 (d0 : Dev nD) : Fin 2 → Nat :=
  let c512_i32 : BitVec 32 := 512#32
  let c1_i32_134 : BitVec 32 := 1#32
  let v4 : BitVec 32 := Dev.word d0
  let c1_i32_1 : BitVec 32 := 1#32
  let v5 : BitVec 32 := Scalar.divsi v4 c1_i32_1
  let c16_i32_0 : BitVec 32 := 16#32
  let v6 : BitVec 32 := Scalar.remsi v5 c16_i32_0
  let c4_i32_7 : BitVec 32 := 4#32
  let c0_i32_8 : BitVec 32 := 0#32
  let v24 : BitVec 1 := Scalar.cmpi .eq c4_i32_7 c0_i32_8
  let c1_i32_9 : BitVec 32 := 1#32
  let v25 : BitVec 32 := Scalar.select v24 c1_i32_9 c4_i32_7
  let v26 : BitVec 32 := Scalar.remsi v6 v25
  let c0_i32_11 : BitVec 32 := 0#32
  let v28 : BitVec 1 := Scalar.cmpi .slt v26 c0_i32_11
  let c0_i32_12 : BitVec 32 := 0#32
  let v29 : BitVec 1 := Scalar.cmpi .slt v25 c0_i32_12
  let v30 : BitVec 1 := Scalar.xori v28 v29
  let c0_i32_10 : BitVec 32 := 0#32
  let v27 : BitVec 1 := Scalar.cmpi .ne v26 c0_i32_10
  let v31 : BitVec 1 := Scalar.andi v30 v27
  let v32 : BitVec 32 := Scalar.addi v26 v25
  let v33 : BitVec 32 := Scalar.select v31 v32 v26
  let c0_i32_13 : BitVec 32 := 0#32
  let v35 : BitVec 1 := Scalar.cmpi .sgt v33 c0_i32_13
  let v36 : BitVec 32 := Scalar.extui v35
  let c0_i32_14 : BitVec 32 := 0#32
  let v37 : BitVec 1 := Scalar.cmpi .slt v33 c0_i32_14
  let v38 : BitVec 32 := Scalar.extui v37
  let v39 : BitVec 32 := Scalar.subi v36 v38
  let c2_i32 : BitVec 32 := 2#32
  let c0_i32_15 : BitVec 32 := 0#32
  let v40 : BitVec 1 := Scalar.cmpi .sgt c2_i32 c0_i32_15
  let v41 : BitVec 32 := Scalar.extui v40
  let c0_i32_16 : BitVec 32 := 0#32
  let v42 : BitVec 1 := Scalar.cmpi .slt c2_i32 c0_i32_16
  let v43 : BitVec 32 := Scalar.extui v42
  let v44 : BitVec 32 := Scalar.subi v41 v43
  let v45 : BitVec 1 := Scalar.cmpi .ne v39 v44
  let v46 : BitVec 32 := Scalar.remsi v33 c2_i32
  let c0_i32_17 : BitVec 32 := 0#32
  let v47 : BitVec 1 := Scalar.cmpi .ne v46 c0_i32_17
  let v48 : BitVec 1 := Scalar.andi v45 v47
  let v34 : BitVec 32 := Scalar.divsi v33 c2_i32
  let c1_i32_18 : BitVec 32 := 1#32
  let v49 : BitVec 32 := Scalar.subi v34 c1_i32_18
  let v50 : BitVec 32 := Scalar.select v48 v49 v34
  let v212 : BitVec 32 := Scalar.subi c1_i32_134 v50
  let c256_i32_135 : BitVec 32 := 256#32
  let v213 : BitVec 32 := Scalar.muli v212 c256_i32_135
  let v214 : BitVec 32 := Scalar.addi c512_i32 v213
  let v411 : Index := Scalar.indexCast v214
  let c768_198 : Index := 768#32
  ![v411.toNat, 768]
def k0_off18 (d0 : Dev nD) : Fin 2 → Nat :=
  let c512_i32 : BitVec 32 := 512#32
  let c1_i32_134 : BitVec 32 := 1#32
  let v4 : BitVec 32 := Dev.word d0
  let c1_i32_1 : BitVec 32 := 1#32
  let v5 : BitVec 32 := Scalar.divsi v4 c1_i32_1
  let c16_i32_0 : BitVec 32 := 16#32
  let v6 : BitVec 32 := Scalar.remsi v5 c16_i32_0
  let c4_i32_7 : BitVec 32 := 4#32
  let c0_i32_8 : BitVec 32 := 0#32
  let v24 : BitVec 1 := Scalar.cmpi .eq c4_i32_7 c0_i32_8
  let c1_i32_9 : BitVec 32 := 1#32
  let v25 : BitVec 32 := Scalar.select v24 c1_i32_9 c4_i32_7
  let v26 : BitVec 32 := Scalar.remsi v6 v25
  let c0_i32_11 : BitVec 32 := 0#32
  let v28 : BitVec 1 := Scalar.cmpi .slt v26 c0_i32_11
  let c0_i32_12 : BitVec 32 := 0#32
  let v29 : BitVec 1 := Scalar.cmpi .slt v25 c0_i32_12
  let v30 : BitVec 1 := Scalar.xori v28 v29
  let c0_i32_10 : BitVec 32 := 0#32
  let v27 : BitVec 1 := Scalar.cmpi .ne v26 c0_i32_10
  let v31 : BitVec 1 := Scalar.andi v30 v27
  let v32 : BitVec 32 := Scalar.addi v26 v25
  let v33 : BitVec 32 := Scalar.select v31 v32 v26
  let c0_i32_13 : BitVec 32 := 0#32
  let v35 : BitVec 1 := Scalar.cmpi .sgt v33 c0_i32_13
  let v36 : BitVec 32 := Scalar.extui v35
  let c0_i32_14 : BitVec 32 := 0#32
  let v37 : BitVec 1 := Scalar.cmpi .slt v33 c0_i32_14
  let v38 : BitVec 32 := Scalar.extui v37
  let v39 : BitVec 32 := Scalar.subi v36 v38
  let c2_i32 : BitVec 32 := 2#32
  let c0_i32_15 : BitVec 32 := 0#32
  let v40 : BitVec 1 := Scalar.cmpi .sgt c2_i32 c0_i32_15
  let v41 : BitVec 32 := Scalar.extui v40
  let c0_i32_16 : BitVec 32 := 0#32
  let v42 : BitVec 1 := Scalar.cmpi .slt c2_i32 c0_i32_16
  let v43 : BitVec 32 := Scalar.extui v42
  let v44 : BitVec 32 := Scalar.subi v41 v43
  let v45 : BitVec 1 := Scalar.cmpi .ne v39 v44
  let v46 : BitVec 32 := Scalar.remsi v33 c2_i32
  let c0_i32_17 : BitVec 32 := 0#32
  let v47 : BitVec 1 := Scalar.cmpi .ne v46 c0_i32_17
  let v48 : BitVec 1 := Scalar.andi v45 v47
  let v34 : BitVec 32 := Scalar.divsi v33 c2_i32
  let c1_i32_18 : BitVec 32 := 1#32
  let v49 : BitVec 32 := Scalar.subi v34 c1_i32_18
  let v50 : BitVec 32 := Scalar.select v48 v49 v34
  let v212 : BitVec 32 := Scalar.subi c1_i32_134 v50
  let c256_i32_135 : BitVec 32 := 256#32
  let v213 : BitVec 32 := Scalar.muli v212 c256_i32_135
  let v214 : BitVec 32 := Scalar.addi c512_i32 v213
  let v422 : Index := Scalar.indexCast v214
  let c896_202 : Index := 896#32
  ![v422.toNat, 896]
def k0_off19 (d0 : Dev nD) : Fin 2 → Nat :=
  let c512_i32 : BitVec 32 := 512#32
  let c1_i32_134 : BitVec 32 := 1#32
  let v4 : BitVec 32 := Dev.word d0
  let c1_i32_1 : BitVec 32 := 1#32
  let v5 : BitVec 32 := Scalar.divsi v4 c1_i32_1
  let c16_i32_0 : BitVec 32 := 16#32
  let v6 : BitVec 32 := Scalar.remsi v5 c16_i32_0
  let c4_i32_7 : BitVec 32 := 4#32
  let c0_i32_8 : BitVec 32 := 0#32
  let v24 : BitVec 1 := Scalar.cmpi .eq c4_i32_7 c0_i32_8
  let c1_i32_9 : BitVec 32 := 1#32
  let v25 : BitVec 32 := Scalar.select v24 c1_i32_9 c4_i32_7
  let v26 : BitVec 32 := Scalar.remsi v6 v25
  let c0_i32_11 : BitVec 32 := 0#32
  let v28 : BitVec 1 := Scalar.cmpi .slt v26 c0_i32_11
  let c0_i32_12 : BitVec 32 := 0#32
  let v29 : BitVec 1 := Scalar.cmpi .slt v25 c0_i32_12
  let v30 : BitVec 1 := Scalar.xori v28 v29
  let c0_i32_10 : BitVec 32 := 0#32
  let v27 : BitVec 1 := Scalar.cmpi .ne v26 c0_i32_10
  let v31 : BitVec 1 := Scalar.andi v30 v27
  let v32 : BitVec 32 := Scalar.addi v26 v25
  let v33 : BitVec 32 := Scalar.select v31 v32 v26
  let c0_i32_13 : BitVec 32 := 0#32
  let v35 : BitVec 1 := Scalar.cmpi .sgt v33 c0_i32_13
  let v36 : BitVec 32 := Scalar.extui v35
  let c0_i32_14 : BitVec 32 := 0#32
  let v37 : BitVec 1 := Scalar.cmpi .slt v33 c0_i32_14
  let v38 : BitVec 32 := Scalar.extui v37
  let v39 : BitVec 32 := Scalar.subi v36 v38
  let c2_i32 : BitVec 32 := 2#32
  let c0_i32_15 : BitVec 32 := 0#32
  let v40 : BitVec 1 := Scalar.cmpi .sgt c2_i32 c0_i32_15
  let v41 : BitVec 32 := Scalar.extui v40
  let c0_i32_16 : BitVec 32 := 0#32
  let v42 : BitVec 1 := Scalar.cmpi .slt c2_i32 c0_i32_16
  let v43 : BitVec 32 := Scalar.extui v42
  let v44 : BitVec 32 := Scalar.subi v41 v43
  let v45 : BitVec 1 := Scalar.cmpi .ne v39 v44
  let v46 : BitVec 32 := Scalar.remsi v33 c2_i32
  let c0_i32_17 : BitVec 32 := 0#32
  let v47 : BitVec 1 := Scalar.cmpi .ne v46 c0_i32_17
  let v48 : BitVec 1 := Scalar.andi v45 v47
  let v34 : BitVec 32 := Scalar.divsi v33 c2_i32
  let c1_i32_18 : BitVec 32 := 1#32
  let v49 : BitVec 32 := Scalar.subi v34 c1_i32_18
  let v50 : BitVec 32 := Scalar.select v48 v49 v34
  let v212 : BitVec 32 := Scalar.subi c1_i32_134 v50
  let c256_i32_135 : BitVec 32 := 256#32
  let v213 : BitVec 32 := Scalar.muli v212 c256_i32_135
  let v214 : BitVec 32 := Scalar.addi c512_i32 v213
  let v436 : Index := Scalar.indexCast v214
  let c0_207 : Index := 0#32
  ![v436.toNat, 0]
def k0_off20 (d0 : Dev nD) (c0_i32_218 : BitVec 32) : Fin 2 → Nat :=
  let c0_i32_212 : BitVec 32 := 0#32
  let c1_i32_210 : BitVec 32 := 1#32
  let v4 : BitVec 32 := Dev.word d0
  let c1_i32_1 : BitVec 32 := 1#32
  let v5 : BitVec 32 := Scalar.divsi v4 c1_i32_1
  let c16_i32_0 : BitVec 32 := 16#32
  let v6 : BitVec 32 := Scalar.remsi v5 c16_i32_0
  let c4_i32_7 : BitVec 32 := 4#32
  let c0_i32_8 : BitVec 32 := 0#32
  let v24 : BitVec 1 := Scalar.cmpi .eq c4_i32_7 c0_i32_8
  let c1_i32_9 : BitVec 32 := 1#32
  let v25 : BitVec 32 := Scalar.select v24 c1_i32_9 c4_i32_7
  let v26 : BitVec 32 := Scalar.remsi v6 v25
  let c0_i32_11 : BitVec 32 := 0#32
  let v28 : BitVec 1 := Scalar.cmpi .slt v26 c0_i32_11
  let c0_i32_12 : BitVec 32 := 0#32
  let v29 : BitVec 1 := Scalar.cmpi .slt v25 c0_i32_12
  let v30 : BitVec 1 := Scalar.xori v28 v29
  let c0_i32_10 : BitVec 32 := 0#32
  let v27 : BitVec 1 := Scalar.cmpi .ne v26 c0_i32_10
  let v31 : BitVec 1 := Scalar.andi v30 v27
  let v32 : BitVec 32 := Scalar.addi v26 v25
  let v33 : BitVec 32 := Scalar.select v31 v32 v26
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v33 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_13 : BitVec 32 := 0#32
  let v35 : BitVec 1 := Scalar.cmpi .sgt v33 c0_i32_13
  let v36 : BitVec 32 := Scalar.extui v35
  let c0_i32_14 : BitVec 32 := 0#32
  let v37 : BitVec 1 := Scalar.cmpi .slt v33 c0_i32_14
  let v38 : BitVec 32 := Scalar.extui v37
  let v39 : BitVec 32 := Scalar.subi v36 v38
  let c2_i32 : BitVec 32 := 2#32
  let c0_i32_15 : BitVec 32 := 0#32
  let v40 : BitVec 1 := Scalar.cmpi .sgt c2_i32 c0_i32_15
  let v41 : BitVec 32 := Scalar.extui v40
  let c0_i32_16 : BitVec 32 := 0#32
  let v42 : BitVec 1 := Scalar.cmpi .slt c2_i32 c0_i32_16
  let v43 : BitVec 32 := Scalar.extui v42
  let v44 : BitVec 32 := Scalar.subi v41 v43
  let v45 : BitVec 1 := Scalar.cmpi .ne v39 v44
  let v46 : BitVec 32 := Scalar.remsi v33 c2_i32
  let c0_i32_17 : BitVec 32 := 0#32
  let v47 : BitVec 1 := Scalar.cmpi .ne v46 c0_i32_17
  let v48 : BitVec 1 := Scalar.andi v45 v47
  let v34 : BitVec 32 := Scalar.divsi v33 c2_i32
  let c1_i32_18 : BitVec 32 := 1#32
  let v49 : BitVec 32 := Scalar.subi v34 c1_i32_18
  let v50 : BitVec 32 := Scalar.select v48 v49 v34
  let v61 : BitVec 32 := Scalar.xori v60 v50
  let v440 : BitVec 32 := Scalar.subi c1_i32_210 v61
  let c256_i32_211 : BitVec 32 := 256#32
  let v441 : BitVec 32 := Scalar.muli v440 c256_i32_211
  let v442 : BitVec 32 := Scalar.addi c0_i32_212 v441
  let v448 : BitVec 32 := Scalar.addi v442 c0_i32_218
  let v449 : Index := Scalar.indexCast v448
  let c0_219 : Index := 0#32
  ![v449.toNat, 0]
def k0_dev5 (d0 : Dev nD) : Nat :=
  let c0_i32_227 : BitVec 32 := 0#32
  let c4_i32_41 : BitVec 32 := 4#32
  let c2_i32_40 : BitVec 32 := 2#32
  let v4 : BitVec 32 := Dev.word d0
  let c1_i32_1 : BitVec 32 := 1#32
  let v5 : BitVec 32 := Scalar.divsi v4 c1_i32_1
  let c16_i32_0 : BitVec 32 := 16#32
  let v6 : BitVec 32 := Scalar.remsi v5 c16_i32_0
  let c0_i32 : BitVec 32 := 0#32
  let v8 : BitVec 1 := Scalar.cmpi .sgt v6 c0_i32
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c4_i32 : BitVec 32 := 4#32
  let c0_i32_3 : BitVec 32 := 0#32
  let v13 : BitVec 1 := Scalar.cmpi .sgt c4_i32 c0_i32_3
  let v14 : BitVec 32 := Scalar.extui v13
  let c0_i32_4 : BitVec 32 := 0#32
  let v15 : BitVec 1 := Scalar.cmpi .slt c4_i32 c0_i32_4
  let v16 : BitVec 32 := Scalar.extui v15
  let v17 : BitVec 32 := Scalar.subi v14 v16
  let v18 : BitVec 1 := Scalar.cmpi .ne v12 v17
  let v19 : BitVec 32 := Scalar.remsi v6 c4_i32
  let c0_i32_5 : BitVec 32 := 0#32
  let v20 : BitVec 1 := Scalar.cmpi .ne v19 c0_i32_5
  let v21 : BitVec 1 := Scalar.andi v18 v20
  let v7 : BitVec 32 := Scalar.divsi v6 c4_i32
  let c1_i32_6 : BitVec 32 := 1#32
  let v22 : BitVec 32 := Scalar.subi v7 c1_i32_6
  let v23 : BitVec 32 := Scalar.select v21 v22 v7
  let c0_i32_32 : BitVec 32 := 0#32
  let v73 : BitVec 1 := Scalar.cmpi .sgt v23 c0_i32_32
  let v74 : BitVec 32 := Scalar.extui v73
  let c0_i32_33 : BitVec 32 := 0#32
  let v75 : BitVec 1 := Scalar.cmpi .slt v23 c0_i32_33
  let v76 : BitVec 32 := Scalar.extui v75
  let v77 : BitVec 32 := Scalar.subi v74 v76
  let c2_i32_31 : BitVec 32 := 2#32
  let c0_i32_34 : BitVec 32 := 0#32
  let v78 : BitVec 1 := Scalar.cmpi .sgt c2_i32_31 c0_i32_34
  let v79 : BitVec 32 := Scalar.extui v78
  let c0_i32_35 : BitVec 32 := 0#32
  let v80 : BitVec 1 := Scalar.cmpi .slt c2_i32_31 c0_i32_35
  let v81 : BitVec 32 := Scalar.extui v80
  let v82 : BitVec 32 := Scalar.subi v79 v81
  let v83 : BitVec 1 := Scalar.cmpi .ne v77 v82
  let v84 : BitVec 32 := Scalar.remsi v23 c2_i32_31
  let c0_i32_36 : BitVec 32 := 0#32
  let v85 : BitVec 1 := Scalar.cmpi .ne v84 c0_i32_36
  let v86 : BitVec 1 := Scalar.andi v83 v85
  let v72 : BitVec 32 := Scalar.divsi v23 c2_i32_31
  let c1_i32_37 : BitVec 32 := 1#32
  let v87 : BitVec 32 := Scalar.subi v72 c1_i32_37
  let v88 : BitVec 32 := Scalar.select v86 v87 v72
  let v93 : BitVec 32 := Scalar.muli c2_i32_40 v88
  let c2_i32_25 : BitVec 32 := 2#32
  let c0_i32_26 : BitVec 32 := 0#32
  let v62 : BitVec 1 := Scalar.cmpi .eq c2_i32_25 c0_i32_26
  let c1_i32_27 : BitVec 32 := 1#32
  let v63 : BitVec 32 := Scalar.select v62 c1_i32_27 c2_i32_25
  let v64 : BitVec 32 := Scalar.remsi v23 v63
  let c0_i32_29 : BitVec 32 := 0#32
  let v66 : BitVec 1 := Scalar.cmpi .slt v64 c0_i32_29
  let c0_i32_30 : BitVec 32 := 0#32
  let v67 : BitVec 1 := Scalar.cmpi .slt v63 c0_i32_30
  let v68 : BitVec 1 := Scalar.xori v66 v67
  let c0_i32_28 : BitVec 32 := 0#32
  let v65 : BitVec 1 := Scalar.cmpi .ne v64 c0_i32_28
  let v69 : BitVec 1 := Scalar.andi v68 v65
  let v70 : BitVec 32 := Scalar.addi v64 v63
  let v71 : BitVec 32 := Scalar.select v69 v70 v64
  let v94 : BitVec 32 := Scalar.addi v93 v71
  let v95 : BitVec 32 := Scalar.muli c4_i32_41 v94
  let c1_i32_38 : BitVec 32 := 1#32
  let c4_i32_7 : BitVec 32 := 4#32
  let c0_i32_8 : BitVec 32 := 0#32
  let v24 : BitVec 1 := Scalar.cmpi .eq c4_i32_7 c0_i32_8
  let c1_i32_9 : BitVec 32 := 1#32
  let v25 : BitVec 32 := Scalar.select v24 c1_i32_9 c4_i32_7
  let v26 : BitVec 32 := Scalar.remsi v6 v25
  let c0_i32_11 : BitVec 32 := 0#32
  let v28 : BitVec 1 := Scalar.cmpi .slt v26 c0_i32_11
  let c0_i32_12 : BitVec 32 := 0#32
  let v29 : BitVec 1 := Scalar.cmpi .slt v25 c0_i32_12
  let v30 : BitVec 1 := Scalar.xori v28 v29
  let c0_i32_10 : BitVec 32 := 0#32
  let v27 : BitVec 1 := Scalar.cmpi .ne v26 c0_i32_10
  let v31 : BitVec 1 := Scalar.andi v30 v27
  let v32 : BitVec 32 := Scalar.addi v26 v25
  let v33 : BitVec 32 := Scalar.select v31 v32 v26
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v33 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_13 : BitVec 32 := 0#32
  let v35 : BitVec 1 := Scalar.cmpi .sgt v33 c0_i32_13
  let v36 : BitVec 32 := Scalar.extui v35
  let c0_i32_14 : BitVec 32 := 0#32
  let v37 : BitVec 1 := Scalar.cmpi .slt v33 c0_i32_14
  let v38 : BitVec 32 := Scalar.extui v37
  let v39 : BitVec 32 := Scalar.subi v36 v38
  let c2_i32 : BitVec 32 := 2#32
  let c0_i32_15 : BitVec 32 := 0#32
  let v40 : BitVec 1 := Scalar.cmpi .sgt c2_i32 c0_i32_15
  let v41 : BitVec 32 := Scalar.extui v40
  let c0_i32_16 : BitVec 32 := 0#32
  let v42 : BitVec 1 := Scalar.cmpi .slt c2_i32 c0_i32_16
  let v43 : BitVec 32 := Scalar.extui v42
  let v44 : BitVec 32 := Scalar.subi v41 v43
  let v45 : BitVec 1 := Scalar.cmpi .ne v39 v44
  let v46 : BitVec 32 := Scalar.remsi v33 c2_i32
  let c0_i32_17 : BitVec 32 := 0#32
  let v47 : BitVec 1 := Scalar.cmpi .ne v46 c0_i32_17
  let v48 : BitVec 1 := Scalar.andi v45 v47
  let v34 : BitVec 32 := Scalar.divsi v33 c2_i32
  let c1_i32_18 : BitVec 32 := 1#32
  let v49 : BitVec 32 := Scalar.subi v34 c1_i32_18
  let v50 : BitVec 32 := Scalar.select v48 v49 v34
  let v61 : BitVec 32 := Scalar.xori v60 v50
  let v89 : BitVec 32 := Scalar.subi c1_i32_38 v61
  let v90 : BitVec 32 := Scalar.xori v89 v50
  let c2_i32_39 : BitVec 32 := 2#32
  let v91 : BitVec 32 := Scalar.muli c2_i32_39 v50
  let v92 : BitVec 32 := Scalar.addi v90 v91
  let v96 : BitVec 32 := Scalar.addi v95 v92
  let c1_i32_226 : BitVec 32 := 1#32
  let v456 : BitVec 32 := Scalar.muli v96 c1_i32_226
  let v457 : BitVec 32 := Scalar.addi c0_i32_227 v456
  v457.toNat
def k0_off21 (d0 : Dev nD) (c0_i32_233 : BitVec 32) : Fin 2 → Nat :=
  let c512_i32_217 : BitVec 32 := 512#32
  let c1_i32_215 : BitVec 32 := 1#32
  let v4 : BitVec 32 := Dev.word d0
  let c1_i32_1 : BitVec 32 := 1#32
  let v5 : BitVec 32 := Scalar.divsi v4 c1_i32_1
  let c16_i32_0 : BitVec 32 := 16#32
  let v6 : BitVec 32 := Scalar.remsi v5 c16_i32_0
  let c4_i32_7 : BitVec 32 := 4#32
  let c0_i32_8 : BitVec 32 := 0#32
  let v24 : BitVec 1 := Scalar.cmpi .eq c4_i32_7 c0_i32_8
  let c1_i32_9 : BitVec 32 := 1#32
  let v25 : BitVec 32 := Scalar.select v24 c1_i32_9 c4_i32_7
  let v26 : BitVec 32 := Scalar.remsi v6 v25
  let c0_i32_11 : BitVec 32 := 0#32
  let v28 : BitVec 1 := Scalar.cmpi .slt v26 c0_i32_11
  let c0_i32_12 : BitVec 32 := 0#32
  let v29 : BitVec 1 := Scalar.cmpi .slt v25 c0_i32_12
  let v30 : BitVec 1 := Scalar.xori v28 v29
  let c0_i32_10 : BitVec 32 := 0#32
  let v27 : BitVec 1 := Scalar.cmpi .ne v26 c0_i32_10
  let v31 : BitVec 1 := Scalar.andi v30 v27
  let v32 : BitVec 32 := Scalar.addi v26 v25
  let v33 : BitVec 32 := Scalar.select v31 v32 v26
  let c0_i32_13 : BitVec 32 := 0#32
  let v35 : BitVec 1 := Scalar.cmpi .sgt v33 c0_i32_13
  let v36 : BitVec 32 := Scalar.extui v35
  let c0_i32_14 : BitVec 32 := 0#32
  let v37 : BitVec 1 := Scalar.cmpi .slt v33 c0_i32_14
  let v38 : BitVec 32 := Scalar.extui v37
  let v39 : BitVec 32 := Scalar.subi v36 v38
  let c2_i32 : BitVec 32 := 2#32
  let c0_i32_15 : BitVec 32 := 0#32
  let v40 : BitVec 1 := Scalar.cmpi .sgt c2_i32 c0_i32_15
  let v41 : BitVec 32 := Scalar.extui v40
  let c0_i32_16 : BitVec 32 := 0#32
  let v42 : BitVec 1 := Scalar.cmpi .slt c2_i32 c0_i32_16
  let v43 : BitVec 32 := Scalar.extui v42
  let v44 : BitVec 32 := Scalar.subi v41 v43
  let v45 : BitVec 1 := Scalar.cmpi .ne v39 v44
  let v46 : BitVec 32 := Scalar.remsi v33 c2_i32
  let c0_i32_17 : BitVec 32 := 0#32
  let v47 : BitVec 1 := Scalar.cmpi .ne v46 c0_i32_17
  let v48 : BitVec 1 := Scalar.andi v45 v47
  let v34 : BitVec 32 := Scalar.divsi v33 c2_i32
  let c1_i32_18 : BitVec 32 := 1#32
  let v49 : BitVec 32 := Scalar.subi v34 c1_i32_18
  let v50 : BitVec 32 := Scalar.select v48 v49 v34
  let v445 : BitVec 32 := Scalar.subi c1_i32_215 v50
  let c256_i32_216 : BitVec 32 := 256#32
  let v446 : BitVec 32 := Scalar.muli v445 c256_i32_216
  let v447 : BitVec 32 := Scalar.addi c512_i32_217 v446
  let v465 : BitVec 32 := Scalar.addi v447 c0_i32_233
  let v466 : Index := Scalar.indexCast v465
  let c0_234 : Index := 0#32
  ![v466.toNat, 0]
def k0_dev6 (d0 : Dev nD) : Nat :=
  let c0_i32_242 : BitVec 32 := 0#32
  let c4_i32_45 : BitVec 32 := 4#32
  let c2_i32_44 : BitVec 32 := 2#32
  let v4 : BitVec 32 := Dev.word d0
  let c1_i32_1 : BitVec 32 := 1#32
  let v5 : BitVec 32 := Scalar.divsi v4 c1_i32_1
  let c16_i32_0 : BitVec 32 := 16#32
  let v6 : BitVec 32 := Scalar.remsi v5 c16_i32_0
  let c0_i32 : BitVec 32 := 0#32
  let v8 : BitVec 1 := Scalar.cmpi .sgt v6 c0_i32
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c4_i32 : BitVec 32 := 4#32
  let c0_i32_3 : BitVec 32 := 0#32
  let v13 : BitVec 1 := Scalar.cmpi .sgt c4_i32 c0_i32_3
  let v14 : BitVec 32 := Scalar.extui v13
  let c0_i32_4 : BitVec 32 := 0#32
  let v15 : BitVec 1 := Scalar.cmpi .slt c4_i32 c0_i32_4
  let v16 : BitVec 32 := Scalar.extui v15
  let v17 : BitVec 32 := Scalar.subi v14 v16
  let v18 : BitVec 1 := Scalar.cmpi .ne v12 v17
  let v19 : BitVec 32 := Scalar.remsi v6 c4_i32
  let c0_i32_5 : BitVec 32 := 0#32
  let v20 : BitVec 1 := Scalar.cmpi .ne v19 c0_i32_5
  let v21 : BitVec 1 := Scalar.andi v18 v20
  let v7 : BitVec 32 := Scalar.divsi v6 c4_i32
  let c1_i32_6 : BitVec 32 := 1#32
  let v22 : BitVec 32 := Scalar.subi v7 c1_i32_6
  let v23 : BitVec 32 := Scalar.select v21 v22 v7
  let c0_i32_32 : BitVec 32 := 0#32
  let v73 : BitVec 1 := Scalar.cmpi .sgt v23 c0_i32_32
  let v74 : BitVec 32 := Scalar.extui v73
  let c0_i32_33 : BitVec 32 := 0#32
  let v75 : BitVec 1 := Scalar.cmpi .slt v23 c0_i32_33
  let v76 : BitVec 32 := Scalar.extui v75
  let v77 : BitVec 32 := Scalar.subi v74 v76
  let c2_i32_31 : BitVec 32 := 2#32
  let c0_i32_34 : BitVec 32 := 0#32
  let v78 : BitVec 1 := Scalar.cmpi .sgt c2_i32_31 c0_i32_34
  let v79 : BitVec 32 := Scalar.extui v78
  let c0_i32_35 : BitVec 32 := 0#32
  let v80 : BitVec 1 := Scalar.cmpi .slt c2_i32_31 c0_i32_35
  let v81 : BitVec 32 := Scalar.extui v80
  let v82 : BitVec 32 := Scalar.subi v79 v81
  let v83 : BitVec 1 := Scalar.cmpi .ne v77 v82
  let v84 : BitVec 32 := Scalar.remsi v23 c2_i32_31
  let c0_i32_36 : BitVec 32 := 0#32
  let v85 : BitVec 1 := Scalar.cmpi .ne v84 c0_i32_36
  let v86 : BitVec 1 := Scalar.andi v83 v85
  let v72 : BitVec 32 := Scalar.divsi v23 c2_i32_31
  let c1_i32_37 : BitVec 32 := 1#32
  let v87 : BitVec 32 := Scalar.subi v72 c1_i32_37
  let v88 : BitVec 32 := Scalar.select v86 v87 v72
  let v101 : BitVec 32 := Scalar.muli c2_i32_44 v88
  let c2_i32_25 : BitVec 32 := 2#32
  let c0_i32_26 : BitVec 32 := 0#32
  let v62 : BitVec 1 := Scalar.cmpi .eq c2_i32_25 c0_i32_26
  let c1_i32_27 : BitVec 32 := 1#32
  let v63 : BitVec 32 := Scalar.select v62 c1_i32_27 c2_i32_25
  let v64 : BitVec 32 := Scalar.remsi v23 v63
  let c0_i32_29 : BitVec 32 := 0#32
  let v66 : BitVec 1 := Scalar.cmpi .slt v64 c0_i32_29
  let c0_i32_30 : BitVec 32 := 0#32
  let v67 : BitVec 1 := Scalar.cmpi .slt v63 c0_i32_30
  let v68 : BitVec 1 := Scalar.xori v66 v67
  let c0_i32_28 : BitVec 32 := 0#32
  let v65 : BitVec 1 := Scalar.cmpi .ne v64 c0_i32_28
  let v69 : BitVec 1 := Scalar.andi v68 v65
  let v70 : BitVec 32 := Scalar.addi v64 v63
  let v71 : BitVec 32 := Scalar.select v69 v70 v64
  let v102 : BitVec 32 := Scalar.addi v101 v71
  let v103 : BitVec 32 := Scalar.muli c4_i32_45 v102
  let c4_i32_7 : BitVec 32 := 4#32
  let c0_i32_8 : BitVec 32 := 0#32
  let v24 : BitVec 1 := Scalar.cmpi .eq c4_i32_7 c0_i32_8
  let c1_i32_9 : BitVec 32 := 1#32
  let v25 : BitVec 32 := Scalar.select v24 c1_i32_9 c4_i32_7
  let v26 : BitVec 32 := Scalar.remsi v6 v25
  let c0_i32_11 : BitVec 32 := 0#32
  let v28 : BitVec 1 := Scalar.cmpi .slt v26 c0_i32_11
  let c0_i32_12 : BitVec 32 := 0#32
  let v29 : BitVec 1 := Scalar.cmpi .slt v25 c0_i32_12
  let v30 : BitVec 1 := Scalar.xori v28 v29
  let c0_i32_10 : BitVec 32 := 0#32
  let v27 : BitVec 1 := Scalar.cmpi .ne v26 c0_i32_10
  let v31 : BitVec 1 := Scalar.andi v30 v27
  let v32 : BitVec 32 := Scalar.addi v26 v25
  let v33 : BitVec 32 := Scalar.select v31 v32 v26
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v33 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_13 : BitVec 32 := 0#32
  let v35 : BitVec 1 := Scalar.cmpi .sgt v33 c0_i32_13
  let v36 : BitVec 32 := Scalar.extui v35
  let c0_i32_14 : BitVec 32 := 0#32
  let v37 : BitVec 1 := Scalar.cmpi .slt v33 c0_i32_14
  let v38 : BitVec 32 := Scalar.extui v37
  let v39 : BitVec 32 := Scalar.subi v36 v38
  let c2_i32 : BitVec 32 := 2#32
  let c0_i32_15 : BitVec 32 := 0#32
  let v40 : BitVec 1 := Scalar.cmpi .sgt c2_i32 c0_i32_15
  let v41 : BitVec 32 := Scalar.extui v40
  let c0_i32_16 : BitVec 32 := 0#32
  let v42 : BitVec 1 := Scalar.cmpi .slt c2_i32 c0_i32_16
  let v43 : BitVec 32 := Scalar.extui v42
  let v44 : BitVec 32 := Scalar.subi v41 v43
  let v45 : BitVec 1 := Scalar.cmpi .ne v39 v44
  let v46 : BitVec 32 := Scalar.remsi v33 c2_i32
  let c0_i32_17 : BitVec 32 := 0#32
  let v47 : BitVec 1 := Scalar.cmpi .ne v46 c0_i32_17
  let v48 : BitVec 1 := Scalar.andi v45 v47
  let v34 : BitVec 32 := Scalar.divsi v33 c2_i32
  let c1_i32_18 : BitVec 32 := 1#32
  let v49 : BitVec 32 := Scalar.subi v34 c1_i32_18
  let v50 : BitVec 32 := Scalar.select v48 v49 v34
  let v61 : BitVec 32 := Scalar.xori v60 v50
  let c1_i32_42 : BitVec 32 := 1#32
  let v97 : BitVec 32 := Scalar.subi c1_i32_42 v50
  let v98 : BitVec 32 := Scalar.xori v61 v97
  let c2_i32_43 : BitVec 32 := 2#32
  let v99 : BitVec 32 := Scalar.muli c2_i32_43 v97
  let v100 : BitVec 32 := Scalar.addi v98 v99
  let v104 : BitVec 32 := Scalar.addi v103 v100
  let c1_i32_241 : BitVec 32 := 1#32
  let v473 : BitVec 32 := Scalar.muli v104 c1_i32_241
  let v474 : BitVec 32 := Scalar.addi c0_i32_242 v473
  v474.toNat
def k0_dev7 (d0 : Dev nD) : Nat :=
  let c0_i32_257 : BitVec 32 := 0#32
  let c4_i32_41 : BitVec 32 := 4#32
  let c2_i32_40 : BitVec 32 := 2#32
  let v4 : BitVec 32 := Dev.word d0
  let c1_i32_1 : BitVec 32 := 1#32
  let v5 : BitVec 32 := Scalar.divsi v4 c1_i32_1
  let c16_i32_0 : BitVec 32 := 16#32
  let v6 : BitVec 32 := Scalar.remsi v5 c16_i32_0
  let c0_i32 : BitVec 32 := 0#32
  let v8 : BitVec 1 := Scalar.cmpi .sgt v6 c0_i32
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c4_i32 : BitVec 32 := 4#32
  let c0_i32_3 : BitVec 32 := 0#32
  let v13 : BitVec 1 := Scalar.cmpi .sgt c4_i32 c0_i32_3
  let v14 : BitVec 32 := Scalar.extui v13
  let c0_i32_4 : BitVec 32 := 0#32
  let v15 : BitVec 1 := Scalar.cmpi .slt c4_i32 c0_i32_4
  let v16 : BitVec 32 := Scalar.extui v15
  let v17 : BitVec 32 := Scalar.subi v14 v16
  let v18 : BitVec 1 := Scalar.cmpi .ne v12 v17
  let v19 : BitVec 32 := Scalar.remsi v6 c4_i32
  let c0_i32_5 : BitVec 32 := 0#32
  let v20 : BitVec 1 := Scalar.cmpi .ne v19 c0_i32_5
  let v21 : BitVec 1 := Scalar.andi v18 v20
  let v7 : BitVec 32 := Scalar.divsi v6 c4_i32
  let c1_i32_6 : BitVec 32 := 1#32
  let v22 : BitVec 32 := Scalar.subi v7 c1_i32_6
  let v23 : BitVec 32 := Scalar.select v21 v22 v7
  let c0_i32_32 : BitVec 32 := 0#32
  let v73 : BitVec 1 := Scalar.cmpi .sgt v23 c0_i32_32
  let v74 : BitVec 32 := Scalar.extui v73
  let c0_i32_33 : BitVec 32 := 0#32
  let v75 : BitVec 1 := Scalar.cmpi .slt v23 c0_i32_33
  let v76 : BitVec 32 := Scalar.extui v75
  let v77 : BitVec 32 := Scalar.subi v74 v76
  let c2_i32_31 : BitVec 32 := 2#32
  let c0_i32_34 : BitVec 32 := 0#32
  let v78 : BitVec 1 := Scalar.cmpi .sgt c2_i32_31 c0_i32_34
  let v79 : BitVec 32 := Scalar.extui v78
  let c0_i32_35 : BitVec 32 := 0#32
  let v80 : BitVec 1 := Scalar.cmpi .slt c2_i32_31 c0_i32_35
  let v81 : BitVec 32 := Scalar.extui v80
  let v82 : BitVec 32 := Scalar.subi v79 v81
  let v83 : BitVec 1 := Scalar.cmpi .ne v77 v82
  let v84 : BitVec 32 := Scalar.remsi v23 c2_i32_31
  let c0_i32_36 : BitVec 32 := 0#32
  let v85 : BitVec 1 := Scalar.cmpi .ne v84 c0_i32_36
  let v86 : BitVec 1 := Scalar.andi v83 v85
  let v72 : BitVec 32 := Scalar.divsi v23 c2_i32_31
  let c1_i32_37 : BitVec 32 := 1#32
  let v87 : BitVec 32 := Scalar.subi v72 c1_i32_37
  let v88 : BitVec 32 := Scalar.select v86 v87 v72
  let v93 : BitVec 32 := Scalar.muli c2_i32_40 v88
  let c2_i32_25 : BitVec 32 := 2#32
  let c0_i32_26 : BitVec 32 := 0#32
  let v62 : BitVec 1 := Scalar.cmpi .eq c2_i32_25 c0_i32_26
  let c1_i32_27 : BitVec 32 := 1#32
  let v63 : BitVec 32 := Scalar.select v62 c1_i32_27 c2_i32_25
  let v64 : BitVec 32 := Scalar.remsi v23 v63
  let c0_i32_29 : BitVec 32 := 0#32
  let v66 : BitVec 1 := Scalar.cmpi .slt v64 c0_i32_29
  let c0_i32_30 : BitVec 32 := 0#32
  let v67 : BitVec 1 := Scalar.cmpi .slt v63 c0_i32_30
  let v68 : BitVec 1 := Scalar.xori v66 v67
  let c0_i32_28 : BitVec 32 := 0#32
  let v65 : BitVec 1 := Scalar.cmpi .ne v64 c0_i32_28
  let v69 : BitVec 1 := Scalar.andi v68 v65
  let v70 : BitVec 32 := Scalar.addi v64 v63
  let v71 : BitVec 32 := Scalar.select v69 v70 v64
  let v94 : BitVec 32 := Scalar.addi v93 v71
  let v95 : BitVec 32 := Scalar.muli c4_i32_41 v94
  let c1_i32_38 : BitVec 32 := 1#32
  let c4_i32_7 : BitVec 32 := 4#32
  let c0_i32_8 : BitVec 32 := 0#32
  let v24 : BitVec 1 := Scalar.cmpi .eq c4_i32_7 c0_i32_8
  let c1_i32_9 : BitVec 32 := 1#32
  let v25 : BitVec 32 := Scalar.select v24 c1_i32_9 c4_i32_7
  let v26 : BitVec 32 := Scalar.remsi v6 v25
  let c0_i32_11 : BitVec 32 := 0#32
  let v28 : BitVec 1 := Scalar.cmpi .slt v26 c0_i32_11
  let c0_i32_12 : BitVec 32 := 0#32
  let v29 : BitVec 1 := Scalar.cmpi .slt v25 c0_i32_12
  let v30 : BitVec 1 := Scalar.xori v28 v29
  let c0_i32_10 : BitVec 32 := 0#32
  let v27 : BitVec 1 := Scalar.cmpi .ne v26 c0_i32_10
  let v31 : BitVec 1 := Scalar.andi v30 v27
  let v32 : BitVec 32 := Scalar.addi v26 v25
  let v33 : BitVec 32 := Scalar.select v31 v32 v26
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v33 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_13 : BitVec 32 := 0#32
  let v35 : BitVec 1 := Scalar.cmpi .sgt v33 c0_i32_13
  let v36 : BitVec 32 := Scalar.extui v35
  let c0_i32_14 : BitVec 32 := 0#32
  let v37 : BitVec 1 := Scalar.cmpi .slt v33 c0_i32_14
  let v38 : BitVec 32 := Scalar.extui v37
  let v39 : BitVec 32 := Scalar.subi v36 v38
  let c2_i32 : BitVec 32 := 2#32
  let c0_i32_15 : BitVec 32 := 0#32
  let v40 : BitVec 1 := Scalar.cmpi .sgt c2_i32 c0_i32_15
  let v41 : BitVec 32 := Scalar.extui v40
  let c0_i32_16 : BitVec 32 := 0#32
  let v42 : BitVec 1 := Scalar.cmpi .slt c2_i32 c0_i32_16
  let v43 : BitVec 32 := Scalar.extui v42
  let v44 : BitVec 32 := Scalar.subi v41 v43
  let v45 : BitVec 1 := Scalar.cmpi .ne v39 v44
  let v46 : BitVec 32 := Scalar.remsi v33 c2_i32
  let c0_i32_17 : BitVec 32 := 0#32
  let v47 : BitVec 1 := Scalar.cmpi .ne v46 c0_i32_17
  let v48 : BitVec 1 := Scalar.andi v45 v47
  let v34 : BitVec 32 := Scalar.divsi v33 c2_i32
  let c1_i32_18 : BitVec 32 := 1#32
  let v49 : BitVec 32 := Scalar.subi v34 c1_i32_18
  let v50 : BitVec 32 := Scalar.select v48 v49 v34
  let v61 : BitVec 32 := Scalar.xori v60 v50
  let v89 : BitVec 32 := Scalar.subi c1_i32_38 v61
  let v90 : BitVec 32 := Scalar.xori v89 v50
  let c2_i32_39 : BitVec 32 := 2#32
  let v91 : BitVec 32 := Scalar.muli c2_i32_39 v50
  let v92 : BitVec 32 := Scalar.addi v90 v91
  let v96 : BitVec 32 := Scalar.addi v95 v92
  let c1_i32_256 : BitVec 32 := 1#32
  let v490 : BitVec 32 := Scalar.muli v96 c1_i32_256
  let v491 : BitVec 32 := Scalar.addi c0_i32_257 v490
  v491.toNat
def k0_dev8 (d0 : Dev nD) : Nat :=
  let c0_i32_272 : BitVec 32 := 0#32
  let c4_i32_45 : BitVec 32 := 4#32
  let c2_i32_44 : BitVec 32 := 2#32
  let v4 : BitVec 32 := Dev.word d0
  let c1_i32_1 : BitVec 32 := 1#32
  let v5 : BitVec 32 := Scalar.divsi v4 c1_i32_1
  let c16_i32_0 : BitVec 32 := 16#32
  let v6 : BitVec 32 := Scalar.remsi v5 c16_i32_0
  let c0_i32 : BitVec 32 := 0#32
  let v8 : BitVec 1 := Scalar.cmpi .sgt v6 c0_i32
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c4_i32 : BitVec 32 := 4#32
  let c0_i32_3 : BitVec 32 := 0#32
  let v13 : BitVec 1 := Scalar.cmpi .sgt c4_i32 c0_i32_3
  let v14 : BitVec 32 := Scalar.extui v13
  let c0_i32_4 : BitVec 32 := 0#32
  let v15 : BitVec 1 := Scalar.cmpi .slt c4_i32 c0_i32_4
  let v16 : BitVec 32 := Scalar.extui v15
  let v17 : BitVec 32 := Scalar.subi v14 v16
  let v18 : BitVec 1 := Scalar.cmpi .ne v12 v17
  let v19 : BitVec 32 := Scalar.remsi v6 c4_i32
  let c0_i32_5 : BitVec 32 := 0#32
  let v20 : BitVec 1 := Scalar.cmpi .ne v19 c0_i32_5
  let v21 : BitVec 1 := Scalar.andi v18 v20
  let v7 : BitVec 32 := Scalar.divsi v6 c4_i32
  let c1_i32_6 : BitVec 32 := 1#32
  let v22 : BitVec 32 := Scalar.subi v7 c1_i32_6
  let v23 : BitVec 32 := Scalar.select v21 v22 v7
  let c0_i32_32 : BitVec 32 := 0#32
  let v73 : BitVec 1 := Scalar.cmpi .sgt v23 c0_i32_32
  let v74 : BitVec 32 := Scalar.extui v73
  let c0_i32_33 : BitVec 32 := 0#32
  let v75 : BitVec 1 := Scalar.cmpi .slt v23 c0_i32_33
  let v76 : BitVec 32 := Scalar.extui v75
  let v77 : BitVec 32 := Scalar.subi v74 v76
  let c2_i32_31 : BitVec 32 := 2#32
  let c0_i32_34 : BitVec 32 := 0#32
  let v78 : BitVec 1 := Scalar.cmpi .sgt c2_i32_31 c0_i32_34
  let v79 : BitVec 32 := Scalar.extui v78
  let c0_i32_35 : BitVec 32 := 0#32
  let v80 : BitVec 1 := Scalar.cmpi .slt c2_i32_31 c0_i32_35
  let v81 : BitVec 32 := Scalar.extui v80
  let v82 : BitVec 32 := Scalar.subi v79 v81
  let v83 : BitVec 1 := Scalar.cmpi .ne v77 v82
  let v84 : BitVec 32 := Scalar.remsi v23 c2_i32_31
  let c0_i32_36 : BitVec 32 := 0#32
  let v85 : BitVec 1 := Scalar.cmpi .ne v84 c0_i32_36
  let v86 : BitVec 1 := Scalar.andi v83 v85
  let v72 : BitVec 32 := Scalar.divsi v23 c2_i32_31
  let c1_i32_37 : BitVec 32 := 1#32
  let v87 : BitVec 32 := Scalar.subi v72 c1_i32_37
  let v88 : BitVec 32 := Scalar.select v86 v87 v72
  let v101 : BitVec 32 := Scalar.muli c2_i32_44 v88
  let c2_i32_25 : BitVec 32 := 2#32
  let c0_i32_26 : BitVec 32 := 0#32
  let v62 : BitVec 1 := Scalar.cmpi .eq c2_i32_25 c0_i32_26
  let c1_i32_27 : BitVec 32 := 1#32
  let v63 : BitVec 32 := Scalar.select v62 c1_i32_27 c2_i32_25
  let v64 : BitVec 32 := Scalar.remsi v23 v63
  let c0_i32_29 : BitVec 32 := 0#32
  let v66 : BitVec 1 := Scalar.cmpi .slt v64 c0_i32_29
  let c0_i32_30 : BitVec 32 := 0#32
  let v67 : BitVec 1 := Scalar.cmpi .slt v63 c0_i32_30
  let v68 : BitVec 1 := Scalar.xori v66 v67
  let c0_i32_28 : BitVec 32 := 0#32
  let v65 : BitVec 1 := Scalar.cmpi .ne v64 c0_i32_28
  let v69 : BitVec 1 := Scalar.andi v68 v65
  let v70 : BitVec 32 := Scalar.addi v64 v63
  let v71 : BitVec 32 := Scalar.select v69 v70 v64
  let v102 : BitVec 32 := Scalar.addi v101 v71
  let v103 : BitVec 32 := Scalar.muli c4_i32_45 v102
  let c4_i32_7 : BitVec 32 := 4#32
  let c0_i32_8 : BitVec 32 := 0#32
  let v24 : BitVec 1 := Scalar.cmpi .eq c4_i32_7 c0_i32_8
  let c1_i32_9 : BitVec 32 := 1#32
  let v25 : BitVec 32 := Scalar.select v24 c1_i32_9 c4_i32_7
  let v26 : BitVec 32 := Scalar.remsi v6 v25
  let c0_i32_11 : BitVec 32 := 0#32
  let v28 : BitVec 1 := Scalar.cmpi .slt v26 c0_i32_11
  let c0_i32_12 : BitVec 32 := 0#32
  let v29 : BitVec 1 := Scalar.cmpi .slt v25 c0_i32_12
  let v30 : BitVec 1 := Scalar.xori v28 v29
  let c0_i32_10 : BitVec 32 := 0#32
  let v27 : BitVec 1 := Scalar.cmpi .ne v26 c0_i32_10
  let v31 : BitVec 1 := Scalar.andi v30 v27
  let v32 : BitVec 32 := Scalar.addi v26 v25
  let v33 : BitVec 32 := Scalar.select v31 v32 v26
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v33 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_13 : BitVec 32 := 0#32
  let v35 : BitVec 1 := Scalar.cmpi .sgt v33 c0_i32_13
  let v36 : BitVec 32 := Scalar.extui v35
  let c0_i32_14 : BitVec 32 := 0#32
  let v37 : BitVec 1 := Scalar.cmpi .slt v33 c0_i32_14
  let v38 : BitVec 32 := Scalar.extui v37
  let v39 : BitVec 32 := Scalar.subi v36 v38
  let c2_i32 : BitVec 32 := 2#32
  let c0_i32_15 : BitVec 32 := 0#32
  let v40 : BitVec 1 := Scalar.cmpi .sgt c2_i32 c0_i32_15
  let v41 : BitVec 32 := Scalar.extui v40
  let c0_i32_16 : BitVec 32 := 0#32
  let v42 : BitVec 1 := Scalar.cmpi .slt c2_i32 c0_i32_16
  let v43 : BitVec 32 := Scalar.extui v42
  let v44 : BitVec 32 := Scalar.subi v41 v43
  let v45 : BitVec 1 := Scalar.cmpi .ne v39 v44
  let v46 : BitVec 32 := Scalar.remsi v33 c2_i32
  let c0_i32_17 : BitVec 32 := 0#32
  let v47 : BitVec 1 := Scalar.cmpi .ne v46 c0_i32_17
  let v48 : BitVec 1 := Scalar.andi v45 v47
  let v34 : BitVec 32 := Scalar.divsi v33 c2_i32
  let c1_i32_18 : BitVec 32 := 1#32
  let v49 : BitVec 32 := Scalar.subi v34 c1_i32_18
  let v50 : BitVec 32 := Scalar.select v48 v49 v34
  let v61 : BitVec 32 := Scalar.xori v60 v50
  let c1_i32_42 : BitVec 32 := 1#32
  let v97 : BitVec 32 := Scalar.subi c1_i32_42 v50
  let v98 : BitVec 32 := Scalar.xori v61 v97
  let c2_i32_43 : BitVec 32 := 2#32
  let v99 : BitVec 32 := Scalar.muli c2_i32_43 v97
  let v100 : BitVec 32 := Scalar.addi v98 v99
  let v104 : BitVec 32 := Scalar.addi v103 v100
  let c1_i32_271 : BitVec 32 := 1#32
  let v507 : BitVec 32 := Scalar.muli v104 c1_i32_271
  let v508 : BitVec 32 := Scalar.addi c0_i32_272 v507
  v508.toNat
def k0_off22 (d0 : Dev nD) : Fin 2 → Nat :=
  let v4 : BitVec 32 := Dev.word d0
  let c1_i32_1 : BitVec 32 := 1#32
  let v5 : BitVec 32 := Scalar.divsi v4 c1_i32_1
  let c16_i32_0 : BitVec 32 := 16#32
  let v6 : BitVec 32 := Scalar.remsi v5 c16_i32_0
  let c4_i32_7 : BitVec 32 := 4#32
  let c0_i32_8 : BitVec 32 := 0#32
  let v24 : BitVec 1 := Scalar.cmpi .eq c4_i32_7 c0_i32_8
  let c1_i32_9 : BitVec 32 := 1#32
  let v25 : BitVec 32 := Scalar.select v24 c1_i32_9 c4_i32_7
  let v26 : BitVec 32 := Scalar.remsi v6 v25
  let c0_i32_11 : BitVec 32 := 0#32
  let v28 : BitVec 1 := Scalar.cmpi .slt v26 c0_i32_11
  let c0_i32_12 : BitVec 32 := 0#32
  let v29 : BitVec 1 := Scalar.cmpi .slt v25 c0_i32_12
  let v30 : BitVec 1 := Scalar.xori v28 v29
  let c0_i32_10 : BitVec 32 := 0#32
  let v27 : BitVec 1 := Scalar.cmpi .ne v26 c0_i32_10
  let v31 : BitVec 1 := Scalar.andi v30 v27
  let v32 : BitVec 32 := Scalar.addi v26 v25
  let v33 : BitVec 32 := Scalar.select v31 v32 v26
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v33 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_13 : BitVec 32 := 0#32
  let v35 : BitVec 1 := Scalar.cmpi .sgt v33 c0_i32_13
  let v36 : BitVec 32 := Scalar.extui v35
  let c0_i32_14 : BitVec 32 := 0#32
  let v37 : BitVec 1 := Scalar.cmpi .slt v33 c0_i32_14
  let v38 : BitVec 32 := Scalar.extui v37
  let v39 : BitVec 32 := Scalar.subi v36 v38
  let c2_i32 : BitVec 32 := 2#32
  let c0_i32_15 : BitVec 32 := 0#32
  let v40 : BitVec 1 := Scalar.cmpi .sgt c2_i32 c0_i32_15
  let v41 : BitVec 32 := Scalar.extui v40
  let c0_i32_16 : BitVec 32 := 0#32
  let v42 : BitVec 1 := Scalar.cmpi .slt c2_i32 c0_i32_16
  let v43 : BitVec 32 := Scalar.extui v42
  let v44 : BitVec 32 := Scalar.subi v41 v43
  let v45 : BitVec 1 := Scalar.cmpi .ne v39 v44
  let v46 : BitVec 32 := Scalar.remsi v33 c2_i32
  let c0_i32_17 : BitVec 32 := 0#32
  let v47 : BitVec 1 := Scalar.cmpi .ne v46 c0_i32_17
  let v48 : BitVec 1 := Scalar.andi v45 v47
  let v34 : BitVec 32 := Scalar.divsi v33 c2_i32
  let c1_i32_18 : BitVec 32 := 1#32
  let v49 : BitVec 32 := Scalar.subi v34 c1_i32_18
  let v50 : BitVec 32 := Scalar.select v48 v49 v34
  let v61 : BitVec 32 := Scalar.xori v60 v50
  let c256_i32_136 : BitVec 32 := 256#32
  let v215 : BitVec 32 := Scalar.muli v61 c256_i32_136
  let v533 : Index := Scalar.indexCast v215
  let c0_283 : Index := 0#32
  ![v533.toNat, 0]
def k0_off23 (d0 : Dev nD) : Fin 2 → Nat :=
  let v4 : BitVec 32 := Dev.word d0
  let c1_i32_1 : BitVec 32 := 1#32
  let v5 : BitVec 32 := Scalar.divsi v4 c1_i32_1
  let c16_i32_0 : BitVec 32 := 16#32
  let v6 : BitVec 32 := Scalar.remsi v5 c16_i32_0
  let c4_i32_7 : BitVec 32 := 4#32
  let c0_i32_8 : BitVec 32 := 0#32
  let v24 : BitVec 1 := Scalar.cmpi .eq c4_i32_7 c0_i32_8
  let c1_i32_9 : BitVec 32 := 1#32
  let v25 : BitVec 32 := Scalar.select v24 c1_i32_9 c4_i32_7
  let v26 : BitVec 32 := Scalar.remsi v6 v25
  let c0_i32_11 : BitVec 32 := 0#32
  let v28 : BitVec 1 := Scalar.cmpi .slt v26 c0_i32_11
  let c0_i32_12 : BitVec 32 := 0#32
  let v29 : BitVec 1 := Scalar.cmpi .slt v25 c0_i32_12
  let v30 : BitVec 1 := Scalar.xori v28 v29
  let c0_i32_10 : BitVec 32 := 0#32
  let v27 : BitVec 1 := Scalar.cmpi .ne v26 c0_i32_10
  let v31 : BitVec 1 := Scalar.andi v30 v27
  let v32 : BitVec 32 := Scalar.addi v26 v25
  let v33 : BitVec 32 := Scalar.select v31 v32 v26
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v33 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_13 : BitVec 32 := 0#32
  let v35 : BitVec 1 := Scalar.cmpi .sgt v33 c0_i32_13
  let v36 : BitVec 32 := Scalar.extui v35
  let c0_i32_14 : BitVec 32 := 0#32
  let v37 : BitVec 1 := Scalar.cmpi .slt v33 c0_i32_14
  let v38 : BitVec 32 := Scalar.extui v37
  let v39 : BitVec 32 := Scalar.subi v36 v38
  let c2_i32 : BitVec 32 := 2#32
  let c0_i32_15 : BitVec 32 := 0#32
  let v40 : BitVec 1 := Scalar.cmpi .sgt c2_i32 c0_i32_15
  let v41 : BitVec 32 := Scalar.extui v40
  let c0_i32_16 : BitVec 32 := 0#32
  let v42 : BitVec 1 := Scalar.cmpi .slt c2_i32 c0_i32_16
  let v43 : BitVec 32 := Scalar.extui v42
  let v44 : BitVec 32 := Scalar.subi v41 v43
  let v45 : BitVec 1 := Scalar.cmpi .ne v39 v44
  let v46 : BitVec 32 := Scalar.remsi v33 c2_i32
  let c0_i32_17 : BitVec 32 := 0#32
  let v47 : BitVec 1 := Scalar.cmpi .ne v46 c0_i32_17
  let v48 : BitVec 1 := Scalar.andi v45 v47
  let v34 : BitVec 32 := Scalar.divsi v33 c2_i32
  let c1_i32_18 : BitVec 32 := 1#32
  let v49 : BitVec 32 := Scalar.subi v34 c1_i32_18
  let v50 : BitVec 32 := Scalar.select v48 v49 v34
  let v61 : BitVec 32 := Scalar.xori v60 v50
  let c256_i32_136 : BitVec 32 := 256#32
  let v215 : BitVec 32 := Scalar.muli v61 c256_i32_136
  let v544 : Index := Scalar.indexCast v215
  let c128_287 : Index := 128#32
  ![v544.toNat, 128]
def k0_off24 (d0 : Dev nD) : Fin 2 → Nat :=
  let v4 : BitVec 32 := Dev.word d0
  let c1_i32_1 : BitVec 32 := 1#32
  let v5 : BitVec 32 := Scalar.divsi v4 c1_i32_1
  let c16_i32_0 : BitVec 32 := 16#32
  let v6 : BitVec 32 := Scalar.remsi v5 c16_i32_0
  let c4_i32_7 : BitVec 32 := 4#32
  let c0_i32_8 : BitVec 32 := 0#32
  let v24 : BitVec 1 := Scalar.cmpi .eq c4_i32_7 c0_i32_8
  let c1_i32_9 : BitVec 32 := 1#32
  let v25 : BitVec 32 := Scalar.select v24 c1_i32_9 c4_i32_7
  let v26 : BitVec 32 := Scalar.remsi v6 v25
  let c0_i32_11 : BitVec 32 := 0#32
  let v28 : BitVec 1 := Scalar.cmpi .slt v26 c0_i32_11
  let c0_i32_12 : BitVec 32 := 0#32
  let v29 : BitVec 1 := Scalar.cmpi .slt v25 c0_i32_12
  let v30 : BitVec 1 := Scalar.xori v28 v29
  let c0_i32_10 : BitVec 32 := 0#32
  let v27 : BitVec 1 := Scalar.cmpi .ne v26 c0_i32_10
  let v31 : BitVec 1 := Scalar.andi v30 v27
  let v32 : BitVec 32 := Scalar.addi v26 v25
  let v33 : BitVec 32 := Scalar.select v31 v32 v26
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v33 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_13 : BitVec 32 := 0#32
  let v35 : BitVec 1 := Scalar.cmpi .sgt v33 c0_i32_13
  let v36 : BitVec 32 := Scalar.extui v35
  let c0_i32_14 : BitVec 32 := 0#32
  let v37 : BitVec 1 := Scalar.cmpi .slt v33 c0_i32_14
  let v38 : BitVec 32 := Scalar.extui v37
  let v39 : BitVec 32 := Scalar.subi v36 v38
  let c2_i32 : BitVec 32 := 2#32
  let c0_i32_15 : BitVec 32 := 0#32
  let v40 : BitVec 1 := Scalar.cmpi .sgt c2_i32 c0_i32_15
  let v41 : BitVec 32 := Scalar.extui v40
  let c0_i32_16 : BitVec 32 := 0#32
  let v42 : BitVec 1 := Scalar.cmpi .slt c2_i32 c0_i32_16
  let v43 : BitVec 32 := Scalar.extui v42
  let v44 : BitVec 32 := Scalar.subi v41 v43
  let v45 : BitVec 1 := Scalar.cmpi .ne v39 v44
  let v46 : BitVec 32 := Scalar.remsi v33 c2_i32
  let c0_i32_17 : BitVec 32 := 0#32
  let v47 : BitVec 1 := Scalar.cmpi .ne v46 c0_i32_17
  let v48 : BitVec 1 := Scalar.andi v45 v47
  let v34 : BitVec 32 := Scalar.divsi v33 c2_i32
  let c1_i32_18 : BitVec 32 := 1#32
  let v49 : BitVec 32 := Scalar.subi v34 c1_i32_18
  let v50 : BitVec 32 := Scalar.select v48 v49 v34
  let v61 : BitVec 32 := Scalar.xori v60 v50
  let c256_i32_136 : BitVec 32 := 256#32
  let v215 : BitVec 32 := Scalar.muli v61 c256_i32_136
  let v555 : Index := Scalar.indexCast v215
  let c256_291 : Index := 256#32
  ![v555.toNat, 256]
def k0_off25 (d0 : Dev nD) : Fin 2 → Nat :=
  let v4 : BitVec 32 := Dev.word d0
  let c1_i32_1 : BitVec 32 := 1#32
  let v5 : BitVec 32 := Scalar.divsi v4 c1_i32_1
  let c16_i32_0 : BitVec 32 := 16#32
  let v6 : BitVec 32 := Scalar.remsi v5 c16_i32_0
  let c4_i32_7 : BitVec 32 := 4#32
  let c0_i32_8 : BitVec 32 := 0#32
  let v24 : BitVec 1 := Scalar.cmpi .eq c4_i32_7 c0_i32_8
  let c1_i32_9 : BitVec 32 := 1#32
  let v25 : BitVec 32 := Scalar.select v24 c1_i32_9 c4_i32_7
  let v26 : BitVec 32 := Scalar.remsi v6 v25
  let c0_i32_11 : BitVec 32 := 0#32
  let v28 : BitVec 1 := Scalar.cmpi .slt v26 c0_i32_11
  let c0_i32_12 : BitVec 32 := 0#32
  let v29 : BitVec 1 := Scalar.cmpi .slt v25 c0_i32_12
  let v30 : BitVec 1 := Scalar.xori v28 v29
  let c0_i32_10 : BitVec 32 := 0#32
  let v27 : BitVec 1 := Scalar.cmpi .ne v26 c0_i32_10
  let v31 : BitVec 1 := Scalar.andi v30 v27
  let v32 : BitVec 32 := Scalar.addi v26 v25
  let v33 : BitVec 32 := Scalar.select v31 v32 v26
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v33 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_13 : BitVec 32 := 0#32
  let v35 : BitVec 1 := Scalar.cmpi .sgt v33 c0_i32_13
  let v36 : BitVec 32 := Scalar.extui v35
  let c0_i32_14 : BitVec 32 := 0#32
  let v37 : BitVec 1 := Scalar.cmpi .slt v33 c0_i32_14
  let v38 : BitVec 32 := Scalar.extui v37
  let v39 : BitVec 32 := Scalar.subi v36 v38
  let c2_i32 : BitVec 32 := 2#32
  let c0_i32_15 : BitVec 32 := 0#32
  let v40 : BitVec 1 := Scalar.cmpi .sgt c2_i32 c0_i32_15
  let v41 : BitVec 32 := Scalar.extui v40
  let c0_i32_16 : BitVec 32 := 0#32
  let v42 : BitVec 1 := Scalar.cmpi .slt c2_i32 c0_i32_16
  let v43 : BitVec 32 := Scalar.extui v42
  let v44 : BitVec 32 := Scalar.subi v41 v43
  let v45 : BitVec 1 := Scalar.cmpi .ne v39 v44
  let v46 : BitVec 32 := Scalar.remsi v33 c2_i32
  let c0_i32_17 : BitVec 32 := 0#32
  let v47 : BitVec 1 := Scalar.cmpi .ne v46 c0_i32_17
  let v48 : BitVec 1 := Scalar.andi v45 v47
  let v34 : BitVec 32 := Scalar.divsi v33 c2_i32
  let c1_i32_18 : BitVec 32 := 1#32
  let v49 : BitVec 32 := Scalar.subi v34 c1_i32_18
  let v50 : BitVec 32 := Scalar.select v48 v49 v34
  let v61 : BitVec 32 := Scalar.xori v60 v50
  let c256_i32_136 : BitVec 32 := 256#32
  let v215 : BitVec 32 := Scalar.muli v61 c256_i32_136
  let v566 : Index := Scalar.indexCast v215
  let c384_295 : Index := 384#32
  ![v566.toNat, 384]
def k0_off26 (d0 : Dev nD) : Fin 2 → Nat :=
  let v4 : BitVec 32 := Dev.word d0
  let c1_i32_1 : BitVec 32 := 1#32
  let v5 : BitVec 32 := Scalar.divsi v4 c1_i32_1
  let c16_i32_0 : BitVec 32 := 16#32
  let v6 : BitVec 32 := Scalar.remsi v5 c16_i32_0
  let c4_i32_7 : BitVec 32 := 4#32
  let c0_i32_8 : BitVec 32 := 0#32
  let v24 : BitVec 1 := Scalar.cmpi .eq c4_i32_7 c0_i32_8
  let c1_i32_9 : BitVec 32 := 1#32
  let v25 : BitVec 32 := Scalar.select v24 c1_i32_9 c4_i32_7
  let v26 : BitVec 32 := Scalar.remsi v6 v25
  let c0_i32_11 : BitVec 32 := 0#32
  let v28 : BitVec 1 := Scalar.cmpi .slt v26 c0_i32_11
  let c0_i32_12 : BitVec 32 := 0#32
  let v29 : BitVec 1 := Scalar.cmpi .slt v25 c0_i32_12
  let v30 : BitVec 1 := Scalar.xori v28 v29
  let c0_i32_10 : BitVec 32 := 0#32
  let v27 : BitVec 1 := Scalar.cmpi .ne v26 c0_i32_10
  let v31 : BitVec 1 := Scalar.andi v30 v27
  let v32 : BitVec 32 := Scalar.addi v26 v25
  let v33 : BitVec 32 := Scalar.select v31 v32 v26
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v33 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_13 : BitVec 32 := 0#32
  let v35 : BitVec 1 := Scalar.cmpi .sgt v33 c0_i32_13
  let v36 : BitVec 32 := Scalar.extui v35
  let c0_i32_14 : BitVec 32 := 0#32
  let v37 : BitVec 1 := Scalar.cmpi .slt v33 c0_i32_14
  let v38 : BitVec 32 := Scalar.extui v37
  let v39 : BitVec 32 := Scalar.subi v36 v38
  let c2_i32 : BitVec 32 := 2#32
  let c0_i32_15 : BitVec 32 := 0#32
  let v40 : BitVec 1 := Scalar.cmpi .sgt c2_i32 c0_i32_15
  let v41 : BitVec 32 := Scalar.extui v40
  let c0_i32_16 : BitVec 32 := 0#32
  let v42 : BitVec 1 := Scalar.cmpi .slt c2_i32 c0_i32_16
  let v43 : BitVec 32 := Scalar.extui v42
  let v44 : BitVec 32 := Scalar.subi v41 v43
  let v45 : BitVec 1 := Scalar.cmpi .ne v39 v44
  let v46 : BitVec 32 := Scalar.remsi v33 c2_i32
  let c0_i32_17 : BitVec 32 := 0#32
  let v47 : BitVec 1 := Scalar.cmpi .ne v46 c0_i32_17
  let v48 : BitVec 1 := Scalar.andi v45 v47
  let v34 : BitVec 32 := Scalar.divsi v33 c2_i32
  let c1_i32_18 : BitVec 32 := 1#32
  let v49 : BitVec 32 := Scalar.subi v34 c1_i32_18
  let v50 : BitVec 32 := Scalar.select v48 v49 v34
  let v61 : BitVec 32 := Scalar.xori v60 v50
  let c256_i32_136 : BitVec 32 := 256#32
  let v215 : BitVec 32 := Scalar.muli v61 c256_i32_136
  let v577 : Index := Scalar.indexCast v215
  let c512_299 : Index := 512#32
  ![v577.toNat, 512]
def k0_off27 (d0 : Dev nD) : Fin 2 → Nat :=
  let v4 : BitVec 32 := Dev.word d0
  let c1_i32_1 : BitVec 32 := 1#32
  let v5 : BitVec 32 := Scalar.divsi v4 c1_i32_1
  let c16_i32_0 : BitVec 32 := 16#32
  let v6 : BitVec 32 := Scalar.remsi v5 c16_i32_0
  let c4_i32_7 : BitVec 32 := 4#32
  let c0_i32_8 : BitVec 32 := 0#32
  let v24 : BitVec 1 := Scalar.cmpi .eq c4_i32_7 c0_i32_8
  let c1_i32_9 : BitVec 32 := 1#32
  let v25 : BitVec 32 := Scalar.select v24 c1_i32_9 c4_i32_7
  let v26 : BitVec 32 := Scalar.remsi v6 v25
  let c0_i32_11 : BitVec 32 := 0#32
  let v28 : BitVec 1 := Scalar.cmpi .slt v26 c0_i32_11
  let c0_i32_12 : BitVec 32 := 0#32
  let v29 : BitVec 1 := Scalar.cmpi .slt v25 c0_i32_12
  let v30 : BitVec 1 := Scalar.xori v28 v29
  let c0_i32_10 : BitVec 32 := 0#32
  let v27 : BitVec 1 := Scalar.cmpi .ne v26 c0_i32_10
  let v31 : BitVec 1 := Scalar.andi v30 v27
  let v32 : BitVec 32 := Scalar.addi v26 v25
  let v33 : BitVec 32 := Scalar.select v31 v32 v26
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v33 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_13 : BitVec 32 := 0#32
  let v35 : BitVec 1 := Scalar.cmpi .sgt v33 c0_i32_13
  let v36 : BitVec 32 := Scalar.extui v35
  let c0_i32_14 : BitVec 32 := 0#32
  let v37 : BitVec 1 := Scalar.cmpi .slt v33 c0_i32_14
  let v38 : BitVec 32 := Scalar.extui v37
  let v39 : BitVec 32 := Scalar.subi v36 v38
  let c2_i32 : BitVec 32 := 2#32
  let c0_i32_15 : BitVec 32 := 0#32
  let v40 : BitVec 1 := Scalar.cmpi .sgt c2_i32 c0_i32_15
  let v41 : BitVec 32 := Scalar.extui v40
  let c0_i32_16 : BitVec 32 := 0#32
  let v42 : BitVec 1 := Scalar.cmpi .slt c2_i32 c0_i32_16
  let v43 : BitVec 32 := Scalar.extui v42
  let v44 : BitVec 32 := Scalar.subi v41 v43
  let v45 : BitVec 1 := Scalar.cmpi .ne v39 v44
  let v46 : BitVec 32 := Scalar.remsi v33 c2_i32
  let c0_i32_17 : BitVec 32 := 0#32
  let v47 : BitVec 1 := Scalar.cmpi .ne v46 c0_i32_17
  let v48 : BitVec 1 := Scalar.andi v45 v47
  let v34 : BitVec 32 := Scalar.divsi v33 c2_i32
  let c1_i32_18 : BitVec 32 := 1#32
  let v49 : BitVec 32 := Scalar.subi v34 c1_i32_18
  let v50 : BitVec 32 := Scalar.select v48 v49 v34
  let v61 : BitVec 32 := Scalar.xori v60 v50
  let c256_i32_136 : BitVec 32 := 256#32
  let v215 : BitVec 32 := Scalar.muli v61 c256_i32_136
  let v588 : Index := Scalar.indexCast v215
  let c640_303 : Index := 640#32
  ![v588.toNat, 640]
def k0_off28 (d0 : Dev nD) : Fin 2 → Nat :=
  let v4 : BitVec 32 := Dev.word d0
  let c1_i32_1 : BitVec 32 := 1#32
  let v5 : BitVec 32 := Scalar.divsi v4 c1_i32_1
  let c16_i32_0 : BitVec 32 := 16#32
  let v6 : BitVec 32 := Scalar.remsi v5 c16_i32_0
  let c4_i32_7 : BitVec 32 := 4#32
  let c0_i32_8 : BitVec 32 := 0#32
  let v24 : BitVec 1 := Scalar.cmpi .eq c4_i32_7 c0_i32_8
  let c1_i32_9 : BitVec 32 := 1#32
  let v25 : BitVec 32 := Scalar.select v24 c1_i32_9 c4_i32_7
  let v26 : BitVec 32 := Scalar.remsi v6 v25
  let c0_i32_11 : BitVec 32 := 0#32
  let v28 : BitVec 1 := Scalar.cmpi .slt v26 c0_i32_11
  let c0_i32_12 : BitVec 32 := 0#32
  let v29 : BitVec 1 := Scalar.cmpi .slt v25 c0_i32_12
  let v30 : BitVec 1 := Scalar.xori v28 v29
  let c0_i32_10 : BitVec 32 := 0#32
  let v27 : BitVec 1 := Scalar.cmpi .ne v26 c0_i32_10
  let v31 : BitVec 1 := Scalar.andi v30 v27
  let v32 : BitVec 32 := Scalar.addi v26 v25
  let v33 : BitVec 32 := Scalar.select v31 v32 v26
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v33 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_13 : BitVec 32 := 0#32
  let v35 : BitVec 1 := Scalar.cmpi .sgt v33 c0_i32_13
  let v36 : BitVec 32 := Scalar.extui v35
  let c0_i32_14 : BitVec 32 := 0#32
  let v37 : BitVec 1 := Scalar.cmpi .slt v33 c0_i32_14
  let v38 : BitVec 32 := Scalar.extui v37
  let v39 : BitVec 32 := Scalar.subi v36 v38
  let c2_i32 : BitVec 32 := 2#32
  let c0_i32_15 : BitVec 32 := 0#32
  let v40 : BitVec 1 := Scalar.cmpi .sgt c2_i32 c0_i32_15
  let v41 : BitVec 32 := Scalar.extui v40
  let c0_i32_16 : BitVec 32 := 0#32
  let v42 : BitVec 1 := Scalar.cmpi .slt c2_i32 c0_i32_16
  let v43 : BitVec 32 := Scalar.extui v42
  let v44 : BitVec 32 := Scalar.subi v41 v43
  let v45 : BitVec 1 := Scalar.cmpi .ne v39 v44
  let v46 : BitVec 32 := Scalar.remsi v33 c2_i32
  let c0_i32_17 : BitVec 32 := 0#32
  let v47 : BitVec 1 := Scalar.cmpi .ne v46 c0_i32_17
  let v48 : BitVec 1 := Scalar.andi v45 v47
  let v34 : BitVec 32 := Scalar.divsi v33 c2_i32
  let c1_i32_18 : BitVec 32 := 1#32
  let v49 : BitVec 32 := Scalar.subi v34 c1_i32_18
  let v50 : BitVec 32 := Scalar.select v48 v49 v34
  let v61 : BitVec 32 := Scalar.xori v60 v50
  let c256_i32_136 : BitVec 32 := 256#32
  let v215 : BitVec 32 := Scalar.muli v61 c256_i32_136
  let v599 : Index := Scalar.indexCast v215
  let c768_307 : Index := 768#32
  ![v599.toNat, 768]
def k0_off29 (d0 : Dev nD) : Fin 2 → Nat :=
  let v4 : BitVec 32 := Dev.word d0
  let c1_i32_1 : BitVec 32 := 1#32
  let v5 : BitVec 32 := Scalar.divsi v4 c1_i32_1
  let c16_i32_0 : BitVec 32 := 16#32
  let v6 : BitVec 32 := Scalar.remsi v5 c16_i32_0
  let c4_i32_7 : BitVec 32 := 4#32
  let c0_i32_8 : BitVec 32 := 0#32
  let v24 : BitVec 1 := Scalar.cmpi .eq c4_i32_7 c0_i32_8
  let c1_i32_9 : BitVec 32 := 1#32
  let v25 : BitVec 32 := Scalar.select v24 c1_i32_9 c4_i32_7
  let v26 : BitVec 32 := Scalar.remsi v6 v25
  let c0_i32_11 : BitVec 32 := 0#32
  let v28 : BitVec 1 := Scalar.cmpi .slt v26 c0_i32_11
  let c0_i32_12 : BitVec 32 := 0#32
  let v29 : BitVec 1 := Scalar.cmpi .slt v25 c0_i32_12
  let v30 : BitVec 1 := Scalar.xori v28 v29
  let c0_i32_10 : BitVec 32 := 0#32
  let v27 : BitVec 1 := Scalar.cmpi .ne v26 c0_i32_10
  let v31 : BitVec 1 := Scalar.andi v30 v27
  let v32 : BitVec 32 := Scalar.addi v26 v25
  let v33 : BitVec 32 := Scalar.select v31 v32 v26
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v33 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_13 : BitVec 32 := 0#32
  let v35 : BitVec 1 := Scalar.cmpi .sgt v33 c0_i32_13
  let v36 : BitVec 32 := Scalar.extui v35
  let c0_i32_14 : BitVec 32 := 0#32
  let v37 : BitVec 1 := Scalar.cmpi .slt v33 c0_i32_14
  let v38 : BitVec 32 := Scalar.extui v37
  let v39 : BitVec 32 := Scalar.subi v36 v38
  let c2_i32 : BitVec 32 := 2#32
  let c0_i32_15 : BitVec 32 := 0#32
  let v40 : BitVec 1 := Scalar.cmpi .sgt c2_i32 c0_i32_15
  let v41 : BitVec 32 := Scalar.extui v40
  let c0_i32_16 : BitVec 32 := 0#32
  let v42 : BitVec 1 := Scalar.cmpi .slt c2_i32 c0_i32_16
  let v43 : BitVec 32 := Scalar.extui v42
  let v44 : BitVec 32 := Scalar.subi v41 v43
  let v45 : BitVec 1 := Scalar.cmpi .ne v39 v44
  let v46 : BitVec 32 := Scalar.remsi v33 c2_i32
  let c0_i32_17 : BitVec 32 := 0#32
  let v47 : BitVec 1 := Scalar.cmpi .ne v46 c0_i32_17
  let v48 : BitVec 1 := Scalar.andi v45 v47
  let v34 : BitVec 32 := Scalar.divsi v33 c2_i32
  let c1_i32_18 : BitVec 32 := 1#32
  let v49 : BitVec 32 := Scalar.subi v34 c1_i32_18
  let v50 : BitVec 32 := Scalar.select v48 v49 v34
  let v61 : BitVec 32 := Scalar.xori v60 v50
  let c256_i32_136 : BitVec 32 := 256#32
  let v215 : BitVec 32 := Scalar.muli v61 c256_i32_136
  let v610 : Index := Scalar.indexCast v215
  let c896_311 : Index := 896#32
  ![v610.toNat, 896]
def k0_off30 (d0 : Dev nD) : Fin 2 → Nat :=
  let v4 : BitVec 32 := Dev.word d0
  let c1_i32_1 : BitVec 32 := 1#32
  let v5 : BitVec 32 := Scalar.divsi v4 c1_i32_1
  let c16_i32_0 : BitVec 32 := 16#32
  let v6 : BitVec 32 := Scalar.remsi v5 c16_i32_0
  let c4_i32_7 : BitVec 32 := 4#32
  let c0_i32_8 : BitVec 32 := 0#32
  let v24 : BitVec 1 := Scalar.cmpi .eq c4_i32_7 c0_i32_8
  let c1_i32_9 : BitVec 32 := 1#32
  let v25 : BitVec 32 := Scalar.select v24 c1_i32_9 c4_i32_7
  let v26 : BitVec 32 := Scalar.remsi v6 v25
  let c0_i32_11 : BitVec 32 := 0#32
  let v28 : BitVec 1 := Scalar.cmpi .slt v26 c0_i32_11
  let c0_i32_12 : BitVec 32 := 0#32
  let v29 : BitVec 1 := Scalar.cmpi .slt v25 c0_i32_12
  let v30 : BitVec 1 := Scalar.xori v28 v29
  let c0_i32_10 : BitVec 32 := 0#32
  let v27 : BitVec 1 := Scalar.cmpi .ne v26 c0_i32_10
  let v31 : BitVec 1 := Scalar.andi v30 v27
  let v32 : BitVec 32 := Scalar.addi v26 v25
  let v33 : BitVec 32 := Scalar.select v31 v32 v26
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v33 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_13 : BitVec 32 := 0#32
  let v35 : BitVec 1 := Scalar.cmpi .sgt v33 c0_i32_13
  let v36 : BitVec 32 := Scalar.extui v35
  let c0_i32_14 : BitVec 32 := 0#32
  let v37 : BitVec 1 := Scalar.cmpi .slt v33 c0_i32_14
  let v38 : BitVec 32 := Scalar.extui v37
  let v39 : BitVec 32 := Scalar.subi v36 v38
  let c2_i32 : BitVec 32 := 2#32
  let c0_i32_15 : BitVec 32 := 0#32
  let v40 : BitVec 1 := Scalar.cmpi .sgt c2_i32 c0_i32_15
  let v41 : BitVec 32 := Scalar.extui v40
  let c0_i32_16 : BitVec 32 := 0#32
  let v42 : BitVec 1 := Scalar.cmpi .slt c2_i32 c0_i32_16
  let v43 : BitVec 32 := Scalar.extui v42
  let v44 : BitVec 32 := Scalar.subi v41 v43
  let v45 : BitVec 1 := Scalar.cmpi .ne v39 v44
  let v46 : BitVec 32 := Scalar.remsi v33 c2_i32
  let c0_i32_17 : BitVec 32 := 0#32
  let v47 : BitVec 1 := Scalar.cmpi .ne v46 c0_i32_17
  let v48 : BitVec 1 := Scalar.andi v45 v47
  let v34 : BitVec 32 := Scalar.divsi v33 c2_i32
  let c1_i32_18 : BitVec 32 := 1#32
  let v49 : BitVec 32 := Scalar.subi v34 c1_i32_18
  let v50 : BitVec 32 := Scalar.select v48 v49 v34
  let v61 : BitVec 32 := Scalar.xori v60 v50
  let c256_i32_136 : BitVec 32 := 256#32
  let v215 : BitVec 32 := Scalar.muli v61 c256_i32_136
  let v624 : Index := Scalar.indexCast v215
  let c0_316 : Index := 0#32
  ![v624.toNat, 0]
def k0_off31 (d0 : Dev nD) : Fin 2 → Nat :=
  let c512_i32_138 : BitVec 32 := 512#32
  let v4 : BitVec 32 := Dev.word d0
  let c1_i32_1 : BitVec 32 := 1#32
  let v5 : BitVec 32 := Scalar.divsi v4 c1_i32_1
  let c16_i32_0 : BitVec 32 := 16#32
  let v6 : BitVec 32 := Scalar.remsi v5 c16_i32_0
  let c4_i32_7 : BitVec 32 := 4#32
  let c0_i32_8 : BitVec 32 := 0#32
  let v24 : BitVec 1 := Scalar.cmpi .eq c4_i32_7 c0_i32_8
  let c1_i32_9 : BitVec 32 := 1#32
  let v25 : BitVec 32 := Scalar.select v24 c1_i32_9 c4_i32_7
  let v26 : BitVec 32 := Scalar.remsi v6 v25
  let c0_i32_11 : BitVec 32 := 0#32
  let v28 : BitVec 1 := Scalar.cmpi .slt v26 c0_i32_11
  let c0_i32_12 : BitVec 32 := 0#32
  let v29 : BitVec 1 := Scalar.cmpi .slt v25 c0_i32_12
  let v30 : BitVec 1 := Scalar.xori v28 v29
  let c0_i32_10 : BitVec 32 := 0#32
  let v27 : BitVec 1 := Scalar.cmpi .ne v26 c0_i32_10
  let v31 : BitVec 1 := Scalar.andi v30 v27
  let v32 : BitVec 32 := Scalar.addi v26 v25
  let v33 : BitVec 32 := Scalar.select v31 v32 v26
  let c0_i32_13 : BitVec 32 := 0#32
  let v35 : BitVec 1 := Scalar.cmpi .sgt v33 c0_i32_13
  let v36 : BitVec 32 := Scalar.extui v35
  let c0_i32_14 : BitVec 32 := 0#32
  let v37 : BitVec 1 := Scalar.cmpi .slt v33 c0_i32_14
  let v38 : BitVec 32 := Scalar.extui v37
  let v39 : BitVec 32 := Scalar.subi v36 v38
  let c2_i32 : BitVec 32 := 2#32
  let c0_i32_15 : BitVec 32 := 0#32
  let v40 : BitVec 1 := Scalar.cmpi .sgt c2_i32 c0_i32_15
  let v41 : BitVec 32 := Scalar.extui v40
  let c0_i32_16 : BitVec 32 := 0#32
  let v42 : BitVec 1 := Scalar.cmpi .slt c2_i32 c0_i32_16
  let v43 : BitVec 32 := Scalar.extui v42
  let v44 : BitVec 32 := Scalar.subi v41 v43
  let v45 : BitVec 1 := Scalar.cmpi .ne v39 v44
  let v46 : BitVec 32 := Scalar.remsi v33 c2_i32
  let c0_i32_17 : BitVec 32 := 0#32
  let v47 : BitVec 1 := Scalar.cmpi .ne v46 c0_i32_17
  let v48 : BitVec 1 := Scalar.andi v45 v47
  let v34 : BitVec 32 := Scalar.divsi v33 c2_i32
  let c1_i32_18 : BitVec 32 := 1#32
  let v49 : BitVec 32 := Scalar.subi v34 c1_i32_18
  let v50 : BitVec 32 := Scalar.select v48 v49 v34
  let c256_i32_137 : BitVec 32 := 256#32
  let v216 : BitVec 32 := Scalar.muli v50 c256_i32_137
  let v217 : BitVec 32 := Scalar.addi c512_i32_138 v216
  let v643 : Index := Scalar.indexCast v217
  let c0_322 : Index := 0#32
  ![v643.toNat, 0]
def k0_off32 (d0 : Dev nD) : Fin 2 → Nat :=
  let c512_i32_138 : BitVec 32 := 512#32
  let v4 : BitVec 32 := Dev.word d0
  let c1_i32_1 : BitVec 32 := 1#32
  let v5 : BitVec 32 := Scalar.divsi v4 c1_i32_1
  let c16_i32_0 : BitVec 32 := 16#32
  let v6 : BitVec 32 := Scalar.remsi v5 c16_i32_0
  let c4_i32_7 : BitVec 32 := 4#32
  let c0_i32_8 : BitVec 32 := 0#32
  let v24 : BitVec 1 := Scalar.cmpi .eq c4_i32_7 c0_i32_8
  let c1_i32_9 : BitVec 32 := 1#32
  let v25 : BitVec 32 := Scalar.select v24 c1_i32_9 c4_i32_7
  let v26 : BitVec 32 := Scalar.remsi v6 v25
  let c0_i32_11 : BitVec 32 := 0#32
  let v28 : BitVec 1 := Scalar.cmpi .slt v26 c0_i32_11
  let c0_i32_12 : BitVec 32 := 0#32
  let v29 : BitVec 1 := Scalar.cmpi .slt v25 c0_i32_12
  let v30 : BitVec 1 := Scalar.xori v28 v29
  let c0_i32_10 : BitVec 32 := 0#32
  let v27 : BitVec 1 := Scalar.cmpi .ne v26 c0_i32_10
  let v31 : BitVec 1 := Scalar.andi v30 v27
  let v32 : BitVec 32 := Scalar.addi v26 v25
  let v33 : BitVec 32 := Scalar.select v31 v32 v26
  let c0_i32_13 : BitVec 32 := 0#32
  let v35 : BitVec 1 := Scalar.cmpi .sgt v33 c0_i32_13
  let v36 : BitVec 32 := Scalar.extui v35
  let c0_i32_14 : BitVec 32 := 0#32
  let v37 : BitVec 1 := Scalar.cmpi .slt v33 c0_i32_14
  let v38 : BitVec 32 := Scalar.extui v37
  let v39 : BitVec 32 := Scalar.subi v36 v38
  let c2_i32 : BitVec 32 := 2#32
  let c0_i32_15 : BitVec 32 := 0#32
  let v40 : BitVec 1 := Scalar.cmpi .sgt c2_i32 c0_i32_15
  let v41 : BitVec 32 := Scalar.extui v40
  let c0_i32_16 : BitVec 32 := 0#32
  let v42 : BitVec 1 := Scalar.cmpi .slt c2_i32 c0_i32_16
  let v43 : BitVec 32 := Scalar.extui v42
  let v44 : BitVec 32 := Scalar.subi v41 v43
  let v45 : BitVec 1 := Scalar.cmpi .ne v39 v44
  let v46 : BitVec 32 := Scalar.remsi v33 c2_i32
  let c0_i32_17 : BitVec 32 := 0#32
  let v47 : BitVec 1 := Scalar.cmpi .ne v46 c0_i32_17
  let v48 : BitVec 1 := Scalar.andi v45 v47
  let v34 : BitVec 32 := Scalar.divsi v33 c2_i32
  let c1_i32_18 : BitVec 32 := 1#32
  let v49 : BitVec 32 := Scalar.subi v34 c1_i32_18
  let v50 : BitVec 32 := Scalar.select v48 v49 v34
  let c256_i32_137 : BitVec 32 := 256#32
  let v216 : BitVec 32 := Scalar.muli v50 c256_i32_137
  let v217 : BitVec 32 := Scalar.addi c512_i32_138 v216
  let v654 : Index := Scalar.indexCast v217
  let c128_326 : Index := 128#32
  ![v654.toNat, 128]
def k0_off33 (d0 : Dev nD) : Fin 2 → Nat :=
  let c512_i32_138 : BitVec 32 := 512#32
  let v4 : BitVec 32 := Dev.word d0
  let c1_i32_1 : BitVec 32 := 1#32
  let v5 : BitVec 32 := Scalar.divsi v4 c1_i32_1
  let c16_i32_0 : BitVec 32 := 16#32
  let v6 : BitVec 32 := Scalar.remsi v5 c16_i32_0
  let c4_i32_7 : BitVec 32 := 4#32
  let c0_i32_8 : BitVec 32 := 0#32
  let v24 : BitVec 1 := Scalar.cmpi .eq c4_i32_7 c0_i32_8
  let c1_i32_9 : BitVec 32 := 1#32
  let v25 : BitVec 32 := Scalar.select v24 c1_i32_9 c4_i32_7
  let v26 : BitVec 32 := Scalar.remsi v6 v25
  let c0_i32_11 : BitVec 32 := 0#32
  let v28 : BitVec 1 := Scalar.cmpi .slt v26 c0_i32_11
  let c0_i32_12 : BitVec 32 := 0#32
  let v29 : BitVec 1 := Scalar.cmpi .slt v25 c0_i32_12
  let v30 : BitVec 1 := Scalar.xori v28 v29
  let c0_i32_10 : BitVec 32 := 0#32
  let v27 : BitVec 1 := Scalar.cmpi .ne v26 c0_i32_10
  let v31 : BitVec 1 := Scalar.andi v30 v27
  let v32 : BitVec 32 := Scalar.addi v26 v25
  let v33 : BitVec 32 := Scalar.select v31 v32 v26
  let c0_i32_13 : BitVec 32 := 0#32
  let v35 : BitVec 1 := Scalar.cmpi .sgt v33 c0_i32_13
  let v36 : BitVec 32 := Scalar.extui v35
  let c0_i32_14 : BitVec 32 := 0#32
  let v37 : BitVec 1 := Scalar.cmpi .slt v33 c0_i32_14
  let v38 : BitVec 32 := Scalar.extui v37
  let v39 : BitVec 32 := Scalar.subi v36 v38
  let c2_i32 : BitVec 32 := 2#32
  let c0_i32_15 : BitVec 32 := 0#32
  let v40 : BitVec 1 := Scalar.cmpi .sgt c2_i32 c0_i32_15
  let v41 : BitVec 32 := Scalar.extui v40
  let c0_i32_16 : BitVec 32 := 0#32
  let v42 : BitVec 1 := Scalar.cmpi .slt c2_i32 c0_i32_16
  let v43 : BitVec 32 := Scalar.extui v42
  let v44 : BitVec 32 := Scalar.subi v41 v43
  let v45 : BitVec 1 := Scalar.cmpi .ne v39 v44
  let v46 : BitVec 32 := Scalar.remsi v33 c2_i32
  let c0_i32_17 : BitVec 32 := 0#32
  let v47 : BitVec 1 := Scalar.cmpi .ne v46 c0_i32_17
  let v48 : BitVec 1 := Scalar.andi v45 v47
  let v34 : BitVec 32 := Scalar.divsi v33 c2_i32
  let c1_i32_18 : BitVec 32 := 1#32
  let v49 : BitVec 32 := Scalar.subi v34 c1_i32_18
  let v50 : BitVec 32 := Scalar.select v48 v49 v34
  let c256_i32_137 : BitVec 32 := 256#32
  let v216 : BitVec 32 := Scalar.muli v50 c256_i32_137
  let v217 : BitVec 32 := Scalar.addi c512_i32_138 v216
  let v665 : Index := Scalar.indexCast v217
  let c256_330 : Index := 256#32
  ![v665.toNat, 256]
def k0_off34 (d0 : Dev nD) : Fin 2 → Nat :=
  let c512_i32_138 : BitVec 32 := 512#32
  let v4 : BitVec 32 := Dev.word d0
  let c1_i32_1 : BitVec 32 := 1#32
  let v5 : BitVec 32 := Scalar.divsi v4 c1_i32_1
  let c16_i32_0 : BitVec 32 := 16#32
  let v6 : BitVec 32 := Scalar.remsi v5 c16_i32_0
  let c4_i32_7 : BitVec 32 := 4#32
  let c0_i32_8 : BitVec 32 := 0#32
  let v24 : BitVec 1 := Scalar.cmpi .eq c4_i32_7 c0_i32_8
  let c1_i32_9 : BitVec 32 := 1#32
  let v25 : BitVec 32 := Scalar.select v24 c1_i32_9 c4_i32_7
  let v26 : BitVec 32 := Scalar.remsi v6 v25
  let c0_i32_11 : BitVec 32 := 0#32
  let v28 : BitVec 1 := Scalar.cmpi .slt v26 c0_i32_11
  let c0_i32_12 : BitVec 32 := 0#32
  let v29 : BitVec 1 := Scalar.cmpi .slt v25 c0_i32_12
  let v30 : BitVec 1 := Scalar.xori v28 v29
  let c0_i32_10 : BitVec 32 := 0#32
  let v27 : BitVec 1 := Scalar.cmpi .ne v26 c0_i32_10
  let v31 : BitVec 1 := Scalar.andi v30 v27
  let v32 : BitVec 32 := Scalar.addi v26 v25
  let v33 : BitVec 32 := Scalar.select v31 v32 v26
  let c0_i32_13 : BitVec 32 := 0#32
  let v35 : BitVec 1 := Scalar.cmpi .sgt v33 c0_i32_13
  let v36 : BitVec 32 := Scalar.extui v35
  let c0_i32_14 : BitVec 32 := 0#32
  let v37 : BitVec 1 := Scalar.cmpi .slt v33 c0_i32_14
  let v38 : BitVec 32 := Scalar.extui v37
  let v39 : BitVec 32 := Scalar.subi v36 v38
  let c2_i32 : BitVec 32 := 2#32
  let c0_i32_15 : BitVec 32 := 0#32
  let v40 : BitVec 1 := Scalar.cmpi .sgt c2_i32 c0_i32_15
  let v41 : BitVec 32 := Scalar.extui v40
  let c0_i32_16 : BitVec 32 := 0#32
  let v42 : BitVec 1 := Scalar.cmpi .slt c2_i32 c0_i32_16
  let v43 : BitVec 32 := Scalar.extui v42
  let v44 : BitVec 32 := Scalar.subi v41 v43
  let v45 : BitVec 1 := Scalar.cmpi .ne v39 v44
  let v46 : BitVec 32 := Scalar.remsi v33 c2_i32
  let c0_i32_17 : BitVec 32 := 0#32
  let v47 : BitVec 1 := Scalar.cmpi .ne v46 c0_i32_17
  let v48 : BitVec 1 := Scalar.andi v45 v47
  let v34 : BitVec 32 := Scalar.divsi v33 c2_i32
  let c1_i32_18 : BitVec 32 := 1#32
  let v49 : BitVec 32 := Scalar.subi v34 c1_i32_18
  let v50 : BitVec 32 := Scalar.select v48 v49 v34
  let c256_i32_137 : BitVec 32 := 256#32
  let v216 : BitVec 32 := Scalar.muli v50 c256_i32_137
  let v217 : BitVec 32 := Scalar.addi c512_i32_138 v216
  let v676 : Index := Scalar.indexCast v217
  let c384_334 : Index := 384#32
  ![v676.toNat, 384]
def k0_off35 (d0 : Dev nD) : Fin 2 → Nat :=
  let c512_i32_138 : BitVec 32 := 512#32
  let v4 : BitVec 32 := Dev.word d0
  let c1_i32_1 : BitVec 32 := 1#32
  let v5 : BitVec 32 := Scalar.divsi v4 c1_i32_1
  let c16_i32_0 : BitVec 32 := 16#32
  let v6 : BitVec 32 := Scalar.remsi v5 c16_i32_0
  let c4_i32_7 : BitVec 32 := 4#32
  let c0_i32_8 : BitVec 32 := 0#32
  let v24 : BitVec 1 := Scalar.cmpi .eq c4_i32_7 c0_i32_8
  let c1_i32_9 : BitVec 32 := 1#32
  let v25 : BitVec 32 := Scalar.select v24 c1_i32_9 c4_i32_7
  let v26 : BitVec 32 := Scalar.remsi v6 v25
  let c0_i32_11 : BitVec 32 := 0#32
  let v28 : BitVec 1 := Scalar.cmpi .slt v26 c0_i32_11
  let c0_i32_12 : BitVec 32 := 0#32
  let v29 : BitVec 1 := Scalar.cmpi .slt v25 c0_i32_12
  let v30 : BitVec 1 := Scalar.xori v28 v29
  let c0_i32_10 : BitVec 32 := 0#32
  let v27 : BitVec 1 := Scalar.cmpi .ne v26 c0_i32_10
  let v31 : BitVec 1 := Scalar.andi v30 v27
  let v32 : BitVec 32 := Scalar.addi v26 v25
  let v33 : BitVec 32 := Scalar.select v31 v32 v26
  let c0_i32_13 : BitVec 32 := 0#32
  let v35 : BitVec 1 := Scalar.cmpi .sgt v33 c0_i32_13
  let v36 : BitVec 32 := Scalar.extui v35
  let c0_i32_14 : BitVec 32 := 0#32
  let v37 : BitVec 1 := Scalar.cmpi .slt v33 c0_i32_14
  let v38 : BitVec 32 := Scalar.extui v37
  let v39 : BitVec 32 := Scalar.subi v36 v38
  let c2_i32 : BitVec 32 := 2#32
  let c0_i32_15 : BitVec 32 := 0#32
  let v40 : BitVec 1 := Scalar.cmpi .sgt c2_i32 c0_i32_15
  let v41 : BitVec 32 := Scalar.extui v40
  let c0_i32_16 : BitVec 32 := 0#32
  let v42 : BitVec 1 := Scalar.cmpi .slt c2_i32 c0_i32_16
  let v43 : BitVec 32 := Scalar.extui v42
  let v44 : BitVec 32 := Scalar.subi v41 v43
  let v45 : BitVec 1 := Scalar.cmpi .ne v39 v44
  let v46 : BitVec 32 := Scalar.remsi v33 c2_i32
  let c0_i32_17 : BitVec 32 := 0#32
  let v47 : BitVec 1 := Scalar.cmpi .ne v46 c0_i32_17
  let v48 : BitVec 1 := Scalar.andi v45 v47
  let v34 : BitVec 32 := Scalar.divsi v33 c2_i32
  let c1_i32_18 : BitVec 32 := 1#32
  let v49 : BitVec 32 := Scalar.subi v34 c1_i32_18
  let v50 : BitVec 32 := Scalar.select v48 v49 v34
  let c256_i32_137 : BitVec 32 := 256#32
  let v216 : BitVec 32 := Scalar.muli v50 c256_i32_137
  let v217 : BitVec 32 := Scalar.addi c512_i32_138 v216
  let v687 : Index := Scalar.indexCast v217
  let c512_338 : Index := 512#32
  ![v687.toNat, 512]
def k0_off36 (d0 : Dev nD) : Fin 2 → Nat :=
  let c512_i32_138 : BitVec 32 := 512#32
  let v4 : BitVec 32 := Dev.word d0
  let c1_i32_1 : BitVec 32 := 1#32
  let v5 : BitVec 32 := Scalar.divsi v4 c1_i32_1
  let c16_i32_0 : BitVec 32 := 16#32
  let v6 : BitVec 32 := Scalar.remsi v5 c16_i32_0
  let c4_i32_7 : BitVec 32 := 4#32
  let c0_i32_8 : BitVec 32 := 0#32
  let v24 : BitVec 1 := Scalar.cmpi .eq c4_i32_7 c0_i32_8
  let c1_i32_9 : BitVec 32 := 1#32
  let v25 : BitVec 32 := Scalar.select v24 c1_i32_9 c4_i32_7
  let v26 : BitVec 32 := Scalar.remsi v6 v25
  let c0_i32_11 : BitVec 32 := 0#32
  let v28 : BitVec 1 := Scalar.cmpi .slt v26 c0_i32_11
  let c0_i32_12 : BitVec 32 := 0#32
  let v29 : BitVec 1 := Scalar.cmpi .slt v25 c0_i32_12
  let v30 : BitVec 1 := Scalar.xori v28 v29
  let c0_i32_10 : BitVec 32 := 0#32
  let v27 : BitVec 1 := Scalar.cmpi .ne v26 c0_i32_10
  let v31 : BitVec 1 := Scalar.andi v30 v27
  let v32 : BitVec 32 := Scalar.addi v26 v25
  let v33 : BitVec 32 := Scalar.select v31 v32 v26
  let c0_i32_13 : BitVec 32 := 0#32
  let v35 : BitVec 1 := Scalar.cmpi .sgt v33 c0_i32_13
  let v36 : BitVec 32 := Scalar.extui v35
  let c0_i32_14 : BitVec 32 := 0#32
  let v37 : BitVec 1 := Scalar.cmpi .slt v33 c0_i32_14
  let v38 : BitVec 32 := Scalar.extui v37
  let v39 : BitVec 32 := Scalar.subi v36 v38
  let c2_i32 : BitVec 32 := 2#32
  let c0_i32_15 : BitVec 32 := 0#32
  let v40 : BitVec 1 := Scalar.cmpi .sgt c2_i32 c0_i32_15
  let v41 : BitVec 32 := Scalar.extui v40
  let c0_i32_16 : BitVec 32 := 0#32
  let v42 : BitVec 1 := Scalar.cmpi .slt c2_i32 c0_i32_16
  let v43 : BitVec 32 := Scalar.extui v42
  let v44 : BitVec 32 := Scalar.subi v41 v43
  let v45 : BitVec 1 := Scalar.cmpi .ne v39 v44
  let v46 : BitVec 32 := Scalar.remsi v33 c2_i32
  let c0_i32_17 : BitVec 32 := 0#32
  let v47 : BitVec 1 := Scalar.cmpi .ne v46 c0_i32_17
  let v48 : BitVec 1 := Scalar.andi v45 v47
  let v34 : BitVec 32 := Scalar.divsi v33 c2_i32
  let c1_i32_18 : BitVec 32 := 1#32
  let v49 : BitVec 32 := Scalar.subi v34 c1_i32_18
  let v50 : BitVec 32 := Scalar.select v48 v49 v34
  let c256_i32_137 : BitVec 32 := 256#32
  let v216 : BitVec 32 := Scalar.muli v50 c256_i32_137
  let v217 : BitVec 32 := Scalar.addi c512_i32_138 v216
  let v698 : Index := Scalar.indexCast v217
  let c640_342 : Index := 640#32
  ![v698.toNat, 640]
def k0_off37 (d0 : Dev nD) : Fin 2 → Nat :=
  let c512_i32_138 : BitVec 32 := 512#32
  let v4 : BitVec 32 := Dev.word d0
  let c1_i32_1 : BitVec 32 := 1#32
  let v5 : BitVec 32 := Scalar.divsi v4 c1_i32_1
  let c16_i32_0 : BitVec 32 := 16#32
  let v6 : BitVec 32 := Scalar.remsi v5 c16_i32_0
  let c4_i32_7 : BitVec 32 := 4#32
  let c0_i32_8 : BitVec 32 := 0#32
  let v24 : BitVec 1 := Scalar.cmpi .eq c4_i32_7 c0_i32_8
  let c1_i32_9 : BitVec 32 := 1#32
  let v25 : BitVec 32 := Scalar.select v24 c1_i32_9 c4_i32_7
  let v26 : BitVec 32 := Scalar.remsi v6 v25
  let c0_i32_11 : BitVec 32 := 0#32
  let v28 : BitVec 1 := Scalar.cmpi .slt v26 c0_i32_11
  let c0_i32_12 : BitVec 32 := 0#32
  let v29 : BitVec 1 := Scalar.cmpi .slt v25 c0_i32_12
  let v30 : BitVec 1 := Scalar.xori v28 v29
  let c0_i32_10 : BitVec 32 := 0#32
  let v27 : BitVec 1 := Scalar.cmpi .ne v26 c0_i32_10
  let v31 : BitVec 1 := Scalar.andi v30 v27
  let v32 : BitVec 32 := Scalar.addi v26 v25
  let v33 : BitVec 32 := Scalar.select v31 v32 v26
  let c0_i32_13 : BitVec 32 := 0#32
  let v35 : BitVec 1 := Scalar.cmpi .sgt v33 c0_i32_13
  let v36 : BitVec 32 := Scalar.extui v35
  let c0_i32_14 : BitVec 32 := 0#32
  let v37 : BitVec 1 := Scalar.cmpi .slt v33 c0_i32_14
  let v38 : BitVec 32 := Scalar.extui v37
  let v39 : BitVec 32 := Scalar.subi v36 v38
  let c2_i32 : BitVec 32 := 2#32
  let c0_i32_15 : BitVec 32 := 0#32
  let v40 : BitVec 1 := Scalar.cmpi .sgt c2_i32 c0_i32_15
  let v41 : BitVec 32 := Scalar.extui v40
  let c0_i32_16 : BitVec 32 := 0#32
  let v42 : BitVec 1 := Scalar.cmpi .slt c2_i32 c0_i32_16
  let v43 : BitVec 32 := Scalar.extui v42
  let v44 : BitVec 32 := Scalar.subi v41 v43
  let v45 : BitVec 1 := Scalar.cmpi .ne v39 v44
  let v46 : BitVec 32 := Scalar.remsi v33 c2_i32
  let c0_i32_17 : BitVec 32 := 0#32
  let v47 : BitVec 1 := Scalar.cmpi .ne v46 c0_i32_17
  let v48 : BitVec 1 := Scalar.andi v45 v47
  let v34 : BitVec 32 := Scalar.divsi v33 c2_i32
  let c1_i32_18 : BitVec 32 := 1#32
  let v49 : BitVec 32 := Scalar.subi v34 c1_i32_18
  let v50 : BitVec 32 := Scalar.select v48 v49 v34
  let c256_i32_137 : BitVec 32 := 256#32
  let v216 : BitVec 32 := Scalar.muli v50 c256_i32_137
  let v217 : BitVec 32 := Scalar.addi c512_i32_138 v216
  let v709 : Index := Scalar.indexCast v217
  let c768_346 : Index := 768#32
  ![v709.toNat, 768]
def k0_off38 (d0 : Dev nD) : Fin 2 → Nat :=
  let c512_i32_138 : BitVec 32 := 512#32
  let v4 : BitVec 32 := Dev.word d0
  let c1_i32_1 : BitVec 32 := 1#32
  let v5 : BitVec 32 := Scalar.divsi v4 c1_i32_1
  let c16_i32_0 : BitVec 32 := 16#32
  let v6 : BitVec 32 := Scalar.remsi v5 c16_i32_0
  let c4_i32_7 : BitVec 32 := 4#32
  let c0_i32_8 : BitVec 32 := 0#32
  let v24 : BitVec 1 := Scalar.cmpi .eq c4_i32_7 c0_i32_8
  let c1_i32_9 : BitVec 32 := 1#32
  let v25 : BitVec 32 := Scalar.select v24 c1_i32_9 c4_i32_7
  let v26 : BitVec 32 := Scalar.remsi v6 v25
  let c0_i32_11 : BitVec 32 := 0#32
  let v28 : BitVec 1 := Scalar.cmpi .slt v26 c0_i32_11
  let c0_i32_12 : BitVec 32 := 0#32
  let v29 : BitVec 1 := Scalar.cmpi .slt v25 c0_i32_12
  let v30 : BitVec 1 := Scalar.xori v28 v29
  let c0_i32_10 : BitVec 32 := 0#32
  let v27 : BitVec 1 := Scalar.cmpi .ne v26 c0_i32_10
  let v31 : BitVec 1 := Scalar.andi v30 v27
  let v32 : BitVec 32 := Scalar.addi v26 v25
  let v33 : BitVec 32 := Scalar.select v31 v32 v26
  let c0_i32_13 : BitVec 32 := 0#32
  let v35 : BitVec 1 := Scalar.cmpi .sgt v33 c0_i32_13
  let v36 : BitVec 32 := Scalar.extui v35
  let c0_i32_14 : BitVec 32 := 0#32
  let v37 : BitVec 1 := Scalar.cmpi .slt v33 c0_i32_14
  let v38 : BitVec 32 := Scalar.extui v37
  let v39 : BitVec 32 := Scalar.subi v36 v38
  let c2_i32 : BitVec 32 := 2#32
  let c0_i32_15 : BitVec 32 := 0#32
  let v40 : BitVec 1 := Scalar.cmpi .sgt c2_i32 c0_i32_15
  let v41 : BitVec 32 := Scalar.extui v40
  let c0_i32_16 : BitVec 32 := 0#32
  let v42 : BitVec 1 := Scalar.cmpi .slt c2_i32 c0_i32_16
  let v43 : BitVec 32 := Scalar.extui v42
  let v44 : BitVec 32 := Scalar.subi v41 v43
  let v45 : BitVec 1 := Scalar.cmpi .ne v39 v44
  let v46 : BitVec 32 := Scalar.remsi v33 c2_i32
  let c0_i32_17 : BitVec 32 := 0#32
  let v47 : BitVec 1 := Scalar.cmpi .ne v46 c0_i32_17
  let v48 : BitVec 1 := Scalar.andi v45 v47
  let v34 : BitVec 32 := Scalar.divsi v33 c2_i32
  let c1_i32_18 : BitVec 32 := 1#32
  let v49 : BitVec 32 := Scalar.subi v34 c1_i32_18
  let v50 : BitVec 32 := Scalar.select v48 v49 v34
  let c256_i32_137 : BitVec 32 := 256#32
  let v216 : BitVec 32 := Scalar.muli v50 c256_i32_137
  let v217 : BitVec 32 := Scalar.addi c512_i32_138 v216
  let v720 : Index := Scalar.indexCast v217
  let c896_350 : Index := 896#32
  ![v720.toNat, 896]
def k0_off39 (d0 : Dev nD) : Fin 2 → Nat :=
  let c512_i32_138 : BitVec 32 := 512#32
  let v4 : BitVec 32 := Dev.word d0
  let c1_i32_1 : BitVec 32 := 1#32
  let v5 : BitVec 32 := Scalar.divsi v4 c1_i32_1
  let c16_i32_0 : BitVec 32 := 16#32
  let v6 : BitVec 32 := Scalar.remsi v5 c16_i32_0
  let c4_i32_7 : BitVec 32 := 4#32
  let c0_i32_8 : BitVec 32 := 0#32
  let v24 : BitVec 1 := Scalar.cmpi .eq c4_i32_7 c0_i32_8
  let c1_i32_9 : BitVec 32 := 1#32
  let v25 : BitVec 32 := Scalar.select v24 c1_i32_9 c4_i32_7
  let v26 : BitVec 32 := Scalar.remsi v6 v25
  let c0_i32_11 : BitVec 32 := 0#32
  let v28 : BitVec 1 := Scalar.cmpi .slt v26 c0_i32_11
  let c0_i32_12 : BitVec 32 := 0#32
  let v29 : BitVec 1 := Scalar.cmpi .slt v25 c0_i32_12
  let v30 : BitVec 1 := Scalar.xori v28 v29
  let c0_i32_10 : BitVec 32 := 0#32
  let v27 : BitVec 1 := Scalar.cmpi .ne v26 c0_i32_10
  let v31 : BitVec 1 := Scalar.andi v30 v27
  let v32 : BitVec 32 := Scalar.addi v26 v25
  let v33 : BitVec 32 := Scalar.select v31 v32 v26
  let c0_i32_13 : BitVec 32 := 0#32
  let v35 : BitVec 1 := Scalar.cmpi .sgt v33 c0_i32_13
  let v36 : BitVec 32 := Scalar.extui v35
  let c0_i32_14 : BitVec 32 := 0#32
  let v37 : BitVec 1 := Scalar.cmpi .slt v33 c0_i32_14
  let v38 : BitVec 32 := Scalar.extui v37
  let v39 : BitVec 32 := Scalar.subi v36 v38
  let c2_i32 : BitVec 32 := 2#32
  let c0_i32_15 : BitVec 32 := 0#32
  let v40 : BitVec 1 := Scalar.cmpi .sgt c2_i32 c0_i32_15
  let v41 : BitVec 32 := Scalar.extui v40
  let c0_i32_16 : BitVec 32 := 0#32
  let v42 : BitVec 1 := Scalar.cmpi .slt c2_i32 c0_i32_16
  let v43 : BitVec 32 := Scalar.extui v42
  let v44 : BitVec 32 := Scalar.subi v41 v43
  let v45 : BitVec 1 := Scalar.cmpi .ne v39 v44
  let v46 : BitVec 32 := Scalar.remsi v33 c2_i32
  let c0_i32_17 : BitVec 32 := 0#32
  let v47 : BitVec 1 := Scalar.cmpi .ne v46 c0_i32_17
  let v48 : BitVec 1 := Scalar.andi v45 v47
  let v34 : BitVec 32 := Scalar.divsi v33 c2_i32
  let c1_i32_18 : BitVec 32 := 1#32
  let v49 : BitVec 32 := Scalar.subi v34 c1_i32_18
  let v50 : BitVec 32 := Scalar.select v48 v49 v34
  let c256_i32_137 : BitVec 32 := 256#32
  let v216 : BitVec 32 := Scalar.muli v50 c256_i32_137
  let v217 : BitVec 32 := Scalar.addi c512_i32_138 v216
  let v734 : Index := Scalar.indexCast v217
  let c0_355 : Index := 0#32
  ![v734.toNat, 0]
def k0_off40 (d0 : Dev nD) (c0_i32_232 : BitVec 32) : Fin 2 → Nat :=
  let c0_i32_209 : BitVec 32 := 0#32
  let v4 : BitVec 32 := Dev.word d0
  let c1_i32_1 : BitVec 32 := 1#32
  let v5 : BitVec 32 := Scalar.divsi v4 c1_i32_1
  let c16_i32_0 : BitVec 32 := 16#32
  let v6 : BitVec 32 := Scalar.remsi v5 c16_i32_0
  let c4_i32_7 : BitVec 32 := 4#32
  let c0_i32_8 : BitVec 32 := 0#32
  let v24 : BitVec 1 := Scalar.cmpi .eq c4_i32_7 c0_i32_8
  let c1_i32_9 : BitVec 32 := 1#32
  let v25 : BitVec 32 := Scalar.select v24 c1_i32_9 c4_i32_7
  let v26 : BitVec 32 := Scalar.remsi v6 v25
  let c0_i32_11 : BitVec 32 := 0#32
  let v28 : BitVec 1 := Scalar.cmpi .slt v26 c0_i32_11
  let c0_i32_12 : BitVec 32 := 0#32
  let v29 : BitVec 1 := Scalar.cmpi .slt v25 c0_i32_12
  let v30 : BitVec 1 := Scalar.xori v28 v29
  let c0_i32_10 : BitVec 32 := 0#32
  let v27 : BitVec 1 := Scalar.cmpi .ne v26 c0_i32_10
  let v31 : BitVec 1 := Scalar.andi v30 v27
  let v32 : BitVec 32 := Scalar.addi v26 v25
  let v33 : BitVec 32 := Scalar.select v31 v32 v26
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v33 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_13 : BitVec 32 := 0#32
  let v35 : BitVec 1 := Scalar.cmpi .sgt v33 c0_i32_13
  let v36 : BitVec 32 := Scalar.extui v35
  let c0_i32_14 : BitVec 32 := 0#32
  let v37 : BitVec 1 := Scalar.cmpi .slt v33 c0_i32_14
  let v38 : BitVec 32 := Scalar.extui v37
  let v39 : BitVec 32 := Scalar.subi v36 v38
  let c2_i32 : BitVec 32 := 2#32
  let c0_i32_15 : BitVec 32 := 0#32
  let v40 : BitVec 1 := Scalar.cmpi .sgt c2_i32 c0_i32_15
  let v41 : BitVec 32 := Scalar.extui v40
  let c0_i32_16 : BitVec 32 := 0#32
  let v42 : BitVec 1 := Scalar.cmpi .slt c2_i32 c0_i32_16
  let v43 : BitVec 32 := Scalar.extui v42
  let v44 : BitVec 32 := Scalar.subi v41 v43
  let v45 : BitVec 1 := Scalar.cmpi .ne v39 v44
  let v46 : BitVec 32 := Scalar.remsi v33 c2_i32
  let c0_i32_17 : BitVec 32 := 0#32
  let v47 : BitVec 1 := Scalar.cmpi .ne v46 c0_i32_17
  let v48 : BitVec 1 := Scalar.andi v45 v47
  let v34 : BitVec 32 := Scalar.divsi v33 c2_i32
  let c1_i32_18 : BitVec 32 := 1#32
  let v49 : BitVec 32 := Scalar.subi v34 c1_i32_18
  let v50 : BitVec 32 := Scalar.select v48 v49 v34
  let v61 : BitVec 32 := Scalar.xori v60 v50
  let c256_i32_208 : BitVec 32 := 256#32
  let v438 : BitVec 32 := Scalar.muli v61 c256_i32_208
  let v439 : BitVec 32 := Scalar.addi c0_i32_209 v438
  let v464 : BitVec 32 := Scalar.addi v439 c0_i32_232
  let v746 : Index := Scalar.indexCast v464
  let c0_375 : Index := 0#32
  ![v746.toNat, 0]
def k0_off41 (d0 : Dev nD) (c0_i32_247 : BitVec 32) : Fin 2 → Nat :=
  let c512_i32_214 : BitVec 32 := 512#32
  let v4 : BitVec 32 := Dev.word d0
  let c1_i32_1 : BitVec 32 := 1#32
  let v5 : BitVec 32 := Scalar.divsi v4 c1_i32_1
  let c16_i32_0 : BitVec 32 := 16#32
  let v6 : BitVec 32 := Scalar.remsi v5 c16_i32_0
  let c4_i32_7 : BitVec 32 := 4#32
  let c0_i32_8 : BitVec 32 := 0#32
  let v24 : BitVec 1 := Scalar.cmpi .eq c4_i32_7 c0_i32_8
  let c1_i32_9 : BitVec 32 := 1#32
  let v25 : BitVec 32 := Scalar.select v24 c1_i32_9 c4_i32_7
  let v26 : BitVec 32 := Scalar.remsi v6 v25
  let c0_i32_11 : BitVec 32 := 0#32
  let v28 : BitVec 1 := Scalar.cmpi .slt v26 c0_i32_11
  let c0_i32_12 : BitVec 32 := 0#32
  let v29 : BitVec 1 := Scalar.cmpi .slt v25 c0_i32_12
  let v30 : BitVec 1 := Scalar.xori v28 v29
  let c0_i32_10 : BitVec 32 := 0#32
  let v27 : BitVec 1 := Scalar.cmpi .ne v26 c0_i32_10
  let v31 : BitVec 1 := Scalar.andi v30 v27
  let v32 : BitVec 32 := Scalar.addi v26 v25
  let v33 : BitVec 32 := Scalar.select v31 v32 v26
  let c0_i32_13 : BitVec 32 := 0#32
  let v35 : BitVec 1 := Scalar.cmpi .sgt v33 c0_i32_13
  let v36 : BitVec 32 := Scalar.extui v35
  let c0_i32_14 : BitVec 32 := 0#32
  let v37 : BitVec 1 := Scalar.cmpi .slt v33 c0_i32_14
  let v38 : BitVec 32 := Scalar.extui v37
  let v39 : BitVec 32 := Scalar.subi v36 v38
  let c2_i32 : BitVec 32 := 2#32
  let c0_i32_15 : BitVec 32 := 0#32
  let v40 : BitVec 1 := Scalar.cmpi .sgt c2_i32 c0_i32_15
  let v41 : BitVec 32 := Scalar.extui v40
  let c0_i32_16 : BitVec 32 := 0#32
  let v42 : BitVec 1 := Scalar.cmpi .slt c2_i32 c0_i32_16
  let v43 : BitVec 32 := Scalar.extui v42
  let v44 : BitVec 32 := Scalar.subi v41 v43
  let v45 : BitVec 1 := Scalar.cmpi .ne v39 v44
  let v46 : BitVec 32 := Scalar.remsi v33 c2_i32
  let c0_i32_17 : BitVec 32 := 0#32
  let v47 : BitVec 1 := Scalar.cmpi .ne v46 c0_i32_17
  let v48 : BitVec 1 := Scalar.andi v45 v47
  let v34 : BitVec 32 := Scalar.divsi v33 c2_i32
  let c1_i32_18 : BitVec 32 := 1#32
  let v49 : BitVec 32 := Scalar.subi v34 c1_i32_18
  let v50 : BitVec 32 := Scalar.select v48 v49 v34
  let c256_i32_213 : BitVec 32 := 256#32
  let v443 : BitVec 32 := Scalar.muli v50 c256_i32_213
  let v444 : BitVec 32 := Scalar.addi c512_i32_214 v443
  let v481 : BitVec 32 := Scalar.addi v444 c0_i32_247
  let v764 : Index := Scalar.indexCast v481
  let c0_398 : Index := 0#32
  ![v764.toNat, 0]
def k0_off42 (d0 : Dev nD) (c0_i32_454 : BitVec 32) : Fin 2 → Nat :=
  let c0_i32_209 : BitVec 32 := 0#32
  let v4 : BitVec 32 := Dev.word d0
  let c1_i32_1 : BitVec 32 := 1#32
  let v5 : BitVec 32 := Scalar.divsi v4 c1_i32_1
  let c16_i32_0 : BitVec 32 := 16#32
  let v6 : BitVec 32 := Scalar.remsi v5 c16_i32_0
  let c4_i32_7 : BitVec 32 := 4#32
  let c0_i32_8 : BitVec 32 := 0#32
  let v24 : BitVec 1 := Scalar.cmpi .eq c4_i32_7 c0_i32_8
  let c1_i32_9 : BitVec 32 := 1#32
  let v25 : BitVec 32 := Scalar.select v24 c1_i32_9 c4_i32_7
  let v26 : BitVec 32 := Scalar.remsi v6 v25
  let c0_i32_11 : BitVec 32 := 0#32
  let v28 : BitVec 1 := Scalar.cmpi .slt v26 c0_i32_11
  let c0_i32_12 : BitVec 32 := 0#32
  let v29 : BitVec 1 := Scalar.cmpi .slt v25 c0_i32_12
  let v30 : BitVec 1 := Scalar.xori v28 v29
  let c0_i32_10 : BitVec 32 := 0#32
  let v27 : BitVec 1 := Scalar.cmpi .ne v26 c0_i32_10
  let v31 : BitVec 1 := Scalar.andi v30 v27
  let v32 : BitVec 32 := Scalar.addi v26 v25
  let v33 : BitVec 32 := Scalar.select v31 v32 v26
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v33 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_13 : BitVec 32 := 0#32
  let v35 : BitVec 1 := Scalar.cmpi .sgt v33 c0_i32_13
  let v36 : BitVec 32 := Scalar.extui v35
  let c0_i32_14 : BitVec 32 := 0#32
  let v37 : BitVec 1 := Scalar.cmpi .slt v33 c0_i32_14
  let v38 : BitVec 32 := Scalar.extui v37
  let v39 : BitVec 32 := Scalar.subi v36 v38
  let c2_i32 : BitVec 32 := 2#32
  let c0_i32_15 : BitVec 32 := 0#32
  let v40 : BitVec 1 := Scalar.cmpi .sgt c2_i32 c0_i32_15
  let v41 : BitVec 32 := Scalar.extui v40
  let c0_i32_16 : BitVec 32 := 0#32
  let v42 : BitVec 1 := Scalar.cmpi .slt c2_i32 c0_i32_16
  let v43 : BitVec 32 := Scalar.extui v42
  let v44 : BitVec 32 := Scalar.subi v41 v43
  let v45 : BitVec 1 := Scalar.cmpi .ne v39 v44
  let v46 : BitVec 32 := Scalar.remsi v33 c2_i32
  let c0_i32_17 : BitVec 32 := 0#32
  let v47 : BitVec 1 := Scalar.cmpi .ne v46 c0_i32_17
  let v48 : BitVec 1 := Scalar.andi v45 v47
  let v34 : BitVec 32 := Scalar.divsi v33 c2_i32
  let c1_i32_18 : BitVec 32 := 1#32
  let v49 : BitVec 32 := Scalar.subi v34 c1_i32_18
  let v50 : BitVec 32 := Scalar.select v48 v49 v34
  let v61 : BitVec 32 := Scalar.xori v60 v50
  let c256_i32_208 : BitVec 32 := 256#32
  let v438 : BitVec 32 := Scalar.muli v61 c256_i32_208
  let v439 : BitVec 32 := Scalar.addi c0_i32_209 v438
  let c1_i32_449 : BitVec 32 := 1#32
  let v810 : BitVec 32 := Scalar.subi c1_i32_449 v50
  let c128_i32_450 : BitVec 32 := 128#32
  let v811 : BitVec 32 := Scalar.muli v810 c128_i32_450
  let v812 : BitVec 32 := Scalar.addi v439 v811
  let v818 : BitVec 32 := Scalar.addi v812 c0_i32_454
  let v819 : Index := Scalar.indexCast v818
  let c0_455 : Index := 0#32
  ![v819.toNat, 0]
def k0_dev9 (d0 : Dev nD) : Nat :=
  let c0_i32_463 : BitVec 32 := 0#32
  let c4_i32_45 : BitVec 32 := 4#32
  let c2_i32_44 : BitVec 32 := 2#32
  let v4 : BitVec 32 := Dev.word d0
  let c1_i32_1 : BitVec 32 := 1#32
  let v5 : BitVec 32 := Scalar.divsi v4 c1_i32_1
  let c16_i32_0 : BitVec 32 := 16#32
  let v6 : BitVec 32 := Scalar.remsi v5 c16_i32_0
  let c0_i32 : BitVec 32 := 0#32
  let v8 : BitVec 1 := Scalar.cmpi .sgt v6 c0_i32
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c4_i32 : BitVec 32 := 4#32
  let c0_i32_3 : BitVec 32 := 0#32
  let v13 : BitVec 1 := Scalar.cmpi .sgt c4_i32 c0_i32_3
  let v14 : BitVec 32 := Scalar.extui v13
  let c0_i32_4 : BitVec 32 := 0#32
  let v15 : BitVec 1 := Scalar.cmpi .slt c4_i32 c0_i32_4
  let v16 : BitVec 32 := Scalar.extui v15
  let v17 : BitVec 32 := Scalar.subi v14 v16
  let v18 : BitVec 1 := Scalar.cmpi .ne v12 v17
  let v19 : BitVec 32 := Scalar.remsi v6 c4_i32
  let c0_i32_5 : BitVec 32 := 0#32
  let v20 : BitVec 1 := Scalar.cmpi .ne v19 c0_i32_5
  let v21 : BitVec 1 := Scalar.andi v18 v20
  let v7 : BitVec 32 := Scalar.divsi v6 c4_i32
  let c1_i32_6 : BitVec 32 := 1#32
  let v22 : BitVec 32 := Scalar.subi v7 c1_i32_6
  let v23 : BitVec 32 := Scalar.select v21 v22 v7
  let c0_i32_32 : BitVec 32 := 0#32
  let v73 : BitVec 1 := Scalar.cmpi .sgt v23 c0_i32_32
  let v74 : BitVec 32 := Scalar.extui v73
  let c0_i32_33 : BitVec 32 := 0#32
  let v75 : BitVec 1 := Scalar.cmpi .slt v23 c0_i32_33
  let v76 : BitVec 32 := Scalar.extui v75
  let v77 : BitVec 32 := Scalar.subi v74 v76
  let c2_i32_31 : BitVec 32 := 2#32
  let c0_i32_34 : BitVec 32 := 0#32
  let v78 : BitVec 1 := Scalar.cmpi .sgt c2_i32_31 c0_i32_34
  let v79 : BitVec 32 := Scalar.extui v78
  let c0_i32_35 : BitVec 32 := 0#32
  let v80 : BitVec 1 := Scalar.cmpi .slt c2_i32_31 c0_i32_35
  let v81 : BitVec 32 := Scalar.extui v80
  let v82 : BitVec 32 := Scalar.subi v79 v81
  let v83 : BitVec 1 := Scalar.cmpi .ne v77 v82
  let v84 : BitVec 32 := Scalar.remsi v23 c2_i32_31
  let c0_i32_36 : BitVec 32 := 0#32
  let v85 : BitVec 1 := Scalar.cmpi .ne v84 c0_i32_36
  let v86 : BitVec 1 := Scalar.andi v83 v85
  let v72 : BitVec 32 := Scalar.divsi v23 c2_i32_31
  let c1_i32_37 : BitVec 32 := 1#32
  let v87 : BitVec 32 := Scalar.subi v72 c1_i32_37
  let v88 : BitVec 32 := Scalar.select v86 v87 v72
  let v101 : BitVec 32 := Scalar.muli c2_i32_44 v88
  let c2_i32_25 : BitVec 32 := 2#32
  let c0_i32_26 : BitVec 32 := 0#32
  let v62 : BitVec 1 := Scalar.cmpi .eq c2_i32_25 c0_i32_26
  let c1_i32_27 : BitVec 32 := 1#32
  let v63 : BitVec 32 := Scalar.select v62 c1_i32_27 c2_i32_25
  let v64 : BitVec 32 := Scalar.remsi v23 v63
  let c0_i32_29 : BitVec 32 := 0#32
  let v66 : BitVec 1 := Scalar.cmpi .slt v64 c0_i32_29
  let c0_i32_30 : BitVec 32 := 0#32
  let v67 : BitVec 1 := Scalar.cmpi .slt v63 c0_i32_30
  let v68 : BitVec 1 := Scalar.xori v66 v67
  let c0_i32_28 : BitVec 32 := 0#32
  let v65 : BitVec 1 := Scalar.cmpi .ne v64 c0_i32_28
  let v69 : BitVec 1 := Scalar.andi v68 v65
  let v70 : BitVec 32 := Scalar.addi v64 v63
  let v71 : BitVec 32 := Scalar.select v69 v70 v64
  let v102 : BitVec 32 := Scalar.addi v101 v71
  let v103 : BitVec 32 := Scalar.muli c4_i32_45 v102
  let c4_i32_7 : BitVec 32 := 4#32
  let c0_i32_8 : BitVec 32 := 0#32
  let v24 : BitVec 1 := Scalar.cmpi .eq c4_i32_7 c0_i32_8
  let c1_i32_9 : BitVec 32 := 1#32
  let v25 : BitVec 32 := Scalar.select v24 c1_i32_9 c4_i32_7
  let v26 : BitVec 32 := Scalar.remsi v6 v25
  let c0_i32_11 : BitVec 32 := 0#32
  let v28 : BitVec 1 := Scalar.cmpi .slt v26 c0_i32_11
  let c0_i32_12 : BitVec 32 := 0#32
  let v29 : BitVec 1 := Scalar.cmpi .slt v25 c0_i32_12
  let v30 : BitVec 1 := Scalar.xori v28 v29
  let c0_i32_10 : BitVec 32 := 0#32
  let v27 : BitVec 1 := Scalar.cmpi .ne v26 c0_i32_10
  let v31 : BitVec 1 := Scalar.andi v30 v27
  let v32 : BitVec 32 := Scalar.addi v26 v25
  let v33 : BitVec 32 := Scalar.select v31 v32 v26
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v33 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_13 : BitVec 32 := 0#32
  let v35 : BitVec 1 := Scalar.cmpi .sgt v33 c0_i32_13
  let v36 : BitVec 32 := Scalar.extui v35
  let c0_i32_14 : BitVec 32 := 0#32
  let v37 : BitVec 1 := Scalar.cmpi .slt v33 c0_i32_14
  let v38 : BitVec 32 := Scalar.extui v37
  let v39 : BitVec 32 := Scalar.subi v36 v38
  let c2_i32 : BitVec 32 := 2#32
  let c0_i32_15 : BitVec 32 := 0#32
  let v40 : BitVec 1 := Scalar.cmpi .sgt c2_i32 c0_i32_15
  let v41 : BitVec 32 := Scalar.extui v40
  let c0_i32_16 : BitVec 32 := 0#32
  let v42 : BitVec 1 := Scalar.cmpi .slt c2_i32 c0_i32_16
  let v43 : BitVec 32 := Scalar.extui v42
  let v44 : BitVec 32 := Scalar.subi v41 v43
  let v45 : BitVec 1 := Scalar.cmpi .ne v39 v44
  let v46 : BitVec 32 := Scalar.remsi v33 c2_i32
  let c0_i32_17 : BitVec 32 := 0#32
  let v47 : BitVec 1 := Scalar.cmpi .ne v46 c0_i32_17
  let v48 : BitVec 1 := Scalar.andi v45 v47
  let v34 : BitVec 32 := Scalar.divsi v33 c2_i32
  let c1_i32_18 : BitVec 32 := 1#32
  let v49 : BitVec 32 := Scalar.subi v34 c1_i32_18
  let v50 : BitVec 32 := Scalar.select v48 v49 v34
  let v61 : BitVec 32 := Scalar.xori v60 v50
  let c1_i32_42 : BitVec 32 := 1#32
  let v97 : BitVec 32 := Scalar.subi c1_i32_42 v50
  let v98 : BitVec 32 := Scalar.xori v61 v97
  let c2_i32_43 : BitVec 32 := 2#32
  let v99 : BitVec 32 := Scalar.muli c2_i32_43 v97
  let v100 : BitVec 32 := Scalar.addi v98 v99
  let v104 : BitVec 32 := Scalar.addi v103 v100
  let c1_i32_462 : BitVec 32 := 1#32
  let v826 : BitVec 32 := Scalar.muli v104 c1_i32_462
  let v827 : BitVec 32 := Scalar.addi c0_i32_463 v826
  v827.toNat
def k0_off43 (d0 : Dev nD) (c0_i32_469 : BitVec 32) : Fin 2 → Nat :=
  let c512_i32_214 : BitVec 32 := 512#32
  let v4 : BitVec 32 := Dev.word d0
  let c1_i32_1 : BitVec 32 := 1#32
  let v5 : BitVec 32 := Scalar.divsi v4 c1_i32_1
  let c16_i32_0 : BitVec 32 := 16#32
  let v6 : BitVec 32 := Scalar.remsi v5 c16_i32_0
  let c4_i32_7 : BitVec 32 := 4#32
  let c0_i32_8 : BitVec 32 := 0#32
  let v24 : BitVec 1 := Scalar.cmpi .eq c4_i32_7 c0_i32_8
  let c1_i32_9 : BitVec 32 := 1#32
  let v25 : BitVec 32 := Scalar.select v24 c1_i32_9 c4_i32_7
  let v26 : BitVec 32 := Scalar.remsi v6 v25
  let c0_i32_11 : BitVec 32 := 0#32
  let v28 : BitVec 1 := Scalar.cmpi .slt v26 c0_i32_11
  let c0_i32_12 : BitVec 32 := 0#32
  let v29 : BitVec 1 := Scalar.cmpi .slt v25 c0_i32_12
  let v30 : BitVec 1 := Scalar.xori v28 v29
  let c0_i32_10 : BitVec 32 := 0#32
  let v27 : BitVec 1 := Scalar.cmpi .ne v26 c0_i32_10
  let v31 : BitVec 1 := Scalar.andi v30 v27
  let v32 : BitVec 32 := Scalar.addi v26 v25
  let v33 : BitVec 32 := Scalar.select v31 v32 v26
  let c0_i32_13 : BitVec 32 := 0#32
  let v35 : BitVec 1 := Scalar.cmpi .sgt v33 c0_i32_13
  let v36 : BitVec 32 := Scalar.extui v35
  let c0_i32_14 : BitVec 32 := 0#32
  let v37 : BitVec 1 := Scalar.cmpi .slt v33 c0_i32_14
  let v38 : BitVec 32 := Scalar.extui v37
  let v39 : BitVec 32 := Scalar.subi v36 v38
  let c2_i32 : BitVec 32 := 2#32
  let c0_i32_15 : BitVec 32 := 0#32
  let v40 : BitVec 1 := Scalar.cmpi .sgt c2_i32 c0_i32_15
  let v41 : BitVec 32 := Scalar.extui v40
  let c0_i32_16 : BitVec 32 := 0#32
  let v42 : BitVec 1 := Scalar.cmpi .slt c2_i32 c0_i32_16
  let v43 : BitVec 32 := Scalar.extui v42
  let v44 : BitVec 32 := Scalar.subi v41 v43
  let v45 : BitVec 1 := Scalar.cmpi .ne v39 v44
  let v46 : BitVec 32 := Scalar.remsi v33 c2_i32
  let c0_i32_17 : BitVec 32 := 0#32
  let v47 : BitVec 1 := Scalar.cmpi .ne v46 c0_i32_17
  let v48 : BitVec 1 := Scalar.andi v45 v47
  let v34 : BitVec 32 := Scalar.divsi v33 c2_i32
  let c1_i32_18 : BitVec 32 := 1#32
  let v49 : BitVec 32 := Scalar.subi v34 c1_i32_18
  let v50 : BitVec 32 := Scalar.select v48 v49 v34
  let c256_i32_213 : BitVec 32 := 256#32
  let v443 : BitVec 32 := Scalar.muli v50 c256_i32_213
  let v444 : BitVec 32 := Scalar.addi c512_i32_214 v443
  let c1_i32_452 : BitVec 32 := 1#32
  let c0_i32 : BitVec 32 := 0#32
  let v8 : BitVec 1 := Scalar.cmpi .sgt v6 c0_i32
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c4_i32 : BitVec 32 := 4#32
  let c0_i32_3 : BitVec 32 := 0#32
  let v13 : BitVec 1 := Scalar.cmpi .sgt c4_i32 c0_i32_3
  let v14 : BitVec 32 := Scalar.extui v13
  let c0_i32_4 : BitVec 32 := 0#32
  let v15 : BitVec 1 := Scalar.cmpi .slt c4_i32 c0_i32_4
  let v16 : BitVec 32 := Scalar.extui v15
  let v17 : BitVec 32 := Scalar.subi v14 v16
  let v18 : BitVec 1 := Scalar.cmpi .ne v12 v17
  let v19 : BitVec 32 := Scalar.remsi v6 c4_i32
  let c0_i32_5 : BitVec 32 := 0#32
  let v20 : BitVec 1 := Scalar.cmpi .ne v19 c0_i32_5
  let v21 : BitVec 1 := Scalar.andi v18 v20
  let v7 : BitVec 32 := Scalar.divsi v6 c4_i32
  let c1_i32_6 : BitVec 32 := 1#32
  let v22 : BitVec 32 := Scalar.subi v7 c1_i32_6
  let v23 : BitVec 32 := Scalar.select v21 v22 v7
  let c2_i32_25 : BitVec 32 := 2#32
  let c0_i32_26 : BitVec 32 := 0#32
  let v62 : BitVec 1 := Scalar.cmpi .eq c2_i32_25 c0_i32_26
  let c1_i32_27 : BitVec 32 := 1#32
  let v63 : BitVec 32 := Scalar.select v62 c1_i32_27 c2_i32_25
  let v64 : BitVec 32 := Scalar.remsi v23 v63
  let c0_i32_29 : BitVec 32 := 0#32
  let v66 : BitVec 1 := Scalar.cmpi .slt v64 c0_i32_29
  let c0_i32_30 : BitVec 32 := 0#32
  let v67 : BitVec 1 := Scalar.cmpi .slt v63 c0_i32_30
  let v68 : BitVec 1 := Scalar.xori v66 v67
  let c0_i32_28 : BitVec 32 := 0#32
  let v65 : BitVec 1 := Scalar.cmpi .ne v64 c0_i32_28
  let v69 : BitVec 1 := Scalar.andi v68 v65
  let v70 : BitVec 32 := Scalar.addi v64 v63
  let v71 : BitVec 32 := Scalar.select v69 v70 v64
  let v815 : BitVec 32 := Scalar.subi c1_i32_452 v71
  let c128_i32_453 : BitVec 32 := 128#32
  let v816 : BitVec 32 := Scalar.muli v815 c128_i32_453
  let v817 : BitVec 32 := Scalar.addi v444 v816
  let v835 : BitVec 32 := Scalar.addi v817 c0_i32_469
  let v836 : Index := Scalar.indexCast v835
  let c0_470 : Index := 0#32
  ![v836.toNat, 0]
def k0_dev10 (d0 : Dev nD) : Nat :=
  let c0_i32_478 : BitVec 32 := 0#32
  let c4_i32_49 : BitVec 32 := 4#32
  let c2_i32_48 : BitVec 32 := 2#32
  let v4 : BitVec 32 := Dev.word d0
  let c1_i32_1 : BitVec 32 := 1#32
  let v5 : BitVec 32 := Scalar.divsi v4 c1_i32_1
  let c16_i32_0 : BitVec 32 := 16#32
  let v6 : BitVec 32 := Scalar.remsi v5 c16_i32_0
  let c0_i32 : BitVec 32 := 0#32
  let v8 : BitVec 1 := Scalar.cmpi .sgt v6 c0_i32
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c4_i32 : BitVec 32 := 4#32
  let c0_i32_3 : BitVec 32 := 0#32
  let v13 : BitVec 1 := Scalar.cmpi .sgt c4_i32 c0_i32_3
  let v14 : BitVec 32 := Scalar.extui v13
  let c0_i32_4 : BitVec 32 := 0#32
  let v15 : BitVec 1 := Scalar.cmpi .slt c4_i32 c0_i32_4
  let v16 : BitVec 32 := Scalar.extui v15
  let v17 : BitVec 32 := Scalar.subi v14 v16
  let v18 : BitVec 1 := Scalar.cmpi .ne v12 v17
  let v19 : BitVec 32 := Scalar.remsi v6 c4_i32
  let c0_i32_5 : BitVec 32 := 0#32
  let v20 : BitVec 1 := Scalar.cmpi .ne v19 c0_i32_5
  let v21 : BitVec 1 := Scalar.andi v18 v20
  let v7 : BitVec 32 := Scalar.divsi v6 c4_i32
  let c1_i32_6 : BitVec 32 := 1#32
  let v22 : BitVec 32 := Scalar.subi v7 c1_i32_6
  let v23 : BitVec 32 := Scalar.select v21 v22 v7
  let c0_i32_32 : BitVec 32 := 0#32
  let v73 : BitVec 1 := Scalar.cmpi .sgt v23 c0_i32_32
  let v74 : BitVec 32 := Scalar.extui v73
  let c0_i32_33 : BitVec 32 := 0#32
  let v75 : BitVec 1 := Scalar.cmpi .slt v23 c0_i32_33
  let v76 : BitVec 32 := Scalar.extui v75
  let v77 : BitVec 32 := Scalar.subi v74 v76
  let c2_i32_31 : BitVec 32 := 2#32
  let c0_i32_34 : BitVec 32 := 0#32
  let v78 : BitVec 1 := Scalar.cmpi .sgt c2_i32_31 c0_i32_34
  let v79 : BitVec 32 := Scalar.extui v78
  let c0_i32_35 : BitVec 32 := 0#32
  let v80 : BitVec 1 := Scalar.cmpi .slt c2_i32_31 c0_i32_35
  let v81 : BitVec 32 := Scalar.extui v80
  let v82 : BitVec 32 := Scalar.subi v79 v81
  let v83 : BitVec 1 := Scalar.cmpi .ne v77 v82
  let v84 : BitVec 32 := Scalar.remsi v23 c2_i32_31
  let c0_i32_36 : BitVec 32 := 0#32
  let v85 : BitVec 1 := Scalar.cmpi .ne v84 c0_i32_36
  let v86 : BitVec 1 := Scalar.andi v83 v85
  let v72 : BitVec 32 := Scalar.divsi v23 c2_i32_31
  let c1_i32_37 : BitVec 32 := 1#32
  let v87 : BitVec 32 := Scalar.subi v72 c1_i32_37
  let v88 : BitVec 32 := Scalar.select v86 v87 v72
  let v109 : BitVec 32 := Scalar.muli c2_i32_48 v88
  let c1_i32_46 : BitVec 32 := 1#32
  let c2_i32_25 : BitVec 32 := 2#32
  let c0_i32_26 : BitVec 32 := 0#32
  let v62 : BitVec 1 := Scalar.cmpi .eq c2_i32_25 c0_i32_26
  let c1_i32_27 : BitVec 32 := 1#32
  let v63 : BitVec 32 := Scalar.select v62 c1_i32_27 c2_i32_25
  let v64 : BitVec 32 := Scalar.remsi v23 v63
  let c0_i32_29 : BitVec 32 := 0#32
  let v66 : BitVec 1 := Scalar.cmpi .slt v64 c0_i32_29
  let c0_i32_30 : BitVec 32 := 0#32
  let v67 : BitVec 1 := Scalar.cmpi .slt v63 c0_i32_30
  let v68 : BitVec 1 := Scalar.xori v66 v67
  let c0_i32_28 : BitVec 32 := 0#32
  let v65 : BitVec 1 := Scalar.cmpi .ne v64 c0_i32_28
  let v69 : BitVec 1 := Scalar.andi v68 v65
  let v70 : BitVec 32 := Scalar.addi v64 v63
  let v71 : BitVec 32 := Scalar.select v69 v70 v64
  let v105 : BitVec 32 := Scalar.subi c1_i32_46 v71
  let v110 : BitVec 32 := Scalar.addi v109 v105
  let v111 : BitVec 32 := Scalar.muli c4_i32_49 v110
  let c4_i32_7 : BitVec 32 := 4#32
  let c0_i32_8 : BitVec 32 := 0#32
  let v24 : BitVec 1 := Scalar.cmpi .eq c4_i32_7 c0_i32_8
  let c1_i32_9 : BitVec 32 := 1#32
  let v25 : BitVec 32 := Scalar.select v24 c1_i32_9 c4_i32_7
  let v26 : BitVec 32 := Scalar.remsi v6 v25
  let c0_i32_11 : BitVec 32 := 0#32
  let v28 : BitVec 1 := Scalar.cmpi .slt v26 c0_i32_11
  let c0_i32_12 : BitVec 32 := 0#32
  let v29 : BitVec 1 := Scalar.cmpi .slt v25 c0_i32_12
  let v30 : BitVec 1 := Scalar.xori v28 v29
  let c0_i32_10 : BitVec 32 := 0#32
  let v27 : BitVec 1 := Scalar.cmpi .ne v26 c0_i32_10
  let v31 : BitVec 1 := Scalar.andi v30 v27
  let v32 : BitVec 32 := Scalar.addi v26 v25
  let v33 : BitVec 32 := Scalar.select v31 v32 v26
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v33 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_13 : BitVec 32 := 0#32
  let v35 : BitVec 1 := Scalar.cmpi .sgt v33 c0_i32_13
  let v36 : BitVec 32 := Scalar.extui v35
  let c0_i32_14 : BitVec 32 := 0#32
  let v37 : BitVec 1 := Scalar.cmpi .slt v33 c0_i32_14
  let v38 : BitVec 32 := Scalar.extui v37
  let v39 : BitVec 32 := Scalar.subi v36 v38
  let c2_i32 : BitVec 32 := 2#32
  let c0_i32_15 : BitVec 32 := 0#32
  let v40 : BitVec 1 := Scalar.cmpi .sgt c2_i32 c0_i32_15
  let v41 : BitVec 32 := Scalar.extui v40
  let c0_i32_16 : BitVec 32 := 0#32
  let v42 : BitVec 1 := Scalar.cmpi .slt c2_i32 c0_i32_16
  let v43 : BitVec 32 := Scalar.extui v42
  let v44 : BitVec 32 := Scalar.subi v41 v43
  let v45 : BitVec 1 := Scalar.cmpi .ne v39 v44
  let v46 : BitVec 32 := Scalar.remsi v33 c2_i32
  let c0_i32_17 : BitVec 32 := 0#32
  let v47 : BitVec 1 := Scalar.cmpi .ne v46 c0_i32_17
  let v48 : BitVec 1 := Scalar.andi v45 v47
  let v34 : BitVec 32 := Scalar.divsi v33 c2_i32
  let c1_i32_18 : BitVec 32 := 1#32
  let v49 : BitVec 32 := Scalar.subi v34 c1_i32_18
  let v50 : BitVec 32 := Scalar.select v48 v49 v34
  let v61 : BitVec 32 := Scalar.xori v60 v50
  let v106 : BitVec 32 := Scalar.xori v61 v50
  let c2_i32_47 : BitVec 32 := 2#32
  let v107 : BitVec 32 := Scalar.muli c2_i32_47 v50
  let v108 : BitVec 32 := Scalar.addi v106 v107
  let v112 : BitVec 32 := Scalar.addi v111 v108
  let c1_i32_477 : BitVec 32 := 1#32
  let v843 : BitVec 32 := Scalar.muli v112 c1_i32_477
  let v844 : BitVec 32 := Scalar.addi c0_i32_478 v843
  v844.toNat
def k0_dev11 (d0 : Dev nD) : Nat :=
  let c0_i32_491 : BitVec 32 := 0#32
  let c4_i32_45 : BitVec 32 := 4#32
  let c2_i32_44 : BitVec 32 := 2#32
  let v4 : BitVec 32 := Dev.word d0
  let c1_i32_1 : BitVec 32 := 1#32
  let v5 : BitVec 32 := Scalar.divsi v4 c1_i32_1
  let c16_i32_0 : BitVec 32 := 16#32
  let v6 : BitVec 32 := Scalar.remsi v5 c16_i32_0
  let c0_i32 : BitVec 32 := 0#32
  let v8 : BitVec 1 := Scalar.cmpi .sgt v6 c0_i32
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c4_i32 : BitVec 32 := 4#32
  let c0_i32_3 : BitVec 32 := 0#32
  let v13 : BitVec 1 := Scalar.cmpi .sgt c4_i32 c0_i32_3
  let v14 : BitVec 32 := Scalar.extui v13
  let c0_i32_4 : BitVec 32 := 0#32
  let v15 : BitVec 1 := Scalar.cmpi .slt c4_i32 c0_i32_4
  let v16 : BitVec 32 := Scalar.extui v15
  let v17 : BitVec 32 := Scalar.subi v14 v16
  let v18 : BitVec 1 := Scalar.cmpi .ne v12 v17
  let v19 : BitVec 32 := Scalar.remsi v6 c4_i32
  let c0_i32_5 : BitVec 32 := 0#32
  let v20 : BitVec 1 := Scalar.cmpi .ne v19 c0_i32_5
  let v21 : BitVec 1 := Scalar.andi v18 v20
  let v7 : BitVec 32 := Scalar.divsi v6 c4_i32
  let c1_i32_6 : BitVec 32 := 1#32
  let v22 : BitVec 32 := Scalar.subi v7 c1_i32_6
  let v23 : BitVec 32 := Scalar.select v21 v22 v7
  let c0_i32_32 : BitVec 32 := 0#32
  let v73 : BitVec 1 := Scalar.cmpi .sgt v23 c0_i32_32
  let v74 : BitVec 32 := Scalar.extui v73
  let c0_i32_33 : BitVec 32 := 0#32
  let v75 : BitVec 1 := Scalar.cmpi .slt v23 c0_i32_33
  let v76 : BitVec 32 := Scalar.extui v75
  let v77 : BitVec 32 := Scalar.subi v74 v76
  let c2_i32_31 : BitVec 32 := 2#32
  let c0_i32_34 : BitVec 32 := 0#32
  let v78 : BitVec 1 := Scalar.cmpi .sgt c2_i32_31 c0_i32_34
  let v79 : BitVec 32 := Scalar.extui v78
  let c0_i32_35 : BitVec 32 := 0#32
  let v80 : BitVec 1 := Scalar.cmpi .slt c2_i32_31 c0_i32_35
  let v81 : BitVec 32 := Scalar.extui v80
  let v82 : BitVec 32 := Scalar.subi v79 v81
  let v83 : BitVec 1 := Scalar.cmpi .ne v77 v82
  let v84 : BitVec 32 := Scalar.remsi v23 c2_i32_31
  let c0_i32_36 : BitVec 32 := 0#32
  let v85 : BitVec 1 := Scalar.cmpi .ne v84 c0_i32_36
  let v86 : BitVec 1 := Scalar.andi v83 v85
  let v72 : BitVec 32 := Scalar.divsi v23 c2_i32_31
  let c1_i32_37 : BitVec 32 := 1#32
  let v87 : BitVec 32 := Scalar.subi v72 c1_i32_37
  let v88 : BitVec 32 := Scalar.select v86 v87 v72
  let v101 : BitVec 32 := Scalar.muli c2_i32_44 v88
  let c2_i32_25 : BitVec 32 := 2#32
  let c0_i32_26 : BitVec 32 := 0#32
  let v62 : BitVec 1 := Scalar.cmpi .eq c2_i32_25 c0_i32_26
  let c1_i32_27 : BitVec 32 := 1#32
  let v63 : BitVec 32 := Scalar.select v62 c1_i32_27 c2_i32_25
  let v64 : BitVec 32 := Scalar.remsi v23 v63
  let c0_i32_29 : BitVec 32 := 0#32
  let v66 : BitVec 1 := Scalar.cmpi .slt v64 c0_i32_29
  let c0_i32_30 : BitVec 32 := 0#32
  let v67 : BitVec 1 := Scalar.cmpi .slt v63 c0_i32_30
  let v68 : BitVec 1 := Scalar.xori v66 v67
  let c0_i32_28 : BitVec 32 := 0#32
  let v65 : BitVec 1 := Scalar.cmpi .ne v64 c0_i32_28
  let v69 : BitVec 1 := Scalar.andi v68 v65
  let v70 : BitVec 32 := Scalar.addi v64 v63
  let v71 : BitVec 32 := Scalar.select v69 v70 v64
  let v102 : BitVec 32 := Scalar.addi v101 v71
  let v103 : BitVec 32 := Scalar.muli c4_i32_45 v102
  let c4_i32_7 : BitVec 32 := 4#32
  let c0_i32_8 : BitVec 32 := 0#32
  let v24 : BitVec 1 := Scalar.cmpi .eq c4_i32_7 c0_i32_8
  let c1_i32_9 : BitVec 32 := 1#32
  let v25 : BitVec 32 := Scalar.select v24 c1_i32_9 c4_i32_7
  let v26 : BitVec 32 := Scalar.remsi v6 v25
  let c0_i32_11 : BitVec 32 := 0#32
  let v28 : BitVec 1 := Scalar.cmpi .slt v26 c0_i32_11
  let c0_i32_12 : BitVec 32 := 0#32
  let v29 : BitVec 1 := Scalar.cmpi .slt v25 c0_i32_12
  let v30 : BitVec 1 := Scalar.xori v28 v29
  let c0_i32_10 : BitVec 32 := 0#32
  let v27 : BitVec 1 := Scalar.cmpi .ne v26 c0_i32_10
  let v31 : BitVec 1 := Scalar.andi v30 v27
  let v32 : BitVec 32 := Scalar.addi v26 v25
  let v33 : BitVec 32 := Scalar.select v31 v32 v26
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v33 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_13 : BitVec 32 := 0#32
  let v35 : BitVec 1 := Scalar.cmpi .sgt v33 c0_i32_13
  let v36 : BitVec 32 := Scalar.extui v35
  let c0_i32_14 : BitVec 32 := 0#32
  let v37 : BitVec 1 := Scalar.cmpi .slt v33 c0_i32_14
  let v38 : BitVec 32 := Scalar.extui v37
  let v39 : BitVec 32 := Scalar.subi v36 v38
  let c2_i32 : BitVec 32 := 2#32
  let c0_i32_15 : BitVec 32 := 0#32
  let v40 : BitVec 1 := Scalar.cmpi .sgt c2_i32 c0_i32_15
  let v41 : BitVec 32 := Scalar.extui v40
  let c0_i32_16 : BitVec 32 := 0#32
  let v42 : BitVec 1 := Scalar.cmpi .slt c2_i32 c0_i32_16
  let v43 : BitVec 32 := Scalar.extui v42
  let v44 : BitVec 32 := Scalar.subi v41 v43
  let v45 : BitVec 1 := Scalar.cmpi .ne v39 v44
  let v46 : BitVec 32 := Scalar.remsi v33 c2_i32
  let c0_i32_17 : BitVec 32 := 0#32
  let v47 : BitVec 1 := Scalar.cmpi .ne v46 c0_i32_17
  let v48 : BitVec 1 := Scalar.andi v45 v47
  let v34 : BitVec 32 := Scalar.divsi v33 c2_i32
  let c1_i32_18 : BitVec 32 := 1#32
  let v49 : BitVec 32 := Scalar.subi v34 c1_i32_18
  let v50 : BitVec 32 := Scalar.select v48 v49 v34
  let v61 : BitVec 32 := Scalar.xori v60 v50
  let c1_i32_42 : BitVec 32 := 1#32
  let v97 : BitVec 32 := Scalar.subi c1_i32_42 v50
  let v98 : BitVec 32 := Scalar.xori v61 v97
  let c2_i32_43 : BitVec 32 := 2#32
  let v99 : BitVec 32 := Scalar.muli c2_i32_43 v97
  let v100 : BitVec 32 := Scalar.addi v98 v99
  let v104 : BitVec 32 := Scalar.addi v103 v100
  let c1_i32_490 : BitVec 32 := 1#32
  let v860 : BitVec 32 := Scalar.muli v104 c1_i32_490
  let v861 : BitVec 32 := Scalar.addi c0_i32_491 v860
  v861.toNat
def k0_dev12 (d0 : Dev nD) : Nat :=
  let c0_i32_506 : BitVec 32 := 0#32
  let c4_i32_49 : BitVec 32 := 4#32
  let c2_i32_48 : BitVec 32 := 2#32
  let v4 : BitVec 32 := Dev.word d0
  let c1_i32_1 : BitVec 32 := 1#32
  let v5 : BitVec 32 := Scalar.divsi v4 c1_i32_1
  let c16_i32_0 : BitVec 32 := 16#32
  let v6 : BitVec 32 := Scalar.remsi v5 c16_i32_0
  let c0_i32 : BitVec 32 := 0#32
  let v8 : BitVec 1 := Scalar.cmpi .sgt v6 c0_i32
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c4_i32 : BitVec 32 := 4#32
  let c0_i32_3 : BitVec 32 := 0#32
  let v13 : BitVec 1 := Scalar.cmpi .sgt c4_i32 c0_i32_3
  let v14 : BitVec 32 := Scalar.extui v13
  let c0_i32_4 : BitVec 32 := 0#32
  let v15 : BitVec 1 := Scalar.cmpi .slt c4_i32 c0_i32_4
  let v16 : BitVec 32 := Scalar.extui v15
  let v17 : BitVec 32 := Scalar.subi v14 v16
  let v18 : BitVec 1 := Scalar.cmpi .ne v12 v17
  let v19 : BitVec 32 := Scalar.remsi v6 c4_i32
  let c0_i32_5 : BitVec 32 := 0#32
  let v20 : BitVec 1 := Scalar.cmpi .ne v19 c0_i32_5
  let v21 : BitVec 1 := Scalar.andi v18 v20
  let v7 : BitVec 32 := Scalar.divsi v6 c4_i32
  let c1_i32_6 : BitVec 32 := 1#32
  let v22 : BitVec 32 := Scalar.subi v7 c1_i32_6
  let v23 : BitVec 32 := Scalar.select v21 v22 v7
  let c0_i32_32 : BitVec 32 := 0#32
  let v73 : BitVec 1 := Scalar.cmpi .sgt v23 c0_i32_32
  let v74 : BitVec 32 := Scalar.extui v73
  let c0_i32_33 : BitVec 32 := 0#32
  let v75 : BitVec 1 := Scalar.cmpi .slt v23 c0_i32_33
  let v76 : BitVec 32 := Scalar.extui v75
  let v77 : BitVec 32 := Scalar.subi v74 v76
  let c2_i32_31 : BitVec 32 := 2#32
  let c0_i32_34 : BitVec 32 := 0#32
  let v78 : BitVec 1 := Scalar.cmpi .sgt c2_i32_31 c0_i32_34
  let v79 : BitVec 32 := Scalar.extui v78
  let c0_i32_35 : BitVec 32 := 0#32
  let v80 : BitVec 1 := Scalar.cmpi .slt c2_i32_31 c0_i32_35
  let v81 : BitVec 32 := Scalar.extui v80
  let v82 : BitVec 32 := Scalar.subi v79 v81
  let v83 : BitVec 1 := Scalar.cmpi .ne v77 v82
  let v84 : BitVec 32 := Scalar.remsi v23 c2_i32_31
  let c0_i32_36 : BitVec 32 := 0#32
  let v85 : BitVec 1 := Scalar.cmpi .ne v84 c0_i32_36
  let v86 : BitVec 1 := Scalar.andi v83 v85
  let v72 : BitVec 32 := Scalar.divsi v23 c2_i32_31
  let c1_i32_37 : BitVec 32 := 1#32
  let v87 : BitVec 32 := Scalar.subi v72 c1_i32_37
  let v88 : BitVec 32 := Scalar.select v86 v87 v72
  let v109 : BitVec 32 := Scalar.muli c2_i32_48 v88
  let c1_i32_46 : BitVec 32 := 1#32
  let c2_i32_25 : BitVec 32 := 2#32
  let c0_i32_26 : BitVec 32 := 0#32
  let v62 : BitVec 1 := Scalar.cmpi .eq c2_i32_25 c0_i32_26
  let c1_i32_27 : BitVec 32 := 1#32
  let v63 : BitVec 32 := Scalar.select v62 c1_i32_27 c2_i32_25
  let v64 : BitVec 32 := Scalar.remsi v23 v63
  let c0_i32_29 : BitVec 32 := 0#32
  let v66 : BitVec 1 := Scalar.cmpi .slt v64 c0_i32_29
  let c0_i32_30 : BitVec 32 := 0#32
  let v67 : BitVec 1 := Scalar.cmpi .slt v63 c0_i32_30
  let v68 : BitVec 1 := Scalar.xori v66 v67
  let c0_i32_28 : BitVec 32 := 0#32
  let v65 : BitVec 1 := Scalar.cmpi .ne v64 c0_i32_28
  let v69 : BitVec 1 := Scalar.andi v68 v65
  let v70 : BitVec 32 := Scalar.addi v64 v63
  let v71 : BitVec 32 := Scalar.select v69 v70 v64
  let v105 : BitVec 32 := Scalar.subi c1_i32_46 v71
  let v110 : BitVec 32 := Scalar.addi v109 v105
  let v111 : BitVec 32 := Scalar.muli c4_i32_49 v110
  let c4_i32_7 : BitVec 32 := 4#32
  let c0_i32_8 : BitVec 32 := 0#32
  let v24 : BitVec 1 := Scalar.cmpi .eq c4_i32_7 c0_i32_8
  let c1_i32_9 : BitVec 32 := 1#32
  let v25 : BitVec 32 := Scalar.select v24 c1_i32_9 c4_i32_7
  let v26 : BitVec 32 := Scalar.remsi v6 v25
  let c0_i32_11 : BitVec 32 := 0#32
  let v28 : BitVec 1 := Scalar.cmpi .slt v26 c0_i32_11
  let c0_i32_12 : BitVec 32 := 0#32
  let v29 : BitVec 1 := Scalar.cmpi .slt v25 c0_i32_12
  let v30 : BitVec 1 := Scalar.xori v28 v29
  let c0_i32_10 : BitVec 32 := 0#32
  let v27 : BitVec 1 := Scalar.cmpi .ne v26 c0_i32_10
  let v31 : BitVec 1 := Scalar.andi v30 v27
  let v32 : BitVec 32 := Scalar.addi v26 v25
  let v33 : BitVec 32 := Scalar.select v31 v32 v26
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v33 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_13 : BitVec 32 := 0#32
  let v35 : BitVec 1 := Scalar.cmpi .sgt v33 c0_i32_13
  let v36 : BitVec 32 := Scalar.extui v35
  let c0_i32_14 : BitVec 32 := 0#32
  let v37 : BitVec 1 := Scalar.cmpi .slt v33 c0_i32_14
  let v38 : BitVec 32 := Scalar.extui v37
  let v39 : BitVec 32 := Scalar.subi v36 v38
  let c2_i32 : BitVec 32 := 2#32
  let c0_i32_15 : BitVec 32 := 0#32
  let v40 : BitVec 1 := Scalar.cmpi .sgt c2_i32 c0_i32_15
  let v41 : BitVec 32 := Scalar.extui v40
  let c0_i32_16 : BitVec 32 := 0#32
  let v42 : BitVec 1 := Scalar.cmpi .slt c2_i32 c0_i32_16
  let v43 : BitVec 32 := Scalar.extui v42
  let v44 : BitVec 32 := Scalar.subi v41 v43
  let v45 : BitVec 1 := Scalar.cmpi .ne v39 v44
  let v46 : BitVec 32 := Scalar.remsi v33 c2_i32
  let c0_i32_17 : BitVec 32 := 0#32
  let v47 : BitVec 1 := Scalar.cmpi .ne v46 c0_i32_17
  let v48 : BitVec 1 := Scalar.andi v45 v47
  let v34 : BitVec 32 := Scalar.divsi v33 c2_i32
  let c1_i32_18 : BitVec 32 := 1#32
  let v49 : BitVec 32 := Scalar.subi v34 c1_i32_18
  let v50 : BitVec 32 := Scalar.select v48 v49 v34
  let v61 : BitVec 32 := Scalar.xori v60 v50
  let v106 : BitVec 32 := Scalar.xori v61 v50
  let c2_i32_47 : BitVec 32 := 2#32
  let v107 : BitVec 32 := Scalar.muli c2_i32_47 v50
  let v108 : BitVec 32 := Scalar.addi v106 v107
  let v112 : BitVec 32 := Scalar.addi v111 v108
  let c1_i32_505 : BitVec 32 := 1#32
  let v877 : BitVec 32 := Scalar.muli v112 c1_i32_505
  let v878 : BitVec 32 := Scalar.addi c0_i32_506 v877
  v878.toNat
def k0_off44 (d0 : Dev nD) (c0_i32_468 : BitVec 32) : Fin 2 → Nat :=
  let c0_i32_209 : BitVec 32 := 0#32
  let v4 : BitVec 32 := Dev.word d0
  let c1_i32_1 : BitVec 32 := 1#32
  let v5 : BitVec 32 := Scalar.divsi v4 c1_i32_1
  let c16_i32_0 : BitVec 32 := 16#32
  let v6 : BitVec 32 := Scalar.remsi v5 c16_i32_0
  let c4_i32_7 : BitVec 32 := 4#32
  let c0_i32_8 : BitVec 32 := 0#32
  let v24 : BitVec 1 := Scalar.cmpi .eq c4_i32_7 c0_i32_8
  let c1_i32_9 : BitVec 32 := 1#32
  let v25 : BitVec 32 := Scalar.select v24 c1_i32_9 c4_i32_7
  let v26 : BitVec 32 := Scalar.remsi v6 v25
  let c0_i32_11 : BitVec 32 := 0#32
  let v28 : BitVec 1 := Scalar.cmpi .slt v26 c0_i32_11
  let c0_i32_12 : BitVec 32 := 0#32
  let v29 : BitVec 1 := Scalar.cmpi .slt v25 c0_i32_12
  let v30 : BitVec 1 := Scalar.xori v28 v29
  let c0_i32_10 : BitVec 32 := 0#32
  let v27 : BitVec 1 := Scalar.cmpi .ne v26 c0_i32_10
  let v31 : BitVec 1 := Scalar.andi v30 v27
  let v32 : BitVec 32 := Scalar.addi v26 v25
  let v33 : BitVec 32 := Scalar.select v31 v32 v26
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v33 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_13 : BitVec 32 := 0#32
  let v35 : BitVec 1 := Scalar.cmpi .sgt v33 c0_i32_13
  let v36 : BitVec 32 := Scalar.extui v35
  let c0_i32_14 : BitVec 32 := 0#32
  let v37 : BitVec 1 := Scalar.cmpi .slt v33 c0_i32_14
  let v38 : BitVec 32 := Scalar.extui v37
  let v39 : BitVec 32 := Scalar.subi v36 v38
  let c2_i32 : BitVec 32 := 2#32
  let c0_i32_15 : BitVec 32 := 0#32
  let v40 : BitVec 1 := Scalar.cmpi .sgt c2_i32 c0_i32_15
  let v41 : BitVec 32 := Scalar.extui v40
  let c0_i32_16 : BitVec 32 := 0#32
  let v42 : BitVec 1 := Scalar.cmpi .slt c2_i32 c0_i32_16
  let v43 : BitVec 32 := Scalar.extui v42
  let v44 : BitVec 32 := Scalar.subi v41 v43
  let v45 : BitVec 1 := Scalar.cmpi .ne v39 v44
  let v46 : BitVec 32 := Scalar.remsi v33 c2_i32
  let c0_i32_17 : BitVec 32 := 0#32
  let v47 : BitVec 1 := Scalar.cmpi .ne v46 c0_i32_17
  let v48 : BitVec 1 := Scalar.andi v45 v47
  let v34 : BitVec 32 := Scalar.divsi v33 c2_i32
  let c1_i32_18 : BitVec 32 := 1#32
  let v49 : BitVec 32 := Scalar.subi v34 c1_i32_18
  let v50 : BitVec 32 := Scalar.select v48 v49 v34
  let v61 : BitVec 32 := Scalar.xori v60 v50
  let c256_i32_208 : BitVec 32 := 256#32
  let v438 : BitVec 32 := Scalar.muli v61 c256_i32_208
  let v439 : BitVec 32 := Scalar.addi c0_i32_209 v438
  let c128_i32_448 : BitVec 32 := 128#32
  let v808 : BitVec 32 := Scalar.muli v50 c128_i32_448
  let v809 : BitVec 32 := Scalar.addi v439 v808
  let v834 : BitVec 32 := Scalar.addi v809 c0_i32_468
  let v896 : Index := Scalar.indexCast v834
  let c0_531 : Index := 0#32
  ![v896.toNat, 0]
def k0_off45 (d0 : Dev nD) (c0_i32_483 : BitVec 32) : Fin 2 → Nat :=
  let c512_i32_214 : BitVec 32 := 512#32
  let v4 : BitVec 32 := Dev.word d0
  let c1_i32_1 : BitVec 32 := 1#32
  let v5 : BitVec 32 := Scalar.divsi v4 c1_i32_1
  let c16_i32_0 : BitVec 32 := 16#32
  let v6 : BitVec 32 := Scalar.remsi v5 c16_i32_0
  let c4_i32_7 : BitVec 32 := 4#32
  let c0_i32_8 : BitVec 32 := 0#32
  let v24 : BitVec 1 := Scalar.cmpi .eq c4_i32_7 c0_i32_8
  let c1_i32_9 : BitVec 32 := 1#32
  let v25 : BitVec 32 := Scalar.select v24 c1_i32_9 c4_i32_7
  let v26 : BitVec 32 := Scalar.remsi v6 v25
  let c0_i32_11 : BitVec 32 := 0#32
  let v28 : BitVec 1 := Scalar.cmpi .slt v26 c0_i32_11
  let c0_i32_12 : BitVec 32 := 0#32
  let v29 : BitVec 1 := Scalar.cmpi .slt v25 c0_i32_12
  let v30 : BitVec 1 := Scalar.xori v28 v29
  let c0_i32_10 : BitVec 32 := 0#32
  let v27 : BitVec 1 := Scalar.cmpi .ne v26 c0_i32_10
  let v31 : BitVec 1 := Scalar.andi v30 v27
  let v32 : BitVec 32 := Scalar.addi v26 v25
  let v33 : BitVec 32 := Scalar.select v31 v32 v26
  let c0_i32_13 : BitVec 32 := 0#32
  let v35 : BitVec 1 := Scalar.cmpi .sgt v33 c0_i32_13
  let v36 : BitVec 32 := Scalar.extui v35
  let c0_i32_14 : BitVec 32 := 0#32
  let v37 : BitVec 1 := Scalar.cmpi .slt v33 c0_i32_14
  let v38 : BitVec 32 := Scalar.extui v37
  let v39 : BitVec 32 := Scalar.subi v36 v38
  let c2_i32 : BitVec 32 := 2#32
  let c0_i32_15 : BitVec 32 := 0#32
  let v40 : BitVec 1 := Scalar.cmpi .sgt c2_i32 c0_i32_15
  let v41 : BitVec 32 := Scalar.extui v40
  let c0_i32_16 : BitVec 32 := 0#32
  let v42 : BitVec 1 := Scalar.cmpi .slt c2_i32 c0_i32_16
  let v43 : BitVec 32 := Scalar.extui v42
  let v44 : BitVec 32 := Scalar.subi v41 v43
  let v45 : BitVec 1 := Scalar.cmpi .ne v39 v44
  let v46 : BitVec 32 := Scalar.remsi v33 c2_i32
  let c0_i32_17 : BitVec 32 := 0#32
  let v47 : BitVec 1 := Scalar.cmpi .ne v46 c0_i32_17
  let v48 : BitVec 1 := Scalar.andi v45 v47
  let v34 : BitVec 32 := Scalar.divsi v33 c2_i32
  let c1_i32_18 : BitVec 32 := 1#32
  let v49 : BitVec 32 := Scalar.subi v34 c1_i32_18
  let v50 : BitVec 32 := Scalar.select v48 v49 v34
  let c256_i32_213 : BitVec 32 := 256#32
  let v443 : BitVec 32 := Scalar.muli v50 c256_i32_213
  let v444 : BitVec 32 := Scalar.addi c512_i32_214 v443
  let c0_i32 : BitVec 32 := 0#32
  let v8 : BitVec 1 := Scalar.cmpi .sgt v6 c0_i32
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c4_i32 : BitVec 32 := 4#32
  let c0_i32_3 : BitVec 32 := 0#32
  let v13 : BitVec 1 := Scalar.cmpi .sgt c4_i32 c0_i32_3
  let v14 : BitVec 32 := Scalar.extui v13
  let c0_i32_4 : BitVec 32 := 0#32
  let v15 : BitVec 1 := Scalar.cmpi .slt c4_i32 c0_i32_4
  let v16 : BitVec 32 := Scalar.extui v15
  let v17 : BitVec 32 := Scalar.subi v14 v16
  let v18 : BitVec 1 := Scalar.cmpi .ne v12 v17
  let v19 : BitVec 32 := Scalar.remsi v6 c4_i32
  let c0_i32_5 : BitVec 32 := 0#32
  let v20 : BitVec 1 := Scalar.cmpi .ne v19 c0_i32_5
  let v21 : BitVec 1 := Scalar.andi v18 v20
  let v7 : BitVec 32 := Scalar.divsi v6 c4_i32
  let c1_i32_6 : BitVec 32 := 1#32
  let v22 : BitVec 32 := Scalar.subi v7 c1_i32_6
  let v23 : BitVec 32 := Scalar.select v21 v22 v7
  let c2_i32_25 : BitVec 32 := 2#32
  let c0_i32_26 : BitVec 32 := 0#32
  let v62 : BitVec 1 := Scalar.cmpi .eq c2_i32_25 c0_i32_26
  let c1_i32_27 : BitVec 32 := 1#32
  let v63 : BitVec 32 := Scalar.select v62 c1_i32_27 c2_i32_25
  let v64 : BitVec 32 := Scalar.remsi v23 v63
  let c0_i32_29 : BitVec 32 := 0#32
  let v66 : BitVec 1 := Scalar.cmpi .slt v64 c0_i32_29
  let c0_i32_30 : BitVec 32 := 0#32
  let v67 : BitVec 1 := Scalar.cmpi .slt v63 c0_i32_30
  let v68 : BitVec 1 := Scalar.xori v66 v67
  let c0_i32_28 : BitVec 32 := 0#32
  let v65 : BitVec 1 := Scalar.cmpi .ne v64 c0_i32_28
  let v69 : BitVec 1 := Scalar.andi v68 v65
  let v70 : BitVec 32 := Scalar.addi v64 v63
  let v71 : BitVec 32 := Scalar.select v69 v70 v64
  let c128_i32_451 : BitVec 32 := 128#32
  let v813 : BitVec 32 := Scalar.muli v71 c128_i32_451
  let v814 : BitVec 32 := Scalar.addi v444 v813
  let v851 : BitVec 32 := Scalar.addi v814 c0_i32_483
  let v914 : Index := Scalar.indexCast v851
  let c0_554 : Index := 0#32
  ![v914.toNat, 0]
def k0_off46 (d0 : Dev nD) (c0_i32_610 : BitVec 32) : Fin 2 → Nat :=
  let c0_i32_209 : BitVec 32 := 0#32
  let v4 : BitVec 32 := Dev.word d0
  let c1_i32_1 : BitVec 32 := 1#32
  let v5 : BitVec 32 := Scalar.divsi v4 c1_i32_1
  let c16_i32_0 : BitVec 32 := 16#32
  let v6 : BitVec 32 := Scalar.remsi v5 c16_i32_0
  let c4_i32_7 : BitVec 32 := 4#32
  let c0_i32_8 : BitVec 32 := 0#32
  let v24 : BitVec 1 := Scalar.cmpi .eq c4_i32_7 c0_i32_8
  let c1_i32_9 : BitVec 32 := 1#32
  let v25 : BitVec 32 := Scalar.select v24 c1_i32_9 c4_i32_7
  let v26 : BitVec 32 := Scalar.remsi v6 v25
  let c0_i32_11 : BitVec 32 := 0#32
  let v28 : BitVec 1 := Scalar.cmpi .slt v26 c0_i32_11
  let c0_i32_12 : BitVec 32 := 0#32
  let v29 : BitVec 1 := Scalar.cmpi .slt v25 c0_i32_12
  let v30 : BitVec 1 := Scalar.xori v28 v29
  let c0_i32_10 : BitVec 32 := 0#32
  let v27 : BitVec 1 := Scalar.cmpi .ne v26 c0_i32_10
  let v31 : BitVec 1 := Scalar.andi v30 v27
  let v32 : BitVec 32 := Scalar.addi v26 v25
  let v33 : BitVec 32 := Scalar.select v31 v32 v26
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v33 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_13 : BitVec 32 := 0#32
  let v35 : BitVec 1 := Scalar.cmpi .sgt v33 c0_i32_13
  let v36 : BitVec 32 := Scalar.extui v35
  let c0_i32_14 : BitVec 32 := 0#32
  let v37 : BitVec 1 := Scalar.cmpi .slt v33 c0_i32_14
  let v38 : BitVec 32 := Scalar.extui v37
  let v39 : BitVec 32 := Scalar.subi v36 v38
  let c2_i32 : BitVec 32 := 2#32
  let c0_i32_15 : BitVec 32 := 0#32
  let v40 : BitVec 1 := Scalar.cmpi .sgt c2_i32 c0_i32_15
  let v41 : BitVec 32 := Scalar.extui v40
  let c0_i32_16 : BitVec 32 := 0#32
  let v42 : BitVec 1 := Scalar.cmpi .slt c2_i32 c0_i32_16
  let v43 : BitVec 32 := Scalar.extui v42
  let v44 : BitVec 32 := Scalar.subi v41 v43
  let v45 : BitVec 1 := Scalar.cmpi .ne v39 v44
  let v46 : BitVec 32 := Scalar.remsi v33 c2_i32
  let c0_i32_17 : BitVec 32 := 0#32
  let v47 : BitVec 1 := Scalar.cmpi .ne v46 c0_i32_17
  let v48 : BitVec 1 := Scalar.andi v45 v47
  let v34 : BitVec 32 := Scalar.divsi v33 c2_i32
  let c1_i32_18 : BitVec 32 := 1#32
  let v49 : BitVec 32 := Scalar.subi v34 c1_i32_18
  let v50 : BitVec 32 := Scalar.select v48 v49 v34
  let v61 : BitVec 32 := Scalar.xori v60 v50
  let c256_i32_208 : BitVec 32 := 256#32
  let v438 : BitVec 32 := Scalar.muli v61 c256_i32_208
  let v439 : BitVec 32 := Scalar.addi c0_i32_209 v438
  let c128_i32_448 : BitVec 32 := 128#32
  let v808 : BitVec 32 := Scalar.muli v50 c128_i32_448
  let v809 : BitVec 32 := Scalar.addi v439 v808
  let c1_i32_605 : BitVec 32 := 1#32
  let c0_i32 : BitVec 32 := 0#32
  let v8 : BitVec 1 := Scalar.cmpi .sgt v6 c0_i32
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c4_i32 : BitVec 32 := 4#32
  let c0_i32_3 : BitVec 32 := 0#32
  let v13 : BitVec 1 := Scalar.cmpi .sgt c4_i32 c0_i32_3
  let v14 : BitVec 32 := Scalar.extui v13
  let c0_i32_4 : BitVec 32 := 0#32
  let v15 : BitVec 1 := Scalar.cmpi .slt c4_i32 c0_i32_4
  let v16 : BitVec 32 := Scalar.extui v15
  let v17 : BitVec 32 := Scalar.subi v14 v16
  let v18 : BitVec 1 := Scalar.cmpi .ne v12 v17
  let v19 : BitVec 32 := Scalar.remsi v6 c4_i32
  let c0_i32_5 : BitVec 32 := 0#32
  let v20 : BitVec 1 := Scalar.cmpi .ne v19 c0_i32_5
  let v21 : BitVec 1 := Scalar.andi v18 v20
  let v7 : BitVec 32 := Scalar.divsi v6 c4_i32
  let c1_i32_6 : BitVec 32 := 1#32
  let v22 : BitVec 32 := Scalar.subi v7 c1_i32_6
  let v23 : BitVec 32 := Scalar.select v21 v22 v7
  let c2_i32_25 : BitVec 32 := 2#32
  let c0_i32_26 : BitVec 32 := 0#32
  let v62 : BitVec 1 := Scalar.cmpi .eq c2_i32_25 c0_i32_26
  let c1_i32_27 : BitVec 32 := 1#32
  let v63 : BitVec 32 := Scalar.select v62 c1_i32_27 c2_i32_25
  let v64 : BitVec 32 := Scalar.remsi v23 v63
  let c0_i32_29 : BitVec 32 := 0#32
  let v66 : BitVec 1 := Scalar.cmpi .slt v64 c0_i32_29
  let c0_i32_30 : BitVec 32 := 0#32
  let v67 : BitVec 1 := Scalar.cmpi .slt v63 c0_i32_30
  let v68 : BitVec 1 := Scalar.xori v66 v67
  let c0_i32_28 : BitVec 32 := 0#32
  let v65 : BitVec 1 := Scalar.cmpi .ne v64 c0_i32_28
  let v69 : BitVec 1 := Scalar.andi v68 v65
  let v70 : BitVec 32 := Scalar.addi v64 v63
  let v71 : BitVec 32 := Scalar.select v69 v70 v64
  let v960 : BitVec 32 := Scalar.subi c1_i32_605 v71
  let c64_i32_606 : BitVec 32 := 64#32
  let v961 : BitVec 32 := Scalar.muli v960 c64_i32_606
  let v962 : BitVec 32 := Scalar.addi v809 v961
  let v968 : BitVec 32 := Scalar.addi v962 c0_i32_610
  let v969 : Index := Scalar.indexCast v968
  let c0_611 : Index := 0#32
  ![v969.toNat, 0]
def k0_dev13 (d0 : Dev nD) : Nat :=
  let c0_i32_619 : BitVec 32 := 0#32
  let c4_i32_49 : BitVec 32 := 4#32
  let c2_i32_48 : BitVec 32 := 2#32
  let v4 : BitVec 32 := Dev.word d0
  let c1_i32_1 : BitVec 32 := 1#32
  let v5 : BitVec 32 := Scalar.divsi v4 c1_i32_1
  let c16_i32_0 : BitVec 32 := 16#32
  let v6 : BitVec 32 := Scalar.remsi v5 c16_i32_0
  let c0_i32 : BitVec 32 := 0#32
  let v8 : BitVec 1 := Scalar.cmpi .sgt v6 c0_i32
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c4_i32 : BitVec 32 := 4#32
  let c0_i32_3 : BitVec 32 := 0#32
  let v13 : BitVec 1 := Scalar.cmpi .sgt c4_i32 c0_i32_3
  let v14 : BitVec 32 := Scalar.extui v13
  let c0_i32_4 : BitVec 32 := 0#32
  let v15 : BitVec 1 := Scalar.cmpi .slt c4_i32 c0_i32_4
  let v16 : BitVec 32 := Scalar.extui v15
  let v17 : BitVec 32 := Scalar.subi v14 v16
  let v18 : BitVec 1 := Scalar.cmpi .ne v12 v17
  let v19 : BitVec 32 := Scalar.remsi v6 c4_i32
  let c0_i32_5 : BitVec 32 := 0#32
  let v20 : BitVec 1 := Scalar.cmpi .ne v19 c0_i32_5
  let v21 : BitVec 1 := Scalar.andi v18 v20
  let v7 : BitVec 32 := Scalar.divsi v6 c4_i32
  let c1_i32_6 : BitVec 32 := 1#32
  let v22 : BitVec 32 := Scalar.subi v7 c1_i32_6
  let v23 : BitVec 32 := Scalar.select v21 v22 v7
  let c0_i32_32 : BitVec 32 := 0#32
  let v73 : BitVec 1 := Scalar.cmpi .sgt v23 c0_i32_32
  let v74 : BitVec 32 := Scalar.extui v73
  let c0_i32_33 : BitVec 32 := 0#32
  let v75 : BitVec 1 := Scalar.cmpi .slt v23 c0_i32_33
  let v76 : BitVec 32 := Scalar.extui v75
  let v77 : BitVec 32 := Scalar.subi v74 v76
  let c2_i32_31 : BitVec 32 := 2#32
  let c0_i32_34 : BitVec 32 := 0#32
  let v78 : BitVec 1 := Scalar.cmpi .sgt c2_i32_31 c0_i32_34
  let v79 : BitVec 32 := Scalar.extui v78
  let c0_i32_35 : BitVec 32 := 0#32
  let v80 : BitVec 1 := Scalar.cmpi .slt c2_i32_31 c0_i32_35
  let v81 : BitVec 32 := Scalar.extui v80
  let v82 : BitVec 32 := Scalar.subi v79 v81
  let v83 : BitVec 1 := Scalar.cmpi .ne v77 v82
  let v84 : BitVec 32 := Scalar.remsi v23 c2_i32_31
  let c0_i32_36 : BitVec 32 := 0#32
  let v85 : BitVec 1 := Scalar.cmpi .ne v84 c0_i32_36
  let v86 : BitVec 1 := Scalar.andi v83 v85
  let v72 : BitVec 32 := Scalar.divsi v23 c2_i32_31
  let c1_i32_37 : BitVec 32 := 1#32
  let v87 : BitVec 32 := Scalar.subi v72 c1_i32_37
  let v88 : BitVec 32 := Scalar.select v86 v87 v72
  let v109 : BitVec 32 := Scalar.muli c2_i32_48 v88
  let c1_i32_46 : BitVec 32 := 1#32
  let c2_i32_25 : BitVec 32 := 2#32
  let c0_i32_26 : BitVec 32 := 0#32
  let v62 : BitVec 1 := Scalar.cmpi .eq c2_i32_25 c0_i32_26
  let c1_i32_27 : BitVec 32 := 1#32
  let v63 : BitVec 32 := Scalar.select v62 c1_i32_27 c2_i32_25
  let v64 : BitVec 32 := Scalar.remsi v23 v63
  let c0_i32_29 : BitVec 32 := 0#32
  let v66 : BitVec 1 := Scalar.cmpi .slt v64 c0_i32_29
  let c0_i32_30 : BitVec 32 := 0#32
  let v67 : BitVec 1 := Scalar.cmpi .slt v63 c0_i32_30
  let v68 : BitVec 1 := Scalar.xori v66 v67
  let c0_i32_28 : BitVec 32 := 0#32
  let v65 : BitVec 1 := Scalar.cmpi .ne v64 c0_i32_28
  let v69 : BitVec 1 := Scalar.andi v68 v65
  let v70 : BitVec 32 := Scalar.addi v64 v63
  let v71 : BitVec 32 := Scalar.select v69 v70 v64
  let v105 : BitVec 32 := Scalar.subi c1_i32_46 v71
  let v110 : BitVec 32 := Scalar.addi v109 v105
  let v111 : BitVec 32 := Scalar.muli c4_i32_49 v110
  let c4_i32_7 : BitVec 32 := 4#32
  let c0_i32_8 : BitVec 32 := 0#32
  let v24 : BitVec 1 := Scalar.cmpi .eq c4_i32_7 c0_i32_8
  let c1_i32_9 : BitVec 32 := 1#32
  let v25 : BitVec 32 := Scalar.select v24 c1_i32_9 c4_i32_7
  let v26 : BitVec 32 := Scalar.remsi v6 v25
  let c0_i32_11 : BitVec 32 := 0#32
  let v28 : BitVec 1 := Scalar.cmpi .slt v26 c0_i32_11
  let c0_i32_12 : BitVec 32 := 0#32
  let v29 : BitVec 1 := Scalar.cmpi .slt v25 c0_i32_12
  let v30 : BitVec 1 := Scalar.xori v28 v29
  let c0_i32_10 : BitVec 32 := 0#32
  let v27 : BitVec 1 := Scalar.cmpi .ne v26 c0_i32_10
  let v31 : BitVec 1 := Scalar.andi v30 v27
  let v32 : BitVec 32 := Scalar.addi v26 v25
  let v33 : BitVec 32 := Scalar.select v31 v32 v26
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v33 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_13 : BitVec 32 := 0#32
  let v35 : BitVec 1 := Scalar.cmpi .sgt v33 c0_i32_13
  let v36 : BitVec 32 := Scalar.extui v35
  let c0_i32_14 : BitVec 32 := 0#32
  let v37 : BitVec 1 := Scalar.cmpi .slt v33 c0_i32_14
  let v38 : BitVec 32 := Scalar.extui v37
  let v39 : BitVec 32 := Scalar.subi v36 v38
  let c2_i32 : BitVec 32 := 2#32
  let c0_i32_15 : BitVec 32 := 0#32
  let v40 : BitVec 1 := Scalar.cmpi .sgt c2_i32 c0_i32_15
  let v41 : BitVec 32 := Scalar.extui v40
  let c0_i32_16 : BitVec 32 := 0#32
  let v42 : BitVec 1 := Scalar.cmpi .slt c2_i32 c0_i32_16
  let v43 : BitVec 32 := Scalar.extui v42
  let v44 : BitVec 32 := Scalar.subi v41 v43
  let v45 : BitVec 1 := Scalar.cmpi .ne v39 v44
  let v46 : BitVec 32 := Scalar.remsi v33 c2_i32
  let c0_i32_17 : BitVec 32 := 0#32
  let v47 : BitVec 1 := Scalar.cmpi .ne v46 c0_i32_17
  let v48 : BitVec 1 := Scalar.andi v45 v47
  let v34 : BitVec 32 := Scalar.divsi v33 c2_i32
  let c1_i32_18 : BitVec 32 := 1#32
  let v49 : BitVec 32 := Scalar.subi v34 c1_i32_18
  let v50 : BitVec 32 := Scalar.select v48 v49 v34
  let v61 : BitVec 32 := Scalar.xori v60 v50
  let v106 : BitVec 32 := Scalar.xori v61 v50
  let c2_i32_47 : BitVec 32 := 2#32
  let v107 : BitVec 32 := Scalar.muli c2_i32_47 v50
  let v108 : BitVec 32 := Scalar.addi v106 v107
  let v112 : BitVec 32 := Scalar.addi v111 v108
  let c1_i32_618 : BitVec 32 := 1#32
  let v976 : BitVec 32 := Scalar.muli v112 c1_i32_618
  let v977 : BitVec 32 := Scalar.addi c0_i32_619 v976
  v977.toNat
def k0_off47 (d0 : Dev nD) (c0_i32_625 : BitVec 32) : Fin 2 → Nat :=
  let c512_i32_214 : BitVec 32 := 512#32
  let v4 : BitVec 32 := Dev.word d0
  let c1_i32_1 : BitVec 32 := 1#32
  let v5 : BitVec 32 := Scalar.divsi v4 c1_i32_1
  let c16_i32_0 : BitVec 32 := 16#32
  let v6 : BitVec 32 := Scalar.remsi v5 c16_i32_0
  let c4_i32_7 : BitVec 32 := 4#32
  let c0_i32_8 : BitVec 32 := 0#32
  let v24 : BitVec 1 := Scalar.cmpi .eq c4_i32_7 c0_i32_8
  let c1_i32_9 : BitVec 32 := 1#32
  let v25 : BitVec 32 := Scalar.select v24 c1_i32_9 c4_i32_7
  let v26 : BitVec 32 := Scalar.remsi v6 v25
  let c0_i32_11 : BitVec 32 := 0#32
  let v28 : BitVec 1 := Scalar.cmpi .slt v26 c0_i32_11
  let c0_i32_12 : BitVec 32 := 0#32
  let v29 : BitVec 1 := Scalar.cmpi .slt v25 c0_i32_12
  let v30 : BitVec 1 := Scalar.xori v28 v29
  let c0_i32_10 : BitVec 32 := 0#32
  let v27 : BitVec 1 := Scalar.cmpi .ne v26 c0_i32_10
  let v31 : BitVec 1 := Scalar.andi v30 v27
  let v32 : BitVec 32 := Scalar.addi v26 v25
  let v33 : BitVec 32 := Scalar.select v31 v32 v26
  let c0_i32_13 : BitVec 32 := 0#32
  let v35 : BitVec 1 := Scalar.cmpi .sgt v33 c0_i32_13
  let v36 : BitVec 32 := Scalar.extui v35
  let c0_i32_14 : BitVec 32 := 0#32
  let v37 : BitVec 1 := Scalar.cmpi .slt v33 c0_i32_14
  let v38 : BitVec 32 := Scalar.extui v37
  let v39 : BitVec 32 := Scalar.subi v36 v38
  let c2_i32 : BitVec 32 := 2#32
  let c0_i32_15 : BitVec 32 := 0#32
  let v40 : BitVec 1 := Scalar.cmpi .sgt c2_i32 c0_i32_15
  let v41 : BitVec 32 := Scalar.extui v40
  let c0_i32_16 : BitVec 32 := 0#32
  let v42 : BitVec 1 := Scalar.cmpi .slt c2_i32 c0_i32_16
  let v43 : BitVec 32 := Scalar.extui v42
  let v44 : BitVec 32 := Scalar.subi v41 v43
  let v45 : BitVec 1 := Scalar.cmpi .ne v39 v44
  let v46 : BitVec 32 := Scalar.remsi v33 c2_i32
  let c0_i32_17 : BitVec 32 := 0#32
  let v47 : BitVec 1 := Scalar.cmpi .ne v46 c0_i32_17
  let v48 : BitVec 1 := Scalar.andi v45 v47
  let v34 : BitVec 32 := Scalar.divsi v33 c2_i32
  let c1_i32_18 : BitVec 32 := 1#32
  let v49 : BitVec 32 := Scalar.subi v34 c1_i32_18
  let v50 : BitVec 32 := Scalar.select v48 v49 v34
  let c256_i32_213 : BitVec 32 := 256#32
  let v443 : BitVec 32 := Scalar.muli v50 c256_i32_213
  let v444 : BitVec 32 := Scalar.addi c512_i32_214 v443
  let c0_i32 : BitVec 32 := 0#32
  let v8 : BitVec 1 := Scalar.cmpi .sgt v6 c0_i32
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c4_i32 : BitVec 32 := 4#32
  let c0_i32_3 : BitVec 32 := 0#32
  let v13 : BitVec 1 := Scalar.cmpi .sgt c4_i32 c0_i32_3
  let v14 : BitVec 32 := Scalar.extui v13
  let c0_i32_4 : BitVec 32 := 0#32
  let v15 : BitVec 1 := Scalar.cmpi .slt c4_i32 c0_i32_4
  let v16 : BitVec 32 := Scalar.extui v15
  let v17 : BitVec 32 := Scalar.subi v14 v16
  let v18 : BitVec 1 := Scalar.cmpi .ne v12 v17
  let v19 : BitVec 32 := Scalar.remsi v6 c4_i32
  let c0_i32_5 : BitVec 32 := 0#32
  let v20 : BitVec 1 := Scalar.cmpi .ne v19 c0_i32_5
  let v21 : BitVec 1 := Scalar.andi v18 v20
  let v7 : BitVec 32 := Scalar.divsi v6 c4_i32
  let c1_i32_6 : BitVec 32 := 1#32
  let v22 : BitVec 32 := Scalar.subi v7 c1_i32_6
  let v23 : BitVec 32 := Scalar.select v21 v22 v7
  let c2_i32_25 : BitVec 32 := 2#32
  let c0_i32_26 : BitVec 32 := 0#32
  let v62 : BitVec 1 := Scalar.cmpi .eq c2_i32_25 c0_i32_26
  let c1_i32_27 : BitVec 32 := 1#32
  let v63 : BitVec 32 := Scalar.select v62 c1_i32_27 c2_i32_25
  let v64 : BitVec 32 := Scalar.remsi v23 v63
  let c0_i32_29 : BitVec 32 := 0#32
  let v66 : BitVec 1 := Scalar.cmpi .slt v64 c0_i32_29
  let c0_i32_30 : BitVec 32 := 0#32
  let v67 : BitVec 1 := Scalar.cmpi .slt v63 c0_i32_30
  let v68 : BitVec 1 := Scalar.xori v66 v67
  let c0_i32_28 : BitVec 32 := 0#32
  let v65 : BitVec 1 := Scalar.cmpi .ne v64 c0_i32_28
  let v69 : BitVec 1 := Scalar.andi v68 v65
  let v70 : BitVec 32 := Scalar.addi v64 v63
  let v71 : BitVec 32 := Scalar.select v69 v70 v64
  let c128_i32_451 : BitVec 32 := 128#32
  let v813 : BitVec 32 := Scalar.muli v71 c128_i32_451
  let v814 : BitVec 32 := Scalar.addi v444 v813
  let c1_i32_608 : BitVec 32 := 1#32
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v33 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let v61 : BitVec 32 := Scalar.xori v60 v50
  let v965 : BitVec 32 := Scalar.subi c1_i32_608 v61
  let c64_i32_609 : BitVec 32 := 64#32
  let v966 : BitVec 32 := Scalar.muli v965 c64_i32_609
  let v967 : BitVec 32 := Scalar.addi v814 v966
  let v985 : BitVec 32 := Scalar.addi v967 c0_i32_625
  let v986 : Index := Scalar.indexCast v985
  let c0_626 : Index := 0#32
  ![v986.toNat, 0]
def k0_dev14 (d0 : Dev nD) : Nat :=
  let c0_i32_634 : BitVec 32 := 0#32
  let c4_i32_41 : BitVec 32 := 4#32
  let c2_i32_40 : BitVec 32 := 2#32
  let v4 : BitVec 32 := Dev.word d0
  let c1_i32_1 : BitVec 32 := 1#32
  let v5 : BitVec 32 := Scalar.divsi v4 c1_i32_1
  let c16_i32_0 : BitVec 32 := 16#32
  let v6 : BitVec 32 := Scalar.remsi v5 c16_i32_0
  let c0_i32 : BitVec 32 := 0#32
  let v8 : BitVec 1 := Scalar.cmpi .sgt v6 c0_i32
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c4_i32 : BitVec 32 := 4#32
  let c0_i32_3 : BitVec 32 := 0#32
  let v13 : BitVec 1 := Scalar.cmpi .sgt c4_i32 c0_i32_3
  let v14 : BitVec 32 := Scalar.extui v13
  let c0_i32_4 : BitVec 32 := 0#32
  let v15 : BitVec 1 := Scalar.cmpi .slt c4_i32 c0_i32_4
  let v16 : BitVec 32 := Scalar.extui v15
  let v17 : BitVec 32 := Scalar.subi v14 v16
  let v18 : BitVec 1 := Scalar.cmpi .ne v12 v17
  let v19 : BitVec 32 := Scalar.remsi v6 c4_i32
  let c0_i32_5 : BitVec 32 := 0#32
  let v20 : BitVec 1 := Scalar.cmpi .ne v19 c0_i32_5
  let v21 : BitVec 1 := Scalar.andi v18 v20
  let v7 : BitVec 32 := Scalar.divsi v6 c4_i32
  let c1_i32_6 : BitVec 32 := 1#32
  let v22 : BitVec 32 := Scalar.subi v7 c1_i32_6
  let v23 : BitVec 32 := Scalar.select v21 v22 v7
  let c0_i32_32 : BitVec 32 := 0#32
  let v73 : BitVec 1 := Scalar.cmpi .sgt v23 c0_i32_32
  let v74 : BitVec 32 := Scalar.extui v73
  let c0_i32_33 : BitVec 32 := 0#32
  let v75 : BitVec 1 := Scalar.cmpi .slt v23 c0_i32_33
  let v76 : BitVec 32 := Scalar.extui v75
  let v77 : BitVec 32 := Scalar.subi v74 v76
  let c2_i32_31 : BitVec 32 := 2#32
  let c0_i32_34 : BitVec 32 := 0#32
  let v78 : BitVec 1 := Scalar.cmpi .sgt c2_i32_31 c0_i32_34
  let v79 : BitVec 32 := Scalar.extui v78
  let c0_i32_35 : BitVec 32 := 0#32
  let v80 : BitVec 1 := Scalar.cmpi .slt c2_i32_31 c0_i32_35
  let v81 : BitVec 32 := Scalar.extui v80
  let v82 : BitVec 32 := Scalar.subi v79 v81
  let v83 : BitVec 1 := Scalar.cmpi .ne v77 v82
  let v84 : BitVec 32 := Scalar.remsi v23 c2_i32_31
  let c0_i32_36 : BitVec 32 := 0#32
  let v85 : BitVec 1 := Scalar.cmpi .ne v84 c0_i32_36
  let v86 : BitVec 1 := Scalar.andi v83 v85
  let v72 : BitVec 32 := Scalar.divsi v23 c2_i32_31
  let c1_i32_37 : BitVec 32 := 1#32
  let v87 : BitVec 32 := Scalar.subi v72 c1_i32_37
  let v88 : BitVec 32 := Scalar.select v86 v87 v72
  let v93 : BitVec 32 := Scalar.muli c2_i32_40 v88
  let c2_i32_25 : BitVec 32 := 2#32
  let c0_i32_26 : BitVec 32 := 0#32
  let v62 : BitVec 1 := Scalar.cmpi .eq c2_i32_25 c0_i32_26
  let c1_i32_27 : BitVec 32 := 1#32
  let v63 : BitVec 32 := Scalar.select v62 c1_i32_27 c2_i32_25
  let v64 : BitVec 32 := Scalar.remsi v23 v63
  let c0_i32_29 : BitVec 32 := 0#32
  let v66 : BitVec 1 := Scalar.cmpi .slt v64 c0_i32_29
  let c0_i32_30 : BitVec 32 := 0#32
  let v67 : BitVec 1 := Scalar.cmpi .slt v63 c0_i32_30
  let v68 : BitVec 1 := Scalar.xori v66 v67
  let c0_i32_28 : BitVec 32 := 0#32
  let v65 : BitVec 1 := Scalar.cmpi .ne v64 c0_i32_28
  let v69 : BitVec 1 := Scalar.andi v68 v65
  let v70 : BitVec 32 := Scalar.addi v64 v63
  let v71 : BitVec 32 := Scalar.select v69 v70 v64
  let v94 : BitVec 32 := Scalar.addi v93 v71
  let v95 : BitVec 32 := Scalar.muli c4_i32_41 v94
  let c1_i32_38 : BitVec 32 := 1#32
  let c4_i32_7 : BitVec 32 := 4#32
  let c0_i32_8 : BitVec 32 := 0#32
  let v24 : BitVec 1 := Scalar.cmpi .eq c4_i32_7 c0_i32_8
  let c1_i32_9 : BitVec 32 := 1#32
  let v25 : BitVec 32 := Scalar.select v24 c1_i32_9 c4_i32_7
  let v26 : BitVec 32 := Scalar.remsi v6 v25
  let c0_i32_11 : BitVec 32 := 0#32
  let v28 : BitVec 1 := Scalar.cmpi .slt v26 c0_i32_11
  let c0_i32_12 : BitVec 32 := 0#32
  let v29 : BitVec 1 := Scalar.cmpi .slt v25 c0_i32_12
  let v30 : BitVec 1 := Scalar.xori v28 v29
  let c0_i32_10 : BitVec 32 := 0#32
  let v27 : BitVec 1 := Scalar.cmpi .ne v26 c0_i32_10
  let v31 : BitVec 1 := Scalar.andi v30 v27
  let v32 : BitVec 32 := Scalar.addi v26 v25
  let v33 : BitVec 32 := Scalar.select v31 v32 v26
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v33 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_13 : BitVec 32 := 0#32
  let v35 : BitVec 1 := Scalar.cmpi .sgt v33 c0_i32_13
  let v36 : BitVec 32 := Scalar.extui v35
  let c0_i32_14 : BitVec 32 := 0#32
  let v37 : BitVec 1 := Scalar.cmpi .slt v33 c0_i32_14
  let v38 : BitVec 32 := Scalar.extui v37
  let v39 : BitVec 32 := Scalar.subi v36 v38
  let c2_i32 : BitVec 32 := 2#32
  let c0_i32_15 : BitVec 32 := 0#32
  let v40 : BitVec 1 := Scalar.cmpi .sgt c2_i32 c0_i32_15
  let v41 : BitVec 32 := Scalar.extui v40
  let c0_i32_16 : BitVec 32 := 0#32
  let v42 : BitVec 1 := Scalar.cmpi .slt c2_i32 c0_i32_16
  let v43 : BitVec 32 := Scalar.extui v42
  let v44 : BitVec 32 := Scalar.subi v41 v43
  let v45 : BitVec 1 := Scalar.cmpi .ne v39 v44
  let v46 : BitVec 32 := Scalar.remsi v33 c2_i32
  let c0_i32_17 : BitVec 32 := 0#32
  let v47 : BitVec 1 := Scalar.cmpi .ne v46 c0_i32_17
  let v48 : BitVec 1 := Scalar.andi v45 v47
  let v34 : BitVec 32 := Scalar.divsi v33 c2_i32
  let c1_i32_18 : BitVec 32 := 1#32
  let v49 : BitVec 32 := Scalar.subi v34 c1_i32_18
  let v50 : BitVec 32 := Scalar.select v48 v49 v34
  let v61 : BitVec 32 := Scalar.xori v60 v50
  let v89 : BitVec 32 := Scalar.subi c1_i32_38 v61
  let v90 : BitVec 32 := Scalar.xori v89 v50
  let c2_i32_39 : BitVec 32 := 2#32
  let v91 : BitVec 32 := Scalar.muli c2_i32_39 v50
  let v92 : BitVec 32 := Scalar.addi v90 v91
  let v96 : BitVec 32 := Scalar.addi v95 v92
  let c1_i32_633 : BitVec 32 := 1#32
  let v993 : BitVec 32 := Scalar.muli v96 c1_i32_633
  let v994 : BitVec 32 := Scalar.addi c0_i32_634 v993
  v994.toNat
def k0_dev15 (d0 : Dev nD) : Nat :=
  let c0_i32_648 : BitVec 32 := 0#32
  let c4_i32_49 : BitVec 32 := 4#32
  let c2_i32_48 : BitVec 32 := 2#32
  let v4 : BitVec 32 := Dev.word d0
  let c1_i32_1 : BitVec 32 := 1#32
  let v5 : BitVec 32 := Scalar.divsi v4 c1_i32_1
  let c16_i32_0 : BitVec 32 := 16#32
  let v6 : BitVec 32 := Scalar.remsi v5 c16_i32_0
  let c0_i32 : BitVec 32 := 0#32
  let v8 : BitVec 1 := Scalar.cmpi .sgt v6 c0_i32
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c4_i32 : BitVec 32 := 4#32
  let c0_i32_3 : BitVec 32 := 0#32
  let v13 : BitVec 1 := Scalar.cmpi .sgt c4_i32 c0_i32_3
  let v14 : BitVec 32 := Scalar.extui v13
  let c0_i32_4 : BitVec 32 := 0#32
  let v15 : BitVec 1 := Scalar.cmpi .slt c4_i32 c0_i32_4
  let v16 : BitVec 32 := Scalar.extui v15
  let v17 : BitVec 32 := Scalar.subi v14 v16
  let v18 : BitVec 1 := Scalar.cmpi .ne v12 v17
  let v19 : BitVec 32 := Scalar.remsi v6 c4_i32
  let c0_i32_5 : BitVec 32 := 0#32
  let v20 : BitVec 1 := Scalar.cmpi .ne v19 c0_i32_5
  let v21 : BitVec 1 := Scalar.andi v18 v20
  let v7 : BitVec 32 := Scalar.divsi v6 c4_i32
  let c1_i32_6 : BitVec 32 := 1#32
  let v22 : BitVec 32 := Scalar.subi v7 c1_i32_6
  let v23 : BitVec 32 := Scalar.select v21 v22 v7
  let c0_i32_32 : BitVec 32 := 0#32
  let v73 : BitVec 1 := Scalar.cmpi .sgt v23 c0_i32_32
  let v74 : BitVec 32 := Scalar.extui v73
  let c0_i32_33 : BitVec 32 := 0#32
  let v75 : BitVec 1 := Scalar.cmpi .slt v23 c0_i32_33
  let v76 : BitVec 32 := Scalar.extui v75
  let v77 : BitVec 32 := Scalar.subi v74 v76
  let c2_i32_31 : BitVec 32 := 2#32
  let c0_i32_34 : BitVec 32 := 0#32
  let v78 : BitVec 1 := Scalar.cmpi .sgt c2_i32_31 c0_i32_34
  let v79 : BitVec 32 := Scalar.extui v78
  let c0_i32_35 : BitVec 32 := 0#32
  let v80 : BitVec 1 := Scalar.cmpi .slt c2_i32_31 c0_i32_35
  let v81 : BitVec 32 := Scalar.extui v80
  let v82 : BitVec 32 := Scalar.subi v79 v81
  let v83 : BitVec 1 := Scalar.cmpi .ne v77 v82
  let v84 : BitVec 32 := Scalar.remsi v23 c2_i32_31
  let c0_i32_36 : BitVec 32 := 0#32
  let v85 : BitVec 1 := Scalar.cmpi .ne v84 c0_i32_36
  let v86 : BitVec 1 := Scalar.andi v83 v85
  let v72 : BitVec 32 := Scalar.divsi v23 c2_i32_31
  let c1_i32_37 : BitVec 32 := 1#32
  let v87 : BitVec 32 := Scalar.subi v72 c1_i32_37
  let v88 : BitVec 32 := Scalar.select v86 v87 v72
  let v109 : BitVec 32 := Scalar.muli c2_i32_48 v88
  let c1_i32_46 : BitVec 32 := 1#32
  let c2_i32_25 : BitVec 32 := 2#32
  let c0_i32_26 : BitVec 32 := 0#32
  let v62 : BitVec 1 := Scalar.cmpi .eq c2_i32_25 c0_i32_26
  let c1_i32_27 : BitVec 32 := 1#32
  let v63 : BitVec 32 := Scalar.select v62 c1_i32_27 c2_i32_25
  let v64 : BitVec 32 := Scalar.remsi v23 v63
  let c0_i32_29 : BitVec 32 := 0#32
  let v66 : BitVec 1 := Scalar.cmpi .slt v64 c0_i32_29
  let c0_i32_30 : BitVec 32 := 0#32
  let v67 : BitVec 1 := Scalar.cmpi .slt v63 c0_i32_30
  let v68 : BitVec 1 := Scalar.xori v66 v67
  let c0_i32_28 : BitVec 32 := 0#32
  let v65 : BitVec 1 := Scalar.cmpi .ne v64 c0_i32_28
  let v69 : BitVec 1 := Scalar.andi v68 v65
  let v70 : BitVec 32 := Scalar.addi v64 v63
  let v71 : BitVec 32 := Scalar.select v69 v70 v64
  let v105 : BitVec 32 := Scalar.subi c1_i32_46 v71
  let v110 : BitVec 32 := Scalar.addi v109 v105
  let v111 : BitVec 32 := Scalar.muli c4_i32_49 v110
  let c4_i32_7 : BitVec 32 := 4#32
  let c0_i32_8 : BitVec 32 := 0#32
  let v24 : BitVec 1 := Scalar.cmpi .eq c4_i32_7 c0_i32_8
  let c1_i32_9 : BitVec 32 := 1#32
  let v25 : BitVec 32 := Scalar.select v24 c1_i32_9 c4_i32_7
  let v26 : BitVec 32 := Scalar.remsi v6 v25
  let c0_i32_11 : BitVec 32 := 0#32
  let v28 : BitVec 1 := Scalar.cmpi .slt v26 c0_i32_11
  let c0_i32_12 : BitVec 32 := 0#32
  let v29 : BitVec 1 := Scalar.cmpi .slt v25 c0_i32_12
  let v30 : BitVec 1 := Scalar.xori v28 v29
  let c0_i32_10 : BitVec 32 := 0#32
  let v27 : BitVec 1 := Scalar.cmpi .ne v26 c0_i32_10
  let v31 : BitVec 1 := Scalar.andi v30 v27
  let v32 : BitVec 32 := Scalar.addi v26 v25
  let v33 : BitVec 32 := Scalar.select v31 v32 v26
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v33 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_13 : BitVec 32 := 0#32
  let v35 : BitVec 1 := Scalar.cmpi .sgt v33 c0_i32_13
  let v36 : BitVec 32 := Scalar.extui v35
  let c0_i32_14 : BitVec 32 := 0#32
  let v37 : BitVec 1 := Scalar.cmpi .slt v33 c0_i32_14
  let v38 : BitVec 32 := Scalar.extui v37
  let v39 : BitVec 32 := Scalar.subi v36 v38
  let c2_i32 : BitVec 32 := 2#32
  let c0_i32_15 : BitVec 32 := 0#32
  let v40 : BitVec 1 := Scalar.cmpi .sgt c2_i32 c0_i32_15
  let v41 : BitVec 32 := Scalar.extui v40
  let c0_i32_16 : BitVec 32 := 0#32
  let v42 : BitVec 1 := Scalar.cmpi .slt c2_i32 c0_i32_16
  let v43 : BitVec 32 := Scalar.extui v42
  let v44 : BitVec 32 := Scalar.subi v41 v43
  let v45 : BitVec 1 := Scalar.cmpi .ne v39 v44
  let v46 : BitVec 32 := Scalar.remsi v33 c2_i32
  let c0_i32_17 : BitVec 32 := 0#32
  let v47 : BitVec 1 := Scalar.cmpi .ne v46 c0_i32_17
  let v48 : BitVec 1 := Scalar.andi v45 v47
  let v34 : BitVec 32 := Scalar.divsi v33 c2_i32
  let c1_i32_18 : BitVec 32 := 1#32
  let v49 : BitVec 32 := Scalar.subi v34 c1_i32_18
  let v50 : BitVec 32 := Scalar.select v48 v49 v34
  let v61 : BitVec 32 := Scalar.xori v60 v50
  let v106 : BitVec 32 := Scalar.xori v61 v50
  let c2_i32_47 : BitVec 32 := 2#32
  let v107 : BitVec 32 := Scalar.muli c2_i32_47 v50
  let v108 : BitVec 32 := Scalar.addi v106 v107
  let v112 : BitVec 32 := Scalar.addi v111 v108
  let c1_i32_647 : BitVec 32 := 1#32
  let v1010 : BitVec 32 := Scalar.muli v112 c1_i32_647
  let v1011 : BitVec 32 := Scalar.addi c0_i32_648 v1010
  v1011.toNat
def k0_dev16 (d0 : Dev nD) : Nat :=
  let c0_i32_663 : BitVec 32 := 0#32
  let c4_i32_41 : BitVec 32 := 4#32
  let c2_i32_40 : BitVec 32 := 2#32
  let v4 : BitVec 32 := Dev.word d0
  let c1_i32_1 : BitVec 32 := 1#32
  let v5 : BitVec 32 := Scalar.divsi v4 c1_i32_1
  let c16_i32_0 : BitVec 32 := 16#32
  let v6 : BitVec 32 := Scalar.remsi v5 c16_i32_0
  let c0_i32 : BitVec 32 := 0#32
  let v8 : BitVec 1 := Scalar.cmpi .sgt v6 c0_i32
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c4_i32 : BitVec 32 := 4#32
  let c0_i32_3 : BitVec 32 := 0#32
  let v13 : BitVec 1 := Scalar.cmpi .sgt c4_i32 c0_i32_3
  let v14 : BitVec 32 := Scalar.extui v13
  let c0_i32_4 : BitVec 32 := 0#32
  let v15 : BitVec 1 := Scalar.cmpi .slt c4_i32 c0_i32_4
  let v16 : BitVec 32 := Scalar.extui v15
  let v17 : BitVec 32 := Scalar.subi v14 v16
  let v18 : BitVec 1 := Scalar.cmpi .ne v12 v17
  let v19 : BitVec 32 := Scalar.remsi v6 c4_i32
  let c0_i32_5 : BitVec 32 := 0#32
  let v20 : BitVec 1 := Scalar.cmpi .ne v19 c0_i32_5
  let v21 : BitVec 1 := Scalar.andi v18 v20
  let v7 : BitVec 32 := Scalar.divsi v6 c4_i32
  let c1_i32_6 : BitVec 32 := 1#32
  let v22 : BitVec 32 := Scalar.subi v7 c1_i32_6
  let v23 : BitVec 32 := Scalar.select v21 v22 v7
  let c0_i32_32 : BitVec 32 := 0#32
  let v73 : BitVec 1 := Scalar.cmpi .sgt v23 c0_i32_32
  let v74 : BitVec 32 := Scalar.extui v73
  let c0_i32_33 : BitVec 32 := 0#32
  let v75 : BitVec 1 := Scalar.cmpi .slt v23 c0_i32_33
  let v76 : BitVec 32 := Scalar.extui v75
  let v77 : BitVec 32 := Scalar.subi v74 v76
  let c2_i32_31 : BitVec 32 := 2#32
  let c0_i32_34 : BitVec 32 := 0#32
  let v78 : BitVec 1 := Scalar.cmpi .sgt c2_i32_31 c0_i32_34
  let v79 : BitVec 32 := Scalar.extui v78
  let c0_i32_35 : BitVec 32 := 0#32
  let v80 : BitVec 1 := Scalar.cmpi .slt c2_i32_31 c0_i32_35
  let v81 : BitVec 32 := Scalar.extui v80
  let v82 : BitVec 32 := Scalar.subi v79 v81
  let v83 : BitVec 1 := Scalar.cmpi .ne v77 v82
  let v84 : BitVec 32 := Scalar.remsi v23 c2_i32_31
  let c0_i32_36 : BitVec 32 := 0#32
  let v85 : BitVec 1 := Scalar.cmpi .ne v84 c0_i32_36
  let v86 : BitVec 1 := Scalar.andi v83 v85
  let v72 : BitVec 32 := Scalar.divsi v23 c2_i32_31
  let c1_i32_37 : BitVec 32 := 1#32
  let v87 : BitVec 32 := Scalar.subi v72 c1_i32_37
  let v88 : BitVec 32 := Scalar.select v86 v87 v72
  let v93 : BitVec 32 := Scalar.muli c2_i32_40 v88
  let c2_i32_25 : BitVec 32 := 2#32
  let c0_i32_26 : BitVec 32 := 0#32
  let v62 : BitVec 1 := Scalar.cmpi .eq c2_i32_25 c0_i32_26
  let c1_i32_27 : BitVec 32 := 1#32
  let v63 : BitVec 32 := Scalar.select v62 c1_i32_27 c2_i32_25
  let v64 : BitVec 32 := Scalar.remsi v23 v63
  let c0_i32_29 : BitVec 32 := 0#32
  let v66 : BitVec 1 := Scalar.cmpi .slt v64 c0_i32_29
  let c0_i32_30 : BitVec 32 := 0#32
  let v67 : BitVec 1 := Scalar.cmpi .slt v63 c0_i32_30
  let v68 : BitVec 1 := Scalar.xori v66 v67
  let c0_i32_28 : BitVec 32 := 0#32
  let v65 : BitVec 1 := Scalar.cmpi .ne v64 c0_i32_28
  let v69 : BitVec 1 := Scalar.andi v68 v65
  let v70 : BitVec 32 := Scalar.addi v64 v63
  let v71 : BitVec 32 := Scalar.select v69 v70 v64
  let v94 : BitVec 32 := Scalar.addi v93 v71
  let v95 : BitVec 32 := Scalar.muli c4_i32_41 v94
  let c1_i32_38 : BitVec 32 := 1#32
  let c4_i32_7 : BitVec 32 := 4#32
  let c0_i32_8 : BitVec 32 := 0#32
  let v24 : BitVec 1 := Scalar.cmpi .eq c4_i32_7 c0_i32_8
  let c1_i32_9 : BitVec 32 := 1#32
  let v25 : BitVec 32 := Scalar.select v24 c1_i32_9 c4_i32_7
  let v26 : BitVec 32 := Scalar.remsi v6 v25
  let c0_i32_11 : BitVec 32 := 0#32
  let v28 : BitVec 1 := Scalar.cmpi .slt v26 c0_i32_11
  let c0_i32_12 : BitVec 32 := 0#32
  let v29 : BitVec 1 := Scalar.cmpi .slt v25 c0_i32_12
  let v30 : BitVec 1 := Scalar.xori v28 v29
  let c0_i32_10 : BitVec 32 := 0#32
  let v27 : BitVec 1 := Scalar.cmpi .ne v26 c0_i32_10
  let v31 : BitVec 1 := Scalar.andi v30 v27
  let v32 : BitVec 32 := Scalar.addi v26 v25
  let v33 : BitVec 32 := Scalar.select v31 v32 v26
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v33 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_13 : BitVec 32 := 0#32
  let v35 : BitVec 1 := Scalar.cmpi .sgt v33 c0_i32_13
  let v36 : BitVec 32 := Scalar.extui v35
  let c0_i32_14 : BitVec 32 := 0#32
  let v37 : BitVec 1 := Scalar.cmpi .slt v33 c0_i32_14
  let v38 : BitVec 32 := Scalar.extui v37
  let v39 : BitVec 32 := Scalar.subi v36 v38
  let c2_i32 : BitVec 32 := 2#32
  let c0_i32_15 : BitVec 32 := 0#32
  let v40 : BitVec 1 := Scalar.cmpi .sgt c2_i32 c0_i32_15
  let v41 : BitVec 32 := Scalar.extui v40
  let c0_i32_16 : BitVec 32 := 0#32
  let v42 : BitVec 1 := Scalar.cmpi .slt c2_i32 c0_i32_16
  let v43 : BitVec 32 := Scalar.extui v42
  let v44 : BitVec 32 := Scalar.subi v41 v43
  let v45 : BitVec 1 := Scalar.cmpi .ne v39 v44
  let v46 : BitVec 32 := Scalar.remsi v33 c2_i32
  let c0_i32_17 : BitVec 32 := 0#32
  let v47 : BitVec 1 := Scalar.cmpi .ne v46 c0_i32_17
  let v48 : BitVec 1 := Scalar.andi v45 v47
  let v34 : BitVec 32 := Scalar.divsi v33 c2_i32
  let c1_i32_18 : BitVec 32 := 1#32
  let v49 : BitVec 32 := Scalar.subi v34 c1_i32_18
  let v50 : BitVec 32 := Scalar.select v48 v49 v34
  let v61 : BitVec 32 := Scalar.xori v60 v50
  let v89 : BitVec 32 := Scalar.subi c1_i32_38 v61
  let v90 : BitVec 32 := Scalar.xori v89 v50
  let c2_i32_39 : BitVec 32 := 2#32
  let v91 : BitVec 32 := Scalar.muli c2_i32_39 v50
  let v92 : BitVec 32 := Scalar.addi v90 v91
  let v96 : BitVec 32 := Scalar.addi v95 v92
  let c1_i32_662 : BitVec 32 := 1#32
  let v1027 : BitVec 32 := Scalar.muli v96 c1_i32_662
  let v1028 : BitVec 32 := Scalar.addi c0_i32_663 v1027
  v1028.toNat
def k0_off48 (d0 : Dev nD) (c0_i32_624 : BitVec 32) : Fin 2 → Nat :=
  let c0_i32_209 : BitVec 32 := 0#32
  let v4 : BitVec 32 := Dev.word d0
  let c1_i32_1 : BitVec 32 := 1#32
  let v5 : BitVec 32 := Scalar.divsi v4 c1_i32_1
  let c16_i32_0 : BitVec 32 := 16#32
  let v6 : BitVec 32 := Scalar.remsi v5 c16_i32_0
  let c4_i32_7 : BitVec 32 := 4#32
  let c0_i32_8 : BitVec 32 := 0#32
  let v24 : BitVec 1 := Scalar.cmpi .eq c4_i32_7 c0_i32_8
  let c1_i32_9 : BitVec 32 := 1#32
  let v25 : BitVec 32 := Scalar.select v24 c1_i32_9 c4_i32_7
  let v26 : BitVec 32 := Scalar.remsi v6 v25
  let c0_i32_11 : BitVec 32 := 0#32
  let v28 : BitVec 1 := Scalar.cmpi .slt v26 c0_i32_11
  let c0_i32_12 : BitVec 32 := 0#32
  let v29 : BitVec 1 := Scalar.cmpi .slt v25 c0_i32_12
  let v30 : BitVec 1 := Scalar.xori v28 v29
  let c0_i32_10 : BitVec 32 := 0#32
  let v27 : BitVec 1 := Scalar.cmpi .ne v26 c0_i32_10
  let v31 : BitVec 1 := Scalar.andi v30 v27
  let v32 : BitVec 32 := Scalar.addi v26 v25
  let v33 : BitVec 32 := Scalar.select v31 v32 v26
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v33 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_13 : BitVec 32 := 0#32
  let v35 : BitVec 1 := Scalar.cmpi .sgt v33 c0_i32_13
  let v36 : BitVec 32 := Scalar.extui v35
  let c0_i32_14 : BitVec 32 := 0#32
  let v37 : BitVec 1 := Scalar.cmpi .slt v33 c0_i32_14
  let v38 : BitVec 32 := Scalar.extui v37
  let v39 : BitVec 32 := Scalar.subi v36 v38
  let c2_i32 : BitVec 32 := 2#32
  let c0_i32_15 : BitVec 32 := 0#32
  let v40 : BitVec 1 := Scalar.cmpi .sgt c2_i32 c0_i32_15
  let v41 : BitVec 32 := Scalar.extui v40
  let c0_i32_16 : BitVec 32 := 0#32
  let v42 : BitVec 1 := Scalar.cmpi .slt c2_i32 c0_i32_16
  let v43 : BitVec 32 := Scalar.extui v42
  let v44 : BitVec 32 := Scalar.subi v41 v43
  let v45 : BitVec 1 := Scalar.cmpi .ne v39 v44
  let v46 : BitVec 32 := Scalar.remsi v33 c2_i32
  let c0_i32_17 : BitVec 32 := 0#32
  let v47 : BitVec 1 := Scalar.cmpi .ne v46 c0_i32_17
  let v48 : BitVec 1 := Scalar.andi v45 v47
  let v34 : BitVec 32 := Scalar.divsi v33 c2_i32
  let c1_i32_18 : BitVec 32 := 1#32
  let v49 : BitVec 32 := Scalar.subi v34 c1_i32_18
  let v50 : BitVec 32 := Scalar.select v48 v49 v34
  let v61 : BitVec 32 := Scalar.xori v60 v50
  let c256_i32_208 : BitVec 32 := 256#32
  let v438 : BitVec 32 := Scalar.muli v61 c256_i32_208
  let v439 : BitVec 32 := Scalar.addi c0_i32_209 v438
  let c128_i32_448 : BitVec 32 := 128#32
  let v808 : BitVec 32 := Scalar.muli v50 c128_i32_448
  let v809 : BitVec 32 := Scalar.addi v439 v808
  let c0_i32 : BitVec 32 := 0#32
  let v8 : BitVec 1 := Scalar.cmpi .sgt v6 c0_i32
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c4_i32 : BitVec 32 := 4#32
  let c0_i32_3 : BitVec 32 := 0#32
  let v13 : BitVec 1 := Scalar.cmpi .sgt c4_i32 c0_i32_3
  let v14 : BitVec 32 := Scalar.extui v13
  let c0_i32_4 : BitVec 32 := 0#32
  let v15 : BitVec 1 := Scalar.cmpi .slt c4_i32 c0_i32_4
  let v16 : BitVec 32 := Scalar.extui v15
  let v17 : BitVec 32 := Scalar.subi v14 v16
  let v18 : BitVec 1 := Scalar.cmpi .ne v12 v17
  let v19 : BitVec 32 := Scalar.remsi v6 c4_i32
  let c0_i32_5 : BitVec 32 := 0#32
  let v20 : BitVec 1 := Scalar.cmpi .ne v19 c0_i32_5
  let v21 : BitVec 1 := Scalar.andi v18 v20
  let v7 : BitVec 32 := Scalar.divsi v6 c4_i32
  let c1_i32_6 : BitVec 32 := 1#32
  let v22 : BitVec 32 := Scalar.subi v7 c1_i32_6
  let v23 : BitVec 32 := Scalar.select v21 v22 v7
  let c2_i32_25 : BitVec 32 := 2#32
  let c0_i32_26 : BitVec 32 := 0#32
  let v62 : BitVec 1 := Scalar.cmpi .eq c2_i32_25 c0_i32_26
  let c1_i32_27 : BitVec 32 := 1#32
  let v63 : BitVec 32 := Scalar.select v62 c1_i32_27 c2_i32_25
  let v64 : BitVec 32 := Scalar.remsi v23 v63
  let c0_i32_29 : BitVec 32 := 0#32
  let v66 : BitVec 1 := Scalar.cmpi .slt v64 c0_i32_29
  let c0_i32_30 : BitVec 32 := 0#32
  let v67 : BitVec 1 := Scalar.cmpi .slt v63 c0_i32_30
  let v68 : BitVec 1 := Scalar.xori v66 v67
  let c0_i32_28 : BitVec 32 := 0#32
  let v65 : BitVec 1 := Scalar.cmpi .ne v64 c0_i32_28
  let v69 : BitVec 1 := Scalar.andi v68 v65
  let v70 : BitVec 32 := Scalar.addi v64 v63
  let v71 : BitVec 32 := Scalar.select v69 v70 v64
  let c64_i32_604 : BitVec 32 := 64#32
  let v958 : BitVec 32 := Scalar.muli v71 c64_i32_604
  let v959 : BitVec 32 := Scalar.addi v809 v958
  let v984 : BitVec 32 := Scalar.addi v959 c0_i32_624
  let v1046 : Index := Scalar.indexCast v984
  let c0_688 : Index := 0#32
  ![v1046.toNat, 0]
def k0_off49 (d0 : Dev nD) (c0_i32_639 : BitVec 32) : Fin 2 → Nat :=
  let c512_i32_214 : BitVec 32 := 512#32
  let v4 : BitVec 32 := Dev.word d0
  let c1_i32_1 : BitVec 32 := 1#32
  let v5 : BitVec 32 := Scalar.divsi v4 c1_i32_1
  let c16_i32_0 : BitVec 32 := 16#32
  let v6 : BitVec 32 := Scalar.remsi v5 c16_i32_0
  let c4_i32_7 : BitVec 32 := 4#32
  let c0_i32_8 : BitVec 32 := 0#32
  let v24 : BitVec 1 := Scalar.cmpi .eq c4_i32_7 c0_i32_8
  let c1_i32_9 : BitVec 32 := 1#32
  let v25 : BitVec 32 := Scalar.select v24 c1_i32_9 c4_i32_7
  let v26 : BitVec 32 := Scalar.remsi v6 v25
  let c0_i32_11 : BitVec 32 := 0#32
  let v28 : BitVec 1 := Scalar.cmpi .slt v26 c0_i32_11
  let c0_i32_12 : BitVec 32 := 0#32
  let v29 : BitVec 1 := Scalar.cmpi .slt v25 c0_i32_12
  let v30 : BitVec 1 := Scalar.xori v28 v29
  let c0_i32_10 : BitVec 32 := 0#32
  let v27 : BitVec 1 := Scalar.cmpi .ne v26 c0_i32_10
  let v31 : BitVec 1 := Scalar.andi v30 v27
  let v32 : BitVec 32 := Scalar.addi v26 v25
  let v33 : BitVec 32 := Scalar.select v31 v32 v26
  let c0_i32_13 : BitVec 32 := 0#32
  let v35 : BitVec 1 := Scalar.cmpi .sgt v33 c0_i32_13
  let v36 : BitVec 32 := Scalar.extui v35
  let c0_i32_14 : BitVec 32 := 0#32
  let v37 : BitVec 1 := Scalar.cmpi .slt v33 c0_i32_14
  let v38 : BitVec 32 := Scalar.extui v37
  let v39 : BitVec 32 := Scalar.subi v36 v38
  let c2_i32 : BitVec 32 := 2#32
  let c0_i32_15 : BitVec 32 := 0#32
  let v40 : BitVec 1 := Scalar.cmpi .sgt c2_i32 c0_i32_15
  let v41 : BitVec 32 := Scalar.extui v40
  let c0_i32_16 : BitVec 32 := 0#32
  let v42 : BitVec 1 := Scalar.cmpi .slt c2_i32 c0_i32_16
  let v43 : BitVec 32 := Scalar.extui v42
  let v44 : BitVec 32 := Scalar.subi v41 v43
  let v45 : BitVec 1 := Scalar.cmpi .ne v39 v44
  let v46 : BitVec 32 := Scalar.remsi v33 c2_i32
  let c0_i32_17 : BitVec 32 := 0#32
  let v47 : BitVec 1 := Scalar.cmpi .ne v46 c0_i32_17
  let v48 : BitVec 1 := Scalar.andi v45 v47
  let v34 : BitVec 32 := Scalar.divsi v33 c2_i32
  let c1_i32_18 : BitVec 32 := 1#32
  let v49 : BitVec 32 := Scalar.subi v34 c1_i32_18
  let v50 : BitVec 32 := Scalar.select v48 v49 v34
  let c256_i32_213 : BitVec 32 := 256#32
  let v443 : BitVec 32 := Scalar.muli v50 c256_i32_213
  let v444 : BitVec 32 := Scalar.addi c512_i32_214 v443
  let c0_i32 : BitVec 32 := 0#32
  let v8 : BitVec 1 := Scalar.cmpi .sgt v6 c0_i32
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c4_i32 : BitVec 32 := 4#32
  let c0_i32_3 : BitVec 32 := 0#32
  let v13 : BitVec 1 := Scalar.cmpi .sgt c4_i32 c0_i32_3
  let v14 : BitVec 32 := Scalar.extui v13
  let c0_i32_4 : BitVec 32 := 0#32
  let v15 : BitVec 1 := Scalar.cmpi .slt c4_i32 c0_i32_4
  let v16 : BitVec 32 := Scalar.extui v15
  let v17 : BitVec 32 := Scalar.subi v14 v16
  let v18 : BitVec 1 := Scalar.cmpi .ne v12 v17
  let v19 : BitVec 32 := Scalar.remsi v6 c4_i32
  let c0_i32_5 : BitVec 32 := 0#32
  let v20 : BitVec 1 := Scalar.cmpi .ne v19 c0_i32_5
  let v21 : BitVec 1 := Scalar.andi v18 v20
  let v7 : BitVec 32 := Scalar.divsi v6 c4_i32
  let c1_i32_6 : BitVec 32 := 1#32
  let v22 : BitVec 32 := Scalar.subi v7 c1_i32_6
  let v23 : BitVec 32 := Scalar.select v21 v22 v7
  let c2_i32_25 : BitVec 32 := 2#32
  let c0_i32_26 : BitVec 32 := 0#32
  let v62 : BitVec 1 := Scalar.cmpi .eq c2_i32_25 c0_i32_26
  let c1_i32_27 : BitVec 32 := 1#32
  let v63 : BitVec 32 := Scalar.select v62 c1_i32_27 c2_i32_25
  let v64 : BitVec 32 := Scalar.remsi v23 v63
  let c0_i32_29 : BitVec 32 := 0#32
  let v66 : BitVec 1 := Scalar.cmpi .slt v64 c0_i32_29
  let c0_i32_30 : BitVec 32 := 0#32
  let v67 : BitVec 1 := Scalar.cmpi .slt v63 c0_i32_30
  let v68 : BitVec 1 := Scalar.xori v66 v67
  let c0_i32_28 : BitVec 32 := 0#32
  let v65 : BitVec 1 := Scalar.cmpi .ne v64 c0_i32_28
  let v69 : BitVec 1 := Scalar.andi v68 v65
  let v70 : BitVec 32 := Scalar.addi v64 v63
  let v71 : BitVec 32 := Scalar.select v69 v70 v64
  let c128_i32_451 : BitVec 32 := 128#32
  let v813 : BitVec 32 := Scalar.muli v71 c128_i32_451
  let v814 : BitVec 32 := Scalar.addi v444 v813
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v33 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let v61 : BitVec 32 := Scalar.xori v60 v50
  let c64_i32_607 : BitVec 32 := 64#32
  let v963 : BitVec 32 := Scalar.muli v61 c64_i32_607
  let v964 : BitVec 32 := Scalar.addi v814 v963
  let v1001 : BitVec 32 := Scalar.addi v964 c0_i32_639
  let v1064 : Index := Scalar.indexCast v1001
  let c0_711 : Index := 0#32
  ![v1064.toNat, 0]
def k0_off50 (d0 : Dev nD) (c0_i32_767 : BitVec 32) : Fin 2 → Nat :=
  let c0_i32_209 : BitVec 32 := 0#32
  let v4 : BitVec 32 := Dev.word d0
  let c1_i32_1 : BitVec 32 := 1#32
  let v5 : BitVec 32 := Scalar.divsi v4 c1_i32_1
  let c16_i32_0 : BitVec 32 := 16#32
  let v6 : BitVec 32 := Scalar.remsi v5 c16_i32_0
  let c4_i32_7 : BitVec 32 := 4#32
  let c0_i32_8 : BitVec 32 := 0#32
  let v24 : BitVec 1 := Scalar.cmpi .eq c4_i32_7 c0_i32_8
  let c1_i32_9 : BitVec 32 := 1#32
  let v25 : BitVec 32 := Scalar.select v24 c1_i32_9 c4_i32_7
  let v26 : BitVec 32 := Scalar.remsi v6 v25
  let c0_i32_11 : BitVec 32 := 0#32
  let v28 : BitVec 1 := Scalar.cmpi .slt v26 c0_i32_11
  let c0_i32_12 : BitVec 32 := 0#32
  let v29 : BitVec 1 := Scalar.cmpi .slt v25 c0_i32_12
  let v30 : BitVec 1 := Scalar.xori v28 v29
  let c0_i32_10 : BitVec 32 := 0#32
  let v27 : BitVec 1 := Scalar.cmpi .ne v26 c0_i32_10
  let v31 : BitVec 1 := Scalar.andi v30 v27
  let v32 : BitVec 32 := Scalar.addi v26 v25
  let v33 : BitVec 32 := Scalar.select v31 v32 v26
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v33 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_13 : BitVec 32 := 0#32
  let v35 : BitVec 1 := Scalar.cmpi .sgt v33 c0_i32_13
  let v36 : BitVec 32 := Scalar.extui v35
  let c0_i32_14 : BitVec 32 := 0#32
  let v37 : BitVec 1 := Scalar.cmpi .slt v33 c0_i32_14
  let v38 : BitVec 32 := Scalar.extui v37
  let v39 : BitVec 32 := Scalar.subi v36 v38
  let c2_i32 : BitVec 32 := 2#32
  let c0_i32_15 : BitVec 32 := 0#32
  let v40 : BitVec 1 := Scalar.cmpi .sgt c2_i32 c0_i32_15
  let v41 : BitVec 32 := Scalar.extui v40
  let c0_i32_16 : BitVec 32 := 0#32
  let v42 : BitVec 1 := Scalar.cmpi .slt c2_i32 c0_i32_16
  let v43 : BitVec 32 := Scalar.extui v42
  let v44 : BitVec 32 := Scalar.subi v41 v43
  let v45 : BitVec 1 := Scalar.cmpi .ne v39 v44
  let v46 : BitVec 32 := Scalar.remsi v33 c2_i32
  let c0_i32_17 : BitVec 32 := 0#32
  let v47 : BitVec 1 := Scalar.cmpi .ne v46 c0_i32_17
  let v48 : BitVec 1 := Scalar.andi v45 v47
  let v34 : BitVec 32 := Scalar.divsi v33 c2_i32
  let c1_i32_18 : BitVec 32 := 1#32
  let v49 : BitVec 32 := Scalar.subi v34 c1_i32_18
  let v50 : BitVec 32 := Scalar.select v48 v49 v34
  let v61 : BitVec 32 := Scalar.xori v60 v50
  let c256_i32_208 : BitVec 32 := 256#32
  let v438 : BitVec 32 := Scalar.muli v61 c256_i32_208
  let v439 : BitVec 32 := Scalar.addi c0_i32_209 v438
  let c128_i32_448 : BitVec 32 := 128#32
  let v808 : BitVec 32 := Scalar.muli v50 c128_i32_448
  let v809 : BitVec 32 := Scalar.addi v439 v808
  let c0_i32 : BitVec 32 := 0#32
  let v8 : BitVec 1 := Scalar.cmpi .sgt v6 c0_i32
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c4_i32 : BitVec 32 := 4#32
  let c0_i32_3 : BitVec 32 := 0#32
  let v13 : BitVec 1 := Scalar.cmpi .sgt c4_i32 c0_i32_3
  let v14 : BitVec 32 := Scalar.extui v13
  let c0_i32_4 : BitVec 32 := 0#32
  let v15 : BitVec 1 := Scalar.cmpi .slt c4_i32 c0_i32_4
  let v16 : BitVec 32 := Scalar.extui v15
  let v17 : BitVec 32 := Scalar.subi v14 v16
  let v18 : BitVec 1 := Scalar.cmpi .ne v12 v17
  let v19 : BitVec 32 := Scalar.remsi v6 c4_i32
  let c0_i32_5 : BitVec 32 := 0#32
  let v20 : BitVec 1 := Scalar.cmpi .ne v19 c0_i32_5
  let v21 : BitVec 1 := Scalar.andi v18 v20
  let v7 : BitVec 32 := Scalar.divsi v6 c4_i32
  let c1_i32_6 : BitVec 32 := 1#32
  let v22 : BitVec 32 := Scalar.subi v7 c1_i32_6
  let v23 : BitVec 32 := Scalar.select v21 v22 v7
  let c2_i32_25 : BitVec 32 := 2#32
  let c0_i32_26 : BitVec 32 := 0#32
  let v62 : BitVec 1 := Scalar.cmpi .eq c2_i32_25 c0_i32_26
  let c1_i32_27 : BitVec 32 := 1#32
  let v63 : BitVec 32 := Scalar.select v62 c1_i32_27 c2_i32_25
  let v64 : BitVec 32 := Scalar.remsi v23 v63
  let c0_i32_29 : BitVec 32 := 0#32
  let v66 : BitVec 1 := Scalar.cmpi .slt v64 c0_i32_29
  let c0_i32_30 : BitVec 32 := 0#32
  let v67 : BitVec 1 := Scalar.cmpi .slt v63 c0_i32_30
  let v68 : BitVec 1 := Scalar.xori v66 v67
  let c0_i32_28 : BitVec 32 := 0#32
  let v65 : BitVec 1 := Scalar.cmpi .ne v64 c0_i32_28
  let v69 : BitVec 1 := Scalar.andi v68 v65
  let v70 : BitVec 32 := Scalar.addi v64 v63
  let v71 : BitVec 32 := Scalar.select v69 v70 v64
  let c64_i32_604 : BitVec 32 := 64#32
  let v958 : BitVec 32 := Scalar.muli v71 c64_i32_604
  let v959 : BitVec 32 := Scalar.addi v809 v958
  let c1_i32_762 : BitVec 32 := 1#32
  let c0_i32_32 : BitVec 32 := 0#32
  let v73 : BitVec 1 := Scalar.cmpi .sgt v23 c0_i32_32
  let v74 : BitVec 32 := Scalar.extui v73
  let c0_i32_33 : BitVec 32 := 0#32
  let v75 : BitVec 1 := Scalar.cmpi .slt v23 c0_i32_33
  let v76 : BitVec 32 := Scalar.extui v75
  let v77 : BitVec 32 := Scalar.subi v74 v76
  let c2_i32_31 : BitVec 32 := 2#32
  let c0_i32_34 : BitVec 32 := 0#32
  let v78 : BitVec 1 := Scalar.cmpi .sgt c2_i32_31 c0_i32_34
  let v79 : BitVec 32 := Scalar.extui v78
  let c0_i32_35 : BitVec 32 := 0#32
  let v80 : BitVec 1 := Scalar.cmpi .slt c2_i32_31 c0_i32_35
  let v81 : BitVec 32 := Scalar.extui v80
  let v82 : BitVec 32 := Scalar.subi v79 v81
  let v83 : BitVec 1 := Scalar.cmpi .ne v77 v82
  let v84 : BitVec 32 := Scalar.remsi v23 c2_i32_31
  let c0_i32_36 : BitVec 32 := 0#32
  let v85 : BitVec 1 := Scalar.cmpi .ne v84 c0_i32_36
  let v86 : BitVec 1 := Scalar.andi v83 v85
  let v72 : BitVec 32 := Scalar.divsi v23 c2_i32_31
  let c1_i32_37 : BitVec 32 := 1#32
  let v87 : BitVec 32 := Scalar.subi v72 c1_i32_37
  let v88 : BitVec 32 := Scalar.select v86 v87 v72
  let v1110 : BitVec 32 := Scalar.subi c1_i32_762 v88
  let c32_i32_763 : BitVec 32 := 32#32
  let v1111 : BitVec 32 := Scalar.muli v1110 c32_i32_763
  let v1112 : BitVec 32 := Scalar.addi v959 v1111
  let v1118 : BitVec 32 := Scalar.addi v1112 c0_i32_767
  let v1119 : Index := Scalar.indexCast v1118
  let c0_768 : Index := 0#32
  ![v1119.toNat, 0]
def k0_dev17 (d0 : Dev nD) : Nat :=
  let c0_i32_775 : BitVec 32 := 0#32
  let c4_i32_53 : BitVec 32 := 4#32
  let c2_i32_52 : BitVec 32 := 2#32
  let c1_i32_50 : BitVec 32 := 1#32
  let v4 : BitVec 32 := Dev.word d0
  let c1_i32_1 : BitVec 32 := 1#32
  let v5 : BitVec 32 := Scalar.divsi v4 c1_i32_1
  let c16_i32_0 : BitVec 32 := 16#32
  let v6 : BitVec 32 := Scalar.remsi v5 c16_i32_0
  let c0_i32 : BitVec 32 := 0#32
  let v8 : BitVec 1 := Scalar.cmpi .sgt v6 c0_i32
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c4_i32 : BitVec 32 := 4#32
  let c0_i32_3 : BitVec 32 := 0#32
  let v13 : BitVec 1 := Scalar.cmpi .sgt c4_i32 c0_i32_3
  let v14 : BitVec 32 := Scalar.extui v13
  let c0_i32_4 : BitVec 32 := 0#32
  let v15 : BitVec 1 := Scalar.cmpi .slt c4_i32 c0_i32_4
  let v16 : BitVec 32 := Scalar.extui v15
  let v17 : BitVec 32 := Scalar.subi v14 v16
  let v18 : BitVec 1 := Scalar.cmpi .ne v12 v17
  let v19 : BitVec 32 := Scalar.remsi v6 c4_i32
  let c0_i32_5 : BitVec 32 := 0#32
  let v20 : BitVec 1 := Scalar.cmpi .ne v19 c0_i32_5
  let v21 : BitVec 1 := Scalar.andi v18 v20
  let v7 : BitVec 32 := Scalar.divsi v6 c4_i32
  let c1_i32_6 : BitVec 32 := 1#32
  let v22 : BitVec 32 := Scalar.subi v7 c1_i32_6
  let v23 : BitVec 32 := Scalar.select v21 v22 v7
  let c0_i32_32 : BitVec 32 := 0#32
  let v73 : BitVec 1 := Scalar.cmpi .sgt v23 c0_i32_32
  let v74 : BitVec 32 := Scalar.extui v73
  let c0_i32_33 : BitVec 32 := 0#32
  let v75 : BitVec 1 := Scalar.cmpi .slt v23 c0_i32_33
  let v76 : BitVec 32 := Scalar.extui v75
  let v77 : BitVec 32 := Scalar.subi v74 v76
  let c2_i32_31 : BitVec 32 := 2#32
  let c0_i32_34 : BitVec 32 := 0#32
  let v78 : BitVec 1 := Scalar.cmpi .sgt c2_i32_31 c0_i32_34
  let v79 : BitVec 32 := Scalar.extui v78
  let c0_i32_35 : BitVec 32 := 0#32
  let v80 : BitVec 1 := Scalar.cmpi .slt c2_i32_31 c0_i32_35
  let v81 : BitVec 32 := Scalar.extui v80
  let v82 : BitVec 32 := Scalar.subi v79 v81
  let v83 : BitVec 1 := Scalar.cmpi .ne v77 v82
  let v84 : BitVec 32 := Scalar.remsi v23 c2_i32_31
  let c0_i32_36 : BitVec 32 := 0#32
  let v85 : BitVec 1 := Scalar.cmpi .ne v84 c0_i32_36
  let v86 : BitVec 1 := Scalar.andi v83 v85
  let v72 : BitVec 32 := Scalar.divsi v23 c2_i32_31
  let c1_i32_37 : BitVec 32 := 1#32
  let v87 : BitVec 32 := Scalar.subi v72 c1_i32_37
  let v88 : BitVec 32 := Scalar.select v86 v87 v72
  let v113 : BitVec 32 := Scalar.subi c1_i32_50 v88
  let v117 : BitVec 32 := Scalar.muli c2_i32_52 v113
  let c2_i32_25 : BitVec 32 := 2#32
  let c0_i32_26 : BitVec 32 := 0#32
  let v62 : BitVec 1 := Scalar.cmpi .eq c2_i32_25 c0_i32_26
  let c1_i32_27 : BitVec 32 := 1#32
  let v63 : BitVec 32 := Scalar.select v62 c1_i32_27 c2_i32_25
  let v64 : BitVec 32 := Scalar.remsi v23 v63
  let c0_i32_29 : BitVec 32 := 0#32
  let v66 : BitVec 1 := Scalar.cmpi .slt v64 c0_i32_29
  let c0_i32_30 : BitVec 32 := 0#32
  let v67 : BitVec 1 := Scalar.cmpi .slt v63 c0_i32_30
  let v68 : BitVec 1 := Scalar.xori v66 v67
  let c0_i32_28 : BitVec 32 := 0#32
  let v65 : BitVec 1 := Scalar.cmpi .ne v64 c0_i32_28
  let v69 : BitVec 1 := Scalar.andi v68 v65
  let v70 : BitVec 32 := Scalar.addi v64 v63
  let v71 : BitVec 32 := Scalar.select v69 v70 v64
  let v118 : BitVec 32 := Scalar.addi v117 v71
  let v119 : BitVec 32 := Scalar.muli c4_i32_53 v118
  let c4_i32_7 : BitVec 32 := 4#32
  let c0_i32_8 : BitVec 32 := 0#32
  let v24 : BitVec 1 := Scalar.cmpi .eq c4_i32_7 c0_i32_8
  let c1_i32_9 : BitVec 32 := 1#32
  let v25 : BitVec 32 := Scalar.select v24 c1_i32_9 c4_i32_7
  let v26 : BitVec 32 := Scalar.remsi v6 v25
  let c0_i32_11 : BitVec 32 := 0#32
  let v28 : BitVec 1 := Scalar.cmpi .slt v26 c0_i32_11
  let c0_i32_12 : BitVec 32 := 0#32
  let v29 : BitVec 1 := Scalar.cmpi .slt v25 c0_i32_12
  let v30 : BitVec 1 := Scalar.xori v28 v29
  let c0_i32_10 : BitVec 32 := 0#32
  let v27 : BitVec 1 := Scalar.cmpi .ne v26 c0_i32_10
  let v31 : BitVec 1 := Scalar.andi v30 v27
  let v32 : BitVec 32 := Scalar.addi v26 v25
  let v33 : BitVec 32 := Scalar.select v31 v32 v26
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v33 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_13 : BitVec 32 := 0#32
  let v35 : BitVec 1 := Scalar.cmpi .sgt v33 c0_i32_13
  let v36 : BitVec 32 := Scalar.extui v35
  let c0_i32_14 : BitVec 32 := 0#32
  let v37 : BitVec 1 := Scalar.cmpi .slt v33 c0_i32_14
  let v38 : BitVec 32 := Scalar.extui v37
  let v39 : BitVec 32 := Scalar.subi v36 v38
  let c2_i32 : BitVec 32 := 2#32
  let c0_i32_15 : BitVec 32 := 0#32
  let v40 : BitVec 1 := Scalar.cmpi .sgt c2_i32 c0_i32_15
  let v41 : BitVec 32 := Scalar.extui v40
  let c0_i32_16 : BitVec 32 := 0#32
  let v42 : BitVec 1 := Scalar.cmpi .slt c2_i32 c0_i32_16
  let v43 : BitVec 32 := Scalar.extui v42
  let v44 : BitVec 32 := Scalar.subi v41 v43
  let v45 : BitVec 1 := Scalar.cmpi .ne v39 v44
  let v46 : BitVec 32 := Scalar.remsi v33 c2_i32
  let c0_i32_17 : BitVec 32 := 0#32
  let v47 : BitVec 1 := Scalar.cmpi .ne v46 c0_i32_17
  let v48 : BitVec 1 := Scalar.andi v45 v47
  let v34 : BitVec 32 := Scalar.divsi v33 c2_i32
  let c1_i32_18 : BitVec 32 := 1#32
  let v49 : BitVec 32 := Scalar.subi v34 c1_i32_18
  let v50 : BitVec 32 := Scalar.select v48 v49 v34
  let v61 : BitVec 32 := Scalar.xori v60 v50
  let v114 : BitVec 32 := Scalar.xori v61 v50
  let c2_i32_51 : BitVec 32 := 2#32
  let v115 : BitVec 32 := Scalar.muli c2_i32_51 v50
  let v116 : BitVec 32 := Scalar.addi v114 v115
  let v120 : BitVec 32 := Scalar.addi v119 v116
  let c1_i32_774 : BitVec 32 := 1#32
  let v1126 : BitVec 32 := Scalar.muli v120 c1_i32_774
  let v1127 : BitVec 32 := Scalar.addi c0_i32_775 v1126
  v1127.toNat
def k0_off51 (d0 : Dev nD) (c0_i32_781 : BitVec 32) : Fin 2 → Nat :=
  let c512_i32_214 : BitVec 32 := 512#32
  let v4 : BitVec 32 := Dev.word d0
  let c1_i32_1 : BitVec 32 := 1#32
  let v5 : BitVec 32 := Scalar.divsi v4 c1_i32_1
  let c16_i32_0 : BitVec 32 := 16#32
  let v6 : BitVec 32 := Scalar.remsi v5 c16_i32_0
  let c4_i32_7 : BitVec 32 := 4#32
  let c0_i32_8 : BitVec 32 := 0#32
  let v24 : BitVec 1 := Scalar.cmpi .eq c4_i32_7 c0_i32_8
  let c1_i32_9 : BitVec 32 := 1#32
  let v25 : BitVec 32 := Scalar.select v24 c1_i32_9 c4_i32_7
  let v26 : BitVec 32 := Scalar.remsi v6 v25
  let c0_i32_11 : BitVec 32 := 0#32
  let v28 : BitVec 1 := Scalar.cmpi .slt v26 c0_i32_11
  let c0_i32_12 : BitVec 32 := 0#32
  let v29 : BitVec 1 := Scalar.cmpi .slt v25 c0_i32_12
  let v30 : BitVec 1 := Scalar.xori v28 v29
  let c0_i32_10 : BitVec 32 := 0#32
  let v27 : BitVec 1 := Scalar.cmpi .ne v26 c0_i32_10
  let v31 : BitVec 1 := Scalar.andi v30 v27
  let v32 : BitVec 32 := Scalar.addi v26 v25
  let v33 : BitVec 32 := Scalar.select v31 v32 v26
  let c0_i32_13 : BitVec 32 := 0#32
  let v35 : BitVec 1 := Scalar.cmpi .sgt v33 c0_i32_13
  let v36 : BitVec 32 := Scalar.extui v35
  let c0_i32_14 : BitVec 32 := 0#32
  let v37 : BitVec 1 := Scalar.cmpi .slt v33 c0_i32_14
  let v38 : BitVec 32 := Scalar.extui v37
  let v39 : BitVec 32 := Scalar.subi v36 v38
  let c2_i32 : BitVec 32 := 2#32
  let c0_i32_15 : BitVec 32 := 0#32
  let v40 : BitVec 1 := Scalar.cmpi .sgt c2_i32 c0_i32_15
  let v41 : BitVec 32 := Scalar.extui v40
  let c0_i32_16 : BitVec 32 := 0#32
  let v42 : BitVec 1 := Scalar.cmpi .slt c2_i32 c0_i32_16
  let v43 : BitVec 32 := Scalar.extui v42
  let v44 : BitVec 32 := Scalar.subi v41 v43
  let v45 : BitVec 1 := Scalar.cmpi .ne v39 v44
  let v46 : BitVec 32 := Scalar.remsi v33 c2_i32
  let c0_i32_17 : BitVec 32 := 0#32
  let v47 : BitVec 1 := Scalar.cmpi .ne v46 c0_i32_17
  let v48 : BitVec 1 := Scalar.andi v45 v47
  let v34 : BitVec 32 := Scalar.divsi v33 c2_i32
  let c1_i32_18 : BitVec 32 := 1#32
  let v49 : BitVec 32 := Scalar.subi v34 c1_i32_18
  let v50 : BitVec 32 := Scalar.select v48 v49 v34
  let c256_i32_213 : BitVec 32 := 256#32
  let v443 : BitVec 32 := Scalar.muli v50 c256_i32_213
  let v444 : BitVec 32 := Scalar.addi c512_i32_214 v443
  let c0_i32 : BitVec 32 := 0#32
  let v8 : BitVec 1 := Scalar.cmpi .sgt v6 c0_i32
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c4_i32 : BitVec 32 := 4#32
  let c0_i32_3 : BitVec 32 := 0#32
  let v13 : BitVec 1 := Scalar.cmpi .sgt c4_i32 c0_i32_3
  let v14 : BitVec 32 := Scalar.extui v13
  let c0_i32_4 : BitVec 32 := 0#32
  let v15 : BitVec 1 := Scalar.cmpi .slt c4_i32 c0_i32_4
  let v16 : BitVec 32 := Scalar.extui v15
  let v17 : BitVec 32 := Scalar.subi v14 v16
  let v18 : BitVec 1 := Scalar.cmpi .ne v12 v17
  let v19 : BitVec 32 := Scalar.remsi v6 c4_i32
  let c0_i32_5 : BitVec 32 := 0#32
  let v20 : BitVec 1 := Scalar.cmpi .ne v19 c0_i32_5
  let v21 : BitVec 1 := Scalar.andi v18 v20
  let v7 : BitVec 32 := Scalar.divsi v6 c4_i32
  let c1_i32_6 : BitVec 32 := 1#32
  let v22 : BitVec 32 := Scalar.subi v7 c1_i32_6
  let v23 : BitVec 32 := Scalar.select v21 v22 v7
  let c2_i32_25 : BitVec 32 := 2#32
  let c0_i32_26 : BitVec 32 := 0#32
  let v62 : BitVec 1 := Scalar.cmpi .eq c2_i32_25 c0_i32_26
  let c1_i32_27 : BitVec 32 := 1#32
  let v63 : BitVec 32 := Scalar.select v62 c1_i32_27 c2_i32_25
  let v64 : BitVec 32 := Scalar.remsi v23 v63
  let c0_i32_29 : BitVec 32 := 0#32
  let v66 : BitVec 1 := Scalar.cmpi .slt v64 c0_i32_29
  let c0_i32_30 : BitVec 32 := 0#32
  let v67 : BitVec 1 := Scalar.cmpi .slt v63 c0_i32_30
  let v68 : BitVec 1 := Scalar.xori v66 v67
  let c0_i32_28 : BitVec 32 := 0#32
  let v65 : BitVec 1 := Scalar.cmpi .ne v64 c0_i32_28
  let v69 : BitVec 1 := Scalar.andi v68 v65
  let v70 : BitVec 32 := Scalar.addi v64 v63
  let v71 : BitVec 32 := Scalar.select v69 v70 v64
  let c128_i32_451 : BitVec 32 := 128#32
  let v813 : BitVec 32 := Scalar.muli v71 c128_i32_451
  let v814 : BitVec 32 := Scalar.addi v444 v813
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v33 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let v61 : BitVec 32 := Scalar.xori v60 v50
  let c64_i32_607 : BitVec 32 := 64#32
  let v963 : BitVec 32 := Scalar.muli v61 c64_i32_607
  let v964 : BitVec 32 := Scalar.addi v814 v963
  let c1_i32_765 : BitVec 32 := 1#32
  let c0_i32_32 : BitVec 32 := 0#32
  let v73 : BitVec 1 := Scalar.cmpi .sgt v23 c0_i32_32
  let v74 : BitVec 32 := Scalar.extui v73
  let c0_i32_33 : BitVec 32 := 0#32
  let v75 : BitVec 1 := Scalar.cmpi .slt v23 c0_i32_33
  let v76 : BitVec 32 := Scalar.extui v75
  let v77 : BitVec 32 := Scalar.subi v74 v76
  let c2_i32_31 : BitVec 32 := 2#32
  let c0_i32_34 : BitVec 32 := 0#32
  let v78 : BitVec 1 := Scalar.cmpi .sgt c2_i32_31 c0_i32_34
  let v79 : BitVec 32 := Scalar.extui v78
  let c0_i32_35 : BitVec 32 := 0#32
  let v80 : BitVec 1 := Scalar.cmpi .slt c2_i32_31 c0_i32_35
  let v81 : BitVec 32 := Scalar.extui v80
  let v82 : BitVec 32 := Scalar.subi v79 v81
  let v83 : BitVec 1 := Scalar.cmpi .ne v77 v82
  let v84 : BitVec 32 := Scalar.remsi v23 c2_i32_31
  let c0_i32_36 : BitVec 32 := 0#32
  let v85 : BitVec 1 := Scalar.cmpi .ne v84 c0_i32_36
  let v86 : BitVec 1 := Scalar.andi v83 v85
  let v72 : BitVec 32 := Scalar.divsi v23 c2_i32_31
  let c1_i32_37 : BitVec 32 := 1#32
  let v87 : BitVec 32 := Scalar.subi v72 c1_i32_37
  let v88 : BitVec 32 := Scalar.select v86 v87 v72
  let v1115 : BitVec 32 := Scalar.subi c1_i32_765 v88
  let c32_i32_766 : BitVec 32 := 32#32
  let v1116 : BitVec 32 := Scalar.muli v1115 c32_i32_766
  let v1117 : BitVec 32 := Scalar.addi v964 v1116
  let v1135 : BitVec 32 := Scalar.addi v1117 c0_i32_781
  let v1136 : Index := Scalar.indexCast v1135
  let c0_782 : Index := 0#32
  ![v1136.toNat, 0]
def k0_dev18 (d0 : Dev nD) : Nat :=
  let c0_i32_790 : BitVec 32 := 0#32
  let c4_i32_53 : BitVec 32 := 4#32
  let c2_i32_52 : BitVec 32 := 2#32
  let c1_i32_50 : BitVec 32 := 1#32
  let v4 : BitVec 32 := Dev.word d0
  let c1_i32_1 : BitVec 32 := 1#32
  let v5 : BitVec 32 := Scalar.divsi v4 c1_i32_1
  let c16_i32_0 : BitVec 32 := 16#32
  let v6 : BitVec 32 := Scalar.remsi v5 c16_i32_0
  let c0_i32 : BitVec 32 := 0#32
  let v8 : BitVec 1 := Scalar.cmpi .sgt v6 c0_i32
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c4_i32 : BitVec 32 := 4#32
  let c0_i32_3 : BitVec 32 := 0#32
  let v13 : BitVec 1 := Scalar.cmpi .sgt c4_i32 c0_i32_3
  let v14 : BitVec 32 := Scalar.extui v13
  let c0_i32_4 : BitVec 32 := 0#32
  let v15 : BitVec 1 := Scalar.cmpi .slt c4_i32 c0_i32_4
  let v16 : BitVec 32 := Scalar.extui v15
  let v17 : BitVec 32 := Scalar.subi v14 v16
  let v18 : BitVec 1 := Scalar.cmpi .ne v12 v17
  let v19 : BitVec 32 := Scalar.remsi v6 c4_i32
  let c0_i32_5 : BitVec 32 := 0#32
  let v20 : BitVec 1 := Scalar.cmpi .ne v19 c0_i32_5
  let v21 : BitVec 1 := Scalar.andi v18 v20
  let v7 : BitVec 32 := Scalar.divsi v6 c4_i32
  let c1_i32_6 : BitVec 32 := 1#32
  let v22 : BitVec 32 := Scalar.subi v7 c1_i32_6
  let v23 : BitVec 32 := Scalar.select v21 v22 v7
  let c0_i32_32 : BitVec 32 := 0#32
  let v73 : BitVec 1 := Scalar.cmpi .sgt v23 c0_i32_32
  let v74 : BitVec 32 := Scalar.extui v73
  let c0_i32_33 : BitVec 32 := 0#32
  let v75 : BitVec 1 := Scalar.cmpi .slt v23 c0_i32_33
  let v76 : BitVec 32 := Scalar.extui v75
  let v77 : BitVec 32 := Scalar.subi v74 v76
  let c2_i32_31 : BitVec 32 := 2#32
  let c0_i32_34 : BitVec 32 := 0#32
  let v78 : BitVec 1 := Scalar.cmpi .sgt c2_i32_31 c0_i32_34
  let v79 : BitVec 32 := Scalar.extui v78
  let c0_i32_35 : BitVec 32 := 0#32
  let v80 : BitVec 1 := Scalar.cmpi .slt c2_i32_31 c0_i32_35
  let v81 : BitVec 32 := Scalar.extui v80
  let v82 : BitVec 32 := Scalar.subi v79 v81
  let v83 : BitVec 1 := Scalar.cmpi .ne v77 v82
  let v84 : BitVec 32 := Scalar.remsi v23 c2_i32_31
  let c0_i32_36 : BitVec 32 := 0#32
  let v85 : BitVec 1 := Scalar.cmpi .ne v84 c0_i32_36
  let v86 : BitVec 1 := Scalar.andi v83 v85
  let v72 : BitVec 32 := Scalar.divsi v23 c2_i32_31
  let c1_i32_37 : BitVec 32 := 1#32
  let v87 : BitVec 32 := Scalar.subi v72 c1_i32_37
  let v88 : BitVec 32 := Scalar.select v86 v87 v72
  let v113 : BitVec 32 := Scalar.subi c1_i32_50 v88
  let v117 : BitVec 32 := Scalar.muli c2_i32_52 v113
  let c2_i32_25 : BitVec 32 := 2#32
  let c0_i32_26 : BitVec 32 := 0#32
  let v62 : BitVec 1 := Scalar.cmpi .eq c2_i32_25 c0_i32_26
  let c1_i32_27 : BitVec 32 := 1#32
  let v63 : BitVec 32 := Scalar.select v62 c1_i32_27 c2_i32_25
  let v64 : BitVec 32 := Scalar.remsi v23 v63
  let c0_i32_29 : BitVec 32 := 0#32
  let v66 : BitVec 1 := Scalar.cmpi .slt v64 c0_i32_29
  let c0_i32_30 : BitVec 32 := 0#32
  let v67 : BitVec 1 := Scalar.cmpi .slt v63 c0_i32_30
  let v68 : BitVec 1 := Scalar.xori v66 v67
  let c0_i32_28 : BitVec 32 := 0#32
  let v65 : BitVec 1 := Scalar.cmpi .ne v64 c0_i32_28
  let v69 : BitVec 1 := Scalar.andi v68 v65
  let v70 : BitVec 32 := Scalar.addi v64 v63
  let v71 : BitVec 32 := Scalar.select v69 v70 v64
  let v118 : BitVec 32 := Scalar.addi v117 v71
  let v119 : BitVec 32 := Scalar.muli c4_i32_53 v118
  let c4_i32_7 : BitVec 32 := 4#32
  let c0_i32_8 : BitVec 32 := 0#32
  let v24 : BitVec 1 := Scalar.cmpi .eq c4_i32_7 c0_i32_8
  let c1_i32_9 : BitVec 32 := 1#32
  let v25 : BitVec 32 := Scalar.select v24 c1_i32_9 c4_i32_7
  let v26 : BitVec 32 := Scalar.remsi v6 v25
  let c0_i32_11 : BitVec 32 := 0#32
  let v28 : BitVec 1 := Scalar.cmpi .slt v26 c0_i32_11
  let c0_i32_12 : BitVec 32 := 0#32
  let v29 : BitVec 1 := Scalar.cmpi .slt v25 c0_i32_12
  let v30 : BitVec 1 := Scalar.xori v28 v29
  let c0_i32_10 : BitVec 32 := 0#32
  let v27 : BitVec 1 := Scalar.cmpi .ne v26 c0_i32_10
  let v31 : BitVec 1 := Scalar.andi v30 v27
  let v32 : BitVec 32 := Scalar.addi v26 v25
  let v33 : BitVec 32 := Scalar.select v31 v32 v26
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v33 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_13 : BitVec 32 := 0#32
  let v35 : BitVec 1 := Scalar.cmpi .sgt v33 c0_i32_13
  let v36 : BitVec 32 := Scalar.extui v35
  let c0_i32_14 : BitVec 32 := 0#32
  let v37 : BitVec 1 := Scalar.cmpi .slt v33 c0_i32_14
  let v38 : BitVec 32 := Scalar.extui v37
  let v39 : BitVec 32 := Scalar.subi v36 v38
  let c2_i32 : BitVec 32 := 2#32
  let c0_i32_15 : BitVec 32 := 0#32
  let v40 : BitVec 1 := Scalar.cmpi .sgt c2_i32 c0_i32_15
  let v41 : BitVec 32 := Scalar.extui v40
  let c0_i32_16 : BitVec 32 := 0#32
  let v42 : BitVec 1 := Scalar.cmpi .slt c2_i32 c0_i32_16
  let v43 : BitVec 32 := Scalar.extui v42
  let v44 : BitVec 32 := Scalar.subi v41 v43
  let v45 : BitVec 1 := Scalar.cmpi .ne v39 v44
  let v46 : BitVec 32 := Scalar.remsi v33 c2_i32
  let c0_i32_17 : BitVec 32 := 0#32
  let v47 : BitVec 1 := Scalar.cmpi .ne v46 c0_i32_17
  let v48 : BitVec 1 := Scalar.andi v45 v47
  let v34 : BitVec 32 := Scalar.divsi v33 c2_i32
  let c1_i32_18 : BitVec 32 := 1#32
  let v49 : BitVec 32 := Scalar.subi v34 c1_i32_18
  let v50 : BitVec 32 := Scalar.select v48 v49 v34
  let v61 : BitVec 32 := Scalar.xori v60 v50
  let v114 : BitVec 32 := Scalar.xori v61 v50
  let c2_i32_51 : BitVec 32 := 2#32
  let v115 : BitVec 32 := Scalar.muli c2_i32_51 v50
  let v116 : BitVec 32 := Scalar.addi v114 v115
  let v120 : BitVec 32 := Scalar.addi v119 v116
  let c1_i32_789 : BitVec 32 := 1#32
  let v1143 : BitVec 32 := Scalar.muli v120 c1_i32_789
  let v1144 : BitVec 32 := Scalar.addi c0_i32_790 v1143
  v1144.toNat
def k0_dev19 (d0 : Dev nD) : Nat :=
  let c0_i32_804 : BitVec 32 := 0#32
  let c4_i32_53 : BitVec 32 := 4#32
  let c2_i32_52 : BitVec 32 := 2#32
  let c1_i32_50 : BitVec 32 := 1#32
  let v4 : BitVec 32 := Dev.word d0
  let c1_i32_1 : BitVec 32 := 1#32
  let v5 : BitVec 32 := Scalar.divsi v4 c1_i32_1
  let c16_i32_0 : BitVec 32 := 16#32
  let v6 : BitVec 32 := Scalar.remsi v5 c16_i32_0
  let c0_i32 : BitVec 32 := 0#32
  let v8 : BitVec 1 := Scalar.cmpi .sgt v6 c0_i32
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c4_i32 : BitVec 32 := 4#32
  let c0_i32_3 : BitVec 32 := 0#32
  let v13 : BitVec 1 := Scalar.cmpi .sgt c4_i32 c0_i32_3
  let v14 : BitVec 32 := Scalar.extui v13
  let c0_i32_4 : BitVec 32 := 0#32
  let v15 : BitVec 1 := Scalar.cmpi .slt c4_i32 c0_i32_4
  let v16 : BitVec 32 := Scalar.extui v15
  let v17 : BitVec 32 := Scalar.subi v14 v16
  let v18 : BitVec 1 := Scalar.cmpi .ne v12 v17
  let v19 : BitVec 32 := Scalar.remsi v6 c4_i32
  let c0_i32_5 : BitVec 32 := 0#32
  let v20 : BitVec 1 := Scalar.cmpi .ne v19 c0_i32_5
  let v21 : BitVec 1 := Scalar.andi v18 v20
  let v7 : BitVec 32 := Scalar.divsi v6 c4_i32
  let c1_i32_6 : BitVec 32 := 1#32
  let v22 : BitVec 32 := Scalar.subi v7 c1_i32_6
  let v23 : BitVec 32 := Scalar.select v21 v22 v7
  let c0_i32_32 : BitVec 32 := 0#32
  let v73 : BitVec 1 := Scalar.cmpi .sgt v23 c0_i32_32
  let v74 : BitVec 32 := Scalar.extui v73
  let c0_i32_33 : BitVec 32 := 0#32
  let v75 : BitVec 1 := Scalar.cmpi .slt v23 c0_i32_33
  let v76 : BitVec 32 := Scalar.extui v75
  let v77 : BitVec 32 := Scalar.subi v74 v76
  let c2_i32_31 : BitVec 32 := 2#32
  let c0_i32_34 : BitVec 32 := 0#32
  let v78 : BitVec 1 := Scalar.cmpi .sgt c2_i32_31 c0_i32_34
  let v79 : BitVec 32 := Scalar.extui v78
  let c0_i32_35 : BitVec 32 := 0#32
  let v80 : BitVec 1 := Scalar.cmpi .slt c2_i32_31 c0_i32_35
  let v81 : BitVec 32 := Scalar.extui v80
  let v82 : BitVec 32 := Scalar.subi v79 v81
  let v83 : BitVec 1 := Scalar.cmpi .ne v77 v82
  let v84 : BitVec 32 := Scalar.remsi v23 c2_i32_31
  let c0_i32_36 : BitVec 32 := 0#32
  let v85 : BitVec 1 := Scalar.cmpi .ne v84 c0_i32_36
  let v86 : BitVec 1 := Scalar.andi v83 v85
  let v72 : BitVec 32 := Scalar.divsi v23 c2_i32_31
  let c1_i32_37 : BitVec 32 := 1#32
  let v87 : BitVec 32 := Scalar.subi v72 c1_i32_37
  let v88 : BitVec 32 := Scalar.select v86 v87 v72
  let v113 : BitVec 32 := Scalar.subi c1_i32_50 v88
  let v117 : BitVec 32 := Scalar.muli c2_i32_52 v113
  let c2_i32_25 : BitVec 32 := 2#32
  let c0_i32_26 : BitVec 32 := 0#32
  let v62 : BitVec 1 := Scalar.cmpi .eq c2_i32_25 c0_i32_26
  let c1_i32_27 : BitVec 32 := 1#32
  let v63 : BitVec 32 := Scalar.select v62 c1_i32_27 c2_i32_25
  let v64 : BitVec 32 := Scalar.remsi v23 v63
  let c0_i32_29 : BitVec 32 := 0#32
  let v66 : BitVec 1 := Scalar.cmpi .slt v64 c0_i32_29
  let c0_i32_30 : BitVec 32 := 0#32
  let v67 : BitVec 1 := Scalar.cmpi .slt v63 c0_i32_30
  let v68 : BitVec 1 := Scalar.xori v66 v67
  let c0_i32_28 : BitVec 32 := 0#32
  let v65 : BitVec 1 := Scalar.cmpi .ne v64 c0_i32_28
  let v69 : BitVec 1 := Scalar.andi v68 v65
  let v70 : BitVec 32 := Scalar.addi v64 v63
  let v71 : BitVec 32 := Scalar.select v69 v70 v64
  let v118 : BitVec 32 := Scalar.addi v117 v71
  let v119 : BitVec 32 := Scalar.muli c4_i32_53 v118
  let c4_i32_7 : BitVec 32 := 4#32
  let c0_i32_8 : BitVec 32 := 0#32
  let v24 : BitVec 1 := Scalar.cmpi .eq c4_i32_7 c0_i32_8
  let c1_i32_9 : BitVec 32 := 1#32
  let v25 : BitVec 32 := Scalar.select v24 c1_i32_9 c4_i32_7
  let v26 : BitVec 32 := Scalar.remsi v6 v25
  let c0_i32_11 : BitVec 32 := 0#32
  let v28 : BitVec 1 := Scalar.cmpi .slt v26 c0_i32_11
  let c0_i32_12 : BitVec 32 := 0#32
  let v29 : BitVec 1 := Scalar.cmpi .slt v25 c0_i32_12
  let v30 : BitVec 1 := Scalar.xori v28 v29
  let c0_i32_10 : BitVec 32 := 0#32
  let v27 : BitVec 1 := Scalar.cmpi .ne v26 c0_i32_10
  let v31 : BitVec 1 := Scalar.andi v30 v27
  let v32 : BitVec 32 := Scalar.addi v26 v25
  let v33 : BitVec 32 := Scalar.select v31 v32 v26
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v33 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_13 : BitVec 32 := 0#32
  let v35 : BitVec 1 := Scalar.cmpi .sgt v33 c0_i32_13
  let v36 : BitVec 32 := Scalar.extui v35
  let c0_i32_14 : BitVec 32 := 0#32
  let v37 : BitVec 1 := Scalar.cmpi .slt v33 c0_i32_14
  let v38 : BitVec 32 := Scalar.extui v37
  let v39 : BitVec 32 := Scalar.subi v36 v38
  let c2_i32 : BitVec 32 := 2#32
  let c0_i32_15 : BitVec 32 := 0#32
  let v40 : BitVec 1 := Scalar.cmpi .sgt c2_i32 c0_i32_15
  let v41 : BitVec 32 := Scalar.extui v40
  let c0_i32_16 : BitVec 32 := 0#32
  let v42 : BitVec 1 := Scalar.cmpi .slt c2_i32 c0_i32_16
  let v43 : BitVec 32 := Scalar.extui v42
  let v44 : BitVec 32 := Scalar.subi v41 v43
  let v45 : BitVec 1 := Scalar.cmpi .ne v39 v44
  let v46 : BitVec 32 := Scalar.remsi v33 c2_i32
  let c0_i32_17 : BitVec 32 := 0#32
  let v47 : BitVec 1 := Scalar.cmpi .ne v46 c0_i32_17
  let v48 : BitVec 1 := Scalar.andi v45 v47
  let v34 : BitVec 32 := Scalar.divsi v33 c2_i32
  let c1_i32_18 : BitVec 32 := 1#32
  let v49 : BitVec 32 := Scalar.subi v34 c1_i32_18
  let v50 : BitVec 32 := Scalar.select v48 v49 v34
  let v61 : BitVec 32 := Scalar.xori v60 v50
  let v114 : BitVec 32 := Scalar.xori v61 v50
  let c2_i32_51 : BitVec 32 := 2#32
  let v115 : BitVec 32 := Scalar.muli c2_i32_51 v50
  let v116 : BitVec 32 := Scalar.addi v114 v115
  let v120 : BitVec 32 := Scalar.addi v119 v116
  let c1_i32_803 : BitVec 32 := 1#32
  let v1160 : BitVec 32 := Scalar.muli v120 c1_i32_803
  let v1161 : BitVec 32 := Scalar.addi c0_i32_804 v1160
  v1161.toNat
def k0_dev20 (d0 : Dev nD) : Nat :=
  let c0_i32_819 : BitVec 32 := 0#32
  let c4_i32_53 : BitVec 32 := 4#32
  let c2_i32_52 : BitVec 32 := 2#32
  let c1_i32_50 : BitVec 32 := 1#32
  let v4 : BitVec 32 := Dev.word d0
  let c1_i32_1 : BitVec 32 := 1#32
  let v5 : BitVec 32 := Scalar.divsi v4 c1_i32_1
  let c16_i32_0 : BitVec 32 := 16#32
  let v6 : BitVec 32 := Scalar.remsi v5 c16_i32_0
  let c0_i32 : BitVec 32 := 0#32
  let v8 : BitVec 1 := Scalar.cmpi .sgt v6 c0_i32
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c4_i32 : BitVec 32 := 4#32
  let c0_i32_3 : BitVec 32 := 0#32
  let v13 : BitVec 1 := Scalar.cmpi .sgt c4_i32 c0_i32_3
  let v14 : BitVec 32 := Scalar.extui v13
  let c0_i32_4 : BitVec 32 := 0#32
  let v15 : BitVec 1 := Scalar.cmpi .slt c4_i32 c0_i32_4
  let v16 : BitVec 32 := Scalar.extui v15
  let v17 : BitVec 32 := Scalar.subi v14 v16
  let v18 : BitVec 1 := Scalar.cmpi .ne v12 v17
  let v19 : BitVec 32 := Scalar.remsi v6 c4_i32
  let c0_i32_5 : BitVec 32 := 0#32
  let v20 : BitVec 1 := Scalar.cmpi .ne v19 c0_i32_5
  let v21 : BitVec 1 := Scalar.andi v18 v20
  let v7 : BitVec 32 := Scalar.divsi v6 c4_i32
  let c1_i32_6 : BitVec 32 := 1#32
  let v22 : BitVec 32 := Scalar.subi v7 c1_i32_6
  let v23 : BitVec 32 := Scalar.select v21 v22 v7
  let c0_i32_32 : BitVec 32 := 0#32
  let v73 : BitVec 1 := Scalar.cmpi .sgt v23 c0_i32_32
  let v74 : BitVec 32 := Scalar.extui v73
  let c0_i32_33 : BitVec 32 := 0#32
  let v75 : BitVec 1 := Scalar.cmpi .slt v23 c0_i32_33
  let v76 : BitVec 32 := Scalar.extui v75
  let v77 : BitVec 32 := Scalar.subi v74 v76
  let c2_i32_31 : BitVec 32 := 2#32
  let c0_i32_34 : BitVec 32 := 0#32
  let v78 : BitVec 1 := Scalar.cmpi .sgt c2_i32_31 c0_i32_34
  let v79 : BitVec 32 := Scalar.extui v78
  let c0_i32_35 : BitVec 32 := 0#32
  let v80 : BitVec 1 := Scalar.cmpi .slt c2_i32_31 c0_i32_35
  let v81 : BitVec 32 := Scalar.extui v80
  let v82 : BitVec 32 := Scalar.subi v79 v81
  let v83 : BitVec 1 := Scalar.cmpi .ne v77 v82
  let v84 : BitVec 32 := Scalar.remsi v23 c2_i32_31
  let c0_i32_36 : BitVec 32 := 0#32
  let v85 : BitVec 1 := Scalar.cmpi .ne v84 c0_i32_36
  let v86 : BitVec 1 := Scalar.andi v83 v85
  let v72 : BitVec 32 := Scalar.divsi v23 c2_i32_31
  let c1_i32_37 : BitVec 32 := 1#32
  let v87 : BitVec 32 := Scalar.subi v72 c1_i32_37
  let v88 : BitVec 32 := Scalar.select v86 v87 v72
  let v113 : BitVec 32 := Scalar.subi c1_i32_50 v88
  let v117 : BitVec 32 := Scalar.muli c2_i32_52 v113
  let c2_i32_25 : BitVec 32 := 2#32
  let c0_i32_26 : BitVec 32 := 0#32
  let v62 : BitVec 1 := Scalar.cmpi .eq c2_i32_25 c0_i32_26
  let c1_i32_27 : BitVec 32 := 1#32
  let v63 : BitVec 32 := Scalar.select v62 c1_i32_27 c2_i32_25
  let v64 : BitVec 32 := Scalar.remsi v23 v63
  let c0_i32_29 : BitVec 32 := 0#32
  let v66 : BitVec 1 := Scalar.cmpi .slt v64 c0_i32_29
  let c0_i32_30 : BitVec 32 := 0#32
  let v67 : BitVec 1 := Scalar.cmpi .slt v63 c0_i32_30
  let v68 : BitVec 1 := Scalar.xori v66 v67
  let c0_i32_28 : BitVec 32 := 0#32
  let v65 : BitVec 1 := Scalar.cmpi .ne v64 c0_i32_28
  let v69 : BitVec 1 := Scalar.andi v68 v65
  let v70 : BitVec 32 := Scalar.addi v64 v63
  let v71 : BitVec 32 := Scalar.select v69 v70 v64
  let v118 : BitVec 32 := Scalar.addi v117 v71
  let v119 : BitVec 32 := Scalar.muli c4_i32_53 v118
  let c4_i32_7 : BitVec 32 := 4#32
  let c0_i32_8 : BitVec 32 := 0#32
  let v24 : BitVec 1 := Scalar.cmpi .eq c4_i32_7 c0_i32_8
  let c1_i32_9 : BitVec 32 := 1#32
  let v25 : BitVec 32 := Scalar.select v24 c1_i32_9 c4_i32_7
  let v26 : BitVec 32 := Scalar.remsi v6 v25
  let c0_i32_11 : BitVec 32 := 0#32
  let v28 : BitVec 1 := Scalar.cmpi .slt v26 c0_i32_11
  let c0_i32_12 : BitVec 32 := 0#32
  let v29 : BitVec 1 := Scalar.cmpi .slt v25 c0_i32_12
  let v30 : BitVec 1 := Scalar.xori v28 v29
  let c0_i32_10 : BitVec 32 := 0#32
  let v27 : BitVec 1 := Scalar.cmpi .ne v26 c0_i32_10
  let v31 : BitVec 1 := Scalar.andi v30 v27
  let v32 : BitVec 32 := Scalar.addi v26 v25
  let v33 : BitVec 32 := Scalar.select v31 v32 v26
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v33 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_13 : BitVec 32 := 0#32
  let v35 : BitVec 1 := Scalar.cmpi .sgt v33 c0_i32_13
  let v36 : BitVec 32 := Scalar.extui v35
  let c0_i32_14 : BitVec 32 := 0#32
  let v37 : BitVec 1 := Scalar.cmpi .slt v33 c0_i32_14
  let v38 : BitVec 32 := Scalar.extui v37
  let v39 : BitVec 32 := Scalar.subi v36 v38
  let c2_i32 : BitVec 32 := 2#32
  let c0_i32_15 : BitVec 32 := 0#32
  let v40 : BitVec 1 := Scalar.cmpi .sgt c2_i32 c0_i32_15
  let v41 : BitVec 32 := Scalar.extui v40
  let c0_i32_16 : BitVec 32 := 0#32
  let v42 : BitVec 1 := Scalar.cmpi .slt c2_i32 c0_i32_16
  let v43 : BitVec 32 := Scalar.extui v42
  let v44 : BitVec 32 := Scalar.subi v41 v43
  let v45 : BitVec 1 := Scalar.cmpi .ne v39 v44
  let v46 : BitVec 32 := Scalar.remsi v33 c2_i32
  let c0_i32_17 : BitVec 32 := 0#32
  let v47 : BitVec 1 := Scalar.cmpi .ne v46 c0_i32_17
  let v48 : BitVec 1 := Scalar.andi v45 v47
  let v34 : BitVec 32 := Scalar.divsi v33 c2_i32
  let c1_i32_18 : BitVec 32 := 1#32
  let v49 : BitVec 32 := Scalar.subi v34 c1_i32_18
  let v50 : BitVec 32 := Scalar.select v48 v49 v34
  let v61 : BitVec 32 := Scalar.xori v60 v50
  let v114 : BitVec 32 := Scalar.xori v61 v50
  let c2_i32_51 : BitVec 32 := 2#32
  let v115 : BitVec 32 := Scalar.muli c2_i32_51 v50
  let v116 : BitVec 32 := Scalar.addi v114 v115
  let v120 : BitVec 32 := Scalar.addi v119 v116
  let c1_i32_818 : BitVec 32 := 1#32
  let v1177 : BitVec 32 := Scalar.muli v120 c1_i32_818
  let v1178 : BitVec 32 := Scalar.addi c0_i32_819 v1177
  v1178.toNat
def k0_off52 (d0 : Dev nD) (c0_i32_780 : BitVec 32) : Fin 2 → Nat :=
  let c0_i32_209 : BitVec 32 := 0#32
  let v4 : BitVec 32 := Dev.word d0
  let c1_i32_1 : BitVec 32 := 1#32
  let v5 : BitVec 32 := Scalar.divsi v4 c1_i32_1
  let c16_i32_0 : BitVec 32 := 16#32
  let v6 : BitVec 32 := Scalar.remsi v5 c16_i32_0
  let c4_i32_7 : BitVec 32 := 4#32
  let c0_i32_8 : BitVec 32 := 0#32
  let v24 : BitVec 1 := Scalar.cmpi .eq c4_i32_7 c0_i32_8
  let c1_i32_9 : BitVec 32 := 1#32
  let v25 : BitVec 32 := Scalar.select v24 c1_i32_9 c4_i32_7
  let v26 : BitVec 32 := Scalar.remsi v6 v25
  let c0_i32_11 : BitVec 32 := 0#32
  let v28 : BitVec 1 := Scalar.cmpi .slt v26 c0_i32_11
  let c0_i32_12 : BitVec 32 := 0#32
  let v29 : BitVec 1 := Scalar.cmpi .slt v25 c0_i32_12
  let v30 : BitVec 1 := Scalar.xori v28 v29
  let c0_i32_10 : BitVec 32 := 0#32
  let v27 : BitVec 1 := Scalar.cmpi .ne v26 c0_i32_10
  let v31 : BitVec 1 := Scalar.andi v30 v27
  let v32 : BitVec 32 := Scalar.addi v26 v25
  let v33 : BitVec 32 := Scalar.select v31 v32 v26
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v33 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_13 : BitVec 32 := 0#32
  let v35 : BitVec 1 := Scalar.cmpi .sgt v33 c0_i32_13
  let v36 : BitVec 32 := Scalar.extui v35
  let c0_i32_14 : BitVec 32 := 0#32
  let v37 : BitVec 1 := Scalar.cmpi .slt v33 c0_i32_14
  let v38 : BitVec 32 := Scalar.extui v37
  let v39 : BitVec 32 := Scalar.subi v36 v38
  let c2_i32 : BitVec 32 := 2#32
  let c0_i32_15 : BitVec 32 := 0#32
  let v40 : BitVec 1 := Scalar.cmpi .sgt c2_i32 c0_i32_15
  let v41 : BitVec 32 := Scalar.extui v40
  let c0_i32_16 : BitVec 32 := 0#32
  let v42 : BitVec 1 := Scalar.cmpi .slt c2_i32 c0_i32_16
  let v43 : BitVec 32 := Scalar.extui v42
  let v44 : BitVec 32 := Scalar.subi v41 v43
  let v45 : BitVec 1 := Scalar.cmpi .ne v39 v44
  let v46 : BitVec 32 := Scalar.remsi v33 c2_i32
  let c0_i32_17 : BitVec 32 := 0#32
  let v47 : BitVec 1 := Scalar.cmpi .ne v46 c0_i32_17
  let v48 : BitVec 1 := Scalar.andi v45 v47
  let v34 : BitVec 32 := Scalar.divsi v33 c2_i32
  let c1_i32_18 : BitVec 32 := 1#32
  let v49 : BitVec 32 := Scalar.subi v34 c1_i32_18
  let v50 : BitVec 32 := Scalar.select v48 v49 v34
  let v61 : BitVec 32 := Scalar.xori v60 v50
  let c256_i32_208 : BitVec 32 := 256#32
  let v438 : BitVec 32 := Scalar.muli v61 c256_i32_208
  let v439 : BitVec 32 := Scalar.addi c0_i32_209 v438
  let c128_i32_448 : BitVec 32 := 128#32
  let v808 : BitVec 32 := Scalar.muli v50 c128_i32_448
  let v809 : BitVec 32 := Scalar.addi v439 v808
  let c0_i32 : BitVec 32 := 0#32
  let v8 : BitVec 1 := Scalar.cmpi .sgt v6 c0_i32
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c4_i32 : BitVec 32 := 4#32
  let c0_i32_3 : BitVec 32 := 0#32
  let v13 : BitVec 1 := Scalar.cmpi .sgt c4_i32 c0_i32_3
  let v14 : BitVec 32 := Scalar.extui v13
  let c0_i32_4 : BitVec 32 := 0#32
  let v15 : BitVec 1 := Scalar.cmpi .slt c4_i32 c0_i32_4
  let v16 : BitVec 32 := Scalar.extui v15
  let v17 : BitVec 32 := Scalar.subi v14 v16
  let v18 : BitVec 1 := Scalar.cmpi .ne v12 v17
  let v19 : BitVec 32 := Scalar.remsi v6 c4_i32
  let c0_i32_5 : BitVec 32 := 0#32
  let v20 : BitVec 1 := Scalar.cmpi .ne v19 c0_i32_5
  let v21 : BitVec 1 := Scalar.andi v18 v20
  let v7 : BitVec 32 := Scalar.divsi v6 c4_i32
  let c1_i32_6 : BitVec 32 := 1#32
  let v22 : BitVec 32 := Scalar.subi v7 c1_i32_6
  let v23 : BitVec 32 := Scalar.select v21 v22 v7
  let c2_i32_25 : BitVec 32 := 2#32
  let c0_i32_26 : BitVec 32 := 0#32
  let v62 : BitVec 1 := Scalar.cmpi .eq c2_i32_25 c0_i32_26
  let c1_i32_27 : BitVec 32 := 1#32
  let v63 : BitVec 32 := Scalar.select v62 c1_i32_27 c2_i32_25
  let v64 : BitVec 32 := Scalar.remsi v23 v63
  let c0_i32_29 : BitVec 32 := 0#32
  let v66 : BitVec 1 := Scalar.cmpi .slt v64 c0_i32_29
  let c0_i32_30 : BitVec 32 := 0#32
  let v67 : BitVec 1 := Scalar.cmpi .slt v63 c0_i32_30
  let v68 : BitVec 1 := Scalar.xori v66 v67
  let c0_i32_28 : BitVec 32 := 0#32
  let v65 : BitVec 1 := Scalar.cmpi .ne v64 c0_i32_28
  let v69 : BitVec 1 := Scalar.andi v68 v65
  let v70 : BitVec 32 := Scalar.addi v64 v63
  let v71 : BitVec 32 := Scalar.select v69 v70 v64
  let c64_i32_604 : BitVec 32 := 64#32
  let v958 : BitVec 32 := Scalar.muli v71 c64_i32_604
  let v959 : BitVec 32 := Scalar.addi v809 v958
  let c0_i32_32 : BitVec 32 := 0#32
  let v73 : BitVec 1 := Scalar.cmpi .sgt v23 c0_i32_32
  let v74 : BitVec 32 := Scalar.extui v73
  let c0_i32_33 : BitVec 32 := 0#32
  let v75 : BitVec 1 := Scalar.cmpi .slt v23 c0_i32_33
  let v76 : BitVec 32 := Scalar.extui v75
  let v77 : BitVec 32 := Scalar.subi v74 v76
  let c2_i32_31 : BitVec 32 := 2#32
  let c0_i32_34 : BitVec 32 := 0#32
  let v78 : BitVec 1 := Scalar.cmpi .sgt c2_i32_31 c0_i32_34
  let v79 : BitVec 32 := Scalar.extui v78
  let c0_i32_35 : BitVec 32 := 0#32
  let v80 : BitVec 1 := Scalar.cmpi .slt c2_i32_31 c0_i32_35
  let v81 : BitVec 32 := Scalar.extui v80
  let v82 : BitVec 32 := Scalar.subi v79 v81
  let v83 : BitVec 1 := Scalar.cmpi .ne v77 v82
  let v84 : BitVec 32 := Scalar.remsi v23 c2_i32_31
  let c0_i32_36 : BitVec 32 := 0#32
  let v85 : BitVec 1 := Scalar.cmpi .ne v84 c0_i32_36
  let v86 : BitVec 1 := Scalar.andi v83 v85
  let v72 : BitVec 32 := Scalar.divsi v23 c2_i32_31
  let c1_i32_37 : BitVec 32 := 1#32
  let v87 : BitVec 32 := Scalar.subi v72 c1_i32_37
  let v88 : BitVec 32 := Scalar.select v86 v87 v72
  let c32_i32_761 : BitVec 32 := 32#32
  let v1108 : BitVec 32 := Scalar.muli v88 c32_i32_761
  let v1109 : BitVec 32 := Scalar.addi v959 v1108
  let v1134 : BitVec 32 := Scalar.addi v1109 c0_i32_780
  let v1196 : Index := Scalar.indexCast v1134
  let c0_844 : Index := 0#32
  ![v1196.toNat, 0]
def k0_off53 (d0 : Dev nD) (c0_i32_795 : BitVec 32) : Fin 2 → Nat :=
  let c512_i32_214 : BitVec 32 := 512#32
  let v4 : BitVec 32 := Dev.word d0
  let c1_i32_1 : BitVec 32 := 1#32
  let v5 : BitVec 32 := Scalar.divsi v4 c1_i32_1
  let c16_i32_0 : BitVec 32 := 16#32
  let v6 : BitVec 32 := Scalar.remsi v5 c16_i32_0
  let c4_i32_7 : BitVec 32 := 4#32
  let c0_i32_8 : BitVec 32 := 0#32
  let v24 : BitVec 1 := Scalar.cmpi .eq c4_i32_7 c0_i32_8
  let c1_i32_9 : BitVec 32 := 1#32
  let v25 : BitVec 32 := Scalar.select v24 c1_i32_9 c4_i32_7
  let v26 : BitVec 32 := Scalar.remsi v6 v25
  let c0_i32_11 : BitVec 32 := 0#32
  let v28 : BitVec 1 := Scalar.cmpi .slt v26 c0_i32_11
  let c0_i32_12 : BitVec 32 := 0#32
  let v29 : BitVec 1 := Scalar.cmpi .slt v25 c0_i32_12
  let v30 : BitVec 1 := Scalar.xori v28 v29
  let c0_i32_10 : BitVec 32 := 0#32
  let v27 : BitVec 1 := Scalar.cmpi .ne v26 c0_i32_10
  let v31 : BitVec 1 := Scalar.andi v30 v27
  let v32 : BitVec 32 := Scalar.addi v26 v25
  let v33 : BitVec 32 := Scalar.select v31 v32 v26
  let c0_i32_13 : BitVec 32 := 0#32
  let v35 : BitVec 1 := Scalar.cmpi .sgt v33 c0_i32_13
  let v36 : BitVec 32 := Scalar.extui v35
  let c0_i32_14 : BitVec 32 := 0#32
  let v37 : BitVec 1 := Scalar.cmpi .slt v33 c0_i32_14
  let v38 : BitVec 32 := Scalar.extui v37
  let v39 : BitVec 32 := Scalar.subi v36 v38
  let c2_i32 : BitVec 32 := 2#32
  let c0_i32_15 : BitVec 32 := 0#32
  let v40 : BitVec 1 := Scalar.cmpi .sgt c2_i32 c0_i32_15
  let v41 : BitVec 32 := Scalar.extui v40
  let c0_i32_16 : BitVec 32 := 0#32
  let v42 : BitVec 1 := Scalar.cmpi .slt c2_i32 c0_i32_16
  let v43 : BitVec 32 := Scalar.extui v42
  let v44 : BitVec 32 := Scalar.subi v41 v43
  let v45 : BitVec 1 := Scalar.cmpi .ne v39 v44
  let v46 : BitVec 32 := Scalar.remsi v33 c2_i32
  let c0_i32_17 : BitVec 32 := 0#32
  let v47 : BitVec 1 := Scalar.cmpi .ne v46 c0_i32_17
  let v48 : BitVec 1 := Scalar.andi v45 v47
  let v34 : BitVec 32 := Scalar.divsi v33 c2_i32
  let c1_i32_18 : BitVec 32 := 1#32
  let v49 : BitVec 32 := Scalar.subi v34 c1_i32_18
  let v50 : BitVec 32 := Scalar.select v48 v49 v34
  let c256_i32_213 : BitVec 32 := 256#32
  let v443 : BitVec 32 := Scalar.muli v50 c256_i32_213
  let v444 : BitVec 32 := Scalar.addi c512_i32_214 v443
  let c0_i32 : BitVec 32 := 0#32
  let v8 : BitVec 1 := Scalar.cmpi .sgt v6 c0_i32
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c4_i32 : BitVec 32 := 4#32
  let c0_i32_3 : BitVec 32 := 0#32
  let v13 : BitVec 1 := Scalar.cmpi .sgt c4_i32 c0_i32_3
  let v14 : BitVec 32 := Scalar.extui v13
  let c0_i32_4 : BitVec 32 := 0#32
  let v15 : BitVec 1 := Scalar.cmpi .slt c4_i32 c0_i32_4
  let v16 : BitVec 32 := Scalar.extui v15
  let v17 : BitVec 32 := Scalar.subi v14 v16
  let v18 : BitVec 1 := Scalar.cmpi .ne v12 v17
  let v19 : BitVec 32 := Scalar.remsi v6 c4_i32
  let c0_i32_5 : BitVec 32 := 0#32
  let v20 : BitVec 1 := Scalar.cmpi .ne v19 c0_i32_5
  let v21 : BitVec 1 := Scalar.andi v18 v20
  let v7 : BitVec 32 := Scalar.divsi v6 c4_i32
  let c1_i32_6 : BitVec 32 := 1#32
  let v22 : BitVec 32 := Scalar.subi v7 c1_i32_6
  let v23 : BitVec 32 := Scalar.select v21 v22 v7
  let c2_i32_25 : BitVec 32 := 2#32
  let c0_i32_26 : BitVec 32 := 0#32
  let v62 : BitVec 1 := Scalar.cmpi .eq c2_i32_25 c0_i32_26
  let c1_i32_27 : BitVec 32 := 1#32
  let v63 : BitVec 32 := Scalar.select v62 c1_i32_27 c2_i32_25
  let v64 : BitVec 32 := Scalar.remsi v23 v63
  let c0_i32_29 : BitVec 32 := 0#32
  let v66 : BitVec 1 := Scalar.cmpi .slt v64 c0_i32_29
  let c0_i32_30 : BitVec 32 := 0#32
  let v67 : BitVec 1 := Scalar.cmpi .slt v63 c0_i32_30
  let v68 : BitVec 1 := Scalar.xori v66 v67
  let c0_i32_28 : BitVec 32 := 0#32
  let v65 : BitVec 1 := Scalar.cmpi .ne v64 c0_i32_28
  let v69 : BitVec 1 := Scalar.andi v68 v65
  let v70 : BitVec 32 := Scalar.addi v64 v63
  let v71 : BitVec 32 := Scalar.select v69 v70 v64
  let c128_i32_451 : BitVec 32 := 128#32
  let v813 : BitVec 32 := Scalar.muli v71 c128_i32_451
  let v814 : BitVec 32 := Scalar.addi v444 v813
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v33 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let v61 : BitVec 32 := Scalar.xori v60 v50
  let c64_i32_607 : BitVec 32 := 64#32
  let v963 : BitVec 32 := Scalar.muli v61 c64_i32_607
  let v964 : BitVec 32 := Scalar.addi v814 v963
  let c0_i32_32 : BitVec 32 := 0#32
  let v73 : BitVec 1 := Scalar.cmpi .sgt v23 c0_i32_32
  let v74 : BitVec 32 := Scalar.extui v73
  let c0_i32_33 : BitVec 32 := 0#32
  let v75 : BitVec 1 := Scalar.cmpi .slt v23 c0_i32_33
  let v76 : BitVec 32 := Scalar.extui v75
  let v77 : BitVec 32 := Scalar.subi v74 v76
  let c2_i32_31 : BitVec 32 := 2#32
  let c0_i32_34 : BitVec 32 := 0#32
  let v78 : BitVec 1 := Scalar.cmpi .sgt c2_i32_31 c0_i32_34
  let v79 : BitVec 32 := Scalar.extui v78
  let c0_i32_35 : BitVec 32 := 0#32
  let v80 : BitVec 1 := Scalar.cmpi .slt c2_i32_31 c0_i32_35
  let v81 : BitVec 32 := Scalar.extui v80
  let v82 : BitVec 32 := Scalar.subi v79 v81
  let v83 : BitVec 1 := Scalar.cmpi .ne v77 v82
  let v84 : BitVec 32 := Scalar.remsi v23 c2_i32_31
  let c0_i32_36 : BitVec 32 := 0#32
  let v85 : BitVec 1 := Scalar.cmpi .ne v84 c0_i32_36
  let v86 : BitVec 1 := Scalar.andi v83 v85
  let v72 : BitVec 32 := Scalar.divsi v23 c2_i32_31
  let c1_i32_37 : BitVec 32 := 1#32
  let v87 : BitVec 32 := Scalar.subi v72 c1_i32_37
  let v88 : BitVec 32 := Scalar.select v86 v87 v72
  let c32_i32_764 : BitVec 32 := 32#32
  let v1113 : BitVec 32 := Scalar.muli v88 c32_i32_764
  let v1114 : BitVec 32 := Scalar.addi v964 v1113
  let v1151 : BitVec 32 := Scalar.addi v1114 c0_i32_795
  let v1214 : Index := Scalar.indexCast v1151
  let c0_867 : Index := 0#32
  ![v1214.toNat, 0]
def k0_dev21 (d0 : Dev nD) : Nat :=
  let c0_i32_932 : BitVec 32 := 0#32
  let c4_i32_53 : BitVec 32 := 4#32
  let c2_i32_52 : BitVec 32 := 2#32
  let c1_i32_50 : BitVec 32 := 1#32
  let v4 : BitVec 32 := Dev.word d0
  let c1_i32_1 : BitVec 32 := 1#32
  let v5 : BitVec 32 := Scalar.divsi v4 c1_i32_1
  let c16_i32_0 : BitVec 32 := 16#32
  let v6 : BitVec 32 := Scalar.remsi v5 c16_i32_0
  let c0_i32 : BitVec 32 := 0#32
  let v8 : BitVec 1 := Scalar.cmpi .sgt v6 c0_i32
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c4_i32 : BitVec 32 := 4#32
  let c0_i32_3 : BitVec 32 := 0#32
  let v13 : BitVec 1 := Scalar.cmpi .sgt c4_i32 c0_i32_3
  let v14 : BitVec 32 := Scalar.extui v13
  let c0_i32_4 : BitVec 32 := 0#32
  let v15 : BitVec 1 := Scalar.cmpi .slt c4_i32 c0_i32_4
  let v16 : BitVec 32 := Scalar.extui v15
  let v17 : BitVec 32 := Scalar.subi v14 v16
  let v18 : BitVec 1 := Scalar.cmpi .ne v12 v17
  let v19 : BitVec 32 := Scalar.remsi v6 c4_i32
  let c0_i32_5 : BitVec 32 := 0#32
  let v20 : BitVec 1 := Scalar.cmpi .ne v19 c0_i32_5
  let v21 : BitVec 1 := Scalar.andi v18 v20
  let v7 : BitVec 32 := Scalar.divsi v6 c4_i32
  let c1_i32_6 : BitVec 32 := 1#32
  let v22 : BitVec 32 := Scalar.subi v7 c1_i32_6
  let v23 : BitVec 32 := Scalar.select v21 v22 v7
  let c0_i32_32 : BitVec 32 := 0#32
  let v73 : BitVec 1 := Scalar.cmpi .sgt v23 c0_i32_32
  let v74 : BitVec 32 := Scalar.extui v73
  let c0_i32_33 : BitVec 32 := 0#32
  let v75 : BitVec 1 := Scalar.cmpi .slt v23 c0_i32_33
  let v76 : BitVec 32 := Scalar.extui v75
  let v77 : BitVec 32 := Scalar.subi v74 v76
  let c2_i32_31 : BitVec 32 := 2#32
  let c0_i32_34 : BitVec 32 := 0#32
  let v78 : BitVec 1 := Scalar.cmpi .sgt c2_i32_31 c0_i32_34
  let v79 : BitVec 32 := Scalar.extui v78
  let c0_i32_35 : BitVec 32 := 0#32
  let v80 : BitVec 1 := Scalar.cmpi .slt c2_i32_31 c0_i32_35
  let v81 : BitVec 32 := Scalar.extui v80
  let v82 : BitVec 32 := Scalar.subi v79 v81
  let v83 : BitVec 1 := Scalar.cmpi .ne v77 v82
  let v84 : BitVec 32 := Scalar.remsi v23 c2_i32_31
  let c0_i32_36 : BitVec 32 := 0#32
  let v85 : BitVec 1 := Scalar.cmpi .ne v84 c0_i32_36
  let v86 : BitVec 1 := Scalar.andi v83 v85
  let v72 : BitVec 32 := Scalar.divsi v23 c2_i32_31
  let c1_i32_37 : BitVec 32 := 1#32
  let v87 : BitVec 32 := Scalar.subi v72 c1_i32_37
  let v88 : BitVec 32 := Scalar.select v86 v87 v72
  let v113 : BitVec 32 := Scalar.subi c1_i32_50 v88
  let v117 : BitVec 32 := Scalar.muli c2_i32_52 v113
  let c2_i32_25 : BitVec 32 := 2#32
  let c0_i32_26 : BitVec 32 := 0#32
  let v62 : BitVec 1 := Scalar.cmpi .eq c2_i32_25 c0_i32_26
  let c1_i32_27 : BitVec 32 := 1#32
  let v63 : BitVec 32 := Scalar.select v62 c1_i32_27 c2_i32_25
  let v64 : BitVec 32 := Scalar.remsi v23 v63
  let c0_i32_29 : BitVec 32 := 0#32
  let v66 : BitVec 1 := Scalar.cmpi .slt v64 c0_i32_29
  let c0_i32_30 : BitVec 32 := 0#32
  let v67 : BitVec 1 := Scalar.cmpi .slt v63 c0_i32_30
  let v68 : BitVec 1 := Scalar.xori v66 v67
  let c0_i32_28 : BitVec 32 := 0#32
  let v65 : BitVec 1 := Scalar.cmpi .ne v64 c0_i32_28
  let v69 : BitVec 1 := Scalar.andi v68 v65
  let v70 : BitVec 32 := Scalar.addi v64 v63
  let v71 : BitVec 32 := Scalar.select v69 v70 v64
  let v118 : BitVec 32 := Scalar.addi v117 v71
  let v119 : BitVec 32 := Scalar.muli c4_i32_53 v118
  let c4_i32_7 : BitVec 32 := 4#32
  let c0_i32_8 : BitVec 32 := 0#32
  let v24 : BitVec 1 := Scalar.cmpi .eq c4_i32_7 c0_i32_8
  let c1_i32_9 : BitVec 32 := 1#32
  let v25 : BitVec 32 := Scalar.select v24 c1_i32_9 c4_i32_7
  let v26 : BitVec 32 := Scalar.remsi v6 v25
  let c0_i32_11 : BitVec 32 := 0#32
  let v28 : BitVec 1 := Scalar.cmpi .slt v26 c0_i32_11
  let c0_i32_12 : BitVec 32 := 0#32
  let v29 : BitVec 1 := Scalar.cmpi .slt v25 c0_i32_12
  let v30 : BitVec 1 := Scalar.xori v28 v29
  let c0_i32_10 : BitVec 32 := 0#32
  let v27 : BitVec 1 := Scalar.cmpi .ne v26 c0_i32_10
  let v31 : BitVec 1 := Scalar.andi v30 v27
  let v32 : BitVec 32 := Scalar.addi v26 v25
  let v33 : BitVec 32 := Scalar.select v31 v32 v26
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v33 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_13 : BitVec 32 := 0#32
  let v35 : BitVec 1 := Scalar.cmpi .sgt v33 c0_i32_13
  let v36 : BitVec 32 := Scalar.extui v35
  let c0_i32_14 : BitVec 32 := 0#32
  let v37 : BitVec 1 := Scalar.cmpi .slt v33 c0_i32_14
  let v38 : BitVec 32 := Scalar.extui v37
  let v39 : BitVec 32 := Scalar.subi v36 v38
  let c2_i32 : BitVec 32 := 2#32
  let c0_i32_15 : BitVec 32 := 0#32
  let v40 : BitVec 1 := Scalar.cmpi .sgt c2_i32 c0_i32_15
  let v41 : BitVec 32 := Scalar.extui v40
  let c0_i32_16 : BitVec 32 := 0#32
  let v42 : BitVec 1 := Scalar.cmpi .slt c2_i32 c0_i32_16
  let v43 : BitVec 32 := Scalar.extui v42
  let v44 : BitVec 32 := Scalar.subi v41 v43
  let v45 : BitVec 1 := Scalar.cmpi .ne v39 v44
  let v46 : BitVec 32 := Scalar.remsi v33 c2_i32
  let c0_i32_17 : BitVec 32 := 0#32
  let v47 : BitVec 1 := Scalar.cmpi .ne v46 c0_i32_17
  let v48 : BitVec 1 := Scalar.andi v45 v47
  let v34 : BitVec 32 := Scalar.divsi v33 c2_i32
  let c1_i32_18 : BitVec 32 := 1#32
  let v49 : BitVec 32 := Scalar.subi v34 c1_i32_18
  let v50 : BitVec 32 := Scalar.select v48 v49 v34
  let v61 : BitVec 32 := Scalar.xori v60 v50
  let v114 : BitVec 32 := Scalar.xori v61 v50
  let c2_i32_51 : BitVec 32 := 2#32
  let v115 : BitVec 32 := Scalar.muli c2_i32_51 v50
  let v116 : BitVec 32 := Scalar.addi v114 v115
  let v120 : BitVec 32 := Scalar.addi v119 v116
  let c1_i32_931 : BitVec 32 := 1#32
  let v1276 : BitVec 32 := Scalar.muli v120 c1_i32_931
  let v1277 : BitVec 32 := Scalar.addi c0_i32_932 v1276
  v1277.toNat
def k0_dev22 (d0 : Dev nD) : Nat :=
  let c0_i32_947 : BitVec 32 := 0#32
  let c4_i32_53 : BitVec 32 := 4#32
  let c2_i32_52 : BitVec 32 := 2#32
  let c1_i32_50 : BitVec 32 := 1#32
  let v4 : BitVec 32 := Dev.word d0
  let c1_i32_1 : BitVec 32 := 1#32
  let v5 : BitVec 32 := Scalar.divsi v4 c1_i32_1
  let c16_i32_0 : BitVec 32 := 16#32
  let v6 : BitVec 32 := Scalar.remsi v5 c16_i32_0
  let c0_i32 : BitVec 32 := 0#32
  let v8 : BitVec 1 := Scalar.cmpi .sgt v6 c0_i32
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c4_i32 : BitVec 32 := 4#32
  let c0_i32_3 : BitVec 32 := 0#32
  let v13 : BitVec 1 := Scalar.cmpi .sgt c4_i32 c0_i32_3
  let v14 : BitVec 32 := Scalar.extui v13
  let c0_i32_4 : BitVec 32 := 0#32
  let v15 : BitVec 1 := Scalar.cmpi .slt c4_i32 c0_i32_4
  let v16 : BitVec 32 := Scalar.extui v15
  let v17 : BitVec 32 := Scalar.subi v14 v16
  let v18 : BitVec 1 := Scalar.cmpi .ne v12 v17
  let v19 : BitVec 32 := Scalar.remsi v6 c4_i32
  let c0_i32_5 : BitVec 32 := 0#32
  let v20 : BitVec 1 := Scalar.cmpi .ne v19 c0_i32_5
  let v21 : BitVec 1 := Scalar.andi v18 v20
  let v7 : BitVec 32 := Scalar.divsi v6 c4_i32
  let c1_i32_6 : BitVec 32 := 1#32
  let v22 : BitVec 32 := Scalar.subi v7 c1_i32_6
  let v23 : BitVec 32 := Scalar.select v21 v22 v7
  let c0_i32_32 : BitVec 32 := 0#32
  let v73 : BitVec 1 := Scalar.cmpi .sgt v23 c0_i32_32
  let v74 : BitVec 32 := Scalar.extui v73
  let c0_i32_33 : BitVec 32 := 0#32
  let v75 : BitVec 1 := Scalar.cmpi .slt v23 c0_i32_33
  let v76 : BitVec 32 := Scalar.extui v75
  let v77 : BitVec 32 := Scalar.subi v74 v76
  let c2_i32_31 : BitVec 32 := 2#32
  let c0_i32_34 : BitVec 32 := 0#32
  let v78 : BitVec 1 := Scalar.cmpi .sgt c2_i32_31 c0_i32_34
  let v79 : BitVec 32 := Scalar.extui v78
  let c0_i32_35 : BitVec 32 := 0#32
  let v80 : BitVec 1 := Scalar.cmpi .slt c2_i32_31 c0_i32_35
  let v81 : BitVec 32 := Scalar.extui v80
  let v82 : BitVec 32 := Scalar.subi v79 v81
  let v83 : BitVec 1 := Scalar.cmpi .ne v77 v82
  let v84 : BitVec 32 := Scalar.remsi v23 c2_i32_31
  let c0_i32_36 : BitVec 32 := 0#32
  let v85 : BitVec 1 := Scalar.cmpi .ne v84 c0_i32_36
  let v86 : BitVec 1 := Scalar.andi v83 v85
  let v72 : BitVec 32 := Scalar.divsi v23 c2_i32_31
  let c1_i32_37 : BitVec 32 := 1#32
  let v87 : BitVec 32 := Scalar.subi v72 c1_i32_37
  let v88 : BitVec 32 := Scalar.select v86 v87 v72
  let v113 : BitVec 32 := Scalar.subi c1_i32_50 v88
  let v117 : BitVec 32 := Scalar.muli c2_i32_52 v113
  let c2_i32_25 : BitVec 32 := 2#32
  let c0_i32_26 : BitVec 32 := 0#32
  let v62 : BitVec 1 := Scalar.cmpi .eq c2_i32_25 c0_i32_26
  let c1_i32_27 : BitVec 32 := 1#32
  let v63 : BitVec 32 := Scalar.select v62 c1_i32_27 c2_i32_25
  let v64 : BitVec 32 := Scalar.remsi v23 v63
  let c0_i32_29 : BitVec 32 := 0#32
  let v66 : BitVec 1 := Scalar.cmpi .slt v64 c0_i32_29
  let c0_i32_30 : BitVec 32 := 0#32
  let v67 : BitVec 1 := Scalar.cmpi .slt v63 c0_i32_30
  let v68 : BitVec 1 := Scalar.xori v66 v67
  let c0_i32_28 : BitVec 32 := 0#32
  let v65 : BitVec 1 := Scalar.cmpi .ne v64 c0_i32_28
  let v69 : BitVec 1 := Scalar.andi v68 v65
  let v70 : BitVec 32 := Scalar.addi v64 v63
  let v71 : BitVec 32 := Scalar.select v69 v70 v64
  let v118 : BitVec 32 := Scalar.addi v117 v71
  let v119 : BitVec 32 := Scalar.muli c4_i32_53 v118
  let c4_i32_7 : BitVec 32 := 4#32
  let c0_i32_8 : BitVec 32 := 0#32
  let v24 : BitVec 1 := Scalar.cmpi .eq c4_i32_7 c0_i32_8
  let c1_i32_9 : BitVec 32 := 1#32
  let v25 : BitVec 32 := Scalar.select v24 c1_i32_9 c4_i32_7
  let v26 : BitVec 32 := Scalar.remsi v6 v25
  let c0_i32_11 : BitVec 32 := 0#32
  let v28 : BitVec 1 := Scalar.cmpi .slt v26 c0_i32_11
  let c0_i32_12 : BitVec 32 := 0#32
  let v29 : BitVec 1 := Scalar.cmpi .slt v25 c0_i32_12
  let v30 : BitVec 1 := Scalar.xori v28 v29
  let c0_i32_10 : BitVec 32 := 0#32
  let v27 : BitVec 1 := Scalar.cmpi .ne v26 c0_i32_10
  let v31 : BitVec 1 := Scalar.andi v30 v27
  let v32 : BitVec 32 := Scalar.addi v26 v25
  let v33 : BitVec 32 := Scalar.select v31 v32 v26
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v33 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_13 : BitVec 32 := 0#32
  let v35 : BitVec 1 := Scalar.cmpi .sgt v33 c0_i32_13
  let v36 : BitVec 32 := Scalar.extui v35
  let c0_i32_14 : BitVec 32 := 0#32
  let v37 : BitVec 1 := Scalar.cmpi .slt v33 c0_i32_14
  let v38 : BitVec 32 := Scalar.extui v37
  let v39 : BitVec 32 := Scalar.subi v36 v38
  let c2_i32 : BitVec 32 := 2#32
  let c0_i32_15 : BitVec 32 := 0#32
  let v40 : BitVec 1 := Scalar.cmpi .sgt c2_i32 c0_i32_15
  let v41 : BitVec 32 := Scalar.extui v40
  let c0_i32_16 : BitVec 32 := 0#32
  let v42 : BitVec 1 := Scalar.cmpi .slt c2_i32 c0_i32_16
  let v43 : BitVec 32 := Scalar.extui v42
  let v44 : BitVec 32 := Scalar.subi v41 v43
  let v45 : BitVec 1 := Scalar.cmpi .ne v39 v44
  let v46 : BitVec 32 := Scalar.remsi v33 c2_i32
  let c0_i32_17 : BitVec 32 := 0#32
  let v47 : BitVec 1 := Scalar.cmpi .ne v46 c0_i32_17
  let v48 : BitVec 1 := Scalar.andi v45 v47
  let v34 : BitVec 32 := Scalar.divsi v33 c2_i32
  let c1_i32_18 : BitVec 32 := 1#32
  let v49 : BitVec 32 := Scalar.subi v34 c1_i32_18
  let v50 : BitVec 32 := Scalar.select v48 v49 v34
  let v61 : BitVec 32 := Scalar.xori v60 v50
  let v114 : BitVec 32 := Scalar.xori v61 v50
  let c2_i32_51 : BitVec 32 := 2#32
  let v115 : BitVec 32 := Scalar.muli c2_i32_51 v50
  let v116 : BitVec 32 := Scalar.addi v114 v115
  let v120 : BitVec 32 := Scalar.addi v119 v116
  let c1_i32_946 : BitVec 32 := 1#32
  let v1293 : BitVec 32 := Scalar.muli v120 c1_i32_946
  let v1294 : BitVec 32 := Scalar.addi c0_i32_947 v1293
  v1294.toNat
def k0_dev23 (d0 : Dev nD) : Nat :=
  let c0_i32_962 : BitVec 32 := 0#32
  let c4_i32_53 : BitVec 32 := 4#32
  let c2_i32_52 : BitVec 32 := 2#32
  let c1_i32_50 : BitVec 32 := 1#32
  let v4 : BitVec 32 := Dev.word d0
  let c1_i32_1 : BitVec 32 := 1#32
  let v5 : BitVec 32 := Scalar.divsi v4 c1_i32_1
  let c16_i32_0 : BitVec 32 := 16#32
  let v6 : BitVec 32 := Scalar.remsi v5 c16_i32_0
  let c0_i32 : BitVec 32 := 0#32
  let v8 : BitVec 1 := Scalar.cmpi .sgt v6 c0_i32
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c4_i32 : BitVec 32 := 4#32
  let c0_i32_3 : BitVec 32 := 0#32
  let v13 : BitVec 1 := Scalar.cmpi .sgt c4_i32 c0_i32_3
  let v14 : BitVec 32 := Scalar.extui v13
  let c0_i32_4 : BitVec 32 := 0#32
  let v15 : BitVec 1 := Scalar.cmpi .slt c4_i32 c0_i32_4
  let v16 : BitVec 32 := Scalar.extui v15
  let v17 : BitVec 32 := Scalar.subi v14 v16
  let v18 : BitVec 1 := Scalar.cmpi .ne v12 v17
  let v19 : BitVec 32 := Scalar.remsi v6 c4_i32
  let c0_i32_5 : BitVec 32 := 0#32
  let v20 : BitVec 1 := Scalar.cmpi .ne v19 c0_i32_5
  let v21 : BitVec 1 := Scalar.andi v18 v20
  let v7 : BitVec 32 := Scalar.divsi v6 c4_i32
  let c1_i32_6 : BitVec 32 := 1#32
  let v22 : BitVec 32 := Scalar.subi v7 c1_i32_6
  let v23 : BitVec 32 := Scalar.select v21 v22 v7
  let c0_i32_32 : BitVec 32 := 0#32
  let v73 : BitVec 1 := Scalar.cmpi .sgt v23 c0_i32_32
  let v74 : BitVec 32 := Scalar.extui v73
  let c0_i32_33 : BitVec 32 := 0#32
  let v75 : BitVec 1 := Scalar.cmpi .slt v23 c0_i32_33
  let v76 : BitVec 32 := Scalar.extui v75
  let v77 : BitVec 32 := Scalar.subi v74 v76
  let c2_i32_31 : BitVec 32 := 2#32
  let c0_i32_34 : BitVec 32 := 0#32
  let v78 : BitVec 1 := Scalar.cmpi .sgt c2_i32_31 c0_i32_34
  let v79 : BitVec 32 := Scalar.extui v78
  let c0_i32_35 : BitVec 32 := 0#32
  let v80 : BitVec 1 := Scalar.cmpi .slt c2_i32_31 c0_i32_35
  let v81 : BitVec 32 := Scalar.extui v80
  let v82 : BitVec 32 := Scalar.subi v79 v81
  let v83 : BitVec 1 := Scalar.cmpi .ne v77 v82
  let v84 : BitVec 32 := Scalar.remsi v23 c2_i32_31
  let c0_i32_36 : BitVec 32 := 0#32
  let v85 : BitVec 1 := Scalar.cmpi .ne v84 c0_i32_36
  let v86 : BitVec 1 := Scalar.andi v83 v85
  let v72 : BitVec 32 := Scalar.divsi v23 c2_i32_31
  let c1_i32_37 : BitVec 32 := 1#32
  let v87 : BitVec 32 := Scalar.subi v72 c1_i32_37
  let v88 : BitVec 32 := Scalar.select v86 v87 v72
  let v113 : BitVec 32 := Scalar.subi c1_i32_50 v88
  let v117 : BitVec 32 := Scalar.muli c2_i32_52 v113
  let c2_i32_25 : BitVec 32 := 2#32
  let c0_i32_26 : BitVec 32 := 0#32
  let v62 : BitVec 1 := Scalar.cmpi .eq c2_i32_25 c0_i32_26
  let c1_i32_27 : BitVec 32 := 1#32
  let v63 : BitVec 32 := Scalar.select v62 c1_i32_27 c2_i32_25
  let v64 : BitVec 32 := Scalar.remsi v23 v63
  let c0_i32_29 : BitVec 32 := 0#32
  let v66 : BitVec 1 := Scalar.cmpi .slt v64 c0_i32_29
  let c0_i32_30 : BitVec 32 := 0#32
  let v67 : BitVec 1 := Scalar.cmpi .slt v63 c0_i32_30
  let v68 : BitVec 1 := Scalar.xori v66 v67
  let c0_i32_28 : BitVec 32 := 0#32
  let v65 : BitVec 1 := Scalar.cmpi .ne v64 c0_i32_28
  let v69 : BitVec 1 := Scalar.andi v68 v65
  let v70 : BitVec 32 := Scalar.addi v64 v63
  let v71 : BitVec 32 := Scalar.select v69 v70 v64
  let v118 : BitVec 32 := Scalar.addi v117 v71
  let v119 : BitVec 32 := Scalar.muli c4_i32_53 v118
  let c4_i32_7 : BitVec 32 := 4#32
  let c0_i32_8 : BitVec 32 := 0#32
  let v24 : BitVec 1 := Scalar.cmpi .eq c4_i32_7 c0_i32_8
  let c1_i32_9 : BitVec 32 := 1#32
  let v25 : BitVec 32 := Scalar.select v24 c1_i32_9 c4_i32_7
  let v26 : BitVec 32 := Scalar.remsi v6 v25
  let c0_i32_11 : BitVec 32 := 0#32
  let v28 : BitVec 1 := Scalar.cmpi .slt v26 c0_i32_11
  let c0_i32_12 : BitVec 32 := 0#32
  let v29 : BitVec 1 := Scalar.cmpi .slt v25 c0_i32_12
  let v30 : BitVec 1 := Scalar.xori v28 v29
  let c0_i32_10 : BitVec 32 := 0#32
  let v27 : BitVec 1 := Scalar.cmpi .ne v26 c0_i32_10
  let v31 : BitVec 1 := Scalar.andi v30 v27
  let v32 : BitVec 32 := Scalar.addi v26 v25
  let v33 : BitVec 32 := Scalar.select v31 v32 v26
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v33 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_13 : BitVec 32 := 0#32
  let v35 : BitVec 1 := Scalar.cmpi .sgt v33 c0_i32_13
  let v36 : BitVec 32 := Scalar.extui v35
  let c0_i32_14 : BitVec 32 := 0#32
  let v37 : BitVec 1 := Scalar.cmpi .slt v33 c0_i32_14
  let v38 : BitVec 32 := Scalar.extui v37
  let v39 : BitVec 32 := Scalar.subi v36 v38
  let c2_i32 : BitVec 32 := 2#32
  let c0_i32_15 : BitVec 32 := 0#32
  let v40 : BitVec 1 := Scalar.cmpi .sgt c2_i32 c0_i32_15
  let v41 : BitVec 32 := Scalar.extui v40
  let c0_i32_16 : BitVec 32 := 0#32
  let v42 : BitVec 1 := Scalar.cmpi .slt c2_i32 c0_i32_16
  let v43 : BitVec 32 := Scalar.extui v42
  let v44 : BitVec 32 := Scalar.subi v41 v43
  let v45 : BitVec 1 := Scalar.cmpi .ne v39 v44
  let v46 : BitVec 32 := Scalar.remsi v33 c2_i32
  let c0_i32_17 : BitVec 32 := 0#32
  let v47 : BitVec 1 := Scalar.cmpi .ne v46 c0_i32_17
  let v48 : BitVec 1 := Scalar.andi v45 v47
  let v34 : BitVec 32 := Scalar.divsi v33 c2_i32
  let c1_i32_18 : BitVec 32 := 1#32
  let v49 : BitVec 32 := Scalar.subi v34 c1_i32_18
  let v50 : BitVec 32 := Scalar.select v48 v49 v34
  let v61 : BitVec 32 := Scalar.xori v60 v50
  let v114 : BitVec 32 := Scalar.xori v61 v50
  let c2_i32_51 : BitVec 32 := 2#32
  let v115 : BitVec 32 := Scalar.muli c2_i32_51 v50
  let v116 : BitVec 32 := Scalar.addi v114 v115
  let v120 : BitVec 32 := Scalar.addi v119 v116
  let c1_i32_961 : BitVec 32 := 1#32
  let v1310 : BitVec 32 := Scalar.muli v120 c1_i32_961
  let v1311 : BitVec 32 := Scalar.addi c0_i32_962 v1310
  v1311.toNat
def k0_dev24 (d0 : Dev nD) : Nat :=
  let c0_i32_977 : BitVec 32 := 0#32
  let c4_i32_53 : BitVec 32 := 4#32
  let c2_i32_52 : BitVec 32 := 2#32
  let c1_i32_50 : BitVec 32 := 1#32
  let v4 : BitVec 32 := Dev.word d0
  let c1_i32_1 : BitVec 32 := 1#32
  let v5 : BitVec 32 := Scalar.divsi v4 c1_i32_1
  let c16_i32_0 : BitVec 32 := 16#32
  let v6 : BitVec 32 := Scalar.remsi v5 c16_i32_0
  let c0_i32 : BitVec 32 := 0#32
  let v8 : BitVec 1 := Scalar.cmpi .sgt v6 c0_i32
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c4_i32 : BitVec 32 := 4#32
  let c0_i32_3 : BitVec 32 := 0#32
  let v13 : BitVec 1 := Scalar.cmpi .sgt c4_i32 c0_i32_3
  let v14 : BitVec 32 := Scalar.extui v13
  let c0_i32_4 : BitVec 32 := 0#32
  let v15 : BitVec 1 := Scalar.cmpi .slt c4_i32 c0_i32_4
  let v16 : BitVec 32 := Scalar.extui v15
  let v17 : BitVec 32 := Scalar.subi v14 v16
  let v18 : BitVec 1 := Scalar.cmpi .ne v12 v17
  let v19 : BitVec 32 := Scalar.remsi v6 c4_i32
  let c0_i32_5 : BitVec 32 := 0#32
  let v20 : BitVec 1 := Scalar.cmpi .ne v19 c0_i32_5
  let v21 : BitVec 1 := Scalar.andi v18 v20
  let v7 : BitVec 32 := Scalar.divsi v6 c4_i32
  let c1_i32_6 : BitVec 32 := 1#32
  let v22 : BitVec 32 := Scalar.subi v7 c1_i32_6
  let v23 : BitVec 32 := Scalar.select v21 v22 v7
  let c0_i32_32 : BitVec 32 := 0#32
  let v73 : BitVec 1 := Scalar.cmpi .sgt v23 c0_i32_32
  let v74 : BitVec 32 := Scalar.extui v73
  let c0_i32_33 : BitVec 32 := 0#32
  let v75 : BitVec 1 := Scalar.cmpi .slt v23 c0_i32_33
  let v76 : BitVec 32 := Scalar.extui v75
  let v77 : BitVec 32 := Scalar.subi v74 v76
  let c2_i32_31 : BitVec 32 := 2#32
  let c0_i32_34 : BitVec 32 := 0#32
  let v78 : BitVec 1 := Scalar.cmpi .sgt c2_i32_31 c0_i32_34
  let v79 : BitVec 32 := Scalar.extui v78
  let c0_i32_35 : BitVec 32 := 0#32
  let v80 : BitVec 1 := Scalar.cmpi .slt c2_i32_31 c0_i32_35
  let v81 : BitVec 32 := Scalar.extui v80
  let v82 : BitVec 32 := Scalar.subi v79 v81
  let v83 : BitVec 1 := Scalar.cmpi .ne v77 v82
  let v84 : BitVec 32 := Scalar.remsi v23 c2_i32_31
  let c0_i32_36 : BitVec 32 := 0#32
  let v85 : BitVec 1 := Scalar.cmpi .ne v84 c0_i32_36
  let v86 : BitVec 1 := Scalar.andi v83 v85
  let v72 : BitVec 32 := Scalar.divsi v23 c2_i32_31
  let c1_i32_37 : BitVec 32 := 1#32
  let v87 : BitVec 32 := Scalar.subi v72 c1_i32_37
  let v88 : BitVec 32 := Scalar.select v86 v87 v72
  let v113 : BitVec 32 := Scalar.subi c1_i32_50 v88
  let v117 : BitVec 32 := Scalar.muli c2_i32_52 v113
  let c2_i32_25 : BitVec 32 := 2#32
  let c0_i32_26 : BitVec 32 := 0#32
  let v62 : BitVec 1 := Scalar.cmpi .eq c2_i32_25 c0_i32_26
  let c1_i32_27 : BitVec 32 := 1#32
  let v63 : BitVec 32 := Scalar.select v62 c1_i32_27 c2_i32_25
  let v64 : BitVec 32 := Scalar.remsi v23 v63
  let c0_i32_29 : BitVec 32 := 0#32
  let v66 : BitVec 1 := Scalar.cmpi .slt v64 c0_i32_29
  let c0_i32_30 : BitVec 32 := 0#32
  let v67 : BitVec 1 := Scalar.cmpi .slt v63 c0_i32_30
  let v68 : BitVec 1 := Scalar.xori v66 v67
  let c0_i32_28 : BitVec 32 := 0#32
  let v65 : BitVec 1 := Scalar.cmpi .ne v64 c0_i32_28
  let v69 : BitVec 1 := Scalar.andi v68 v65
  let v70 : BitVec 32 := Scalar.addi v64 v63
  let v71 : BitVec 32 := Scalar.select v69 v70 v64
  let v118 : BitVec 32 := Scalar.addi v117 v71
  let v119 : BitVec 32 := Scalar.muli c4_i32_53 v118
  let c4_i32_7 : BitVec 32 := 4#32
  let c0_i32_8 : BitVec 32 := 0#32
  let v24 : BitVec 1 := Scalar.cmpi .eq c4_i32_7 c0_i32_8
  let c1_i32_9 : BitVec 32 := 1#32
  let v25 : BitVec 32 := Scalar.select v24 c1_i32_9 c4_i32_7
  let v26 : BitVec 32 := Scalar.remsi v6 v25
  let c0_i32_11 : BitVec 32 := 0#32
  let v28 : BitVec 1 := Scalar.cmpi .slt v26 c0_i32_11
  let c0_i32_12 : BitVec 32 := 0#32
  let v29 : BitVec 1 := Scalar.cmpi .slt v25 c0_i32_12
  let v30 : BitVec 1 := Scalar.xori v28 v29
  let c0_i32_10 : BitVec 32 := 0#32
  let v27 : BitVec 1 := Scalar.cmpi .ne v26 c0_i32_10
  let v31 : BitVec 1 := Scalar.andi v30 v27
  let v32 : BitVec 32 := Scalar.addi v26 v25
  let v33 : BitVec 32 := Scalar.select v31 v32 v26
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v33 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_13 : BitVec 32 := 0#32
  let v35 : BitVec 1 := Scalar.cmpi .sgt v33 c0_i32_13
  let v36 : BitVec 32 := Scalar.extui v35
  let c0_i32_14 : BitVec 32 := 0#32
  let v37 : BitVec 1 := Scalar.cmpi .slt v33 c0_i32_14
  let v38 : BitVec 32 := Scalar.extui v37
  let v39 : BitVec 32 := Scalar.subi v36 v38
  let c2_i32 : BitVec 32 := 2#32
  let c0_i32_15 : BitVec 32 := 0#32
  let v40 : BitVec 1 := Scalar.cmpi .sgt c2_i32 c0_i32_15
  let v41 : BitVec 32 := Scalar.extui v40
  let c0_i32_16 : BitVec 32 := 0#32
  let v42 : BitVec 1 := Scalar.cmpi .slt c2_i32 c0_i32_16
  let v43 : BitVec 32 := Scalar.extui v42
  let v44 : BitVec 32 := Scalar.subi v41 v43
  let v45 : BitVec 1 := Scalar.cmpi .ne v39 v44
  let v46 : BitVec 32 := Scalar.remsi v33 c2_i32
  let c0_i32_17 : BitVec 32 := 0#32
  let v47 : BitVec 1 := Scalar.cmpi .ne v46 c0_i32_17
  let v48 : BitVec 1 := Scalar.andi v45 v47
  let v34 : BitVec 32 := Scalar.divsi v33 c2_i32
  let c1_i32_18 : BitVec 32 := 1#32
  let v49 : BitVec 32 := Scalar.subi v34 c1_i32_18
  let v50 : BitVec 32 := Scalar.select v48 v49 v34
  let v61 : BitVec 32 := Scalar.xori v60 v50
  let v114 : BitVec 32 := Scalar.xori v61 v50
  let c2_i32_51 : BitVec 32 := 2#32
  let v115 : BitVec 32 := Scalar.muli c2_i32_51 v50
  let v116 : BitVec 32 := Scalar.addi v114 v115
  let v120 : BitVec 32 := Scalar.addi v119 v116
  let c1_i32_976 : BitVec 32 := 1#32
  let v1327 : BitVec 32 := Scalar.muli v120 c1_i32_976
  let v1328 : BitVec 32 := Scalar.addi c0_i32_977 v1327
  v1328.toNat
def k0_off54 (d0 : Dev nD) (c0_i32_937 : BitVec 32) : Fin 2 → Nat :=
  let c0_i32_209 : BitVec 32 := 0#32
  let v4 : BitVec 32 := Dev.word d0
  let c1_i32_1 : BitVec 32 := 1#32
  let v5 : BitVec 32 := Scalar.divsi v4 c1_i32_1
  let c16_i32_0 : BitVec 32 := 16#32
  let v6 : BitVec 32 := Scalar.remsi v5 c16_i32_0
  let c4_i32_7 : BitVec 32 := 4#32
  let c0_i32_8 : BitVec 32 := 0#32
  let v24 : BitVec 1 := Scalar.cmpi .eq c4_i32_7 c0_i32_8
  let c1_i32_9 : BitVec 32 := 1#32
  let v25 : BitVec 32 := Scalar.select v24 c1_i32_9 c4_i32_7
  let v26 : BitVec 32 := Scalar.remsi v6 v25
  let c0_i32_11 : BitVec 32 := 0#32
  let v28 : BitVec 1 := Scalar.cmpi .slt v26 c0_i32_11
  let c0_i32_12 : BitVec 32 := 0#32
  let v29 : BitVec 1 := Scalar.cmpi .slt v25 c0_i32_12
  let v30 : BitVec 1 := Scalar.xori v28 v29
  let c0_i32_10 : BitVec 32 := 0#32
  let v27 : BitVec 1 := Scalar.cmpi .ne v26 c0_i32_10
  let v31 : BitVec 1 := Scalar.andi v30 v27
  let v32 : BitVec 32 := Scalar.addi v26 v25
  let v33 : BitVec 32 := Scalar.select v31 v32 v26
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v33 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_13 : BitVec 32 := 0#32
  let v35 : BitVec 1 := Scalar.cmpi .sgt v33 c0_i32_13
  let v36 : BitVec 32 := Scalar.extui v35
  let c0_i32_14 : BitVec 32 := 0#32
  let v37 : BitVec 1 := Scalar.cmpi .slt v33 c0_i32_14
  let v38 : BitVec 32 := Scalar.extui v37
  let v39 : BitVec 32 := Scalar.subi v36 v38
  let c2_i32 : BitVec 32 := 2#32
  let c0_i32_15 : BitVec 32 := 0#32
  let v40 : BitVec 1 := Scalar.cmpi .sgt c2_i32 c0_i32_15
  let v41 : BitVec 32 := Scalar.extui v40
  let c0_i32_16 : BitVec 32 := 0#32
  let v42 : BitVec 1 := Scalar.cmpi .slt c2_i32 c0_i32_16
  let v43 : BitVec 32 := Scalar.extui v42
  let v44 : BitVec 32 := Scalar.subi v41 v43
  let v45 : BitVec 1 := Scalar.cmpi .ne v39 v44
  let v46 : BitVec 32 := Scalar.remsi v33 c2_i32
  let c0_i32_17 : BitVec 32 := 0#32
  let v47 : BitVec 1 := Scalar.cmpi .ne v46 c0_i32_17
  let v48 : BitVec 1 := Scalar.andi v45 v47
  let v34 : BitVec 32 := Scalar.divsi v33 c2_i32
  let c1_i32_18 : BitVec 32 := 1#32
  let v49 : BitVec 32 := Scalar.subi v34 c1_i32_18
  let v50 : BitVec 32 := Scalar.select v48 v49 v34
  let v61 : BitVec 32 := Scalar.xori v60 v50
  let c256_i32_208 : BitVec 32 := 256#32
  let v438 : BitVec 32 := Scalar.muli v61 c256_i32_208
  let v439 : BitVec 32 := Scalar.addi c0_i32_209 v438
  let c128_i32_448 : BitVec 32 := 128#32
  let v808 : BitVec 32 := Scalar.muli v50 c128_i32_448
  let v809 : BitVec 32 := Scalar.addi v439 v808
  let c0_i32 : BitVec 32 := 0#32
  let v8 : BitVec 1 := Scalar.cmpi .sgt v6 c0_i32
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c4_i32 : BitVec 32 := 4#32
  let c0_i32_3 : BitVec 32 := 0#32
  let v13 : BitVec 1 := Scalar.cmpi .sgt c4_i32 c0_i32_3
  let v14 : BitVec 32 := Scalar.extui v13
  let c0_i32_4 : BitVec 32 := 0#32
  let v15 : BitVec 1 := Scalar.cmpi .slt c4_i32 c0_i32_4
  let v16 : BitVec 32 := Scalar.extui v15
  let v17 : BitVec 32 := Scalar.subi v14 v16
  let v18 : BitVec 1 := Scalar.cmpi .ne v12 v17
  let v19 : BitVec 32 := Scalar.remsi v6 c4_i32
  let c0_i32_5 : BitVec 32 := 0#32
  let v20 : BitVec 1 := Scalar.cmpi .ne v19 c0_i32_5
  let v21 : BitVec 1 := Scalar.andi v18 v20
  let v7 : BitVec 32 := Scalar.divsi v6 c4_i32
  let c1_i32_6 : BitVec 32 := 1#32
  let v22 : BitVec 32 := Scalar.subi v7 c1_i32_6
  let v23 : BitVec 32 := Scalar.select v21 v22 v7
  let c2_i32_25 : BitVec 32 := 2#32
  let c0_i32_26 : BitVec 32 := 0#32
  let v62 : BitVec 1 := Scalar.cmpi .eq c2_i32_25 c0_i32_26
  let c1_i32_27 : BitVec 32 := 1#32
  let v63 : BitVec 32 := Scalar.select v62 c1_i32_27 c2_i32_25
  let v64 : BitVec 32 := Scalar.remsi v23 v63
  let c0_i32_29 : BitVec 32 := 0#32
  let v66 : BitVec 1 := Scalar.cmpi .slt v64 c0_i32_29
  let c0_i32_30 : BitVec 32 := 0#32
  let v67 : BitVec 1 := Scalar.cmpi .slt v63 c0_i32_30
  let v68 : BitVec 1 := Scalar.xori v66 v67
  let c0_i32_28 : BitVec 32 := 0#32
  let v65 : BitVec 1 := Scalar.cmpi .ne v64 c0_i32_28
  let v69 : BitVec 1 := Scalar.andi v68 v65
  let v70 : BitVec 32 := Scalar.addi v64 v63
  let v71 : BitVec 32 := Scalar.select v69 v70 v64
  let c64_i32_604 : BitVec 32 := 64#32
  let v958 : BitVec 32 := Scalar.muli v71 c64_i32_604
  let v959 : BitVec 32 := Scalar.addi v809 v958
  let c0_i32_32 : BitVec 32 := 0#32
  let v73 : BitVec 1 := Scalar.cmpi .sgt v23 c0_i32_32
  let v74 : BitVec 32 := Scalar.extui v73
  let c0_i32_33 : BitVec 32 := 0#32
  let v75 : BitVec 1 := Scalar.cmpi .slt v23 c0_i32_33
  let v76 : BitVec 32 := Scalar.extui v75
  let v77 : BitVec 32 := Scalar.subi v74 v76
  let c2_i32_31 : BitVec 32 := 2#32
  let c0_i32_34 : BitVec 32 := 0#32
  let v78 : BitVec 1 := Scalar.cmpi .sgt c2_i32_31 c0_i32_34
  let v79 : BitVec 32 := Scalar.extui v78
  let c0_i32_35 : BitVec 32 := 0#32
  let v80 : BitVec 1 := Scalar.cmpi .slt c2_i32_31 c0_i32_35
  let v81 : BitVec 32 := Scalar.extui v80
  let v82 : BitVec 32 := Scalar.subi v79 v81
  let v83 : BitVec 1 := Scalar.cmpi .ne v77 v82
  let v84 : BitVec 32 := Scalar.remsi v23 c2_i32_31
  let c0_i32_36 : BitVec 32 := 0#32
  let v85 : BitVec 1 := Scalar.cmpi .ne v84 c0_i32_36
  let v86 : BitVec 1 := Scalar.andi v83 v85
  let v72 : BitVec 32 := Scalar.divsi v23 c2_i32_31
  let c1_i32_37 : BitVec 32 := 1#32
  let v87 : BitVec 32 := Scalar.subi v72 c1_i32_37
  let v88 : BitVec 32 := Scalar.select v86 v87 v72
  let c32_i32_761 : BitVec 32 := 32#32
  let v1108 : BitVec 32 := Scalar.muli v88 c32_i32_761
  let v1109 : BitVec 32 := Scalar.addi v959 v1108
  let c32_i32_917 : BitVec 32 := 32#32
  let v1258 : BitVec 32 := Scalar.muli v88 c32_i32_917
  let v1259 : BitVec 32 := Scalar.subi v1109 v1258
  let c1_i32_918 : BitVec 32 := 1#32
  let v1260 : BitVec 32 := Scalar.subi c1_i32_918 v88
  let c32_i32_919 : BitVec 32 := 32#32
  let v1261 : BitVec 32 := Scalar.muli v1260 c32_i32_919
  let v1262 : BitVec 32 := Scalar.addi v1259 v1261
  let v1284 : BitVec 32 := Scalar.addi v1262 c0_i32_937
  let v1348 : Index := Scalar.indexCast v1284
  let c0_1004 : Index := 0#32
  ![v1348.toNat, 0]
def k0_off55 (d0 : Dev nD) (c0_i32_952 : BitVec 32) : Fin 2 → Nat :=
  let c512_i32_214 : BitVec 32 := 512#32
  let v4 : BitVec 32 := Dev.word d0
  let c1_i32_1 : BitVec 32 := 1#32
  let v5 : BitVec 32 := Scalar.divsi v4 c1_i32_1
  let c16_i32_0 : BitVec 32 := 16#32
  let v6 : BitVec 32 := Scalar.remsi v5 c16_i32_0
  let c4_i32_7 : BitVec 32 := 4#32
  let c0_i32_8 : BitVec 32 := 0#32
  let v24 : BitVec 1 := Scalar.cmpi .eq c4_i32_7 c0_i32_8
  let c1_i32_9 : BitVec 32 := 1#32
  let v25 : BitVec 32 := Scalar.select v24 c1_i32_9 c4_i32_7
  let v26 : BitVec 32 := Scalar.remsi v6 v25
  let c0_i32_11 : BitVec 32 := 0#32
  let v28 : BitVec 1 := Scalar.cmpi .slt v26 c0_i32_11
  let c0_i32_12 : BitVec 32 := 0#32
  let v29 : BitVec 1 := Scalar.cmpi .slt v25 c0_i32_12
  let v30 : BitVec 1 := Scalar.xori v28 v29
  let c0_i32_10 : BitVec 32 := 0#32
  let v27 : BitVec 1 := Scalar.cmpi .ne v26 c0_i32_10
  let v31 : BitVec 1 := Scalar.andi v30 v27
  let v32 : BitVec 32 := Scalar.addi v26 v25
  let v33 : BitVec 32 := Scalar.select v31 v32 v26
  let c0_i32_13 : BitVec 32 := 0#32
  let v35 : BitVec 1 := Scalar.cmpi .sgt v33 c0_i32_13
  let v36 : BitVec 32 := Scalar.extui v35
  let c0_i32_14 : BitVec 32 := 0#32
  let v37 : BitVec 1 := Scalar.cmpi .slt v33 c0_i32_14
  let v38 : BitVec 32 := Scalar.extui v37
  let v39 : BitVec 32 := Scalar.subi v36 v38
  let c2_i32 : BitVec 32 := 2#32
  let c0_i32_15 : BitVec 32 := 0#32
  let v40 : BitVec 1 := Scalar.cmpi .sgt c2_i32 c0_i32_15
  let v41 : BitVec 32 := Scalar.extui v40
  let c0_i32_16 : BitVec 32 := 0#32
  let v42 : BitVec 1 := Scalar.cmpi .slt c2_i32 c0_i32_16
  let v43 : BitVec 32 := Scalar.extui v42
  let v44 : BitVec 32 := Scalar.subi v41 v43
  let v45 : BitVec 1 := Scalar.cmpi .ne v39 v44
  let v46 : BitVec 32 := Scalar.remsi v33 c2_i32
  let c0_i32_17 : BitVec 32 := 0#32
  let v47 : BitVec 1 := Scalar.cmpi .ne v46 c0_i32_17
  let v48 : BitVec 1 := Scalar.andi v45 v47
  let v34 : BitVec 32 := Scalar.divsi v33 c2_i32
  let c1_i32_18 : BitVec 32 := 1#32
  let v49 : BitVec 32 := Scalar.subi v34 c1_i32_18
  let v50 : BitVec 32 := Scalar.select v48 v49 v34
  let c256_i32_213 : BitVec 32 := 256#32
  let v443 : BitVec 32 := Scalar.muli v50 c256_i32_213
  let v444 : BitVec 32 := Scalar.addi c512_i32_214 v443
  let c0_i32 : BitVec 32 := 0#32
  let v8 : BitVec 1 := Scalar.cmpi .sgt v6 c0_i32
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c4_i32 : BitVec 32 := 4#32
  let c0_i32_3 : BitVec 32 := 0#32
  let v13 : BitVec 1 := Scalar.cmpi .sgt c4_i32 c0_i32_3
  let v14 : BitVec 32 := Scalar.extui v13
  let c0_i32_4 : BitVec 32 := 0#32
  let v15 : BitVec 1 := Scalar.cmpi .slt c4_i32 c0_i32_4
  let v16 : BitVec 32 := Scalar.extui v15
  let v17 : BitVec 32 := Scalar.subi v14 v16
  let v18 : BitVec 1 := Scalar.cmpi .ne v12 v17
  let v19 : BitVec 32 := Scalar.remsi v6 c4_i32
  let c0_i32_5 : BitVec 32 := 0#32
  let v20 : BitVec 1 := Scalar.cmpi .ne v19 c0_i32_5
  let v21 : BitVec 1 := Scalar.andi v18 v20
  let v7 : BitVec 32 := Scalar.divsi v6 c4_i32
  let c1_i32_6 : BitVec 32 := 1#32
  let v22 : BitVec 32 := Scalar.subi v7 c1_i32_6
  let v23 : BitVec 32 := Scalar.select v21 v22 v7
  let c2_i32_25 : BitVec 32 := 2#32
  let c0_i32_26 : BitVec 32 := 0#32
  let v62 : BitVec 1 := Scalar.cmpi .eq c2_i32_25 c0_i32_26
  let c1_i32_27 : BitVec 32 := 1#32
  let v63 : BitVec 32 := Scalar.select v62 c1_i32_27 c2_i32_25
  let v64 : BitVec 32 := Scalar.remsi v23 v63
  let c0_i32_29 : BitVec 32 := 0#32
  let v66 : BitVec 1 := Scalar.cmpi .slt v64 c0_i32_29
  let c0_i32_30 : BitVec 32 := 0#32
  let v67 : BitVec 1 := Scalar.cmpi .slt v63 c0_i32_30
  let v68 : BitVec 1 := Scalar.xori v66 v67
  let c0_i32_28 : BitVec 32 := 0#32
  let v65 : BitVec 1 := Scalar.cmpi .ne v64 c0_i32_28
  let v69 : BitVec 1 := Scalar.andi v68 v65
  let v70 : BitVec 32 := Scalar.addi v64 v63
  let v71 : BitVec 32 := Scalar.select v69 v70 v64
  let c128_i32_451 : BitVec 32 := 128#32
  let v813 : BitVec 32 := Scalar.muli v71 c128_i32_451
  let v814 : BitVec 32 := Scalar.addi v444 v813
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v33 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let v61 : BitVec 32 := Scalar.xori v60 v50
  let c64_i32_607 : BitVec 32 := 64#32
  let v963 : BitVec 32 := Scalar.muli v61 c64_i32_607
  let v964 : BitVec 32 := Scalar.addi v814 v963
  let c0_i32_32 : BitVec 32 := 0#32
  let v73 : BitVec 1 := Scalar.cmpi .sgt v23 c0_i32_32
  let v74 : BitVec 32 := Scalar.extui v73
  let c0_i32_33 : BitVec 32 := 0#32
  let v75 : BitVec 1 := Scalar.cmpi .slt v23 c0_i32_33
  let v76 : BitVec 32 := Scalar.extui v75
  let v77 : BitVec 32 := Scalar.subi v74 v76
  let c2_i32_31 : BitVec 32 := 2#32
  let c0_i32_34 : BitVec 32 := 0#32
  let v78 : BitVec 1 := Scalar.cmpi .sgt c2_i32_31 c0_i32_34
  let v79 : BitVec 32 := Scalar.extui v78
  let c0_i32_35 : BitVec 32 := 0#32
  let v80 : BitVec 1 := Scalar.cmpi .slt c2_i32_31 c0_i32_35
  let v81 : BitVec 32 := Scalar.extui v80
  let v82 : BitVec 32 := Scalar.subi v79 v81
  let v83 : BitVec 1 := Scalar.cmpi .ne v77 v82
  let v84 : BitVec 32 := Scalar.remsi v23 c2_i32_31
  let c0_i32_36 : BitVec 32 := 0#32
  let v85 : BitVec 1 := Scalar.cmpi .ne v84 c0_i32_36
  let v86 : BitVec 1 := Scalar.andi v83 v85
  let v72 : BitVec 32 := Scalar.divsi v23 c2_i32_31
  let c1_i32_37 : BitVec 32 := 1#32
  let v87 : BitVec 32 := Scalar.subi v72 c1_i32_37
  let v88 : BitVec 32 := Scalar.select v86 v87 v72
  let c32_i32_764 : BitVec 32 := 32#32
  let v1113 : BitVec 32 := Scalar.muli v88 c32_i32_764
  let v1114 : BitVec 32 := Scalar.addi v964 v1113
  let c32_i32_920 : BitVec 32 := 32#32
  let v1263 : BitVec 32 := Scalar.muli v88 c32_i32_920
  let v1264 : BitVec 32 := Scalar.subi v1114 v1263
  let c1_i32_921 : BitVec 32 := 1#32
  let v1265 : BitVec 32 := Scalar.subi c1_i32_921 v88
  let c32_i32_922 : BitVec 32 := 32#32
  let v1266 : BitVec 32 := Scalar.muli v1265 c32_i32_922
  let v1267 : BitVec 32 := Scalar.addi v1264 v1266
  let v1301 : BitVec 32 := Scalar.addi v1267 c0_i32_952
  let v1362 : Index := Scalar.indexCast v1301
  let c0_1026 : Index := 0#32
  ![v1362.toNat, 0]
def k0_off56 (d0 : Dev nD) (c0_i32_1077 : BitVec 32) : Fin 2 → Nat :=
  let c0_i32_209 : BitVec 32 := 0#32
  let v4 : BitVec 32 := Dev.word d0
  let c1_i32_1 : BitVec 32 := 1#32
  let v5 : BitVec 32 := Scalar.divsi v4 c1_i32_1
  let c16_i32_0 : BitVec 32 := 16#32
  let v6 : BitVec 32 := Scalar.remsi v5 c16_i32_0
  let c4_i32_7 : BitVec 32 := 4#32
  let c0_i32_8 : BitVec 32 := 0#32
  let v24 : BitVec 1 := Scalar.cmpi .eq c4_i32_7 c0_i32_8
  let c1_i32_9 : BitVec 32 := 1#32
  let v25 : BitVec 32 := Scalar.select v24 c1_i32_9 c4_i32_7
  let v26 : BitVec 32 := Scalar.remsi v6 v25
  let c0_i32_11 : BitVec 32 := 0#32
  let v28 : BitVec 1 := Scalar.cmpi .slt v26 c0_i32_11
  let c0_i32_12 : BitVec 32 := 0#32
  let v29 : BitVec 1 := Scalar.cmpi .slt v25 c0_i32_12
  let v30 : BitVec 1 := Scalar.xori v28 v29
  let c0_i32_10 : BitVec 32 := 0#32
  let v27 : BitVec 1 := Scalar.cmpi .ne v26 c0_i32_10
  let v31 : BitVec 1 := Scalar.andi v30 v27
  let v32 : BitVec 32 := Scalar.addi v26 v25
  let v33 : BitVec 32 := Scalar.select v31 v32 v26
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v33 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_13 : BitVec 32 := 0#32
  let v35 : BitVec 1 := Scalar.cmpi .sgt v33 c0_i32_13
  let v36 : BitVec 32 := Scalar.extui v35
  let c0_i32_14 : BitVec 32 := 0#32
  let v37 : BitVec 1 := Scalar.cmpi .slt v33 c0_i32_14
  let v38 : BitVec 32 := Scalar.extui v37
  let v39 : BitVec 32 := Scalar.subi v36 v38
  let c2_i32 : BitVec 32 := 2#32
  let c0_i32_15 : BitVec 32 := 0#32
  let v40 : BitVec 1 := Scalar.cmpi .sgt c2_i32 c0_i32_15
  let v41 : BitVec 32 := Scalar.extui v40
  let c0_i32_16 : BitVec 32 := 0#32
  let v42 : BitVec 1 := Scalar.cmpi .slt c2_i32 c0_i32_16
  let v43 : BitVec 32 := Scalar.extui v42
  let v44 : BitVec 32 := Scalar.subi v41 v43
  let v45 : BitVec 1 := Scalar.cmpi .ne v39 v44
  let v46 : BitVec 32 := Scalar.remsi v33 c2_i32
  let c0_i32_17 : BitVec 32 := 0#32
  let v47 : BitVec 1 := Scalar.cmpi .ne v46 c0_i32_17
  let v48 : BitVec 1 := Scalar.andi v45 v47
  let v34 : BitVec 32 := Scalar.divsi v33 c2_i32
  let c1_i32_18 : BitVec 32 := 1#32
  let v49 : BitVec 32 := Scalar.subi v34 c1_i32_18
  let v50 : BitVec 32 := Scalar.select v48 v49 v34
  let v61 : BitVec 32 := Scalar.xori v60 v50
  let c256_i32_208 : BitVec 32 := 256#32
  let v438 : BitVec 32 := Scalar.muli v61 c256_i32_208
  let v439 : BitVec 32 := Scalar.addi c0_i32_209 v438
  let c128_i32_448 : BitVec 32 := 128#32
  let v808 : BitVec 32 := Scalar.muli v50 c128_i32_448
  let v809 : BitVec 32 := Scalar.addi v439 v808
  let c0_i32 : BitVec 32 := 0#32
  let v8 : BitVec 1 := Scalar.cmpi .sgt v6 c0_i32
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c4_i32 : BitVec 32 := 4#32
  let c0_i32_3 : BitVec 32 := 0#32
  let v13 : BitVec 1 := Scalar.cmpi .sgt c4_i32 c0_i32_3
  let v14 : BitVec 32 := Scalar.extui v13
  let c0_i32_4 : BitVec 32 := 0#32
  let v15 : BitVec 1 := Scalar.cmpi .slt c4_i32 c0_i32_4
  let v16 : BitVec 32 := Scalar.extui v15
  let v17 : BitVec 32 := Scalar.subi v14 v16
  let v18 : BitVec 1 := Scalar.cmpi .ne v12 v17
  let v19 : BitVec 32 := Scalar.remsi v6 c4_i32
  let c0_i32_5 : BitVec 32 := 0#32
  let v20 : BitVec 1 := Scalar.cmpi .ne v19 c0_i32_5
  let v21 : BitVec 1 := Scalar.andi v18 v20
  let v7 : BitVec 32 := Scalar.divsi v6 c4_i32
  let c1_i32_6 : BitVec 32 := 1#32
  let v22 : BitVec 32 := Scalar.subi v7 c1_i32_6
  let v23 : BitVec 32 := Scalar.select v21 v22 v7
  let c2_i32_25 : BitVec 32 := 2#32
  let c0_i32_26 : BitVec 32 := 0#32
  let v62 : BitVec 1 := Scalar.cmpi .eq c2_i32_25 c0_i32_26
  let c1_i32_27 : BitVec 32 := 1#32
  let v63 : BitVec 32 := Scalar.select v62 c1_i32_27 c2_i32_25
  let v64 : BitVec 32 := Scalar.remsi v23 v63
  let c0_i32_29 : BitVec 32 := 0#32
  let v66 : BitVec 1 := Scalar.cmpi .slt v64 c0_i32_29
  let c0_i32_30 : BitVec 32 := 0#32
  let v67 : BitVec 1 := Scalar.cmpi .slt v63 c0_i32_30
  let v68 : BitVec 1 := Scalar.xori v66 v67
  let c0_i32_28 : BitVec 32 := 0#32
  let v65 : BitVec 1 := Scalar.cmpi .ne v64 c0_i32_28
  let v69 : BitVec 1 := Scalar.andi v68 v65
  let v70 : BitVec 32 := Scalar.addi v64 v63
  let v71 : BitVec 32 := Scalar.select v69 v70 v64
  let c64_i32_604 : BitVec 32 := 64#32
  let v958 : BitVec 32 := Scalar.muli v71 c64_i32_604
  let v959 : BitVec 32 := Scalar.addi v809 v958
  let c0_i32_32 : BitVec 32 := 0#32
  let v73 : BitVec 1 := Scalar.cmpi .sgt v23 c0_i32_32
  let v74 : BitVec 32 := Scalar.extui v73
  let c0_i32_33 : BitVec 32 := 0#32
  let v75 : BitVec 1 := Scalar.cmpi .slt v23 c0_i32_33
  let v76 : BitVec 32 := Scalar.extui v75
  let v77 : BitVec 32 := Scalar.subi v74 v76
  let c2_i32_31 : BitVec 32 := 2#32
  let c0_i32_34 : BitVec 32 := 0#32
  let v78 : BitVec 1 := Scalar.cmpi .sgt c2_i32_31 c0_i32_34
  let v79 : BitVec 32 := Scalar.extui v78
  let c0_i32_35 : BitVec 32 := 0#32
  let v80 : BitVec 1 := Scalar.cmpi .slt c2_i32_31 c0_i32_35
  let v81 : BitVec 32 := Scalar.extui v80
  let v82 : BitVec 32 := Scalar.subi v79 v81
  let v83 : BitVec 1 := Scalar.cmpi .ne v77 v82
  let v84 : BitVec 32 := Scalar.remsi v23 c2_i32_31
  let c0_i32_36 : BitVec 32 := 0#32
  let v85 : BitVec 1 := Scalar.cmpi .ne v84 c0_i32_36
  let v86 : BitVec 1 := Scalar.andi v83 v85
  let v72 : BitVec 32 := Scalar.divsi v23 c2_i32_31
  let c1_i32_37 : BitVec 32 := 1#32
  let v87 : BitVec 32 := Scalar.subi v72 c1_i32_37
  let v88 : BitVec 32 := Scalar.select v86 v87 v72
  let c32_i32_761 : BitVec 32 := 32#32
  let v1108 : BitVec 32 := Scalar.muli v88 c32_i32_761
  let v1109 : BitVec 32 := Scalar.addi v959 v1108
  let c32_i32_917 : BitVec 32 := 32#32
  let v1258 : BitVec 32 := Scalar.muli v88 c32_i32_917
  let v1259 : BitVec 32 := Scalar.subi v1109 v1258
  let v1402 : BitVec 32 := Scalar.addi v1259 c0_i32_1077
  let v1403 : Index := Scalar.indexCast v1402
  let c0_1078 : Index := 0#32
  ![v1403.toNat, 0]
def k0_dev25 (d0 : Dev nD) : Nat :=
  let c0_i32_1086 : BitVec 32 := 0#32
  let c4_i32_49 : BitVec 32 := 4#32
  let c2_i32_48 : BitVec 32 := 2#32
  let v4 : BitVec 32 := Dev.word d0
  let c1_i32_1 : BitVec 32 := 1#32
  let v5 : BitVec 32 := Scalar.divsi v4 c1_i32_1
  let c16_i32_0 : BitVec 32 := 16#32
  let v6 : BitVec 32 := Scalar.remsi v5 c16_i32_0
  let c0_i32 : BitVec 32 := 0#32
  let v8 : BitVec 1 := Scalar.cmpi .sgt v6 c0_i32
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c4_i32 : BitVec 32 := 4#32
  let c0_i32_3 : BitVec 32 := 0#32
  let v13 : BitVec 1 := Scalar.cmpi .sgt c4_i32 c0_i32_3
  let v14 : BitVec 32 := Scalar.extui v13
  let c0_i32_4 : BitVec 32 := 0#32
  let v15 : BitVec 1 := Scalar.cmpi .slt c4_i32 c0_i32_4
  let v16 : BitVec 32 := Scalar.extui v15
  let v17 : BitVec 32 := Scalar.subi v14 v16
  let v18 : BitVec 1 := Scalar.cmpi .ne v12 v17
  let v19 : BitVec 32 := Scalar.remsi v6 c4_i32
  let c0_i32_5 : BitVec 32 := 0#32
  let v20 : BitVec 1 := Scalar.cmpi .ne v19 c0_i32_5
  let v21 : BitVec 1 := Scalar.andi v18 v20
  let v7 : BitVec 32 := Scalar.divsi v6 c4_i32
  let c1_i32_6 : BitVec 32 := 1#32
  let v22 : BitVec 32 := Scalar.subi v7 c1_i32_6
  let v23 : BitVec 32 := Scalar.select v21 v22 v7
  let c0_i32_32 : BitVec 32 := 0#32
  let v73 : BitVec 1 := Scalar.cmpi .sgt v23 c0_i32_32
  let v74 : BitVec 32 := Scalar.extui v73
  let c0_i32_33 : BitVec 32 := 0#32
  let v75 : BitVec 1 := Scalar.cmpi .slt v23 c0_i32_33
  let v76 : BitVec 32 := Scalar.extui v75
  let v77 : BitVec 32 := Scalar.subi v74 v76
  let c2_i32_31 : BitVec 32 := 2#32
  let c0_i32_34 : BitVec 32 := 0#32
  let v78 : BitVec 1 := Scalar.cmpi .sgt c2_i32_31 c0_i32_34
  let v79 : BitVec 32 := Scalar.extui v78
  let c0_i32_35 : BitVec 32 := 0#32
  let v80 : BitVec 1 := Scalar.cmpi .slt c2_i32_31 c0_i32_35
  let v81 : BitVec 32 := Scalar.extui v80
  let v82 : BitVec 32 := Scalar.subi v79 v81
  let v83 : BitVec 1 := Scalar.cmpi .ne v77 v82
  let v84 : BitVec 32 := Scalar.remsi v23 c2_i32_31
  let c0_i32_36 : BitVec 32 := 0#32
  let v85 : BitVec 1 := Scalar.cmpi .ne v84 c0_i32_36
  let v86 : BitVec 1 := Scalar.andi v83 v85
  let v72 : BitVec 32 := Scalar.divsi v23 c2_i32_31
  let c1_i32_37 : BitVec 32 := 1#32
  let v87 : BitVec 32 := Scalar.subi v72 c1_i32_37
  let v88 : BitVec 32 := Scalar.select v86 v87 v72
  let v109 : BitVec 32 := Scalar.muli c2_i32_48 v88
  let c1_i32_46 : BitVec 32 := 1#32
  let c2_i32_25 : BitVec 32 := 2#32
  let c0_i32_26 : BitVec 32 := 0#32
  let v62 : BitVec 1 := Scalar.cmpi .eq c2_i32_25 c0_i32_26
  let c1_i32_27 : BitVec 32 := 1#32
  let v63 : BitVec 32 := Scalar.select v62 c1_i32_27 c2_i32_25
  let v64 : BitVec 32 := Scalar.remsi v23 v63
  let c0_i32_29 : BitVec 32 := 0#32
  let v66 : BitVec 1 := Scalar.cmpi .slt v64 c0_i32_29
  let c0_i32_30 : BitVec 32 := 0#32
  let v67 : BitVec 1 := Scalar.cmpi .slt v63 c0_i32_30
  let v68 : BitVec 1 := Scalar.xori v66 v67
  let c0_i32_28 : BitVec 32 := 0#32
  let v65 : BitVec 1 := Scalar.cmpi .ne v64 c0_i32_28
  let v69 : BitVec 1 := Scalar.andi v68 v65
  let v70 : BitVec 32 := Scalar.addi v64 v63
  let v71 : BitVec 32 := Scalar.select v69 v70 v64
  let v105 : BitVec 32 := Scalar.subi c1_i32_46 v71
  let v110 : BitVec 32 := Scalar.addi v109 v105
  let v111 : BitVec 32 := Scalar.muli c4_i32_49 v110
  let c4_i32_7 : BitVec 32 := 4#32
  let c0_i32_8 : BitVec 32 := 0#32
  let v24 : BitVec 1 := Scalar.cmpi .eq c4_i32_7 c0_i32_8
  let c1_i32_9 : BitVec 32 := 1#32
  let v25 : BitVec 32 := Scalar.select v24 c1_i32_9 c4_i32_7
  let v26 : BitVec 32 := Scalar.remsi v6 v25
  let c0_i32_11 : BitVec 32 := 0#32
  let v28 : BitVec 1 := Scalar.cmpi .slt v26 c0_i32_11
  let c0_i32_12 : BitVec 32 := 0#32
  let v29 : BitVec 1 := Scalar.cmpi .slt v25 c0_i32_12
  let v30 : BitVec 1 := Scalar.xori v28 v29
  let c0_i32_10 : BitVec 32 := 0#32
  let v27 : BitVec 1 := Scalar.cmpi .ne v26 c0_i32_10
  let v31 : BitVec 1 := Scalar.andi v30 v27
  let v32 : BitVec 32 := Scalar.addi v26 v25
  let v33 : BitVec 32 := Scalar.select v31 v32 v26
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v33 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_13 : BitVec 32 := 0#32
  let v35 : BitVec 1 := Scalar.cmpi .sgt v33 c0_i32_13
  let v36 : BitVec 32 := Scalar.extui v35
  let c0_i32_14 : BitVec 32 := 0#32
  let v37 : BitVec 1 := Scalar.cmpi .slt v33 c0_i32_14
  let v38 : BitVec 32 := Scalar.extui v37
  let v39 : BitVec 32 := Scalar.subi v36 v38
  let c2_i32 : BitVec 32 := 2#32
  let c0_i32_15 : BitVec 32 := 0#32
  let v40 : BitVec 1 := Scalar.cmpi .sgt c2_i32 c0_i32_15
  let v41 : BitVec 32 := Scalar.extui v40
  let c0_i32_16 : BitVec 32 := 0#32
  let v42 : BitVec 1 := Scalar.cmpi .slt c2_i32 c0_i32_16
  let v43 : BitVec 32 := Scalar.extui v42
  let v44 : BitVec 32 := Scalar.subi v41 v43
  let v45 : BitVec 1 := Scalar.cmpi .ne v39 v44
  let v46 : BitVec 32 := Scalar.remsi v33 c2_i32
  let c0_i32_17 : BitVec 32 := 0#32
  let v47 : BitVec 1 := Scalar.cmpi .ne v46 c0_i32_17
  let v48 : BitVec 1 := Scalar.andi v45 v47
  let v34 : BitVec 32 := Scalar.divsi v33 c2_i32
  let c1_i32_18 : BitVec 32 := 1#32
  let v49 : BitVec 32 := Scalar.subi v34 c1_i32_18
  let v50 : BitVec 32 := Scalar.select v48 v49 v34
  let v61 : BitVec 32 := Scalar.xori v60 v50
  let v106 : BitVec 32 := Scalar.xori v61 v50
  let c2_i32_47 : BitVec 32 := 2#32
  let v107 : BitVec 32 := Scalar.muli c2_i32_47 v50
  let v108 : BitVec 32 := Scalar.addi v106 v107
  let v112 : BitVec 32 := Scalar.addi v111 v108
  let c1_i32_1085 : BitVec 32 := 1#32
  let v1410 : BitVec 32 := Scalar.muli v112 c1_i32_1085
  let v1411 : BitVec 32 := Scalar.addi c0_i32_1086 v1410
  v1411.toNat
def k0_off57 (d0 : Dev nD) (c0_i32_1092 : BitVec 32) : Fin 2 → Nat :=
  let c512_i32_214 : BitVec 32 := 512#32
  let v4 : BitVec 32 := Dev.word d0
  let c1_i32_1 : BitVec 32 := 1#32
  let v5 : BitVec 32 := Scalar.divsi v4 c1_i32_1
  let c16_i32_0 : BitVec 32 := 16#32
  let v6 : BitVec 32 := Scalar.remsi v5 c16_i32_0
  let c4_i32_7 : BitVec 32 := 4#32
  let c0_i32_8 : BitVec 32 := 0#32
  let v24 : BitVec 1 := Scalar.cmpi .eq c4_i32_7 c0_i32_8
  let c1_i32_9 : BitVec 32 := 1#32
  let v25 : BitVec 32 := Scalar.select v24 c1_i32_9 c4_i32_7
  let v26 : BitVec 32 := Scalar.remsi v6 v25
  let c0_i32_11 : BitVec 32 := 0#32
  let v28 : BitVec 1 := Scalar.cmpi .slt v26 c0_i32_11
  let c0_i32_12 : BitVec 32 := 0#32
  let v29 : BitVec 1 := Scalar.cmpi .slt v25 c0_i32_12
  let v30 : BitVec 1 := Scalar.xori v28 v29
  let c0_i32_10 : BitVec 32 := 0#32
  let v27 : BitVec 1 := Scalar.cmpi .ne v26 c0_i32_10
  let v31 : BitVec 1 := Scalar.andi v30 v27
  let v32 : BitVec 32 := Scalar.addi v26 v25
  let v33 : BitVec 32 := Scalar.select v31 v32 v26
  let c0_i32_13 : BitVec 32 := 0#32
  let v35 : BitVec 1 := Scalar.cmpi .sgt v33 c0_i32_13
  let v36 : BitVec 32 := Scalar.extui v35
  let c0_i32_14 : BitVec 32 := 0#32
  let v37 : BitVec 1 := Scalar.cmpi .slt v33 c0_i32_14
  let v38 : BitVec 32 := Scalar.extui v37
  let v39 : BitVec 32 := Scalar.subi v36 v38
  let c2_i32 : BitVec 32 := 2#32
  let c0_i32_15 : BitVec 32 := 0#32
  let v40 : BitVec 1 := Scalar.cmpi .sgt c2_i32 c0_i32_15
  let v41 : BitVec 32 := Scalar.extui v40
  let c0_i32_16 : BitVec 32 := 0#32
  let v42 : BitVec 1 := Scalar.cmpi .slt c2_i32 c0_i32_16
  let v43 : BitVec 32 := Scalar.extui v42
  let v44 : BitVec 32 := Scalar.subi v41 v43
  let v45 : BitVec 1 := Scalar.cmpi .ne v39 v44
  let v46 : BitVec 32 := Scalar.remsi v33 c2_i32
  let c0_i32_17 : BitVec 32 := 0#32
  let v47 : BitVec 1 := Scalar.cmpi .ne v46 c0_i32_17
  let v48 : BitVec 1 := Scalar.andi v45 v47
  let v34 : BitVec 32 := Scalar.divsi v33 c2_i32
  let c1_i32_18 : BitVec 32 := 1#32
  let v49 : BitVec 32 := Scalar.subi v34 c1_i32_18
  let v50 : BitVec 32 := Scalar.select v48 v49 v34
  let c256_i32_213 : BitVec 32 := 256#32
  let v443 : BitVec 32 := Scalar.muli v50 c256_i32_213
  let v444 : BitVec 32 := Scalar.addi c512_i32_214 v443
  let c0_i32 : BitVec 32 := 0#32
  let v8 : BitVec 1 := Scalar.cmpi .sgt v6 c0_i32
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c4_i32 : BitVec 32 := 4#32
  let c0_i32_3 : BitVec 32 := 0#32
  let v13 : BitVec 1 := Scalar.cmpi .sgt c4_i32 c0_i32_3
  let v14 : BitVec 32 := Scalar.extui v13
  let c0_i32_4 : BitVec 32 := 0#32
  let v15 : BitVec 1 := Scalar.cmpi .slt c4_i32 c0_i32_4
  let v16 : BitVec 32 := Scalar.extui v15
  let v17 : BitVec 32 := Scalar.subi v14 v16
  let v18 : BitVec 1 := Scalar.cmpi .ne v12 v17
  let v19 : BitVec 32 := Scalar.remsi v6 c4_i32
  let c0_i32_5 : BitVec 32 := 0#32
  let v20 : BitVec 1 := Scalar.cmpi .ne v19 c0_i32_5
  let v21 : BitVec 1 := Scalar.andi v18 v20
  let v7 : BitVec 32 := Scalar.divsi v6 c4_i32
  let c1_i32_6 : BitVec 32 := 1#32
  let v22 : BitVec 32 := Scalar.subi v7 c1_i32_6
  let v23 : BitVec 32 := Scalar.select v21 v22 v7
  let c2_i32_25 : BitVec 32 := 2#32
  let c0_i32_26 : BitVec 32 := 0#32
  let v62 : BitVec 1 := Scalar.cmpi .eq c2_i32_25 c0_i32_26
  let c1_i32_27 : BitVec 32 := 1#32
  let v63 : BitVec 32 := Scalar.select v62 c1_i32_27 c2_i32_25
  let v64 : BitVec 32 := Scalar.remsi v23 v63
  let c0_i32_29 : BitVec 32 := 0#32
  let v66 : BitVec 1 := Scalar.cmpi .slt v64 c0_i32_29
  let c0_i32_30 : BitVec 32 := 0#32
  let v67 : BitVec 1 := Scalar.cmpi .slt v63 c0_i32_30
  let v68 : BitVec 1 := Scalar.xori v66 v67
  let c0_i32_28 : BitVec 32 := 0#32
  let v65 : BitVec 1 := Scalar.cmpi .ne v64 c0_i32_28
  let v69 : BitVec 1 := Scalar.andi v68 v65
  let v70 : BitVec 32 := Scalar.addi v64 v63
  let v71 : BitVec 32 := Scalar.select v69 v70 v64
  let c128_i32_451 : BitVec 32 := 128#32
  let v813 : BitVec 32 := Scalar.muli v71 c128_i32_451
  let v814 : BitVec 32 := Scalar.addi v444 v813
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v33 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let v61 : BitVec 32 := Scalar.xori v60 v50
  let c64_i32_607 : BitVec 32 := 64#32
  let v963 : BitVec 32 := Scalar.muli v61 c64_i32_607
  let v964 : BitVec 32 := Scalar.addi v814 v963
  let c0_i32_32 : BitVec 32 := 0#32
  let v73 : BitVec 1 := Scalar.cmpi .sgt v23 c0_i32_32
  let v74 : BitVec 32 := Scalar.extui v73
  let c0_i32_33 : BitVec 32 := 0#32
  let v75 : BitVec 1 := Scalar.cmpi .slt v23 c0_i32_33
  let v76 : BitVec 32 := Scalar.extui v75
  let v77 : BitVec 32 := Scalar.subi v74 v76
  let c2_i32_31 : BitVec 32 := 2#32
  let c0_i32_34 : BitVec 32 := 0#32
  let v78 : BitVec 1 := Scalar.cmpi .sgt c2_i32_31 c0_i32_34
  let v79 : BitVec 32 := Scalar.extui v78
  let c0_i32_35 : BitVec 32 := 0#32
  let v80 : BitVec 1 := Scalar.cmpi .slt c2_i32_31 c0_i32_35
  let v81 : BitVec 32 := Scalar.extui v80
  let v82 : BitVec 32 := Scalar.subi v79 v81
  let v83 : BitVec 1 := Scalar.cmpi .ne v77 v82
  let v84 : BitVec 32 := Scalar.remsi v23 c2_i32_31
  let c0_i32_36 : BitVec 32 := 0#32
  let v85 : BitVec 1 := Scalar.cmpi .ne v84 c0_i32_36
  let v86 : BitVec 1 := Scalar.andi v83 v85
  let v72 : BitVec 32 := Scalar.divsi v23 c2_i32_31
  let c1_i32_37 : BitVec 32 := 1#32
  let v87 : BitVec 32 := Scalar.subi v72 c1_i32_37
  let v88 : BitVec 32 := Scalar.select v86 v87 v72
  let c32_i32_764 : BitVec 32 := 32#32
  let v1113 : BitVec 32 := Scalar.muli v88 c32_i32_764
  let v1114 : BitVec 32 := Scalar.addi v964 v1113
  let c32_i32_920 : BitVec 32 := 32#32
  let v1263 : BitVec 32 := Scalar.muli v88 c32_i32_920
  let v1264 : BitVec 32 := Scalar.subi v1114 v1263
  let v1419 : BitVec 32 := Scalar.addi v1264 c0_i32_1092
  let v1420 : Index := Scalar.indexCast v1419
  let c0_1093 : Index := 0#32
  ![v1420.toNat, 0]
def k0_dev26 (d0 : Dev nD) : Nat :=
  let c0_i32_1101 : BitVec 32 := 0#32
  let c4_i32_41 : BitVec 32 := 4#32
  let c2_i32_40 : BitVec 32 := 2#32
  let v4 : BitVec 32 := Dev.word d0
  let c1_i32_1 : BitVec 32 := 1#32
  let v5 : BitVec 32 := Scalar.divsi v4 c1_i32_1
  let c16_i32_0 : BitVec 32 := 16#32
  let v6 : BitVec 32 := Scalar.remsi v5 c16_i32_0
  let c0_i32 : BitVec 32 := 0#32
  let v8 : BitVec 1 := Scalar.cmpi .sgt v6 c0_i32
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c4_i32 : BitVec 32 := 4#32
  let c0_i32_3 : BitVec 32 := 0#32
  let v13 : BitVec 1 := Scalar.cmpi .sgt c4_i32 c0_i32_3
  let v14 : BitVec 32 := Scalar.extui v13
  let c0_i32_4 : BitVec 32 := 0#32
  let v15 : BitVec 1 := Scalar.cmpi .slt c4_i32 c0_i32_4
  let v16 : BitVec 32 := Scalar.extui v15
  let v17 : BitVec 32 := Scalar.subi v14 v16
  let v18 : BitVec 1 := Scalar.cmpi .ne v12 v17
  let v19 : BitVec 32 := Scalar.remsi v6 c4_i32
  let c0_i32_5 : BitVec 32 := 0#32
  let v20 : BitVec 1 := Scalar.cmpi .ne v19 c0_i32_5
  let v21 : BitVec 1 := Scalar.andi v18 v20
  let v7 : BitVec 32 := Scalar.divsi v6 c4_i32
  let c1_i32_6 : BitVec 32 := 1#32
  let v22 : BitVec 32 := Scalar.subi v7 c1_i32_6
  let v23 : BitVec 32 := Scalar.select v21 v22 v7
  let c0_i32_32 : BitVec 32 := 0#32
  let v73 : BitVec 1 := Scalar.cmpi .sgt v23 c0_i32_32
  let v74 : BitVec 32 := Scalar.extui v73
  let c0_i32_33 : BitVec 32 := 0#32
  let v75 : BitVec 1 := Scalar.cmpi .slt v23 c0_i32_33
  let v76 : BitVec 32 := Scalar.extui v75
  let v77 : BitVec 32 := Scalar.subi v74 v76
  let c2_i32_31 : BitVec 32 := 2#32
  let c0_i32_34 : BitVec 32 := 0#32
  let v78 : BitVec 1 := Scalar.cmpi .sgt c2_i32_31 c0_i32_34
  let v79 : BitVec 32 := Scalar.extui v78
  let c0_i32_35 : BitVec 32 := 0#32
  let v80 : BitVec 1 := Scalar.cmpi .slt c2_i32_31 c0_i32_35
  let v81 : BitVec 32 := Scalar.extui v80
  let v82 : BitVec 32 := Scalar.subi v79 v81
  let v83 : BitVec 1 := Scalar.cmpi .ne v77 v82
  let v84 : BitVec 32 := Scalar.remsi v23 c2_i32_31
  let c0_i32_36 : BitVec 32 := 0#32
  let v85 : BitVec 1 := Scalar.cmpi .ne v84 c0_i32_36
  let v86 : BitVec 1 := Scalar.andi v83 v85
  let v72 : BitVec 32 := Scalar.divsi v23 c2_i32_31
  let c1_i32_37 : BitVec 32 := 1#32
  let v87 : BitVec 32 := Scalar.subi v72 c1_i32_37
  let v88 : BitVec 32 := Scalar.select v86 v87 v72
  let v93 : BitVec 32 := Scalar.muli c2_i32_40 v88
  let c2_i32_25 : BitVec 32 := 2#32
  let c0_i32_26 : BitVec 32 := 0#32
  let v62 : BitVec 1 := Scalar.cmpi .eq c2_i32_25 c0_i32_26
  let c1_i32_27 : BitVec 32 := 1#32
  let v63 : BitVec 32 := Scalar.select v62 c1_i32_27 c2_i32_25
  let v64 : BitVec 32 := Scalar.remsi v23 v63
  let c0_i32_29 : BitVec 32 := 0#32
  let v66 : BitVec 1 := Scalar.cmpi .slt v64 c0_i32_29
  let c0_i32_30 : BitVec 32 := 0#32
  let v67 : BitVec 1 := Scalar.cmpi .slt v63 c0_i32_30
  let v68 : BitVec 1 := Scalar.xori v66 v67
  let c0_i32_28 : BitVec 32 := 0#32
  let v65 : BitVec 1 := Scalar.cmpi .ne v64 c0_i32_28
  let v69 : BitVec 1 := Scalar.andi v68 v65
  let v70 : BitVec 32 := Scalar.addi v64 v63
  let v71 : BitVec 32 := Scalar.select v69 v70 v64
  let v94 : BitVec 32 := Scalar.addi v93 v71
  let v95 : BitVec 32 := Scalar.muli c4_i32_41 v94
  let c1_i32_38 : BitVec 32 := 1#32
  let c4_i32_7 : BitVec 32 := 4#32
  let c0_i32_8 : BitVec 32 := 0#32
  let v24 : BitVec 1 := Scalar.cmpi .eq c4_i32_7 c0_i32_8
  let c1_i32_9 : BitVec 32 := 1#32
  let v25 : BitVec 32 := Scalar.select v24 c1_i32_9 c4_i32_7
  let v26 : BitVec 32 := Scalar.remsi v6 v25
  let c0_i32_11 : BitVec 32 := 0#32
  let v28 : BitVec 1 := Scalar.cmpi .slt v26 c0_i32_11
  let c0_i32_12 : BitVec 32 := 0#32
  let v29 : BitVec 1 := Scalar.cmpi .slt v25 c0_i32_12
  let v30 : BitVec 1 := Scalar.xori v28 v29
  let c0_i32_10 : BitVec 32 := 0#32
  let v27 : BitVec 1 := Scalar.cmpi .ne v26 c0_i32_10
  let v31 : BitVec 1 := Scalar.andi v30 v27
  let v32 : BitVec 32 := Scalar.addi v26 v25
  let v33 : BitVec 32 := Scalar.select v31 v32 v26
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v33 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_13 : BitVec 32 := 0#32
  let v35 : BitVec 1 := Scalar.cmpi .sgt v33 c0_i32_13
  let v36 : BitVec 32 := Scalar.extui v35
  let c0_i32_14 : BitVec 32 := 0#32
  let v37 : BitVec 1 := Scalar.cmpi .slt v33 c0_i32_14
  let v38 : BitVec 32 := Scalar.extui v37
  let v39 : BitVec 32 := Scalar.subi v36 v38
  let c2_i32 : BitVec 32 := 2#32
  let c0_i32_15 : BitVec 32 := 0#32
  let v40 : BitVec 1 := Scalar.cmpi .sgt c2_i32 c0_i32_15
  let v41 : BitVec 32 := Scalar.extui v40
  let c0_i32_16 : BitVec 32 := 0#32
  let v42 : BitVec 1 := Scalar.cmpi .slt c2_i32 c0_i32_16
  let v43 : BitVec 32 := Scalar.extui v42
  let v44 : BitVec 32 := Scalar.subi v41 v43
  let v45 : BitVec 1 := Scalar.cmpi .ne v39 v44
  let v46 : BitVec 32 := Scalar.remsi v33 c2_i32
  let c0_i32_17 : BitVec 32 := 0#32
  let v47 : BitVec 1 := Scalar.cmpi .ne v46 c0_i32_17
  let v48 : BitVec 1 := Scalar.andi v45 v47
  let v34 : BitVec 32 := Scalar.divsi v33 c2_i32
  let c1_i32_18 : BitVec 32 := 1#32
  let v49 : BitVec 32 := Scalar.subi v34 c1_i32_18
  let v50 : BitVec 32 := Scalar.select v48 v49 v34
  let v61 : BitVec 32 := Scalar.xori v60 v50
  let v89 : BitVec 32 := Scalar.subi c1_i32_38 v61
  let v90 : BitVec 32 := Scalar.xori v89 v50
  let c2_i32_39 : BitVec 32 := 2#32
  let v91 : BitVec 32 := Scalar.muli c2_i32_39 v50
  let v92 : BitVec 32 := Scalar.addi v90 v91
  let v96 : BitVec 32 := Scalar.addi v95 v92
  let c1_i32_1100 : BitVec 32 := 1#32
  let v1427 : BitVec 32 := Scalar.muli v96 c1_i32_1100
  let v1428 : BitVec 32 := Scalar.addi c0_i32_1101 v1427
  v1428.toNat
def k0_dev27 (d0 : Dev nD) : Nat :=
  let c0_i32_1116 : BitVec 32 := 0#32
  let c4_i32_49 : BitVec 32 := 4#32
  let c2_i32_48 : BitVec 32 := 2#32
  let v4 : BitVec 32 := Dev.word d0
  let c1_i32_1 : BitVec 32 := 1#32
  let v5 : BitVec 32 := Scalar.divsi v4 c1_i32_1
  let c16_i32_0 : BitVec 32 := 16#32
  let v6 : BitVec 32 := Scalar.remsi v5 c16_i32_0
  let c0_i32 : BitVec 32 := 0#32
  let v8 : BitVec 1 := Scalar.cmpi .sgt v6 c0_i32
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c4_i32 : BitVec 32 := 4#32
  let c0_i32_3 : BitVec 32 := 0#32
  let v13 : BitVec 1 := Scalar.cmpi .sgt c4_i32 c0_i32_3
  let v14 : BitVec 32 := Scalar.extui v13
  let c0_i32_4 : BitVec 32 := 0#32
  let v15 : BitVec 1 := Scalar.cmpi .slt c4_i32 c0_i32_4
  let v16 : BitVec 32 := Scalar.extui v15
  let v17 : BitVec 32 := Scalar.subi v14 v16
  let v18 : BitVec 1 := Scalar.cmpi .ne v12 v17
  let v19 : BitVec 32 := Scalar.remsi v6 c4_i32
  let c0_i32_5 : BitVec 32 := 0#32
  let v20 : BitVec 1 := Scalar.cmpi .ne v19 c0_i32_5
  let v21 : BitVec 1 := Scalar.andi v18 v20
  let v7 : BitVec 32 := Scalar.divsi v6 c4_i32
  let c1_i32_6 : BitVec 32 := 1#32
  let v22 : BitVec 32 := Scalar.subi v7 c1_i32_6
  let v23 : BitVec 32 := Scalar.select v21 v22 v7
  let c0_i32_32 : BitVec 32 := 0#32
  let v73 : BitVec 1 := Scalar.cmpi .sgt v23 c0_i32_32
  let v74 : BitVec 32 := Scalar.extui v73
  let c0_i32_33 : BitVec 32 := 0#32
  let v75 : BitVec 1 := Scalar.cmpi .slt v23 c0_i32_33
  let v76 : BitVec 32 := Scalar.extui v75
  let v77 : BitVec 32 := Scalar.subi v74 v76
  let c2_i32_31 : BitVec 32 := 2#32
  let c0_i32_34 : BitVec 32 := 0#32
  let v78 : BitVec 1 := Scalar.cmpi .sgt c2_i32_31 c0_i32_34
  let v79 : BitVec 32 := Scalar.extui v78
  let c0_i32_35 : BitVec 32 := 0#32
  let v80 : BitVec 1 := Scalar.cmpi .slt c2_i32_31 c0_i32_35
  let v81 : BitVec 32 := Scalar.extui v80
  let v82 : BitVec 32 := Scalar.subi v79 v81
  let v83 : BitVec 1 := Scalar.cmpi .ne v77 v82
  let v84 : BitVec 32 := Scalar.remsi v23 c2_i32_31
  let c0_i32_36 : BitVec 32 := 0#32
  let v85 : BitVec 1 := Scalar.cmpi .ne v84 c0_i32_36
  let v86 : BitVec 1 := Scalar.andi v83 v85
  let v72 : BitVec 32 := Scalar.divsi v23 c2_i32_31
  let c1_i32_37 : BitVec 32 := 1#32
  let v87 : BitVec 32 := Scalar.subi v72 c1_i32_37
  let v88 : BitVec 32 := Scalar.select v86 v87 v72
  let v109 : BitVec 32 := Scalar.muli c2_i32_48 v88
  let c1_i32_46 : BitVec 32 := 1#32
  let c2_i32_25 : BitVec 32 := 2#32
  let c0_i32_26 : BitVec 32 := 0#32
  let v62 : BitVec 1 := Scalar.cmpi .eq c2_i32_25 c0_i32_26
  let c1_i32_27 : BitVec 32 := 1#32
  let v63 : BitVec 32 := Scalar.select v62 c1_i32_27 c2_i32_25
  let v64 : BitVec 32 := Scalar.remsi v23 v63
  let c0_i32_29 : BitVec 32 := 0#32
  let v66 : BitVec 1 := Scalar.cmpi .slt v64 c0_i32_29
  let c0_i32_30 : BitVec 32 := 0#32
  let v67 : BitVec 1 := Scalar.cmpi .slt v63 c0_i32_30
  let v68 : BitVec 1 := Scalar.xori v66 v67
  let c0_i32_28 : BitVec 32 := 0#32
  let v65 : BitVec 1 := Scalar.cmpi .ne v64 c0_i32_28
  let v69 : BitVec 1 := Scalar.andi v68 v65
  let v70 : BitVec 32 := Scalar.addi v64 v63
  let v71 : BitVec 32 := Scalar.select v69 v70 v64
  let v105 : BitVec 32 := Scalar.subi c1_i32_46 v71
  let v110 : BitVec 32 := Scalar.addi v109 v105
  let v111 : BitVec 32 := Scalar.muli c4_i32_49 v110
  let c4_i32_7 : BitVec 32 := 4#32
  let c0_i32_8 : BitVec 32 := 0#32
  let v24 : BitVec 1 := Scalar.cmpi .eq c4_i32_7 c0_i32_8
  let c1_i32_9 : BitVec 32 := 1#32
  let v25 : BitVec 32 := Scalar.select v24 c1_i32_9 c4_i32_7
  let v26 : BitVec 32 := Scalar.remsi v6 v25
  let c0_i32_11 : BitVec 32 := 0#32
  let v28 : BitVec 1 := Scalar.cmpi .slt v26 c0_i32_11
  let c0_i32_12 : BitVec 32 := 0#32
  let v29 : BitVec 1 := Scalar.cmpi .slt v25 c0_i32_12
  let v30 : BitVec 1 := Scalar.xori v28 v29
  let c0_i32_10 : BitVec 32 := 0#32
  let v27 : BitVec 1 := Scalar.cmpi .ne v26 c0_i32_10
  let v31 : BitVec 1 := Scalar.andi v30 v27
  let v32 : BitVec 32 := Scalar.addi v26 v25
  let v33 : BitVec 32 := Scalar.select v31 v32 v26
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v33 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_13 : BitVec 32 := 0#32
  let v35 : BitVec 1 := Scalar.cmpi .sgt v33 c0_i32_13
  let v36 : BitVec 32 := Scalar.extui v35
  let c0_i32_14 : BitVec 32 := 0#32
  let v37 : BitVec 1 := Scalar.cmpi .slt v33 c0_i32_14
  let v38 : BitVec 32 := Scalar.extui v37
  let v39 : BitVec 32 := Scalar.subi v36 v38
  let c2_i32 : BitVec 32 := 2#32
  let c0_i32_15 : BitVec 32 := 0#32
  let v40 : BitVec 1 := Scalar.cmpi .sgt c2_i32 c0_i32_15
  let v41 : BitVec 32 := Scalar.extui v40
  let c0_i32_16 : BitVec 32 := 0#32
  let v42 : BitVec 1 := Scalar.cmpi .slt c2_i32 c0_i32_16
  let v43 : BitVec 32 := Scalar.extui v42
  let v44 : BitVec 32 := Scalar.subi v41 v43
  let v45 : BitVec 1 := Scalar.cmpi .ne v39 v44
  let v46 : BitVec 32 := Scalar.remsi v33 c2_i32
  let c0_i32_17 : BitVec 32 := 0#32
  let v47 : BitVec 1 := Scalar.cmpi .ne v46 c0_i32_17
  let v48 : BitVec 1 := Scalar.andi v45 v47
  let v34 : BitVec 32 := Scalar.divsi v33 c2_i32
  let c1_i32_18 : BitVec 32 := 1#32
  let v49 : BitVec 32 := Scalar.subi v34 c1_i32_18
  let v50 : BitVec 32 := Scalar.select v48 v49 v34
  let v61 : BitVec 32 := Scalar.xori v60 v50
  let v106 : BitVec 32 := Scalar.xori v61 v50
  let c2_i32_47 : BitVec 32 := 2#32
  let v107 : BitVec 32 := Scalar.muli c2_i32_47 v50
  let v108 : BitVec 32 := Scalar.addi v106 v107
  let v112 : BitVec 32 := Scalar.addi v111 v108
  let c1_i32_1115 : BitVec 32 := 1#32
  let v1444 : BitVec 32 := Scalar.muli v112 c1_i32_1115
  let v1445 : BitVec 32 := Scalar.addi c0_i32_1116 v1444
  v1445.toNat
def k0_dev28 (d0 : Dev nD) : Nat :=
  let c0_i32_1131 : BitVec 32 := 0#32
  let c4_i32_41 : BitVec 32 := 4#32
  let c2_i32_40 : BitVec 32 := 2#32
  let v4 : BitVec 32 := Dev.word d0
  let c1_i32_1 : BitVec 32 := 1#32
  let v5 : BitVec 32 := Scalar.divsi v4 c1_i32_1
  let c16_i32_0 : BitVec 32 := 16#32
  let v6 : BitVec 32 := Scalar.remsi v5 c16_i32_0
  let c0_i32 : BitVec 32 := 0#32
  let v8 : BitVec 1 := Scalar.cmpi .sgt v6 c0_i32
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c4_i32 : BitVec 32 := 4#32
  let c0_i32_3 : BitVec 32 := 0#32
  let v13 : BitVec 1 := Scalar.cmpi .sgt c4_i32 c0_i32_3
  let v14 : BitVec 32 := Scalar.extui v13
  let c0_i32_4 : BitVec 32 := 0#32
  let v15 : BitVec 1 := Scalar.cmpi .slt c4_i32 c0_i32_4
  let v16 : BitVec 32 := Scalar.extui v15
  let v17 : BitVec 32 := Scalar.subi v14 v16
  let v18 : BitVec 1 := Scalar.cmpi .ne v12 v17
  let v19 : BitVec 32 := Scalar.remsi v6 c4_i32
  let c0_i32_5 : BitVec 32 := 0#32
  let v20 : BitVec 1 := Scalar.cmpi .ne v19 c0_i32_5
  let v21 : BitVec 1 := Scalar.andi v18 v20
  let v7 : BitVec 32 := Scalar.divsi v6 c4_i32
  let c1_i32_6 : BitVec 32 := 1#32
  let v22 : BitVec 32 := Scalar.subi v7 c1_i32_6
  let v23 : BitVec 32 := Scalar.select v21 v22 v7
  let c0_i32_32 : BitVec 32 := 0#32
  let v73 : BitVec 1 := Scalar.cmpi .sgt v23 c0_i32_32
  let v74 : BitVec 32 := Scalar.extui v73
  let c0_i32_33 : BitVec 32 := 0#32
  let v75 : BitVec 1 := Scalar.cmpi .slt v23 c0_i32_33
  let v76 : BitVec 32 := Scalar.extui v75
  let v77 : BitVec 32 := Scalar.subi v74 v76
  let c2_i32_31 : BitVec 32 := 2#32
  let c0_i32_34 : BitVec 32 := 0#32
  let v78 : BitVec 1 := Scalar.cmpi .sgt c2_i32_31 c0_i32_34
  let v79 : BitVec 32 := Scalar.extui v78
  let c0_i32_35 : BitVec 32 := 0#32
  let v80 : BitVec 1 := Scalar.cmpi .slt c2_i32_31 c0_i32_35
  let v81 : BitVec 32 := Scalar.extui v80
  let v82 : BitVec 32 := Scalar.subi v79 v81
  let v83 : BitVec 1 := Scalar.cmpi .ne v77 v82
  let v84 : BitVec 32 := Scalar.remsi v23 c2_i32_31
  let c0_i32_36 : BitVec 32 := 0#32
  let v85 : BitVec 1 := Scalar.cmpi .ne v84 c0_i32_36
  let v86 : BitVec 1 := Scalar.andi v83 v85
  let v72 : BitVec 32 := Scalar.divsi v23 c2_i32_31
  let c1_i32_37 : BitVec 32 := 1#32
  let v87 : BitVec 32 := Scalar.subi v72 c1_i32_37
  let v88 : BitVec 32 := Scalar.select v86 v87 v72
  let v93 : BitVec 32 := Scalar.muli c2_i32_40 v88
  let c2_i32_25 : BitVec 32 := 2#32
  let c0_i32_26 : BitVec 32 := 0#32
  let v62 : BitVec 1 := Scalar.cmpi .eq c2_i32_25 c0_i32_26
  let c1_i32_27 : BitVec 32 := 1#32
  let v63 : BitVec 32 := Scalar.select v62 c1_i32_27 c2_i32_25
  let v64 : BitVec 32 := Scalar.remsi v23 v63
  let c0_i32_29 : BitVec 32 := 0#32
  let v66 : BitVec 1 := Scalar.cmpi .slt v64 c0_i32_29
  let c0_i32_30 : BitVec 32 := 0#32
  let v67 : BitVec 1 := Scalar.cmpi .slt v63 c0_i32_30
  let v68 : BitVec 1 := Scalar.xori v66 v67
  let c0_i32_28 : BitVec 32 := 0#32
  let v65 : BitVec 1 := Scalar.cmpi .ne v64 c0_i32_28
  let v69 : BitVec 1 := Scalar.andi v68 v65
  let v70 : BitVec 32 := Scalar.addi v64 v63
  let v71 : BitVec 32 := Scalar.select v69 v70 v64
  let v94 : BitVec 32 := Scalar.addi v93 v71
  let v95 : BitVec 32 := Scalar.muli c4_i32_41 v94
  let c1_i32_38 : BitVec 32 := 1#32
  let c4_i32_7 : BitVec 32 := 4#32
  let c0_i32_8 : BitVec 32 := 0#32
  let v24 : BitVec 1 := Scalar.cmpi .eq c4_i32_7 c0_i32_8
  let c1_i32_9 : BitVec 32 := 1#32
  let v25 : BitVec 32 := Scalar.select v24 c1_i32_9 c4_i32_7
  let v26 : BitVec 32 := Scalar.remsi v6 v25
  let c0_i32_11 : BitVec 32 := 0#32
  let v28 : BitVec 1 := Scalar.cmpi .slt v26 c0_i32_11
  let c0_i32_12 : BitVec 32 := 0#32
  let v29 : BitVec 1 := Scalar.cmpi .slt v25 c0_i32_12
  let v30 : BitVec 1 := Scalar.xori v28 v29
  let c0_i32_10 : BitVec 32 := 0#32
  let v27 : BitVec 1 := Scalar.cmpi .ne v26 c0_i32_10
  let v31 : BitVec 1 := Scalar.andi v30 v27
  let v32 : BitVec 32 := Scalar.addi v26 v25
  let v33 : BitVec 32 := Scalar.select v31 v32 v26
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v33 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_13 : BitVec 32 := 0#32
  let v35 : BitVec 1 := Scalar.cmpi .sgt v33 c0_i32_13
  let v36 : BitVec 32 := Scalar.extui v35
  let c0_i32_14 : BitVec 32 := 0#32
  let v37 : BitVec 1 := Scalar.cmpi .slt v33 c0_i32_14
  let v38 : BitVec 32 := Scalar.extui v37
  let v39 : BitVec 32 := Scalar.subi v36 v38
  let c2_i32 : BitVec 32 := 2#32
  let c0_i32_15 : BitVec 32 := 0#32
  let v40 : BitVec 1 := Scalar.cmpi .sgt c2_i32 c0_i32_15
  let v41 : BitVec 32 := Scalar.extui v40
  let c0_i32_16 : BitVec 32 := 0#32
  let v42 : BitVec 1 := Scalar.cmpi .slt c2_i32 c0_i32_16
  let v43 : BitVec 32 := Scalar.extui v42
  let v44 : BitVec 32 := Scalar.subi v41 v43
  let v45 : BitVec 1 := Scalar.cmpi .ne v39 v44
  let v46 : BitVec 32 := Scalar.remsi v33 c2_i32
  let c0_i32_17 : BitVec 32 := 0#32
  let v47 : BitVec 1 := Scalar.cmpi .ne v46 c0_i32_17
  let v48 : BitVec 1 := Scalar.andi v45 v47
  let v34 : BitVec 32 := Scalar.divsi v33 c2_i32
  let c1_i32_18 : BitVec 32 := 1#32
  let v49 : BitVec 32 := Scalar.subi v34 c1_i32_18
  let v50 : BitVec 32 := Scalar.select v48 v49 v34
  let v61 : BitVec 32 := Scalar.xori v60 v50
  let v89 : BitVec 32 := Scalar.subi c1_i32_38 v61
  let v90 : BitVec 32 := Scalar.xori v89 v50
  let c2_i32_39 : BitVec 32 := 2#32
  let v91 : BitVec 32 := Scalar.muli c2_i32_39 v50
  let v92 : BitVec 32 := Scalar.addi v90 v91
  let v96 : BitVec 32 := Scalar.addi v95 v92
  let c1_i32_1130 : BitVec 32 := 1#32
  let v1461 : BitVec 32 := Scalar.muli v96 c1_i32_1130
  let v1462 : BitVec 32 := Scalar.addi c0_i32_1131 v1461
  v1462.toNat
def k0_off58 (d0 : Dev nD) (c0_i32_1091 : BitVec 32) : Fin 2 → Nat :=
  let c0_i32_209 : BitVec 32 := 0#32
  let v4 : BitVec 32 := Dev.word d0
  let c1_i32_1 : BitVec 32 := 1#32
  let v5 : BitVec 32 := Scalar.divsi v4 c1_i32_1
  let c16_i32_0 : BitVec 32 := 16#32
  let v6 : BitVec 32 := Scalar.remsi v5 c16_i32_0
  let c4_i32_7 : BitVec 32 := 4#32
  let c0_i32_8 : BitVec 32 := 0#32
  let v24 : BitVec 1 := Scalar.cmpi .eq c4_i32_7 c0_i32_8
  let c1_i32_9 : BitVec 32 := 1#32
  let v25 : BitVec 32 := Scalar.select v24 c1_i32_9 c4_i32_7
  let v26 : BitVec 32 := Scalar.remsi v6 v25
  let c0_i32_11 : BitVec 32 := 0#32
  let v28 : BitVec 1 := Scalar.cmpi .slt v26 c0_i32_11
  let c0_i32_12 : BitVec 32 := 0#32
  let v29 : BitVec 1 := Scalar.cmpi .slt v25 c0_i32_12
  let v30 : BitVec 1 := Scalar.xori v28 v29
  let c0_i32_10 : BitVec 32 := 0#32
  let v27 : BitVec 1 := Scalar.cmpi .ne v26 c0_i32_10
  let v31 : BitVec 1 := Scalar.andi v30 v27
  let v32 : BitVec 32 := Scalar.addi v26 v25
  let v33 : BitVec 32 := Scalar.select v31 v32 v26
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v33 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_13 : BitVec 32 := 0#32
  let v35 : BitVec 1 := Scalar.cmpi .sgt v33 c0_i32_13
  let v36 : BitVec 32 := Scalar.extui v35
  let c0_i32_14 : BitVec 32 := 0#32
  let v37 : BitVec 1 := Scalar.cmpi .slt v33 c0_i32_14
  let v38 : BitVec 32 := Scalar.extui v37
  let v39 : BitVec 32 := Scalar.subi v36 v38
  let c2_i32 : BitVec 32 := 2#32
  let c0_i32_15 : BitVec 32 := 0#32
  let v40 : BitVec 1 := Scalar.cmpi .sgt c2_i32 c0_i32_15
  let v41 : BitVec 32 := Scalar.extui v40
  let c0_i32_16 : BitVec 32 := 0#32
  let v42 : BitVec 1 := Scalar.cmpi .slt c2_i32 c0_i32_16
  let v43 : BitVec 32 := Scalar.extui v42
  let v44 : BitVec 32 := Scalar.subi v41 v43
  let v45 : BitVec 1 := Scalar.cmpi .ne v39 v44
  let v46 : BitVec 32 := Scalar.remsi v33 c2_i32
  let c0_i32_17 : BitVec 32 := 0#32
  let v47 : BitVec 1 := Scalar.cmpi .ne v46 c0_i32_17
  let v48 : BitVec 1 := Scalar.andi v45 v47
  let v34 : BitVec 32 := Scalar.divsi v33 c2_i32
  let c1_i32_18 : BitVec 32 := 1#32
  let v49 : BitVec 32 := Scalar.subi v34 c1_i32_18
  let v50 : BitVec 32 := Scalar.select v48 v49 v34
  let v61 : BitVec 32 := Scalar.xori v60 v50
  let c256_i32_208 : BitVec 32 := 256#32
  let v438 : BitVec 32 := Scalar.muli v61 c256_i32_208
  let v439 : BitVec 32 := Scalar.addi c0_i32_209 v438
  let c128_i32_448 : BitVec 32 := 128#32
  let v808 : BitVec 32 := Scalar.muli v50 c128_i32_448
  let v809 : BitVec 32 := Scalar.addi v439 v808
  let c0_i32 : BitVec 32 := 0#32
  let v8 : BitVec 1 := Scalar.cmpi .sgt v6 c0_i32
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c4_i32 : BitVec 32 := 4#32
  let c0_i32_3 : BitVec 32 := 0#32
  let v13 : BitVec 1 := Scalar.cmpi .sgt c4_i32 c0_i32_3
  let v14 : BitVec 32 := Scalar.extui v13
  let c0_i32_4 : BitVec 32 := 0#32
  let v15 : BitVec 1 := Scalar.cmpi .slt c4_i32 c0_i32_4
  let v16 : BitVec 32 := Scalar.extui v15
  let v17 : BitVec 32 := Scalar.subi v14 v16
  let v18 : BitVec 1 := Scalar.cmpi .ne v12 v17
  let v19 : BitVec 32 := Scalar.remsi v6 c4_i32
  let c0_i32_5 : BitVec 32 := 0#32
  let v20 : BitVec 1 := Scalar.cmpi .ne v19 c0_i32_5
  let v21 : BitVec 1 := Scalar.andi v18 v20
  let v7 : BitVec 32 := Scalar.divsi v6 c4_i32
  let c1_i32_6 : BitVec 32 := 1#32
  let v22 : BitVec 32 := Scalar.subi v7 c1_i32_6
  let v23 : BitVec 32 := Scalar.select v21 v22 v7
  let c2_i32_25 : BitVec 32 := 2#32
  let c0_i32_26 : BitVec 32 := 0#32
  let v62 : BitVec 1 := Scalar.cmpi .eq c2_i32_25 c0_i32_26
  let c1_i32_27 : BitVec 32 := 1#32
  let v63 : BitVec 32 := Scalar.select v62 c1_i32_27 c2_i32_25
  let v64 : BitVec 32 := Scalar.remsi v23 v63
  let c0_i32_29 : BitVec 32 := 0#32
  let v66 : BitVec 1 := Scalar.cmpi .slt v64 c0_i32_29
  let c0_i32_30 : BitVec 32 := 0#32
  let v67 : BitVec 1 := Scalar.cmpi .slt v63 c0_i32_30
  let v68 : BitVec 1 := Scalar.xori v66 v67
  let c0_i32_28 : BitVec 32 := 0#32
  let v65 : BitVec 1 := Scalar.cmpi .ne v64 c0_i32_28
  let v69 : BitVec 1 := Scalar.andi v68 v65
  let v70 : BitVec 32 := Scalar.addi v64 v63
  let v71 : BitVec 32 := Scalar.select v69 v70 v64
  let c64_i32_604 : BitVec 32 := 64#32
  let v958 : BitVec 32 := Scalar.muli v71 c64_i32_604
  let v959 : BitVec 32 := Scalar.addi v809 v958
  let c0_i32_32 : BitVec 32 := 0#32
  let v73 : BitVec 1 := Scalar.cmpi .sgt v23 c0_i32_32
  let v74 : BitVec 32 := Scalar.extui v73
  let c0_i32_33 : BitVec 32 := 0#32
  let v75 : BitVec 1 := Scalar.cmpi .slt v23 c0_i32_33
  let v76 : BitVec 32 := Scalar.extui v75
  let v77 : BitVec 32 := Scalar.subi v74 v76
  let c2_i32_31 : BitVec 32 := 2#32
  let c0_i32_34 : BitVec 32 := 0#32
  let v78 : BitVec 1 := Scalar.cmpi .sgt c2_i32_31 c0_i32_34
  let v79 : BitVec 32 := Scalar.extui v78
  let c0_i32_35 : BitVec 32 := 0#32
  let v80 : BitVec 1 := Scalar.cmpi .slt c2_i32_31 c0_i32_35
  let v81 : BitVec 32 := Scalar.extui v80
  let v82 : BitVec 32 := Scalar.subi v79 v81
  let v83 : BitVec 1 := Scalar.cmpi .ne v77 v82
  let v84 : BitVec 32 := Scalar.remsi v23 c2_i32_31
  let c0_i32_36 : BitVec 32 := 0#32
  let v85 : BitVec 1 := Scalar.cmpi .ne v84 c0_i32_36
  let v86 : BitVec 1 := Scalar.andi v83 v85
  let v72 : BitVec 32 := Scalar.divsi v23 c2_i32_31
  let c1_i32_37 : BitVec 32 := 1#32
  let v87 : BitVec 32 := Scalar.subi v72 c1_i32_37
  let v88 : BitVec 32 := Scalar.select v86 v87 v72
  let c32_i32_761 : BitVec 32 := 32#32
  let v1108 : BitVec 32 := Scalar.muli v88 c32_i32_761
  let v1109 : BitVec 32 := Scalar.addi v959 v1108
  let c32_i32_917 : BitVec 32 := 32#32
  let v1258 : BitVec 32 := Scalar.muli v88 c32_i32_917
  let v1259 : BitVec 32 := Scalar.subi v1109 v1258
  let c64_i32_1071 : BitVec 32 := 64#32
  let v1392 : BitVec 32 := Scalar.muli v71 c64_i32_1071
  let v1393 : BitVec 32 := Scalar.subi v1259 v1392
  let c1_i32_1072 : BitVec 32 := 1#32
  let v1394 : BitVec 32 := Scalar.subi c1_i32_1072 v71
  let c64_i32_1073 : BitVec 32 := 64#32
  let v1395 : BitVec 32 := Scalar.muli v1394 c64_i32_1073
  let v1396 : BitVec 32 := Scalar.addi v1393 v1395
  let v1418 : BitVec 32 := Scalar.addi v1396 c0_i32_1091
  let v1482 : Index := Scalar.indexCast v1418
  let c0_1158 : Index := 0#32
  ![v1482.toNat, 0]
def k0_off59 (d0 : Dev nD) (c0_i32_1106 : BitVec 32) : Fin 2 → Nat :=
  let c512_i32_214 : BitVec 32 := 512#32
  let v4 : BitVec 32 := Dev.word d0
  let c1_i32_1 : BitVec 32 := 1#32
  let v5 : BitVec 32 := Scalar.divsi v4 c1_i32_1
  let c16_i32_0 : BitVec 32 := 16#32
  let v6 : BitVec 32 := Scalar.remsi v5 c16_i32_0
  let c4_i32_7 : BitVec 32 := 4#32
  let c0_i32_8 : BitVec 32 := 0#32
  let v24 : BitVec 1 := Scalar.cmpi .eq c4_i32_7 c0_i32_8
  let c1_i32_9 : BitVec 32 := 1#32
  let v25 : BitVec 32 := Scalar.select v24 c1_i32_9 c4_i32_7
  let v26 : BitVec 32 := Scalar.remsi v6 v25
  let c0_i32_11 : BitVec 32 := 0#32
  let v28 : BitVec 1 := Scalar.cmpi .slt v26 c0_i32_11
  let c0_i32_12 : BitVec 32 := 0#32
  let v29 : BitVec 1 := Scalar.cmpi .slt v25 c0_i32_12
  let v30 : BitVec 1 := Scalar.xori v28 v29
  let c0_i32_10 : BitVec 32 := 0#32
  let v27 : BitVec 1 := Scalar.cmpi .ne v26 c0_i32_10
  let v31 : BitVec 1 := Scalar.andi v30 v27
  let v32 : BitVec 32 := Scalar.addi v26 v25
  let v33 : BitVec 32 := Scalar.select v31 v32 v26
  let c0_i32_13 : BitVec 32 := 0#32
  let v35 : BitVec 1 := Scalar.cmpi .sgt v33 c0_i32_13
  let v36 : BitVec 32 := Scalar.extui v35
  let c0_i32_14 : BitVec 32 := 0#32
  let v37 : BitVec 1 := Scalar.cmpi .slt v33 c0_i32_14
  let v38 : BitVec 32 := Scalar.extui v37
  let v39 : BitVec 32 := Scalar.subi v36 v38
  let c2_i32 : BitVec 32 := 2#32
  let c0_i32_15 : BitVec 32 := 0#32
  let v40 : BitVec 1 := Scalar.cmpi .sgt c2_i32 c0_i32_15
  let v41 : BitVec 32 := Scalar.extui v40
  let c0_i32_16 : BitVec 32 := 0#32
  let v42 : BitVec 1 := Scalar.cmpi .slt c2_i32 c0_i32_16
  let v43 : BitVec 32 := Scalar.extui v42
  let v44 : BitVec 32 := Scalar.subi v41 v43
  let v45 : BitVec 1 := Scalar.cmpi .ne v39 v44
  let v46 : BitVec 32 := Scalar.remsi v33 c2_i32
  let c0_i32_17 : BitVec 32 := 0#32
  let v47 : BitVec 1 := Scalar.cmpi .ne v46 c0_i32_17
  let v48 : BitVec 1 := Scalar.andi v45 v47
  let v34 : BitVec 32 := Scalar.divsi v33 c2_i32
  let c1_i32_18 : BitVec 32 := 1#32
  let v49 : BitVec 32 := Scalar.subi v34 c1_i32_18
  let v50 : BitVec 32 := Scalar.select v48 v49 v34
  let c256_i32_213 : BitVec 32 := 256#32
  let v443 : BitVec 32 := Scalar.muli v50 c256_i32_213
  let v444 : BitVec 32 := Scalar.addi c512_i32_214 v443
  let c0_i32 : BitVec 32 := 0#32
  let v8 : BitVec 1 := Scalar.cmpi .sgt v6 c0_i32
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c4_i32 : BitVec 32 := 4#32
  let c0_i32_3 : BitVec 32 := 0#32
  let v13 : BitVec 1 := Scalar.cmpi .sgt c4_i32 c0_i32_3
  let v14 : BitVec 32 := Scalar.extui v13
  let c0_i32_4 : BitVec 32 := 0#32
  let v15 : BitVec 1 := Scalar.cmpi .slt c4_i32 c0_i32_4
  let v16 : BitVec 32 := Scalar.extui v15
  let v17 : BitVec 32 := Scalar.subi v14 v16
  let v18 : BitVec 1 := Scalar.cmpi .ne v12 v17
  let v19 : BitVec 32 := Scalar.remsi v6 c4_i32
  let c0_i32_5 : BitVec 32 := 0#32
  let v20 : BitVec 1 := Scalar.cmpi .ne v19 c0_i32_5
  let v21 : BitVec 1 := Scalar.andi v18 v20
  let v7 : BitVec 32 := Scalar.divsi v6 c4_i32
  let c1_i32_6 : BitVec 32 := 1#32
  let v22 : BitVec 32 := Scalar.subi v7 c1_i32_6
  let v23 : BitVec 32 := Scalar.select v21 v22 v7
  let c2_i32_25 : BitVec 32 := 2#32
  let c0_i32_26 : BitVec 32 := 0#32
  let v62 : BitVec 1 := Scalar.cmpi .eq c2_i32_25 c0_i32_26
  let c1_i32_27 : BitVec 32 := 1#32
  let v63 : BitVec 32 := Scalar.select v62 c1_i32_27 c2_i32_25
  let v64 : BitVec 32 := Scalar.remsi v23 v63
  let c0_i32_29 : BitVec 32 := 0#32
  let v66 : BitVec 1 := Scalar.cmpi .slt v64 c0_i32_29
  let c0_i32_30 : BitVec 32 := 0#32
  let v67 : BitVec 1 := Scalar.cmpi .slt v63 c0_i32_30
  let v68 : BitVec 1 := Scalar.xori v66 v67
  let c0_i32_28 : BitVec 32 := 0#32
  let v65 : BitVec 1 := Scalar.cmpi .ne v64 c0_i32_28
  let v69 : BitVec 1 := Scalar.andi v68 v65
  let v70 : BitVec 32 := Scalar.addi v64 v63
  let v71 : BitVec 32 := Scalar.select v69 v70 v64
  let c128_i32_451 : BitVec 32 := 128#32
  let v813 : BitVec 32 := Scalar.muli v71 c128_i32_451
  let v814 : BitVec 32 := Scalar.addi v444 v813
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v33 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let v61 : BitVec 32 := Scalar.xori v60 v50
  let c64_i32_607 : BitVec 32 := 64#32
  let v963 : BitVec 32 := Scalar.muli v61 c64_i32_607
  let v964 : BitVec 32 := Scalar.addi v814 v963
  let c0_i32_32 : BitVec 32 := 0#32
  let v73 : BitVec 1 := Scalar.cmpi .sgt v23 c0_i32_32
  let v74 : BitVec 32 := Scalar.extui v73
  let c0_i32_33 : BitVec 32 := 0#32
  let v75 : BitVec 1 := Scalar.cmpi .slt v23 c0_i32_33
  let v76 : BitVec 32 := Scalar.extui v75
  let v77 : BitVec 32 := Scalar.subi v74 v76
  let c2_i32_31 : BitVec 32 := 2#32
  let c0_i32_34 : BitVec 32 := 0#32
  let v78 : BitVec 1 := Scalar.cmpi .sgt c2_i32_31 c0_i32_34
  let v79 : BitVec 32 := Scalar.extui v78
  let c0_i32_35 : BitVec 32 := 0#32
  let v80 : BitVec 1 := Scalar.cmpi .slt c2_i32_31 c0_i32_35
  let v81 : BitVec 32 := Scalar.extui v80
  let v82 : BitVec 32 := Scalar.subi v79 v81
  let v83 : BitVec 1 := Scalar.cmpi .ne v77 v82
  let v84 : BitVec 32 := Scalar.remsi v23 c2_i32_31
  let c0_i32_36 : BitVec 32 := 0#32
  let v85 : BitVec 1 := Scalar.cmpi .ne v84 c0_i32_36
  let v86 : BitVec 1 := Scalar.andi v83 v85
  let v72 : BitVec 32 := Scalar.divsi v23 c2_i32_31
  let c1_i32_37 : BitVec 32 := 1#32
  let v87 : BitVec 32 := Scalar.subi v72 c1_i32_37
  let v88 : BitVec 32 := Scalar.select v86 v87 v72
  let c32_i32_764 : BitVec 32 := 32#32
  let v1113 : BitVec 32 := Scalar.muli v88 c32_i32_764
  let v1114 : BitVec 32 := Scalar.addi v964 v1113
  let c32_i32_920 : BitVec 32 := 32#32
  let v1263 : BitVec 32 := Scalar.muli v88 c32_i32_920
  let v1264 : BitVec 32 := Scalar.subi v1114 v1263
  let c64_i32_1074 : BitVec 32 := 64#32
  let v1397 : BitVec 32 := Scalar.muli v61 c64_i32_1074
  let v1398 : BitVec 32 := Scalar.subi v1264 v1397
  let c1_i32_1075 : BitVec 32 := 1#32
  let v1399 : BitVec 32 := Scalar.subi c1_i32_1075 v61
  let c64_i32_1076 : BitVec 32 := 64#32
  let v1400 : BitVec 32 := Scalar.muli v1399 c64_i32_1076
  let v1401 : BitVec 32 := Scalar.addi v1398 v1400
  let v1435 : BitVec 32 := Scalar.addi v1401 c0_i32_1106
  let v1496 : Index := Scalar.indexCast v1435
  let c0_1180 : Index := 0#32
  ![v1496.toNat, 0]
def k0_off60 (d0 : Dev nD) (c0_i32_1231 : BitVec 32) : Fin 2 → Nat :=
  let c0_i32_209 : BitVec 32 := 0#32
  let v4 : BitVec 32 := Dev.word d0
  let c1_i32_1 : BitVec 32 := 1#32
  let v5 : BitVec 32 := Scalar.divsi v4 c1_i32_1
  let c16_i32_0 : BitVec 32 := 16#32
  let v6 : BitVec 32 := Scalar.remsi v5 c16_i32_0
  let c4_i32_7 : BitVec 32 := 4#32
  let c0_i32_8 : BitVec 32 := 0#32
  let v24 : BitVec 1 := Scalar.cmpi .eq c4_i32_7 c0_i32_8
  let c1_i32_9 : BitVec 32 := 1#32
  let v25 : BitVec 32 := Scalar.select v24 c1_i32_9 c4_i32_7
  let v26 : BitVec 32 := Scalar.remsi v6 v25
  let c0_i32_11 : BitVec 32 := 0#32
  let v28 : BitVec 1 := Scalar.cmpi .slt v26 c0_i32_11
  let c0_i32_12 : BitVec 32 := 0#32
  let v29 : BitVec 1 := Scalar.cmpi .slt v25 c0_i32_12
  let v30 : BitVec 1 := Scalar.xori v28 v29
  let c0_i32_10 : BitVec 32 := 0#32
  let v27 : BitVec 1 := Scalar.cmpi .ne v26 c0_i32_10
  let v31 : BitVec 1 := Scalar.andi v30 v27
  let v32 : BitVec 32 := Scalar.addi v26 v25
  let v33 : BitVec 32 := Scalar.select v31 v32 v26
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v33 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_13 : BitVec 32 := 0#32
  let v35 : BitVec 1 := Scalar.cmpi .sgt v33 c0_i32_13
  let v36 : BitVec 32 := Scalar.extui v35
  let c0_i32_14 : BitVec 32 := 0#32
  let v37 : BitVec 1 := Scalar.cmpi .slt v33 c0_i32_14
  let v38 : BitVec 32 := Scalar.extui v37
  let v39 : BitVec 32 := Scalar.subi v36 v38
  let c2_i32 : BitVec 32 := 2#32
  let c0_i32_15 : BitVec 32 := 0#32
  let v40 : BitVec 1 := Scalar.cmpi .sgt c2_i32 c0_i32_15
  let v41 : BitVec 32 := Scalar.extui v40
  let c0_i32_16 : BitVec 32 := 0#32
  let v42 : BitVec 1 := Scalar.cmpi .slt c2_i32 c0_i32_16
  let v43 : BitVec 32 := Scalar.extui v42
  let v44 : BitVec 32 := Scalar.subi v41 v43
  let v45 : BitVec 1 := Scalar.cmpi .ne v39 v44
  let v46 : BitVec 32 := Scalar.remsi v33 c2_i32
  let c0_i32_17 : BitVec 32 := 0#32
  let v47 : BitVec 1 := Scalar.cmpi .ne v46 c0_i32_17
  let v48 : BitVec 1 := Scalar.andi v45 v47
  let v34 : BitVec 32 := Scalar.divsi v33 c2_i32
  let c1_i32_18 : BitVec 32 := 1#32
  let v49 : BitVec 32 := Scalar.subi v34 c1_i32_18
  let v50 : BitVec 32 := Scalar.select v48 v49 v34
  let v61 : BitVec 32 := Scalar.xori v60 v50
  let c256_i32_208 : BitVec 32 := 256#32
  let v438 : BitVec 32 := Scalar.muli v61 c256_i32_208
  let v439 : BitVec 32 := Scalar.addi c0_i32_209 v438
  let c128_i32_448 : BitVec 32 := 128#32
  let v808 : BitVec 32 := Scalar.muli v50 c128_i32_448
  let v809 : BitVec 32 := Scalar.addi v439 v808
  let c0_i32 : BitVec 32 := 0#32
  let v8 : BitVec 1 := Scalar.cmpi .sgt v6 c0_i32
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c4_i32 : BitVec 32 := 4#32
  let c0_i32_3 : BitVec 32 := 0#32
  let v13 : BitVec 1 := Scalar.cmpi .sgt c4_i32 c0_i32_3
  let v14 : BitVec 32 := Scalar.extui v13
  let c0_i32_4 : BitVec 32 := 0#32
  let v15 : BitVec 1 := Scalar.cmpi .slt c4_i32 c0_i32_4
  let v16 : BitVec 32 := Scalar.extui v15
  let v17 : BitVec 32 := Scalar.subi v14 v16
  let v18 : BitVec 1 := Scalar.cmpi .ne v12 v17
  let v19 : BitVec 32 := Scalar.remsi v6 c4_i32
  let c0_i32_5 : BitVec 32 := 0#32
  let v20 : BitVec 1 := Scalar.cmpi .ne v19 c0_i32_5
  let v21 : BitVec 1 := Scalar.andi v18 v20
  let v7 : BitVec 32 := Scalar.divsi v6 c4_i32
  let c1_i32_6 : BitVec 32 := 1#32
  let v22 : BitVec 32 := Scalar.subi v7 c1_i32_6
  let v23 : BitVec 32 := Scalar.select v21 v22 v7
  let c2_i32_25 : BitVec 32 := 2#32
  let c0_i32_26 : BitVec 32 := 0#32
  let v62 : BitVec 1 := Scalar.cmpi .eq c2_i32_25 c0_i32_26
  let c1_i32_27 : BitVec 32 := 1#32
  let v63 : BitVec 32 := Scalar.select v62 c1_i32_27 c2_i32_25
  let v64 : BitVec 32 := Scalar.remsi v23 v63
  let c0_i32_29 : BitVec 32 := 0#32
  let v66 : BitVec 1 := Scalar.cmpi .slt v64 c0_i32_29
  let c0_i32_30 : BitVec 32 := 0#32
  let v67 : BitVec 1 := Scalar.cmpi .slt v63 c0_i32_30
  let v68 : BitVec 1 := Scalar.xori v66 v67
  let c0_i32_28 : BitVec 32 := 0#32
  let v65 : BitVec 1 := Scalar.cmpi .ne v64 c0_i32_28
  let v69 : BitVec 1 := Scalar.andi v68 v65
  let v70 : BitVec 32 := Scalar.addi v64 v63
  let v71 : BitVec 32 := Scalar.select v69 v70 v64
  let c64_i32_604 : BitVec 32 := 64#32
  let v958 : BitVec 32 := Scalar.muli v71 c64_i32_604
  let v959 : BitVec 32 := Scalar.addi v809 v958
  let c0_i32_32 : BitVec 32 := 0#32
  let v73 : BitVec 1 := Scalar.cmpi .sgt v23 c0_i32_32
  let v74 : BitVec 32 := Scalar.extui v73
  let c0_i32_33 : BitVec 32 := 0#32
  let v75 : BitVec 1 := Scalar.cmpi .slt v23 c0_i32_33
  let v76 : BitVec 32 := Scalar.extui v75
  let v77 : BitVec 32 := Scalar.subi v74 v76
  let c2_i32_31 : BitVec 32 := 2#32
  let c0_i32_34 : BitVec 32 := 0#32
  let v78 : BitVec 1 := Scalar.cmpi .sgt c2_i32_31 c0_i32_34
  let v79 : BitVec 32 := Scalar.extui v78
  let c0_i32_35 : BitVec 32 := 0#32
  let v80 : BitVec 1 := Scalar.cmpi .slt c2_i32_31 c0_i32_35
  let v81 : BitVec 32 := Scalar.extui v80
  let v82 : BitVec 32 := Scalar.subi v79 v81
  let v83 : BitVec 1 := Scalar.cmpi .ne v77 v82
  let v84 : BitVec 32 := Scalar.remsi v23 c2_i32_31
  let c0_i32_36 : BitVec 32 := 0#32
  let v85 : BitVec 1 := Scalar.cmpi .ne v84 c0_i32_36
  let v86 : BitVec 1 := Scalar.andi v83 v85
  let v72 : BitVec 32 := Scalar.divsi v23 c2_i32_31
  let c1_i32_37 : BitVec 32 := 1#32
  let v87 : BitVec 32 := Scalar.subi v72 c1_i32_37
  let v88 : BitVec 32 := Scalar.select v86 v87 v72
  let c32_i32_761 : BitVec 32 := 32#32
  let v1108 : BitVec 32 := Scalar.muli v88 c32_i32_761
  let v1109 : BitVec 32 := Scalar.addi v959 v1108
  let c32_i32_917 : BitVec 32 := 32#32
  let v1258 : BitVec 32 := Scalar.muli v88 c32_i32_917
  let v1259 : BitVec 32 := Scalar.subi v1109 v1258
  let c64_i32_1071 : BitVec 32 := 64#32
  let v1392 : BitVec 32 := Scalar.muli v71 c64_i32_1071
  let v1393 : BitVec 32 := Scalar.subi v1259 v1392
  let v1536 : BitVec 32 := Scalar.addi v1393 c0_i32_1231
  let v1537 : Index := Scalar.indexCast v1536
  let c0_1232 : Index := 0#32
  ![v1537.toNat, 0]
def k0_dev29 (d0 : Dev nD) : Nat :=
  let c0_i32_1240 : BitVec 32 := 0#32
  let c4_i32_45 : BitVec 32 := 4#32
  let c2_i32_44 : BitVec 32 := 2#32
  let v4 : BitVec 32 := Dev.word d0
  let c1_i32_1 : BitVec 32 := 1#32
  let v5 : BitVec 32 := Scalar.divsi v4 c1_i32_1
  let c16_i32_0 : BitVec 32 := 16#32
  let v6 : BitVec 32 := Scalar.remsi v5 c16_i32_0
  let c0_i32 : BitVec 32 := 0#32
  let v8 : BitVec 1 := Scalar.cmpi .sgt v6 c0_i32
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c4_i32 : BitVec 32 := 4#32
  let c0_i32_3 : BitVec 32 := 0#32
  let v13 : BitVec 1 := Scalar.cmpi .sgt c4_i32 c0_i32_3
  let v14 : BitVec 32 := Scalar.extui v13
  let c0_i32_4 : BitVec 32 := 0#32
  let v15 : BitVec 1 := Scalar.cmpi .slt c4_i32 c0_i32_4
  let v16 : BitVec 32 := Scalar.extui v15
  let v17 : BitVec 32 := Scalar.subi v14 v16
  let v18 : BitVec 1 := Scalar.cmpi .ne v12 v17
  let v19 : BitVec 32 := Scalar.remsi v6 c4_i32
  let c0_i32_5 : BitVec 32 := 0#32
  let v20 : BitVec 1 := Scalar.cmpi .ne v19 c0_i32_5
  let v21 : BitVec 1 := Scalar.andi v18 v20
  let v7 : BitVec 32 := Scalar.divsi v6 c4_i32
  let c1_i32_6 : BitVec 32 := 1#32
  let v22 : BitVec 32 := Scalar.subi v7 c1_i32_6
  let v23 : BitVec 32 := Scalar.select v21 v22 v7
  let c0_i32_32 : BitVec 32 := 0#32
  let v73 : BitVec 1 := Scalar.cmpi .sgt v23 c0_i32_32
  let v74 : BitVec 32 := Scalar.extui v73
  let c0_i32_33 : BitVec 32 := 0#32
  let v75 : BitVec 1 := Scalar.cmpi .slt v23 c0_i32_33
  let v76 : BitVec 32 := Scalar.extui v75
  let v77 : BitVec 32 := Scalar.subi v74 v76
  let c2_i32_31 : BitVec 32 := 2#32
  let c0_i32_34 : BitVec 32 := 0#32
  let v78 : BitVec 1 := Scalar.cmpi .sgt c2_i32_31 c0_i32_34
  let v79 : BitVec 32 := Scalar.extui v78
  let c0_i32_35 : BitVec 32 := 0#32
  let v80 : BitVec 1 := Scalar.cmpi .slt c2_i32_31 c0_i32_35
  let v81 : BitVec 32 := Scalar.extui v80
  let v82 : BitVec 32 := Scalar.subi v79 v81
  let v83 : BitVec 1 := Scalar.cmpi .ne v77 v82
  let v84 : BitVec 32 := Scalar.remsi v23 c2_i32_31
  let c0_i32_36 : BitVec 32 := 0#32
  let v85 : BitVec 1 := Scalar.cmpi .ne v84 c0_i32_36
  let v86 : BitVec 1 := Scalar.andi v83 v85
  let v72 : BitVec 32 := Scalar.divsi v23 c2_i32_31
  let c1_i32_37 : BitVec 32 := 1#32
  let v87 : BitVec 32 := Scalar.subi v72 c1_i32_37
  let v88 : BitVec 32 := Scalar.select v86 v87 v72
  let v101 : BitVec 32 := Scalar.muli c2_i32_44 v88
  let c2_i32_25 : BitVec 32 := 2#32
  let c0_i32_26 : BitVec 32 := 0#32
  let v62 : BitVec 1 := Scalar.cmpi .eq c2_i32_25 c0_i32_26
  let c1_i32_27 : BitVec 32 := 1#32
  let v63 : BitVec 32 := Scalar.select v62 c1_i32_27 c2_i32_25
  let v64 : BitVec 32 := Scalar.remsi v23 v63
  let c0_i32_29 : BitVec 32 := 0#32
  let v66 : BitVec 1 := Scalar.cmpi .slt v64 c0_i32_29
  let c0_i32_30 : BitVec 32 := 0#32
  let v67 : BitVec 1 := Scalar.cmpi .slt v63 c0_i32_30
  let v68 : BitVec 1 := Scalar.xori v66 v67
  let c0_i32_28 : BitVec 32 := 0#32
  let v65 : BitVec 1 := Scalar.cmpi .ne v64 c0_i32_28
  let v69 : BitVec 1 := Scalar.andi v68 v65
  let v70 : BitVec 32 := Scalar.addi v64 v63
  let v71 : BitVec 32 := Scalar.select v69 v70 v64
  let v102 : BitVec 32 := Scalar.addi v101 v71
  let v103 : BitVec 32 := Scalar.muli c4_i32_45 v102
  let c4_i32_7 : BitVec 32 := 4#32
  let c0_i32_8 : BitVec 32 := 0#32
  let v24 : BitVec 1 := Scalar.cmpi .eq c4_i32_7 c0_i32_8
  let c1_i32_9 : BitVec 32 := 1#32
  let v25 : BitVec 32 := Scalar.select v24 c1_i32_9 c4_i32_7
  let v26 : BitVec 32 := Scalar.remsi v6 v25
  let c0_i32_11 : BitVec 32 := 0#32
  let v28 : BitVec 1 := Scalar.cmpi .slt v26 c0_i32_11
  let c0_i32_12 : BitVec 32 := 0#32
  let v29 : BitVec 1 := Scalar.cmpi .slt v25 c0_i32_12
  let v30 : BitVec 1 := Scalar.xori v28 v29
  let c0_i32_10 : BitVec 32 := 0#32
  let v27 : BitVec 1 := Scalar.cmpi .ne v26 c0_i32_10
  let v31 : BitVec 1 := Scalar.andi v30 v27
  let v32 : BitVec 32 := Scalar.addi v26 v25
  let v33 : BitVec 32 := Scalar.select v31 v32 v26
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v33 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_13 : BitVec 32 := 0#32
  let v35 : BitVec 1 := Scalar.cmpi .sgt v33 c0_i32_13
  let v36 : BitVec 32 := Scalar.extui v35
  let c0_i32_14 : BitVec 32 := 0#32
  let v37 : BitVec 1 := Scalar.cmpi .slt v33 c0_i32_14
  let v38 : BitVec 32 := Scalar.extui v37
  let v39 : BitVec 32 := Scalar.subi v36 v38
  let c2_i32 : BitVec 32 := 2#32
  let c0_i32_15 : BitVec 32 := 0#32
  let v40 : BitVec 1 := Scalar.cmpi .sgt c2_i32 c0_i32_15
  let v41 : BitVec 32 := Scalar.extui v40
  let c0_i32_16 : BitVec 32 := 0#32
  let v42 : BitVec 1 := Scalar.cmpi .slt c2_i32 c0_i32_16
  let v43 : BitVec 32 := Scalar.extui v42
  let v44 : BitVec 32 := Scalar.subi v41 v43
  let v45 : BitVec 1 := Scalar.cmpi .ne v39 v44
  let v46 : BitVec 32 := Scalar.remsi v33 c2_i32
  let c0_i32_17 : BitVec 32 := 0#32
  let v47 : BitVec 1 := Scalar.cmpi .ne v46 c0_i32_17
  let v48 : BitVec 1 := Scalar.andi v45 v47
  let v34 : BitVec 32 := Scalar.divsi v33 c2_i32
  let c1_i32_18 : BitVec 32 := 1#32
  let v49 : BitVec 32 := Scalar.subi v34 c1_i32_18
  let v50 : BitVec 32 := Scalar.select v48 v49 v34
  let v61 : BitVec 32 := Scalar.xori v60 v50
  let c1_i32_42 : BitVec 32 := 1#32
  let v97 : BitVec 32 := Scalar.subi c1_i32_42 v50
  let v98 : BitVec 32 := Scalar.xori v61 v97
  let c2_i32_43 : BitVec 32 := 2#32
  let v99 : BitVec 32 := Scalar.muli c2_i32_43 v97
  let v100 : BitVec 32 := Scalar.addi v98 v99
  let v104 : BitVec 32 := Scalar.addi v103 v100
  let c1_i32_1239 : BitVec 32 := 1#32
  let v1544 : BitVec 32 := Scalar.muli v104 c1_i32_1239
  let v1545 : BitVec 32 := Scalar.addi c0_i32_1240 v1544
  v1545.toNat
def k0_off61 (d0 : Dev nD) (c0_i32_1246 : BitVec 32) : Fin 2 → Nat :=
  let c512_i32_214 : BitVec 32 := 512#32
  let v4 : BitVec 32 := Dev.word d0
  let c1_i32_1 : BitVec 32 := 1#32
  let v5 : BitVec 32 := Scalar.divsi v4 c1_i32_1
  let c16_i32_0 : BitVec 32 := 16#32
  let v6 : BitVec 32 := Scalar.remsi v5 c16_i32_0
  let c4_i32_7 : BitVec 32 := 4#32
  let c0_i32_8 : BitVec 32 := 0#32
  let v24 : BitVec 1 := Scalar.cmpi .eq c4_i32_7 c0_i32_8
  let c1_i32_9 : BitVec 32 := 1#32
  let v25 : BitVec 32 := Scalar.select v24 c1_i32_9 c4_i32_7
  let v26 : BitVec 32 := Scalar.remsi v6 v25
  let c0_i32_11 : BitVec 32 := 0#32
  let v28 : BitVec 1 := Scalar.cmpi .slt v26 c0_i32_11
  let c0_i32_12 : BitVec 32 := 0#32
  let v29 : BitVec 1 := Scalar.cmpi .slt v25 c0_i32_12
  let v30 : BitVec 1 := Scalar.xori v28 v29
  let c0_i32_10 : BitVec 32 := 0#32
  let v27 : BitVec 1 := Scalar.cmpi .ne v26 c0_i32_10
  let v31 : BitVec 1 := Scalar.andi v30 v27
  let v32 : BitVec 32 := Scalar.addi v26 v25
  let v33 : BitVec 32 := Scalar.select v31 v32 v26
  let c0_i32_13 : BitVec 32 := 0#32
  let v35 : BitVec 1 := Scalar.cmpi .sgt v33 c0_i32_13
  let v36 : BitVec 32 := Scalar.extui v35
  let c0_i32_14 : BitVec 32 := 0#32
  let v37 : BitVec 1 := Scalar.cmpi .slt v33 c0_i32_14
  let v38 : BitVec 32 := Scalar.extui v37
  let v39 : BitVec 32 := Scalar.subi v36 v38
  let c2_i32 : BitVec 32 := 2#32
  let c0_i32_15 : BitVec 32 := 0#32
  let v40 : BitVec 1 := Scalar.cmpi .sgt c2_i32 c0_i32_15
  let v41 : BitVec 32 := Scalar.extui v40
  let c0_i32_16 : BitVec 32 := 0#32
  let v42 : BitVec 1 := Scalar.cmpi .slt c2_i32 c0_i32_16
  let v43 : BitVec 32 := Scalar.extui v42
  let v44 : BitVec 32 := Scalar.subi v41 v43
  let v45 : BitVec 1 := Scalar.cmpi .ne v39 v44
  let v46 : BitVec 32 := Scalar.remsi v33 c2_i32
  let c0_i32_17 : BitVec 32 := 0#32
  let v47 : BitVec 1 := Scalar.cmpi .ne v46 c0_i32_17
  let v48 : BitVec 1 := Scalar.andi v45 v47
  let v34 : BitVec 32 := Scalar.divsi v33 c2_i32
  let c1_i32_18 : BitVec 32 := 1#32
  let v49 : BitVec 32 := Scalar.subi v34 c1_i32_18
  let v50 : BitVec 32 := Scalar.select v48 v49 v34
  let c256_i32_213 : BitVec 32 := 256#32
  let v443 : BitVec 32 := Scalar.muli v50 c256_i32_213
  let v444 : BitVec 32 := Scalar.addi c512_i32_214 v443
  let c0_i32 : BitVec 32 := 0#32
  let v8 : BitVec 1 := Scalar.cmpi .sgt v6 c0_i32
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c4_i32 : BitVec 32 := 4#32
  let c0_i32_3 : BitVec 32 := 0#32
  let v13 : BitVec 1 := Scalar.cmpi .sgt c4_i32 c0_i32_3
  let v14 : BitVec 32 := Scalar.extui v13
  let c0_i32_4 : BitVec 32 := 0#32
  let v15 : BitVec 1 := Scalar.cmpi .slt c4_i32 c0_i32_4
  let v16 : BitVec 32 := Scalar.extui v15
  let v17 : BitVec 32 := Scalar.subi v14 v16
  let v18 : BitVec 1 := Scalar.cmpi .ne v12 v17
  let v19 : BitVec 32 := Scalar.remsi v6 c4_i32
  let c0_i32_5 : BitVec 32 := 0#32
  let v20 : BitVec 1 := Scalar.cmpi .ne v19 c0_i32_5
  let v21 : BitVec 1 := Scalar.andi v18 v20
  let v7 : BitVec 32 := Scalar.divsi v6 c4_i32
  let c1_i32_6 : BitVec 32 := 1#32
  let v22 : BitVec 32 := Scalar.subi v7 c1_i32_6
  let v23 : BitVec 32 := Scalar.select v21 v22 v7
  let c2_i32_25 : BitVec 32 := 2#32
  let c0_i32_26 : BitVec 32 := 0#32
  let v62 : BitVec 1 := Scalar.cmpi .eq c2_i32_25 c0_i32_26
  let c1_i32_27 : BitVec 32 := 1#32
  let v63 : BitVec 32 := Scalar.select v62 c1_i32_27 c2_i32_25
  let v64 : BitVec 32 := Scalar.remsi v23 v63
  let c0_i32_29 : BitVec 32 := 0#32
  let v66 : BitVec 1 := Scalar.cmpi .slt v64 c0_i32_29
  let c0_i32_30 : BitVec 32 := 0#32
  let v67 : BitVec 1 := Scalar.cmpi .slt v63 c0_i32_30
  let v68 : BitVec 1 := Scalar.xori v66 v67
  let c0_i32_28 : BitVec 32 := 0#32
  let v65 : BitVec 1 := Scalar.cmpi .ne v64 c0_i32_28
  let v69 : BitVec 1 := Scalar.andi v68 v65
  let v70 : BitVec 32 := Scalar.addi v64 v63
  let v71 : BitVec 32 := Scalar.select v69 v70 v64
  let c128_i32_451 : BitVec 32 := 128#32
  let v813 : BitVec 32 := Scalar.muli v71 c128_i32_451
  let v814 : BitVec 32 := Scalar.addi v444 v813
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v33 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let v61 : BitVec 32 := Scalar.xori v60 v50
  let c64_i32_607 : BitVec 32 := 64#32
  let v963 : BitVec 32 := Scalar.muli v61 c64_i32_607
  let v964 : BitVec 32 := Scalar.addi v814 v963
  let c0_i32_32 : BitVec 32 := 0#32
  let v73 : BitVec 1 := Scalar.cmpi .sgt v23 c0_i32_32
  let v74 : BitVec 32 := Scalar.extui v73
  let c0_i32_33 : BitVec 32 := 0#32
  let v75 : BitVec 1 := Scalar.cmpi .slt v23 c0_i32_33
  let v76 : BitVec 32 := Scalar.extui v75
  let v77 : BitVec 32 := Scalar.subi v74 v76
  let c2_i32_31 : BitVec 32 := 2#32
  let c0_i32_34 : BitVec 32 := 0#32
  let v78 : BitVec 1 := Scalar.cmpi .sgt c2_i32_31 c0_i32_34
  let v79 : BitVec 32 := Scalar.extui v78
  let c0_i32_35 : BitVec 32 := 0#32
  let v80 : BitVec 1 := Scalar.cmpi .slt c2_i32_31 c0_i32_35
  let v81 : BitVec 32 := Scalar.extui v80
  let v82 : BitVec 32 := Scalar.subi v79 v81
  let v83 : BitVec 1 := Scalar.cmpi .ne v77 v82
  let v84 : BitVec 32 := Scalar.remsi v23 c2_i32_31
  let c0_i32_36 : BitVec 32 := 0#32
  let v85 : BitVec 1 := Scalar.cmpi .ne v84 c0_i32_36
  let v86 : BitVec 1 := Scalar.andi v83 v85
  let v72 : BitVec 32 := Scalar.divsi v23 c2_i32_31
  let c1_i32_37 : BitVec 32 := 1#32
  let v87 : BitVec 32 := Scalar.subi v72 c1_i32_37
  let v88 : BitVec 32 := Scalar.select v86 v87 v72
  let c32_i32_764 : BitVec 32 := 32#32
  let v1113 : BitVec 32 := Scalar.muli v88 c32_i32_764
  let v1114 : BitVec 32 := Scalar.addi v964 v1113
  let c32_i32_920 : BitVec 32 := 32#32
  let v1263 : BitVec 32 := Scalar.muli v88 c32_i32_920
  let v1264 : BitVec 32 := Scalar.subi v1114 v1263
  let c64_i32_1074 : BitVec 32 := 64#32
  let v1397 : BitVec 32 := Scalar.muli v61 c64_i32_1074
  let v1398 : BitVec 32 := Scalar.subi v1264 v1397
  let v1553 : BitVec 32 := Scalar.addi v1398 c0_i32_1246
  let v1554 : Index := Scalar.indexCast v1553
  let c0_1247 : Index := 0#32
  ![v1554.toNat, 0]
def k0_dev30 (d0 : Dev nD) : Nat :=
  let c0_i32_1255 : BitVec 32 := 0#32
  let c4_i32_49 : BitVec 32 := 4#32
  let c2_i32_48 : BitVec 32 := 2#32
  let v4 : BitVec 32 := Dev.word d0
  let c1_i32_1 : BitVec 32 := 1#32
  let v5 : BitVec 32 := Scalar.divsi v4 c1_i32_1
  let c16_i32_0 : BitVec 32 := 16#32
  let v6 : BitVec 32 := Scalar.remsi v5 c16_i32_0
  let c0_i32 : BitVec 32 := 0#32
  let v8 : BitVec 1 := Scalar.cmpi .sgt v6 c0_i32
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c4_i32 : BitVec 32 := 4#32
  let c0_i32_3 : BitVec 32 := 0#32
  let v13 : BitVec 1 := Scalar.cmpi .sgt c4_i32 c0_i32_3
  let v14 : BitVec 32 := Scalar.extui v13
  let c0_i32_4 : BitVec 32 := 0#32
  let v15 : BitVec 1 := Scalar.cmpi .slt c4_i32 c0_i32_4
  let v16 : BitVec 32 := Scalar.extui v15
  let v17 : BitVec 32 := Scalar.subi v14 v16
  let v18 : BitVec 1 := Scalar.cmpi .ne v12 v17
  let v19 : BitVec 32 := Scalar.remsi v6 c4_i32
  let c0_i32_5 : BitVec 32 := 0#32
  let v20 : BitVec 1 := Scalar.cmpi .ne v19 c0_i32_5
  let v21 : BitVec 1 := Scalar.andi v18 v20
  let v7 : BitVec 32 := Scalar.divsi v6 c4_i32
  let c1_i32_6 : BitVec 32 := 1#32
  let v22 : BitVec 32 := Scalar.subi v7 c1_i32_6
  let v23 : BitVec 32 := Scalar.select v21 v22 v7
  let c0_i32_32 : BitVec 32 := 0#32
  let v73 : BitVec 1 := Scalar.cmpi .sgt v23 c0_i32_32
  let v74 : BitVec 32 := Scalar.extui v73
  let c0_i32_33 : BitVec 32 := 0#32
  let v75 : BitVec 1 := Scalar.cmpi .slt v23 c0_i32_33
  let v76 : BitVec 32 := Scalar.extui v75
  let v77 : BitVec 32 := Scalar.subi v74 v76
  let c2_i32_31 : BitVec 32 := 2#32
  let c0_i32_34 : BitVec 32 := 0#32
  let v78 : BitVec 1 := Scalar.cmpi .sgt c2_i32_31 c0_i32_34
  let v79 : BitVec 32 := Scalar.extui v78
  let c0_i32_35 : BitVec 32 := 0#32
  let v80 : BitVec 1 := Scalar.cmpi .slt c2_i32_31 c0_i32_35
  let v81 : BitVec 32 := Scalar.extui v80
  let v82 : BitVec 32 := Scalar.subi v79 v81
  let v83 : BitVec 1 := Scalar.cmpi .ne v77 v82
  let v84 : BitVec 32 := Scalar.remsi v23 c2_i32_31
  let c0_i32_36 : BitVec 32 := 0#32
  let v85 : BitVec 1 := Scalar.cmpi .ne v84 c0_i32_36
  let v86 : BitVec 1 := Scalar.andi v83 v85
  let v72 : BitVec 32 := Scalar.divsi v23 c2_i32_31
  let c1_i32_37 : BitVec 32 := 1#32
  let v87 : BitVec 32 := Scalar.subi v72 c1_i32_37
  let v88 : BitVec 32 := Scalar.select v86 v87 v72
  let v109 : BitVec 32 := Scalar.muli c2_i32_48 v88
  let c1_i32_46 : BitVec 32 := 1#32
  let c2_i32_25 : BitVec 32 := 2#32
  let c0_i32_26 : BitVec 32 := 0#32
  let v62 : BitVec 1 := Scalar.cmpi .eq c2_i32_25 c0_i32_26
  let c1_i32_27 : BitVec 32 := 1#32
  let v63 : BitVec 32 := Scalar.select v62 c1_i32_27 c2_i32_25
  let v64 : BitVec 32 := Scalar.remsi v23 v63
  let c0_i32_29 : BitVec 32 := 0#32
  let v66 : BitVec 1 := Scalar.cmpi .slt v64 c0_i32_29
  let c0_i32_30 : BitVec 32 := 0#32
  let v67 : BitVec 1 := Scalar.cmpi .slt v63 c0_i32_30
  let v68 : BitVec 1 := Scalar.xori v66 v67
  let c0_i32_28 : BitVec 32 := 0#32
  let v65 : BitVec 1 := Scalar.cmpi .ne v64 c0_i32_28
  let v69 : BitVec 1 := Scalar.andi v68 v65
  let v70 : BitVec 32 := Scalar.addi v64 v63
  let v71 : BitVec 32 := Scalar.select v69 v70 v64
  let v105 : BitVec 32 := Scalar.subi c1_i32_46 v71
  let v110 : BitVec 32 := Scalar.addi v109 v105
  let v111 : BitVec 32 := Scalar.muli c4_i32_49 v110
  let c4_i32_7 : BitVec 32 := 4#32
  let c0_i32_8 : BitVec 32 := 0#32
  let v24 : BitVec 1 := Scalar.cmpi .eq c4_i32_7 c0_i32_8
  let c1_i32_9 : BitVec 32 := 1#32
  let v25 : BitVec 32 := Scalar.select v24 c1_i32_9 c4_i32_7
  let v26 : BitVec 32 := Scalar.remsi v6 v25
  let c0_i32_11 : BitVec 32 := 0#32
  let v28 : BitVec 1 := Scalar.cmpi .slt v26 c0_i32_11
  let c0_i32_12 : BitVec 32 := 0#32
  let v29 : BitVec 1 := Scalar.cmpi .slt v25 c0_i32_12
  let v30 : BitVec 1 := Scalar.xori v28 v29
  let c0_i32_10 : BitVec 32 := 0#32
  let v27 : BitVec 1 := Scalar.cmpi .ne v26 c0_i32_10
  let v31 : BitVec 1 := Scalar.andi v30 v27
  let v32 : BitVec 32 := Scalar.addi v26 v25
  let v33 : BitVec 32 := Scalar.select v31 v32 v26
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v33 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_13 : BitVec 32 := 0#32
  let v35 : BitVec 1 := Scalar.cmpi .sgt v33 c0_i32_13
  let v36 : BitVec 32 := Scalar.extui v35
  let c0_i32_14 : BitVec 32 := 0#32
  let v37 : BitVec 1 := Scalar.cmpi .slt v33 c0_i32_14
  let v38 : BitVec 32 := Scalar.extui v37
  let v39 : BitVec 32 := Scalar.subi v36 v38
  let c2_i32 : BitVec 32 := 2#32
  let c0_i32_15 : BitVec 32 := 0#32
  let v40 : BitVec 1 := Scalar.cmpi .sgt c2_i32 c0_i32_15
  let v41 : BitVec 32 := Scalar.extui v40
  let c0_i32_16 : BitVec 32 := 0#32
  let v42 : BitVec 1 := Scalar.cmpi .slt c2_i32 c0_i32_16
  let v43 : BitVec 32 := Scalar.extui v42
  let v44 : BitVec 32 := Scalar.subi v41 v43
  let v45 : BitVec 1 := Scalar.cmpi .ne v39 v44
  let v46 : BitVec 32 := Scalar.remsi v33 c2_i32
  let c0_i32_17 : BitVec 32 := 0#32
  let v47 : BitVec 1 := Scalar.cmpi .ne v46 c0_i32_17
  let v48 : BitVec 1 := Scalar.andi v45 v47
  let v34 : BitVec 32 := Scalar.divsi v33 c2_i32
  let c1_i32_18 : BitVec 32 := 1#32
  let v49 : BitVec 32 := Scalar.subi v34 c1_i32_18
  let v50 : BitVec 32 := Scalar.select v48 v49 v34
  let v61 : BitVec 32 := Scalar.xori v60 v50
  let v106 : BitVec 32 := Scalar.xori v61 v50
  let c2_i32_47 : BitVec 32 := 2#32
  let v107 : BitVec 32 := Scalar.muli c2_i32_47 v50
  let v108 : BitVec 32 := Scalar.addi v106 v107
  let v112 : BitVec 32 := Scalar.addi v111 v108
  let c1_i32_1254 : BitVec 32 := 1#32
  let v1561 : BitVec 32 := Scalar.muli v112 c1_i32_1254
  let v1562 : BitVec 32 := Scalar.addi c0_i32_1255 v1561
  v1562.toNat
def k0_dev31 (d0 : Dev nD) : Nat :=
  let c0_i32_1270 : BitVec 32 := 0#32
  let c4_i32_45 : BitVec 32 := 4#32
  let c2_i32_44 : BitVec 32 := 2#32
  let v4 : BitVec 32 := Dev.word d0
  let c1_i32_1 : BitVec 32 := 1#32
  let v5 : BitVec 32 := Scalar.divsi v4 c1_i32_1
  let c16_i32_0 : BitVec 32 := 16#32
  let v6 : BitVec 32 := Scalar.remsi v5 c16_i32_0
  let c0_i32 : BitVec 32 := 0#32
  let v8 : BitVec 1 := Scalar.cmpi .sgt v6 c0_i32
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c4_i32 : BitVec 32 := 4#32
  let c0_i32_3 : BitVec 32 := 0#32
  let v13 : BitVec 1 := Scalar.cmpi .sgt c4_i32 c0_i32_3
  let v14 : BitVec 32 := Scalar.extui v13
  let c0_i32_4 : BitVec 32 := 0#32
  let v15 : BitVec 1 := Scalar.cmpi .slt c4_i32 c0_i32_4
  let v16 : BitVec 32 := Scalar.extui v15
  let v17 : BitVec 32 := Scalar.subi v14 v16
  let v18 : BitVec 1 := Scalar.cmpi .ne v12 v17
  let v19 : BitVec 32 := Scalar.remsi v6 c4_i32
  let c0_i32_5 : BitVec 32 := 0#32
  let v20 : BitVec 1 := Scalar.cmpi .ne v19 c0_i32_5
  let v21 : BitVec 1 := Scalar.andi v18 v20
  let v7 : BitVec 32 := Scalar.divsi v6 c4_i32
  let c1_i32_6 : BitVec 32 := 1#32
  let v22 : BitVec 32 := Scalar.subi v7 c1_i32_6
  let v23 : BitVec 32 := Scalar.select v21 v22 v7
  let c0_i32_32 : BitVec 32 := 0#32
  let v73 : BitVec 1 := Scalar.cmpi .sgt v23 c0_i32_32
  let v74 : BitVec 32 := Scalar.extui v73
  let c0_i32_33 : BitVec 32 := 0#32
  let v75 : BitVec 1 := Scalar.cmpi .slt v23 c0_i32_33
  let v76 : BitVec 32 := Scalar.extui v75
  let v77 : BitVec 32 := Scalar.subi v74 v76
  let c2_i32_31 : BitVec 32 := 2#32
  let c0_i32_34 : BitVec 32 := 0#32
  let v78 : BitVec 1 := Scalar.cmpi .sgt c2_i32_31 c0_i32_34
  let v79 : BitVec 32 := Scalar.extui v78
  let c0_i32_35 : BitVec 32 := 0#32
  let v80 : BitVec 1 := Scalar.cmpi .slt c2_i32_31 c0_i32_35
  let v81 : BitVec 32 := Scalar.extui v80
  let v82 : BitVec 32 := Scalar.subi v79 v81
  let v83 : BitVec 1 := Scalar.cmpi .ne v77 v82
  let v84 : BitVec 32 := Scalar.remsi v23 c2_i32_31
  let c0_i32_36 : BitVec 32 := 0#32
  let v85 : BitVec 1 := Scalar.cmpi .ne v84 c0_i32_36
  let v86 : BitVec 1 := Scalar.andi v83 v85
  let v72 : BitVec 32 := Scalar.divsi v23 c2_i32_31
  let c1_i32_37 : BitVec 32 := 1#32
  let v87 : BitVec 32 := Scalar.subi v72 c1_i32_37
  let v88 : BitVec 32 := Scalar.select v86 v87 v72
  let v101 : BitVec 32 := Scalar.muli c2_i32_44 v88
  let c2_i32_25 : BitVec 32 := 2#32
  let c0_i32_26 : BitVec 32 := 0#32
  let v62 : BitVec 1 := Scalar.cmpi .eq c2_i32_25 c0_i32_26
  let c1_i32_27 : BitVec 32 := 1#32
  let v63 : BitVec 32 := Scalar.select v62 c1_i32_27 c2_i32_25
  let v64 : BitVec 32 := Scalar.remsi v23 v63
  let c0_i32_29 : BitVec 32 := 0#32
  let v66 : BitVec 1 := Scalar.cmpi .slt v64 c0_i32_29
  let c0_i32_30 : BitVec 32 := 0#32
  let v67 : BitVec 1 := Scalar.cmpi .slt v63 c0_i32_30
  let v68 : BitVec 1 := Scalar.xori v66 v67
  let c0_i32_28 : BitVec 32 := 0#32
  let v65 : BitVec 1 := Scalar.cmpi .ne v64 c0_i32_28
  let v69 : BitVec 1 := Scalar.andi v68 v65
  let v70 : BitVec 32 := Scalar.addi v64 v63
  let v71 : BitVec 32 := Scalar.select v69 v70 v64
  let v102 : BitVec 32 := Scalar.addi v101 v71
  let v103 : BitVec 32 := Scalar.muli c4_i32_45 v102
  let c4_i32_7 : BitVec 32 := 4#32
  let c0_i32_8 : BitVec 32 := 0#32
  let v24 : BitVec 1 := Scalar.cmpi .eq c4_i32_7 c0_i32_8
  let c1_i32_9 : BitVec 32 := 1#32
  let v25 : BitVec 32 := Scalar.select v24 c1_i32_9 c4_i32_7
  let v26 : BitVec 32 := Scalar.remsi v6 v25
  let c0_i32_11 : BitVec 32 := 0#32
  let v28 : BitVec 1 := Scalar.cmpi .slt v26 c0_i32_11
  let c0_i32_12 : BitVec 32 := 0#32
  let v29 : BitVec 1 := Scalar.cmpi .slt v25 c0_i32_12
  let v30 : BitVec 1 := Scalar.xori v28 v29
  let c0_i32_10 : BitVec 32 := 0#32
  let v27 : BitVec 1 := Scalar.cmpi .ne v26 c0_i32_10
  let v31 : BitVec 1 := Scalar.andi v30 v27
  let v32 : BitVec 32 := Scalar.addi v26 v25
  let v33 : BitVec 32 := Scalar.select v31 v32 v26
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v33 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_13 : BitVec 32 := 0#32
  let v35 : BitVec 1 := Scalar.cmpi .sgt v33 c0_i32_13
  let v36 : BitVec 32 := Scalar.extui v35
  let c0_i32_14 : BitVec 32 := 0#32
  let v37 : BitVec 1 := Scalar.cmpi .slt v33 c0_i32_14
  let v38 : BitVec 32 := Scalar.extui v37
  let v39 : BitVec 32 := Scalar.subi v36 v38
  let c2_i32 : BitVec 32 := 2#32
  let c0_i32_15 : BitVec 32 := 0#32
  let v40 : BitVec 1 := Scalar.cmpi .sgt c2_i32 c0_i32_15
  let v41 : BitVec 32 := Scalar.extui v40
  let c0_i32_16 : BitVec 32 := 0#32
  let v42 : BitVec 1 := Scalar.cmpi .slt c2_i32 c0_i32_16
  let v43 : BitVec 32 := Scalar.extui v42
  let v44 : BitVec 32 := Scalar.subi v41 v43
  let v45 : BitVec 1 := Scalar.cmpi .ne v39 v44
  let v46 : BitVec 32 := Scalar.remsi v33 c2_i32
  let c0_i32_17 : BitVec 32 := 0#32
  let v47 : BitVec 1 := Scalar.cmpi .ne v46 c0_i32_17
  let v48 : BitVec 1 := Scalar.andi v45 v47
  let v34 : BitVec 32 := Scalar.divsi v33 c2_i32
  let c1_i32_18 : BitVec 32 := 1#32
  let v49 : BitVec 32 := Scalar.subi v34 c1_i32_18
  let v50 : BitVec 32 := Scalar.select v48 v49 v34
  let v61 : BitVec 32 := Scalar.xori v60 v50
  let c1_i32_42 : BitVec 32 := 1#32
  let v97 : BitVec 32 := Scalar.subi c1_i32_42 v50
  let v98 : BitVec 32 := Scalar.xori v61 v97
  let c2_i32_43 : BitVec 32 := 2#32
  let v99 : BitVec 32 := Scalar.muli c2_i32_43 v97
  let v100 : BitVec 32 := Scalar.addi v98 v99
  let v104 : BitVec 32 := Scalar.addi v103 v100
  let c1_i32_1269 : BitVec 32 := 1#32
  let v1578 : BitVec 32 := Scalar.muli v104 c1_i32_1269
  let v1579 : BitVec 32 := Scalar.addi c0_i32_1270 v1578
  v1579.toNat
def k0_dev32 (d0 : Dev nD) : Nat :=
  let c0_i32_1285 : BitVec 32 := 0#32
  let c4_i32_49 : BitVec 32 := 4#32
  let c2_i32_48 : BitVec 32 := 2#32
  let v4 : BitVec 32 := Dev.word d0
  let c1_i32_1 : BitVec 32 := 1#32
  let v5 : BitVec 32 := Scalar.divsi v4 c1_i32_1
  let c16_i32_0 : BitVec 32 := 16#32
  let v6 : BitVec 32 := Scalar.remsi v5 c16_i32_0
  let c0_i32 : BitVec 32 := 0#32
  let v8 : BitVec 1 := Scalar.cmpi .sgt v6 c0_i32
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c4_i32 : BitVec 32 := 4#32
  let c0_i32_3 : BitVec 32 := 0#32
  let v13 : BitVec 1 := Scalar.cmpi .sgt c4_i32 c0_i32_3
  let v14 : BitVec 32 := Scalar.extui v13
  let c0_i32_4 : BitVec 32 := 0#32
  let v15 : BitVec 1 := Scalar.cmpi .slt c4_i32 c0_i32_4
  let v16 : BitVec 32 := Scalar.extui v15
  let v17 : BitVec 32 := Scalar.subi v14 v16
  let v18 : BitVec 1 := Scalar.cmpi .ne v12 v17
  let v19 : BitVec 32 := Scalar.remsi v6 c4_i32
  let c0_i32_5 : BitVec 32 := 0#32
  let v20 : BitVec 1 := Scalar.cmpi .ne v19 c0_i32_5
  let v21 : BitVec 1 := Scalar.andi v18 v20
  let v7 : BitVec 32 := Scalar.divsi v6 c4_i32
  let c1_i32_6 : BitVec 32 := 1#32
  let v22 : BitVec 32 := Scalar.subi v7 c1_i32_6
  let v23 : BitVec 32 := Scalar.select v21 v22 v7
  let c0_i32_32 : BitVec 32 := 0#32
  let v73 : BitVec 1 := Scalar.cmpi .sgt v23 c0_i32_32
  let v74 : BitVec 32 := Scalar.extui v73
  let c0_i32_33 : BitVec 32 := 0#32
  let v75 : BitVec 1 := Scalar.cmpi .slt v23 c0_i32_33
  let v76 : BitVec 32 := Scalar.extui v75
  let v77 : BitVec 32 := Scalar.subi v74 v76
  let c2_i32_31 : BitVec 32 := 2#32
  let c0_i32_34 : BitVec 32 := 0#32
  let v78 : BitVec 1 := Scalar.cmpi .sgt c2_i32_31 c0_i32_34
  let v79 : BitVec 32 := Scalar.extui v78
  let c0_i32_35 : BitVec 32 := 0#32
  let v80 : BitVec 1 := Scalar.cmpi .slt c2_i32_31 c0_i32_35
  let v81 : BitVec 32 := Scalar.extui v80
  let v82 : BitVec 32 := Scalar.subi v79 v81
  let v83 : BitVec 1 := Scalar.cmpi .ne v77 v82
  let v84 : BitVec 32 := Scalar.remsi v23 c2_i32_31
  let c0_i32_36 : BitVec 32 := 0#32
  let v85 : BitVec 1 := Scalar.cmpi .ne v84 c0_i32_36
  let v86 : BitVec 1 := Scalar.andi v83 v85
  let v72 : BitVec 32 := Scalar.divsi v23 c2_i32_31
  let c1_i32_37 : BitVec 32 := 1#32
  let v87 : BitVec 32 := Scalar.subi v72 c1_i32_37
  let v88 : BitVec 32 := Scalar.select v86 v87 v72
  let v109 : BitVec 32 := Scalar.muli c2_i32_48 v88
  let c1_i32_46 : BitVec 32 := 1#32
  let c2_i32_25 : BitVec 32 := 2#32
  let c0_i32_26 : BitVec 32 := 0#32
  let v62 : BitVec 1 := Scalar.cmpi .eq c2_i32_25 c0_i32_26
  let c1_i32_27 : BitVec 32 := 1#32
  let v63 : BitVec 32 := Scalar.select v62 c1_i32_27 c2_i32_25
  let v64 : BitVec 32 := Scalar.remsi v23 v63
  let c0_i32_29 : BitVec 32 := 0#32
  let v66 : BitVec 1 := Scalar.cmpi .slt v64 c0_i32_29
  let c0_i32_30 : BitVec 32 := 0#32
  let v67 : BitVec 1 := Scalar.cmpi .slt v63 c0_i32_30
  let v68 : BitVec 1 := Scalar.xori v66 v67
  let c0_i32_28 : BitVec 32 := 0#32
  let v65 : BitVec 1 := Scalar.cmpi .ne v64 c0_i32_28
  let v69 : BitVec 1 := Scalar.andi v68 v65
  let v70 : BitVec 32 := Scalar.addi v64 v63
  let v71 : BitVec 32 := Scalar.select v69 v70 v64
  let v105 : BitVec 32 := Scalar.subi c1_i32_46 v71
  let v110 : BitVec 32 := Scalar.addi v109 v105
  let v111 : BitVec 32 := Scalar.muli c4_i32_49 v110
  let c4_i32_7 : BitVec 32 := 4#32
  let c0_i32_8 : BitVec 32 := 0#32
  let v24 : BitVec 1 := Scalar.cmpi .eq c4_i32_7 c0_i32_8
  let c1_i32_9 : BitVec 32 := 1#32
  let v25 : BitVec 32 := Scalar.select v24 c1_i32_9 c4_i32_7
  let v26 : BitVec 32 := Scalar.remsi v6 v25
  let c0_i32_11 : BitVec 32 := 0#32
  let v28 : BitVec 1 := Scalar.cmpi .slt v26 c0_i32_11
  let c0_i32_12 : BitVec 32 := 0#32
  let v29 : BitVec 1 := Scalar.cmpi .slt v25 c0_i32_12
  let v30 : BitVec 1 := Scalar.xori v28 v29
  let c0_i32_10 : BitVec 32 := 0#32
  let v27 : BitVec 1 := Scalar.cmpi .ne v26 c0_i32_10
  let v31 : BitVec 1 := Scalar.andi v30 v27
  let v32 : BitVec 32 := Scalar.addi v26 v25
  let v33 : BitVec 32 := Scalar.select v31 v32 v26
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v33 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_13 : BitVec 32 := 0#32
  let v35 : BitVec 1 := Scalar.cmpi .sgt v33 c0_i32_13
  let v36 : BitVec 32 := Scalar.extui v35
  let c0_i32_14 : BitVec 32 := 0#32
  let v37 : BitVec 1 := Scalar.cmpi .slt v33 c0_i32_14
  let v38 : BitVec 32 := Scalar.extui v37
  let v39 : BitVec 32 := Scalar.subi v36 v38
  let c2_i32 : BitVec 32 := 2#32
  let c0_i32_15 : BitVec 32 := 0#32
  let v40 : BitVec 1 := Scalar.cmpi .sgt c2_i32 c0_i32_15
  let v41 : BitVec 32 := Scalar.extui v40
  let c0_i32_16 : BitVec 32 := 0#32
  let v42 : BitVec 1 := Scalar.cmpi .slt c2_i32 c0_i32_16
  let v43 : BitVec 32 := Scalar.extui v42
  let v44 : BitVec 32 := Scalar.subi v41 v43
  let v45 : BitVec 1 := Scalar.cmpi .ne v39 v44
  let v46 : BitVec 32 := Scalar.remsi v33 c2_i32
  let c0_i32_17 : BitVec 32 := 0#32
  let v47 : BitVec 1 := Scalar.cmpi .ne v46 c0_i32_17
  let v48 : BitVec 1 := Scalar.andi v45 v47
  let v34 : BitVec 32 := Scalar.divsi v33 c2_i32
  let c1_i32_18 : BitVec 32 := 1#32
  let v49 : BitVec 32 := Scalar.subi v34 c1_i32_18
  let v50 : BitVec 32 := Scalar.select v48 v49 v34
  let v61 : BitVec 32 := Scalar.xori v60 v50
  let v106 : BitVec 32 := Scalar.xori v61 v50
  let c2_i32_47 : BitVec 32 := 2#32
  let v107 : BitVec 32 := Scalar.muli c2_i32_47 v50
  let v108 : BitVec 32 := Scalar.addi v106 v107
  let v112 : BitVec 32 := Scalar.addi v111 v108
  let c1_i32_1284 : BitVec 32 := 1#32
  let v1595 : BitVec 32 := Scalar.muli v112 c1_i32_1284
  let v1596 : BitVec 32 := Scalar.addi c0_i32_1285 v1595
  v1596.toNat
def k0_off62 (d0 : Dev nD) (c0_i32_1245 : BitVec 32) : Fin 2 → Nat :=
  let c0_i32_209 : BitVec 32 := 0#32
  let v4 : BitVec 32 := Dev.word d0
  let c1_i32_1 : BitVec 32 := 1#32
  let v5 : BitVec 32 := Scalar.divsi v4 c1_i32_1
  let c16_i32_0 : BitVec 32 := 16#32
  let v6 : BitVec 32 := Scalar.remsi v5 c16_i32_0
  let c4_i32_7 : BitVec 32 := 4#32
  let c0_i32_8 : BitVec 32 := 0#32
  let v24 : BitVec 1 := Scalar.cmpi .eq c4_i32_7 c0_i32_8
  let c1_i32_9 : BitVec 32 := 1#32
  let v25 : BitVec 32 := Scalar.select v24 c1_i32_9 c4_i32_7
  let v26 : BitVec 32 := Scalar.remsi v6 v25
  let c0_i32_11 : BitVec 32 := 0#32
  let v28 : BitVec 1 := Scalar.cmpi .slt v26 c0_i32_11
  let c0_i32_12 : BitVec 32 := 0#32
  let v29 : BitVec 1 := Scalar.cmpi .slt v25 c0_i32_12
  let v30 : BitVec 1 := Scalar.xori v28 v29
  let c0_i32_10 : BitVec 32 := 0#32
  let v27 : BitVec 1 := Scalar.cmpi .ne v26 c0_i32_10
  let v31 : BitVec 1 := Scalar.andi v30 v27
  let v32 : BitVec 32 := Scalar.addi v26 v25
  let v33 : BitVec 32 := Scalar.select v31 v32 v26
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v33 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_13 : BitVec 32 := 0#32
  let v35 : BitVec 1 := Scalar.cmpi .sgt v33 c0_i32_13
  let v36 : BitVec 32 := Scalar.extui v35
  let c0_i32_14 : BitVec 32 := 0#32
  let v37 : BitVec 1 := Scalar.cmpi .slt v33 c0_i32_14
  let v38 : BitVec 32 := Scalar.extui v37
  let v39 : BitVec 32 := Scalar.subi v36 v38
  let c2_i32 : BitVec 32 := 2#32
  let c0_i32_15 : BitVec 32 := 0#32
  let v40 : BitVec 1 := Scalar.cmpi .sgt c2_i32 c0_i32_15
  let v41 : BitVec 32 := Scalar.extui v40
  let c0_i32_16 : BitVec 32 := 0#32
  let v42 : BitVec 1 := Scalar.cmpi .slt c2_i32 c0_i32_16
  let v43 : BitVec 32 := Scalar.extui v42
  let v44 : BitVec 32 := Scalar.subi v41 v43
  let v45 : BitVec 1 := Scalar.cmpi .ne v39 v44
  let v46 : BitVec 32 := Scalar.remsi v33 c2_i32
  let c0_i32_17 : BitVec 32 := 0#32
  let v47 : BitVec 1 := Scalar.cmpi .ne v46 c0_i32_17
  let v48 : BitVec 1 := Scalar.andi v45 v47
  let v34 : BitVec 32 := Scalar.divsi v33 c2_i32
  let c1_i32_18 : BitVec 32 := 1#32
  let v49 : BitVec 32 := Scalar.subi v34 c1_i32_18
  let v50 : BitVec 32 := Scalar.select v48 v49 v34
  let v61 : BitVec 32 := Scalar.xori v60 v50
  let c256_i32_208 : BitVec 32 := 256#32
  let v438 : BitVec 32 := Scalar.muli v61 c256_i32_208
  let v439 : BitVec 32 := Scalar.addi c0_i32_209 v438
  let c128_i32_448 : BitVec 32 := 128#32
  let v808 : BitVec 32 := Scalar.muli v50 c128_i32_448
  let v809 : BitVec 32 := Scalar.addi v439 v808
  let c0_i32 : BitVec 32 := 0#32
  let v8 : BitVec 1 := Scalar.cmpi .sgt v6 c0_i32
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c4_i32 : BitVec 32 := 4#32
  let c0_i32_3 : BitVec 32 := 0#32
  let v13 : BitVec 1 := Scalar.cmpi .sgt c4_i32 c0_i32_3
  let v14 : BitVec 32 := Scalar.extui v13
  let c0_i32_4 : BitVec 32 := 0#32
  let v15 : BitVec 1 := Scalar.cmpi .slt c4_i32 c0_i32_4
  let v16 : BitVec 32 := Scalar.extui v15
  let v17 : BitVec 32 := Scalar.subi v14 v16
  let v18 : BitVec 1 := Scalar.cmpi .ne v12 v17
  let v19 : BitVec 32 := Scalar.remsi v6 c4_i32
  let c0_i32_5 : BitVec 32 := 0#32
  let v20 : BitVec 1 := Scalar.cmpi .ne v19 c0_i32_5
  let v21 : BitVec 1 := Scalar.andi v18 v20
  let v7 : BitVec 32 := Scalar.divsi v6 c4_i32
  let c1_i32_6 : BitVec 32 := 1#32
  let v22 : BitVec 32 := Scalar.subi v7 c1_i32_6
  let v23 : BitVec 32 := Scalar.select v21 v22 v7
  let c2_i32_25 : BitVec 32 := 2#32
  let c0_i32_26 : BitVec 32 := 0#32
  let v62 : BitVec 1 := Scalar.cmpi .eq c2_i32_25 c0_i32_26
  let c1_i32_27 : BitVec 32 := 1#32
  let v63 : BitVec 32 := Scalar.select v62 c1_i32_27 c2_i32_25
  let v64 : BitVec 32 := Scalar.remsi v23 v63
  let c0_i32_29 : BitVec 32 := 0#32
  let v66 : BitVec 1 := Scalar.cmpi .slt v64 c0_i32_29
  let c0_i32_30 : BitVec 32 := 0#32
  let v67 : BitVec 1 := Scalar.cmpi .slt v63 c0_i32_30
  let v68 : BitVec 1 := Scalar.xori v66 v67
  let c0_i32_28 : BitVec 32 := 0#32
  let v65 : BitVec 1 := Scalar.cmpi .ne v64 c0_i32_28
  let v69 : BitVec 1 := Scalar.andi v68 v65
  let v70 : BitVec 32 := Scalar.addi v64 v63
  let v71 : BitVec 32 := Scalar.select v69 v70 v64
  let c64_i32_604 : BitVec 32 := 64#32
  let v958 : BitVec 32 := Scalar.muli v71 c64_i32_604
  let v959 : BitVec 32 := Scalar.addi v809 v958
  let c0_i32_32 : BitVec 32 := 0#32
  let v73 : BitVec 1 := Scalar.cmpi .sgt v23 c0_i32_32
  let v74 : BitVec 32 := Scalar.extui v73
  let c0_i32_33 : BitVec 32 := 0#32
  let v75 : BitVec 1 := Scalar.cmpi .slt v23 c0_i32_33
  let v76 : BitVec 32 := Scalar.extui v75
  let v77 : BitVec 32 := Scalar.subi v74 v76
  let c2_i32_31 : BitVec 32 := 2#32
  let c0_i32_34 : BitVec 32 := 0#32
  let v78 : BitVec 1 := Scalar.cmpi .sgt c2_i32_31 c0_i32_34
  let v79 : BitVec 32 := Scalar.extui v78
  let c0_i32_35 : BitVec 32 := 0#32
  let v80 : BitVec 1 := Scalar.cmpi .slt c2_i32_31 c0_i32_35
  let v81 : BitVec 32 := Scalar.extui v80
  let v82 : BitVec 32 := Scalar.subi v79 v81
  let v83 : BitVec 1 := Scalar.cmpi .ne v77 v82
  let v84 : BitVec 32 := Scalar.remsi v23 c2_i32_31
  let c0_i32_36 : BitVec 32 := 0#32
  let v85 : BitVec 1 := Scalar.cmpi .ne v84 c0_i32_36
  let v86 : BitVec 1 := Scalar.andi v83 v85
  let v72 : BitVec 32 := Scalar.divsi v23 c2_i32_31
  let c1_i32_37 : BitVec 32 := 1#32
  let v87 : BitVec 32 := Scalar.subi v72 c1_i32_37
  let v88 : BitVec 32 := Scalar.select v86 v87 v72
  let c32_i32_761 : BitVec 32 := 32#32
  let v1108 : BitVec 32 := Scalar.muli v88 c32_i32_761
  let v1109 : BitVec 32 := Scalar.addi v959 v1108
  let c32_i32_917 : BitVec 32 := 32#32
  let v1258 : BitVec 32 := Scalar.muli v88 c32_i32_917
  let v1259 : BitVec 32 := Scalar.subi v1109 v1258
  let c64_i32_1071 : BitVec 32 := 64#32
  let v1392 : BitVec 32 := Scalar.muli v71 c64_i32_1071
  let v1393 : BitVec 32 := Scalar.subi v1259 v1392
  let c128_i32_1225 : BitVec 32 := 128#32
  let v1526 : BitVec 32 := Scalar.muli v50 c128_i32_1225
  let v1527 : BitVec 32 := Scalar.subi v1393 v1526
  let c1_i32_1226 : BitVec 32 := 1#32
  let v1528 : BitVec 32 := Scalar.subi c1_i32_1226 v50
  let c128_i32_1227 : BitVec 32 := 128#32
  let v1529 : BitVec 32 := Scalar.muli v1528 c128_i32_1227
  let v1530 : BitVec 32 := Scalar.addi v1527 v1529
  let v1552 : BitVec 32 := Scalar.addi v1530 c0_i32_1245
  let v1616 : Index := Scalar.indexCast v1552
  let c0_1312 : Index := 0#32
  ![v1616.toNat, 0]
def k0_off63 (d0 : Dev nD) (c0_i32_1260 : BitVec 32) : Fin 2 → Nat :=
  let c512_i32_214 : BitVec 32 := 512#32
  let v4 : BitVec 32 := Dev.word d0
  let c1_i32_1 : BitVec 32 := 1#32
  let v5 : BitVec 32 := Scalar.divsi v4 c1_i32_1
  let c16_i32_0 : BitVec 32 := 16#32
  let v6 : BitVec 32 := Scalar.remsi v5 c16_i32_0
  let c4_i32_7 : BitVec 32 := 4#32
  let c0_i32_8 : BitVec 32 := 0#32
  let v24 : BitVec 1 := Scalar.cmpi .eq c4_i32_7 c0_i32_8
  let c1_i32_9 : BitVec 32 := 1#32
  let v25 : BitVec 32 := Scalar.select v24 c1_i32_9 c4_i32_7
  let v26 : BitVec 32 := Scalar.remsi v6 v25
  let c0_i32_11 : BitVec 32 := 0#32
  let v28 : BitVec 1 := Scalar.cmpi .slt v26 c0_i32_11
  let c0_i32_12 : BitVec 32 := 0#32
  let v29 : BitVec 1 := Scalar.cmpi .slt v25 c0_i32_12
  let v30 : BitVec 1 := Scalar.xori v28 v29
  let c0_i32_10 : BitVec 32 := 0#32
  let v27 : BitVec 1 := Scalar.cmpi .ne v26 c0_i32_10
  let v31 : BitVec 1 := Scalar.andi v30 v27
  let v32 : BitVec 32 := Scalar.addi v26 v25
  let v33 : BitVec 32 := Scalar.select v31 v32 v26
  let c0_i32_13 : BitVec 32 := 0#32
  let v35 : BitVec 1 := Scalar.cmpi .sgt v33 c0_i32_13
  let v36 : BitVec 32 := Scalar.extui v35
  let c0_i32_14 : BitVec 32 := 0#32
  let v37 : BitVec 1 := Scalar.cmpi .slt v33 c0_i32_14
  let v38 : BitVec 32 := Scalar.extui v37
  let v39 : BitVec 32 := Scalar.subi v36 v38
  let c2_i32 : BitVec 32 := 2#32
  let c0_i32_15 : BitVec 32 := 0#32
  let v40 : BitVec 1 := Scalar.cmpi .sgt c2_i32 c0_i32_15
  let v41 : BitVec 32 := Scalar.extui v40
  let c0_i32_16 : BitVec 32 := 0#32
  let v42 : BitVec 1 := Scalar.cmpi .slt c2_i32 c0_i32_16
  let v43 : BitVec 32 := Scalar.extui v42
  let v44 : BitVec 32 := Scalar.subi v41 v43
  let v45 : BitVec 1 := Scalar.cmpi .ne v39 v44
  let v46 : BitVec 32 := Scalar.remsi v33 c2_i32
  let c0_i32_17 : BitVec 32 := 0#32
  let v47 : BitVec 1 := Scalar.cmpi .ne v46 c0_i32_17
  let v48 : BitVec 1 := Scalar.andi v45 v47
  let v34 : BitVec 32 := Scalar.divsi v33 c2_i32
  let c1_i32_18 : BitVec 32 := 1#32
  let v49 : BitVec 32 := Scalar.subi v34 c1_i32_18
  let v50 : BitVec 32 := Scalar.select v48 v49 v34
  let c256_i32_213 : BitVec 32 := 256#32
  let v443 : BitVec 32 := Scalar.muli v50 c256_i32_213
  let v444 : BitVec 32 := Scalar.addi c512_i32_214 v443
  let c0_i32 : BitVec 32 := 0#32
  let v8 : BitVec 1 := Scalar.cmpi .sgt v6 c0_i32
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c4_i32 : BitVec 32 := 4#32
  let c0_i32_3 : BitVec 32 := 0#32
  let v13 : BitVec 1 := Scalar.cmpi .sgt c4_i32 c0_i32_3
  let v14 : BitVec 32 := Scalar.extui v13
  let c0_i32_4 : BitVec 32 := 0#32
  let v15 : BitVec 1 := Scalar.cmpi .slt c4_i32 c0_i32_4
  let v16 : BitVec 32 := Scalar.extui v15
  let v17 : BitVec 32 := Scalar.subi v14 v16
  let v18 : BitVec 1 := Scalar.cmpi .ne v12 v17
  let v19 : BitVec 32 := Scalar.remsi v6 c4_i32
  let c0_i32_5 : BitVec 32 := 0#32
  let v20 : BitVec 1 := Scalar.cmpi .ne v19 c0_i32_5
  let v21 : BitVec 1 := Scalar.andi v18 v20
  let v7 : BitVec 32 := Scalar.divsi v6 c4_i32
  let c1_i32_6 : BitVec 32 := 1#32
  let v22 : BitVec 32 := Scalar.subi v7 c1_i32_6
  let v23 : BitVec 32 := Scalar.select v21 v22 v7
  let c2_i32_25 : BitVec 32 := 2#32
  let c0_i32_26 : BitVec 32 := 0#32
  let v62 : BitVec 1 := Scalar.cmpi .eq c2_i32_25 c0_i32_26
  let c1_i32_27 : BitVec 32 := 1#32
  let v63 : BitVec 32 := Scalar.select v62 c1_i32_27 c2_i32_25
  let v64 : BitVec 32 := Scalar.remsi v23 v63
  let c0_i32_29 : BitVec 32 := 0#32
  let v66 : BitVec 1 := Scalar.cmpi .slt v64 c0_i32_29
  let c0_i32_30 : BitVec 32 := 0#32
  let v67 : BitVec 1 := Scalar.cmpi .slt v63 c0_i32_30
  let v68 : BitVec 1 := Scalar.xori v66 v67
  let c0_i32_28 : BitVec 32 := 0#32
  let v65 : BitVec 1 := Scalar.cmpi .ne v64 c0_i32_28
  let v69 : BitVec 1 := Scalar.andi v68 v65
  let v70 : BitVec 32 := Scalar.addi v64 v63
  let v71 : BitVec 32 := Scalar.select v69 v70 v64
  let c128_i32_451 : BitVec 32 := 128#32
  let v813 : BitVec 32 := Scalar.muli v71 c128_i32_451
  let v814 : BitVec 32 := Scalar.addi v444 v813
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v33 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let v61 : BitVec 32 := Scalar.xori v60 v50
  let c64_i32_607 : BitVec 32 := 64#32
  let v963 : BitVec 32 := Scalar.muli v61 c64_i32_607
  let v964 : BitVec 32 := Scalar.addi v814 v963
  let c0_i32_32 : BitVec 32 := 0#32
  let v73 : BitVec 1 := Scalar.cmpi .sgt v23 c0_i32_32
  let v74 : BitVec 32 := Scalar.extui v73
  let c0_i32_33 : BitVec 32 := 0#32
  let v75 : BitVec 1 := Scalar.cmpi .slt v23 c0_i32_33
  let v76 : BitVec 32 := Scalar.extui v75
  let v77 : BitVec 32 := Scalar.subi v74 v76
  let c2_i32_31 : BitVec 32 := 2#32
  let c0_i32_34 : BitVec 32 := 0#32
  let v78 : BitVec 1 := Scalar.cmpi .sgt c2_i32_31 c0_i32_34
  let v79 : BitVec 32 := Scalar.extui v78
  let c0_i32_35 : BitVec 32 := 0#32
  let v80 : BitVec 1 := Scalar.cmpi .slt c2_i32_31 c0_i32_35
  let v81 : BitVec 32 := Scalar.extui v80
  let v82 : BitVec 32 := Scalar.subi v79 v81
  let v83 : BitVec 1 := Scalar.cmpi .ne v77 v82
  let v84 : BitVec 32 := Scalar.remsi v23 c2_i32_31
  let c0_i32_36 : BitVec 32 := 0#32
  let v85 : BitVec 1 := Scalar.cmpi .ne v84 c0_i32_36
  let v86 : BitVec 1 := Scalar.andi v83 v85
  let v72 : BitVec 32 := Scalar.divsi v23 c2_i32_31
  let c1_i32_37 : BitVec 32 := 1#32
  let v87 : BitVec 32 := Scalar.subi v72 c1_i32_37
  let v88 : BitVec 32 := Scalar.select v86 v87 v72
  let c32_i32_764 : BitVec 32 := 32#32
  let v1113 : BitVec 32 := Scalar.muli v88 c32_i32_764
  let v1114 : BitVec 32 := Scalar.addi v964 v1113
  let c32_i32_920 : BitVec 32 := 32#32
  let v1263 : BitVec 32 := Scalar.muli v88 c32_i32_920
  let v1264 : BitVec 32 := Scalar.subi v1114 v1263
  let c64_i32_1074 : BitVec 32 := 64#32
  let v1397 : BitVec 32 := Scalar.muli v61 c64_i32_1074
  let v1398 : BitVec 32 := Scalar.subi v1264 v1397
  let c128_i32_1228 : BitVec 32 := 128#32
  let v1531 : BitVec 32 := Scalar.muli v71 c128_i32_1228
  let v1532 : BitVec 32 := Scalar.subi v1398 v1531
  let c1_i32_1229 : BitVec 32 := 1#32
  let v1533 : BitVec 32 := Scalar.subi c1_i32_1229 v71
  let c128_i32_1230 : BitVec 32 := 128#32
  let v1534 : BitVec 32 := Scalar.muli v1533 c128_i32_1230
  let v1535 : BitVec 32 := Scalar.addi v1532 v1534
  let v1569 : BitVec 32 := Scalar.addi v1535 c0_i32_1260
  let v1630 : Index := Scalar.indexCast v1569
  let c0_1334 : Index := 0#32
  ![v1630.toNat, 0]
def k0_off64 (d0 : Dev nD) (c0_i32_1385 : BitVec 32) : Fin 2 → Nat :=
  let c0_i32_209 : BitVec 32 := 0#32
  let v4 : BitVec 32 := Dev.word d0
  let c1_i32_1 : BitVec 32 := 1#32
  let v5 : BitVec 32 := Scalar.divsi v4 c1_i32_1
  let c16_i32_0 : BitVec 32 := 16#32
  let v6 : BitVec 32 := Scalar.remsi v5 c16_i32_0
  let c4_i32_7 : BitVec 32 := 4#32
  let c0_i32_8 : BitVec 32 := 0#32
  let v24 : BitVec 1 := Scalar.cmpi .eq c4_i32_7 c0_i32_8
  let c1_i32_9 : BitVec 32 := 1#32
  let v25 : BitVec 32 := Scalar.select v24 c1_i32_9 c4_i32_7
  let v26 : BitVec 32 := Scalar.remsi v6 v25
  let c0_i32_11 : BitVec 32 := 0#32
  let v28 : BitVec 1 := Scalar.cmpi .slt v26 c0_i32_11
  let c0_i32_12 : BitVec 32 := 0#32
  let v29 : BitVec 1 := Scalar.cmpi .slt v25 c0_i32_12
  let v30 : BitVec 1 := Scalar.xori v28 v29
  let c0_i32_10 : BitVec 32 := 0#32
  let v27 : BitVec 1 := Scalar.cmpi .ne v26 c0_i32_10
  let v31 : BitVec 1 := Scalar.andi v30 v27
  let v32 : BitVec 32 := Scalar.addi v26 v25
  let v33 : BitVec 32 := Scalar.select v31 v32 v26
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v33 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_13 : BitVec 32 := 0#32
  let v35 : BitVec 1 := Scalar.cmpi .sgt v33 c0_i32_13
  let v36 : BitVec 32 := Scalar.extui v35
  let c0_i32_14 : BitVec 32 := 0#32
  let v37 : BitVec 1 := Scalar.cmpi .slt v33 c0_i32_14
  let v38 : BitVec 32 := Scalar.extui v37
  let v39 : BitVec 32 := Scalar.subi v36 v38
  let c2_i32 : BitVec 32 := 2#32
  let c0_i32_15 : BitVec 32 := 0#32
  let v40 : BitVec 1 := Scalar.cmpi .sgt c2_i32 c0_i32_15
  let v41 : BitVec 32 := Scalar.extui v40
  let c0_i32_16 : BitVec 32 := 0#32
  let v42 : BitVec 1 := Scalar.cmpi .slt c2_i32 c0_i32_16
  let v43 : BitVec 32 := Scalar.extui v42
  let v44 : BitVec 32 := Scalar.subi v41 v43
  let v45 : BitVec 1 := Scalar.cmpi .ne v39 v44
  let v46 : BitVec 32 := Scalar.remsi v33 c2_i32
  let c0_i32_17 : BitVec 32 := 0#32
  let v47 : BitVec 1 := Scalar.cmpi .ne v46 c0_i32_17
  let v48 : BitVec 1 := Scalar.andi v45 v47
  let v34 : BitVec 32 := Scalar.divsi v33 c2_i32
  let c1_i32_18 : BitVec 32 := 1#32
  let v49 : BitVec 32 := Scalar.subi v34 c1_i32_18
  let v50 : BitVec 32 := Scalar.select v48 v49 v34
  let v61 : BitVec 32 := Scalar.xori v60 v50
  let c256_i32_208 : BitVec 32 := 256#32
  let v438 : BitVec 32 := Scalar.muli v61 c256_i32_208
  let v439 : BitVec 32 := Scalar.addi c0_i32_209 v438
  let c128_i32_448 : BitVec 32 := 128#32
  let v808 : BitVec 32 := Scalar.muli v50 c128_i32_448
  let v809 : BitVec 32 := Scalar.addi v439 v808
  let c0_i32 : BitVec 32 := 0#32
  let v8 : BitVec 1 := Scalar.cmpi .sgt v6 c0_i32
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c4_i32 : BitVec 32 := 4#32
  let c0_i32_3 : BitVec 32 := 0#32
  let v13 : BitVec 1 := Scalar.cmpi .sgt c4_i32 c0_i32_3
  let v14 : BitVec 32 := Scalar.extui v13
  let c0_i32_4 : BitVec 32 := 0#32
  let v15 : BitVec 1 := Scalar.cmpi .slt c4_i32 c0_i32_4
  let v16 : BitVec 32 := Scalar.extui v15
  let v17 : BitVec 32 := Scalar.subi v14 v16
  let v18 : BitVec 1 := Scalar.cmpi .ne v12 v17
  let v19 : BitVec 32 := Scalar.remsi v6 c4_i32
  let c0_i32_5 : BitVec 32 := 0#32
  let v20 : BitVec 1 := Scalar.cmpi .ne v19 c0_i32_5
  let v21 : BitVec 1 := Scalar.andi v18 v20
  let v7 : BitVec 32 := Scalar.divsi v6 c4_i32
  let c1_i32_6 : BitVec 32 := 1#32
  let v22 : BitVec 32 := Scalar.subi v7 c1_i32_6
  let v23 : BitVec 32 := Scalar.select v21 v22 v7
  let c2_i32_25 : BitVec 32 := 2#32
  let c0_i32_26 : BitVec 32 := 0#32
  let v62 : BitVec 1 := Scalar.cmpi .eq c2_i32_25 c0_i32_26
  let c1_i32_27 : BitVec 32 := 1#32
  let v63 : BitVec 32 := Scalar.select v62 c1_i32_27 c2_i32_25
  let v64 : BitVec 32 := Scalar.remsi v23 v63
  let c0_i32_29 : BitVec 32 := 0#32
  let v66 : BitVec 1 := Scalar.cmpi .slt v64 c0_i32_29
  let c0_i32_30 : BitVec 32 := 0#32
  let v67 : BitVec 1 := Scalar.cmpi .slt v63 c0_i32_30
  let v68 : BitVec 1 := Scalar.xori v66 v67
  let c0_i32_28 : BitVec 32 := 0#32
  let v65 : BitVec 1 := Scalar.cmpi .ne v64 c0_i32_28
  let v69 : BitVec 1 := Scalar.andi v68 v65
  let v70 : BitVec 32 := Scalar.addi v64 v63
  let v71 : BitVec 32 := Scalar.select v69 v70 v64
  let c64_i32_604 : BitVec 32 := 64#32
  let v958 : BitVec 32 := Scalar.muli v71 c64_i32_604
  let v959 : BitVec 32 := Scalar.addi v809 v958
  let c0_i32_32 : BitVec 32 := 0#32
  let v73 : BitVec 1 := Scalar.cmpi .sgt v23 c0_i32_32
  let v74 : BitVec 32 := Scalar.extui v73
  let c0_i32_33 : BitVec 32 := 0#32
  let v75 : BitVec 1 := Scalar.cmpi .slt v23 c0_i32_33
  let v76 : BitVec 32 := Scalar.extui v75
  let v77 : BitVec 32 := Scalar.subi v74 v76
  let c2_i32_31 : BitVec 32 := 2#32
  let c0_i32_34 : BitVec 32 := 0#32
  let v78 : BitVec 1 := Scalar.cmpi .sgt c2_i32_31 c0_i32_34
  let v79 : BitVec 32 := Scalar.extui v78
  let c0_i32_35 : BitVec 32 := 0#32
  let v80 : BitVec 1 := Scalar.cmpi .slt c2_i32_31 c0_i32_35
  let v81 : BitVec 32 := Scalar.extui v80
  let v82 : BitVec 32 := Scalar.subi v79 v81
  let v83 : BitVec 1 := Scalar.cmpi .ne v77 v82
  let v84 : BitVec 32 := Scalar.remsi v23 c2_i32_31
  let c0_i32_36 : BitVec 32 := 0#32
  let v85 : BitVec 1 := Scalar.cmpi .ne v84 c0_i32_36
  let v86 : BitVec 1 := Scalar.andi v83 v85
  let v72 : BitVec 32 := Scalar.divsi v23 c2_i32_31
  let c1_i32_37 : BitVec 32 := 1#32
  let v87 : BitVec 32 := Scalar.subi v72 c1_i32_37
  let v88 : BitVec 32 := Scalar.select v86 v87 v72
  let c32_i32_761 : BitVec 32 := 32#32
  let v1108 : BitVec 32 := Scalar.muli v88 c32_i32_761
  let v1109 : BitVec 32 := Scalar.addi v959 v1108
  let c32_i32_917 : BitVec 32 := 32#32
  let v1258 : BitVec 32 := Scalar.muli v88 c32_i32_917
  let v1259 : BitVec 32 := Scalar.subi v1109 v1258
  let c64_i32_1071 : BitVec 32 := 64#32
  let v1392 : BitVec 32 := Scalar.muli v71 c64_i32_1071
  let v1393 : BitVec 32 := Scalar.subi v1259 v1392
  let c128_i32_1225 : BitVec 32 := 128#32
  let v1526 : BitVec 32 := Scalar.muli v50 c128_i32_1225
  let v1527 : BitVec 32 := Scalar.subi v1393 v1526
  let v1670 : BitVec 32 := Scalar.addi v1527 c0_i32_1385
  let v1671 : Index := Scalar.indexCast v1670
  let c0_1386 : Index := 0#32
  ![v1671.toNat, 0]
def k0_dev33 (d0 : Dev nD) : Nat :=
  let c0_i32_1394 : BitVec 32 := 0#32
  let c4_i32_41 : BitVec 32 := 4#32
  let c2_i32_40 : BitVec 32 := 2#32
  let v4 : BitVec 32 := Dev.word d0
  let c1_i32_1 : BitVec 32 := 1#32
  let v5 : BitVec 32 := Scalar.divsi v4 c1_i32_1
  let c16_i32_0 : BitVec 32 := 16#32
  let v6 : BitVec 32 := Scalar.remsi v5 c16_i32_0
  let c0_i32 : BitVec 32 := 0#32
  let v8 : BitVec 1 := Scalar.cmpi .sgt v6 c0_i32
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c4_i32 : BitVec 32 := 4#32
  let c0_i32_3 : BitVec 32 := 0#32
  let v13 : BitVec 1 := Scalar.cmpi .sgt c4_i32 c0_i32_3
  let v14 : BitVec 32 := Scalar.extui v13
  let c0_i32_4 : BitVec 32 := 0#32
  let v15 : BitVec 1 := Scalar.cmpi .slt c4_i32 c0_i32_4
  let v16 : BitVec 32 := Scalar.extui v15
  let v17 : BitVec 32 := Scalar.subi v14 v16
  let v18 : BitVec 1 := Scalar.cmpi .ne v12 v17
  let v19 : BitVec 32 := Scalar.remsi v6 c4_i32
  let c0_i32_5 : BitVec 32 := 0#32
  let v20 : BitVec 1 := Scalar.cmpi .ne v19 c0_i32_5
  let v21 : BitVec 1 := Scalar.andi v18 v20
  let v7 : BitVec 32 := Scalar.divsi v6 c4_i32
  let c1_i32_6 : BitVec 32 := 1#32
  let v22 : BitVec 32 := Scalar.subi v7 c1_i32_6
  let v23 : BitVec 32 := Scalar.select v21 v22 v7
  let c0_i32_32 : BitVec 32 := 0#32
  let v73 : BitVec 1 := Scalar.cmpi .sgt v23 c0_i32_32
  let v74 : BitVec 32 := Scalar.extui v73
  let c0_i32_33 : BitVec 32 := 0#32
  let v75 : BitVec 1 := Scalar.cmpi .slt v23 c0_i32_33
  let v76 : BitVec 32 := Scalar.extui v75
  let v77 : BitVec 32 := Scalar.subi v74 v76
  let c2_i32_31 : BitVec 32 := 2#32
  let c0_i32_34 : BitVec 32 := 0#32
  let v78 : BitVec 1 := Scalar.cmpi .sgt c2_i32_31 c0_i32_34
  let v79 : BitVec 32 := Scalar.extui v78
  let c0_i32_35 : BitVec 32 := 0#32
  let v80 : BitVec 1 := Scalar.cmpi .slt c2_i32_31 c0_i32_35
  let v81 : BitVec 32 := Scalar.extui v80
  let v82 : BitVec 32 := Scalar.subi v79 v81
  let v83 : BitVec 1 := Scalar.cmpi .ne v77 v82
  let v84 : BitVec 32 := Scalar.remsi v23 c2_i32_31
  let c0_i32_36 : BitVec 32 := 0#32
  let v85 : BitVec 1 := Scalar.cmpi .ne v84 c0_i32_36
  let v86 : BitVec 1 := Scalar.andi v83 v85
  let v72 : BitVec 32 := Scalar.divsi v23 c2_i32_31
  let c1_i32_37 : BitVec 32 := 1#32
  let v87 : BitVec 32 := Scalar.subi v72 c1_i32_37
  let v88 : BitVec 32 := Scalar.select v86 v87 v72
  let v93 : BitVec 32 := Scalar.muli c2_i32_40 v88
  let c2_i32_25 : BitVec 32 := 2#32
  let c0_i32_26 : BitVec 32 := 0#32
  let v62 : BitVec 1 := Scalar.cmpi .eq c2_i32_25 c0_i32_26
  let c1_i32_27 : BitVec 32 := 1#32
  let v63 : BitVec 32 := Scalar.select v62 c1_i32_27 c2_i32_25
  let v64 : BitVec 32 := Scalar.remsi v23 v63
  let c0_i32_29 : BitVec 32 := 0#32
  let v66 : BitVec 1 := Scalar.cmpi .slt v64 c0_i32_29
  let c0_i32_30 : BitVec 32 := 0#32
  let v67 : BitVec 1 := Scalar.cmpi .slt v63 c0_i32_30
  let v68 : BitVec 1 := Scalar.xori v66 v67
  let c0_i32_28 : BitVec 32 := 0#32
  let v65 : BitVec 1 := Scalar.cmpi .ne v64 c0_i32_28
  let v69 : BitVec 1 := Scalar.andi v68 v65
  let v70 : BitVec 32 := Scalar.addi v64 v63
  let v71 : BitVec 32 := Scalar.select v69 v70 v64
  let v94 : BitVec 32 := Scalar.addi v93 v71
  let v95 : BitVec 32 := Scalar.muli c4_i32_41 v94
  let c1_i32_38 : BitVec 32 := 1#32
  let c4_i32_7 : BitVec 32 := 4#32
  let c0_i32_8 : BitVec 32 := 0#32
  let v24 : BitVec 1 := Scalar.cmpi .eq c4_i32_7 c0_i32_8
  let c1_i32_9 : BitVec 32 := 1#32
  let v25 : BitVec 32 := Scalar.select v24 c1_i32_9 c4_i32_7
  let v26 : BitVec 32 := Scalar.remsi v6 v25
  let c0_i32_11 : BitVec 32 := 0#32
  let v28 : BitVec 1 := Scalar.cmpi .slt v26 c0_i32_11
  let c0_i32_12 : BitVec 32 := 0#32
  let v29 : BitVec 1 := Scalar.cmpi .slt v25 c0_i32_12
  let v30 : BitVec 1 := Scalar.xori v28 v29
  let c0_i32_10 : BitVec 32 := 0#32
  let v27 : BitVec 1 := Scalar.cmpi .ne v26 c0_i32_10
  let v31 : BitVec 1 := Scalar.andi v30 v27
  let v32 : BitVec 32 := Scalar.addi v26 v25
  let v33 : BitVec 32 := Scalar.select v31 v32 v26
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v33 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_13 : BitVec 32 := 0#32
  let v35 : BitVec 1 := Scalar.cmpi .sgt v33 c0_i32_13
  let v36 : BitVec 32 := Scalar.extui v35
  let c0_i32_14 : BitVec 32 := 0#32
  let v37 : BitVec 1 := Scalar.cmpi .slt v33 c0_i32_14
  let v38 : BitVec 32 := Scalar.extui v37
  let v39 : BitVec 32 := Scalar.subi v36 v38
  let c2_i32 : BitVec 32 := 2#32
  let c0_i32_15 : BitVec 32 := 0#32
  let v40 : BitVec 1 := Scalar.cmpi .sgt c2_i32 c0_i32_15
  let v41 : BitVec 32 := Scalar.extui v40
  let c0_i32_16 : BitVec 32 := 0#32
  let v42 : BitVec 1 := Scalar.cmpi .slt c2_i32 c0_i32_16
  let v43 : BitVec 32 := Scalar.extui v42
  let v44 : BitVec 32 := Scalar.subi v41 v43
  let v45 : BitVec 1 := Scalar.cmpi .ne v39 v44
  let v46 : BitVec 32 := Scalar.remsi v33 c2_i32
  let c0_i32_17 : BitVec 32 := 0#32
  let v47 : BitVec 1 := Scalar.cmpi .ne v46 c0_i32_17
  let v48 : BitVec 1 := Scalar.andi v45 v47
  let v34 : BitVec 32 := Scalar.divsi v33 c2_i32
  let c1_i32_18 : BitVec 32 := 1#32
  let v49 : BitVec 32 := Scalar.subi v34 c1_i32_18
  let v50 : BitVec 32 := Scalar.select v48 v49 v34
  let v61 : BitVec 32 := Scalar.xori v60 v50
  let v89 : BitVec 32 := Scalar.subi c1_i32_38 v61
  let v90 : BitVec 32 := Scalar.xori v89 v50
  let c2_i32_39 : BitVec 32 := 2#32
  let v91 : BitVec 32 := Scalar.muli c2_i32_39 v50
  let v92 : BitVec 32 := Scalar.addi v90 v91
  let v96 : BitVec 32 := Scalar.addi v95 v92
  let c1_i32_1393 : BitVec 32 := 1#32
  let v1678 : BitVec 32 := Scalar.muli v96 c1_i32_1393
  let v1679 : BitVec 32 := Scalar.addi c0_i32_1394 v1678
  v1679.toNat
def k0_off65 (d0 : Dev nD) (c0_i32_1400 : BitVec 32) : Fin 2 → Nat :=
  let c512_i32_214 : BitVec 32 := 512#32
  let v4 : BitVec 32 := Dev.word d0
  let c1_i32_1 : BitVec 32 := 1#32
  let v5 : BitVec 32 := Scalar.divsi v4 c1_i32_1
  let c16_i32_0 : BitVec 32 := 16#32
  let v6 : BitVec 32 := Scalar.remsi v5 c16_i32_0
  let c4_i32_7 : BitVec 32 := 4#32
  let c0_i32_8 : BitVec 32 := 0#32
  let v24 : BitVec 1 := Scalar.cmpi .eq c4_i32_7 c0_i32_8
  let c1_i32_9 : BitVec 32 := 1#32
  let v25 : BitVec 32 := Scalar.select v24 c1_i32_9 c4_i32_7
  let v26 : BitVec 32 := Scalar.remsi v6 v25
  let c0_i32_11 : BitVec 32 := 0#32
  let v28 : BitVec 1 := Scalar.cmpi .slt v26 c0_i32_11
  let c0_i32_12 : BitVec 32 := 0#32
  let v29 : BitVec 1 := Scalar.cmpi .slt v25 c0_i32_12
  let v30 : BitVec 1 := Scalar.xori v28 v29
  let c0_i32_10 : BitVec 32 := 0#32
  let v27 : BitVec 1 := Scalar.cmpi .ne v26 c0_i32_10
  let v31 : BitVec 1 := Scalar.andi v30 v27
  let v32 : BitVec 32 := Scalar.addi v26 v25
  let v33 : BitVec 32 := Scalar.select v31 v32 v26
  let c0_i32_13 : BitVec 32 := 0#32
  let v35 : BitVec 1 := Scalar.cmpi .sgt v33 c0_i32_13
  let v36 : BitVec 32 := Scalar.extui v35
  let c0_i32_14 : BitVec 32 := 0#32
  let v37 : BitVec 1 := Scalar.cmpi .slt v33 c0_i32_14
  let v38 : BitVec 32 := Scalar.extui v37
  let v39 : BitVec 32 := Scalar.subi v36 v38
  let c2_i32 : BitVec 32 := 2#32
  let c0_i32_15 : BitVec 32 := 0#32
  let v40 : BitVec 1 := Scalar.cmpi .sgt c2_i32 c0_i32_15
  let v41 : BitVec 32 := Scalar.extui v40
  let c0_i32_16 : BitVec 32 := 0#32
  let v42 : BitVec 1 := Scalar.cmpi .slt c2_i32 c0_i32_16
  let v43 : BitVec 32 := Scalar.extui v42
  let v44 : BitVec 32 := Scalar.subi v41 v43
  let v45 : BitVec 1 := Scalar.cmpi .ne v39 v44
  let v46 : BitVec 32 := Scalar.remsi v33 c2_i32
  let c0_i32_17 : BitVec 32 := 0#32
  let v47 : BitVec 1 := Scalar.cmpi .ne v46 c0_i32_17
  let v48 : BitVec 1 := Scalar.andi v45 v47
  let v34 : BitVec 32 := Scalar.divsi v33 c2_i32
  let c1_i32_18 : BitVec 32 := 1#32
  let v49 : BitVec 32 := Scalar.subi v34 c1_i32_18
  let v50 : BitVec 32 := Scalar.select v48 v49 v34
  let c256_i32_213 : BitVec 32 := 256#32
  let v443 : BitVec 32 := Scalar.muli v50 c256_i32_213
  let v444 : BitVec 32 := Scalar.addi c512_i32_214 v443
  let c0_i32 : BitVec 32 := 0#32
  let v8 : BitVec 1 := Scalar.cmpi .sgt v6 c0_i32
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c4_i32 : BitVec 32 := 4#32
  let c0_i32_3 : BitVec 32 := 0#32
  let v13 : BitVec 1 := Scalar.cmpi .sgt c4_i32 c0_i32_3
  let v14 : BitVec 32 := Scalar.extui v13
  let c0_i32_4 : BitVec 32 := 0#32
  let v15 : BitVec 1 := Scalar.cmpi .slt c4_i32 c0_i32_4
  let v16 : BitVec 32 := Scalar.extui v15
  let v17 : BitVec 32 := Scalar.subi v14 v16
  let v18 : BitVec 1 := Scalar.cmpi .ne v12 v17
  let v19 : BitVec 32 := Scalar.remsi v6 c4_i32
  let c0_i32_5 : BitVec 32 := 0#32
  let v20 : BitVec 1 := Scalar.cmpi .ne v19 c0_i32_5
  let v21 : BitVec 1 := Scalar.andi v18 v20
  let v7 : BitVec 32 := Scalar.divsi v6 c4_i32
  let c1_i32_6 : BitVec 32 := 1#32
  let v22 : BitVec 32 := Scalar.subi v7 c1_i32_6
  let v23 : BitVec 32 := Scalar.select v21 v22 v7
  let c2_i32_25 : BitVec 32 := 2#32
  let c0_i32_26 : BitVec 32 := 0#32
  let v62 : BitVec 1 := Scalar.cmpi .eq c2_i32_25 c0_i32_26
  let c1_i32_27 : BitVec 32 := 1#32
  let v63 : BitVec 32 := Scalar.select v62 c1_i32_27 c2_i32_25
  let v64 : BitVec 32 := Scalar.remsi v23 v63
  let c0_i32_29 : BitVec 32 := 0#32
  let v66 : BitVec 1 := Scalar.cmpi .slt v64 c0_i32_29
  let c0_i32_30 : BitVec 32 := 0#32
  let v67 : BitVec 1 := Scalar.cmpi .slt v63 c0_i32_30
  let v68 : BitVec 1 := Scalar.xori v66 v67
  let c0_i32_28 : BitVec 32 := 0#32
  let v65 : BitVec 1 := Scalar.cmpi .ne v64 c0_i32_28
  let v69 : BitVec 1 := Scalar.andi v68 v65
  let v70 : BitVec 32 := Scalar.addi v64 v63
  let v71 : BitVec 32 := Scalar.select v69 v70 v64
  let c128_i32_451 : BitVec 32 := 128#32
  let v813 : BitVec 32 := Scalar.muli v71 c128_i32_451
  let v814 : BitVec 32 := Scalar.addi v444 v813
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v33 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let v61 : BitVec 32 := Scalar.xori v60 v50
  let c64_i32_607 : BitVec 32 := 64#32
  let v963 : BitVec 32 := Scalar.muli v61 c64_i32_607
  let v964 : BitVec 32 := Scalar.addi v814 v963
  let c0_i32_32 : BitVec 32 := 0#32
  let v73 : BitVec 1 := Scalar.cmpi .sgt v23 c0_i32_32
  let v74 : BitVec 32 := Scalar.extui v73
  let c0_i32_33 : BitVec 32 := 0#32
  let v75 : BitVec 1 := Scalar.cmpi .slt v23 c0_i32_33
  let v76 : BitVec 32 := Scalar.extui v75
  let v77 : BitVec 32 := Scalar.subi v74 v76
  let c2_i32_31 : BitVec 32 := 2#32
  let c0_i32_34 : BitVec 32 := 0#32
  let v78 : BitVec 1 := Scalar.cmpi .sgt c2_i32_31 c0_i32_34
  let v79 : BitVec 32 := Scalar.extui v78
  let c0_i32_35 : BitVec 32 := 0#32
  let v80 : BitVec 1 := Scalar.cmpi .slt c2_i32_31 c0_i32_35
  let v81 : BitVec 32 := Scalar.extui v80
  let v82 : BitVec 32 := Scalar.subi v79 v81
  let v83 : BitVec 1 := Scalar.cmpi .ne v77 v82
  let v84 : BitVec 32 := Scalar.remsi v23 c2_i32_31
  let c0_i32_36 : BitVec 32 := 0#32
  let v85 : BitVec 1 := Scalar.cmpi .ne v84 c0_i32_36
  let v86 : BitVec 1 := Scalar.andi v83 v85
  let v72 : BitVec 32 := Scalar.divsi v23 c2_i32_31
  let c1_i32_37 : BitVec 32 := 1#32
  let v87 : BitVec 32 := Scalar.subi v72 c1_i32_37
  let v88 : BitVec 32 := Scalar.select v86 v87 v72
  let c32_i32_764 : BitVec 32 := 32#32
  let v1113 : BitVec 32 := Scalar.muli v88 c32_i32_764
  let v1114 : BitVec 32 := Scalar.addi v964 v1113
  let c32_i32_920 : BitVec 32 := 32#32
  let v1263 : BitVec 32 := Scalar.muli v88 c32_i32_920
  let v1264 : BitVec 32 := Scalar.subi v1114 v1263
  let c64_i32_1074 : BitVec 32 := 64#32
  let v1397 : BitVec 32 := Scalar.muli v61 c64_i32_1074
  let v1398 : BitVec 32 := Scalar.subi v1264 v1397
  let c128_i32_1228 : BitVec 32 := 128#32
  let v1531 : BitVec 32 := Scalar.muli v71 c128_i32_1228
  let v1532 : BitVec 32 := Scalar.subi v1398 v1531
  let v1687 : BitVec 32 := Scalar.addi v1532 c0_i32_1400
  let v1688 : Index := Scalar.indexCast v1687
  let c0_1401 : Index := 0#32
  ![v1688.toNat, 0]
def k0_dev34 (d0 : Dev nD) : Nat :=
  let c0_i32_1409 : BitVec 32 := 0#32
  let c4_i32_45 : BitVec 32 := 4#32
  let c2_i32_44 : BitVec 32 := 2#32
  let v4 : BitVec 32 := Dev.word d0
  let c1_i32_1 : BitVec 32 := 1#32
  let v5 : BitVec 32 := Scalar.divsi v4 c1_i32_1
  let c16_i32_0 : BitVec 32 := 16#32
  let v6 : BitVec 32 := Scalar.remsi v5 c16_i32_0
  let c0_i32 : BitVec 32 := 0#32
  let v8 : BitVec 1 := Scalar.cmpi .sgt v6 c0_i32
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c4_i32 : BitVec 32 := 4#32
  let c0_i32_3 : BitVec 32 := 0#32
  let v13 : BitVec 1 := Scalar.cmpi .sgt c4_i32 c0_i32_3
  let v14 : BitVec 32 := Scalar.extui v13
  let c0_i32_4 : BitVec 32 := 0#32
  let v15 : BitVec 1 := Scalar.cmpi .slt c4_i32 c0_i32_4
  let v16 : BitVec 32 := Scalar.extui v15
  let v17 : BitVec 32 := Scalar.subi v14 v16
  let v18 : BitVec 1 := Scalar.cmpi .ne v12 v17
  let v19 : BitVec 32 := Scalar.remsi v6 c4_i32
  let c0_i32_5 : BitVec 32 := 0#32
  let v20 : BitVec 1 := Scalar.cmpi .ne v19 c0_i32_5
  let v21 : BitVec 1 := Scalar.andi v18 v20
  let v7 : BitVec 32 := Scalar.divsi v6 c4_i32
  let c1_i32_6 : BitVec 32 := 1#32
  let v22 : BitVec 32 := Scalar.subi v7 c1_i32_6
  let v23 : BitVec 32 := Scalar.select v21 v22 v7
  let c0_i32_32 : BitVec 32 := 0#32
  let v73 : BitVec 1 := Scalar.cmpi .sgt v23 c0_i32_32
  let v74 : BitVec 32 := Scalar.extui v73
  let c0_i32_33 : BitVec 32 := 0#32
  let v75 : BitVec 1 := Scalar.cmpi .slt v23 c0_i32_33
  let v76 : BitVec 32 := Scalar.extui v75
  let v77 : BitVec 32 := Scalar.subi v74 v76
  let c2_i32_31 : BitVec 32 := 2#32
  let c0_i32_34 : BitVec 32 := 0#32
  let v78 : BitVec 1 := Scalar.cmpi .sgt c2_i32_31 c0_i32_34
  let v79 : BitVec 32 := Scalar.extui v78
  let c0_i32_35 : BitVec 32 := 0#32
  let v80 : BitVec 1 := Scalar.cmpi .slt c2_i32_31 c0_i32_35
  let v81 : BitVec 32 := Scalar.extui v80
  let v82 : BitVec 32 := Scalar.subi v79 v81
  let v83 : BitVec 1 := Scalar.cmpi .ne v77 v82
  let v84 : BitVec 32 := Scalar.remsi v23 c2_i32_31
  let c0_i32_36 : BitVec 32 := 0#32
  let v85 : BitVec 1 := Scalar.cmpi .ne v84 c0_i32_36
  let v86 : BitVec 1 := Scalar.andi v83 v85
  let v72 : BitVec 32 := Scalar.divsi v23 c2_i32_31
  let c1_i32_37 : BitVec 32 := 1#32
  let v87 : BitVec 32 := Scalar.subi v72 c1_i32_37
  let v88 : BitVec 32 := Scalar.select v86 v87 v72
  let v101 : BitVec 32 := Scalar.muli c2_i32_44 v88
  let c2_i32_25 : BitVec 32 := 2#32
  let c0_i32_26 : BitVec 32 := 0#32
  let v62 : BitVec 1 := Scalar.cmpi .eq c2_i32_25 c0_i32_26
  let c1_i32_27 : BitVec 32 := 1#32
  let v63 : BitVec 32 := Scalar.select v62 c1_i32_27 c2_i32_25
  let v64 : BitVec 32 := Scalar.remsi v23 v63
  let c0_i32_29 : BitVec 32 := 0#32
  let v66 : BitVec 1 := Scalar.cmpi .slt v64 c0_i32_29
  let c0_i32_30 : BitVec 32 := 0#32
  let v67 : BitVec 1 := Scalar.cmpi .slt v63 c0_i32_30
  let v68 : BitVec 1 := Scalar.xori v66 v67
  let c0_i32_28 : BitVec 32 := 0#32
  let v65 : BitVec 1 := Scalar.cmpi .ne v64 c0_i32_28
  let v69 : BitVec 1 := Scalar.andi v68 v65
  let v70 : BitVec 32 := Scalar.addi v64 v63
  let v71 : BitVec 32 := Scalar.select v69 v70 v64
  let v102 : BitVec 32 := Scalar.addi v101 v71
  let v103 : BitVec 32 := Scalar.muli c4_i32_45 v102
  let c4_i32_7 : BitVec 32 := 4#32
  let c0_i32_8 : BitVec 32 := 0#32
  let v24 : BitVec 1 := Scalar.cmpi .eq c4_i32_7 c0_i32_8
  let c1_i32_9 : BitVec 32 := 1#32
  let v25 : BitVec 32 := Scalar.select v24 c1_i32_9 c4_i32_7
  let v26 : BitVec 32 := Scalar.remsi v6 v25
  let c0_i32_11 : BitVec 32 := 0#32
  let v28 : BitVec 1 := Scalar.cmpi .slt v26 c0_i32_11
  let c0_i32_12 : BitVec 32 := 0#32
  let v29 : BitVec 1 := Scalar.cmpi .slt v25 c0_i32_12
  let v30 : BitVec 1 := Scalar.xori v28 v29
  let c0_i32_10 : BitVec 32 := 0#32
  let v27 : BitVec 1 := Scalar.cmpi .ne v26 c0_i32_10
  let v31 : BitVec 1 := Scalar.andi v30 v27
  let v32 : BitVec 32 := Scalar.addi v26 v25
  let v33 : BitVec 32 := Scalar.select v31 v32 v26
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v33 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_13 : BitVec 32 := 0#32
  let v35 : BitVec 1 := Scalar.cmpi .sgt v33 c0_i32_13
  let v36 : BitVec 32 := Scalar.extui v35
  let c0_i32_14 : BitVec 32 := 0#32
  let v37 : BitVec 1 := Scalar.cmpi .slt v33 c0_i32_14
  let v38 : BitVec 32 := Scalar.extui v37
  let v39 : BitVec 32 := Scalar.subi v36 v38
  let c2_i32 : BitVec 32 := 2#32
  let c0_i32_15 : BitVec 32 := 0#32
  let v40 : BitVec 1 := Scalar.cmpi .sgt c2_i32 c0_i32_15
  let v41 : BitVec 32 := Scalar.extui v40
  let c0_i32_16 : BitVec 32 := 0#32
  let v42 : BitVec 1 := Scalar.cmpi .slt c2_i32 c0_i32_16
  let v43 : BitVec 32 := Scalar.extui v42
  let v44 : BitVec 32 := Scalar.subi v41 v43
  let v45 : BitVec 1 := Scalar.cmpi .ne v39 v44
  let v46 : BitVec 32 := Scalar.remsi v33 c2_i32
  let c0_i32_17 : BitVec 32 := 0#32
  let v47 : BitVec 1 := Scalar.cmpi .ne v46 c0_i32_17
  let v48 : BitVec 1 := Scalar.andi v45 v47
  let v34 : BitVec 32 := Scalar.divsi v33 c2_i32
  let c1_i32_18 : BitVec 32 := 1#32
  let v49 : BitVec 32 := Scalar.subi v34 c1_i32_18
  let v50 : BitVec 32 := Scalar.select v48 v49 v34
  let v61 : BitVec 32 := Scalar.xori v60 v50
  let c1_i32_42 : BitVec 32 := 1#32
  let v97 : BitVec 32 := Scalar.subi c1_i32_42 v50
  let v98 : BitVec 32 := Scalar.xori v61 v97
  let c2_i32_43 : BitVec 32 := 2#32
  let v99 : BitVec 32 := Scalar.muli c2_i32_43 v97
  let v100 : BitVec 32 := Scalar.addi v98 v99
  let v104 : BitVec 32 := Scalar.addi v103 v100
  let c1_i32_1408 : BitVec 32 := 1#32
  let v1695 : BitVec 32 := Scalar.muli v104 c1_i32_1408
  let v1696 : BitVec 32 := Scalar.addi c0_i32_1409 v1695
  v1696.toNat
def k0_dev35 (d0 : Dev nD) : Nat :=
  let c0_i32_1424 : BitVec 32 := 0#32
  let c4_i32_41 : BitVec 32 := 4#32
  let c2_i32_40 : BitVec 32 := 2#32
  let v4 : BitVec 32 := Dev.word d0
  let c1_i32_1 : BitVec 32 := 1#32
  let v5 : BitVec 32 := Scalar.divsi v4 c1_i32_1
  let c16_i32_0 : BitVec 32 := 16#32
  let v6 : BitVec 32 := Scalar.remsi v5 c16_i32_0
  let c0_i32 : BitVec 32 := 0#32
  let v8 : BitVec 1 := Scalar.cmpi .sgt v6 c0_i32
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c4_i32 : BitVec 32 := 4#32
  let c0_i32_3 : BitVec 32 := 0#32
  let v13 : BitVec 1 := Scalar.cmpi .sgt c4_i32 c0_i32_3
  let v14 : BitVec 32 := Scalar.extui v13
  let c0_i32_4 : BitVec 32 := 0#32
  let v15 : BitVec 1 := Scalar.cmpi .slt c4_i32 c0_i32_4
  let v16 : BitVec 32 := Scalar.extui v15
  let v17 : BitVec 32 := Scalar.subi v14 v16
  let v18 : BitVec 1 := Scalar.cmpi .ne v12 v17
  let v19 : BitVec 32 := Scalar.remsi v6 c4_i32
  let c0_i32_5 : BitVec 32 := 0#32
  let v20 : BitVec 1 := Scalar.cmpi .ne v19 c0_i32_5
  let v21 : BitVec 1 := Scalar.andi v18 v20
  let v7 : BitVec 32 := Scalar.divsi v6 c4_i32
  let c1_i32_6 : BitVec 32 := 1#32
  let v22 : BitVec 32 := Scalar.subi v7 c1_i32_6
  let v23 : BitVec 32 := Scalar.select v21 v22 v7
  let c0_i32_32 : BitVec 32 := 0#32
  let v73 : BitVec 1 := Scalar.cmpi .sgt v23 c0_i32_32
  let v74 : BitVec 32 := Scalar.extui v73
  let c0_i32_33 : BitVec 32 := 0#32
  let v75 : BitVec 1 := Scalar.cmpi .slt v23 c0_i32_33
  let v76 : BitVec 32 := Scalar.extui v75
  let v77 : BitVec 32 := Scalar.subi v74 v76
  let c2_i32_31 : BitVec 32 := 2#32
  let c0_i32_34 : BitVec 32 := 0#32
  let v78 : BitVec 1 := Scalar.cmpi .sgt c2_i32_31 c0_i32_34
  let v79 : BitVec 32 := Scalar.extui v78
  let c0_i32_35 : BitVec 32 := 0#32
  let v80 : BitVec 1 := Scalar.cmpi .slt c2_i32_31 c0_i32_35
  let v81 : BitVec 32 := Scalar.extui v80
  let v82 : BitVec 32 := Scalar.subi v79 v81
  let v83 : BitVec 1 := Scalar.cmpi .ne v77 v82
  let v84 : BitVec 32 := Scalar.remsi v23 c2_i32_31
  let c0_i32_36 : BitVec 32 := 0#32
  let v85 : BitVec 1 := Scalar.cmpi .ne v84 c0_i32_36
  let v86 : BitVec 1 := Scalar.andi v83 v85
  let v72 : BitVec 32 := Scalar.divsi v23 c2_i32_31
  let c1_i32_37 : BitVec 32 := 1#32
  let v87 : BitVec 32 := Scalar.subi v72 c1_i32_37
  let v88 : BitVec 32 := Scalar.select v86 v87 v72
  let v93 : BitVec 32 := Scalar.muli c2_i32_40 v88
  let c2_i32_25 : BitVec 32 := 2#32
  let c0_i32_26 : BitVec 32 := 0#32
  let v62 : BitVec 1 := Scalar.cmpi .eq c2_i32_25 c0_i32_26
  let c1_i32_27 : BitVec 32 := 1#32
  let v63 : BitVec 32 := Scalar.select v62 c1_i32_27 c2_i32_25
  let v64 : BitVec 32 := Scalar.remsi v23 v63
  let c0_i32_29 : BitVec 32 := 0#32
  let v66 : BitVec 1 := Scalar.cmpi .slt v64 c0_i32_29
  let c0_i32_30 : BitVec 32 := 0#32
  let v67 : BitVec 1 := Scalar.cmpi .slt v63 c0_i32_30
  let v68 : BitVec 1 := Scalar.xori v66 v67
  let c0_i32_28 : BitVec 32 := 0#32
  let v65 : BitVec 1 := Scalar.cmpi .ne v64 c0_i32_28
  let v69 : BitVec 1 := Scalar.andi v68 v65
  let v70 : BitVec 32 := Scalar.addi v64 v63
  let v71 : BitVec 32 := Scalar.select v69 v70 v64
  let v94 : BitVec 32 := Scalar.addi v93 v71
  let v95 : BitVec 32 := Scalar.muli c4_i32_41 v94
  let c1_i32_38 : BitVec 32 := 1#32
  let c4_i32_7 : BitVec 32 := 4#32
  let c0_i32_8 : BitVec 32 := 0#32
  let v24 : BitVec 1 := Scalar.cmpi .eq c4_i32_7 c0_i32_8
  let c1_i32_9 : BitVec 32 := 1#32
  let v25 : BitVec 32 := Scalar.select v24 c1_i32_9 c4_i32_7
  let v26 : BitVec 32 := Scalar.remsi v6 v25
  let c0_i32_11 : BitVec 32 := 0#32
  let v28 : BitVec 1 := Scalar.cmpi .slt v26 c0_i32_11
  let c0_i32_12 : BitVec 32 := 0#32
  let v29 : BitVec 1 := Scalar.cmpi .slt v25 c0_i32_12
  let v30 : BitVec 1 := Scalar.xori v28 v29
  let c0_i32_10 : BitVec 32 := 0#32
  let v27 : BitVec 1 := Scalar.cmpi .ne v26 c0_i32_10
  let v31 : BitVec 1 := Scalar.andi v30 v27
  let v32 : BitVec 32 := Scalar.addi v26 v25
  let v33 : BitVec 32 := Scalar.select v31 v32 v26
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v33 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_13 : BitVec 32 := 0#32
  let v35 : BitVec 1 := Scalar.cmpi .sgt v33 c0_i32_13
  let v36 : BitVec 32 := Scalar.extui v35
  let c0_i32_14 : BitVec 32 := 0#32
  let v37 : BitVec 1 := Scalar.cmpi .slt v33 c0_i32_14
  let v38 : BitVec 32 := Scalar.extui v37
  let v39 : BitVec 32 := Scalar.subi v36 v38
  let c2_i32 : BitVec 32 := 2#32
  let c0_i32_15 : BitVec 32 := 0#32
  let v40 : BitVec 1 := Scalar.cmpi .sgt c2_i32 c0_i32_15
  let v41 : BitVec 32 := Scalar.extui v40
  let c0_i32_16 : BitVec 32 := 0#32
  let v42 : BitVec 1 := Scalar.cmpi .slt c2_i32 c0_i32_16
  let v43 : BitVec 32 := Scalar.extui v42
  let v44 : BitVec 32 := Scalar.subi v41 v43
  let v45 : BitVec 1 := Scalar.cmpi .ne v39 v44
  let v46 : BitVec 32 := Scalar.remsi v33 c2_i32
  let c0_i32_17 : BitVec 32 := 0#32
  let v47 : BitVec 1 := Scalar.cmpi .ne v46 c0_i32_17
  let v48 : BitVec 1 := Scalar.andi v45 v47
  let v34 : BitVec 32 := Scalar.divsi v33 c2_i32
  let c1_i32_18 : BitVec 32 := 1#32
  let v49 : BitVec 32 := Scalar.subi v34 c1_i32_18
  let v50 : BitVec 32 := Scalar.select v48 v49 v34
  let v61 : BitVec 32 := Scalar.xori v60 v50
  let v89 : BitVec 32 := Scalar.subi c1_i32_38 v61
  let v90 : BitVec 32 := Scalar.xori v89 v50
  let c2_i32_39 : BitVec 32 := 2#32
  let v91 : BitVec 32 := Scalar.muli c2_i32_39 v50
  let v92 : BitVec 32 := Scalar.addi v90 v91
  let v96 : BitVec 32 := Scalar.addi v95 v92
  let c1_i32_1423 : BitVec 32 := 1#32
  let v1712 : BitVec 32 := Scalar.muli v96 c1_i32_1423
  let v1713 : BitVec 32 := Scalar.addi c0_i32_1424 v1712
  v1713.toNat
def k0_dev36 (d0 : Dev nD) : Nat :=
  let c0_i32_1439 : BitVec 32 := 0#32
  let c4_i32_45 : BitVec 32 := 4#32
  let c2_i32_44 : BitVec 32 := 2#32
  let v4 : BitVec 32 := Dev.word d0
  let c1_i32_1 : BitVec 32 := 1#32
  let v5 : BitVec 32 := Scalar.divsi v4 c1_i32_1
  let c16_i32_0 : BitVec 32 := 16#32
  let v6 : BitVec 32 := Scalar.remsi v5 c16_i32_0
  let c0_i32 : BitVec 32 := 0#32
  let v8 : BitVec 1 := Scalar.cmpi .sgt v6 c0_i32
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c4_i32 : BitVec 32 := 4#32
  let c0_i32_3 : BitVec 32 := 0#32
  let v13 : BitVec 1 := Scalar.cmpi .sgt c4_i32 c0_i32_3
  let v14 : BitVec 32 := Scalar.extui v13
  let c0_i32_4 : BitVec 32 := 0#32
  let v15 : BitVec 1 := Scalar.cmpi .slt c4_i32 c0_i32_4
  let v16 : BitVec 32 := Scalar.extui v15
  let v17 : BitVec 32 := Scalar.subi v14 v16
  let v18 : BitVec 1 := Scalar.cmpi .ne v12 v17
  let v19 : BitVec 32 := Scalar.remsi v6 c4_i32
  let c0_i32_5 : BitVec 32 := 0#32
  let v20 : BitVec 1 := Scalar.cmpi .ne v19 c0_i32_5
  let v21 : BitVec 1 := Scalar.andi v18 v20
  let v7 : BitVec 32 := Scalar.divsi v6 c4_i32
  let c1_i32_6 : BitVec 32 := 1#32
  let v22 : BitVec 32 := Scalar.subi v7 c1_i32_6
  let v23 : BitVec 32 := Scalar.select v21 v22 v7
  let c0_i32_32 : BitVec 32 := 0#32
  let v73 : BitVec 1 := Scalar.cmpi .sgt v23 c0_i32_32
  let v74 : BitVec 32 := Scalar.extui v73
  let c0_i32_33 : BitVec 32 := 0#32
  let v75 : BitVec 1 := Scalar.cmpi .slt v23 c0_i32_33
  let v76 : BitVec 32 := Scalar.extui v75
  let v77 : BitVec 32 := Scalar.subi v74 v76
  let c2_i32_31 : BitVec 32 := 2#32
  let c0_i32_34 : BitVec 32 := 0#32
  let v78 : BitVec 1 := Scalar.cmpi .sgt c2_i32_31 c0_i32_34
  let v79 : BitVec 32 := Scalar.extui v78
  let c0_i32_35 : BitVec 32 := 0#32
  let v80 : BitVec 1 := Scalar.cmpi .slt c2_i32_31 c0_i32_35
  let v81 : BitVec 32 := Scalar.extui v80
  let v82 : BitVec 32 := Scalar.subi v79 v81
  let v83 : BitVec 1 := Scalar.cmpi .ne v77 v82
  let v84 : BitVec 32 := Scalar.remsi v23 c2_i32_31
  let c0_i32_36 : BitVec 32 := 0#32
  let v85 : BitVec 1 := Scalar.cmpi .ne v84 c0_i32_36
  let v86 : BitVec 1 := Scalar.andi v83 v85
  let v72 : BitVec 32 := Scalar.divsi v23 c2_i32_31
  let c1_i32_37 : BitVec 32 := 1#32
  let v87 : BitVec 32 := Scalar.subi v72 c1_i32_37
  let v88 : BitVec 32 := Scalar.select v86 v87 v72
  let v101 : BitVec 32 := Scalar.muli c2_i32_44 v88
  let c2_i32_25 : BitVec 32 := 2#32
  let c0_i32_26 : BitVec 32 := 0#32
  let v62 : BitVec 1 := Scalar.cmpi .eq c2_i32_25 c0_i32_26
  let c1_i32_27 : BitVec 32 := 1#32
  let v63 : BitVec 32 := Scalar.select v62 c1_i32_27 c2_i32_25
  let v64 : BitVec 32 := Scalar.remsi v23 v63
  let c0_i32_29 : BitVec 32 := 0#32
  let v66 : BitVec 1 := Scalar.cmpi .slt v64 c0_i32_29
  let c0_i32_30 : BitVec 32 := 0#32
  let v67 : BitVec 1 := Scalar.cmpi .slt v63 c0_i32_30
  let v68 : BitVec 1 := Scalar.xori v66 v67
  let c0_i32_28 : BitVec 32 := 0#32
  let v65 : BitVec 1 := Scalar.cmpi .ne v64 c0_i32_28
  let v69 : BitVec 1 := Scalar.andi v68 v65
  let v70 : BitVec 32 := Scalar.addi v64 v63
  let v71 : BitVec 32 := Scalar.select v69 v70 v64
  let v102 : BitVec 32 := Scalar.addi v101 v71
  let v103 : BitVec 32 := Scalar.muli c4_i32_45 v102
  let c4_i32_7 : BitVec 32 := 4#32
  let c0_i32_8 : BitVec 32 := 0#32
  let v24 : BitVec 1 := Scalar.cmpi .eq c4_i32_7 c0_i32_8
  let c1_i32_9 : BitVec 32 := 1#32
  let v25 : BitVec 32 := Scalar.select v24 c1_i32_9 c4_i32_7
  let v26 : BitVec 32 := Scalar.remsi v6 v25
  let c0_i32_11 : BitVec 32 := 0#32
  let v28 : BitVec 1 := Scalar.cmpi .slt v26 c0_i32_11
  let c0_i32_12 : BitVec 32 := 0#32
  let v29 : BitVec 1 := Scalar.cmpi .slt v25 c0_i32_12
  let v30 : BitVec 1 := Scalar.xori v28 v29
  let c0_i32_10 : BitVec 32 := 0#32
  let v27 : BitVec 1 := Scalar.cmpi .ne v26 c0_i32_10
  let v31 : BitVec 1 := Scalar.andi v30 v27
  let v32 : BitVec 32 := Scalar.addi v26 v25
  let v33 : BitVec 32 := Scalar.select v31 v32 v26
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v33 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_13 : BitVec 32 := 0#32
  let v35 : BitVec 1 := Scalar.cmpi .sgt v33 c0_i32_13
  let v36 : BitVec 32 := Scalar.extui v35
  let c0_i32_14 : BitVec 32 := 0#32
  let v37 : BitVec 1 := Scalar.cmpi .slt v33 c0_i32_14
  let v38 : BitVec 32 := Scalar.extui v37
  let v39 : BitVec 32 := Scalar.subi v36 v38
  let c2_i32 : BitVec 32 := 2#32
  let c0_i32_15 : BitVec 32 := 0#32
  let v40 : BitVec 1 := Scalar.cmpi .sgt c2_i32 c0_i32_15
  let v41 : BitVec 32 := Scalar.extui v40
  let c0_i32_16 : BitVec 32 := 0#32
  let v42 : BitVec 1 := Scalar.cmpi .slt c2_i32 c0_i32_16
  let v43 : BitVec 32 := Scalar.extui v42
  let v44 : BitVec 32 := Scalar.subi v41 v43
  let v45 : BitVec 1 := Scalar.cmpi .ne v39 v44
  let v46 : BitVec 32 := Scalar.remsi v33 c2_i32
  let c0_i32_17 : BitVec 32 := 0#32
  let v47 : BitVec 1 := Scalar.cmpi .ne v46 c0_i32_17
  let v48 : BitVec 1 := Scalar.andi v45 v47
  let v34 : BitVec 32 := Scalar.divsi v33 c2_i32
  let c1_i32_18 : BitVec 32 := 1#32
  let v49 : BitVec 32 := Scalar.subi v34 c1_i32_18
  let v50 : BitVec 32 := Scalar.select v48 v49 v34
  let v61 : BitVec 32 := Scalar.xori v60 v50
  let c1_i32_42 : BitVec 32 := 1#32
  let v97 : BitVec 32 := Scalar.subi c1_i32_42 v50
  let v98 : BitVec 32 := Scalar.xori v61 v97
  let c2_i32_43 : BitVec 32 := 2#32
  let v99 : BitVec 32 := Scalar.muli c2_i32_43 v97
  let v100 : BitVec 32 := Scalar.addi v98 v99
  let v104 : BitVec 32 := Scalar.addi v103 v100
  let c1_i32_1438 : BitVec 32 := 1#32
  let v1729 : BitVec 32 := Scalar.muli v104 c1_i32_1438
  let v1730 : BitVec 32 := Scalar.addi c0_i32_1439 v1729
  v1730.toNat
def k0_off66 (d0 : Dev nD) (c0_i32_1399 : BitVec 32) : Fin 2 → Nat :=
  let c0_i32_209 : BitVec 32 := 0#32
  let v4 : BitVec 32 := Dev.word d0
  let c1_i32_1 : BitVec 32 := 1#32
  let v5 : BitVec 32 := Scalar.divsi v4 c1_i32_1
  let c16_i32_0 : BitVec 32 := 16#32
  let v6 : BitVec 32 := Scalar.remsi v5 c16_i32_0
  let c4_i32_7 : BitVec 32 := 4#32
  let c0_i32_8 : BitVec 32 := 0#32
  let v24 : BitVec 1 := Scalar.cmpi .eq c4_i32_7 c0_i32_8
  let c1_i32_9 : BitVec 32 := 1#32
  let v25 : BitVec 32 := Scalar.select v24 c1_i32_9 c4_i32_7
  let v26 : BitVec 32 := Scalar.remsi v6 v25
  let c0_i32_11 : BitVec 32 := 0#32
  let v28 : BitVec 1 := Scalar.cmpi .slt v26 c0_i32_11
  let c0_i32_12 : BitVec 32 := 0#32
  let v29 : BitVec 1 := Scalar.cmpi .slt v25 c0_i32_12
  let v30 : BitVec 1 := Scalar.xori v28 v29
  let c0_i32_10 : BitVec 32 := 0#32
  let v27 : BitVec 1 := Scalar.cmpi .ne v26 c0_i32_10
  let v31 : BitVec 1 := Scalar.andi v30 v27
  let v32 : BitVec 32 := Scalar.addi v26 v25
  let v33 : BitVec 32 := Scalar.select v31 v32 v26
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v33 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_13 : BitVec 32 := 0#32
  let v35 : BitVec 1 := Scalar.cmpi .sgt v33 c0_i32_13
  let v36 : BitVec 32 := Scalar.extui v35
  let c0_i32_14 : BitVec 32 := 0#32
  let v37 : BitVec 1 := Scalar.cmpi .slt v33 c0_i32_14
  let v38 : BitVec 32 := Scalar.extui v37
  let v39 : BitVec 32 := Scalar.subi v36 v38
  let c2_i32 : BitVec 32 := 2#32
  let c0_i32_15 : BitVec 32 := 0#32
  let v40 : BitVec 1 := Scalar.cmpi .sgt c2_i32 c0_i32_15
  let v41 : BitVec 32 := Scalar.extui v40
  let c0_i32_16 : BitVec 32 := 0#32
  let v42 : BitVec 1 := Scalar.cmpi .slt c2_i32 c0_i32_16
  let v43 : BitVec 32 := Scalar.extui v42
  let v44 : BitVec 32 := Scalar.subi v41 v43
  let v45 : BitVec 1 := Scalar.cmpi .ne v39 v44
  let v46 : BitVec 32 := Scalar.remsi v33 c2_i32
  let c0_i32_17 : BitVec 32 := 0#32
  let v47 : BitVec 1 := Scalar.cmpi .ne v46 c0_i32_17
  let v48 : BitVec 1 := Scalar.andi v45 v47
  let v34 : BitVec 32 := Scalar.divsi v33 c2_i32
  let c1_i32_18 : BitVec 32 := 1#32
  let v49 : BitVec 32 := Scalar.subi v34 c1_i32_18
  let v50 : BitVec 32 := Scalar.select v48 v49 v34
  let v61 : BitVec 32 := Scalar.xori v60 v50
  let c256_i32_208 : BitVec 32 := 256#32
  let v438 : BitVec 32 := Scalar.muli v61 c256_i32_208
  let v439 : BitVec 32 := Scalar.addi c0_i32_209 v438
  let c128_i32_448 : BitVec 32 := 128#32
  let v808 : BitVec 32 := Scalar.muli v50 c128_i32_448
  let v809 : BitVec 32 := Scalar.addi v439 v808
  let c0_i32 : BitVec 32 := 0#32
  let v8 : BitVec 1 := Scalar.cmpi .sgt v6 c0_i32
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c4_i32 : BitVec 32 := 4#32
  let c0_i32_3 : BitVec 32 := 0#32
  let v13 : BitVec 1 := Scalar.cmpi .sgt c4_i32 c0_i32_3
  let v14 : BitVec 32 := Scalar.extui v13
  let c0_i32_4 : BitVec 32 := 0#32
  let v15 : BitVec 1 := Scalar.cmpi .slt c4_i32 c0_i32_4
  let v16 : BitVec 32 := Scalar.extui v15
  let v17 : BitVec 32 := Scalar.subi v14 v16
  let v18 : BitVec 1 := Scalar.cmpi .ne v12 v17
  let v19 : BitVec 32 := Scalar.remsi v6 c4_i32
  let c0_i32_5 : BitVec 32 := 0#32
  let v20 : BitVec 1 := Scalar.cmpi .ne v19 c0_i32_5
  let v21 : BitVec 1 := Scalar.andi v18 v20
  let v7 : BitVec 32 := Scalar.divsi v6 c4_i32
  let c1_i32_6 : BitVec 32 := 1#32
  let v22 : BitVec 32 := Scalar.subi v7 c1_i32_6
  let v23 : BitVec 32 := Scalar.select v21 v22 v7
  let c2_i32_25 : BitVec 32 := 2#32
  let c0_i32_26 : BitVec 32 := 0#32
  let v62 : BitVec 1 := Scalar.cmpi .eq c2_i32_25 c0_i32_26
  let c1_i32_27 : BitVec 32 := 1#32
  let v63 : BitVec 32 := Scalar.select v62 c1_i32_27 c2_i32_25
  let v64 : BitVec 32 := Scalar.remsi v23 v63
  let c0_i32_29 : BitVec 32 := 0#32
  let v66 : BitVec 1 := Scalar.cmpi .slt v64 c0_i32_29
  let c0_i32_30 : BitVec 32 := 0#32
  let v67 : BitVec 1 := Scalar.cmpi .slt v63 c0_i32_30
  let v68 : BitVec 1 := Scalar.xori v66 v67
  let c0_i32_28 : BitVec 32 := 0#32
  let v65 : BitVec 1 := Scalar.cmpi .ne v64 c0_i32_28
  let v69 : BitVec 1 := Scalar.andi v68 v65
  let v70 : BitVec 32 := Scalar.addi v64 v63
  let v71 : BitVec 32 := Scalar.select v69 v70 v64
  let c64_i32_604 : BitVec 32 := 64#32
  let v958 : BitVec 32 := Scalar.muli v71 c64_i32_604
  let v959 : BitVec 32 := Scalar.addi v809 v958
  let c0_i32_32 : BitVec 32 := 0#32
  let v73 : BitVec 1 := Scalar.cmpi .sgt v23 c0_i32_32
  let v74 : BitVec 32 := Scalar.extui v73
  let c0_i32_33 : BitVec 32 := 0#32
  let v75 : BitVec 1 := Scalar.cmpi .slt v23 c0_i32_33
  let v76 : BitVec 32 := Scalar.extui v75
  let v77 : BitVec 32 := Scalar.subi v74 v76
  let c2_i32_31 : BitVec 32 := 2#32
  let c0_i32_34 : BitVec 32 := 0#32
  let v78 : BitVec 1 := Scalar.cmpi .sgt c2_i32_31 c0_i32_34
  let v79 : BitVec 32 := Scalar.extui v78
  let c0_i32_35 : BitVec 32 := 0#32
  let v80 : BitVec 1 := Scalar.cmpi .slt c2_i32_31 c0_i32_35
  let v81 : BitVec 32 := Scalar.extui v80
  let v82 : BitVec 32 := Scalar.subi v79 v81
  let v83 : BitVec 1 := Scalar.cmpi .ne v77 v82
  let v84 : BitVec 32 := Scalar.remsi v23 c2_i32_31
  let c0_i32_36 : BitVec 32 := 0#32
  let v85 : BitVec 1 := Scalar.cmpi .ne v84 c0_i32_36
  let v86 : BitVec 1 := Scalar.andi v83 v85
  let v72 : BitVec 32 := Scalar.divsi v23 c2_i32_31
  let c1_i32_37 : BitVec 32 := 1#32
  let v87 : BitVec 32 := Scalar.subi v72 c1_i32_37
  let v88 : BitVec 32 := Scalar.select v86 v87 v72
  let c32_i32_761 : BitVec 32 := 32#32
  let v1108 : BitVec 32 := Scalar.muli v88 c32_i32_761
  let v1109 : BitVec 32 := Scalar.addi v959 v1108
  let c32_i32_917 : BitVec 32 := 32#32
  let v1258 : BitVec 32 := Scalar.muli v88 c32_i32_917
  let v1259 : BitVec 32 := Scalar.subi v1109 v1258
  let c64_i32_1071 : BitVec 32 := 64#32
  let v1392 : BitVec 32 := Scalar.muli v71 c64_i32_1071
  let v1393 : BitVec 32 := Scalar.subi v1259 v1392
  let c128_i32_1225 : BitVec 32 := 128#32
  let v1526 : BitVec 32 := Scalar.muli v50 c128_i32_1225
  let v1527 : BitVec 32 := Scalar.subi v1393 v1526
  let c256_i32_1379 : BitVec 32 := 256#32
  let v1660 : BitVec 32 := Scalar.muli v61 c256_i32_1379
  let v1661 : BitVec 32 := Scalar.subi v1527 v1660
  let c1_i32_1380 : BitVec 32 := 1#32
  let v1662 : BitVec 32 := Scalar.subi c1_i32_1380 v61
  let c256_i32_1381 : BitVec 32 := 256#32
  let v1663 : BitVec 32 := Scalar.muli v1662 c256_i32_1381
  let v1664 : BitVec 32 := Scalar.addi v1661 v1663
  let v1686 : BitVec 32 := Scalar.addi v1664 c0_i32_1399
  let v1750 : Index := Scalar.indexCast v1686
  let c0_1466 : Index := 0#32
  ![v1750.toNat, 0]
def k0_off67 (d0 : Dev nD) (c0_i32_1414 : BitVec 32) : Fin 2 → Nat :=
  let c512_i32_214 : BitVec 32 := 512#32
  let v4 : BitVec 32 := Dev.word d0
  let c1_i32_1 : BitVec 32 := 1#32
  let v5 : BitVec 32 := Scalar.divsi v4 c1_i32_1
  let c16_i32_0 : BitVec 32 := 16#32
  let v6 : BitVec 32 := Scalar.remsi v5 c16_i32_0
  let c4_i32_7 : BitVec 32 := 4#32
  let c0_i32_8 : BitVec 32 := 0#32
  let v24 : BitVec 1 := Scalar.cmpi .eq c4_i32_7 c0_i32_8
  let c1_i32_9 : BitVec 32 := 1#32
  let v25 : BitVec 32 := Scalar.select v24 c1_i32_9 c4_i32_7
  let v26 : BitVec 32 := Scalar.remsi v6 v25
  let c0_i32_11 : BitVec 32 := 0#32
  let v28 : BitVec 1 := Scalar.cmpi .slt v26 c0_i32_11
  let c0_i32_12 : BitVec 32 := 0#32
  let v29 : BitVec 1 := Scalar.cmpi .slt v25 c0_i32_12
  let v30 : BitVec 1 := Scalar.xori v28 v29
  let c0_i32_10 : BitVec 32 := 0#32
  let v27 : BitVec 1 := Scalar.cmpi .ne v26 c0_i32_10
  let v31 : BitVec 1 := Scalar.andi v30 v27
  let v32 : BitVec 32 := Scalar.addi v26 v25
  let v33 : BitVec 32 := Scalar.select v31 v32 v26
  let c0_i32_13 : BitVec 32 := 0#32
  let v35 : BitVec 1 := Scalar.cmpi .sgt v33 c0_i32_13
  let v36 : BitVec 32 := Scalar.extui v35
  let c0_i32_14 : BitVec 32 := 0#32
  let v37 : BitVec 1 := Scalar.cmpi .slt v33 c0_i32_14
  let v38 : BitVec 32 := Scalar.extui v37
  let v39 : BitVec 32 := Scalar.subi v36 v38
  let c2_i32 : BitVec 32 := 2#32
  let c0_i32_15 : BitVec 32 := 0#32
  let v40 : BitVec 1 := Scalar.cmpi .sgt c2_i32 c0_i32_15
  let v41 : BitVec 32 := Scalar.extui v40
  let c0_i32_16 : BitVec 32 := 0#32
  let v42 : BitVec 1 := Scalar.cmpi .slt c2_i32 c0_i32_16
  let v43 : BitVec 32 := Scalar.extui v42
  let v44 : BitVec 32 := Scalar.subi v41 v43
  let v45 : BitVec 1 := Scalar.cmpi .ne v39 v44
  let v46 : BitVec 32 := Scalar.remsi v33 c2_i32
  let c0_i32_17 : BitVec 32 := 0#32
  let v47 : BitVec 1 := Scalar.cmpi .ne v46 c0_i32_17
  let v48 : BitVec 1 := Scalar.andi v45 v47
  let v34 : BitVec 32 := Scalar.divsi v33 c2_i32
  let c1_i32_18 : BitVec 32 := 1#32
  let v49 : BitVec 32 := Scalar.subi v34 c1_i32_18
  let v50 : BitVec 32 := Scalar.select v48 v49 v34
  let c256_i32_213 : BitVec 32 := 256#32
  let v443 : BitVec 32 := Scalar.muli v50 c256_i32_213
  let v444 : BitVec 32 := Scalar.addi c512_i32_214 v443
  let c0_i32 : BitVec 32 := 0#32
  let v8 : BitVec 1 := Scalar.cmpi .sgt v6 c0_i32
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c4_i32 : BitVec 32 := 4#32
  let c0_i32_3 : BitVec 32 := 0#32
  let v13 : BitVec 1 := Scalar.cmpi .sgt c4_i32 c0_i32_3
  let v14 : BitVec 32 := Scalar.extui v13
  let c0_i32_4 : BitVec 32 := 0#32
  let v15 : BitVec 1 := Scalar.cmpi .slt c4_i32 c0_i32_4
  let v16 : BitVec 32 := Scalar.extui v15
  let v17 : BitVec 32 := Scalar.subi v14 v16
  let v18 : BitVec 1 := Scalar.cmpi .ne v12 v17
  let v19 : BitVec 32 := Scalar.remsi v6 c4_i32
  let c0_i32_5 : BitVec 32 := 0#32
  let v20 : BitVec 1 := Scalar.cmpi .ne v19 c0_i32_5
  let v21 : BitVec 1 := Scalar.andi v18 v20
  let v7 : BitVec 32 := Scalar.divsi v6 c4_i32
  let c1_i32_6 : BitVec 32 := 1#32
  let v22 : BitVec 32 := Scalar.subi v7 c1_i32_6
  let v23 : BitVec 32 := Scalar.select v21 v22 v7
  let c2_i32_25 : BitVec 32 := 2#32
  let c0_i32_26 : BitVec 32 := 0#32
  let v62 : BitVec 1 := Scalar.cmpi .eq c2_i32_25 c0_i32_26
  let c1_i32_27 : BitVec 32 := 1#32
  let v63 : BitVec 32 := Scalar.select v62 c1_i32_27 c2_i32_25
  let v64 : BitVec 32 := Scalar.remsi v23 v63
  let c0_i32_29 : BitVec 32 := 0#32
  let v66 : BitVec 1 := Scalar.cmpi .slt v64 c0_i32_29
  let c0_i32_30 : BitVec 32 := 0#32
  let v67 : BitVec 1 := Scalar.cmpi .slt v63 c0_i32_30
  let v68 : BitVec 1 := Scalar.xori v66 v67
  let c0_i32_28 : BitVec 32 := 0#32
  let v65 : BitVec 1 := Scalar.cmpi .ne v64 c0_i32_28
  let v69 : BitVec 1 := Scalar.andi v68 v65
  let v70 : BitVec 32 := Scalar.addi v64 v63
  let v71 : BitVec 32 := Scalar.select v69 v70 v64
  let c128_i32_451 : BitVec 32 := 128#32
  let v813 : BitVec 32 := Scalar.muli v71 c128_i32_451
  let v814 : BitVec 32 := Scalar.addi v444 v813
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v33 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let v61 : BitVec 32 := Scalar.xori v60 v50
  let c64_i32_607 : BitVec 32 := 64#32
  let v963 : BitVec 32 := Scalar.muli v61 c64_i32_607
  let v964 : BitVec 32 := Scalar.addi v814 v963
  let c0_i32_32 : BitVec 32 := 0#32
  let v73 : BitVec 1 := Scalar.cmpi .sgt v23 c0_i32_32
  let v74 : BitVec 32 := Scalar.extui v73
  let c0_i32_33 : BitVec 32 := 0#32
  let v75 : BitVec 1 := Scalar.cmpi .slt v23 c0_i32_33
  let v76 : BitVec 32 := Scalar.extui v75
  let v77 : BitVec 32 := Scalar.subi v74 v76
  let c2_i32_31 : BitVec 32 := 2#32
  let c0_i32_34 : BitVec 32 := 0#32
  let v78 : BitVec 1 := Scalar.cmpi .sgt c2_i32_31 c0_i32_34
  let v79 : BitVec 32 := Scalar.extui v78
  let c0_i32_35 : BitVec 32 := 0#32
  let v80 : BitVec 1 := Scalar.cmpi .slt c2_i32_31 c0_i32_35
  let v81 : BitVec 32 := Scalar.extui v80
  let v82 : BitVec 32 := Scalar.subi v79 v81
  let v83 : BitVec 1 := Scalar.cmpi .ne v77 v82
  let v84 : BitVec 32 := Scalar.remsi v23 c2_i32_31
  let c0_i32_36 : BitVec 32 := 0#32
  let v85 : BitVec 1 := Scalar.cmpi .ne v84 c0_i32_36
  let v86 : BitVec 1 := Scalar.andi v83 v85
  let v72 : BitVec 32 := Scalar.divsi v23 c2_i32_31
  let c1_i32_37 : BitVec 32 := 1#32
  let v87 : BitVec 32 := Scalar.subi v72 c1_i32_37
  let v88 : BitVec 32 := Scalar.select v86 v87 v72
  let c32_i32_764 : BitVec 32 := 32#32
  let v1113 : BitVec 32 := Scalar.muli v88 c32_i32_764
  let v1114 : BitVec 32 := Scalar.addi v964 v1113
  let c32_i32_920 : BitVec 32 := 32#32
  let v1263 : BitVec 32 := Scalar.muli v88 c32_i32_920
  let v1264 : BitVec 32 := Scalar.subi v1114 v1263
  let c64_i32_1074 : BitVec 32 := 64#32
  let v1397 : BitVec 32 := Scalar.muli v61 c64_i32_1074
  let v1398 : BitVec 32 := Scalar.subi v1264 v1397
  let c128_i32_1228 : BitVec 32 := 128#32
  let v1531 : BitVec 32 := Scalar.muli v71 c128_i32_1228
  let v1532 : BitVec 32 := Scalar.subi v1398 v1531
  let c256_i32_1382 : BitVec 32 := 256#32
  let v1665 : BitVec 32 := Scalar.muli v50 c256_i32_1382
  let v1666 : BitVec 32 := Scalar.subi v1532 v1665
  let c1_i32_1383 : BitVec 32 := 1#32
  let v1667 : BitVec 32 := Scalar.subi c1_i32_1383 v50
  let c256_i32_1384 : BitVec 32 := 256#32
  let v1668 : BitVec 32 := Scalar.muli v1667 c256_i32_1384
  let v1669 : BitVec 32 := Scalar.addi v1666 v1668
  let v1703 : BitVec 32 := Scalar.addi v1669 c0_i32_1414
  let v1764 : Index := Scalar.indexCast v1703
  let c0_1488 : Index := 0#32
  ![v1764.toNat, 0]
abbrev stage0_0 : Fin 1 → Memref sig .tc .vmem S1x1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S1x1024x1024 : Shape := ⟨3, ![1, 1024, 1024]⟩
abbrev S1024x16384 : Shape := ⟨2, ![1024, 16384]⟩
abbrev S1x1024x128x128 : Shape := ⟨4, ![1, 1024, 128, 128]⟩
abbrev S16384x1024 : Shape := ⟨2, ![16384, 1024]⟩
abbrev S1x1024x16384 : Shape := ⟨3, ![1, 1024, 16384]⟩
abbrev S1024 : Shape := ⟨1, ![1024]⟩
abbrev S1024x1 : Shape := ⟨2, ![1024, 1]⟩
abbrev S1x1024 : Shape := ⟨2, ![1, 1024]⟩
abbrev S1024x1024 : Shape := ⟨2, ![1024, 1024]⟩
abbrev S_ : Shape := ⟨0, ![]⟩
abbrev S1x128x1024x1024 : Shape := ⟨4, ![1, 128, 1024, 1024]⟩
abbrev S1x1x1024x1024 : Shape := ⟨4, ![1, 1, 1024, 1024]⟩
abbrev S1x128x1024 : Shape := ⟨3, ![1, 128, 1024]⟩
abbrev S1x128x1024x1 : Shape := ⟨4, ![1, 128, 1024, 1]⟩
abbrev S1x1x1024x1 : Shape := ⟨4, ![1, 1, 1024, 1]⟩
abbrev S1x128x128x1024 : Shape := ⟨4, ![1, 128, 128, 1024]⟩

abbrev nBuf : Space → Nat
  | .hbm => 68
  | .vmem => 0
  | .smem => 0
  | _ => 0

abbrev bufTy : (tb : Table) → Fin (tcTables nBuf tb) → BufTy
  | .hbm, ⟨0, _⟩ => ⟨S1x1024x1024, .f32⟩
  | .hbm, ⟨1, _⟩ => ⟨S1024x16384, .f32⟩
  | .hbm, ⟨2, _⟩ => ⟨S1x1024x128x128, .f32⟩
  | .hbm, ⟨3, _⟩ => ⟨S1x1024x128x128, .f32⟩
  | .hbm, ⟨4, _⟩ => ⟨S16384x1024, .f32⟩
  | .hbm, ⟨5, _⟩ => ⟨S1x1024x16384, .f32⟩
  | .hbm, ⟨6, _⟩ => ⟨S1x1024x128x128, .f32⟩
  | .hbm, ⟨7, _⟩ => ⟨S1024, .i32⟩
  | .hbm, ⟨8, _⟩ => ⟨S1024x1, .i32⟩
  | .hbm, ⟨9, _⟩ => ⟨S1024, .i32⟩
  | .hbm, ⟨10, _⟩ => ⟨S1x1024, .i32⟩
  | .hbm, ⟨11, _⟩ => ⟨S1024x1024, .i32⟩
  | .hbm, ⟨12, _⟩ => ⟨S1024x1024, .i32⟩
  | .hbm, ⟨13, _⟩ => ⟨S1024x1024, .i32⟩
  | .hbm, ⟨14, _⟩ => ⟨S1024x1024, .i32⟩
  | .hbm, ⟨15, _⟩ => ⟨S_, .i32⟩
  | .hbm, ⟨16, _⟩ => ⟨S1024x1024, .i32⟩
  | .hbm, ⟨17, _⟩ => ⟨S1024x1024, .i1⟩
  | .hbm, ⟨18, _⟩ => ⟨S_, .i32⟩
  | .hbm, ⟨19, _⟩ => ⟨S1x1024, .i32⟩
  | .hbm, ⟨20, _⟩ => ⟨S1x1024, .i1⟩
  | .hbm, ⟨21, _⟩ => ⟨S_, .i32⟩
  | .hbm, ⟨22, _⟩ => ⟨S1024x1, .i32⟩
  | .hbm, ⟨23, _⟩ => ⟨S1024x1, .i1⟩
  | .hbm, ⟨24, _⟩ => ⟨S1024x1024, .i1⟩
  | .hbm, ⟨25, _⟩ => ⟨S1024x1024, .i1⟩
  | .hbm, ⟨26, _⟩ => ⟨S1024x1024, .i1⟩
  | .hbm, ⟨27, _⟩ => ⟨S1024x1024, .i1⟩
  | .hbm, ⟨28, _⟩ => ⟨S1x128x1024x1024, .f32⟩
  | .hbm, ⟨29, _⟩ => ⟨S_, .f32⟩
  | .hbm, ⟨30, _⟩ => ⟨S1x128x1024x1024, .f32⟩
  | .hbm, ⟨31, _⟩ => ⟨S1x128x1024x1024, .f32⟩
  | .hbm, ⟨32, _⟩ => ⟨S1x1x1024x1024, .i1⟩
  | .hbm, ⟨33, _⟩ => ⟨S_, .f32⟩
  | .hbm, ⟨34, _⟩ => ⟨S_, .f32⟩
  | .hbm, ⟨35, _⟩ => ⟨S1x128x1024x1024, .i1⟩
  | .hbm, ⟨36, _⟩ => ⟨S1x128x1024x1024, .f32⟩
  | .hbm, ⟨37, _⟩ => ⟨S1x128x1024x1024, .f32⟩
  | .hbm, ⟨38, _⟩ => ⟨S_, .f32⟩
  | .hbm, ⟨39, _⟩ => ⟨S1x128x1024, .f32⟩
  | .hbm, ⟨40, _⟩ => ⟨S1x128x1024x1, .f32⟩
  | .hbm, ⟨41, _⟩ => ⟨S1x128x1024x1024, .f32⟩
  | .hbm, ⟨42, _⟩ => ⟨S1x128x1024x1024, .f32⟩
  | .hbm, ⟨43, _⟩ => ⟨S1x128x1024x1024, .f32⟩
  | .hbm, ⟨44, _⟩ => ⟨S_, .i1⟩
  | .hbm, ⟨45, _⟩ => ⟨S1024, .i1⟩
  | .hbm, ⟨46, _⟩ => ⟨S1x1x1024x1, .i1⟩
  | .hbm, ⟨47, _⟩ => ⟨S_, .f32⟩
  | .hbm, ⟨48, _⟩ => ⟨S1x128x1024, .f32⟩
  | .hbm, ⟨49, _⟩ => ⟨S1x128x1024x1, .f32⟩
  | .hbm, ⟨50, _⟩ => ⟨S_, .f32⟩
  | .hbm, ⟨51, _⟩ => ⟨S_, .f32⟩
  | .hbm, ⟨52, _⟩ => ⟨S1x128x1024x1, .i1⟩
  | .hbm, ⟨53, _⟩ => ⟨S1x128x1024x1, .f32⟩
  | .hbm, ⟨54, _⟩ => ⟨S1x128x1024x1, .f32⟩
  | .hbm, ⟨55, _⟩ => ⟨S1x128x1024x1024, .f32⟩
  | .hbm, ⟨56, _⟩ => ⟨S1x128x1024x1024, .f32⟩
  | .hbm, ⟨57, _⟩ => ⟨S1x1x1024x1, .i1⟩
  | .hbm, ⟨58, _⟩ => ⟨S_, .f32⟩
  | .hbm, ⟨59, _⟩ => ⟨S_, .f32⟩
  | .hbm, ⟨60, _⟩ => ⟨S1x128x1024x1024, .i1⟩
  | .hbm, ⟨61, _⟩ => ⟨S1x128x1024x1024, .f32⟩
  | .hbm, ⟨62, _⟩ => ⟨S1x128x1024x1024, .f32⟩
  | .hbm, ⟨63, _⟩ => ⟨S1x128x128x1024, .f32⟩
  | .hbm, ⟨64, _⟩ => ⟨S1x1024x128x128, .f32⟩
  | .hbm, ⟨65, _⟩ => ⟨S1x1024x16384, .f32⟩
  | .hbm, ⟨66, _⟩ => ⟨S1x1024x1024, .f32⟩
  | .hbm, ⟨67, _⟩ => ⟨S1024x1024, .f32⟩
  | _, _ => ⟨S1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_c_0 : Ref sig .tc := ⟨.hbm, 18, rfl⟩
abbrev main_v12 : Ref sig .tc := ⟨.hbm, 19, rfl⟩
abbrev main_v13 : Ref sig .tc := ⟨.hbm, 20, rfl⟩
abbrev main_c_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_4 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_7 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩

abbrev nD : Nat := 1
abbrev τ : Topo := Topo.v7x

variable {F : FTy → Type} [FloatOps F]

def κ : String → Option EReal := fun
  | "mask" => some ⊥
  | _ => none
-- ==== Proof.Word.BodyEq.lean ====
/- The printed body is the sequence of named steps. -/
module

public import proofs.«01_k».proof.Proof.Word.Prog
public import proofs.«01_k».proof.Proof.Gen.Kernel.Points
public import proofs.«01_k».proof.Proof.Gen.Kernel.Launch
public import Idealize.ShloMosaic.Lib.Pipeline.Launch

@[expose] public section

noncomputable section

namespace Cert.Kernel.Steps

open Cert.Kernel Cert.Kernel.Gen Idealize.ShloMosaic Idealize.SL.Sem

variable {F : FTy → Type} [FloatOps F]

set_option maxRecDepth 100000 in
/-- The body the pipeline runs is the sequence of steps. -/
theorem body_eq : (bodyAt0 (F := F) t0_0) = bodyP (F := F) := by chain_rfl

end Cert.Kernel.Steps

end
-- ==== Proof.Ideal.Prog.lean ====
/- The kernel's body read as a sequence of named steps: the barrier, the two copies of the key and value heads, the
   projection, the four attention chunks, and thirty-two exchanges of row blocks with a neighbour, each first sent and
   then received. The printed body is this sequence. -/
module

public import proofs.«01_k».proof.Proof.Gen.KernelIdeal
public import proofs.«01_k».proof.Proof.Gen.KernelIdeal.Skeleton

@[expose] public section

noncomputable section

namespace Cert.KernelIdeal.Steps

open Cert.KernelIdeal Cert.KernelIdeal.Gen Idealize.ShloMosaic Idealize.SL.Sem

variable {F : FTy → Type} [FloatOps F] [Named F]

/-! ## One exchange of a row block with a neighbour -/

/-- What one exchange of rows is made of: the block's shape, the buffers it leaves from and lands in (a half of each),
    the two semaphores, the neighbour, and the rows of the result it reads and writes. -/
structure Exch where
  /-- The block's extents. -/
  sz : Fin 2 → Nat
  /-- The buffers' extents. -/
  bsz : Fin 2 → Nat
  /-- The buffer the block leaves from. -/
  sM : Memref sig .tc .vmem ⟨2, bsz⟩ .bf16
  /-- The buffer of the neighbour it lands in. -/
  rM : Memref sig .tc .vmem ⟨2, bsz⟩ .bf16
  hS : sM.IsWhole
  hR : rM.IsWhole
  /-- Where the half of the buffer begins. -/
  hoff : Fin 2 → Nat
  hinb : ∀ a, hoff a + sz a ≤ bsz a
  packed : (Rect.unit (s := ⟨2, bsz⟩) hoff sz hinb).PackedRows (EltTy.packing .bf16)
  words : (Rect.unit (s := ⟨2, bsz⟩) hoff sz hinb).WholeWords (EltTy.packing .bf16)
  hpos : 0 < (⟨2, sz⟩ : Shape).numel
  /-- The semaphore credited when the block has left. -/
  ssem : DmaSem sig
  /-- The semaphore credited when the neighbour's block has landed. -/
  rsem : DmaSem sig
  /-- The neighbour. -/
  dev : Dev nD → Dev nD
  /-- The rows sent. -/
  soff : Dev nD → Fin 2 → Nat
  sinb : ∀ d a, soff d a + sz a ≤ S1024x1024.size a
  /-- The rows received into. -/
  koff : Dev nD → Fin 2 → Nat
  kinb : ∀ d a, koff d a + sz a ≤ S1024x1024.size a
  /-- Whether the received rows replace the ones there (else they are added). -/
  ag : Bool

namespace Exch

/-- The block's shape. -/
abbrev sh (X : Exch) : Shape := ⟨2, X.sz⟩
/-- The half of the buffers the exchange uses. -/
abbrev half (X : Exch) : Rect ⟨2, X.bsz⟩ := Rect.unit (s := ⟨2, X.bsz⟩) X.hoff X.sz X.hinb
/-- The half the block leaves from. -/
abbrev sH (X : Exch) : Memref sig .tc .vmem ⟨2, X.sz⟩ .bf16 := X.sM.slice X.half (fun _ => rfl)
/-- The half it lands in. -/
abbrev rH (X : Exch) : Memref sig .tc .vmem ⟨2, X.sz⟩ .bf16 := X.rM.slice X.half (fun _ => rfl)
/-- The rows of the result sent. -/
abbrev srect (X : Exch) (d : Dev nD) : Rect S1024x1024 := Rect.unit (s := S1024x1024) (X.soff d) X.sz (X.sinb d)
/-- The rows of the result received into. -/
abbrev krect (X : Exch) (d : Dev nD) : Rect S1024x1024 := Rect.unit (s := S1024x1024) (X.koff d) X.sz (X.kinb d)

/-- The rows as they are sent. -/
def payS (X : Exch) (v : Vec F X.sh .f32) : FVec F X.sh .bf16 :=
  shapeCast X.sh (truncf .bf16 (shapeCast X.sh v rfl) bitsLt_bf16_f32) rfl
/-- The rows' new contents when the received ones are added. -/
def payAdd (X : Exch) (v : Vec F X.sh .f32) (r : Vec F X.sh .bf16) : FVec F X.sh .f32 :=
  addf (shapeCast X.sh v rfl) (extf .f32 r bitsLt_bf16_f32)
/-- The rows' new contents when the received ones replace them. -/
def payCopy (X : Exch) (r : Vec F X.sh .bf16) : FVec F X.sh .f32 := extf .f32 r bitsLt_bf16_f32

end Exch

/-- The program's effects on a tensor core. -/
abbrev PT (F : FTy → Type) [FloatOps F] [Named F] (α : Type) : Type 1 := Prog (TpuEff nD τ sig (Elt F) Λ₀ .tc) α

/-- The buffer the result is formed in. -/
abbrev oM : Memref sig .tc .vmem S1024x1024 .f32 := Memref.whole cc0_stg3_0
/-- The buffer of the projected queries. -/
abbrev qM : Memref sig .tc .vmem S1024x1024 .bf16 := Memref.whole cc0_scratch3
/-- The buffer of the device's key heads. -/
abbrev kM : Memref sig .tc .vmem S1024x8x128 .f32 := Memref.whole cc0_scratch0
/-- The buffer of the device's value heads. -/
abbrev vM : Memref sig .tc .vmem S1024x8x128 .f32 := Memref.whole cc0_scratch1
/-- The device's part of all the keys. -/
abbrev kSrc (d : Dev nD) : Memref sig .tc .hbm S1024x8x128 .f32 :=
  ((Memref.whole main_arg2).slice (Rect.unit (s := S1x1024x128x128) (k0_off1 d) S1x1024x8x128.size (k0_off1_inb d)) (fun _ => rfl)).squeeze S1024x8x128 squeezes_S1x1024x8x128_S1024x8x128
/-- The device's part of all the values. -/
abbrev vSrc (d : Dev nD) : Memref sig .tc .hbm S1024x8x128 .f32 :=
  ((Memref.whole main_arg3).slice (Rect.unit (s := S1x1024x128x128) (k0_off1 d) S1x1024x8x128.size (k0_off1_inb d)) (fun _ => rfl)).squeeze S1024x8x128 squeezes_S1x1024x8x128_S1024x8x128

/-- Send: read the rows, put them in the half, start the transfer. -/
def sendP (X : Exch) (d : Dev nD) : PT F PUnit := do
  let v : Vec F X.sh .f32 ← Prog.lift (.load oM (X.srect d).toLoadRect (View.loadsAt_vmem X.hpos))
  let _v : Vec F X.sh .bf16 ← Prog.lift (.load X.sM X.half.toLoadRect (View.loadsAt_vmem X.hpos))
  Prog.lift (.store X.sM X.half (X.payS v) Finset.univ (View.stores_vmem X.hpos (X.hS.storeExact_slice rfl _ X.packed) (fun _ => rfl)) (.inl rfl))
  Prog.lift (.enqueueDma X.sH (.remote (Dev.tc (X.dev d)) X.rH (.dma X.ssem)) (.dma X.rsem) (X.hS.wordExact_slice rfl _ X.words) (X.hR.wordExact_slice rfl _ X.words) ⟨⟨rfl, Or.inl rfl⟩, trivial⟩)

/-- Wait until the sent block has left and the neighbour's has landed. -/
def waitP (X : Exch) : PT F PUnit := do
  Prog.lift (.waitDma2 X.ssem X.rH X.sH (X.hR.wordExact_slice rfl _ X.words) (X.hS.wordExact_slice rfl _ X.words))
  Prog.lift (.waitDma2 X.rsem X.sH X.rH (X.hS.wordExact_slice rfl _ X.words) (X.hR.wordExact_slice rfl _ X.words))

/-- Receive and add. -/
def addP (X : Exch) (d : Dev nD) : PT F PUnit := do
  waitP X
  let v : Vec F X.sh .f32 ← Prog.lift (.load oM (X.krect d).toLoadRect (View.loadsAt_vmem X.hpos))
  let r : Vec F X.sh .bf16 ← Prog.lift (.load X.rM X.half.toLoadRect (View.loadsAt_vmem X.hpos))
  let _v : Vec F X.sh .f32 ← Prog.lift (.load oM (X.krect d).toLoadRect (View.loadsAt_vmem X.hpos))
  Prog.lift (.store oM (X.krect d) (X.payAdd v r) Finset.univ (View.stores_vmem_bits_univ X.hpos rfl) (.inl rfl))

/-- Receive and replace. -/
def copyP (X : Exch) (d : Dev nD) : PT F PUnit := do
  waitP X
  let r : Vec F X.sh .bf16 ← Prog.lift (.load X.rM X.half.toLoadRect (View.loadsAt_vmem X.hpos))
  let _v : Vec F X.sh .f32 ← Prog.lift (.load oM (X.krect d).toLoadRect (View.loadsAt_vmem X.hpos))
  Prog.lift (.store oM (X.krect d) (X.payCopy r) Finset.univ (View.stores_vmem_bits_univ X.hpos rfl) (.inl rfl))

/-- Receive. -/
def recvP (X : Exch) (d : Dev nD) : PT F PUnit := bif X.ag then copyP X d else addP X d

/-- The thirty-two exchanges, four to a stage: for each half of the columns of work (`c`) and each of the two row
    halves, in the order they are sent and received. -/
def E : Fin 32 → Exch
  | 0 => { sz := S128x1024.size, bsz := S256x1024.size, sM := Memref.whole cc0_scratch4, rM := Memref.whole cc0_scratch8, hS := Memref.isWhole_whole _, hR := Memref.isWhole_whole _, hoff := ![0, 0], hinb := inb_S256x1024_S128x1024_0_0, packed := packedbf16_S256x1024_S128x1024_0_0, words := wordsbf16_S256x1024_S128x1024_0_0, hpos := h_S128x1024, ssem := 6, rsem := 14, dev := fun d0 => ⟨k0_dev5 d0, k0_dev5_lt d0⟩, soff := fun d0 => k0_off20 d0 0#32, sinb := fun d0 => k0_off20_inb d0 0, koff := fun d0 => k0_off40 d0 0#32, kinb := fun d0 => k0_off40_inb d0 0, ag := false }
  | 1 => { sz := S128x1024.size, bsz := S256x1024.size, sM := Memref.whole cc0_scratch20, rM := Memref.whole cc0_scratch24, hS := Memref.isWhole_whole _, hR := Memref.isWhole_whole _, hoff := ![0, 0], hinb := inb_S256x1024_S128x1024_0_0, packed := packedbf16_S256x1024_S128x1024_0_0, words := wordsbf16_S256x1024_S128x1024_0_0, hpos := h_S128x1024, ssem := 38, rsem := 46, dev := fun d0 => ⟨k0_dev6 d0, k0_dev6_lt d0⟩, soff := fun d0 => k0_off21 d0 0#32, sinb := fun d0 => k0_off21_inb d0 0, koff := fun d0 => k0_off41 d0 0#32, kinb := fun d0 => k0_off41_inb d0 0, ag := false }
  | 2 => { sz := S128x1024.size, bsz := S256x1024.size, sM := Memref.whole cc0_scratch4, rM := Memref.whole cc0_scratch8, hS := Memref.isWhole_whole _, hR := Memref.isWhole_whole _, hoff := ![128, 0], hinb := inb_S256x1024_S128x1024_128_0, packed := packedbf16_S256x1024_S128x1024_128_0, words := wordsbf16_S256x1024_S128x1024_128_0, hpos := h_S128x1024, ssem := 7, rsem := 15, dev := fun d0 => ⟨k0_dev7 d0, k0_dev7_lt d0⟩, soff := fun d0 => k0_off20 d0 128#32, sinb := fun d0 => k0_off20_inb d0 1, koff := fun d0 => k0_off40 d0 128#32, kinb := fun d0 => k0_off40_inb d0 1, ag := false }
  | 3 => { sz := S128x1024.size, bsz := S256x1024.size, sM := Memref.whole cc0_scratch20, rM := Memref.whole cc0_scratch24, hS := Memref.isWhole_whole _, hR := Memref.isWhole_whole _, hoff := ![128, 0], hinb := inb_S256x1024_S128x1024_128_0, packed := packedbf16_S256x1024_S128x1024_128_0, words := wordsbf16_S256x1024_S128x1024_128_0, hpos := h_S128x1024, ssem := 39, rsem := 47, dev := fun d0 => ⟨k0_dev8 d0, k0_dev8_lt d0⟩, soff := fun d0 => k0_off21 d0 128#32, sinb := fun d0 => k0_off21_inb d0 1, koff := fun d0 => k0_off41 d0 128#32, kinb := fun d0 => k0_off41_inb d0 1, ag := false }
  | 4 => { sz := S64x1024.size, bsz := S128x1024.size, sM := Memref.whole cc0_scratch5, rM := Memref.whole cc0_scratch9, hS := Memref.isWhole_whole _, hR := Memref.isWhole_whole _, hoff := ![0, 0], hinb := inb_S128x1024_S64x1024_0_0, packed := packedbf16_S128x1024_S64x1024_0_0, words := wordsbf16_S128x1024_S64x1024_0_0, hpos := h_S64x1024, ssem := 8, rsem := 16, dev := fun d0 => ⟨k0_dev9 d0, k0_dev9_lt d0⟩, soff := fun d0 => k0_off42 d0 0#32, sinb := fun d0 => k0_off42_inb d0 0, koff := fun d0 => k0_off44 d0 0#32, kinb := fun d0 => k0_off44_inb d0 0, ag := false }
  | 5 => { sz := S64x1024.size, bsz := S128x1024.size, sM := Memref.whole cc0_scratch21, rM := Memref.whole cc0_scratch25, hS := Memref.isWhole_whole _, hR := Memref.isWhole_whole _, hoff := ![0, 0], hinb := inb_S128x1024_S64x1024_0_0, packed := packedbf16_S128x1024_S64x1024_0_0, words := wordsbf16_S128x1024_S64x1024_0_0, hpos := h_S64x1024, ssem := 40, rsem := 48, dev := fun d0 => ⟨k0_dev10 d0, k0_dev10_lt d0⟩, soff := fun d0 => k0_off43 d0 0#32, sinb := fun d0 => k0_off43_inb d0 0, koff := fun d0 => k0_off45 d0 0#32, kinb := fun d0 => k0_off45_inb d0 0, ag := false }
  | 6 => { sz := S64x1024.size, bsz := S128x1024.size, sM := Memref.whole cc0_scratch5, rM := Memref.whole cc0_scratch9, hS := Memref.isWhole_whole _, hR := Memref.isWhole_whole _, hoff := ![64, 0], hinb := inb_S128x1024_S64x1024_64_0, packed := packedbf16_S128x1024_S64x1024_64_0, words := wordsbf16_S128x1024_S64x1024_64_0, hpos := h_S64x1024, ssem := 9, rsem := 17, dev := fun d0 => ⟨k0_dev11 d0, k0_dev11_lt d0⟩, soff := fun d0 => k0_off42 d0 64#32, sinb := fun d0 => k0_off42_inb d0 1, koff := fun d0 => k0_off44 d0 64#32, kinb := fun d0 => k0_off44_inb d0 1, ag := false }
  | 7 => { sz := S64x1024.size, bsz := S128x1024.size, sM := Memref.whole cc0_scratch21, rM := Memref.whole cc0_scratch25, hS := Memref.isWhole_whole _, hR := Memref.isWhole_whole _, hoff := ![64, 0], hinb := inb_S128x1024_S64x1024_64_0, packed := packedbf16_S128x1024_S64x1024_64_0, words := wordsbf16_S128x1024_S64x1024_64_0, hpos := h_S64x1024, ssem := 41, rsem := 49, dev := fun d0 => ⟨k0_dev12 d0, k0_dev12_lt d0⟩, soff := fun d0 => k0_off43 d0 64#32, sinb := fun d0 => k0_off43_inb d0 1, koff := fun d0 => k0_off45 d0 64#32, kinb := fun d0 => k0_off45_inb d0 1, ag := false }
  | 8 => { sz := S32x1024.size, bsz := S64x1024.size, sM := Memref.whole cc0_scratch6, rM := Memref.whole cc0_scratch10, hS := Memref.isWhole_whole _, hR := Memref.isWhole_whole _, hoff := ![0, 0], hinb := inb_S64x1024_S32x1024_0_0, packed := packedbf16_S64x1024_S32x1024_0_0, words := wordsbf16_S64x1024_S32x1024_0_0, hpos := h_S32x1024, ssem := 10, rsem := 18, dev := fun d0 => ⟨k0_dev13 d0, k0_dev13_lt d0⟩, soff := fun d0 => k0_off46 d0 0#32, sinb := fun d0 => k0_off46_inb d0 0, koff := fun d0 => k0_off48 d0 0#32, kinb := fun d0 => k0_off48_inb d0 0, ag := false }
  | 9 => { sz := S32x1024.size, bsz := S64x1024.size, sM := Memref.whole cc0_scratch22, rM := Memref.whole cc0_scratch26, hS := Memref.isWhole_whole _, hR := Memref.isWhole_whole _, hoff := ![0, 0], hinb := inb_S64x1024_S32x1024_0_0, packed := packedbf16_S64x1024_S32x1024_0_0, words := wordsbf16_S64x1024_S32x1024_0_0, hpos := h_S32x1024, ssem := 42, rsem := 50, dev := fun d0 => ⟨k0_dev14 d0, k0_dev14_lt d0⟩, soff := fun d0 => k0_off47 d0 0#32, sinb := fun d0 => k0_off47_inb d0 0, koff := fun d0 => k0_off49 d0 0#32, kinb := fun d0 => k0_off49_inb d0 0, ag := false }
  | 10 => { sz := S32x1024.size, bsz := S64x1024.size, sM := Memref.whole cc0_scratch6, rM := Memref.whole cc0_scratch10, hS := Memref.isWhole_whole _, hR := Memref.isWhole_whole _, hoff := ![32, 0], hinb := inb_S64x1024_S32x1024_32_0, packed := packedbf16_S64x1024_S32x1024_32_0, words := wordsbf16_S64x1024_S32x1024_32_0, hpos := h_S32x1024, ssem := 11, rsem := 19, dev := fun d0 => ⟨k0_dev15 d0, k0_dev15_lt d0⟩, soff := fun d0 => k0_off46 d0 32#32, sinb := fun d0 => k0_off46_inb d0 1, koff := fun d0 => k0_off48 d0 32#32, kinb := fun d0 => k0_off48_inb d0 1, ag := false }
  | 11 => { sz := S32x1024.size, bsz := S64x1024.size, sM := Memref.whole cc0_scratch22, rM := Memref.whole cc0_scratch26, hS := Memref.isWhole_whole _, hR := Memref.isWhole_whole _, hoff := ![32, 0], hinb := inb_S64x1024_S32x1024_32_0, packed := packedbf16_S64x1024_S32x1024_32_0, words := wordsbf16_S64x1024_S32x1024_32_0, hpos := h_S32x1024, ssem := 43, rsem := 51, dev := fun d0 => ⟨k0_dev16 d0, k0_dev16_lt d0⟩, soff := fun d0 => k0_off47 d0 32#32, sinb := fun d0 => k0_off47_inb d0 1, koff := fun d0 => k0_off49 d0 32#32, kinb := fun d0 => k0_off49_inb d0 1, ag := false }
  | 12 => { sz := S16x1024.size, bsz := S32x1024.size, sM := Memref.whole cc0_scratch7, rM := Memref.whole cc0_scratch11, hS := Memref.isWhole_whole _, hR := Memref.isWhole_whole _, hoff := ![0, 0], hinb := inb_S32x1024_S16x1024_0_0, packed := packedbf16_S32x1024_S16x1024_0_0, words := wordsbf16_S32x1024_S16x1024_0_0, hpos := h_S16x1024, ssem := 12, rsem := 20, dev := fun d0 => ⟨k0_dev17 d0, k0_dev17_lt d0⟩, soff := fun d0 => k0_off50 d0 0#32, sinb := fun d0 => k0_off50_inb d0 0, koff := fun d0 => k0_off52 d0 0#32, kinb := fun d0 => k0_off52_inb d0 0, ag := false }
  | 13 => { sz := S16x1024.size, bsz := S32x1024.size, sM := Memref.whole cc0_scratch23, rM := Memref.whole cc0_scratch27, hS := Memref.isWhole_whole _, hR := Memref.isWhole_whole _, hoff := ![0, 0], hinb := inb_S32x1024_S16x1024_0_0, packed := packedbf16_S32x1024_S16x1024_0_0, words := wordsbf16_S32x1024_S16x1024_0_0, hpos := h_S16x1024, ssem := 44, rsem := 52, dev := fun d0 => ⟨k0_dev18 d0, k0_dev18_lt d0⟩, soff := fun d0 => k0_off51 d0 0#32, sinb := fun d0 => k0_off51_inb d0 0, koff := fun d0 => k0_off53 d0 0#32, kinb := fun d0 => k0_off53_inb d0 0, ag := false }
  | 14 => { sz := S16x1024.size, bsz := S32x1024.size, sM := Memref.whole cc0_scratch7, rM := Memref.whole cc0_scratch11, hS := Memref.isWhole_whole _, hR := Memref.isWhole_whole _, hoff := ![16, 0], hinb := inb_S32x1024_S16x1024_16_0, packed := packedbf16_S32x1024_S16x1024_16_0, words := wordsbf16_S32x1024_S16x1024_16_0, hpos := h_S16x1024, ssem := 13, rsem := 21, dev := fun d0 => ⟨k0_dev19 d0, k0_dev19_lt d0⟩, soff := fun d0 => k0_off50 d0 16#32, sinb := fun d0 => k0_off50_inb d0 1, koff := fun d0 => k0_off52 d0 16#32, kinb := fun d0 => k0_off52_inb d0 1, ag := false }
  | 15 => { sz := S16x1024.size, bsz := S32x1024.size, sM := Memref.whole cc0_scratch23, rM := Memref.whole cc0_scratch27, hS := Memref.isWhole_whole _, hR := Memref.isWhole_whole _, hoff := ![16, 0], hinb := inb_S32x1024_S16x1024_16_0, packed := packedbf16_S32x1024_S16x1024_16_0, words := wordsbf16_S32x1024_S16x1024_16_0, hpos := h_S16x1024, ssem := 45, rsem := 53, dev := fun d0 => ⟨k0_dev20 d0, k0_dev20_lt d0⟩, soff := fun d0 => k0_off51 d0 16#32, sinb := fun d0 => k0_off51_inb d0 1, koff := fun d0 => k0_off53 d0 16#32, kinb := fun d0 => k0_off53_inb d0 1, ag := false }
  | 16 => { sz := S16x1024.size, bsz := S32x1024.size, sM := Memref.whole cc0_scratch12, rM := Memref.whole cc0_scratch16, hS := Memref.isWhole_whole _, hR := Memref.isWhole_whole _, hoff := ![0, 0], hinb := inb_S32x1024_S16x1024_0_0, packed := packedbf16_S32x1024_S16x1024_0_0, words := wordsbf16_S32x1024_S16x1024_0_0, hpos := h_S16x1024, ssem := 22, rsem := 30, dev := fun d0 => ⟨k0_dev21 d0, k0_dev21_lt d0⟩, soff := fun d0 => k0_off52 d0 0#32, sinb := fun d0 => k0_off52_inb d0 0, koff := fun d0 => k0_off54 d0 0#32, kinb := fun d0 => k0_off54_inb d0 0, ag := true }
  | 17 => { sz := S16x1024.size, bsz := S32x1024.size, sM := Memref.whole cc0_scratch28, rM := Memref.whole cc0_scratch32, hS := Memref.isWhole_whole _, hR := Memref.isWhole_whole _, hoff := ![0, 0], hinb := inb_S32x1024_S16x1024_0_0, packed := packedbf16_S32x1024_S16x1024_0_0, words := wordsbf16_S32x1024_S16x1024_0_0, hpos := h_S16x1024, ssem := 54, rsem := 62, dev := fun d0 => ⟨k0_dev22 d0, k0_dev22_lt d0⟩, soff := fun d0 => k0_off53 d0 0#32, sinb := fun d0 => k0_off53_inb d0 0, koff := fun d0 => k0_off55 d0 0#32, kinb := fun d0 => k0_off55_inb d0 0, ag := true }
  | 18 => { sz := S16x1024.size, bsz := S32x1024.size, sM := Memref.whole cc0_scratch12, rM := Memref.whole cc0_scratch16, hS := Memref.isWhole_whole _, hR := Memref.isWhole_whole _, hoff := ![16, 0], hinb := inb_S32x1024_S16x1024_16_0, packed := packedbf16_S32x1024_S16x1024_16_0, words := wordsbf16_S32x1024_S16x1024_16_0, hpos := h_S16x1024, ssem := 23, rsem := 31, dev := fun d0 => ⟨k0_dev23 d0, k0_dev23_lt d0⟩, soff := fun d0 => k0_off52 d0 16#32, sinb := fun d0 => k0_off52_inb d0 1, koff := fun d0 => k0_off54 d0 16#32, kinb := fun d0 => k0_off54_inb d0 1, ag := true }
  | 19 => { sz := S16x1024.size, bsz := S32x1024.size, sM := Memref.whole cc0_scratch28, rM := Memref.whole cc0_scratch32, hS := Memref.isWhole_whole _, hR := Memref.isWhole_whole _, hoff := ![16, 0], hinb := inb_S32x1024_S16x1024_16_0, packed := packedbf16_S32x1024_S16x1024_16_0, words := wordsbf16_S32x1024_S16x1024_16_0, hpos := h_S16x1024, ssem := 55, rsem := 63, dev := fun d0 => ⟨k0_dev24 d0, k0_dev24_lt d0⟩, soff := fun d0 => k0_off53 d0 16#32, sinb := fun d0 => k0_off53_inb d0 1, koff := fun d0 => k0_off55 d0 16#32, kinb := fun d0 => k0_off55_inb d0 1, ag := true }
  | 20 => { sz := S32x1024.size, bsz := S64x1024.size, sM := Memref.whole cc0_scratch13, rM := Memref.whole cc0_scratch17, hS := Memref.isWhole_whole _, hR := Memref.isWhole_whole _, hoff := ![0, 0], hinb := inb_S64x1024_S32x1024_0_0, packed := packedbf16_S64x1024_S32x1024_0_0, words := wordsbf16_S64x1024_S32x1024_0_0, hpos := h_S32x1024, ssem := 24, rsem := 32, dev := fun d0 => ⟨k0_dev25 d0, k0_dev25_lt d0⟩, soff := fun d0 => k0_off56 d0 0#32, sinb := fun d0 => k0_off56_inb d0 0, koff := fun d0 => k0_off58 d0 0#32, kinb := fun d0 => k0_off58_inb d0 0, ag := true }
  | 21 => { sz := S32x1024.size, bsz := S64x1024.size, sM := Memref.whole cc0_scratch29, rM := Memref.whole cc0_scratch33, hS := Memref.isWhole_whole _, hR := Memref.isWhole_whole _, hoff := ![0, 0], hinb := inb_S64x1024_S32x1024_0_0, packed := packedbf16_S64x1024_S32x1024_0_0, words := wordsbf16_S64x1024_S32x1024_0_0, hpos := h_S32x1024, ssem := 56, rsem := 64, dev := fun d0 => ⟨k0_dev26 d0, k0_dev26_lt d0⟩, soff := fun d0 => k0_off57 d0 0#32, sinb := fun d0 => k0_off57_inb d0 0, koff := fun d0 => k0_off59 d0 0#32, kinb := fun d0 => k0_off59_inb d0 0, ag := true }
  | 22 => { sz := S32x1024.size, bsz := S64x1024.size, sM := Memref.whole cc0_scratch13, rM := Memref.whole cc0_scratch17, hS := Memref.isWhole_whole _, hR := Memref.isWhole_whole _, hoff := ![32, 0], hinb := inb_S64x1024_S32x1024_32_0, packed := packedbf16_S64x1024_S32x1024_32_0, words := wordsbf16_S64x1024_S32x1024_32_0, hpos := h_S32x1024, ssem := 25, rsem := 33, dev := fun d0 => ⟨k0_dev27 d0, k0_dev27_lt d0⟩, soff := fun d0 => k0_off56 d0 32#32, sinb := fun d0 => k0_off56_inb d0 1, koff := fun d0 => k0_off58 d0 32#32, kinb := fun d0 => k0_off58_inb d0 1, ag := true }
  | 23 => { sz := S32x1024.size, bsz := S64x1024.size, sM := Memref.whole cc0_scratch29, rM := Memref.whole cc0_scratch33, hS := Memref.isWhole_whole _, hR := Memref.isWhole_whole _, hoff := ![32, 0], hinb := inb_S64x1024_S32x1024_32_0, packed := packedbf16_S64x1024_S32x1024_32_0, words := wordsbf16_S64x1024_S32x1024_32_0, hpos := h_S32x1024, ssem := 57, rsem := 65, dev := fun d0 => ⟨k0_dev28 d0, k0_dev28_lt d0⟩, soff := fun d0 => k0_off57 d0 32#32, sinb := fun d0 => k0_off57_inb d0 1, koff := fun d0 => k0_off59 d0 32#32, kinb := fun d0 => k0_off59_inb d0 1, ag := true }
  | 24 => { sz := S64x1024.size, bsz := S128x1024.size, sM := Memref.whole cc0_scratch14, rM := Memref.whole cc0_scratch18, hS := Memref.isWhole_whole _, hR := Memref.isWhole_whole _, hoff := ![0, 0], hinb := inb_S128x1024_S64x1024_0_0, packed := packedbf16_S128x1024_S64x1024_0_0, words := wordsbf16_S128x1024_S64x1024_0_0, hpos := h_S64x1024, ssem := 26, rsem := 34, dev := fun d0 => ⟨k0_dev29 d0, k0_dev29_lt d0⟩, soff := fun d0 => k0_off60 d0 0#32, sinb := fun d0 => k0_off60_inb d0 0, koff := fun d0 => k0_off62 d0 0#32, kinb := fun d0 => k0_off62_inb d0 0, ag := true }
  | 25 => { sz := S64x1024.size, bsz := S128x1024.size, sM := Memref.whole cc0_scratch30, rM := Memref.whole cc0_scratch34, hS := Memref.isWhole_whole _, hR := Memref.isWhole_whole _, hoff := ![0, 0], hinb := inb_S128x1024_S64x1024_0_0, packed := packedbf16_S128x1024_S64x1024_0_0, words := wordsbf16_S128x1024_S64x1024_0_0, hpos := h_S64x1024, ssem := 58, rsem := 66, dev := fun d0 => ⟨k0_dev30 d0, k0_dev30_lt d0⟩, soff := fun d0 => k0_off61 d0 0#32, sinb := fun d0 => k0_off61_inb d0 0, koff := fun d0 => k0_off63 d0 0#32, kinb := fun d0 => k0_off63_inb d0 0, ag := true }
  | 26 => { sz := S64x1024.size, bsz := S128x1024.size, sM := Memref.whole cc0_scratch14, rM := Memref.whole cc0_scratch18, hS := Memref.isWhole_whole _, hR := Memref.isWhole_whole _, hoff := ![64, 0], hinb := inb_S128x1024_S64x1024_64_0, packed := packedbf16_S128x1024_S64x1024_64_0, words := wordsbf16_S128x1024_S64x1024_64_0, hpos := h_S64x1024, ssem := 27, rsem := 35, dev := fun d0 => ⟨k0_dev31 d0, k0_dev31_lt d0⟩, soff := fun d0 => k0_off60 d0 64#32, sinb := fun d0 => k0_off60_inb d0 1, koff := fun d0 => k0_off62 d0 64#32, kinb := fun d0 => k0_off62_inb d0 1, ag := true }
  | 27 => { sz := S64x1024.size, bsz := S128x1024.size, sM := Memref.whole cc0_scratch30, rM := Memref.whole cc0_scratch34, hS := Memref.isWhole_whole _, hR := Memref.isWhole_whole _, hoff := ![64, 0], hinb := inb_S128x1024_S64x1024_64_0, packed := packedbf16_S128x1024_S64x1024_64_0, words := wordsbf16_S128x1024_S64x1024_64_0, hpos := h_S64x1024, ssem := 59, rsem := 67, dev := fun d0 => ⟨k0_dev32 d0, k0_dev32_lt d0⟩, soff := fun d0 => k0_off61 d0 64#32, sinb := fun d0 => k0_off61_inb d0 1, koff := fun d0 => k0_off63 d0 64#32, kinb := fun d0 => k0_off63_inb d0 1, ag := true }
  | 28 => { sz := S128x1024.size, bsz := S256x1024.size, sM := Memref.whole cc0_scratch15, rM := Memref.whole cc0_scratch19, hS := Memref.isWhole_whole _, hR := Memref.isWhole_whole _, hoff := ![0, 0], hinb := inb_S256x1024_S128x1024_0_0, packed := packedbf16_S256x1024_S128x1024_0_0, words := wordsbf16_S256x1024_S128x1024_0_0, hpos := h_S128x1024, ssem := 28, rsem := 36, dev := fun d0 => ⟨k0_dev33 d0, k0_dev33_lt d0⟩, soff := fun d0 => k0_off64 d0 0#32, sinb := fun d0 => k0_off64_inb d0 0, koff := fun d0 => k0_off66 d0 0#32, kinb := fun d0 => k0_off66_inb d0 0, ag := true }
  | 29 => { sz := S128x1024.size, bsz := S256x1024.size, sM := Memref.whole cc0_scratch31, rM := Memref.whole cc0_scratch35, hS := Memref.isWhole_whole _, hR := Memref.isWhole_whole _, hoff := ![0, 0], hinb := inb_S256x1024_S128x1024_0_0, packed := packedbf16_S256x1024_S128x1024_0_0, words := wordsbf16_S256x1024_S128x1024_0_0, hpos := h_S128x1024, ssem := 60, rsem := 68, dev := fun d0 => ⟨k0_dev34 d0, k0_dev34_lt d0⟩, soff := fun d0 => k0_off65 d0 0#32, sinb := fun d0 => k0_off65_inb d0 0, koff := fun d0 => k0_off67 d0 0#32, kinb := fun d0 => k0_off67_inb d0 0, ag := true }
  | 30 => { sz := S128x1024.size, bsz := S256x1024.size, sM := Memref.whole cc0_scratch15, rM := Memref.whole cc0_scratch19, hS := Memref.isWhole_whole _, hR := Memref.isWhole_whole _, hoff := ![128, 0], hinb := inb_S256x1024_S128x1024_128_0, packed := packedbf16_S256x1024_S128x1024_128_0, words := wordsbf16_S256x1024_S128x1024_128_0, hpos := h_S128x1024, ssem := 29, rsem := 37, dev := fun d0 => ⟨k0_dev35 d0, k0_dev35_lt d0⟩, soff := fun d0 => k0_off64 d0 128#32, sinb := fun d0 => k0_off64_inb d0 1, koff := fun d0 => k0_off66 d0 128#32, kinb := fun d0 => k0_off66_inb d0 1, ag := true }
  | 31 => { sz := S128x1024.size, bsz := S256x1024.size, sM := Memref.whole cc0_scratch31, rM := Memref.whole cc0_scratch35, hS := Memref.isWhole_whole _, hR := Memref.isWhole_whole _, hoff := ![128, 0], hinb := inb_S256x1024_S128x1024_128_0, packed := packedbf16_S256x1024_S128x1024_128_0, words := wordsbf16_S256x1024_S128x1024_128_0, hpos := h_S128x1024, ssem := 61, rsem := 69, dev := fun d0 => ⟨k0_dev36 d0, k0_dev36_lt d0⟩, soff := fun d0 => k0_off65 d0 128#32, sinb := fun d0 => k0_off65_inb d0 1, koff := fun d0 => k0_off67 d0 128#32, kinb := fun d0 => k0_off67_inb d0 1, ag := true }
  | ⟨_ + 32, h⟩ => absurd h (Nat.not_lt.2 (Nat.le_add_left _ _))

/-! ## One chunk of attention -/

/-- The constant added to the scores outside the band. -/
abbrev maskC : F .f32 := Named.named κ "mask" 0xCE6E6B28#32

/-- What is added to the scores of the chunk whose first row is `w`. -/
def biasV (w : BitVec 32) : FVec F S256x1024 .f32 :=
  have rows : IVec S256x1024 32 := addi (broadcast S256x1024 w) (iota .tc S256x1024 32 [0] iota_S256x1024_d0_w32)
  have cols : IVec S256x1024 32 := iota .tc S256x1024 32 [1] iota_S256x1024_d1_w32
  select (ori (ori (cmpi .sle (absi (subi rows cols)) (broadcast S256x1024 128#32)) (cmpi .slt cols (broadcast S256x1024 32#32)))
      (cmpi .slt rows (broadcast S256x1024 32#32)))
    (broadcast S256x1024 (Scalar.ofBits .f32 0x00000000#32)) (broadcast S256x1024 maskC)

/-- The exponentials of one head's scores. -/
def expV (b : FVec F S256x1024 .f32) (q : FVec F S256x128 .bf16) (k : FVec F S1024x128 .bf16) : FVec F S256x1024 .f32 :=
  exp (addf (matmul dot_S256x128_S1024x128_S256x1024_1_1_0_0_n_n none q k (constant S256x1024 .f32 0x00000000#32)) b)

/-- One head's attention over the chunk's rows. -/
def headV (b : FVec F S256x1024 .f32) (q : FVec F S256x128 .bf16) (k v : FVec F S1024x128 .bf16) : FVec F S256x128 .f32 :=
  divf (matmul dot_S256x1024_S1024x128_S256x128_1_0_0_1_n_n none (truncf .bf16 (expV b q k) bitsLt_bf16_f32) v (constant S256x128 .f32 0x00000000#32))
    (broadcastTo S256x128 (shapeCast S256x1 (multiReduction .add [1] S256 (expV b q k) 0x00000000#32 reduces_S256x1024_S256 (.inl rfl) rfl) shapeCasts_S256_S256x1) broadcasts_S256x1_S256x128)

/-- The chunk's rows of the device's share of the result, from the eight heads' queries, keys and values. -/
def chunkV (w : BitVec 32) (q : Fin 8 → FVec F S256x128 .bf16) (k v : Fin 8 → FVec F S1024x128 .bf16) (wo : FVec F S1024x1024 .bf16) : FVec F S256x1024 .f32 :=
  matmul dot_S256x1024_S1024x1024_S256x1024_1_0_0_1_n_n none
    (truncf .bf16 (concatenate S256x1024 1 [⟨S256x128, headV (biasV w) (q 0) (k 0) (v 0)⟩, ⟨S256x128, headV (biasV w) (q 1) (k 1) (v 1)⟩,
      ⟨S256x128, headV (biasV w) (q 2) (k 2) (v 2)⟩, ⟨S256x128, headV (biasV w) (q 3) (k 3) (v 3)⟩, ⟨S256x128, headV (biasV w) (q 4) (k 4) (v 4)⟩,
      ⟨S256x128, headV (biasV w) (q 5) (k 5) (v 5)⟩, ⟨S256x128, headV (biasV w) (q 6) (k 6) (v 6)⟩, ⟨S256x128, headV (biasV w) (q 7) (k 7) (v 7)⟩]
      concatenates_S256x128_S256x128_S256x128_S256x128_S256x128_S256x128_S256x128_S256x128_S256x1024_d1) bitsLt_bf16_f32) wo (constant S256x1024 .f32 0x00000000#32)

/-- The queries. -/
def queryV (x : Vec F S1x1024x1024 .f32) (wq : Vec F S1024x1024 .f32) : FVec F S1024x1024 .bf16 :=
  shapeCast S1024x1024 (truncf .bf16 (mulf (matmul dot_S1024x1024_S1024x1024_S1024x1024_1_0_0_1_n_n none
      (truncf .bf16 (shapeCast S1024x1024 x shapeCasts_S1x1024x1024_S1024x1024) bitsLt_bf16_f32)
      (truncf .bf16 (shapeCast S1024x1024 wq shapeCasts_S1024x1024_S1024x1024) bitsLt_bf16_f32) (constant S1024x1024 .f32 0x00000000#32))
    (broadcast S1024x1024 (Scalar.ofBits .f32 0x3DB504F3#32))) bitsLt_bf16_f32) shapeCasts_S1024x1024_S1024x1024

/-- One head of the keys or values. -/
def kvV (x : Vec F S1024x1x128 .f32) : FVec F S1024x128 .bf16 :=
  truncf .bf16 (shapeCast S1024x128 x shapeCasts_S1024x1x128_S1024x128) bitsLt_bf16_f32

/-- The output weights as the products read them. -/
def woV (x : Vec F S1024x1024 .f32) : FVec F S1024x1024 .bf16 :=
  truncf .bf16 (shapeCast S1024x1024 x shapeCasts_S1024x1024_S1024x1024) bitsLt_bf16_f32

/-- The device's second bit along its ring of four, as the kernel computes it. -/
def bitB (d0 : Dev nD) : BitVec 32 :=
  let v4 : BitVec 32 := Dev.word d0
  let c1_i32_1 : BitVec 32 := 1#32
  let v5 : BitVec 32 := Scalar.divsi v4 c1_i32_1
  let c16_i32_0 : BitVec 32 := 16#32
  let v6 : BitVec 32 := Scalar.remsi v5 c16_i32_0
  let c4_i32_7 : BitVec 32 := 4#32
  let c0_i32_8 : BitVec 32 := 0#32
  let v24 : BitVec 1 := Scalar.cmpi .eq c4_i32_7 c0_i32_8
  let c1_i32_9 : BitVec 32 := 1#32
  let v25 : BitVec 32 := Scalar.select v24 c1_i32_9 c4_i32_7
  let v26 : BitVec 32 := Scalar.remsi v6 v25
  let c0_i32_11 : BitVec 32 := 0#32
  let v28 : BitVec 1 := Scalar.cmpi .slt v26 c0_i32_11
  let c0_i32_12 : BitVec 32 := 0#32
  let v29 : BitVec 1 := Scalar.cmpi .slt v25 c0_i32_12
  let v30 : BitVec 1 := Scalar.xori v28 v29
  let c0_i32_10 : BitVec 32 := 0#32
  let v27 : BitVec 1 := Scalar.cmpi .ne v26 c0_i32_10
  let v31 : BitVec 1 := Scalar.andi v30 v27
  let v32 : BitVec 32 := Scalar.addi v26 v25
  let v33 : BitVec 32 := Scalar.select v31 v32 v26
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v33 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_13 : BitVec 32 := 0#32
  let v35 : BitVec 1 := Scalar.cmpi .sgt v33 c0_i32_13
  let v36 : BitVec 32 := Scalar.extui v35
  let c0_i32_14 : BitVec 32 := 0#32
  let v37 : BitVec 1 := Scalar.cmpi .slt v33 c0_i32_14
  let v38 : BitVec 32 := Scalar.extui v37
  let v39 : BitVec 32 := Scalar.subi v36 v38
  let c2_i32 : BitVec 32 := 2#32
  let c0_i32_15 : BitVec 32 := 0#32
  let v40 : BitVec 1 := Scalar.cmpi .sgt c2_i32 c0_i32_15
  let v41 : BitVec 32 := Scalar.extui v40
  let c0_i32_16 : BitVec 32 := 0#32
  let v42 : BitVec 1 := Scalar.cmpi .slt c2_i32 c0_i32_16
  let v43 : BitVec 32 := Scalar.extui v42
  let v44 : BitVec 32 := Scalar.subi v41 v43
  let v45 : BitVec 1 := Scalar.cmpi .ne v39 v44
  let v46 : BitVec 32 := Scalar.remsi v33 c2_i32
  let c0_i32_17 : BitVec 32 := 0#32
  let v47 : BitVec 1 := Scalar.cmpi .ne v46 c0_i32_17
  let v48 : BitVec 1 := Scalar.andi v45 v47
  let v34 : BitVec 32 := Scalar.divsi v33 c2_i32
  let c1_i32_18 : BitVec 32 := 1#32
  let v49 : BitVec 32 := Scalar.subi v34 c1_i32_18
  let v50 : BitVec 32 := Scalar.select v48 v49 v34
  v50
/-- The device's first bit along its ring of four, as the kernel computes it. -/
def bitA (d0 : Dev nD) : BitVec 32 :=
  let v4 : BitVec 32 := Dev.word d0
  let c1_i32_1 : BitVec 32 := 1#32
  let v5 : BitVec 32 := Scalar.divsi v4 c1_i32_1
  let c16_i32_0 : BitVec 32 := 16#32
  let v6 : BitVec 32 := Scalar.remsi v5 c16_i32_0
  let c4_i32_7 : BitVec 32 := 4#32
  let c0_i32_8 : BitVec 32 := 0#32
  let v24 : BitVec 1 := Scalar.cmpi .eq c4_i32_7 c0_i32_8
  let c1_i32_9 : BitVec 32 := 1#32
  let v25 : BitVec 32 := Scalar.select v24 c1_i32_9 c4_i32_7
  let v26 : BitVec 32 := Scalar.remsi v6 v25
  let c0_i32_11 : BitVec 32 := 0#32
  let v28 : BitVec 1 := Scalar.cmpi .slt v26 c0_i32_11
  let c0_i32_12 : BitVec 32 := 0#32
  let v29 : BitVec 1 := Scalar.cmpi .slt v25 c0_i32_12
  let v30 : BitVec 1 := Scalar.xori v28 v29
  let c0_i32_10 : BitVec 32 := 0#32
  let v27 : BitVec 1 := Scalar.cmpi .ne v26 c0_i32_10
  let v31 : BitVec 1 := Scalar.andi v30 v27
  let v32 : BitVec 32 := Scalar.addi v26 v25
  let v33 : BitVec 32 := Scalar.select v31 v32 v26
  let c2_i32_19 : BitVec 32 := 2#32
  let c0_i32_20 : BitVec 32 := 0#32
  let v51 : BitVec 1 := Scalar.cmpi .eq c2_i32_19 c0_i32_20
  let c1_i32_21 : BitVec 32 := 1#32
  let v52 : BitVec 32 := Scalar.select v51 c1_i32_21 c2_i32_19
  let v53 : BitVec 32 := Scalar.remsi v33 v52
  let c0_i32_23 : BitVec 32 := 0#32
  let v55 : BitVec 1 := Scalar.cmpi .slt v53 c0_i32_23
  let c0_i32_24 : BitVec 32 := 0#32
  let v56 : BitVec 1 := Scalar.cmpi .slt v52 c0_i32_24
  let v57 : BitVec 1 := Scalar.xori v55 v56
  let c0_i32_22 : BitVec 32 := 0#32
  let v54 : BitVec 1 := Scalar.cmpi .ne v53 c0_i32_22
  let v58 : BitVec 1 := Scalar.andi v57 v54
  let v59 : BitVec 32 := Scalar.addi v53 v52
  let v60 : BitVec 32 := Scalar.select v58 v59 v53
  let c0_i32_13 : BitVec 32 := 0#32
  let v35 : BitVec 1 := Scalar.cmpi .sgt v33 c0_i32_13
  let v36 : BitVec 32 := Scalar.extui v35
  let c0_i32_14 : BitVec 32 := 0#32
  let v37 : BitVec 1 := Scalar.cmpi .slt v33 c0_i32_14
  let v38 : BitVec 32 := Scalar.extui v37
  let v39 : BitVec 32 := Scalar.subi v36 v38
  let c2_i32 : BitVec 32 := 2#32
  let c0_i32_15 : BitVec 32 := 0#32
  let v40 : BitVec 1 := Scalar.cmpi .sgt c2_i32 c0_i32_15
  let v41 : BitVec 32 := Scalar.extui v40
  let c0_i32_16 : BitVec 32 := 0#32
  let v42 : BitVec 1 := Scalar.cmpi .slt c2_i32 c0_i32_16
  let v43 : BitVec 32 := Scalar.extui v42
  let v44 : BitVec 32 := Scalar.subi v41 v43
  let v45 : BitVec 1 := Scalar.cmpi .ne v39 v44
  let v46 : BitVec 32 := Scalar.remsi v33 c2_i32
  let c0_i32_17 : BitVec 32 := 0#32
  let v47 : BitVec 1 := Scalar.cmpi .ne v46 c0_i32_17
  let v48 : BitVec 1 := Scalar.andi v45 v47
  let v34 : BitVec 32 := Scalar.divsi v33 c2_i32
  let c1_i32_18 : BitVec 32 := 1#32
  let v49 : BitVec 32 := Scalar.subi v34 c1_i32_18
  let v50 : BitVec 32 := Scalar.select v48 v49 v34
  let v61 : BitVec 32 := Scalar.xori v60 v50
  v61

/-- The first row of each of the four chunks, in the order they are computed. -/
def cw : Fin 4 → Dev nD → BitVec 32
  | 0 => fun d => Scalar.muli (Scalar.subi 1#32 (bitA d)) 256#32
  | 1 => fun d => Scalar.addi 512#32 (Scalar.muli (Scalar.subi 1#32 (bitB d)) 256#32)
  | 2 => fun d => Scalar.muli (bitA d) 256#32
  | 3 => fun d => Scalar.addi 512#32 (Scalar.muli (bitB d) 256#32)

theorem cw_q : ∀ (i : Fin 4) (d : Dev nD) (h : Fin 8) (a : Fin 2), (![(cw i d).toNat, 128 * h.val] : Fin 2 → Nat) a + S256x128.size a ≤ S1024x1024.size a := by
  decide +kernel
theorem cw_o : ∀ (i : Fin 4) (d : Dev nD) (a : Fin 2), (![(cw i d).toNat, 0] : Fin 2 → Nat) a + S256x1024.size a ≤ S1024x1024.size a := by
  decide +kernel

/-- One head's queries of a chunk. -/
abbrev qrect (i : Fin 4) (d : Dev nD) (h : Fin 8) : Rect S1024x1024 := Rect.unit (s := S1024x1024) ![(cw i d).toNat, 128 * h.val] S256x128.size (cw_q i d h)
/-- The chunk's rows of the result. -/
abbrev orect (i : Fin 4) (d : Dev nD) : Rect S1024x1024 := Rect.unit (s := S1024x1024) ![(cw i d).toNat, 0] S256x1024.size (cw_o i d)

/-- Read one head's queries. -/
abbrev loadQ (i : Fin 4) (d : Dev nD) (h : Fin 8) : PT F (Vec F S256x128 .bf16) :=
  Prog.lift (.load qM (qrect i d h).toLoadRect (View.loadsAt_vmem h_S256x128))

/-- One chunk: its rows of the device's share of the result are computed and stored. -/
def chunkP (i : Fin 4) (k v : Fin 8 → FVec F S1024x128 .bf16) (wo : FVec F S1024x1024 .bf16) (d : Dev nD) : PT F PUnit := do
  let q0 ← loadQ i d 0
  let q1 ← loadQ i d 1
  let q2 ← loadQ i d 2
  let q3 ← loadQ i d 3
  let q4 ← loadQ i d 4
  let q5 ← loadQ i d 5
  let q6 ← loadQ i d 6
  let q7 ← loadQ i d 7
  let _v : Vec F S256x1024 .f32 ← Prog.lift (.load oM (orect i d).toLoadRect (View.loadsAt_vmem h_S256x1024))
  Prog.lift (.store oM (orect i d) (chunkV (cw i d) ![q0, q1, q2, q3, q4, q5, q6, q7] k v wo) Finset.univ (View.stores_vmem_bits_univ h_S256x1024 rfl) (.inl rfl))

theorem kv_inb : ∀ (h : Fin 8) (a : Fin 3), (![0, h.val, 0] : Fin 3 → Nat) a + S1024x1x128.size a ≤ S1024x8x128.size a := by decide

/-- One head of the keys or values in their buffers. -/
abbrev hrect (h : Fin 8) : Rect S1024x8x128 := Rect.unit (s := S1024x8x128) ![0, h.val, 0] S1024x1x128.size (kv_inb h)
/-- Read one head. -/
abbrev loadH (m : Memref sig .tc .vmem S1024x8x128 .f32) (h : Fin 8) : PT F (Vec F S1024x1x128 .f32) :=
  Prog.lift (.load m (hrect h).toLoadRect (View.loadsAt_vmem h_S1024x1x128))
/-- Read the eight heads. -/
def loadHs (m : Memref sig .tc .vmem S1024x8x128 .f32) : PT F (Fin 8 → FVec F S1024x128 .bf16) := do
  let k0 ← loadH m 0
  let k1 ← loadH m 1
  let k2 ← loadH m 2
  let k3 ← loadH m 3
  let k4 ← loadH m 4
  let k5 ← loadH m 5
  let k6 ← loadH m 6
  let k7 ← loadH m 7
  pure ![kvV k0, kvV k1, kvV k2, kvV k3, kvV k4, kvV k5, kvV k6, kvV k7]

/-- The neighbour along dimension `k`, as the barrier's signals name it. -/
def bdev : Fin 4 → Dev nD → Dev nD
  | 0 => fun d => ⟨k0_dev1 d, k0_dev1_lt d⟩
  | 1 => fun d => ⟨k0_dev2 d, k0_dev2_lt d⟩
  | 2 => fun d => ⟨k0_dev3 d, k0_dev3_lt d⟩
  | 3 => fun d => ⟨k0_dev4 d, k0_dev4_lt d⟩

/-- The barrier's semaphore. -/
abbrev barS : Sem sig := (SemArray.scalar (sig.barrier 0 rfl) : Sems sig S_).sem

/-- The barrier: signal the four neighbours, wait for the four. -/
def barP (d : Dev nD) : PT F PUnit := do
  semSignalWord (bdev 0 d) barS 1#32
  semSignalWord (bdev 1 d) barS 1#32
  semSignalWord (bdev 2 d) barS 1#32
  semSignalWord (bdev 3 d) barS 1#32
  semWaitWord barS 4#32

/-- The copies of the device's key and value heads are started, the queries computed, the copies waited for. -/
def projP (d : Dev nD) : PT F PUnit := do
  Prog.lift (.enqueueDma (kSrc d) (.here kM) (.dma (4 : DmaSem sig)) ((View.wordExact_bits rfl).reshape _ _) (Memref.isWhole_whole _).wordExact ⟨Or.inl rfl, trivial⟩)
  Prog.lift (.enqueueDma (vSrc d) (.here vM) (.dma (5 : DmaSem sig)) ((View.wordExact_bits rfl).reshape _ _) (Memref.isWhole_whole _).wordExact ⟨Or.inl rfl, trivial⟩)
  let x : Vec F S1x1024x1024 .f32 ← Prog.lift (.load (Memref.whole cc0_stg0_0) (Rect.unit (s := S1x1024x1024) ![0, 0, 0] S1x1024x1024.size inb_S1x1024x1024_S1x1024x1024_0_0_0).toLoadRect (View.loadsAt_vmem h_S1x1024x1024))
  let w : Vec F S1024x1024 .f32 ← Prog.lift (.load (Memref.whole cc0_stg1_0) (Rect.unit (s := S1024x1024) ![0, 0] S1024x1024.size inb_S1024x1024_S1024x1024_0_0).toLoadRect (View.loadsAt_vmem h_S1024x1024))
  let _v : Vec F S1024x1024 .bf16 ← Prog.lift (.load qM (Rect.unit (s := S1024x1024) ![0, 0] S1024x1024.size inb_S1024x1024_S1024x1024_0_0).toLoadRect (View.loadsAt_vmem h_S1024x1024))
  Prog.lift (.store qM (Rect.unit (s := S1024x1024) ![0, 0] S1024x1024.size inb_S1024x1024_S1024x1024_0_0) (queryV x w) Finset.univ (View.stores_vmem h_S1024x1024 ((Memref.isWhole_whole _).storeExact_slice rfl _ packedbf16_S1024x1024_S1024x1024_0_0) (fun _ => rfl)) (.inl rfl))
  Prog.lift (.waitDma2 (4 : DmaSem sig) (kSrc d) kM ((View.wordExact_bits rfl).reshape _ _) (Memref.isWhole_whole _).wordExact)
  Prog.lift (.waitDma2 (5 : DmaSem sig) (vSrc d) vM ((View.wordExact_bits rfl).reshape _ _) (Memref.isWhole_whole _).wordExact)

/-- Read the output weights. -/
def loadWo : PT F (FVec F S1024x1024 .bf16) := do
  let w : Vec F S1024x1024 .f32 ← Prog.lift (.load (Memref.whole cc0_stg2_0) (Rect.unit (s := S1024x1024) ![0, 0] S1024x1024.size inb_S1024x1024_S1024x1024_0_0).toLoadRect (View.loadsAt_vmem h_S1024x1024))
  pure (woV w)

/-- A list of exchanges sent one after another. -/
def sends (d : Dev nD) : List (Fin 32) → PT F PUnit
  | [] => pure ⟨⟩
  | e :: l => do sendP (E e) d; sends d l
/-- A list of exchanges received one after another. -/
def recvs (d : Dev nD) : List (Fin 32) → PT F PUnit
  | [] => pure ⟨⟩
  | e :: l => do recvP (E e) d; recvs d l

/-- The four exchanges of a stage. -/
def stageL (s : Fin 8) : List (Fin 32) := [⟨4 * s.val, by omega⟩, ⟨4 * s.val + 1, by omega⟩, ⟨4 * s.val + 2, by omega⟩, ⟨4 * s.val + 3, by omega⟩]

/-- The stages after the first, one after another. -/
def stages (d : Dev nD) : List (Fin 8) → PT F PUnit
  | [] => pure ⟨⟩
  | s :: l => do sends d (stageL s); recvs d (stageL s); stages d l

/-- The whole body. -/
def bodyP : PT F PUnit := do
  let d : Dev nD ← Prog.lift .deviceId
  barP d
  projP d
  let k ← loadHs kM
  let v ← loadHs vM
  let wo ← loadWo
  chunkP 0 k v wo d
  chunkP 1 k v wo d
  sends d (stageL 0)
  chunkP 2 k v wo d
  chunkP 3 k v wo d
  recvs d (stageL 0)
  stages d [1, 2, 3, 4, 5, 6, 7]

end Cert.KernelIdeal.Steps

end
-- ==== Proof.Ideal.Protocol.lean ====
/- The protocol of the exchanges: which cells there are, what each contribution hands over, and what each device owes.
   Contents are computed from the memory the launch starts from. -/
module

public import proofs.«01_k».proof.Proof.Ideal.Prog
public import proofs.«01_k».proof.Proof.Gen.KernelIdeal.Points
public import proofs.«01_k».proof.Proof.Gen.KernelIdeal.Launch
public import proofs.«01_k».proof.Proof.Gen.KernelIdeal.Frame
public import Idealize.ShloMosaic.Lib.Pipeline.Launch
public import Idealize.ShloMosaic.Lib.Pipeline.Kit
public import Idealize.ShloMosaic.Lib.WritesUnit
public import Idealize.ShloMosaic.Lib.Tactic

@[expose] public section

noncomputable section

namespace Cert.KernelIdeal.Steps

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The protocol's own ghost state. -/
abbrev UB : Type := URounds (GSem nD τ sig) (Fin 4)
/-- The ghost state of the pipeline and of the protocol. -/
abbrev UU : Type := UR sig nD τ × UB

local notation "𝕄" => MT nD τ sig Unit (Elt F) ℕ UU ℕ

/-- The pipeline's part of the ghost state. -/
abbrev EP : Emb (UR sig nD τ) (MT nD τ sig Unit (Elt F) ℕ UU ℕ) := embL
/-- The protocol's part. -/
abbrev ER : Emb UB (MT nD τ sig Unit (Elt F) ℕ UU ℕ) := embR

/-! ## The neighbours -/

/-- Which of the four dimensions an exchange runs along. -/
def dim (e : Fin 32) : Fin 4 := ![![0, 1, 2, 3, 3, 2, 1, 0], ![1, 2, 0, 3, 3, 0, 2, 1]] ⟨e.val % 2, Nat.mod_lt _ (by decide)⟩ ⟨e.val / 4, by omega⟩

theorem dev_eq : ∀ (e : Fin 32) (c : Dev nD), (E e).dev c = bdev (dim e) c := by decide +kernel
theorem bdev_bdev : ∀ (k : Fin 4) (c : Dev nD), bdev k (bdev k c) = c := by decide +kernel
/-- The neighbour an exchange is with. -/
abbrev dv (e : Fin 32) (c : Dev nD) : Dev nD := (E e).dev c
theorem dv_dv (e : Fin 32) (c : Dev nD) : dv e (dv e c) = c := by
  unfold dv; rw [dev_eq, dev_eq, bdev_bdev]

/-! ## The cells -/

/-- What a semaphore is for. -/
inductive Kd
  | bar | kv (b : Bool) | snd (e : Fin 32) | rcv (e : Fin 32) | oth

/-- The purpose of each semaphore, read off its number. -/
def kd : SemLoc sig → Kd
  | .reg _ => .bar
  | .dma n =>
    if n.val < 4 then .oth else if n.val = 4 then .kv false else if n.val = 5 then .kv true else
      let k := n.val - 6
      let e : Fin 32 := Fin.ofNat 32 (4 * (k % 8 / 2 + 4 * (k / 16 % 2)) + 2 * (k % 2) + k / 32)
      if k / 8 % 2 = 0 then .snd e else .rcv e

/-- The protocol's own semaphores: the two copies', the thirty-two sends', the thirty-two receives'. -/
abbrev J : Type := Bool ⊕ (Fin 32 ⊕ Fin 32)
/-- Each as a semaphore. -/
def osem : J → SemLoc sig
  | .inl false => .dma 4
  | .inl true => .dma 5
  | .inr (.inl e) => .dma (E e).ssem
  | .inr (.inr e) => .dma (E e).rsem
/-- With the barrier's. -/
def csem : Unit ⊕ J → SemLoc sig
  | .inl _ => .reg barS
  | .inr j => osem j

/-- The barrier's cell on device `c`. -/
abbrev bcell (c : Dev nD) : GSem nD τ sig := ((c : Thread nD τ), .reg barS)
/-- The cell of the copy of the keys (`false`) or values. -/
abbrev kcell (b : Bool) (c : Dev nD) : GSem nD τ sig := ((c : Thread nD τ), osem (.inl b))
/-- An exchange's send cell. -/
abbrev scell (e : Fin 32) (c : Dev nD) : GSem nD τ sig := ((c : Thread nD τ), .dma (E e).ssem)
/-- An exchange's receive cell. -/
abbrev rcell (e : Fin 32) (c : Dev nD) : GSem nD τ sig := ((c : Thread nD τ), .dma (E e).rsem)

theorem kd_bar : kd (.reg barS) = .bar := rfl
theorem kd_kv (b : Bool) : kd (osem (.inl b)) = .kv b := by cases b <;> rfl
theorem kd_snd : ∀ e : Fin 32, kd (.dma (E e).ssem) = .snd e := by
  intro e; fin_cases e <;> rfl
theorem kd_rcv : ∀ e : Fin 32, kd (.dma (E e).rsem) = .rcv e := by
  intro e; fin_cases e <;> rfl

/-- The amount an exchange's two cells are credited. -/
def nE (e : Fin 32) : ℕ := (E e).rH.view.dmaCredit
/-- The amount the copies' cells are credited. -/
def nK : ℕ := kM.view.dmaCredit

theorem nE_pos (e : Fin 32) : 0 < nE e := View.dmaCredit_pos _ (E e).hpos
theorem nK_pos : 0 < nK := View.dmaCredit_pos _ (by decide)
theorem nE_s : ∀ e : Fin 32, (E e).sH.view.dmaCredit = nE e := by
  intro e; fin_cases e <;> rfl
theorem nK_v : vM.view.dmaCredit = nK := rfl

/-! ## Contents -/

section Contents
variable (m : (ℓ : Loc nD τ sig) → Buf (Elt F) ℓ)

/-- The input as device `c` stages it. -/
def xC (c : Dev nD) : Vec F S1x1024x1024 .f32 := iblk m c 0 t0_0
/-- Its query weights. -/
def wqC (c : Dev nD) : Vec F S1024x1024 .f32 := iblk m c 1 t0_0
/-- Its output weights. -/
def woC (c : Dev nD) : Vec F S1024x1024 .f32 := iblk m c 2 t0_0
/-- Its queries. -/
def qC (c : Dev nD) : Vec F S1024x1024 .bf16 := queryV (xC m c) (wqC m c)
/-- Its key heads. -/
def kC (c : Dev nD) : Vec F S1024x8x128 .f32 := (kSrc c).view.read (Elt F) (m ((c : Thread nD τ).loc main_arg2))
/-- Its value heads. -/
def vC (c : Dev nD) : Vec F S1024x8x128 .f32 := (vSrc c).view.read (Elt F) (m ((c : Thread nD τ).loc main_arg3))

/-- The eight heads of a buffer of them. -/
def heads (f : Vec F S1024x8x128 .f32) : Fin 8 → FVec F S1024x128 .bf16 :=
  ![kvV (kM.view.readAt (Elt F) (hrect 0).toLoadRect f), kvV (kM.view.readAt (Elt F) (hrect 1).toLoadRect f),
    kvV (kM.view.readAt (Elt F) (hrect 2).toLoadRect f), kvV (kM.view.readAt (Elt F) (hrect 3).toLoadRect f),
    kvV (kM.view.readAt (Elt F) (hrect 4).toLoadRect f), kvV (kM.view.readAt (Elt F) (hrect 5).toLoadRect f),
    kvV (kM.view.readAt (Elt F) (hrect 6).toLoadRect f), kvV (kM.view.readAt (Elt F) (hrect 7).toLoadRect f)]

/-- One head's queries of a chunk. -/
def qR (i : Fin 4) (c : Dev nD) (f : Vec F S1024x1024 .bf16) (h : Fin 8) : FVec F S256x128 .bf16 := qM.view.readAt (Elt F) (qrect i c h).toLoadRect f

/-- A chunk of device `c`'s share of the result. -/
def chunkC (i : Fin 4) (c : Dev nD) : FVec F S256x1024 .f32 :=
  chunkV (cw i c) ![qR i c (qC m c) 0, qR i c (qC m c) 1, qR i c (qC m c) 2, qR i c (qC m c) 3, qR i c (qC m c) 4, qR i c (qC m c) 5, qR i c (qC m c) 6, qR i c (qC m c) 7]
    (heads (kC m c)) (heads (vC m c)) (woV (woC m c))

/-- The result's contents with a chunk written. -/
def wch (i : Fin 4) (c : Dev nD) (g : Vec F S1024x1024 .f32) : Vec F S1024x1024 .f32 :=
  (oM.access (orect i c)).write (Elt F) g (chunkC m i c) Finset.univ

/-- Device `c`'s share of the result. -/
def share0 (c : Dev nD) : Vec F S1024x1024 .f32 :=
  wch m 3 c (wch m 2 c (wch m 1 c (wch m 0 c (m ((c : Thread nD τ).loc cc0_stg3_0)))))

/-- The block device `c` sends in an exchange, the result's contents being `g`. -/
def sent (e : Fin 32) (c : Dev nD) (g : Vec F S1024x1024 .f32) : FVec F (E e).sh .bf16 :=
  (E e).payS (oM.view.readAt (Elt F) ((E e).srect c).toLoadRect g)

/-- The result's contents when the block `r` has been received. -/
def stp (e : Fin 32) (c : Dev nD) (r : FVec F (E e).sh .bf16) (g : Vec F S1024x1024 .f32) : Vec F S1024x1024 .f32 :=
  (oM.access ((E e).krect c)).write (Elt F) g
    (bif (E e).ag then (E e).payCopy r else (E e).payAdd (oM.view.readAt (Elt F) ((E e).krect c).toLoadRect g) r) Finset.univ

/-- The result's contents after a stage, from every device's before it. -/
def next (s : ℕ) (f : Dev nD → Vec F S1024x1024 .f32) (c : Dev nD) : Vec F S1024x1024 .f32 :=
  (stageL (Fin.ofNat 8 s)).foldl (fun g e => stp e c (sent e (dv e c) (f (dv e c))) g) (f c)

/-- The result's contents on each device before stage `s`. -/
def fs : ℕ → Dev nD → Vec F S1024x1024 .f32
  | 0 => share0 m
  | s + 1 => next s (fs s)

/-- The block device `c` sends in exchange `e`. -/
def blockOf (e : Fin 32) (c : Dev nD) : FVec F (E e).sh .bf16 := sent e c (fs m (e.val / 4) c)

/-- The half of the buffer device `c` sends from. -/
def sPts (e : Fin 32) (c : Dev nD) (f : Buf (Elt F) ((E e).sH.view.loc (c : Thread nD τ))) : sProp 𝕄 :=
  (E e).sH.view.loc (c : Thread nD τ) ↦[(E e).sH.view.set]{fullShare} f
/-- The half of the buffer device `c` receives in. -/
def rPts (e : Fin 32) (c : Dev nD) (f : Buf (Elt F) ((E e).rH.view.loc (c : Thread nD τ))) : sProp 𝕄 :=
  (E e).rH.view.loc (c : Thread nD τ) ↦[(E e).rH.view.set]{fullShare} f
/-- The part of the keys device `c` copies. -/
def ksPts (c : Dev nD) : sProp 𝕄 :=
  (kSrc c).view.loc (c : Thread nD τ) ↦[(kSrc c).view.set]{fullShare} m ((c : Thread nD τ).loc main_arg2)
/-- The part of the values it copies. -/
def vsPts (c : Dev nD) : sProp 𝕄 :=
  (vSrc c).view.loc (c : Thread nD τ) ↦[(vSrc c).view.set]{fullShare} m ((c : Thread nD τ).loc main_arg3)

instance sPts_storable (e : Fin 32) (c : Dev nD) (f) : BI.Storable (upEmb : UEmb _ 𝕄) (sPts (F := F) e c f) := by unfold sPts; infer_instance
instance rPts_storable (e : Fin 32) (c : Dev nD) (f) : BI.Storable (upEmb : UEmb _ 𝕄) (rPts (F := F) e c f) := by unfold rPts; infer_instance
instance ksPts_storable (c : Dev nD) : BI.Storable (upEmb : UEmb _ 𝕄) (ksPts (F := F) m c) := by unfold ksPts; infer_instance
instance vsPts_storable (c : Dev nD) : BI.Storable (upEmb : UEmb _ 𝕄) (vsPts (F := F) m c) := by unfold vsPts; infer_instance

/-! ## The schedule -/

/-- What a device's signal along dimension `k` hands its neighbour `c`: its landing halves of that dimension. -/
def barPay (k : Fin 4) (c : Dev nD) : sProp 𝕄 :=
  bigSep (Finset.univ.filter fun e => dim e = k) fun e => iprop(∃ f, rPts e (bdev k c) f)
/-- What a copy hands back: the buffer filled and the part it was copied from. -/
def kvPay : Bool → Dev nD → sProp 𝕄
  | false => fun c => iprop((((c : Thread nD τ).loc cc0_scratch0) ↦{fullShare} kC m c) ∗ ksPts m c)
  | true => fun c => iprop((((c : Thread nD τ).loc cc0_scratch1) ↦{fullShare} vC m c) ∗ vsPts m c)
/-- What the end of a send hands back. -/
def sndPay (e : Fin 32) (c : Dev nD) : sProp 𝕄 := iprop(∃ f, sPts e c f)
/-- What a landing hands over: the half, holding the neighbour's block. -/
def rcvPay (e : Fin 32) (c : Dev nD) : sProp 𝕄 :=
  iprop(∃ f, ⌜(E e).rH.view.read (Elt F) f = blockOf m e (dv e c)⌝ ∗ rPts e c f)

instance barPay_storable (k : Fin 4) (c : Dev nD) : BI.Storable (upEmb : UEmb _ 𝕄) (barPay (F := F) k c) := by unfold barPay; infer_instance
instance kvPay_storable (b : Bool) (c : Dev nD) : BI.Storable (upEmb : UEmb _ 𝕄) (kvPay (F := F) m b c) := by
  cases b <;> (dsimp only [kvPay]; infer_instance)
instance sndPay_storable (e : Fin 32) (c : Dev nD) : BI.Storable (upEmb : UEmb _ 𝕄) (sndPay (F := F) e c) := by unfold sndPay; infer_instance
instance rcvPay_storable (e : Fin 32) (c : Dev nD) : BI.Storable (upEmb : UEmb _ 𝕄) (rcvPay (F := F) m e c) := by unfold rcvPay; infer_instance

/-- The duties of a kind of cell in its one round. -/
def dutyOf : Kd → Finset (Fin 4)
  | .bar => Finset.univ
  | .oth => ∅
  | _ => {0}
/-- The amount of a duty. -/
def amtOf : Kd → ℕ
  | .snd e => nE e
  | .rcv e => nE e
  | .kv _ => nK
  | _ => 1
theorem amtOf_pos : ∀ k, 0 < amtOf k
  | .snd e => nE_pos e
  | .rcv e => nE_pos e
  | .kv _ => nK_pos
  | .bar => Nat.one_pos
  | .oth => Nat.one_pos
/-- The payload of a duty. -/
def payOf (k : Kd) (d : Fin 4) (c : Dev nD) : sProp 𝕄 :=
  match k with
  | .bar => barPay d c
  | .kv b => kvPay m b c
  | .snd e => sndPay e c
  | .rcv e => rcvPay m e c
  | .oth => iprop(emp)

/-- One round: a barrier cell has four duties, one per neighbour; every other cell one. -/
def rd : Rounds.Schedule (GSem nD τ sig) (Fin 4) 𝕄 where
  duties g r := if r = 0 ∧ g.1.2 = .tc then dutyOf (kd g.2) else ∅
  unitless _ := False
  amount g _ _ := amtOf (kd g.2)
  payload g _ d := payOf m (kd g.2) d g.1.1
  amount_pos g _ _ _ := amtOf_pos _

instance rd_payload_storable (g : GSem nD τ sig) (r : ℕ) (d : Fin 4) :
    BI.Storable (upEmb : UEmb _ 𝕄) ((rd (F := F) m).payload g r d) := by
  show BI.Storable upEmb (payOf m (kd g.2) d g.1.1)
  cases kd g.2 <;> (dsimp only [payOf]; infer_instance)

theorem duties_eq (c : Dev nD) (s : SemLoc sig) : (rd (F := F) m).duties ((c : Thread nD τ), s) 0 = dutyOf (kd s) := by
  dsimp only [rd]; exact if_pos ⟨rfl, rfl⟩
theorem amount_eq (c : Dev nD) (s : SemLoc sig) (d : Fin 4) : (rd (F := F) m).amount ((c : Thread nD τ), s) 0 d = amtOf (kd s) := rfl
theorem payload_eq (c : Dev nD) (s : SemLoc sig) (d : Fin 4) : (rd (F := F) m).payload ((c : Thread nD τ), s) 0 d = payOf m (kd s) d c := rfl
theorem duties_later (g : GSem nD τ sig) : ∀ r, 1 ≤ r → (rd (F := F) m).duties g r = ∅ :=
  fun r hr => if_neg fun h => by have := h.1; omega

/-- A cell of one duty expects that duty's amount. -/
theorem expect_one (c : Dev nD) (s : SemLoc sig) (h : dutyOf (kd s) = {0}) : (rd (F := F) m).expect ((c : Thread nD τ), s) 0 = amtOf (kd s) := by
  unfold Schedule.expect Schedule.amountOf; rw [duties_eq, h, Finset.sum_singleton, amount_eq]
theorem expect_bar (c : Dev nD) : (rd (F := F) m).expect (bcell c) 0 = 4 := by
  unfold Schedule.expect Schedule.amountOf; rw [duties_eq]; rfl
/-- The rest of the round of a cell of one duty is that duty's payload. -/
theorem rest_one (c : Dev nD) (s : SemLoc sig) (h : dutyOf (kd s) = {0}) :
    bigSep ((rd (F := F) m).duties ((c : Thread nD τ), s) 0 \ ∅) (fun d => (rd (F := F) m).payload ((c : Thread nD τ), s) 0 d) = payOf m (kd s) 0 c := by
  rw [Finset.sdiff_empty, duties_eq, h, bigSep_singleton, payload_eq]
theorem rest_bar (c : Dev nD) :
    bigSep ((rd (F := F) m).duties (bcell c) 0 \ ∅) (fun d => (rd (F := F) m).payload (bcell c) 0 d) = bigSep Finset.univ fun k => barPay k c := by
  rw [Finset.sdiff_empty, duties_eq]; rfl

end Contents

/-! ## What each device owes, and the levels -/

/-- What device `c` owes its neighbours' receive cells for a list of exchanges still to be sent. -/
def ow : List (Fin 32) → Dev nD → CellTallies nD τ sig Unit
  | [] => fun _ => 0
  | e :: l => fun c => ow l c + tallyAt (rcell e (dv e c)) () (nE e)

/-- All the exchanges in order. -/
def allE : List (Fin 32) := List.finRange 32

/-- What device `c` owes when the first `k` of its signals are made. -/
def owB (c : Dev nD) : Fin 5 → CellTallies nD τ sig Unit
  | 4 => ow allE c
  | 3 => ow allE c + tallyAt (bcell (bdev 3 c)) () 1
  | 2 => ow allE c + tallyAt (bcell (bdev 3 c)) () 1 + tallyAt (bcell (bdev 2 c)) () 1
  | 1 => ow allE c + tallyAt (bcell (bdev 3 c)) () 1 + tallyAt (bcell (bdev 2 c)) () 1 + tallyAt (bcell (bdev 1 c)) () 1
  | 0 => ow allE c + tallyAt (bcell (bdev 3 c)) () 1 + tallyAt (bcell (bdev 2 c)) () 1 + tallyAt (bcell (bdev 1 c)) () 1 + tallyAt (bcell (bdev 0 c)) () 1

/-- The cells with levels: the tensor cores'. -/
def L (g : GSem nD τ sig) : Finset Unit := if g.1.2 = .tc then {()} else ∅
/-- The levels: a barrier cell at 1, a receive cell above it by its stage, the rest at 0. -/
def lv (g : GSem nD τ sig) (_ : Unit) : ℕ :=
  match kd g.2 with
  | .bar => 1
  | .rcv e => 2 + e.val / 4
  | _ => 0

theorem L_of_ne (g : GSem nD τ sig) (h : g.1.2 ≠ .tc) : L g = ∅ := if_neg h
theorem L_tc (c : Dev nD) (s : SemLoc sig) : L ((c : Thread nD τ), s) = {()} := if_pos rfl
theorem lv_bar (c : Dev nD) (u : Unit) : lv (bcell c) u = 1 := rfl
theorem lv_rcv (e : Fin 32) (c : Dev nD) (u : Unit) : lv (rcell e c) u = 2 + e.val / 4 := by unfold lv; rw [kd_rcv]

theorem lv_snd (e : Fin 32) (c : Dev nD) (u : Unit) : lv (scell e c) u = 0 := by unfold lv; rw [kd_snd]

/-- What is owed for exchanges is owed to their receive cells. -/
theorem ow_pos {l : List (Fin 32)} {c : Dev nD} {g : GSem nD τ sig} {u : Unit} (h : 0 < ow l c g u) : ∃ e ∈ l, g = rcell e (dv e c) := by
  induction l with
  | nil => exact absurd h (Nat.lt_irrefl 0)
  | cons e l ih =>
    dsimp only [ow] at h
    rw [Pi.add_apply, Finsupp.add_apply, tallyAt_apply] at h
    by_cases hg : g = rcell e (dv e c) ∧ u = ()
    · exact ⟨e, List.mem_cons_self, hg.1⟩
    · rw [if_neg hg, Nat.add_zero] at h
      obtain ⟨e', he', hg'⟩ := ih h
      exact ⟨e', List.mem_cons_of_mem _ he', hg'⟩

theorem owB_pos {c : Dev nD} {k : Fin 5} {g : GSem nD τ sig} {u : Unit} (h : 0 < owB c k g u) :
    (∃ e, g = rcell e (dv e c)) ∨ ∃ j, g = bcell (bdev j c) := by
  by_contra hn
  rw [not_or] at hn
  have h1 : ow allE c g u = 0 := Nat.eq_zero_of_not_pos fun hp => hn.1 (by obtain ⟨e, -, he⟩ := ow_pos hp; exact ⟨e, he⟩)
  have h2 : ∀ j, g ≠ bcell (bdev j c) := fun j hj => hn.2 ⟨j, hj⟩
  fin_cases k <;> simp [owB, Pi.add_apply, Finsupp.add_apply, tallyAt_apply, h1, h2] at h

/-- A wait at a cell of level `n` is sound while only exchanges of stages above are owed. -/
theorem mayWait_ow (c : Dev nD) (s : SemLoc sig) (l : List (Fin 32)) (n : ℕ) (hs : lv ((c : Thread nD τ), s) () ≤ n)
    (hl : ∀ e ∈ l, n < 2 + e.val / 4) : (levAts L lv : sProp 𝕄) ⊢ MayWait (c : Thread nD τ) s () (ow l c) :=
  MayOwe.of_cut (L := L) (lev := lv) n (fun p hp => by rw [Finset.mem_singleton.mp hp, L_tc]; exact Finset.mem_singleton_self _)
    (fun g u hg => by obtain ⟨e, -, rfl⟩ := ow_pos hg; rw [L_tc]; exact Finset.mem_singleton_self _)
    (fun p hp => by rw [Finset.mem_singleton.mp hp]; exact hs)
    (fun g u hg => by obtain ⟨e, he, rfl⟩ := ow_pos hg; rw [lv_rcv]; exact hl e he)

/-- A wait at a cell of level 0 is sound at any time before the end. -/
theorem mayWait_zero (c : Dev nD) (s : SemLoc sig) (hs : lv ((c : Thread nD τ), s) () = 0) (k : Fin 5) :
    (levAts L lv : sProp 𝕄) ⊢ MayWait (c : Thread nD τ) s () (owB c k) :=
  MayOwe.of_cut (L := L) (lev := lv) 0 (fun p hp => by rw [Finset.mem_singleton.mp hp, L_tc]; exact Finset.mem_singleton_self _)
    (fun g u hg => by rcases owB_pos hg with ⟨e, rfl⟩ | ⟨j, rfl⟩ <;> (rw [L_tc]; exact Finset.mem_singleton_self _))
    (fun p hp => by rw [Finset.mem_singleton.mp hp]; exact hs.le)
    (fun g u hg => by
      rcases owB_pos hg with ⟨e, rfl⟩ | ⟨j, rfl⟩
      · rw [lv_rcv]; omega
      · rw [lv_bar]; omega)

end Cert.KernelIdeal.Steps

end
-- ==== Proof.Ideal.Exchange.lean ====
/- The thirty-two exchanges: one sent, one received, lists of them, and a stage. -/
module

public import proofs.«01_k».proof.Proof.Ideal.Protocol
public import Idealize.ShloMosaic.Lib.Pipeline.BigSepL

@[expose] public section

noncomputable section

namespace Cert.KernelIdeal.Steps

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

/-- No variant is declared. -/
abbrev 𝒱₀ : Variants := Variants.none

/-- The weakest precondition of a step on device `c`. -/
abbrev WP {α : Type} (c : Dev nD) (p : PT F α) (Q : α → sProp 𝕄) : sProp 𝕄 :=
  wp frame (wpE (defs₀ (F := F)) 𝒱₀ (c : Thread nD τ) none) Set.univ p Q

/-- A sequence is its first step, then the rest. -/
theorem WP_bind {α β : Type} (c : Dev nD) (p : PT F α) (k : α → PT F β) (Q : β → sProp 𝕄) :
    WP c (p >>= k) Q = WP c p fun a => WP c (k a) Q := wp_bind ..
/-- A finished program. -/
theorem WP_ret {α : Type} (c : Dev nD) (a : α) (Q : α → sProp 𝕄) : WP (F := F) c (Prog.ret a) Q = iprop(|={Set.univ}=> Q a) := wp_ret ..

variable (m : (ℓ : Loc nD τ sig) → Buf (Elt F) ℓ) (K : Dev nD × (Unit ⊕ J) → ℕ)

/-- The protocol's cells. -/
def cellAt (p : Dev nD × (Unit ⊕ J)) : GSem nD τ sig := ((p.1 : Thread nD τ), csem p.2)

/-- What every device knows: the cells' invariants, that each is in its round, the levels. -/
def records : sProp 𝕄 :=
  iprop((bigSep Finset.univ fun p : Dev nD × (Unit ⊕ J) => cellInv ER (rd m) (K p) (cellAt p))
    ∗ (bigSep Finset.univ fun p : Dev nD × (Unit ⊕ J) => reached ER (cellAt p) 0) ∗ levAts L lv)

instance records_persistent : BI.Persistent (records m K) := by unfold records; infer_instance

theorem records_inv (p : Dev nD × (Unit ⊕ J)) : records m K ⊢ cellInv ER (rd m) (K p) (cellAt p) := by
  unfold records
  have h : (bigSep Finset.univ fun p : Dev nD × (Unit ⊕ J) => (cellInv ER (rd m) (K p) (cellAt p) : sProp 𝕄)) ⊢ cellInv ER (rd m) (K p) (cellAt p) :=
    BI.bigSep_elim (Finset.mem_univ p)
  iintro ⟨H, -, -⟩
  iapply h $$ H
theorem records_reached (p : Dev nD × (Unit ⊕ J)) : records m K ⊢ reached ER (cellAt p) 0 := by
  unfold records
  have h : (bigSep Finset.univ fun p : Dev nD × (Unit ⊕ J) => (reached ER (cellAt p) 0 : sProp 𝕄)) ⊢ reached ER (cellAt p) 0 :=
    BI.bigSep_elim (Finset.mem_univ p)
  iintro ⟨-, H, -⟩
  iapply h $$ H
theorem records_lev : records m K ⊢ levAts L lv := by
  unfold records
  iintro ⟨-, -, H⟩
  iexact H

/-- What device `c` owes, whatever it has waited for. -/
def owX (c : Dev nD) (O : CellTallies nD τ sig Unit) : sProp 𝕄 := iprop(∃ W : Waits sig Unit, owes (c : Thread nD τ) O W)
/-- The result's buffer. -/
def oPts (c : Dev nD) (g : Vec F S1024x1024 .f32) : sProp 𝕄 := ((c : Thread nD τ).loc cc0_stg3_0) ↦{fullShare} g

/-- The place of an exchange's send cell among the cells. -/
abbrev sIx (e : Fin 32) : Unit ⊕ J := .inr (.inr (.inl e))
/-- The place of its receive cell. -/
abbrev rIx (e : Fin 32) : Unit ⊕ J := .inr (.inr (.inr e))

/-- What sending takes. -/
def pre (c : Dev nD) (e : Fin 32) : sProp 𝕄 :=
  iprop(dutyTok ER (scell e c) 0 0 ∗ dutyTok ER (rcell e (dv e c)) 0 0 ∗ (∃ f, sPts e c f) ∗ (∃ f, rPts e (dv e c) f))
/-- What sending leaves. -/
def credS (c : Dev nD) (e : Fin 32) : sProp 𝕄 := cred (tallyAt (scell e c) () (nE e))
/-- What receiving takes besides. -/
def wait (c : Dev nD) (e : Fin 32) : sProp 𝕄 :=
  iprop(atPos ER (scell e c) 0 ∅ 0 ∗ atPos ER (rcell e c) 0 ∅ 0 ∗ cred (tallyAt (rcell e c) () (nE e)))
/-- What receiving leaves. -/
def post (c : Dev nD) (e : Fin 32) : sProp 𝕄 :=
  iprop((∃ f, sPts e c f) ∗ (∃ f, rPts e c f) ∗ semVal (scell e c) 0 ∗ semVal (rcell e c) 0)

theorem duties_snd (e : Fin 32) (c : Dev nD) : (rd (F := F) m).duties (scell e c) 0 = {0} := by
  rw [duties_eq, kd_snd]; rfl
theorem duties_rcv (e : Fin 32) (c : Dev nD) : (rd (F := F) m).duties (rcell e c) 0 = {0} := by
  rw [duties_eq, kd_rcv]; rfl
theorem amount_snd (e : Fin 32) (c : Dev nD) (d : Fin 4) : (rd (F := F) m).amount (scell e c) 0 d = nE e := by
  rw [amount_eq, kd_snd]; rfl
theorem amount_rcv (e : Fin 32) (c : Dev nD) (d : Fin 4) : (rd (F := F) m).amount (rcell e c) 0 d = nE e := by
  rw [amount_eq, kd_rcv]; rfl
theorem payload_snd (e : Fin 32) (c : Dev nD) (d : Fin 4) : (rd (F := F) m).payload (scell e c) 0 d = sndPay e c := by
  rw [payload_eq, kd_snd]; rfl
theorem payload_rcv (e : Fin 32) (c : Dev nD) (d : Fin 4) : (rd (F := F) m).payload (rcell e c) 0 d = rcvPay m e c := by
  rw [payload_eq, kd_rcv]; rfl
theorem expect_snd (e : Fin 32) (c : Dev nD) : (rd (F := F) m).expect (scell e c) 0 = nE e := by
  rw [expect_one m c _ (by rw [kd_snd]; rfl), kd_snd]; rfl
theorem expect_rcv (e : Fin 32) (c : Dev nD) : (rd (F := F) m).expect (rcell e c) 0 = nE e := by
  rw [expect_one m c _ (by rw [kd_rcv]; rfl), kd_rcv]; rfl
theorem rest_snd (e : Fin 32) (c : Dev nD) :
    bigSep ((rd (F := F) m).duties (scell e c) 0 \ ∅) (fun d => (rd (F := F) m).payload (scell e c) 0 d) = sndPay e c := by
  rw [rest_one m c _ (by rw [kd_snd]; rfl), kd_snd]; rfl
theorem rest_rcv (e : Fin 32) (c : Dev nD) :
    bigSep ((rd (F := F) m).duties (rcell e c) 0 \ ∅) (fun d => (rd (F := F) m).payload (rcell e c) 0 d) = rcvPay m e c := by
  rw [rest_one m c _ (by rw [kd_rcv]; rfl), kd_rcv]; rfl

theorem snd_intro (e : Fin 32) (c : Dev nD) (f) : (sPts e c f : sProp 𝕄) ⊢ sndPay e c := by
  unfold sndPay; iintro H; iexists f; iexact H
theorem rcv_intro (e : Fin 32) (c : Dev nD) (f) (h : (E e).rH.view.read (Elt F) f = blockOf m e (dv e c)) :
    (rPts e c f : sProp 𝕄) ⊢ rcvPay m e c := by
  unfold rcvPay; iintro H; iexists f; isplitr
  · ipureintro; exact h
  · iexact H

/-- One exchange sent. -/
theorem wp_sendP (c : Dev nD) (e : Fin 32) (l : List (Fin 32)) (g : Vec F S1024x1024 .f32) (hg : sent e c g = blockOf m e c)
    (Kt : PUnit → sProp 𝕄) :
    iprop(records m K ∗ pre c e ∗ owX c (ow (e :: l) c) ∗ oPts c g ∗ ((credS c e ∗ owX c (ow l c) ∗ oPts c g) -∗ Kt ⟨⟩))
      ⊢ WP c (sendP (E e) c) Kt := by
  unfold sendP
  simp only [Prog.lift, Prog.bind_op, Prog.bind_ret, Prog.pure_eq_ret]
  unfold pre owX oPts sPts rPts
  iintro ⟨#Hrec, ⟨HtS, HtR, ⟨%fs, Hs⟩, ⟨%fr, Hr⟩⟩, ⟨%W, HO⟩, Ho, Hk⟩
  iapply (wp_load 𝒱₀ (c : Thread nD τ) none Set.univ (m := oM) (Finset.subset_univ _)) $$ Ho; iintro Ho
  iapply (wp_load_rect 𝒱₀ (c : Thread nD τ) none Set.univ (m := (E e).sM) (Finset.Subset.refl _)) $$ Hs; iintro Hs
  iapply (wp_store 𝒱₀ (c : Thread nD τ) none Set.univ (m := (E e).sM) (r := (E e).half) (Mk := Finset.univ) (S := ((E e).sM.access (E e).half).set) (Finset.Subset.refl _)) $$ Hs; iintro Hs
  iapply (Rounds.wp_send_pointsTo 𝒱₀ ER (rd m) (c : Thread nD τ) none (c' := (dv e c : Thread nD τ)) (κ₁ := K (c, sIx e)) (κ₂ := K (dv e c, rIx e))
      (r₁ := 0) (r₂ := 0) (d₁ := 0) (d₂ := 0) (fd := fr)
      (fs := ((E e).sM.access (E e).half).write (Elt F) fs ((E e).payS (oM.view.readAt (Elt F) ((E e).srect c).toLoadRect g)) Finset.univ)
      (by rw [duties_snd]; exact Finset.mem_singleton_self _) (by rw [duties_rcv]; exact Finset.mem_singleton_self _)
      () () (nE e) rfl (amount_snd m e c 0) (amount_rcv m e (dv e c) 0) (ow l c) rfl (W := W)
      (by rw [payload_snd]; exact snd_intro e c _)
      (by rw [payload_rcv]; exact rcv_intro m e (dv e c) _ (by
        rw [View.read_write_univ, dv_dv, ← hg]
        exact View.read_write_univ _ _))) $$ [Hs Hr HO HtS HtR]
  · isplitr; · iapply (records_inv m K (c, sIx e)); iexact Hrec
    isplitr; · iapply (records_inv m K (dv e c, rIx e)); iexact Hrec
    isplitl [Hs]; · iexact Hs
    isplitl [Hr]; · iexact Hr
    isplitl [HO]; · iexact HO
    isplitl [HtS]; · iexact HtS
    isplitr; · iapply (records_reached m K (c, sIx e)); iexact Hrec
    isplitl [HtR]; · iexact HtR
    iapply (records_reached m K (dv e c, rIx e)); iexact Hrec
  iintro ⟨HcS, HO⟩
  rw [wp_ret]; imodintro
  iapply Hk
  isplitl [HcS]; · unfold credS; iexact HcS
  isplitl [HO]; · iexists W; iexact HO
  iexact Ho

set_option maxRecDepth 20000 in
/-- The two waits of an exchange. -/
theorem wp_waitP (c : Dev nD) (e : Fin 32) (l : List (Fin 32)) (hl : ∀ e' ∈ l, e.val / 4 < e'.val / 4) (Kt : PUnit → sProp 𝕄) :
    iprop(records m K ∗ wait c e ∗ credS c e ∗ owX c (ow l c)
        ∗ ((owX c (ow l c) ∗ (∃ f, sPts e c f) ∗ rcvPay m e c ∗ semVal (scell e c) 0 ∗ semVal (rcell e c) 0) -∗ Kt ⟨⟩))
      ⊢ WP c (waitP (E e)) Kt := by
  have hmS : (levAts L lv : sProp 𝕄) ⊢ MayWait (c : Thread nD τ) (.dma (E e).ssem) () (ow l c) :=
    mayWait_ow c _ l (e.val / 4) (by rw [lv_snd]; exact Nat.zero_le _) (fun e' he' => by have := hl e' he'; omega)
  have hmR : (levAts L lv : sProp 𝕄) ⊢ MayWait (c : Thread nD τ) (.dma (E e).rsem) () (ow l c) :=
    mayWait_ow c _ l (2 + e.val / 4) (by rw [lv_rcv]) (fun e' he' => by have := hl e' he'; omega)
  unfold waitP
  simp only [Prog.lift, Prog.bind_op, Prog.bind_ret, Prog.pure_eq_ret]
  unfold wait owX credS
  iintro ⟨#Hrec, ⟨HaS, HaR, HcR⟩, HcS, ⟨%W, HO⟩, Hk⟩
  ihave HmS := ((records_lev m K).trans hmS) $$ Hrec
  iapply (Rounds.wp_wait_rest_token 𝒱₀ ER (rd m) (c : Thread nD τ) none (κ := K (c, sIx e))
      (wpE_waitDma2_eq 𝒱₀ (c : Thread nD τ) none Set.univ) (Set.mem_univ _) () (O := ow l c) (W := W) (R := 0) (m := 0) (T := ∅)
      (by rw [Nat.zero_add, expect_snd, nE_s])) $$ [HcS HO HaS HmS]
  · isplitr; · iapply (records_inv m K (c, sIx e)); iexact Hrec
    isplitl [HcS]; · rw [nE_s]; iexact HcS
    isplitl [HO]; · iexact HO
    isplitl [HmS]; · iexact HmS
    iexact HaS
  iintro ⟨HO, HaS, -, Hp⟩
  ihave Hs := (Entails.of_eq (rest_snd m e c)) $$ Hp
  unfold sndPay
  iapply (Rounds.wp_wait_rest_token 𝒱₀ ER (rd m) (c : Thread nD τ) none (κ := K (c, rIx e))
      (wpE_waitDma2_eq 𝒱₀ (c : Thread nD τ) none Set.univ) (Set.mem_univ _) () (O := ow l c) (R := 0) (m := 0) (T := ∅)
      (by rw [Nat.zero_add, expect_rcv]; rfl)) $$ [HcR HO HaR]
  · isplitr; · iapply (records_inv m K (c, rIx e)); iexact Hrec
    isplitl [HcR]; · iexact HcR
    isplitl [HO]; · iexact HO
    isplitr
    · iapply hmR
      iapply (records_lev m K); iexact Hrec
    iexact HaR
  iintro ⟨HO, HaR, -, Hp⟩
  ihave Hr := (Entails.of_eq (rest_rcv m e c)) $$ Hp
  imod (Rounds.cell_close ER (rd m) (Set.mem_univ (K (c, sIx e))) (fun h => h) (R := 0 + 1) (duties_later m (scell e c))) $$ [HaS] with HzS
  · isplitr; · iapply (records_inv m K (c, sIx e)); iexact Hrec
    iexact HaS
  imod (Rounds.cell_close ER (rd m) (Set.mem_univ (K (c, rIx e))) (fun h => h) (R := 0 + 1) (duties_later m (rcell e c))) $$ [HaR] with HzR
  · isplitr; · iapply (records_inv m K (c, rIx e)); iexact Hrec
    iexact HaR
  rw [wp_ret]; imodintro
  iapply Hk
  isplitl [HO]; · iexists _; iexact HO
  isplitl [Hs]; · iexact Hs
  isplitl [Hr]; · iexact Hr
  isplitl [HzS]; · iexact HzS
  iexact HzR

/-- One exchange received. -/
theorem wp_recvP (c : Dev nD) (e : Fin 32) (l : List (Fin 32)) (hl : ∀ e' ∈ l, e.val / 4 < e'.val / 4) (g : Vec F S1024x1024 .f32) (Kt : PUnit → sProp 𝕄) :
    iprop(records m K ∗ wait c e ∗ credS c e ∗ owX c (ow l c) ∗ oPts c g
        ∗ ((owX c (ow l c) ∗ oPts c (stp e c (blockOf m e (dv e c)) g) ∗ post c e) -∗ Kt ⟨⟩))
      ⊢ WP c (recvP (E e) c) Kt := by
  unfold recvP stp
  cases hag : (E e).ag
  · dsimp only [cond]
    unfold addP
    rw [WP_bind]
    iintro ⟨#Hrec, Hw, HcS, HO, Ho, Hk⟩
    iapply (wp_waitP m K c e l hl)
    isplitr; · iexact Hrec
    isplitl [Hw]; · iexact Hw
    isplitl [HcS]; · iexact HcS
    isplitl [HO]; · iexact HO
    unfold rcvPay
    iintro ⟨HO, Hs, ⟨%f, %hf, Hr⟩, HzS, HzR⟩
    simp only [Prog.lift, Prog.bind_op, Prog.bind_ret, Prog.pure_eq_ret]
    unfold oPts rPts
    iapply (wp_load 𝒱₀ (c : Thread nD τ) none Set.univ (m := oM) (Finset.subset_univ _)) $$ Ho; iintro Ho
    iapply (wp_load_rect 𝒱₀ (c : Thread nD τ) none Set.univ (m := (E e).rM) (Finset.Subset.refl _)) $$ Hr; iintro Hr
    iapply (wp_load 𝒱₀ (c : Thread nD τ) none Set.univ (m := oM) (Finset.subset_univ _)) $$ Ho; iintro Ho
    iapply (wp_store 𝒱₀ (c : Thread nD τ) none Set.univ (m := oM) (r := (E e).krect c) (Mk := Finset.univ) (Finset.subset_univ _)) $$ Ho; iintro Ho
    rw [wp_ret]; imodintro
    iapply Hk
    isplitl [HO]; · iexact HO
    isplitl [Ho]
    · rw [← hf]; iexact Ho
    unfold post rPts
    isplitl [Hs]; · iexact Hs
    isplitl [Hr]; · iexists f; iexact Hr
    isplitl [HzS]; · iexact HzS
    iexact HzR
  · dsimp only [cond]
    unfold copyP
    rw [WP_bind]
    iintro ⟨#Hrec, Hw, HcS, HO, Ho, Hk⟩
    iapply (wp_waitP m K c e l hl)
    isplitr; · iexact Hrec
    isplitl [Hw]; · iexact Hw
    isplitl [HcS]; · iexact HcS
    isplitl [HO]; · iexact HO
    unfold rcvPay
    iintro ⟨HO, Hs, ⟨%f, %hf, Hr⟩, HzS, HzR⟩
    simp only [Prog.lift, Prog.bind_op, Prog.bind_ret, Prog.pure_eq_ret]
    unfold oPts rPts
    iapply (wp_load_rect 𝒱₀ (c : Thread nD τ) none Set.univ (m := (E e).rM) (Finset.Subset.refl _)) $$ Hr; iintro Hr
    iapply (wp_load 𝒱₀ (c : Thread nD τ) none Set.univ (m := oM) (Finset.subset_univ _)) $$ Ho; iintro Ho
    iapply (wp_store 𝒱₀ (c : Thread nD τ) none Set.univ (m := oM) (r := (E e).krect c) (Mk := Finset.univ) (Finset.subset_univ _)) $$ Ho; iintro Ho
    rw [wp_ret]; imodintro
    iapply Hk
    isplitl [HO]; · iexact HO
    isplitl [Ho]
    · rw [← hf]; iexact Ho
    unfold post rPts
    isplitl [Hs]; · iexact Hs
    isplitl [Hr]; · iexists f; iexact Hr
    isplitl [HzS]; · iexact HzS
    iexact HzR

/-- A list of exchanges sent. -/
theorem wp_sends (c : Dev nD) (l rest : List (Fin 32)) (g : Vec F S1024x1024 .f32) (hg : ∀ e ∈ l, sent e c g = blockOf m e c) (Kt : PUnit → sProp 𝕄) :
    iprop(records m K ∗ bigSepL l (pre c) ∗ owX c (ow (l ++ rest) c) ∗ oPts c g ∗ ((bigSepL l (credS c) ∗ owX c (ow rest c) ∗ oPts c g) -∗ Kt ⟨⟩))
      ⊢ WP c (sends c l) Kt := by
  induction l generalizing Kt with
  | nil =>
    unfold sends
    rw [Prog.pure_eq_ret, WP_ret]
    iintro ⟨-, Hp, HO, Ho, Hk⟩
    imodintro
    iapply Hk
    isplitl [Hp]; · iexact Hp
    isplitl [HO]; · iexact HO
    iexact Ho
  | cons e l ih =>
    unfold sends
    rw [WP_bind, bigSepL_cons', bigSepL_cons']
    iintro ⟨#Hrec, ⟨Hp, Hl⟩, HO, Ho, Hk⟩
    iapply (wp_sendP m K c e (l ++ rest) g (hg e List.mem_cons_self))
    isplitr; · iexact Hrec
    isplitl [Hp]; · iexact Hp
    isplitl [HO]; · iexact HO
    isplitl [Ho]; · iexact Ho
    iintro ⟨Hc, HO, Ho⟩
    iapply (ih (fun e' he' => hg e' (List.mem_cons_of_mem _ he')))
    isplitr; · iexact Hrec
    isplitl [Hl]; · iexact Hl
    isplitl [HO]; · iexact HO
    isplitl [Ho]; · iexact Ho
    iintro ⟨Hcl, HO, Ho⟩
    iapply Hk
    isplitl [Hc Hcl]
    · isplitl [Hc]; · iexact Hc
      iexact Hcl
    isplitl [HO]; · iexact HO
    iexact Ho

/-- A list of exchanges received. -/
theorem wp_recvs (c : Dev nD) (l rest : List (Fin 32)) (hl : ∀ e ∈ l, ∀ e' ∈ rest, e.val / 4 < e'.val / 4) (g : Vec F S1024x1024 .f32) (Kt : PUnit → sProp 𝕄) :
    iprop(records m K ∗ bigSepL l (wait c) ∗ bigSepL l (credS c) ∗ owX c (ow rest c) ∗ oPts c g
        ∗ ((owX c (ow rest c) ∗ oPts c (l.foldl (fun g e => stp e c (blockOf m e (dv e c)) g) g) ∗ bigSepL l (post c)) -∗ Kt ⟨⟩))
      ⊢ WP c (recvs c l) Kt := by
  induction l generalizing g Kt with
  | nil =>
    unfold recvs
    rw [Prog.pure_eq_ret, WP_ret]
    iintro ⟨-, Hp, -, HO, Ho, Hk⟩
    imodintro
    iapply Hk
    isplitl [HO]; · iexact HO
    isplitl [Ho]; · iexact Ho
    iexact Hp
  | cons e l ih =>
    unfold recvs
    rw [WP_bind, bigSepL_cons', bigSepL_cons', bigSepL_cons']
    iintro ⟨#Hrec, ⟨Hw, Hwl⟩, ⟨Hc, Hcl⟩, HO, Ho, Hk⟩
    iapply (wp_recvP m K c e rest (hl e List.mem_cons_self) g)
    isplitr; · iexact Hrec
    isplitl [Hw]; · iexact Hw
    isplitl [Hc]; · iexact Hc
    isplitl [HO]; · iexact HO
    isplitl [Ho]; · iexact Ho
    iintro ⟨HO, Ho, Hp⟩
    iapply (ih (fun e' he' => hl e' (List.mem_cons_of_mem _ he')))
    isplitr; · iexact Hrec
    isplitl [Hwl]; · iexact Hwl
    isplitl [Hcl]; · iexact Hcl
    isplitl [HO]; · iexact HO
    isplitl [Ho]; · iexact Ho
    iintro ⟨HO, Ho, Hpl⟩
    iapply Hk
    isplitl [HO]; · iexact HO
    isplitl [Ho]; · iexact Ho
    isplitl [Hp]; · iexact Hp
    iexact Hpl

/-! ## A stage -/

theorem blockOf_stage (s : ℕ) (e : Fin 32) (h : e.val / 4 = s) (c : Dev nD) : blockOf m e c = sent e c (fs m s c) := by
  unfold blockOf; rw [h]

theorem stage_div (s : Fin 8) : ∀ e ∈ stageL s, e.val / 4 = s.val := by
  revert s; decide

/-- The contents after a stage are what its receives make of those before it. -/
theorem fs_succ (s : Fin 8) (c : Dev nD) :
    (stageL s).foldl (fun g e => stp e c (blockOf m e (dv e c)) g) (fs m s.val c) = fs m (s.val + 1) c := by
  show _ = next s.val (fs m s.val) c
  unfold next
  rw [show (Fin.ofNat 8 s.val : Fin 8) = s from Fin.ext (Nat.mod_eq_of_lt s.isLt)]
  have h := stage_div s
  unfold stageL at h ⊢
  simp only [List.foldl_cons, List.foldl_nil]
  rw [blockOf_stage m s.val _ (h _ (by simp)), blockOf_stage m s.val _ (h _ (by simp)), blockOf_stage m s.val _ (h _ (by simp)), blockOf_stage m s.val _ (h _ (by simp))]

/-- The exchanges of the stages from `s` on. -/
def allFrom (l : List (Fin 8)) : List (Fin 32) := l.flatMap stageL

/-- The stages after the first. -/
theorem wp_stages (c : Dev nD) (l : List (Fin 8)) (s : ℕ) (hs : l = (List.finRange 8).drop s) (hs8 : s ≤ 8) (Kt : PUnit → sProp 𝕄) :
    iprop(records m K ∗ bigSepL (allFrom l) (pre c) ∗ bigSepL (allFrom l) (wait c) ∗ owX c (ow (allFrom l) c) ∗ oPts c (fs m s c)
        ∗ ((owX c 0 ∗ oPts c (fs m 8 c) ∗ bigSepL (allFrom l) (post c)) -∗ Kt ⟨⟩))
      ⊢ WP c (stages c l) Kt := by
  induction l generalizing s Kt with
  | nil =>
    have : s = 8 := by
      have h := congrArg List.length hs
      simp only [List.length_drop, List.length_finRange, List.length_nil] at h; omega
    subst this
    unfold stages
    rw [Prog.pure_eq_ret, WP_ret]
    iintro ⟨-, Hp, -, HO, Ho, Hk⟩
    imodintro
    iapply Hk
    isplitl [HO]; · iexact HO
    isplitl [Ho]; · iexact Ho
    iexact Hp
  | cons a l ih =>
    have hlt : s < 8 := by
      by_contra hn
      rw [List.drop_eq_nil_of_le (by rw [List.length_finRange]; omega)] at hs
      exact List.cons_ne_nil _ _ hs
    have hd := (List.cons.inj (hs.trans (List.drop_eq_getElem_cons (l := List.finRange 8) (i := s) (by rw [List.length_finRange]; exact hlt))))
    have ha : a.val = s := by rw [hd.1]; simp
    subst ha
    have hrest : ∀ e ∈ stageL a, ∀ e' ∈ allFrom l, e.val / 4 < e'.val / 4 := by
      intro e he e' he'
      obtain ⟨b, hb, hb'⟩ := List.mem_flatMap.mp he'
      rw [stage_div a e he, stage_div b e' hb']
      rw [hd.2] at hb
      obtain ⟨i, hi, rfl⟩ := List.mem_iff_getElem.mp hb
      simp; omega
    unfold stages
    rw [WP_bind]
    rw [show allFrom (a :: l) = stageL a ++ allFrom l from List.flatMap_cons, bigSepL_append, bigSepL_append, bigSepL_append]
    iintro ⟨#Hrec, ⟨Hp, Hpl⟩, ⟨Hw, Hwl⟩, HO, Ho, Hk⟩
    iapply (wp_sends m K c (stageL a) (allFrom l) (fs m a.val c) (fun e he => (blockOf_stage m a.val e (stage_div a e he) c).symm))
    isplitr; · iexact Hrec
    isplitl [Hp]; · iexact Hp
    isplitl [HO]; · iexact HO
    isplitl [Ho]; · iexact Ho
    iintro ⟨Hc, HO, Ho⟩
    rw [WP_bind]
    iapply (wp_recvs m K c (stageL a) (allFrom l) hrest (fs m a.val c))
    isplitr; · iexact Hrec
    isplitl [Hw]; · iexact Hw
    isplitl [Hc]; · iexact Hc
    isplitl [HO]; · iexact HO
    isplitl [Ho]; · iexact Ho
    rw [fs_succ]
    iintro ⟨HO, Ho, Hq⟩
    iapply (ih (a.val + 1) hd.2 (by omega))
    isplitr; · iexact Hrec
    isplitl [Hpl]; · iexact Hpl
    isplitl [Hwl]; · iexact Hwl
    isplitl [HO]; · iexact HO
    isplitl [Ho]; · iexact Ho
    iintro ⟨HO, Ho, Hql⟩
    iapply Hk
    isplitl [HO]; · iexact HO
    isplitl [Ho]; · iexact Ho
    isplitl [Hq]; · iexact Hq
    iexact Hql

end Cert.KernelIdeal.Steps

end
-- ==== Proof.Ideal.Chunks.lean ====
/- The four chunks fill the result's buffer, whatever it held; the first stage's blocks come from the first two. -/
module

public import proofs.«01_k».proof.Proof.Ideal.Exchange

@[expose] public section

noncomputable section

namespace Cert.KernelIdeal.Steps

open Cert.KernelIdeal Cert.KernelIdeal.Gen
open Idealize.ShloMosaic Idealize.ShloMosaic.TcCoe

variable {F : FTy → Type} [FloatOps F] [Named F]
variable (m : (ℓ : Loc nD τ sig) → Buf (Elt F) ℓ)

/-- Where each chunk starts. -/
theorem cw_cases : ∀ c : Dev nD,
    ((cw 0 c).toNat = 0 ∧ (cw 2 c).toNat = 256 ∨ (cw 0 c).toNat = 256 ∧ (cw 2 c).toNat = 0)
      ∧ ((cw 1 c).toNat = 512 ∧ (cw 3 c).toNat = 768 ∨ (cw 1 c).toNat = 768 ∧ (cw 3 c).toNat = 512) := by decide +kernel

/-- Whether an index lies in a chunk. -/
theorem mem_chunk (i : Fin 4) (c : Dev nD) (p : S1024x1024.Idx) :
    p ∈ (oM.access (orect i c)).set ↔ (cw i c).toNat ≤ (p 0).val ∧ (p 0).val < (cw i c).toNat + 256 := by
  rw [show (oM.access (orect i c)).set = (orect i c).set from View.set_slice_whole cc0_stg3_0 _, Rect.mem_set_unit]
  constructor
  · intro h; exact h 0
  · intro h a
    fin_cases a
    · exact h
    · exact ⟨Nat.zero_le _, by have := (p 1).isLt; exact (Nat.zero_add 1024).symm ▸ this⟩

/-- A chunk's rows hold the chunk, whatever was there. -/
theorem wch_congr (i : Fin 4) (c : Dev nD) (g g' : Vec F S1024x1024 .f32) (p : S1024x1024.Idx)
    (h : p ∈ (oM.access (orect i c)).set ∨ g p = g' p) : wch m i c g p = wch m i c g' p := by
  by_cases hp : p ∈ (oM.access (orect i c)).set
  · obtain ⟨x, -, rfl⟩ := Finset.mem_map.mp hp
    exact (View.write_emb_of_mem (v := oM.access (orect i c)) g (chunkC m i c) (Finset.mem_univ x)).trans
      (View.write_emb_of_mem (v := oM.access (orect i c)) g' (chunkC m i c) (Finset.mem_univ x)).symm
  · exact (View.write_of_not_mem (v := oM.access (orect i c)) g (chunkC m i c) _ hp).trans
      ((h.resolve_left hp).trans (View.write_of_not_mem (v := oM.access (orect i c)) g' (chunkC m i c) _ hp).symm)

/-- The four chunks fill the buffer. -/
theorem share_eq (c : Dev nD) (g : Vec F S1024x1024 .f32) : wch m 3 c (wch m 2 c (wch m 1 c (wch m 0 c g))) = share0 m c := by
  funext p
  unfold share0
  have hc := cw_cases c
  have hp : (p 0).val < 1024 := (p 0).isLt
  have key : p ∈ (oM.access (orect 3 c)).set ∨ p ∈ (oM.access (orect 2 c)).set ∨ p ∈ (oM.access (orect 1 c)).set ∨ p ∈ (oM.access (orect 0 c)).set := by
    have h : ((cw 3 c).toNat ≤ (p 0).val ∧ (p 0).val < (cw 3 c).toNat + 256) ∨ ((cw 2 c).toNat ≤ (p 0).val ∧ (p 0).val < (cw 2 c).toNat + 256)
        ∨ ((cw 1 c).toNat ≤ (p 0).val ∧ (p 0).val < (cw 1 c).toNat + 256) ∨ ((cw 0 c).toNat ≤ (p 0).val ∧ (p 0).val < (cw 0 c).toNat + 256) := by omega
    exact h.imp (mem_chunk 3 c p).mpr (Or.imp (mem_chunk 2 c p).mpr (Or.imp (mem_chunk 1 c p).mpr (mem_chunk 0 c p).mpr))
  rcases key with h | h | h | h
  · exact wch_congr m 3 c _ _ p (.inl h)
  · exact wch_congr m 3 c _ _ p (.inr (wch_congr m 2 c _ _ p (.inl h)))
  · exact wch_congr m 3 c _ _ p (.inr (wch_congr m 2 c _ _ p (.inr (wch_congr m 1 c _ _ p (.inl h)))))
  · exact wch_congr m 3 c _ _ p (.inr (wch_congr m 2 c _ _ p (.inr (wch_congr m 1 c _ _ p (.inr (wch_congr m 0 c _ _ p (.inl h)))))))

/-- The first stage's rows lie off the last two chunks. -/
theorem first_off : ∀ (e : Fin 32), e.val < 4 → ∀ (c : Dev nD) (i : Fin 4), 2 ≤ i.val →
    (E e).soff c 0 + (E e).sz 0 ≤ (cw i c).toNat ∨ (cw i c).toNat + 256 ≤ (E e).soff c 0 := by decide +kernel

/-- Rows off a chunk are as before it. -/
theorem read_wch (off sz : Fin 2 → ℕ) (inb : ∀ a, off a + sz a ≤ S1024x1024.size a) (c : Dev nD) (i : Fin 4)
    (h : off 0 + sz 0 ≤ (cw i c).toNat ∨ (cw i c).toNat + 256 ≤ off 0) (g : Vec F S1024x1024 .f32) :
    oM.view.readAt (Elt F) (Rect.unit (s := S1024x1024) off sz inb).toLoadRect (wch m i c g)
      = oM.view.readAt (Elt F) (Rect.unit (s := S1024x1024) off sz inb).toLoadRect g := by
  refine View.read_slice_write_slice_of_disjoint (v := oM.view) (Rect.unit (s := S1024x1024) off sz inb) (orect i c) g _ _ ?_
  refine Finset.disjoint_left.mpr fun p h₁ h₂ => ?_
  have h1 : p ∈ (Rect.unit (s := S1024x1024) off sz inb).set := by
    rw [← View.set_slice_whole cc0_stg3_0 (Rect.unit (s := S1024x1024) off sz inb)]; exact h₁
  have h1 := (Rect.mem_set_unit.mp h1) 0
  have h2 := (mem_chunk i c p).mp h₂
  have h3 : off 0 ≤ (p 0).val ∧ (p 0).val < off 0 + sz 0 := h1
  omega

theorem sent_wch (e : Fin 32) (he : e.val < 4) (c : Dev nD) (i : Fin 4) (hi : 2 ≤ i.val) (g : Vec F S1024x1024 .f32) :
    sent e c (wch m i c g) = sent e c g := by
  unfold sent
  rw [read_wch m _ _ _ c i (first_off e he c i hi)]

/-- The first stage's blocks are there after the first two chunks. -/
theorem sent_first (e : Fin 32) (he : e.val < 4) (c : Dev nD) (g : Vec F S1024x1024 .f32) :
    sent e c (wch m 1 c (wch m 0 c g)) = blockOf m e c := by
  unfold blockOf
  rw [show e.val / 4 = 0 by omega]
  show _ = sent e c (share0 m c)
  rw [← share_eq m c g, sent_wch m e he c 3 (by decide), sent_wch m e he c 2 (by decide)]

end Cert.KernelIdeal.Steps

end
-- ==== Proof.Ideal.Steps.lean ====
/- The steps before the exchanges: the barrier, the copies and the projection, the chunks. -/
module

public import proofs.«01_k».proof.Proof.Ideal.Chunks

@[expose] public section

noncomputable section

namespace Cert.KernelIdeal.Steps

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (K : Dev nD × (Unit ⊕ J) → ℕ)

/-- The whole of a buffer of device `c`. -/
abbrev own (c : Dev nD) (b : Ref sig .tc) (f : Buf (Elt F) ((c : Thread nD τ).loc b)) : sProp 𝕄 := ((c : Thread nD τ).loc b) ↦{fullShare} f

/-! ## The barrier -/

/-- What is owed for a step: nothing of the protocol's, past the barrier. -/
theorem owB_step0 (c : Dev nD) : owB c 0 = owB c 1 + tallyAt (bcell (bdev 0 c)) () 1 := rfl
theorem owB_step1 (c : Dev nD) : owB c 1 = owB c 2 + tallyAt (bcell (bdev 1 c)) () 1 := rfl
theorem owB_step2 (c : Dev nD) : owB c 2 = owB c 3 + tallyAt (bcell (bdev 2 c)) () 1 := rfl
theorem owB_step3 (c : Dev nD) : owB c 3 = owB c 4 + tallyAt (bcell (bdev 3 c)) () 1 := rfl

theorem payload_bar (c : Dev nD) (d : Fin 4) : (rd (F := F) m).payload (bcell c) 0 d = barPay d c := by
  rw [payload_eq, kd_bar]; rfl

/-- One signal of the barrier. -/
theorem wp_sig (c : Dev nD) (k : Fin 4) (O : CellTallies nD τ sig Unit) (Q : PUnit → sProp 𝕄) (kont : PUnit → PT F PUnit) :
    iprop(records m K ∗ owX c (O + tallyAt (bcell (bdev k c)) () 1) ∗ dutyTok ER (bcell (bdev k c)) 0 k ∗ barPay k (bdev k c)
        ∗ (owX c O -∗ WP c (kont ⟨⟩) Q))
      ⊢ WP c (.op (.semSignal (bdev k c : Thread nD τ) barS 1) kont) Q := by
  unfold owX
  iintro ⟨#Hrec, ⟨%W, HO⟩, Ht, Hp, Hk⟩
  iapply (Rounds.wp_signal 𝒱₀ ER (rd m) (c : Thread nD τ) none (dst := (bdev k c : Thread nD τ)) (κ := K (bdev k c, .inl ()))
      (d := k) (by rw [duties_eq]; exact Finset.mem_univ k) (amount_eq m (bdev k c) (.reg barS) k) () O rfl) $$ [HO Ht Hp]
  · isplitr; · iapply (records_inv m K (bdev k c, .inl ())); iexact Hrec
    isplitl [HO]; · iexact HO
    isplitl [Ht]; · iexact Ht
    isplitl [Hp]; · rw [payload_bar]; iexact Hp
    iapply (records_reached m K (bdev k c, .inl ())); iexact Hrec
  iintro HO
  iapply Hk
  iexists W; iexact HO

set_option maxRecDepth 20000 in
/-- The barrier. -/
theorem wp_barP (c : Dev nD) (Kt : PUnit → sProp 𝕄) :
    iprop(records m K ∗ owX c (owB c 0) ∗ atPos ER (bcell c) 0 ∅ 0 ∗ cred (tallyAt (bcell c) () 4)
        ∗ (dutyTok ER (bcell (bdev 0 c)) 0 0 ∗ dutyTok ER (bcell (bdev 1 c)) 0 1 ∗ dutyTok ER (bcell (bdev 2 c)) 0 2 ∗ dutyTok ER (bcell (bdev 3 c)) 0 3)
        ∗ (barPay 0 (bdev 0 c) ∗ barPay 1 (bdev 1 c) ∗ barPay 2 (bdev 2 c) ∗ barPay 3 (bdev 3 c))
        ∗ ((owX c (ow allE c) ∗ semVal (bcell c) 0 ∗ bigSep Finset.univ fun k => barPay k c) -∗ Kt ⟨⟩))
      ⊢ WP c (barP c) Kt := by
  have hmw : (levAts L lv : sProp 𝕄) ⊢ MayWait (c : Thread nD τ) (.reg barS) () (ow allE c) :=
    mayWait_ow c _ allE 1 (by rw [lv_bar]) (fun e' he' => by omega)
  unfold barP
  simp only [semSignalWord, semWaitWord, Prog.lift, Prog.bind_op, Prog.bind_ret, Prog.pure_eq_ret]
  rw [owB_step0, owB_step1, owB_step2, owB_step3]
  iintro ⟨#Hrec, HO, Ha, Hc, ⟨Ht0, Ht1, Ht2, Ht3⟩, ⟨Hp0, Hp1, Hp2, Hp3⟩, Hk⟩
  iapply (wp_sig m K c 0 _ Kt)
  isplitr; · iexact Hrec
  isplitl [HO]; · iexact HO
  isplitl [Ht0]; · iexact Ht0
  isplitl [Hp0]; · iexact Hp0
  iintro HO
  iapply (wp_sig m K c 1 _ Kt)
  isplitr; · iexact Hrec
  isplitl [HO]; · iexact HO
  isplitl [Ht1]; · iexact Ht1
  isplitl [Hp1]; · iexact Hp1
  iintro HO
  iapply (wp_sig m K c 2 _ Kt)
  isplitr; · iexact Hrec
  isplitl [HO]; · iexact HO
  isplitl [Ht2]; · iexact Ht2
  isplitl [Hp2]; · iexact Hp2
  iintro HO
  iapply (wp_sig m K c 3 _ Kt)
  isplitr; · iexact Hrec
  isplitl [HO]; · iexact HO
  isplitl [Ht3]; · iexact Ht3
  isplitl [Hp3]; · iexact Hp3
  iintro HO
  unfold owX
  icases HO with ⟨%W, HO⟩
  ihave HmS := ((records_lev m K).trans hmw) $$ Hrec
  iapply (Rounds.wp_wait_rest_token 𝒱₀ ER (rd m) (c : Thread nD τ) none (κ := K (c, .inl ()))
      (wpE_semWait_eq 𝒱₀ (c : Thread nD τ) none Set.univ) (Set.mem_univ _) () (O := ow allE c) (W := W) (R := 0) (m := 0) (T := ∅)
      (by rw [expect_bar]; rfl)) $$ [Hc HO Ha HmS]
  · isplitr; · iapply (records_inv m K (c, .inl ())); iexact Hrec
    isplitl [Hc]; · iexact Hc
    isplitl [HO]; · iexact HO
    isplitl [HmS]; · iexact HmS
    iexact Ha
  iintro ⟨HO, Ha, -, Hp⟩
  ihave Hp := (Entails.of_eq (rest_bar m c)) $$ Hp
  imod (Rounds.cell_close ER (rd m) (Set.mem_univ (K (c, .inl ()))) (fun h => h) (R := 0 + 1) (duties_later m (bcell c))) $$ [Ha] with Hz
  · isplitr; · iapply (records_inv m K (c, .inl ())); iexact Hrec
    iexact Ha
  rw [wp_ret]; imodintro
  iapply Hk
  isplitl [HO]; · iexists _; iexact HO
  isplitl [Hz]; · iexact Hz
  iexact Hp

/-! ## The copies and the projection -/

/-- The place of a copy's cell among the cells. -/
abbrev kIx (b : Bool) : Unit ⊕ J := .inr (.inl b)

theorem duties_kv (b : Bool) (c : Dev nD) : (rd (F := F) m).duties (kcell b c) 0 = {0} := by
  rw [duties_eq, kd_kv]; rfl
theorem amount_kv (b : Bool) (c : Dev nD) (d : Fin 4) : (rd (F := F) m).amount (kcell b c) 0 d = nK := by
  rw [amount_eq, kd_kv]; rfl
theorem payload_kv (b : Bool) (c : Dev nD) (d : Fin 4) : (rd (F := F) m).payload (kcell b c) 0 d = kvPay m b c := by
  rw [payload_eq, kd_kv]; rfl
theorem expect_kv (b : Bool) (c : Dev nD) : (rd (F := F) m).expect (kcell b c) 0 = nK := by
  rw [expect_one m c _ (by rw [kd_kv]; rfl), kd_kv]; rfl
theorem rest_kv (b : Bool) (c : Dev nD) :
    bigSep ((rd (F := F) m).duties (kcell b c) 0 \ ∅) (fun d => (rd (F := F) m).payload (kcell b c) 0 d) = kvPay m b c := by
  rw [rest_one m c _ (by rw [kd_kv]; rfl), kd_kv]; rfl

/-- What the copies take of the protocol. -/
def kvTok (c : Dev nD) (b : Bool) : sProp 𝕄 := iprop(atPos ER (kcell b c) 0 ∅ 0 ∗ dutyTok ER (kcell b c) 0 0)

/-- A copy's payload, from what it leaves. -/
theorem kv_intro_k (c : Dev nD) (f : Buf (Elt F) (kM.view.loc (c : Thread nD τ))) :
    iprop((kM.view.loc (c : Thread nD τ) ↦[kM.view.set]{fullShare} (kM.view.write (Elt F) f ((kSrc c).view.read (Elt F) (m ((c : Thread nD τ).loc main_arg2))) Finset.univ))
      ∗ ((kSrc c).view.loc (c : Thread nD τ) ↦[(kSrc c).view.set]{fullShare} (m ((c : Thread nD τ).loc main_arg2)))) ⊢ (kvPay m false c : sProp 𝕄) := by
  dsimp only [kvPay]
  rw [show kM.view.set = Finset.univ from View.set_whole _,
    show kM.view.write (Elt F) f ((kSrc c).view.read (Elt F) (m ((c : Thread nD τ).loc main_arg2))) Finset.univ = kC m c from View.write_whole_univ _ _ _]
  exact BI.Entails.refl _
theorem kv_intro_v (c : Dev nD) (f : Buf (Elt F) (vM.view.loc (c : Thread nD τ))) :
    iprop((vM.view.loc (c : Thread nD τ) ↦[vM.view.set]{fullShare} (vM.view.write (Elt F) f ((vSrc c).view.read (Elt F) (m ((c : Thread nD τ).loc main_arg3))) Finset.univ))
      ∗ ((vSrc c).view.loc (c : Thread nD τ) ↦[(vSrc c).view.set]{fullShare} (m ((c : Thread nD τ).loc main_arg3)))) ⊢ (kvPay m true c : sProp 𝕄) := by
  dsimp only [kvPay]
  rw [show vM.view.set = Finset.univ from View.set_whole _,
    show vM.view.write (Elt F) f ((vSrc c).view.read (Elt F) (m ((c : Thread nD τ).loc main_arg3))) Finset.univ = vC m c from View.write_whole_univ _ _ _]
  exact BI.Entails.refl _

theorem own_set_k (c : Dev nD) (f) : (own c cc0_scratch0 f : sProp 𝕄) = (kM.view.loc (c : Thread nD τ) ↦[kM.view.set]{fullShare} f) := by
  rw [show kM.view.set = Finset.univ from View.set_whole _]
theorem own_set_v (c : Dev nD) (f) : (own c cc0_scratch1 f : sProp 𝕄) = (vM.view.loc (c : Thread nD τ) ↦[vM.view.set]{fullShare} f) := by
  rw [show vM.view.set = Finset.univ from View.set_whole _]

theorem hz2 : (![0, 0] : Fin 2 → Nat) = fun _ => 0 := funext fun a => by fin_cases a <;> rfl
theorem hz3 : (![0, 0, 0] : Fin 3 → Nat) = fun _ => 0 := funext fun a => by fin_cases a <;> rfl

theorem read_x (f : Vec F S1x1024x1024 .f32) :
    (Memref.whole cc0_stg0_0 : Memref sig .tc .vmem S1x1024x1024 .f32).view.readAt (Elt F) (Rect.unit (s := S1x1024x1024) ![0, 0, 0] ![1, 1024, 1024] inb_S1x1024x1024_S1x1024x1024_0_0_0).toLoadRect f = f :=
  Memref.readAt_unit_zero (Elt F) cc0_stg0_0 hz3 _ f
theorem read_w (f : Vec F S1024x1024 .f32) :
    (Memref.whole cc0_stg1_0 : Memref sig .tc .vmem S1024x1024 .f32).view.readAt (Elt F) (Rect.unit (s := S1024x1024) ![0, 0] ![1024, 1024] inb_S1024x1024_S1024x1024_0_0).toLoadRect f = f :=
  Memref.readAt_unit_zero (Elt F) cc0_stg1_0 hz2 _ f
theorem read_wo (f : Vec F S1024x1024 .f32) :
    (Memref.whole cc0_stg2_0 : Memref sig .tc .vmem S1024x1024 .f32).view.readAt (Elt F) (Rect.unit (s := S1024x1024) ![0, 0] ![1024, 1024] inb_S1024x1024_S1024x1024_0_0).toLoadRect f = f :=
  Memref.readAt_unit_zero (Elt F) cc0_stg2_0 hz2 _ f
theorem write_q (f w : Vec F S1024x1024 .bf16) :
    (qM.access (Rect.unit (s := S1024x1024) ![0, 0] ![1024, 1024] inb_S1024x1024_S1024x1024_0_0) : View sig .tc _ _ _).write (Elt F) f w Finset.univ = w :=
  Memref.write_access_unit_zero_univ (Elt F) cc0_scratch3 hz2 _ f w

theorem lv_kv (b : Bool) (c : Dev nD) (u : Unit) : lv (kcell b c) u = 0 := by unfold lv; rw [kd_kv]

set_option maxRecDepth 20000 in
/-- The wait of a copy. -/
theorem wp_kvwait (c : Dev nD) (b : Bool) (n : ℕ) (w : TpuEff nD τ sig (Elt F) Λ₀ .tc PUnit)
    (hw : ∀ Q : PUnit → sProp 𝕄, wpE (defs₀ (F := F)) 𝒱₀ (c : Thread nD τ) none Set.univ w Q = waitSpec (c : Thread nD τ) Set.univ (osem (.inl b)) n Q) (hn : n = nK)
    (Q : PUnit → sProp 𝕄) (kont : PUnit → PT F PUnit) :
    iprop(records m K ∗ owX c (ow allE c) ∗ atPos ER (kcell b c) 0 ∅ 0 ∗ cred (tallyAt (kcell b c) () nK)
        ∗ ((owX c (ow allE c) ∗ kvPay m b c ∗ semVal (kcell b c) 0) -∗ WP c (kont ⟨⟩) Q))
      ⊢ WP c (.op w kont) Q := by
  subst hn
  have hmw : (levAts L lv : sProp 𝕄) ⊢ MayWait (c : Thread nD τ) (osem (.inl b)) () (ow allE c) :=
    mayWait_ow c _ allE 0 (by rw [lv_kv]) (fun e' he' => by omega)
  unfold owX
  iintro ⟨#Hrec, ⟨%W, HO⟩, Ha, Hc, Hk⟩
  ihave HmS := ((records_lev m K).trans hmw) $$ Hrec
  iapply (Rounds.wp_wait_rest_token 𝒱₀ ER (rd m) (c : Thread nD τ) none (κ := K (c, kIx b))
      hw (Set.mem_univ _) () (O := ow allE c) (W := W) (R := 0) (m := 0) (T := ∅)
      (by rw [expect_kv, Nat.zero_add])) $$ [Hc HO Ha HmS]
  · isplitr; · iapply (records_inv m K (c, kIx b)); iexact Hrec
    isplitl [Hc]; · iexact Hc
    isplitl [HO]; · iexact HO
    isplitl [HmS]; · iexact HmS
    iexact Ha
  iintro ⟨HO, Ha, -, Hp⟩
  ihave Hp := (Entails.of_eq (rest_kv m b c)) $$ Hp
  imod (Rounds.cell_close ER (rd m) (Set.mem_univ (K (c, kIx b))) (fun h => h) (R := 0 + 1) (duties_later m (kcell b c))) $$ [Ha] with Hz
  · isplitr; · iapply (records_inv m K (c, kIx b)); iexact Hrec
    iexact Ha
  iapply Hk
  isplitl [HO]; · iexists _; iexact HO
  isplitl [Hp]; · iexact Hp
  iexact Hz

/-- What the projection leaves. -/
def projPost (c : Dev nD) : sProp 𝕄 :=
  iprop(owX c (ow allE c) ∗ kvPay m false c ∗ semVal (kcell false c) 0 ∗ kvPay m true c ∗ semVal (kcell true c) 0
    ∗ own c cc0_scratch3 (qC m c) ∗ own c cc0_stg0_0 (xC m c) ∗ own c cc0_stg1_0 (wqC m c))

set_option maxHeartbeats 2000000 in
/-- The copies and the projection. -/
theorem wp_projP (c : Dev nD) (Kt : PUnit → sProp 𝕄) :
    iprop(records m K ∗ owX c (ow allE c) ∗ kvTok c false ∗ kvTok c true ∗ ksPts m c ∗ vsPts m c
        ∗ (∃ f, own c cc0_scratch0 f) ∗ (∃ f, own c cc0_scratch1 f) ∗ (∃ f, own c cc0_scratch3 f)
        ∗ own c cc0_stg0_0 (xC m c) ∗ own c cc0_stg1_0 (wqC m c) ∗ (projPost m c -∗ Kt ⟨⟩))
      ⊢ WP c (projP c) Kt := by
  unfold projP
  simp only [Prog.lift, Prog.bind_op, Prog.bind_ret, Prog.pure_eq_ret]
  unfold kvTok ksPts vsPts
  iintro ⟨#Hrec, HO, ⟨HaK, HtK⟩, ⟨HaV, HtV⟩, Hks, Hvs, ⟨%fk, Hfk⟩, ⟨%fv, Hfv⟩, ⟨%fq, Hfq⟩, Hx, Hw, Hk⟩
  ihave Hfk := (Entails.of_eq (own_set_k c fk)) $$ Hfk
  ihave Hfv := (Entails.of_eq (own_set_v c fv)) $$ Hfv
  iapply (Rounds.wp_copy_pointsTo 𝒱₀ ER (rd m) (c : Thread nD τ) none (src := kSrc c) (dst := kM) (sem := osem (.inl false)) (fd := fk) (κ := K (c, kIx false)) (r := 0) (d := 0)
      (fs := m ((c : Thread nD τ).loc main_arg2)) (q := fullShare)
      (by rw [duties_kv]; exact Finset.mem_singleton_self _) () nK rfl (amount_kv m false c 0)
      (by rw [payload_kv]; exact kv_intro_k m c fk)) $$ [Hks Hfk HtK]
  · isplitr; · iapply (records_inv m K (c, kIx false)); iexact Hrec
    isplitl [Hks]; · iexact Hks
    isplitl [Hfk]; · iexact Hfk
    isplitl [HtK]; · iexact HtK
    iapply (records_reached m K (c, kIx false)); iexact Hrec
  iintro HcK
  iapply (Rounds.wp_copy_pointsTo 𝒱₀ ER (rd m) (c : Thread nD τ) none (src := vSrc c) (dst := vM) (sem := osem (.inl true)) (fd := fv) (κ := K (c, kIx true)) (r := 0) (d := 0)
      (fs := m ((c : Thread nD τ).loc main_arg3)) (q := fullShare)
      (by rw [duties_kv]; exact Finset.mem_singleton_self _) () nK rfl (amount_kv m true c 0)
      (by rw [payload_kv]; exact kv_intro_v m c fv)) $$ [Hvs Hfv HtV]
  · isplitr; · iapply (records_inv m K (c, kIx true)); iexact Hrec
    isplitl [Hvs]; · iexact Hvs
    isplitl [Hfv]; · iexact Hfv
    isplitl [HtV]; · iexact HtV
    iapply (records_reached m K (c, kIx true)); iexact Hrec
  iintro HcV
  iapply (wp_load 𝒱₀ (c : Thread nD τ) none Set.univ (m := Memref.whole cc0_stg0_0) (Finset.subset_univ _)) $$ Hx; iintro Hx
  iapply (wp_load 𝒱₀ (c : Thread nD τ) none Set.univ (m := Memref.whole cc0_stg1_0) (Finset.subset_univ _)) $$ Hw; iintro Hw
  iapply (wp_load 𝒱₀ (c : Thread nD τ) none Set.univ (m := qM) (Finset.subset_univ _)) $$ Hfq; iintro Hfq
  iapply (wp_store 𝒱₀ (c : Thread nD τ) none Set.univ (m := qM) (r := Rect.unit (s := S1024x1024) ![0, 0] ![1024, 1024] inb_S1024x1024_S1024x1024_0_0) (Mk := Finset.univ) (Finset.subset_univ _)) $$ Hfq; iintro Hfq
  iapply (wp_kvwait m K c false _ _ (wpE_waitDma2_eq 𝒱₀ (c : Thread nD τ) none Set.univ (sem := (4 : DmaSem sig)) (src := kSrc c) (dst := kM)) rfl)
  isplitr; · iexact Hrec
  isplitl [HO]; · iexact HO
  isplitl [HaK]; · iexact HaK
  isplitl [HcK]; · iexact HcK
  iintro ⟨HO, HpK, HzK⟩
  iapply (wp_kvwait m K c true _ _ (wpE_waitDma2_eq 𝒱₀ (c : Thread nD τ) none Set.univ (sem := (5 : DmaSem sig)) (src := vSrc c) (dst := vM)) nK_v)
  isplitr; · iexact Hrec
  isplitl [HO]; · iexact HO
  isplitl [HaV]; · iexact HaV
  isplitl [HcV]; · iexact HcV
  iintro ⟨HO, HpV, HzV⟩
  rw [WP_ret]; imodintro
  iapply Hk
  unfold projPost
  isplitl [HO]; · iexact HO
  isplitl [HpK]; · iexact HpK
  isplitl [HzK]; · iexact HzK
  isplitl [HpV]; · iexact HpV
  isplitl [HzV]; · iexact HzV
  isplitl [Hfq]
  · rw [read_x, read_w, write_q]
    iexact Hfq
  isplitl [Hx]; · iexact Hx
  iexact Hw

/-! ## The reads and the chunks -/

/-- The eight key heads read. -/
theorem wp_loadK (c : Dev nD) (f : Vec F S1024x8x128 .f32) (Kt : (Fin 8 → FVec F S1024x128 .bf16) → sProp 𝕄) :
    iprop(own c cc0_scratch0 f ∗ (own c cc0_scratch0 f -∗ Kt (heads f))) ⊢ WP c (loadHs kM) Kt := by
  unfold loadHs loadH
  simp only [Prog.lift, Prog.bind_op, Prog.bind_ret, Prog.pure_eq_ret]
  iintro ⟨H, Hk⟩
  iapply (wp_load 𝒱₀ (c : Thread nD τ) none Set.univ (m := kM) (Finset.subset_univ _)) $$ H; iintro H
  iapply (wp_load 𝒱₀ (c : Thread nD τ) none Set.univ (m := kM) (Finset.subset_univ _)) $$ H; iintro H
  iapply (wp_load 𝒱₀ (c : Thread nD τ) none Set.univ (m := kM) (Finset.subset_univ _)) $$ H; iintro H
  iapply (wp_load 𝒱₀ (c : Thread nD τ) none Set.univ (m := kM) (Finset.subset_univ _)) $$ H; iintro H
  iapply (wp_load 𝒱₀ (c : Thread nD τ) none Set.univ (m := kM) (Finset.subset_univ _)) $$ H; iintro H
  iapply (wp_load 𝒱₀ (c : Thread nD τ) none Set.univ (m := kM) (Finset.subset_univ _)) $$ H; iintro H
  iapply (wp_load 𝒱₀ (c : Thread nD τ) none Set.univ (m := kM) (Finset.subset_univ _)) $$ H; iintro H
  iapply (wp_load 𝒱₀ (c : Thread nD τ) none Set.univ (m := kM) (Finset.subset_univ _)) $$ H; iintro H
  rw [wp_ret]; imodintro
  unfold heads
  iapply Hk $$ H

theorem headsV (f : Vec F S1024x8x128 .f32) : heads f =
    ![kvV (vM.view.readAt (Elt F) (hrect 0).toLoadRect f), kvV (vM.view.readAt (Elt F) (hrect 1).toLoadRect f),
      kvV (vM.view.readAt (Elt F) (hrect 2).toLoadRect f), kvV (vM.view.readAt (Elt F) (hrect 3).toLoadRect f),
      kvV (vM.view.readAt (Elt F) (hrect 4).toLoadRect f), kvV (vM.view.readAt (Elt F) (hrect 5).toLoadRect f),
      kvV (vM.view.readAt (Elt F) (hrect 6).toLoadRect f), kvV (vM.view.readAt (Elt F) (hrect 7).toLoadRect f)] := rfl

/-- The eight value heads read. -/
theorem wp_loadV (c : Dev nD) (f : Vec F S1024x8x128 .f32) (Kt : (Fin 8 → FVec F S1024x128 .bf16) → sProp 𝕄) :
    iprop(own c cc0_scratch1 f ∗ (own c cc0_scratch1 f -∗ Kt (heads f))) ⊢ WP c (loadHs vM) Kt := by
  unfold loadHs loadH
  simp only [Prog.lift, Prog.bind_op, Prog.bind_ret, Prog.pure_eq_ret]
  iintro ⟨H, Hk⟩
  iapply (wp_load 𝒱₀ (c : Thread nD τ) none Set.univ (m := vM) (Finset.subset_univ _)) $$ H; iintro H
  iapply (wp_load 𝒱₀ (c : Thread nD τ) none Set.univ (m := vM) (Finset.subset_univ _)) $$ H; iintro H
  iapply (wp_load 𝒱₀ (c : Thread nD τ) none Set.univ (m := vM) (Finset.subset_univ _)) $$ H; iintro H
  iapply (wp_load 𝒱₀ (c : Thread nD τ) none Set.univ (m := vM) (Finset.subset_univ _)) $$ H; iintro H
  iapply (wp_load 𝒱₀ (c : Thread nD τ) none Set.univ (m := vM) (Finset.subset_univ _)) $$ H; iintro H
  iapply (wp_load 𝒱₀ (c : Thread nD τ) none Set.univ (m := vM) (Finset.subset_univ _)) $$ H; iintro H
  iapply (wp_load 𝒱₀ (c : Thread nD τ) none Set.univ (m := vM) (Finset.subset_univ _)) $$ H; iintro H
  iapply (wp_load 𝒱₀ (c : Thread nD τ) none Set.univ (m := vM) (Finset.subset_univ _)) $$ H; iintro H
  rw [wp_ret, ← headsV]; imodintro
  iapply Hk $$ H

/-- The output weights read. -/
theorem wp_loadWo (c : Dev nD) (f : Vec F S1024x1024 .f32) (Kt : FVec F S1024x1024 .bf16 → sProp 𝕄) :
    iprop(own c cc0_stg2_0 f ∗ (own c cc0_stg2_0 f -∗ Kt (woV f))) ⊢ WP c loadWo Kt := by
  unfold loadWo
  simp only [Prog.lift, Prog.bind_op, Prog.bind_ret, Prog.pure_eq_ret]
  iintro ⟨H, Hk⟩
  iapply (wp_load 𝒱₀ (c : Thread nD τ) none Set.univ (m := Memref.whole cc0_stg2_0) (Finset.subset_univ _)) $$ H; iintro H
  rw [read_wo]
  rw [wp_ret]; imodintro
  iapply Hk $$ H

/-- One chunk. -/
theorem wp_chunkP (c : Dev nD) (i : Fin 4) (g : Vec F S1024x1024 .f32) (Kt : PUnit → sProp 𝕄) :
    iprop(own c cc0_scratch3 (qC m c) ∗ oPts c g ∗ ((own c cc0_scratch3 (qC m c) ∗ oPts c (wch m i c g)) -∗ Kt ⟨⟩))
      ⊢ WP c (chunkP i (heads (kC m c)) (heads (vC m c)) (woV (woC m c)) c) Kt := by
  unfold chunkP loadQ oPts
  simp only [Prog.lift, Prog.bind_op, Prog.bind_ret, Prog.pure_eq_ret]
  iintro ⟨H, Ho, Hk⟩
  iapply (wp_load 𝒱₀ (c : Thread nD τ) none Set.univ (m := qM) (Finset.subset_univ _)) $$ H; iintro H
  iapply (wp_load 𝒱₀ (c : Thread nD τ) none Set.univ (m := qM) (Finset.subset_univ _)) $$ H; iintro H
  iapply (wp_load 𝒱₀ (c : Thread nD τ) none Set.univ (m := qM) (Finset.subset_univ _)) $$ H; iintro H
  iapply (wp_load 𝒱₀ (c : Thread nD τ) none Set.univ (m := qM) (Finset.subset_univ _)) $$ H; iintro H
  iapply (wp_load 𝒱₀ (c : Thread nD τ) none Set.univ (m := qM) (Finset.subset_univ _)) $$ H; iintro H
  iapply (wp_load 𝒱₀ (c : Thread nD τ) none Set.univ (m := qM) (Finset.subset_univ _)) $$ H; iintro H
  iapply (wp_load 𝒱₀ (c : Thread nD τ) none Set.univ (m := qM) (Finset.subset_univ _)) $$ H; iintro H
  iapply (wp_load 𝒱₀ (c : Thread nD τ) none Set.univ (m := qM) (Finset.subset_univ _)) $$ H; iintro H
  iapply (wp_load 𝒱₀ (c : Thread nD τ) none Set.univ (m := oM) (Finset.subset_univ _)) $$ Ho; iintro Ho
  iapply (wp_store 𝒱₀ (c : Thread nD τ) none Set.univ (m := oM) (r := orect i c) (Mk := Finset.univ) (Finset.subset_univ _)) $$ Ho; iintro Ho
  rw [wp_ret]; imodintro
  iapply Hk
  isplitl [H]; · iexact H
  iexact Ho

end Cert.KernelIdeal.Steps

end
-- ==== Proof.Ideal.Body.lean ====
/- The body as a whole: what a device starts from and what it ends with. -/
module

public import proofs.«01_k».proof.Proof.Ideal.Steps

@[expose] public section

noncomputable section

namespace Cert.KernelIdeal.Steps

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (K : Dev nD × (Unit ⊕ J) → ℕ)

/-- The half of a buffer a block of exchange `e` lands in on device `c`, whatever it holds. -/
def land (e : Fin 32) (c : Dev nD) : sProp 𝕄 := iprop(∃ f, rPts e c f)
/-- The half it leaves from. -/
def leave (e : Fin 32) (c : Dev nD) : sProp 𝕄 := iprop(∃ f, sPts e c f)
/-- The two duties of an exchange that its sender pays. -/
def toks (c : Dev nD) (e : Fin 32) : sProp 𝕄 := iprop(dutyTok ER (scell e c) 0 0 ∗ dutyTok ER (rcell e (dv e c)) 0 0)
/-- The four duties of the neighbours' barriers. -/
def barToks (c : Dev nD) : sProp 𝕄 :=
  iprop(dutyTok ER (bcell (bdev 0 c)) 0 0 ∗ dutyTok ER (bcell (bdev 1 c)) 0 1 ∗ dutyTok ER (bcell (bdev 2 c)) 0 2 ∗ dutyTok ER (bcell (bdev 3 c)) 0 3)

theorem sep4 (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem sep32 (Φ : Fin 32 → sProp 𝕄) : bigSep Finset.univ Φ = bigSepL allE Φ :=
  bigSep_univ_eq_bigSepL allE (by decide) (List.nodup_finRange 32) Φ

theorem dim_image : (Finset.univ : Finset (Fin 32)).image dim = Finset.univ := by decide

theorem barPay_eq (k : Fin 4) (c : Dev nD) :
    (barPay k c : sProp 𝕄) = bigSep (Finset.univ.filter fun e => dim e = k) fun e => land e (bdev k c) := rfl

/-- A device's landing halves, sorted by the neighbour that fills them. -/
theorem land_bar (c : Dev nD) : (bigSep Finset.univ fun e => (land e c : sProp 𝕄))
    = iprop(barPay 0 (bdev 0 c) ∗ barPay 1 (bdev 1 c) ∗ barPay 2 (bdev 2 c) ∗ barPay 3 (bdev 3 c)) := by
  rw [bigSep_fiberwise Finset.univ dim, dim_image, sep4]
  simp only [barPay_eq, bdev_bdev]

/-- The neighbours' landing halves, as the barrier hands them over. -/
theorem bar_land (c : Dev nD) : (bigSep Finset.univ fun k => (barPay k c : sProp 𝕄)) = bigSep Finset.univ fun e => land e (dv e c) := by
  rw [bigSep_fiberwise Finset.univ dim fun e => (land e (dv e c) : sProp 𝕄), dim_image]
  refine bigSep_congr fun k _ => ?_
  rw [barPay_eq]
  refine bigSep_congr fun e he => ?_
  rw [show dv e c = bdev k c by unfold dv; rw [dev_eq, (Finset.mem_filter.mp he).2]]

/-- What the exchanges take, gathered. -/
theorem pre_all (c : Dev nD) :
    iprop((bigSep Finset.univ (toks c)) ∗ (bigSep Finset.univ fun e => leave e c) ∗ (bigSep Finset.univ fun k => barPay k c))
      ⊢ (bigSepL allE (pre c) : sProp 𝕄) := by
  rw [bar_land, ← bigSep_sep', ← bigSep_sep', sep32]
  refine bigSepL_mono fun e _ => ?_
  unfold toks pre leave land
  iintro ⟨⟨H1, H2⟩, H3, H4⟩
  isplitl [H1]; · iexact H1
  isplitl [H2]; · iexact H2
  isplitl [H3]; · iexact H3
  iexact H4

/-- The exchanges after the first stage. -/
abbrev lateE : List (Fin 32) := allFrom [1, 2, 3, 4, 5, 6, 7]
theorem allE_eq : allE = stageL 0 ++ lateE := by decide

theorem splitE (Φ : Fin 32 → sProp 𝕄) : bigSepL allE Φ = iprop(bigSepL (stageL 0) Φ ∗ bigSepL lateE Φ) := by
  rw [allE_eq, bigSepL_append]

theorem late_lt : ∀ e ∈ stageL 0, ∀ e' ∈ lateE, e.val / 4 < e'.val / 4 := by decide

/-- What the body starts from, with the names the cells' invariants stand at. -/
def bodyIn (c : Dev nD) : sProp 𝕄 :=
  iprop(records m K ∗ owX c (owB c 0) ∗ atPos ER (bcell c) 0 ∅ 0 ∗ cred (tallyAt (bcell c) () 4) ∗ barToks c
    ∗ kvTok c false ∗ kvTok c true ∗ bigSep Finset.univ (toks c) ∗ bigSep Finset.univ (wait c)
    ∗ (bigSep Finset.univ fun e => leave e c) ∗ (bigSep Finset.univ fun e => land e c)
    ∗ ksPts m c ∗ vsPts m c
    ∗ (∃ f, own c cc0_scratch0 f) ∗ (∃ f, own c cc0_scratch1 f) ∗ (∃ f, own c cc0_scratch3 f)
    ∗ own c cc0_stg0_0 (xC m c) ∗ own c cc0_stg1_0 (wqC m c) ∗ own c cc0_stg2_0 (woC m c) ∗ (∃ g, oPts c g))

/-- What it ends with. -/
def bodyOut (c : Dev nD) : sProp 𝕄 :=
  iprop(owX c 0 ∗ semVal (bcell c) 0 ∗ semVal (kcell false c) 0 ∗ semVal (kcell true c) 0 ∗ bigSep Finset.univ (post c)
    ∗ ksPts m c ∗ vsPts m c
    ∗ (∃ f, own c cc0_scratch0 f) ∗ (∃ f, own c cc0_scratch1 f) ∗ (∃ f, own c cc0_scratch3 f)
    ∗ own c cc0_stg0_0 (xC m c) ∗ own c cc0_stg1_0 (wqC m c) ∗ own c cc0_stg2_0 (woC m c) ∗ oPts c (fs m 8 c))

/-- Asking which device this is. -/
theorem WP_dev (c : Dev nD) (k : Dev nD → PT F PUnit) (Q : PUnit → sProp 𝕄) :
    WP c (Prog.lift .deviceId >>= k) Q = WP c (k c) Q := by
  simp only [Prog.lift, Prog.bind_op, Prog.bind_ret, wp_deviceId]

/-- The body. -/
theorem wp_body (c : Dev nD) (Kt : PUnit → sProp 𝕄) :
    iprop(bodyIn m K c ∗ (bodyOut m c -∗ Kt ⟨⟩)) ⊢ WP c (bodyP (F := F)) Kt := by
  unfold bodyP
  rw [WP_dev]
  unfold bodyIn barToks
  iintro ⟨⟨#Hrec, HO, HaB, HcB, HtB, HkK, HkV, Htok, Hwait, Hleave, Hland, Hks, Hvs, H0, H1, H3, Hx, Hw, Hwo, ⟨%g, Ho⟩⟩, Hk⟩
  rw [WP_bind]
  iapply (wp_barP m K c)
  isplitr; · iexact Hrec
  isplitl [HO]; · iexact HO
  isplitl [HaB]; · iexact HaB
  isplitl [HcB]; · iexact HcB
  isplitl [HtB]; · iexact HtB
  isplitl [Hland]; · rw [← land_bar]; iexact Hland
  iintro ⟨HO, HzB, Hbar⟩
  ihave Hpre := (pre_all (F := F) c) $$ [Htok Hleave Hbar]
  · isplitl [Htok]; · iexact Htok
    isplitl [Hleave]; · iexact Hleave
    iexact Hbar
  ihave Hwait := (Entails.of_eq (sep32 (wait (F := F) c))) $$ Hwait
  rw [WP_bind]
  iapply (wp_projP m K c)
  isplitr; · iexact Hrec
  isplitl [HO]; · iexact HO
  isplitl [HkK]; · iexact HkK
  isplitl [HkV]; · iexact HkV
  isplitl [Hks]; · iexact Hks
  isplitl [Hvs]; · iexact Hvs
  isplitl [H0]; · iexact H0
  isplitl [H1]; · iexact H1
  isplitl [H3]; · iexact H3
  isplitl [Hx]; · iexact Hx
  isplitl [Hw]; · iexact Hw
  unfold projPost
  dsimp only [kvPay]
  iintro ⟨HO, ⟨H0, Hks⟩, HzK, ⟨H1, Hvs⟩, HzV, H3, Hx, Hw⟩
  rw [WP_bind]
  iapply (wp_loadK c (kC m c))
  isplitl [H0]; · iexact H0
  iintro H0
  rw [WP_bind]
  iapply (wp_loadV c (vC m c))
  isplitl [H1]; · iexact H1
  iintro H1
  rw [WP_bind]
  iapply (wp_loadWo c (woC m c))
  isplitl [Hwo]; · iexact Hwo
  iintro Hwo
  rw [WP_bind]
  iapply (wp_chunkP m c 0 g)
  isplitl [H3]; · iexact H3
  isplitl [Ho]; · iexact Ho
  iintro ⟨H3, Ho⟩
  rw [WP_bind]
  iapply (wp_chunkP m c 1)
  isplitl [H3]; · iexact H3
  isplitl [Ho]; · iexact Ho
  iintro ⟨H3, Ho⟩
  rw [WP_bind]
  ihave Hpre := (Entails.of_eq (splitE (pre (F := F) c))) $$ Hpre
  ihave Hwait := (Entails.of_eq (splitE (wait (F := F) c))) $$ Hwait
  ihave HO := (Entails.of_eq (congrArg (fun l => (owX c (ow l c) : sProp 𝕄)) allE_eq)) $$ HO
  icases Hpre with ⟨Hp, Hpl⟩
  icases Hwait with ⟨Hwt, Hwl⟩
  iapply (wp_sends m K c (stageL 0) lateE _ (fun e he => sent_first m e (by have := stage_div 0 e he; have h0 : ((0 : Fin 8) : ℕ) = 0 := rfl; omega) c g))
  isplitr; · iexact Hrec
  isplitl [Hp]; · iexact Hp
  isplitl [HO]; · iexact HO
  isplitl [Ho]; · iexact Ho
  iintro ⟨Hc, HO, Ho⟩
  rw [WP_bind]
  iapply (wp_chunkP m c 2)
  isplitl [H3]; · iexact H3
  isplitl [Ho]; · iexact Ho
  iintro ⟨H3, Ho⟩
  rw [WP_bind]
  iapply (wp_chunkP m c 3)
  isplitl [H3]; · iexact H3
  isplitl [Ho]; · iexact Ho
  iintro ⟨H3, Ho⟩
  rw [WP_bind]
  iapply (wp_recvs m K c (stageL 0) lateE late_lt)
  isplitr; · iexact Hrec
  isplitl [Hwt]; · iexact Hwt
  isplitl [Hc]; · iexact Hc
  isplitl [HO]; · iexact HO
  isplitl [Ho]; · iexact Ho
  iintro ⟨HO, Ho, Hpost⟩
  rw [share_eq, show share0 m c = fs m (0 : Fin 8).val c from rfl, fs_succ m 0 c]
  iapply (wp_stages m K c [1, 2, 3, 4, 5, 6, 7] 1 (by decide) (by decide))
  isplitr; · iexact Hrec
  isplitl [Hpl]; · iexact Hpl
  isplitl [Hwl]; · iexact Hwl
  isplitl [HO]; · iexact HO
  isplitl [Ho]; · iexact Ho
  iintro ⟨HO, Ho, Hpostl⟩
  iapply Hk
  unfold bodyOut
  rw [sep32 (post (F := F) c), splitE]
  isplitl [HO]; · iexact HO
  isplitl [HzB]; · iexact HzB
  isplitl [HzK]; · iexact HzK
  isplitl [HzV]; · iexact HzV
  isplitl [Hpost Hpostl]
  · isplitl [Hpost]; · iexact Hpost
    iexact Hpostl
  isplitl [Hks]; · iexact Hks
  isplitl [Hvs]; · iexact Hvs
  isplitl [H0]; · iexists _; iexact H0
  isplitl [H1]; · iexists _; iexact H1
  isplitl [H3]; · iexists _; iexact H3
  isplitl [Hx]; · iexact Hx
  isplitl [Hw]; · iexact Hw
  isplitl [Hwo]; · iexact Hwo
  iexact Ho

end Cert.KernelIdeal.Steps

end
-- ==== Proof.Ideal.Halves.lean ====
/- The kernel's own buffers, cut into the halves the exchanges use. -/
module

public import proofs.«01_k».proof.Proof.Ideal.Body

@[expose] public section

noncomputable section

namespace Cert.KernelIdeal.Steps

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

/-- A buffer at some contents is its two complementary parts, each at some contents. -/
theorem parts_eq (ℓ : Loc nD τ sig) (S T : Finset (Idx ℓ)) (h : Disjoint S T ∧ S ∪ T = Finset.univ) :
    (iprop(∃ f : Buf (Elt F) ℓ, ℓ ↦{fullShare} f) : sProp 𝕄)
      = iprop((∃ f : Buf (Elt F) ℓ, ℓ ↦[S]{fullShare} f) ∗ (∃ f : Buf (Elt F) ℓ, ℓ ↦[T]{fullShare} f)) := by
  obtain ⟨hd, hu⟩ := h
  have h1 : (iprop(∃ f : Buf (Elt F) ℓ, ℓ ↦{fullShare} f) : sProp 𝕄)
      ⊢ iprop((∃ f : Buf (Elt F) ℓ, ℓ ↦[S]{fullShare} f) ∗ (∃ f : Buf (Elt F) ℓ, ℓ ↦[T]{fullShare} f)) := by
    iintro ⟨%f, H⟩
    ihave H := ((Entails.of_eq (show (ℓ ↦{fullShare} f : sProp 𝕄) = ℓ ↦[S ∪ T]{fullShare} f by rw [hu])).trans (pointsTo_union hd).1) $$ H
    icases H with ⟨H1, H2⟩
    isplitl [H1]
    · iexists f; iexact H1
    · iexists f; iexact H2
  have h2 : (iprop((∃ f : Buf (Elt F) ℓ, ℓ ↦[S]{fullShare} f) ∗ (∃ f : Buf (Elt F) ℓ, ℓ ↦[T]{fullShare} f)) : sProp 𝕄)
      ⊢ iprop(∃ f : Buf (Elt F) ℓ, ℓ ↦{fullShare} f) := by
    iintro ⟨⟨%f, H1⟩, ⟨%g, H2⟩⟩
    iexists (T.piecewise g f)
    iapply (show iprop((ℓ ↦[S]{fullShare} f) ∗ ℓ ↦[T]{fullShare} g) ⊢ (ℓ ↦{fullShare} (T.piecewise g f) : sProp 𝕄) from
      (pointsTo_join hd).trans (Entails.of_eq (by rw [hu])))
    isplitl [H1]
    · iexact H1
    · iexact H2
  exact equiv_iff.mp ⟨h1, h2⟩

/-- A buffer of `2 n` rows at some contents is its upper half and its lower half, each at some contents. -/
theorem whole_pair (c : Dev nD) {bsz : Fin 2 → ℕ} (M : Memref sig .tc .vmem ⟨2, bsz⟩ .bf16) (hM : M.view.set = Finset.univ) (off off' sz : Fin 2 → ℕ)
    (inb : ∀ a, off a + sz a ≤ bsz a) (inb' : ∀ a, off' a + sz a ≤ bsz a) (h : off = ![0, 0]) (h' : off' = ![sz 0, 0]) (h0 : bsz 0 = sz 0 + sz 0) (h1 : bsz 1 = sz 1) :
    (iprop(∃ f : Buf (Elt F) (M.view.loc (c : Thread nD τ)), M.view.loc (c : Thread nD τ) ↦{fullShare} f) : sProp 𝕄)
      = iprop((∃ f : Buf (Elt F) (M.view.loc (c : Thread nD τ)), M.view.loc (c : Thread nD τ) ↦[(M.slice (Rect.unit (s := ⟨2, bsz⟩) off sz inb) (fun _ => rfl)).view.set]{fullShare} f)
          ∗ (∃ f : Buf (Elt F) (M.view.loc (c : Thread nD τ)), M.view.loc (c : Thread nD τ) ↦[(M.slice (Rect.unit (s := ⟨2, bsz⟩) off' sz inb') (fun _ => rfl)).view.set]{fullShare} f)) := by
  have hc (i : (⟨2, bsz⟩ : Shape).Idx) : i ∈ (Rect.unit (s := ⟨2, bsz⟩) off sz inb).set ↔ i ∉ (Rect.unit (s := ⟨2, bsz⟩) off' sz inb').set := by
    have i0 : (i 0).val < bsz 0 := (i 0).isLt
    have i1 : (i 1).val < bsz 1 := (i 1).isLt
    rw [Rect.mem_set_unit, Rect.mem_set_unit, h, h']
    rw [show (∀ a : Fin (⟨2, bsz⟩ : Shape).rank, (![0, 0] : Fin 2 → ℕ) a ≤ (i a).val ∧ (i a).val < (![0, 0] : Fin 2 → ℕ) a + sz a) ↔ _ from Fin.forall_fin_two,
      show (∀ a : Fin (⟨2, bsz⟩ : Shape).rank, (![sz 0, 0] : Fin 2 → ℕ) a ≤ (i a).val ∧ (i a).val < (![sz 0, 0] : Fin 2 → ℕ) a + sz a) ↔ _ from Fin.forall_fin_two]
    simp only [Matrix.cons_val_zero, Matrix.cons_val_one]
    omega
  have e1 : (M.slice (Rect.unit (s := ⟨2, bsz⟩) off sz inb) (fun _ => rfl)).view.set = (Rect.unit (s := ⟨2, bsz⟩) off sz inb).set.map M.view.emb := View.set_slice _ _
  have e2 : (M.slice (Rect.unit (s := ⟨2, bsz⟩) off' sz inb') (fun _ => rfl)).view.set = (Rect.unit (s := ⟨2, bsz⟩) off' sz inb').set.map M.view.emb := View.set_slice _ _
  rw [e1, e2]
  refine parts_eq _ _ _ ⟨?_, ?_⟩
  · rw [Finset.disjoint_map]
    exact Finset.disjoint_left.mpr fun i h1 h2 => (hc i).mp h1 h2
  · rw [← Finset.map_union, ← hM]
    unfold View.set
    refine congrArg (Finset.map M.view.emb) (Finset.eq_univ_of_forall fun i => Finset.mem_union.mpr ?_)
    by_cases h2 : i ∈ (Rect.unit (s := ⟨2, bsz⟩) off' sz inb').set
    · exact Or.inr h2
    · exact Or.inl ((hc i).mpr h2)

/-- The exchange that uses the upper half of the `p`-th pair of buffers. -/
def lo (p : Fin 16) : Fin 32 := ⟨4 * (p.val / 2) + p.val % 2, by omega⟩
/-- The one that uses the lower half. -/
def hi (p : Fin 16) : Fin 32 := ⟨4 * (p.val / 2) + p.val % 2 + 2, by omega⟩
/-- The buffer the `p`-th pair sends from. -/
def sbuf : Fin 16 → Ref sig .tc := ![cc0_scratch4, cc0_scratch20, cc0_scratch5, cc0_scratch21, cc0_scratch6, cc0_scratch22, cc0_scratch7, cc0_scratch23, cc0_scratch12, cc0_scratch28, cc0_scratch13, cc0_scratch29, cc0_scratch14, cc0_scratch30, cc0_scratch15, cc0_scratch31]
/-- The buffer it receives in. -/
def rbuf : Fin 16 → Ref sig .tc := ![cc0_scratch8, cc0_scratch24, cc0_scratch9, cc0_scratch25, cc0_scratch10, cc0_scratch26, cc0_scratch11, cc0_scratch27, cc0_scratch16, cc0_scratch32, cc0_scratch17, cc0_scratch33, cc0_scratch18, cc0_scratch34, cc0_scratch19, cc0_scratch35]

/-- The halves of a pair, by their sizes. -/
theorem pair_sizes : ∀ p : Fin 16, (E (lo p)).hoff = ![0, 0] ∧ (E (hi p)).hoff = ![(E (lo p)).sz 0, 0]
    ∧ (E (lo p)).bsz 0 = (E (lo p)).sz 0 + (E (lo p)).sz 0 ∧ (E (lo p)).bsz 1 = (E (lo p)).sz 1 := by
  intro p; fin_cases p <;> exact ⟨rfl, rfl, rfl, rfl⟩
/-- The lower half of a pair lies in the buffer of the upper half. -/
theorem pair_inb : ∀ p : Fin 16, ∀ a, (E (hi p)).hoff a + (E (lo p)).sz a ≤ (E (lo p)).bsz a := by
  intro p; fin_cases p <;> exact (E (hi _)).hinb

set_option maxHeartbeats 4000000 in
/-- A send buffer is its two halves. -/
theorem leave_pair (c : Dev nD) (p : Fin 16) : (iprop(∃ f, own c (sbuf p) f) : sProp 𝕄) = iprop(leave (lo p) c ∗ leave (hi p) c) := by
  obtain ⟨h1, h2, h3, h4⟩ := pair_sizes p
  have h := whole_pair (F := F) c (E (lo p)).sM (E (lo p)).hS.set_eq_univ (E (lo p)).hoff (E (hi p)).hoff (E (lo p)).sz (E (lo p)).hinb (pair_inb p) h1 h2 h3 h4
  fin_cases p <;> exact h

set_option maxHeartbeats 4000000 in
/-- A landing buffer is its two halves. -/
theorem land_pair (c : Dev nD) (p : Fin 16) : (iprop(∃ f, own c (rbuf p) f) : sProp 𝕄) = iprop(land (lo p) c ∗ land (hi p) c) := by
  obtain ⟨h1, h2, h3, h4⟩ := pair_sizes p
  have h := whole_pair (F := F) c (E (lo p)).rM (E (lo p)).hR.set_eq_univ (E (lo p)).hoff (E (hi p)).hoff (E (lo p)).sz (E (lo p)).hinb (pair_inb p) h1 h2 h3 h4
  fin_cases p <;> exact h

/-- The thirty-two exchanges are the two of each pair. -/
theorem bigSep_pairs (Φ : Fin 32 → sProp 𝕄) : bigSep Finset.univ Φ = bigSep Finset.univ fun p : Fin 16 => iprop(Φ (lo p) ∗ Φ (hi p)) := by
  rw [bigSep_sep']
  rw [bigSep_univ_equiv (show Fin 16 ⊕ Fin 16 ≃ Fin 32 from Equiv.ofBijective (Sum.elim lo hi) (by decide)) Φ, bigSep_univ_sum]
  rfl

end Cert.KernelIdeal.Steps

end
-- ==== Proof.Ideal.Ghost.lean ====
/- What the launch deals each device: the cells' invariants, its positions, the duties it pays, the credit it is owed. -/
module

public import proofs.«01_k».proof.Proof.Ideal.Halves

@[expose] public section

noncomputable section

namespace Cert.KernelIdeal.Steps

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

/-! ## The cells and the duties are distinct -/

/-- What each of the protocol's semaphores is for. -/
def tagOf : Unit ⊕ J → Kd
  | .inl _ => .bar
  | .inr (.inl b) => .kv b
  | .inr (.inr (.inl e)) => .snd e
  | .inr (.inr (.inr e)) => .rcv e
theorem kd_csem : ∀ k, kd (csem k) = tagOf k
  | .inl _ => rfl
  | .inr (.inl b) => kd_kv b
  | .inr (.inr (.inl e)) => kd_snd e
  | .inr (.inr (.inr e)) => kd_rcv e
theorem tagOf_inj : Function.Injective tagOf := by
  rintro (_ | (a | (a | a))) (_ | (b | (b | b))) h <;> simp only [tagOf] at h <;> first | rfl | cases h <;> rfl
theorem csem_inj : Function.Injective csem := fun a b h => tagOf_inj (by rw [← kd_csem, h, kd_csem])
theorem cellAt_inj : Function.Injective cellAt := by
  rintro ⟨c, k⟩ ⟨c', k'⟩ h
  have h1 : c = c' := congrArg (fun g : GSem nD τ sig => g.1.1) h
  have h2 : csem k = csem k' := congrArg Prod.snd h
  rw [h1, csem_inj h2]
/-- The protocol's cells on every device. -/
def allCells : Finset (GSem nD τ sig) := Finset.univ.map ⟨cellAt, cellAt_inj⟩

/-- The duties of a device's own cells: its barrier's four, one of every other cell. -/
def tokOf (p : Dev nD × (Fin 4 ⊕ J)) : GSem nD τ sig × ℕ × Fin 4 :=
  match p.2 with
  | .inl k => (bcell p.1, 0, k)
  | .inr j => (cellAt (p.1, .inr j), 0, 0)
theorem tokOf_inj : Function.Injective tokOf := by
  rintro ⟨c, k⟩ ⟨c', k'⟩ h
  have h1 : c = c' := by
    have := congrArg (fun x : GSem nD τ sig × ℕ × Fin 4 => x.1.1.1) h
    rcases k with k | k <;> rcases k' with k' | k' <;> exact this
  subst h1
  have h2 := congrArg (fun x : GSem nD τ sig × ℕ × Fin 4 => kd x.1.2) h
  have h3 := congrArg (fun x : GSem nD τ sig × ℕ × Fin 4 => x.2.2) h
  rcases k with k | k <;> rcases k' with k' | k'
  · exact congrArg (fun k => (c, Sum.inl k)) h3
  · exact absurd (tagOf_inj (a₁ := .inl ()) (a₂ := .inr k') (((kd_csem (.inl ())).symm.trans h2).trans (kd_csem (.inr k')))) (by simp)
  · exact absurd (tagOf_inj (a₁ := .inr k) (a₂ := .inl ()) (((kd_csem (.inr k)).symm.trans h2).trans (kd_csem (.inl ())))) (by simp)
  · have := tagOf_inj (a₁ := .inr k) (a₂ := .inr k') (((kd_csem (.inr k)).symm.trans h2).trans (kd_csem (.inr k')))
    rw [Sum.inr.inj this]
/-- The duties of every device's cells. -/
def allToks : Finset (GSem nD τ sig × ℕ × Fin 4) := Finset.univ.map ⟨tokOf, tokOf_inj⟩

/-! ## Sums over a device's cells -/

theorem sepB (Φ : Bool → sProp 𝕄) : bigSep Finset.univ Φ = iprop(Φ false ∗ Φ true) :=
  bigSep_univ_eq_bigSepL [false, true] (by decide) (by decide) Φ
theorem sepU (Φ : Unit → sProp 𝕄) : bigSep Finset.univ Φ = Φ () :=
  bigSep_univ_eq_bigSepL [()] (by decide) (by decide) Φ
/-- Over a device's own cells. -/
theorem sepJ (Φ : J → sProp 𝕄) : bigSep Finset.univ Φ
    = iprop((Φ (.inl false) ∗ Φ (.inl true)) ∗ (bigSep Finset.univ fun e => Φ (.inr (.inl e))) ∗ bigSep Finset.univ fun e => Φ (.inr (.inr e))) := by
  rw [bigSep_univ_sum, bigSep_univ_sum, sepB]; rfl
/-- With the barrier's. -/
theorem sepC (Φ : Unit ⊕ J → sProp 𝕄) : bigSep Finset.univ Φ
    = iprop(Φ (.inl ()) ∗ (Φ (.inr (.inl false)) ∗ Φ (.inr (.inl true))) ∗ (bigSep Finset.univ fun e => Φ (sIx e)) ∗ bigSep Finset.univ fun e => Φ (rIx e)) := by
  rw [bigSep_univ_sum, sepU, sepJ]; rfl

/-! ## The ghost state -/

/-- The launch's ghost element. -/
def u₀ : UU := (initOf (Pipeline.cells cfgs cellOf_inj) (Pipeline.launchToks cfgs cellOf_inj), initOf allCells allToks)

/-- The duty tokens of device `c`'s own cells. -/
def ownToks (c : Dev nD) : sProp 𝕄 :=
  bigSep Finset.univ fun j : Fin 4 ⊕ J => dutyTok ER (tokOf (c, j)).1 (tokOf (c, j)).2.1 (tokOf (c, j)).2.2
/-- What the launch element gives a device. -/
def G (c : Dev nD) : sProp 𝕄 :=
  iprop((bigSep Finset.univ fun k => roundState ER (rd m) (cellAt (c, k)) 0)
    ∗ (bigSep Finset.univ fun k => iprop(atPos ER (cellAt (c, k)) 0 ∅ 0 ∗ reached ER (cellAt (c, k)) 0)) ∗ ownToks c)

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k => Φ (cellAt (c, k)) := by
    unfold allCells; rw [bigSep_map, bigSep_univ_prod]; rfl
  have hT : bigSep allToks (fun x => (dutyTok ER x.1 x.2.1 x.2.2 : sProp 𝕄)) = bigSep Finset.univ fun c : Dev nD => ownToks c := by
    unfold allToks ownToks; rw [bigSep_map, bigSep_univ_prod]; rfl
  iintro HX
  imod (Rounds.fund ER (rd m) allCells allToks) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The barrier's semaphore is the one the launch does not scope. -/
theorem unscoped_eq (c : Dev nD) : (unscopedSems0 c : sProp 𝕄) = semVal (bcell c) 0 := by
  unfold unscopedSems0; rw [bigSep_eq_bigSepL_of_eq [SemLoc.reg barS] (by decide +kernel) (by decide +kernel)]; rfl

theorem sems_eq (c : Dev nD) :
    iprop(Pipeline.ownSems0 (Ix := Unit) (Name := ℕ) (U := UU) (Lvl := ℕ) (Val := Elt F) (τ := τ) osem c ∗ unscopedSems0 c)
      ⊢ (bigSep Finset.univ fun k => semVal (cellAt (c, k)) 0 : sProp 𝕄) := by
  rw [unscoped_eq, show (bigSep Finset.univ fun k => semVal (cellAt (c, k)) 0 : sProp 𝕄)
    = iprop(semVal (bcell c) 0 ∗ bigSep Finset.univ fun k : J => semVal ((c : Thread nD τ), osem k) 0) by rw [bigSep_univ_sum, sepU]; rfl]
  unfold Pipeline.ownSems0
  iintro ⟨H, HB⟩
  isplitl [HB]; · iexact HB
  iexact H

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (rd m) κ (cellAt (c, k))))
          ∗ (bigSep Finset.univ fun k => iprop(atPos ER (cellAt (c, k)) 0 ∅ 0 ∗ reached ER (cellAt (c, k)) 0)) ∗ ownToks c) := by
  unfold G
  iintro ⟨Hos, Hus, Hst, Hat, Htok⟩
  ihave Hv := (sems_eq (F := F) c) $$ [Hos Hus]
  · isplitl [Hos] <;> iassumption
  imod (show iprop((bigSep Finset.univ fun k => semVal (cellAt (c, k)) 0) ∗ bigSep Finset.univ fun k => roundState ER (rd m) (cellAt (c, k)) 0)
      ⊢ (|={Set.univ}=> bigSep Finset.univ fun k => iprop(∃ κ : ℕ, cellInv ER (rd m) κ (cellAt (c, k))) : sProp 𝕄) from by
        rw [← bigSep_sep']
        exact (bigSep_mono fun k _ => (Rounds.body_intro ER (rd m) (cellAt (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The duties device `c` pays. -/
def payToks (c : Dev nD) : sProp 𝕄 :=
  iprop(barToks c ∗ (dutyTok ER (kcell false c) 0 0 ∗ dutyTok ER (kcell true c) 0 0) ∗ bigSep Finset.univ (toks c))

/-- A neighbour's neighbour along a dimension is the device itself. -/
def bdevE (k : Fin 4) : Dev nD ≃ Dev nD := ⟨bdev k, bdev k, bdev_bdev k, bdev_bdev k⟩
/-- Likewise by the exchange. -/
def dvE (e : Fin 32) : Dev nD ≃ Dev nD := ⟨dv e, dv e, dv_dv e, dv_dv e⟩

theorem ownToks_eq (c : Dev nD) : (ownToks c : sProp 𝕄)
    = iprop((dutyTok ER (bcell c) 0 0 ∗ dutyTok ER (bcell c) 0 1 ∗ dutyTok ER (bcell c) 0 2 ∗ dutyTok ER (bcell c) 0 3)
      ∗ (dutyTok ER (kcell false c) 0 0 ∗ dutyTok ER (kcell true c) 0 0)
      ∗ (bigSep Finset.univ fun e => dutyTok ER (scell e c) 0 0) ∗ bigSep Finset.univ fun e => dutyTok ER (rcell e c) 0 0) := by
  unfold ownToks; rw [bigSep_univ_sum, sep4, sepJ]; rfl

/-- The duties dealt out: each to the device that pays it. -/
theorem toks_around : (bigSep Finset.univ fun c : Dev nD => (ownToks c : sProp 𝕄)) ⊢ bigSep Finset.univ fun c : Dev nD => payToks c := by
  have hr : (bigSep Finset.univ fun c : Dev nD => bigSep Finset.univ fun e : Fin 32 => (dutyTok ER (rcell e c) 0 0 : sProp 𝕄))
      = bigSep Finset.univ fun c : Dev nD => bigSep Finset.univ fun e : Fin 32 => dutyTok ER (rcell e (dv e c)) 0 0 := by
    rw [bigSep_univ_comm, bigSep_univ_comm (fun (c : Dev nD) (e : Fin 32) => (dutyTok ER (rcell e (dv e c)) 0 0 : sProp 𝕄))]
    exact bigSep_congr fun e _ => bigSep_univ_equiv (dvE e) fun c : Dev nD => (dutyTok ER (rcell e c) 0 0 : sProp 𝕄)
  simp only [ownToks_eq]
  unfold payToks barToks toks
  simp only [bigSep_sep']
  rw [hr, bigSep_univ_equiv (bdevE 0) (fun c : Dev nD => (dutyTok ER (bcell c) 0 0 : sProp 𝕄)),
    bigSep_univ_equiv (bdevE 1) (fun c : Dev nD => (dutyTok ER (bcell c) 0 1 : sProp 𝕄)),
    bigSep_univ_equiv (bdevE 2) (fun c : Dev nD => (dutyTok ER (bcell c) 0 2 : sProp 𝕄)),
    bigSep_univ_equiv (bdevE 3) (fun c : Dev nD => (dutyTok ER (bcell c) 0 3 : sProp 𝕄))]
  exact BI.Entails.refl _

/-- What is device `c`'s alone: its positions and the duties it pays. -/
def linear (c : Dev nD) : sProp 𝕄 :=
  iprop((atPos ER (bcell c) 0 ∅ 0 ∗ (atPos ER (kcell false c) 0 ∅ 0 ∗ atPos ER (kcell true c) 0 ∅ 0)
      ∗ (bigSep Finset.univ fun e => atPos ER (scell e c) 0 ∅ 0) ∗ bigSep Finset.univ fun e => atPos ER (rcell e c) 0 ∅ 0)
    ∗ payToks c)

/-- The cells' invariants and rounds at their names. -/
def cellRecs (K : Dev nD × (Unit ⊕ J) → ℕ) : sProp 𝕄 :=
  iprop((bigSep Finset.univ fun p : Dev nD × (Unit ⊕ J) => cellInv ER (rd m) (K p) (cellAt p))
    ∗ (bigSep Finset.univ fun p : Dev nD × (Unit ⊕ J) => reached ER (cellAt p) 0))
instance cellRecs_persistent (K) : BI.Persistent (cellRecs (F := F) m K) := by unfold cellRecs; infer_instance

/-- What the launch's step makes of it. -/
def G' (c : Dev nD) : sProp 𝕄 := iprop(∃ K, cellRecs m K ∗ linear c)

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (rd m) κ (cellAt (c, k))))
          ∗ (bigSep Finset.univ fun k => iprop(atPos ER (cellAt (c, k)) 0 ∅ 0 ∗ reached ER (cellAt (c, k)) 0)) ∗ ownToks c) : sProp 𝕄)
      ⊢ bigSep Finset.univ (G' m) := by
  rw [bigSep_sep', bigSep_sep', ← bigSep_univ_prod (fun p : Dev nD × (Unit ⊕ J) => iprop(∃ κ : ℕ, cellInv ER (rd m) κ (cellAt p))),
    bigSep_congr (s := Finset.univ) (fun (c : Dev nD) _ => bigSep_sep' Finset.univ (fun k => (atPos ER (cellAt (c, k)) 0 ∅ 0 : sProp 𝕄)) (fun k => reached ER (cellAt (c, k)) 0)),
    bigSep_sep', ← bigSep_univ_prod (fun p : Dev nD × (Unit ⊕ J) => (reached ER (cellAt p) 0 : sProp 𝕄))]
  iintro ⟨HI, ⟨Hat, #HR⟩, Htok⟩
  ihave HK := (BI.bigSep_exists_pi Finset.univ (fun (p : Dev nD × (Unit ⊕ J)) (κ : ℕ) => (cellInv ER (rd m) κ (cellAt p) : sProp 𝕄))) $$ HI
  icases HK with ⟨%K, #HI⟩
  ihave Htk := (toks_around (F := F)) $$ Htok
  iapply (with_persistent (R := cellRecs m K) (Φ := linear) fun c _ => (show iprop(cellRecs m K ∗ linear c) ⊢ G' m c from by
    unfold G'; iintro H; iexists K; iexact H))
  isplitr
  · unfold cellRecs; isplitl; · iexact HI
    iexact HR
  · iapply ((Entails.of_eq (bigSep_sep' Finset.univ (fun c : Dev nD => bigSep Finset.univ fun k => (atPos ER (cellAt (c, k)) 0 ∅ 0 : sProp 𝕄)) payToks).symm).trans
      (bigSep_mono fun c _ => show _ ⊢ linear c from Entails.of_eq (by unfold linear; rw [sepC]; rfl)))
    isplitl [Hat]; · iexact Hat
    iexact Htk

/-- The launch's step: every device's semaphores into cells. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit -/

/-- What each device owes at the launch. -/
abbrev O₀ (c : Dev nD) : CellTallies nD τ sig Unit := owB c 0

theorem bcell_inj {a b : Dev nD} (h : bcell a = bcell b) : a = b := congrArg (fun g : GSem nD τ sig => g.1.1) h
theorem rcell_inj {e e' : Fin 32} {a b : Dev nD} (h : rcell e a = rcell e' b) : e = e' ∧ a = b := by
  refine ⟨?_, congrArg (fun g : GSem nD τ sig => g.1.1) h⟩
  have h2 := congrArg (fun g : GSem nD τ sig => kd g.2) h
  dsimp only at h2
  rw [kd_rcv, kd_rcv] at h2
  exact Kd.rcv.inj h2
theorem rcell_ne_bcell (e : Fin 32) (a b : Dev nD) : rcell e a ≠ bcell b := fun h => by
  have h2 := congrArg (fun g : GSem nD τ sig => kd g.2) h
  dsimp only at h2
  rw [kd_rcv, kd_bar] at h2
  cases h2

theorem tally_bar (k : Fin 4) (d c : Dev nD) : (tallyAt (bcell (bdev k d)) () 1 : CellTallies nD τ sig Unit) (bcell c) () = if d = bdev k c then 1 else 0 := by
  rw [tallyAt_apply]
  by_cases h : d = bdev k c
  · subst h; rw [bdev_bdev, if_pos ⟨rfl, rfl⟩, if_pos rfl]
  · rw [if_neg h, if_neg]
    rintro ⟨h1, -⟩
    exact h (by rw [bcell_inj h1, bdev_bdev])
theorem tally_bar_rcv (k : Fin 4) (d c : Dev nD) (e : Fin 32) : (tallyAt (bcell (bdev k d)) () 1 : CellTallies nD τ sig Unit) (rcell e c) () = 0 := by
  rw [tallyAt_apply, if_neg]
  rintro ⟨h1, -⟩
  exact rcell_ne_bcell _ _ _ h1

theorem ow_bar (l : List (Fin 32)) (d c : Dev nD) : ow l d (bcell c) () = 0 :=
  Nat.eq_zero_of_not_pos fun hp => by obtain ⟨e, -, he⟩ := ow_pos hp; exact rcell_ne_bcell _ _ _ he.symm
theorem ow_rcv (l : List (Fin 32)) (hl : l.Nodup) (d c : Dev nD) (e : Fin 32) : ow l d (rcell e c) () = if e ∈ l ∧ d = dv e c then nE e else 0 := by
  induction l with
  | nil => simp [ow]
  | cons e' l ih =>
    rw [List.nodup_cons] at hl
    dsimp only [ow]
    rw [Pi.add_apply, Finsupp.add_apply, tallyAt_apply, ih hl.2]
    by_cases he : e = e'
    · subst he
      rw [if_neg (fun h => hl.1 h.1), Nat.zero_add]
      by_cases h : d = dv e c
      · subst h; rw [dv_dv, if_pos ⟨rfl, rfl⟩, if_pos ⟨List.mem_cons_self, rfl⟩]
      · rw [if_neg, if_neg (fun h' => h h'.2)]
        rintro ⟨h1, -⟩
        exact h (by rw [(rcell_inj h1).2, dv_dv])
    · rw [if_neg (c := rcell e c = rcell e' (dv e' d) ∧ () = ()) (fun h => he (rcell_inj h.1).1), Nat.add_zero]
      simp only [List.mem_cons, he, false_or]

theorem launch_bar (c : Dev nD) :
    tallyOn (bcell c) (launchCredit (Pipeline.owing O₀) 0 (bcell c)) = (tallyAt (bcell c) () 4 : CellTallies nD τ sig Unit) := by
  unfold tallyAt; refine congrArg _ (Finsupp.ext fun u => ?_); cases u
  rw [Pipeline.launchCredit_owing, Finsupp.single_eq_same]
  have h (d : Dev nD) : O₀ d (bcell c) () = (if d = bdev 3 c then 1 else 0) + (if d = bdev 2 c then 1 else 0) + (if d = bdev 1 c then 1 else 0) + (if d = bdev 0 c then 1 else 0) := by
    unfold O₀ owB
    simp only [Pi.add_apply, Finsupp.add_apply, tally_bar, ow_bar, Nat.zero_add]
  rw [Finset.sum_congr rfl fun d _ => h d, Finset.sum_add_distrib, Finset.sum_add_distrib, Finset.sum_add_distrib]
  simp only [Finset.sum_ite_eq', Finset.mem_univ, if_true]

theorem launch_rcv (e : Fin 32) (c : Dev nD) :
    tallyOn (rcell e c) (launchCredit (Pipeline.owing O₀) 0 (rcell e c)) = (tallyAt (rcell e c) () (nE e) : CellTallies nD τ sig Unit) := by
  unfold tallyAt; refine congrArg _ (Finsupp.ext fun u => ?_); cases u
  rw [Pipeline.launchCredit_owing, Finsupp.single_eq_same]
  have h (d : Dev nD) : O₀ d (rcell e c) () = if d = dv e c then nE e else 0 := by
    unfold O₀ owB
    simp only [Pi.add_apply, Finsupp.add_apply, tally_bar_rcv, ow_rcv allE (List.nodup_finRange 32), Nat.add_zero]
    simp only [allE, List.mem_finRange, true_and]
  rw [Finset.sum_congr rfl fun d _ => h d]
  simp only [Finset.sum_ite_eq', Finset.mem_univ, if_true]

/-- The semaphores credited at the launch. -/
def credSem : Unit ⊕ Fin 32 → SemLoc sig
  | .inl _ => .reg barS
  | .inr e => .dma (E e).rsem
theorem credSem_inj : Function.Injective credSem := by
  have h : ∀ k, credSem k = csem (Sum.elim (fun _ => .inl ()) rIx k) := by rintro (_ | e) <;> rfl
  intro a b hab
  rw [h, h] at hab
  have := csem_inj hab
  rcases a with a | a <;> rcases b with b | b <;> simp [rIx] at this ⊢ <;> assumption

theorem creds (c : Dev nD) :
    (Pipeline.launchCred O₀ c : sProp 𝕄) ⊢ iprop(cred (tallyAt (bcell c) () 4) ∗ bigSep Finset.univ fun e => cred (tallyAt (rcell e c) () (nE e))) := by
  have h : (bigSep (Finset.univ.map ⟨credSem, credSem_inj⟩) fun sm : SemLoc sig =>
        cred (tallyOn ((c : Thread nD τ), sm) (launchCredit (Pipeline.owing O₀) 0 ((c : Thread nD τ), sm))) : sProp 𝕄)
      = iprop(cred (tallyAt (bcell c) () 4) ∗ bigSep Finset.univ fun e => cred (tallyAt (rcell e c) () (nE e))) := by
    rw [bigSep_map, bigSep_univ_sum, sepU]
    exact congrArg₂ _ (congrArg cred (launch_bar c)) (bigSep_congr fun e _ => congrArg cred (launch_rcv e c))
  unfold Pipeline.launchCred
  exact (bigSep_subset (Finset.subset_univ (Finset.univ.map ⟨credSem, credSem_inj⟩))).trans (Entails.of_eq h)

end Cert.KernelIdeal.Steps

end
-- ==== Proof.Ideal.BodyEq.lean ====
/- The printed body is the sequence of named steps. -/
module

public import proofs.«01_k».proof.Proof.Ideal.Prog
public import proofs.«01_k».proof.Proof.Gen.KernelIdeal.Points
public import proofs.«01_k».proof.Proof.Gen.KernelIdeal.Launch
public import Idealize.ShloMosaic.Lib.Pipeline.Launch

@[expose] public section

noncomputable section

namespace Cert.KernelIdeal.Steps

open Cert.KernelIdeal Cert.KernelIdeal.Gen Idealize.ShloMosaic Idealize.SL.Sem

variable {F : FTy → Type} [FloatOps F] [Named F]

set_option maxRecDepth 100000 in
/-- The body the pipeline runs is the sequence of steps. -/
theorem body_eq : (bodyAt0 (F := F) t0_0) = bodyP (F := F) := by chain_rfl

end Cert.KernelIdeal.Steps

end
-- ==== Proof.Ideal.Launch.lean ====
/- The launch: every device's arrays and buffers into the body and back, and what a run of the whole program ends with. -/
module

public import proofs.«01_k».proof.Proof.Ideal.Ghost
public import proofs.«01_k».proof.Proof.Ideal.BodyEq
public import Idealize.ShloMosaic.Lib.Pipeline.CollectiveSegs

@[expose] public section

noncomputable section

namespace Cert.KernelIdeal.Steps

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The buffers outside the windows -/

/-- The list of the kernel's own buffers. -/
def restL : List (Ref sig .tc) := [cc0_scratch0, cc0_scratch1, cc0_scratch3] ++ ((List.finRange 16).map sbuf ++ (List.finRange 16).map rbuf)

/-- They are the three of the computation and the exchanges' halves. -/
theorem rest_eq (c : Dev nD) : (Pipeline.scopedRest (Ix := Unit) (Name := ℕ) (U := UU) (Lvl := ℕ) (Val := Elt F) (τ := τ) cfg0.spec c : sProp 𝕄)
    = iprop(((∃ f, own c cc0_scratch0 f) ∗ (∃ f, own c cc0_scratch1 f) ∗ (∃ f, own c cc0_scratch3 f))
      ∗ (bigSep Finset.univ fun e => leave e c) ∗ bigSep Finset.univ fun e => land e c) := by
  rw [Pipeline.scopedRest_eq_of_list cfg0.spec c restL (by decide +kernel) (by decide +kernel)]
  unfold restL
  rw [bigSepL_append, bigSepL_append, bigSepL_map, bigSepL_map,
    ← bigSep_univ_eq_bigSepL (List.finRange 16) (by decide) (List.nodup_finRange 16), ← bigSep_univ_eq_bigSepL (List.finRange 16) (by decide) (List.nodup_finRange 16),
    bigSep_pairs (fun e => leave e c), bigSep_pairs (fun e => land e c)]
  simp only [← leave_pair, ← land_pair]
  rfl

/-- The keys: the part device `c` copies and the others. -/
def kRest (c : Dev nD) : sProp 𝕄 := ((c : Thread nD τ).loc main_arg2) ↦[Finset.univ \ (kSrc c).view.set]{fullShare} m ((c : Thread nD τ).loc main_arg2)
/-- The values likewise. -/
def vRest (c : Dev nD) : sProp 𝕄 := ((c : Thread nD τ).loc main_arg3) ↦[Finset.univ \ (vSrc c).view.set]{fullShare} m ((c : Thread nD τ).loc main_arg3)

theorem k_split (c : Dev nD) : (((c : Thread nD τ).loc main_arg2) ↦{fullShare} m ((c : Thread nD τ).loc main_arg2) : sProp 𝕄) ⊢ iprop(ksPts m c ∗ kRest m c) :=
  (pointsTo_split_subset (Finset.subset_univ (kSrc c).view.set)).1
theorem v_split (c : Dev nD) : (((c : Thread nD τ).loc main_arg3) ↦{fullShare} m ((c : Thread nD τ).loc main_arg3) : sProp 𝕄) ⊢ iprop(vsPts m c ∗ vRest m c) :=
  (pointsTo_split_subset (Finset.subset_univ (vSrc c).view.set)).1

/-! ## The proof data -/

/-- What the launch gives device `c`'s body besides its buffers. -/
def start (c : Dev nD) : sProp 𝕄 :=
  iprop((∃ K, records m K ∗ linear c) ∗ (cred (tallyAt (bcell c) () 4) ∗ bigSep Finset.univ fun e => cred (tallyAt (rcell e c) () (nE e)))
    ∗ ksPts m c ∗ vsPts m c)
/-- The computation's three buffers. -/
def three (c : Dev nD) : sProp 𝕄 := iprop((∃ f, own c cc0_scratch0 f) ∗ (∃ f, own c cc0_scratch1 f) ∗ (∃ f, own c cc0_scratch3 f))
/-- Before the body. -/
def Φ₀ (c : Dev nD) : sProp 𝕄 :=
  iprop(start m c ∗ three c ∗ (bigSep Finset.univ fun e => leave e c) ∗ bigSep Finset.univ fun e => land e c)
/-- After it. -/
def Φ₁ (c : Dev nD) : sProp 𝕄 :=
  iprop((semVal (bcell c) 0 ∗ (semVal (kcell false c) 0 ∗ semVal (kcell true c) 0) ∗ bigSep Finset.univ (post c)) ∗ (ksPts m c ∗ vsPts m c) ∗ three c)

/-- What the body leaves in the result's buffer. -/
@[irreducible] def res (c : Dev nD) : Vec F S1024x1024 .f32 := fs m 8 c
theorem res_eq (c : Dev nD) : res m c = fs m 8 c := by unfold res; with_reducible rfl

/-- The windows' arrays and staged blocks, and what the body starts and ends with. -/
def dats (_ : Fin 1) (c : Dev nD) : Dat τ (Elt F) Unit ℕ UU ℕ cfg0 c where
  A w := m ((cfg0.win w).arr.view.loc (c : Thread nD τ))
  after w _ := match w with
    | ⟨0, _⟩ => xC m c
    | ⟨1, _⟩ => wqC m c
    | ⟨2, _⟩ => woC m c
    | ⟨3, _⟩ => res m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ own c b f) := by
  unfold owns; simp only [Memref.view_whole, View.read_whole, View.set_whole]

/-- A staging buffer at given contents. -/
abbrev stg (c : Dev nD) (b : Ref sig .tc) (X : b.ty.Contents (Elt F)) : sProp 𝕄 :=
  iprop(∃ f : Buf (Elt F) (((c : Dev nD) : Thread nD τ).loc b), ⌜f = X⌝ ∗ own c b f)

set_option maxRecDepth 40000 in
/-- What the pipeline hands the body. -/
def obIn (c : Dev nD) : sProp 𝕄 :=
  iprop((dats m 0 c).Φ t0_0.castSucc ∗ (dats m 0 c).owesAt () t0_0.castSucc
    ∗ (∃ d, stg c cc0_stg0_0 ((dats m 0 c).before (0 : Fin 4) t0_0 d))
    ∗ (∃ d, stg c cc0_stg1_0 ((dats m 0 c).before (1 : Fin 4) t0_0 d))
    ∗ (∃ d, stg c cc0_stg2_0 ((dats m 0 c).before (2 : Fin 4) t0_0 d))
    ∗ (∃ d, stg c cc0_stg3_0 ((dats m 0 c).before (3 : Fin 4) t0_0 d)))
/-- What it takes back. -/
def obOut (c : Dev nD) : sProp 𝕄 :=
  iprop((dats m 0 c).Φ t0_0.succ ∗ (dats m 0 c).owesAt () t0_0.succ
    ∗ stg c cc0_stg0_0 ((dats m 0 c).after (0 : Fin 4) t0_0) ∗ stg c cc0_stg1_0 ((dats m 0 c).after (1 : Fin 4) t0_0)
    ∗ stg c cc0_stg2_0 ((dats m 0 c).after (2 : Fin 4) t0_0) ∗ stg c cc0_stg3_0 ((dats m 0 c).after (3 : Fin 4) t0_0))

theorem before_0 (c : Dev nD) (d) : (dats m 0 c).before (0 : Fin 4) t0_0 d = xC m c := by
  unfold Dat.before; rw [if_pos (fetch0_0 _)]; rfl
theorem before_1 (c : Dev nD) (d) : (dats m 0 c).before (1 : Fin 4) t0_0 d = wqC m c := by
  unfold Dat.before; rw [if_pos (fetch0_1 _)]; rfl
theorem before_2 (c : Dev nD) (d) : (dats m 0 c).before (2 : Fin 4) t0_0 d = woC m c := by
  unfold Dat.before; rw [if_pos (fetch0_2 _)]; rfl

/-- Positions and credit of the exchanges, together. -/
theorem wait_all (c : Dev nD) :
    iprop((bigSep Finset.univ fun e => atPos ER (scell e c) 0 ∅ 0) ∗ (bigSep Finset.univ fun e => atPos ER (rcell e c) 0 ∅ 0)
        ∗ bigSep Finset.univ fun e => cred (tallyAt (rcell e c) () (nE e)))
      ⊢ (bigSep Finset.univ (wait c) : sProp 𝕄) := by
  unfold wait
  simp only [bigSep_sep']
  exact BI.Entails.refl _

theorem ob_in (c : Dev nD) : obIn m c ⊢ iprop(∃ K, bodyIn m K c) := by
  unfold obIn
  rw [show (dats m 0 c).Φ t0_0.castSucc = Φ₀ m c from rfl]
  unfold Φ₀ start linear payToks Dat.owesAt Pipeline.owesWithin
  simp only [before_0, before_1, before_2]
  iintro ⟨⟨⟨⟨%K, #Hrec, ⟨Hab, ⟨Hak, Hav⟩, Has, Har⟩, Hbt, ⟨Hdk, Hdv⟩, Htk⟩, ⟨Hcb, Hcr⟩, Hks, Hvs⟩, Hth, Hle, Hla⟩, ⟨%W, %hW, HO⟩,
    ⟨%d0, %f0, %h0, H0⟩, ⟨%d1, %f1, %h1, H1⟩, ⟨%d2, %f2, %h2, H2⟩, ⟨%d3, %f3, %h3, H3⟩⟩
  subst h0 h1 h2
  iexists K
  ihave Hw := (wait_all (F := F) c) $$ [Has Har Hcr]
  · isplitl [Has]; · iexact Has
    isplitl [Har] <;> iassumption
  unfold three
  icases Hth with ⟨Hs0, Hs1, Hs3⟩
  unfold bodyIn owX kvTok
  isplitr; · iexact Hrec
  isplitl [HO]; · iexists W; iexact HO
  isplitl [Hab]; · iexact Hab
  isplitl [Hcb]; · iexact Hcb
  isplitl [Hbt]; · iexact Hbt
  isplitl [Hak Hdk]
  · isplitl [Hak] <;> iassumption
  isplitl [Hav Hdv]
  · isplitl [Hav] <;> iassumption
  isplitl [Htk]; · iexact Htk
  isplitl [Hw]; · iexact Hw
  isplitl [Hle]; · iexact Hle
  isplitl [Hla]; · iexact Hla
  isplitl [Hks]; · iexact Hks
  isplitl [Hvs]; · iexact Hvs
  isplitl [Hs0]; · iexact Hs0
  isplitl [Hs1]; · iexact Hs1
  isplitl [Hs3]; · iexact Hs3
  isplitl [H0]; · iexact H0
  isplitl [H1]; · iexact H1
  isplitl [H2]; · iexact H2
  iexists f3; unfold oPts; iexact H3

theorem ob_out (c : Dev nD) : bodyOut m c ⊢ obOut m c := by
  unfold bodyOut obOut
  rw [show (dats m 0 c).Φ t0_0.succ = Φ₁ m c from rfl, show (dats m 0 c).after (0 : Fin 4) t0_0 = xC m c from rfl,
    show (dats m 0 c).after (1 : Fin 4) t0_0 = wqC m c from rfl, show (dats m 0 c).after (2 : Fin 4) t0_0 = woC m c from rfl,
    show (dats m 0 c).after (3 : Fin 4) t0_0 = res m c from rfl, res_eq]
  unfold Φ₁ three Dat.owesAt Pipeline.owesWithin owX oPts
  rw [show (dats m 0 c).owed t0_0.succ = 0 from rfl]
  iintro ⟨⟨%W, HO⟩, Hb, Hk, Hv, Hp, Hks, Hvs, Hs0, Hs1, Hs3, H0, H1, H2, H3⟩
  isplitl [Hb Hk Hv Hp Hks Hvs Hs0 Hs1 Hs3]
  · isplitl [Hb Hk Hv Hp]
    · isplitl [Hb]; · iexact Hb
      isplitl [Hk Hv]
      · isplitl [Hk] <;> iassumption
      iexact Hp
    isplitl [Hks Hvs]
    · isplitl [Hks] <;> iassumption
    isplitl [Hs0]; · iexact Hs0
    isplitl [Hs1] <;> iassumption
  isplitl [HO]
  · iexists W
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  iexists _; isplitr; · (ipureintro; rfl)
  iexact H3

theorem ob_body (c : Dev nD) : obIn m c ⊢ WP c (bodyAt0 (F := F) t0_0) (fun _ => obOut m c) := by
  rw [body_eq]
  refine (ob_in m c).trans ?_
  iintro ⟨%K, H⟩
  iapply (wp_body m K c fun _ => obOut m c)
  isplitl [H]; · iexact H
  iintro H
  iapply (ob_out m c) $$ H

set_option maxRecDepth 40000 in
/-- The body, as the pipeline runs it. -/
theorem body_obligation (c : Dev nD) : BodyObligation (dats (F := F) m 0 c) (defs₀ (F := F)) 𝒱₀ () Set.univ := fun t => by
  rw [fin_N0 t]
  rw [bigSep_W0, bigSep_W0]
  simp only [owns_whole]
  show obIn m c ⊢ WP c (defs₀ (F := F) .tc 0 (t0_0, cfg0.slots t0_0)) (fun _ => obOut m c)
  rw [show defs₀ (F := F) .tc 0 (t0_0, cfg0.slots t0_0) = bodyAt0 (F := F) t0_0 from rfl]
  exact ob_body m c

/-! ## The launch's side conditions -/

theorem ownSemFacts : Pipeline.OwnSemFacts cfg0.spec osem := by decide +kernel

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ kRest m c ∗ vRest m c) := by
  rw [Pipeline.unscopedRestP_none, show (Pipeline.unscopedRest cfg0.spec c (fun b => m ((c : Thread nD τ).loc b)) : sProp 𝕄) = _ from unscopedRest0_eq c _]
  unfold G' cellRecs
  iintro ⟨⟨Hk, Hv⟩, #Hlev, Hcr, -, ⟨%K, ⟨#HI, #HR⟩, Hl⟩⟩
  ihave Hc := (creds (F := F) c) $$ Hcr
  ihave Hk := (k_split m c) $$ Hk
  ihave Hv := (v_split m c) $$ Hv
  icases Hk with ⟨Hk, Hk'⟩
  icases Hv with ⟨Hv, Hv'⟩
  imodintro
  unfold start records
  isplitr [Hk' Hv']
  · isplitl [Hl]
    · iexists K
      isplitr
      · isplitr; · iexact HI
        isplitr; · iexact HR
        iexact Hlev
      iexact Hl
    isplitl [Hc]; · iexact Hc
    isplitl [Hk] <;> iassumption
  isplitl [Hk'] <;> iassumption

theorem phi_in (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, rest_eq]
  unfold Φ₀ three
  iintro ⟨Hs, -, Hr⟩
  isplitl [Hs]; · iexact Hs
  iexact Hr

/-- What the exchanges leave, sorted. -/
theorem post_all (c : Dev nD) : (bigSep Finset.univ (post c) : sProp 𝕄)
    ⊢ iprop((bigSep Finset.univ fun e => leave e c) ∗ (bigSep Finset.univ fun e => land e c)
        ∗ (bigSep Finset.univ fun e => semVal (scell e c) 0) ∗ bigSep Finset.univ fun e => semVal (rcell e c) 0) := by
  unfold post leave land
  simp only [bigSep_sep']
  exact BI.Entails.refl _

/-- What the run leaves a device for the end. -/
def ends (c : Dev nD) : sProp 𝕄 := iprop(unscopedSems0 c ∗ ksPts m c ∗ vsPts m c)

theorem phi_out (c : Dev nD) :
    (dats m 0 c).Φ (Fin.last cfg0.N) ⊢ iprop(ends m c ∗ Pipeline.ownSems0 osem c ∗ Pipeline.scopedRest cfg0.spec c) := by
  rw [show (dats m 0 c).Φ (Fin.last cfg0.N) = Φ₁ m c from rfl, rest_eq]
  unfold ends Pipeline.ownSems0
  rw [unscoped_eq, sepJ]
  unfold Φ₁ three
  iintro ⟨⟨Hb, Hkv, Hp⟩, Hs, Hth⟩
  ihave Hp := (post_all (F := F) c) $$ Hp
  icases Hp with ⟨H1, H2, H3, H4⟩
  isplitl [Hb Hs]
  · isplitl [Hb] <;> iassumption
  isplitl [Hkv H3 H4]
  · isplitl [Hkv]; · iexact Hkv
    isplitl [H3]; · iexact H3
    iexact H4
  isplitl [Hth]; · iexact Hth
  isplitl [H1] <;> iassumption

theorem kd_stage : ∀ (w : Fin cfg0.W) (s : Fin (cfg0.win w).nbuf), ((cfg0.win w).sem s).val < 4 := by decide +kernel

theorem lv_stage (c : Dev nD) (q : DmaSem sig) (h : q.val < 4) : lv ((c : Thread nD τ), .dma q) () = 0 := by
  unfold lv kd; simp only [h, if_true]

theorem waits (c : Dev nD) : (levAts L lv : sProp 𝕄) ⊢ Pipeline.cellsWaits cfgs (dats m) () 0 c :=
  Pipeline.cellsWaits_intro cfgs (dats m) () 0 c fun w s t => by
    have h := lv_stage c ((cfg0.win w).sem s) (kd_stage w s)
    rcases t with ⟨_ | _, ht⟩
    · exact mayWait_zero c _ h 0
    · exact mayWait_ow c _ [] 0 h.le (fun e he => absurd he List.not_mem_nil)

theorem share_full (c : Dev nD) (w : Fin cfg0.W) : (dats m 0 c).share w = fullShare := by unfold Dat.share; split <;> rfl

/-- What the end of a run says of a device's semaphores and of the arrays the windows do not stage. -/
def endFacts (c : Dev nD) (s : MemSt nD τ sig (Elt F)) : Prop :=
  (∀ sm : SemLoc sig, sm.isScoped .tc = false → s.sem ((c.tc : Thread nD τ), sm) = 0)
    ∧ s.mem ((c : Thread nD τ).loc main_arg2) = m ((c : Thread nD τ).loc main_arg2) ∧ s.mem ((c : Thread nD τ).loc main_arg3) = m ((c : Thread nD τ).loc main_arg3)

theorem read_part (s' : Phys nD τ sig (Elt F)) (ℓ : Loc nD τ sig) (I : Finset (Idx ℓ)) (f : Buf (Elt F) ℓ) :
    iprop((ℓ ↦[I]{fullShare} f) ∗ (ℓ ↦[Finset.univ \ I]{fullShare} f) ∗ SI s') ⊢ (⌜s'.mem.mem ℓ = f⌝ : sProp 𝕄) := by
  iintro ⟨H1, H2, HSI⟩
  ihave %h1 := (SI_pointsTo_agree (st := s')) $$ [H1 HSI]
  · isplitl [HSI] <;> iassumption
  ihave %h2 := (SI_pointsTo_agree (st := s')) $$ [H2 HSI]
  · isplitl [HSI] <;> iassumption
  ipureintro
  funext i
  by_cases hi : i ∈ I
  · exact h1 i hi
  · exact h2 i (Finset.mem_sdiff.mpr ⟨Finset.mem_univ i, hi⟩)

theorem end_read (c : Dev nD) (s' : Phys nD τ sig (Elt F)) :
    iprop(ends m c ∗ (kRest m c ∗ vRest m c) ∗ SI s') ⊢ |={Set.univ}=> iprop(⌜endFacts m c s'.mem⌝ ∗ SI s') := by
  unfold ends kRest vRest ksPts vsPts
  iintro ⟨⟨Hu, Hk, Hv⟩, ⟨Hk', Hv'⟩, HSI⟩
  ihave %hk := (read_part s' _ _ _) $$ [Hk Hk' HSI]
  · isplitl [Hk]; · iexact Hk
    isplitl [Hk'] <;> iassumption
  ihave %hv := (read_part s' _ _ _) $$ [Hv Hv' HSI]
  · isplitl [Hv]; · iexact Hv
    isplitl [Hv'] <;> iassumption
  imod (Pipeline.unscopedSems0_read (X := unscopedSems0 c) (c := c) fupd_intro s') $$ [Hu HSI] with ⟨%hs, HSI⟩
  · isplitl [Hu] <;> iassumption
  imodintro
  isplitr; · ipureintro; exact ⟨hs, hk, hv⟩
  iexact HSI

/-! ## The run -/

/-- What a run ends with: every staged array at what the windows leave in it, the others unchanged. -/
def ran (r : PUnit × MemSt nD τ sig (Elt F)) : Prop :=
  ∀ c : Dev nD, (∀ w : Fin cfg0.W, r.2.mem ((cfg0.win w).arr.view.loc (c : Thread nD τ)) = (dats m 0 c).arrAt w cfg0.N) ∧ endFacts m c r.2

set_option maxRecDepth 40000 in
/-- Every run of the program from any memory ends, with every device's arrays as computed and every semaphore at zero. -/
theorem run_main : θ_run defs (onTc (τ := τ) (main (F := F))) ⟨m, fun _ => 0, ρ⟩ (fun r => ran m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_full m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := ends m) (Z := fun c => iprop(kRest m c ∗ vRest m c))
    (hX := start_intro m ρ) (hin := phi_in m) (hout := phi_out m)
    (QY := endFacts m)
    (hY := end_read m)
    (hQ := fun _ h hs => ⟨fun c => ⟨fun w => (h c).1 w, (h c).2.2⟩, sem_eq_zero hs fun c => (h c).2.2.1⟩)

end Cert.KernelIdeal.Steps

end
-- ==== Proof.Ideal.Run.lean ====
/- What a run of the whole program ends with, array by array. -/
module

public import proofs.«01_k».proof.Proof.Ideal.Launch
public import Idealize.ShloMosaic.Lib.Pipeline.Value

@[expose] public section

noncomputable section

namespace Cert.KernelIdeal.Steps

open Cert.KernelIdeal Cert.KernelIdeal.Gen
open Idealize.ShloMosaic Idealize.ShloMosaic.TcCoe
open Idealize.SL Idealize.SL.RA Idealize.SL.BI Idealize.SL.Sem
open Idealize.ShloMosaic.Pipeline (Dat Cfg Window BodyObligation cellOf)

variable {F : FTy → Type} [FloatOps F] [Named F]
variable (m : (ℓ : Loc nD τ sig) → Buf (Elt F) ℓ) (ρ : Dev nD → PrngReg)

/-- The arguments are as they were. -/
def argsKept (c : Dev nD) (s : MemSt nD τ sig (Elt F)) : Prop :=
  s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4)

theorem args_kept (r : PUnit × MemSt nD τ sig (Elt F)) (h : ran m r) (c : Dev nD) : argsKept m c r.2 :=
  ⟨((h c).1 0).trans ((dats m 0 c).arrAt_in 0 rfl _), ((h c).1 1).trans ((dats m 0 c).arrAt_in 1 rfl _), (h c).2.2.1, (h c).2.2.2,
    ((h c).1 2).trans ((dats m 0 c).arrAt_in 2 rfl _)⟩

/-- Every run ends with the arguments as they were and every semaphore at zero. -/
theorem run_args : θ_run defs (onTc (τ := τ) (main (F := F))) ⟨m, fun _ => 0, ρ⟩ (fun r => (∀ c, argsKept m c r.2) ∧ r.2.sem = fun _ => 0) :=
  (θ_run defs _ _).mono (fun r h => ⟨fun c => args_kept m r h.1 c, h.2⟩) (run_main m ρ)

/-- The result's window is the whole array: its indices are the array's own. -/
theorem emb3 (t : Fin cfg0.N) (i : (⟨2, ![1024, 1024]⟩ : Shape).Idx) : ((cfg0.win 3).blk t).view.emb i = i := by
  obtain rfl := fin_N0 t
  funext a
  fin_cases a <;> (refine Fin.ext ?_; show 0 * 1024 + 1 * (i _ : Nat) = _; omega)

/-- The result's array ends with what the body leaves in its buffer. -/
theorem arr_out (c : Dev nD) : (dats m 0 c).arrAt (3 : Fin 4) cfg0.N = res m c := by
  refine (dats m 0 c).arrAt_eq_of_cover 3 (res m c) (fun t _ => ?_) (fun i => ⟨t0_0, flush0_3 _, ?_⟩)
  · obtain rfl := fin_N0 t
    funext i
    have h2 : ((cfg0.win 3).blk t0_0).view.read (Elt F) (res m c) i = res m c (((cfg0.win 3).blk t0_0).view.emb i) := rfl
    rw [h2, emb3]
    rfl
  · have h := View.emb_mem_set ((cfg0.win 3).blk t0_0).view i
    rwa [emb3] at h

/-- Each device's result, where the run leaves it. -/
def resOf (c : Dev nD) (s : MemSt nD τ sig (Elt F)) : Vec F S1024x1024 .f32 := s.mem ((c.tc : Thread nD τ).loc main_v1)

/-- Every run ends with each device's result as the body leaves it, and the arguments as they were. -/
theorem run_out : θ_run defs (onTc (τ := τ) (main (F := F))) ⟨m, fun _ => 0, ρ⟩
    (fun r => ∀ c, resOf c r.2 = res m c ∧ argsKept m c r.2) :=
  (θ_run defs _ _).mono (fun r h c => ⟨((h.1 c).1 3).trans (arr_out m c), args_kept m r h.1 c⟩) (run_main m ρ)

end Cert.KernelIdeal.Steps

end
-- ==== Proof.Ideal.Rows.lean ====
/- Reads and writes of rectangles of a whole buffer, element by element. -/
module

public import proofs.«01_k».proof.Proof.Ideal.Protocol

@[expose] public section

noncomputable section

namespace Cert.KernelIdeal.Steps

open Cert.KernelIdeal Cert.KernelIdeal.Gen
open Idealize.ShloMosaic Idealize.ShloMosaic.TcCoe

variable {F : FTy → Type}

section Whole
variable (b : Ref sig .tc) (off size : Fin b.ty.shape.rank → ℕ) (inb : ∀ a, off a + size a ≤ b.ty.shape.size a)

/-- A read of a rectangle of a whole buffer, at an index, is the buffer's element that far from the rectangle's corner. -/
theorem read_at (g : b.ty.Contents (Elt F)) (x : (⟨b.ty.shape.rank, size⟩ : Shape).Idx) (i : b.ty.shape.Idx)
    (hi : ∀ a, (i a : ℕ) = off a + x a) :
    (Memref.whole b).view.readAt (Elt F) (Rect.unit (s := b.ty.shape) off size inb).toLoadRect g x = g i := by
  show g _ = g i
  refine congrArg g (funext fun a => Fin.ext ?_)
  show off a + 1 * (x a : ℕ) = i a
  rw [hi a, one_mul]

/-- A write of a rectangle leaves, at an index it holds, the value written there. -/
theorem write_hit (g : b.ty.Contents (Elt F)) (w : (⟨b.ty.shape.rank, size⟩ : Shape).Idx → Elt F b.ty.elt)
    (x : (⟨b.ty.shape.rank, size⟩ : Shape).Idx) (i : b.ty.shape.Idx) (hi : ∀ a, (i a : ℕ) = off a + x a) :
    ((Memref.whole b).access (Rect.unit (s := b.ty.shape) off size inb)).write (Elt F) g w Finset.univ i = w x := by
  have e : ((Memref.whole b).access (Rect.unit (s := b.ty.shape) off size inb)).emb x = i := by
    refine funext fun a => Fin.ext ?_
    show off a + 1 * (x a : ℕ) = i a
    rw [hi a, one_mul]
  have h := View.write_emb_of_mem (v := (Memref.whole b).access (Rect.unit (s := b.ty.shape) off size inb)) (Val := Elt F) g w (Finset.mem_univ x)
  rw [e] at h
  exact h

/-- It leaves an index outside as it was. -/
theorem write_miss (g : b.ty.Contents (Elt F)) (w : (⟨b.ty.shape.rank, size⟩ : Shape).Idx → Elt F b.ty.elt)
    (i : b.ty.shape.Idx) (a : Fin b.ty.shape.rank) (hi : ¬ (off a ≤ (i a : ℕ) ∧ (i a : ℕ) < off a + size a)) :
    ((Memref.whole b).access (Rect.unit (s := b.ty.shape) off size inb)).write (Elt F) g w Finset.univ i = g i := by
  refine View.write_of_not_mem (v := (Memref.whole b).access (Rect.unit (s := b.ty.shape) off size inb)) (Val := Elt F) g w Finset.univ fun h => hi ?_
  have h' : i ∈ (Rect.unit (s := b.ty.shape) off size inb).set := by
    rw [View.setOn_univ] at h
    exact (View.set_slice_whole b (Rect.unit (s := b.ty.shape) off size inb)) ▸ h
  rw [Rect.mem_set_unit] at h'
  exact h' a

end Whole

end Cert.KernelIdeal.Steps

end
-- ==== Proof.Ideal.Sum.lean ====
/- The exchanges leave, on every device, the sum of the sixteen devices' shares. Row by row: a stage either leaves a row of
   the result, adds the neighbour's, or takes the neighbour's. -/
module

public import proofs.«01_k».proof.Proof.Ideal.Rows
public import Idealize.ShloMosaic.PureOps.Ideal
public import Idealize.ShloMosaic.Lib.Pipeline.Value

@[expose] public section

noncomputable section

namespace Cert.KernelIdeal.Steps

open Cert.KernelIdeal Cert.KernelIdeal.Gen
open Idealize.ShloMosaic Idealize.ShloMosaic.TcCoe

/-! ## Where an exchange writes, in numbers -/

/-- A device's coordinates: two along its ring of four, two across the rings. -/
def hb (c : ℕ) (k : ℕ) : ℕ :=
  match k with
  | 0 => (c % 2 + c / 2) % 2
  | 1 => c / 2 % 2
  | 2 => c / 4 % 2
  | _ => c / 8 % 2
/-- The dimension of a half's `k`th stage. -/
def ord (bf k : ℕ) : ℕ :=
  match bf, k with
  | 0, k => k
  | _, 0 => 1
  | _, 1 => 2
  | _, 2 => 0
  | _, _ => 3
/-- The groups of sixteen rows in the `k`th stage's block. -/
def wid (k : ℕ) : ℕ :=
  match k with
  | 0 => 16
  | 1 => 8
  | 2 => 4
  | _ => 2
/-- The first group of the block a device is left with before the `k`th stage. -/
def base (bf : ℕ) (c : ℕ) (k : ℕ) : ℕ :=
  match k with
  | 0 => 32 * bf
  | 1 => 32 * bf + hb c (ord bf 0) * 16
  | 2 => 32 * bf + hb c (ord bf 0) * 16 + hb c (ord bf 1) * 8
  | _ => 32 * bf + hb c (ord bf 0) * 16 + hb c (ord bf 1) * 8 + hb c (ord bf 2) * 4
/-- The first group of sixteen rows that exchange `e` writes on device `c`. -/
def kg (e : ℕ) (c : ℕ) : ℕ :=
  bif Nat.blt e 16 then base (e % 2) c (e / 4) + hb c (ord (e % 2) (e / 4)) * wid (e / 4) + e / 2 % 2 * (wid (e / 4) / 2)
  else base (e % 2) c (7 - e / 4) + (1 - hb c (ord (e % 2) (7 - e / 4))) * wid (7 - e / 4) + e / 2 % 2 * (wid (7 - e / 4) / 2)
/-- How many groups it writes. -/
def ng (e : ℕ) : ℕ := bif Nat.blt e 16 then wid (e / 4) / 2 else wid (7 - e / 4) / 2
/-- The neighbour. -/
def nb (e : Fin 32) (c : Dev nD) : Dev nD :=
  Fin.ofNat 16 (c.val ^^^ ![1, 3, 4, 8] (dim e))
/-- Whether it writes group `g`. -/
def inG (e c g : ℕ) : Bool := Nat.ble (kg e c) g && Nat.blt g (kg e c + ng e)

theorem nb_eq : ∀ (e : Fin 32) (c : Dev nD), dv e c = nb e c := by decide +kernel
theorem soff_dv : ∀ (e : Fin 32) (c : Dev nD) (a : Fin 2), (E e).soff (dv e c) a = (E e).koff c a := by decide +kernel
theorem koff_0 : ∀ (e : Fin 32) (c : Dev nD), (E e).koff c 0 = 16 * kg e c := by decide +kernel
theorem koff_1 : ∀ (e : Fin 32) (c : Dev nD), (E e).koff c 1 = 0 := by decide +kernel
theorem sz_0 : ∀ e : Fin 32, (E e).sz 0 = 16 * ng e := by decide +kernel
theorem sz_1 : ∀ e : Fin 32, (E e).sz 1 = 1024 := by decide +kernel
theorem ag_eq : ∀ e : Fin 32, (E e).ag = Nat.ble 16 e := by decide +kernel

/-- A row is one an exchange writes when its group is. -/
theorem inG_iff (e : Fin 32) (c : Dev nD) (i : ℕ) :
    inG e c (i / 16) = true ↔ (E e).koff c 0 ≤ i ∧ i < (E e).koff c 0 + (E e).sz 0 := by
  rw [koff_0, sz_0, inG, Bool.and_eq_true, Nat.ble_eq, Nat.blt_eq]
  omega

/-! ## A stage, for one row -/

/-- What a stage makes of a row's values, `add` being the addition. -/
def nx {A : Type} (add : A → A → A) (s : Fin 8) (g : ℕ) (f : Dev nD → A) (c : Dev nD) : A :=
  (stageL s).foldl (fun v (e : Fin 32) => bif inG e c g then (bif Nat.ble 16 e then f (nb e c) else add v (f (nb e c))) else v) (f c)

/-- It commutes with what preserves the addition. -/
theorem nx_map {A B : Type} (addA : A → A → A) (addB : B → B → B) (φ : A → B) (h : ∀ x y, φ (addA x y) = addB (φ x) (φ y))
    (s : Fin 8) (g : ℕ) (f : Dev nD → A) (c : Dev nD) : φ (nx addA s g f c) = nx addB s g (fun d => φ (f d)) c := by
  have key : ∀ (l : List (Fin 32)) (v : A),
      φ (l.foldl (fun v (e : Fin 32) => bif inG e c g then (bif Nat.ble 16 e then f (nb e c) else addA v (f (nb e c))) else v) v)
        = l.foldl (fun v (e : Fin 32) => bif inG e c g then (bif Nat.ble 16 e then φ (f (nb e c)) else addB v (φ (f (nb e c)))) else v) (φ v) := by
    intro l
    induction l with
    | nil => exact fun v => rfl
    | cons e l ih =>
      intro v
      rw [List.foldl_cons, List.foldl_cons, ih]
      congr 1
      cases inG e c g <;> cases Nat.ble 16 e <;> simp [h]
  exact key (stageL s) (f c)

/-- Stages one after another. -/
def nxs {A : Type} (add : A → A → A) (g : ℕ) (f : Dev nD → A) : List (Fin 8) → Dev nD → A
  | [] => f
  | s :: l => nx add s g (nxs add g f l)

/-- They too commute with what preserves the addition. -/
theorem nxs_map {A B : Type} (addA : A → A → A) (addB : B → B → B) (φ : A → B) (h : ∀ x y, φ (addA x y) = addB (φ x) (φ y))
    (g : ℕ) (f : Dev nD → A) : ∀ (l : List (Fin 8)) (c : Dev nD), φ (nxs addA g f l c) = nxs addB g (fun d => φ (f d)) l c
  | [], c => rfl
  | s :: l, c => by
    show φ (nx addA s g _ c) = nx addB s g _ c
    rw [nx_map addA addB φ h]
    congr 1
    funext d
    exact nxs_map addA addB φ h g f l d

/-- The device that a group of rows is left with after the reductions. -/
def owner (g : ℕ) : Dev nD :=
  bif Nat.blt g 32 then Fin.ofNat 16 (g / 2 % 2 * 8 + g / 4 % 2 * 4 + g / 8 % 2 * 2 + (g / 16 % 2 + g / 8 % 2) % 2)
  else Fin.ofNat 16 (g / 2 % 2 * 8 + g / 8 % 2 * 4 + g / 16 % 2 * 2 + (g / 4 % 2 + g / 16 % 2) % 2)

set_option maxRecDepth 100000 in
/-- The reductions gather every device's share of a group of rows at its owner. -/
theorem reduced : ∀ g : Fin 64, (nxs List.append g.val (fun d => [d]) [3, 2, 1, 0] (owner g)).isPerm (List.finRange 16) = true := by
  decide +kernel

set_option maxRecDepth 100000 in
/-- The gathering stages bring each device the owner's rows. -/
theorem gathered : ∀ (g : Fin 64) (c : Dev nD), nxs List.append g.val (fun d => [d]) [7, 6, 5, 4] c = [owner g] := by
  decide +kernel

/-- The sum of a list of devices' values. -/
def tot (G : Dev nD → EReal) (l : List (Dev nD)) : EReal := (l.map G).sum
theorem tot_append (G : Dev nD → EReal) (x y : List (Dev nD)) : tot G (List.append x y) = tot G x + tot G y := by
  show ((x ++ y).map G).sum = _
  rw [List.map_append, List.sum_append]; rfl
theorem tot_one (G : Dev nD → EReal) : (fun d => tot G [d]) = G := by
  funext d
  simp [tot]

/-- So the reductions leave, at the owner of a row's group, the sum of the devices' values. -/
theorem reduced_val (g : ℕ) (hg : g < 64) (G : Dev nD → EReal) : nxs (fun a b : EReal => a + b) g G [3, 2, 1, 0] (owner g) = ∑ d, G d := by
  have hm := nxs_map List.append (fun a b : EReal => a + b) (tot G) (tot_append G) g (fun d => [d]) [3, 2, 1, 0] (owner g)
  rw [tot_one] at hm
  rw [← hm]
  refine ((List.isPerm_iff.mp (reduced ⟨g, hg⟩)).map G).sum_eq.trans ?_
  rw [← List.ofFn_id, List.map_ofFn, List.sum_ofFn]
  rfl

/-- And the gathering stages leave the owner's value everywhere. -/
theorem gathered_val (g : ℕ) (hg : g < 64) (G : Dev nD → EReal) (c : Dev nD) :
    nxs (fun a b : EReal => a + b) g G [7, 6, 5, 4] c = G (owner g) := by
  have hm := nxs_map List.append (fun a b : EReal => a + b) (tot G) (tot_append G) g (fun d => [d]) [7, 6, 5, 4] c
  rw [tot_one, gathered ⟨g, hg⟩ c] at hm
  rw [← hm]
  simp [tot]

/-! ## In the program -/

/-- The contents of the result. -/
abbrev VO : Type := Vec Ideal S1024x1024 .f32

/-- An exchange, at an element of the result. -/
theorem stp_apply (e : Fin 32) (c : Dev nD) (f g : VO) (i : S1024x1024.Idx) :
    (stp (F := Ideal) e c (sent e (dv e c) f) g i : EReal)
      = bif inG e c ((i 0 : ℕ) / 16) then (bif Nat.ble 16 e then (f i : EReal) else (g i : EReal) + (f i : EReal)) else g i := by
  have hr := inG_iff e c (i 0 : ℕ)
  cases hb : inG e c ((i 0 : ℕ) / 16) with
  | false =>
    rw [hb] at hr
    exact write_miss cc0_stg3_0 _ _ ((E e).kinb c) g _ i (0 : Fin 2) fun h => Bool.false_ne_true (hr.mpr h)
  | true =>
    have h := hr.mp hb
    have i1 : (i 1 : ℕ) < 1024 := (i 1).isLt
    let x : (E e).sh.Idx := fun a => ⟨(i a : ℕ) - (E e).koff c a, by
      match a with
      | ⟨0, _⟩ => show (i 0 : ℕ) - (E e).koff c 0 < (E e).sz 0; omega
      | ⟨1, _⟩ => show (i 1 : ℕ) - (E e).koff c 1 < (E e).sz 1; rw [koff_1, sz_1]; omega⟩
    have hx : ∀ a : Fin 2, (i a : ℕ) = (E e).koff c a + (x a : ℕ) := by
      intro a
      match a with
      | ⟨0, _⟩ => show (i 0 : ℕ) = (E e).koff c 0 + ((i 0 : ℕ) - (E e).koff c 0); omega
      | ⟨1, _⟩ => show (i 1 : ℕ) = (E e).koff c 1 + ((i 1 : ℕ) - (E e).koff c 1); rw [koff_1]; omega
    have hs : ∀ a : Fin 2, (i a : ℕ) = (E e).soff (dv e c) a + (x a : ℕ) := fun a => by rw [soff_dv]; exact hx a
    refine (write_hit cc0_stg3_0 _ _ ((E e).kinb c) g _ x i hx).trans ?_
    have hsent : (sent (F := Ideal) e (dv e c) f x : EReal) = f i := by
      unfold sent Exch.payS
      rw [shapeCast_self, shapeCast_self]
      exact read_at cc0_stg3_0 _ _ ((E e).sinb (dv e c)) f x i hs
    rw [ag_eq]
    cases Nat.ble 16 e with
    | true => exact hsent
    | false =>
      show (Exch.payAdd (F := Ideal) (E e) _ _ x : EReal) = (g i : EReal) + (f i : EReal)
      unfold Exch.payAdd
      rw [shapeCast_self]
      refine congrArg₂ (fun a b : EReal => a + b) ?_ hsent
      exact read_at cc0_stg3_0 _ _ ((E e).kinb c) g x i hx

/-- A stage, at an element. -/
theorem next_apply (s : Fin 8) (f : Dev nD → VO) (c : Dev nD) (i : S1024x1024.Idx) :
    (next (F := Ideal) s.val f c i : EReal) = nx (fun a b : EReal => a + b) s ((i 0 : ℕ) / 16) (fun d => f d i) c := by
  unfold next nx
  rw [show Fin.ofNat 8 s.val = s from Fin.ext (Nat.mod_eq_of_lt s.isLt)]
  have key : ∀ (l : List (Fin 32)) (v : VO),
      (l.foldl (fun g e => stp (F := Ideal) e c (sent e (dv e c) (f (dv e c))) g) v i : EReal)
        = l.foldl (fun (v : EReal) (e : Fin 32) => bif inG e c ((i 0 : ℕ) / 16) then
            (bif Nat.ble 16 e then (f (nb e c) i : EReal) else v + (f (nb e c) i : EReal)) else v) (v i) := by
    intro l
    induction l with
    | nil => exact fun v => rfl
    | cons e l ih =>
      intro v
      rw [List.foldl_cons, List.foldl_cons, ih, stp_apply, nb_eq]
  exact key (stageL s) (f c)

variable (m : (ℓ : Loc nD τ sig) → Buf (Elt Ideal) ℓ)

/-- No stage leaves a row's values. -/
theorem nxs_nil {A : Type} (add : A → A → A) (g : ℕ) (f : Dev nD → A) (c : Dev nD) : nxs add g f [] c = f c := by rw [nxs]
/-- Before the first stage each device has its share. -/
theorem fs_zero (c : Dev nD) : fs m 0 c = share0 m c := by rw [fs]

/-- From one stage's contents to the next's, at an element. -/
theorem fs_step (i : S1024x1024.Idx) (f : Dev nD → EReal) (l : List (Fin 8)) (s : Fin 8) (n k : ℕ) (hn : s.val = n) (hk : k = n + 1)
    (h : ∀ d, (fs m n d i : EReal) = nxs (fun a b : EReal => a + b) ((i 0 : ℕ) / 16) f l d) (c : Dev nD) :
    (fs m k c i : EReal) = nxs (fun a b : EReal => a + b) ((i 0 : ℕ) / 16) f (s :: l) c := by
  subst hn hk
  exact (next_apply s (fs m s.val) c i).trans (congrArg (fun f => nx (fun a b : EReal => a + b) s ((i 0 : ℕ) / 16) f c) (funext h))

/-- A row after the reductions, at its owner: the sum over the devices. -/
theorem fs_reduced (i : S1024x1024.Idx) :
    (fs m 4 (owner ((i 0 : ℕ) / 16)) i : EReal) = ∑ d : Dev nD, (share0 m d i : EReal) := by
  have h0 : (i 0 : ℕ) < 1024 := (i 0).isLt
  have h1 := fs_step m i (fun d => share0 m d i) [] 0 0 1 rfl rfl fun d => by rw [nxs_nil, fs_zero]
  have h2 := fs_step m i (fun d => share0 m d i) [0] 1 1 2 rfl rfl h1
  have h3 := fs_step m i (fun d => share0 m d i) [1, 0] 2 2 3 rfl rfl h2
  have h4 := fs_step m i (fun d => share0 m d i) [2, 1, 0] 3 3 4 rfl rfl h3
  exact (h4 (owner ((i 0 : ℕ) / 16))).trans (reduced_val ((i 0 : ℕ) / 16) (by omega) fun d => share0 m d i)

/-- The result on every device: the sum of the devices' shares. -/
theorem fs_sum (c : Dev nD) (i : S1024x1024.Idx) : (fs m 8 c i : EReal) = ∑ d : Dev nD, (share0 m d i : EReal) := by
  have h0 : (i 0 : ℕ) < 1024 := (i 0).isLt
  have h1 := fs_step m i (fun d => fs m 4 d i) [] 4 4 5 rfl rfl fun d => by rw [nxs_nil]
  have h2 := fs_step m i (fun d => fs m 4 d i) [4] 5 5 6 rfl rfl h1
  have h3 := fs_step m i (fun d => fs m 4 d i) [5, 4] 6 6 7 rfl rfl h2
  have h4 := fs_step m i (fun d => fs m 4 d i) [6, 5, 4] 7 7 8 rfl rfl h3
  exact ((h4 c).trans (gathered_val ((i 0 : ℕ) / 16) (by omega) (fun d => fs m 4 d i) c)).trans (fs_reduced m i)

end Cert.KernelIdeal.Steps

end
-- ==== Proof.Ideal.Attention.lean ====
module

public import Idealize.ShloMosaic.Lib.Pointwise
public import Idealize.ShloMosaic.PureOps.Ideal.Laws

/-!
# Attention over the extended reals

One row of attention, written two ways.  The first adds a bias of nought or minus infinity to each
score, takes exponentials, and divides the weighted sum once.  The second replaces a hidden score by
minus infinity, subtracts the row's maximum, and divides each weight.  They agree where the scores are
real.
-/

@[expose] public section

noncomputable section

namespace Cert.Attention

open Idealize.ShloMosaic

/-- Row `i` may look at column `j`: within 128 of it, or one of them among the first 32. -/
abbrev sees (i j : ℕ) : Prop := (i ≤ j + 128 ∧ j ≤ i + 128) ∨ j < 32 ∨ i < 32

/-- A value is a real number. -/
def isReal (x : EReal) : Prop := ∃ r : ℝ, x = (r : EReal)

/-- A value whose absolute value is below infinity is a real number. -/
theorem isReal_of_abs {x : EReal} (h1 : x ≠ ⊥) (h2 : x ≠ ⊤) : isReal x :=
  ⟨x.toReal, (EReal.coe_toReal h2 h1).symm⟩

/-- The product of two real values is real. -/
theorem isReal.mul {x y : EReal} (hx : isReal x) (hy : isReal y) : isReal (x * y) := by
  obtain ⟨a, rfl⟩ := hx
  obtain ⟨b, rfl⟩ := hy
  exact ⟨a * b, (EReal.coe_mul a b).symm⟩

/-- A sum of reals, taken among the extended reals, is the real sum. -/
theorem coe_sum {ι : Type} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- A sum of real values is real. -/
theorem isReal.sum {ι : Type} [Fintype ι] {f : ι → EReal} (h : ∀ i, isReal (f i)) : isReal (∑ i, f i) := by
  choose r hr using h
  exact ⟨∑ i, r i, by rw [coe_sum]; exact Finset.sum_congr rfl fun i _ => hr i⟩

/-- A real factor that is not negative goes into a sum, whatever the terms. -/
theorem sum_mul_real {ι : Type} (t : Finset ι) (f : ι → EReal) {c : ℝ} (hc : 0 ≤ c) :
    (∑ i ∈ t, f i) * (c : EReal) = ∑ i ∈ t, f i * (c : EReal) := by
  classical
  induction t using Finset.induction_on with
  | empty => simp
  | insert a t ha ih =>
    rw [Finset.sum_insert ha, Finset.sum_insert ha, ← ih, mul_comm, mul_comm (f a), mul_comm (∑ i ∈ t, f i)]
    exact EReal.left_distrib_of_nonneg_of_ne_top (by exact_mod_cast hc) (EReal.coe_ne_top c) _ _

/-- Scaling the query scales the score. -/
theorem scale_in {ι : Type} [Fintype ι] (y k : ι → EReal) {c : ℝ} (hc : 0 ≤ c) :
    ∑ d, (y d * (c : EReal)) * k d = (∑ d, y d * k d) * (c : EReal) := by
  rw [sum_mul_real _ _ hc]
  exact Finset.sum_congr rfl fun d _ => by rw [mul_right_comm]

/-- One row of attention with a bias, divided at the end. -/
def late {n : ℕ} (p : Fin n → Prop) [DecidablePred p] (t v : Fin n → EReal) : EReal :=
  Ideal.div (∑ j, Ideal.exp (t j + if p j then 0 else ⊥) * v j) (∑ j, Ideal.exp (t j + if p j then 0 else ⊥))

/-- One row of attention with the maximum subtracted, each weight divided. -/
def early {n : ℕ} (p : Fin n → Prop) [DecidablePred p] (t v : Fin n → EReal) : EReal :=
  ∑ j, v j * Ideal.div
    (Ideal.exp ((if p j then t j else ⊥) - Finset.fold max (⊥ : EReal) (fun k => if p k then t k else ⊥) Finset.univ))
    (∑ x, Ideal.exp ((if p x then t x else ⊥) - Finset.fold max (⊥ : EReal) (fun k => if p k then t k else ⊥) Finset.univ))

/-- The maximum of a row with something to see is real. -/
theorem fold_max_real {n : ℕ} (p : Fin n → Prop) [DecidablePred p] {t : Fin n → EReal} (ht : ∀ j, isReal (t j))
    (i : Fin n) (hi : p i) : isReal (Finset.fold max (⊥ : EReal) (fun k => if p k then t k else ⊥) Finset.univ) := by
  apply isReal_of_abs
  · intro h
    have : t i ≤ Finset.fold max (⊥ : EReal) (fun k => if p k then t k else ⊥) Finset.univ := by
      rw [Finset.le_fold_max]
      exact Or.inr ⟨i, Finset.mem_univ i, by rw [if_pos hi]⟩
    rw [h, le_bot_iff] at this
    obtain ⟨r, hr⟩ := ht i
    exact EReal.coe_ne_bot r (hr.symm.trans this)
  · apply ne_of_lt
    rw [Finset.fold_max_lt]
    refine ⟨bot_lt_top, fun k _ => ?_⟩
    obtain ⟨r, hr⟩ := ht k
    split_ifs
    · rw [hr]; exact EReal.coe_lt_top r
    · exact bot_lt_top

/-- The two ways of writing a row of attention agree. -/
theorem late_eq_early {n : ℕ} (p : Fin n → Prop) [DecidablePred p] {t : Fin n → EReal} (v : Fin n → EReal)
    (ht : ∀ j, isReal (t j)) (i : Fin n) (hi : p i) : late p t v = early p t v := by
  obtain ⟨μ, hμ⟩ := fold_max_real p ht i hi
  choose τ hτ using ht
  have hk : ∀ j, Ideal.exp (t j + if p j then 0 else ⊥) = ((if p j then Real.exp (τ j) else 0 : ℝ) : EReal) := by
    intro j
    split_ifs with h
    · rw [hτ, add_zero, Ideal.exp_coe]
    · rw [EReal.add_bot, Ideal.exp_bot, EReal.coe_zero]
  have hr : ∀ j, Ideal.exp ((if p j then t j else ⊥) - (μ : EReal)) =
      (((if p j then Real.exp (τ j) else 0) * Real.exp (-μ) : ℝ) : EReal) := by
    intro j
    split_ifs with h
    · rw [hτ, ← EReal.coe_sub, Ideal.exp_coe, sub_eq_add_neg, Real.exp_add]
    · rw [EReal.bot_sub, Ideal.exp_bot, zero_mul, EReal.coe_zero]
  have hpos : 0 < ∑ j, (if p j then Real.exp (τ j) else 0 : ℝ) := by
    apply Finset.sum_pos'
    · intro j _
      split_ifs
      · exact (Real.exp_pos _).le
      · exact le_refl _
    · exact ⟨i, Finset.mem_univ i, by rw [if_pos hi]; exact Real.exp_pos _⟩
  rw [late, early, hμ]
  simp only [hk, hr]
  rw [← coe_sum, ← coe_sum, ← Finset.sum_mul, Ideal.div_coe hpos.ne', sum_mul_real _ _ (one_div_pos.mpr hpos).le]
  refine Finset.sum_congr rfl fun j _ => ?_
  have he := Real.exp_pos (-μ)
  rw [Ideal.div_coe (mul_pos hpos he).ne', ← EReal.coe_mul, mul_comm _ (v j), mul_assoc, ← EReal.coe_mul]
  congr 2
  field_simp

/-- Minus infinity as a word. -/
theorem ofBits_negInf : Ideal.ofBits .f32 0xFF800000#32 = (⊥ : EReal) := by simp [Ideal.ofBits, Ideal.ieee]

/-- The scale of the scores is a real that is not negative. -/
theorem ofBits_scale : ∃ s : ℝ, 0 ≤ s ∧ Ideal.ofBits .f32 0x3DB504F3#32 = (s : EReal) := by
  simp only [Ideal.ofBits, Ideal.ieee]
  rw [if_neg (by decide), if_neg (by decide)]
  refine ⟨_, ?_, rfl⟩
  have : ((0x3DB504F3#32 : BitVec 32).extractLsb' (8 + 23) 1 == 1#1) = false := by decide
  rw [this]
  simp only [Bool.false_eq_true, if_false, one_mul]
  positivity

/-- A small word's sign bit is clear. -/
theorem small_msb (n : ℕ) (h : n < 1024) : (BitVec.ofNat 32 n).msb = false := by
  rw [BitVec.msb_eq_decide, decide_eq_false_iff_not, BitVec.toNat_ofNat]
  omega

/-- Small words compare as their numbers do. -/
theorem small_sle (n k : ℕ) (hn : n < 1024) (hk : k < 1024) : (BitVec.ofNat 32 n).sle (BitVec.ofNat 32 k) = decide (n ≤ k) := by
  rw [BitVec.sle_eq_decide, BitVec.toInt_eq_toNat_of_msb (small_msb n hn), BitVec.toInt_eq_toNat_of_msb (small_msb k hk),
    BitVec.toNat_ofNat, BitVec.toNat_ofNat, Nat.mod_eq_of_lt (by omega), Nat.mod_eq_of_lt (by omega)]
  exact decide_eq_decide.mpr (by omega)

/-- The size of the difference of two small words. -/
theorem small_abs (a b : ℕ) (ha : a < 1024) (hb : b < 1024) :
    IntOp.absi (IntOp.subi (BitVec.ofNat 32 a) (BitVec.ofNat 32 b)) = BitVec.ofNat 32 (if b ≤ a then a - b else b - a) := by
  unfold IntOp.absi IntOp.subi
  split_ifs with h1 h2 h2
  · exfalso
    rw [BitVec.msb_eq_decide, decide_eq_true_iff, BitVec.toNat_sub, BitVec.toNat_ofNat, BitVec.toNat_ofNat] at h1
    omega
  · apply BitVec.eq_of_toNat_eq
    rw [BitVec.toNat_neg, BitVec.toNat_sub, BitVec.toNat_ofNat, BitVec.toNat_ofNat, BitVec.toNat_ofNat]
    omega
  · apply BitVec.eq_of_toNat_eq
    rw [BitVec.toNat_sub, BitVec.toNat_ofNat, BitVec.toNat_ofNat, BitVec.toNat_ofNat]
    omega
  · exfalso
    apply h1
    rw [BitVec.msb_eq_decide, decide_eq_true_iff, BitVec.toNat_sub, BitVec.toNat_ofNat, BitVec.toNat_ofNat]
    omega

/-- The mask's bit for the distance of two positions. -/
theorem near_bit (a b : ℕ) (ha : a < 1024) (hb : b < 1024) :
    IntOp.cmpi .sle (IntOp.absi (IntOp.subi (BitVec.ofNat 32 a) (BitVec.ofNat 32 b))) 128#32 =
      BitVec.ofBool (decide (a ≤ b + 128 ∧ b ≤ a + 128)) := by
  rw [small_abs a b ha hb]
  show BitVec.ofBool ((BitVec.ofNat 32 _).sle (BitVec.ofNat 32 128)) = _
  rw [small_sle _ 128 (by split_ifs <;> omega) (by omega)]
  congr 1
  exact decide_eq_decide.mpr (by split_ifs <;> omega)

/-- The mask's bit for a position among the first. -/
theorem first_bit (a : ℕ) (ha : a < 1024) :
    IntOp.cmpi .slt (BitVec.ofNat 32 a) 32#32 = BitVec.ofBool (decide (a < 32)) := by
  show BitVec.ofBool ((BitVec.ofNat 32 a).slt (BitVec.ofNat 32 32)) = _
  rw [BitVec.slt_eq_decide, BitVec.toInt_eq_toNat_of_msb (small_msb a ha), BitVec.toInt_eq_toNat_of_msb (small_msb 32 (by omega)),
    BitVec.toNat_ofNat, BitVec.toNat_ofNat, Nat.mod_eq_of_lt (by omega), Nat.mod_eq_of_lt (by omega)]
  congr 1
  exact decide_eq_decide.mpr (by omega)

/-- The mask's bit, its three conditions joined. -/
theorem sees_bit (a b : ℕ) (ha : a < 1024) (hb : b < 1024) :
    IntOp.ori (IntOp.ori (IntOp.cmpi .sle (IntOp.absi (IntOp.subi (BitVec.ofNat 32 a) (BitVec.ofNat 32 b))) 128#32)
      (IntOp.cmpi .slt (BitVec.ofNat 32 b) 32#32)) (IntOp.cmpi .slt (BitVec.ofNat 32 a) 32#32) = BitVec.ofBool (decide (sees a b)) := by
  rw [near_bit a b ha hb, first_bit a ha, first_bit b hb]
  unfold IntOp.ori
  rw [BitVec.ofBool_or_ofBool, BitVec.ofBool_or_ofBool, ← Bool.decide_or, ← Bool.decide_or]
  congr 1
  exact decide_eq_decide.mpr (by unfold sees; tauto)

/-- A choice by a bit is a choice by what it stands for. -/
theorem select_bit {α : Type} [Inhabited α] (p : Prop) [Decidable p] (x y : α) :
    Scalar.select (BitVec.ofBool (decide p)) x y = if p then x else y := by
  by_cases h : p
  · rw [if_pos h, decide_eq_true h]; rfl
  · rw [if_neg h, decide_eq_false h]; rfl

end Cert.Attention
-- ==== Proof.Ideal.Payload.lean ====
/- The kernel's computations, element by element, over the extended reals. -/
module

public import proofs.«01_k».proof.Proof.Ideal.Prog
public import proofs.«01_k».proof.Proof.Ideal.Attention
public import Idealize.ShloMosaic.Lib.Pointwise
public import Idealize.ShloMosaic.Lib.Tactic

@[expose] public section

set_option maxRecDepth 16384

noncomputable section

namespace Cert.KernelIdeal.Steps

open Cert.KernelIdeal Cert.KernelIdeal.Gen
open Idealize.ShloMosaic Idealize.ShloMosaic.TcCoe
open Cert.Attention

/-- The mask's constant is minus infinity. -/
theorem maskC_eq : (maskC (F := Ideal) : EReal) = ⊥ := by
  unfold maskC
  exact IdealRules.named_const.ideal_named_scalar _ _ _ _ rfl

/-- The mask as a bias: nought where a row sees a column, else minus infinity. -/
theorem biasV_apply (w : BitVec 32) (hw : w.toNat ≤ 768) (r : Fin 256) (j : Fin 1024) :
    biasV (F := Ideal) w (ix2 r j) = if sees (w.toNat + r) j then (0 : EReal) else ⊥ := by
  have e : IntOp.addi w (BitVec.ofNat 32 r) = BitVec.ofNat 32 (w.toNat + r) := by
    apply BitVec.eq_of_toNat_eq
    show (w + BitVec.ofNat 32 r).toNat = _
    rw [BitVec.toNat_add, BitVec.toNat_ofNat, BitVec.toNat_ofNat]
    omega
  pointwise [biasV]
  rw [e, sees_bit _ _ (by omega) j.isLt, select_bit, maskC_eq]

/-- One head's attention for a row. -/
theorem headV_apply (w : BitVec 32) (hw : w.toNat ≤ 768) (q : FVec Ideal S256x128 .bf16) (k v : FVec Ideal S1024x128 .bf16) (r : Fin 256) (d : Fin 128) :
    headV (biasV w) q k v (ix2 r d) = late (n := 1024) (fun t => sees (w.toNat + r) t)
      (fun t => ∑ e : Fin 128, (q (ix2 r e) : EReal) * k (ix2 t e)) (fun t => v (ix2 t d)) := by
  pointwise [headV, expV]
  simp only [biasV_apply w hw]
  rfl

/-- The queries. -/
theorem queryV_apply (x : Vec Ideal S1x1024x1024 .f32) (wq : Vec Ideal S1024x1024 .f32) (r : Fin 1024) (d : Fin 1024) :
    queryV x wq (ix2 r d) = (∑ e : Fin 1024, (x (ix3 0 r e) : EReal) * wq (ix2 e d)) * Ideal.ofBits .f32 0x3DB504F3#32 := by
  pointwise [queryV]

/-- One head of the keys or values. -/
theorem kvV_apply (x : Vec Ideal S1024x1x128 .f32) (r : Fin 1024) (d : Fin 128) : kvV x (ix2 r d) = x (ix3 r 0 d) := by
  pointwise [kvV]

/-- The output weights. -/
theorem woV_apply (x : Vec Ideal S1024x1024 .f32) (r d : Fin 1024) : woV x (ix2 r d) = x (ix2 r d) := by
  pointwise [woV]

/-- Eight pieces of 128 laid in a row. -/
theorem ladder (G : Fin 8 → Fin 128 → EReal) (a : Fin 1024) :
    (if h : (a : ℕ) < 128 then G 0 ⟨a, by omega⟩
    else if h : (a : ℕ) - 128 < 128 then G 1 ⟨a - 128, by omega⟩
    else if h : (a : ℕ) - 128 - 128 < 128 then G 2 ⟨a - 128 - 128, by omega⟩
    else if h : (a : ℕ) - 128 - 128 - 128 < 128 then G 3 ⟨a - 128 - 128 - 128, by omega⟩
    else if h : (a : ℕ) - 128 - 128 - 128 - 128 < 128 then G 4 ⟨a - 128 - 128 - 128 - 128, by omega⟩
    else if h : (a : ℕ) - 128 - 128 - 128 - 128 - 128 < 128 then G 5 ⟨a - 128 - 128 - 128 - 128 - 128, by omega⟩
    else if h : (a : ℕ) - 128 - 128 - 128 - 128 - 128 - 128 < 128 then G 6 ⟨a - 128 - 128 - 128 - 128 - 128 - 128, by omega⟩
    else G 7 ⟨a - 128 - 128 - 128 - 128 - 128 - 128 - 128, by omega⟩) = G ⟨a / 128, by omega⟩ ⟨a % 128, by omega⟩ := by
  have g : ∀ (h : Fin 8) (d : Fin 128), (a : ℕ) = h * 128 + d → G h d = G ⟨a / 128, by omega⟩ ⟨a % 128, by omega⟩ := by
    intro h d e
    have e1 : h = ⟨a / 128, by omega⟩ := Fin.ext (by show (h : ℕ) = a / 128; omega)
    have e2 : d = ⟨a % 128, by omega⟩ := Fin.ext (by show (d : ℕ) = a % 128; omega)
    rw [← e1, ← e2]
  have ha := a.isLt
  split_ifs
  · exact g 0 _ (by show (a : ℕ) = 0 * 128 + _; simp only; omega)
  · exact g 1 _ (by show (a : ℕ) = 1 * 128 + _; simp only; omega)
  · exact g 2 _ (by show (a : ℕ) = 2 * 128 + _; simp only; omega)
  · exact g 3 _ (by show (a : ℕ) = 3 * 128 + _; simp only; omega)
  · exact g 4 _ (by show (a : ℕ) = 4 * 128 + _; simp only; omega)
  · exact g 5 _ (by show (a : ℕ) = 5 * 128 + _; simp only; omega)
  · exact g 6 _ (by show (a : ℕ) = 6 * 128 + _; simp only; omega)
  · exact g 7 _ (by show (a : ℕ) = 7 * 128 + _; simp only; omega)

/-- A chunk's rows: the heads' attention through the output weights. -/
theorem chunkV_apply (w : BitVec 32) (q : Fin 8 → FVec Ideal S256x128 .bf16) (k v : Fin 8 → FVec Ideal S1024x128 .bf16) (wo : FVec Ideal S1024x1024 .bf16)
    (r : Fin 256) (j : Fin 1024) :
    chunkV w q k v wo (ix2 r j) = ∑ a : Fin 1024,
      (headV (biasV w) (q ⟨a / 128, by omega⟩) (k ⟨a / 128, by omega⟩) (v ⟨a / 128, by omega⟩) (ix2 r ⟨a % 128, by omega⟩) : EReal) * wo (ix2 a j) := by
  pointwise [chunkV]
  refine Finset.sum_congr rfl fun a _ => congrArg (· * (wo (ix2 a j) : EReal)) ?_
  exact ladder (fun h d => (headV (biasV w) (q h) (k h) (v h) (ix2 r d) : EReal)) a

end Cert.KernelIdeal.Steps

end
-- ==== Proof.Ideal.Share.lean ====
/- Each device's share of the result, element by element, in the run's arguments. -/
module

public import proofs.«01_k».proof.Proof.Ideal.Rows
public import proofs.«01_k».proof.Proof.Ideal.Payload

@[expose] public section

set_option maxRecDepth 16384

noncomputable section

namespace Cert.KernelIdeal.Steps

open Cert.KernelIdeal Cert.KernelIdeal.Gen
open Idealize.ShloMosaic Idealize.ShloMosaic.TcCoe
open Cert.Attention

/-! ## What a device stages -/

section Staged
variable {F : FTy → Type} [FloatOps F] [Named F] (m : (ℓ : Loc nD τ sig) → Buf (Elt F) ℓ) (c : Dev nD)

/-- The input is staged whole. -/
theorem xC_eq : xC m c = m ((c : Thread nD τ).loc main_arg0) := by
  funext i
  show m ((c : Thread nD τ).loc main_arg0) (((cfg0.win 0).blk t0_0).view.emb i) = _
  refine congrArg (m ((c : Thread nD τ).loc main_arg0)) (funext fun a => ?_)
  fin_cases a
  · exact Fin.ext (by show 0 * 1 + 1 * (i _ : Nat) = _; omega)
  · exact Fin.ext (by show 0 * 1024 + 1 * (i _ : Nat) = _; omega)
  · exact Fin.ext (by show 0 * 1024 + 1 * (i _ : Nat) = _; omega)

/-- So are the query weights. -/
theorem wqC_eq : wqC m c = m ((c : Thread nD τ).loc main_arg1) := by
  funext i
  show m ((c : Thread nD τ).loc main_arg1) (((cfg0.win 1).blk t0_0).view.emb i) = _
  refine congrArg (m ((c : Thread nD τ).loc main_arg1)) (funext fun a => ?_)
  fin_cases a <;> exact Fin.ext (by show 0 * 1024 + 1 * (i _ : Nat) = _; omega)

/-- And the output weights. -/
theorem woC_eq : woC m c = m ((c : Thread nD τ).loc main_arg4) := by
  funext i
  show m ((c : Thread nD τ).loc main_arg4) (((cfg0.win 2).blk t0_0).view.emb i) = _
  refine congrArg (m ((c : Thread nD τ).loc main_arg4)) (funext fun a => ?_)
  fin_cases a <;> exact Fin.ext (by show 0 * 1024 + 1 * (i _ : Nat) = _; omega)

/-- Where a device's heads start. -/
theorem kv_off : ∀ c : Dev nD, k0_off1 c = ![0, 0, 8 * c.val, 0] := by decide +kernel

/-- A device's eight heads, of an array of all. -/
theorem kv_at (f : S1x1024x128x128.Idx → Elt F .f32) (t : Fin 1024) (h : Fin 8) (d : Fin 128) :
    (kSrc c).view.read (Elt F) f (ix3 t h d) = f (ix4 0 t ⟨8 * c.val + h.val, by have := c.isLt; have : nD = 16 := rfl; omega⟩ d) := by
  have h1 : (kSrc c).view.read (Elt F) f (ix3 t h d) =
      f ((Rect.unit (s := S1x1024x128x128) (k0_off1 c) S1x1024x8x128.size (k0_off1_inb c)).emb (Shape.reshapeEquiv squeezes_S1x1024x8x128_S1024x8x128.numel_eq (ix3 t h d))) := rfl
  rw [h1, Shape.reshapeEquiv_cons_one]
  refine congrArg f (funext fun a => Fin.ext ?_)
  rw [Rect.emb_apply]
  match a with
  | ⟨0, _⟩ => show k0_off1 c 0 + 1 * 0 = 0; rw [kv_off]; rfl
  | ⟨1, _⟩ => show k0_off1 c 1 + 1 * t.val = t.val; rw [kv_off]; show 0 + 1 * t.val = t.val; omega
  | ⟨2, _⟩ => show k0_off1 c 2 + 1 * h.val = 8 * c.val + h.val; rw [kv_off]; show 8 * c.val + 1 * h.val = 8 * c.val + h.val; omega
  | ⟨3, _⟩ => show k0_off1 c 3 + 1 * d.val = d.val; rw [kv_off]; show 0 + 1 * d.val = d.val; omega

/-- A device's keys are its eight heads of the keys. -/
theorem kC_at (t : Fin 1024) (h : Fin 8) (d : Fin 128) :
    kC m c (ix3 t h d) = m ((c : Thread nD τ).loc main_arg2) (ix4 0 t ⟨8 * c.val + h.val, by have := c.isLt; have : nD = 16 := rfl; omega⟩ d) :=
  kv_at c (m ((c : Thread nD τ).loc main_arg2)) t h d

/-- Its values are its eight heads of the values. -/
theorem vC_at (t : Fin 1024) (h : Fin 8) (d : Fin 128) :
    vC m c (ix3 t h d) = m ((c : Thread nD τ).loc main_arg3) (ix4 0 t ⟨8 * c.val + h.val, by have := c.isLt; have : nD = 16 := rfl; omega⟩ d) :=
  kv_at c (m ((c : Thread nD τ).loc main_arg3)) t h d

/-! ## Reads of the kernel's buffers -/

/-- One head of a buffer of heads. -/
theorem heads_at (f : Vec Ideal S1024x8x128 .f32) (h : Fin 8) (t : Fin 1024) (d : Fin 128) : heads f h (ix2 t d) = f (ix3 t h d) := by
  have g : ∀ h : Fin 8, kvV (kM.view.readAt (Elt Ideal) (hrect h).toLoadRect f) (ix2 t d) = f (ix3 t h d) := by
    intro h
    rw [kvV_apply]
    refine read_at cc0_scratch0 ![0, h.val, 0] S1024x1x128.size (kv_inb h) f (ix3 t 0 d) (ix3 t h d) fun a => ?_
    fin_cases a
    · exact (Nat.zero_add _).symm
    · exact (Nat.add_zero _).symm
    · exact (Nat.zero_add _).symm
  fin_cases h
  · exact g 0
  · exact g 1
  · exact g 2
  · exact g 3
  · exact g 4
  · exact g 5
  · exact g 6
  · exact g 7

/-- One head's queries of a chunk. -/
theorem qR_at (i : Fin 4) (f : Vec F S1024x1024 .bf16) (h : Fin 8) (r : Fin 256) (d : Fin 128) (a b : Fin 1024)
    (ha : (a : ℕ) = (cw i c).toNat + r) (hb : (b : ℕ) = 128 * h.val + d) : qR i c f h (ix2 r d) = f (ix2 a b) := by
  refine read_at cc0_scratch3 ![(cw i c).toNat, 128 * h.val] S256x128.size (cw_q i c h) f (ix2 r d) (ix2 a b) fun x => ?_
  fin_cases x
  · exact ha
  · exact hb

end Staged

/-! ## The share -/

section Formula
variable (x : S1x1024x1024.Idx → EReal) (wq : S1024x1024.Idx → EReal) (ks vs : S1x1024x128x128.Idx → EReal) (wo : S1024x1024.Idx → EReal) (c : Dev nD)

/-- A query, scaled. -/
def qK (i b : Fin 1024) : EReal := (∑ a : Fin 1024, x (ix3 0 i a) * wq (ix2 a b)) * Ideal.ofBits .f32 0x3DB504F3#32

/-- The unmasked score of row `i` against column `t` in a device's head `h`. -/
def rawK (h : Fin 8) (i t : Fin 1024) : EReal :=
  ∑ e : Fin 128, qK x wq i ⟨128 * h.val + e, by omega⟩ * ks (ix4 0 t ⟨8 * c.val + h.val, by have := c.isLt; have : nD = 16 := rfl; omega⟩ e)

/-- A device's share of the result at an element. -/
def part (i j : Fin 1024) : EReal :=
  ∑ a : Fin 1024, late (n := 1024) (fun t => sees i t) (fun t => rawK x wq ks c ⟨a / 128, by omega⟩ i t)
    (fun t => vs (ix4 0 t ⟨8 * c.val + a / 128, by have := c.isLt; have : nD = 16 := rfl; omega⟩ ⟨a % 128, by omega⟩)) * wo (ix2 a j)

end Formula

variable (m : (ℓ : Loc nD τ sig) → Buf (Elt Ideal) ℓ) (c : Dev nD)

/-- A device's share of the result at an element, in the run's arguments. -/
def partM (i j : Fin 1024) : EReal :=
  part (m ((c : Thread nD τ).loc main_arg0)) (m ((c : Thread nD τ).loc main_arg1)) (m ((c : Thread nD τ).loc main_arg2))
    (m ((c : Thread nD τ).loc main_arg3)) (m ((c : Thread nD τ).loc main_arg4)) c i j

/-- Every chunk's rows are among the result's. -/
theorem cw_le : ∀ (i : Fin 4) (c : Dev nD), (cw i c).toNat ≤ 768 := by decide +kernel

/-- Eight values in a row, each by its number. -/
theorem eight {A : Type} (q : Fin 8 → A) (h : Fin 8) : (![q 0, q 1, q 2, q 3, q 4, q 5, q 6, q 7] : Fin 8 → A) h = q h := by
  fin_cases h <;> rfl

/-- A chunk's element is the share's. -/
theorem chunk_at (k : Fin 4) (r : Fin 256) (i j : Fin 1024) (hi : (i : ℕ) = (cw k c).toNat + r) :
    (chunkC m k c (ix2 r j) : EReal) = partM m c i j := by
  unfold chunkC
  rw [chunkV_apply]
  unfold partM part
  refine Finset.sum_congr rfl fun a _ => ?_
  rw [woV_apply, woC_eq]
  refine congrArg (· * (m ((c : Thread nD τ).loc main_arg4) (ix2 a j) : EReal)) ?_
  rw [headV_apply _ (cw_le k c), hi]
  have hq : ∀ e : Fin 128, (![qR k c (qC m c) 0, qR k c (qC m c) 1, qR k c (qC m c) 2, qR k c (qC m c) 3, qR k c (qC m c) 4, qR k c (qC m c) 5, qR k c (qC m c) 6, qR k c (qC m c) 7]
      : Fin 8 → FVec Ideal S256x128 .bf16) ⟨a / 128, by omega⟩ (ix2 r e) =
      qK (m ((c : Thread nD τ).loc main_arg0)) (m ((c : Thread nD τ).loc main_arg1)) i ⟨128 * (a / 128) + e, by omega⟩ := by
    intro e
    rw [eight (fun h => qR k c (qC m c) h), qR_at c k (qC m c) ⟨a / 128, by omega⟩ r e i ⟨128 * (a / 128) + e, by omega⟩ hi rfl]
    unfold qC
    rw [queryV_apply, xC_eq, wqC_eq]
    rfl
  simp only [hq, heads_at, kC_at, vC_at]
  rfl

/-- A chunk written: its rows hold the share, the others are as they were. -/
theorem wch_hit (k : Fin 4) (g : Vec Ideal S1024x1024 .f32) (i j : Fin 1024) (h : (cw k c).toNat ≤ i ∧ (i : ℕ) < (cw k c).toNat + 256) :
    (wch m k c g (ix2 i j) : EReal) = partM m c i j := by
  have e : (i : ℕ) = (cw k c).toNat + (⟨i - (cw k c).toNat, by omega⟩ : Fin 256).val := by simp only; omega
  rw [← chunk_at m c k ⟨i - (cw k c).toNat, by omega⟩ i j e]
  refine write_hit cc0_stg3_0 ![(cw k c).toNat, 0] S256x1024.size (cw_o k c) g (chunkC m k c) (ix2 ⟨i - (cw k c).toNat, by omega⟩ j) (ix2 i j) fun x => ?_
  fin_cases x
  · exact e
  · exact (Nat.zero_add _).symm

/-- A chunk written leaves the rows outside it. -/
theorem wch_miss (k : Fin 4) (g : Vec Ideal S1024x1024 .f32) (i j : Fin 1024) (h : ¬ ((cw k c).toNat ≤ i ∧ (i : ℕ) < (cw k c).toNat + 256)) :
    wch m k c g (ix2 i j) = g (ix2 i j) :=
  write_miss cc0_stg3_0 ![(cw k c).toNat, 0] S256x1024.size (cw_o k c) g (chunkC m k c) (ix2 i j) 0 h

/-- The four chunks take up all the rows. -/
theorem cw_cover : ∀ (c : Dev nD) (b : Fin 4), ∃ k : Fin 4, (cw k c).toNat = 256 * b.val := by decide +kernel

/-- A device's share at an element. -/
theorem share_at (i j : Fin 1024) : (share0 m c (ix2 i j) : EReal) = partM m c i j := by
  unfold share0
  by_cases h3 : (cw 3 c).toNat ≤ i ∧ (i : ℕ) < (cw 3 c).toNat + 256
  · exact wch_hit m c 3 _ i j h3
  rw [wch_miss m c 3 _ i j h3]
  by_cases h2 : (cw 2 c).toNat ≤ i ∧ (i : ℕ) < (cw 2 c).toNat + 256
  · exact wch_hit m c 2 _ i j h2
  rw [wch_miss m c 2 _ i j h2]
  by_cases h1 : (cw 1 c).toNat ≤ i ∧ (i : ℕ) < (cw 1 c).toNat + 256
  · exact wch_hit m c 1 _ i j h1
  rw [wch_miss m c 1 _ i j h1]
  by_cases h0 : (cw 0 c).toNat ≤ i ∧ (i : ℕ) < (cw 0 c).toNat + 256
  · exact wch_hit m c 0 _ i j h0
  exfalso
  obtain ⟨k, hk⟩ := cw_cover c ⟨i / 256, by omega⟩
  simp only at hk
  fin_cases k
  · exact h0 (by have : (cw 0 c).toNat = 256 * (i / 256) := hk; omega)
  · exact h1 (by have : (cw 1 c).toNat = 256 * (i / 256) := hk; omega)
  · exact h2 (by have : (cw 2 c).toNat = 256 * (i / 256) := hk; omega)
  · exact h3 (by have : (cw 3 c).toNat = 256 * (i / 256) := hk; omega)

end Cert.KernelIdeal.Steps

end
-- ==== Proof.Ideal.Reference.lean ====
/- The reference's result, element by element. -/
module

public import proofs.«01_k».proof.Proof.Gen.ReferenceIdeal.Run
public import Idealize.ShloMosaic.Lib.Pointwise
public import Idealize.ShloMosaic.Lib.Tactic
public import proofs.«01_k».proof.Proof.Ideal.Attention

@[expose] public section

set_option maxRecDepth 16384

noncomputable section

namespace Cert.ReferenceIdeal.Value

open Cert.ReferenceIdeal Cert.ReferenceIdeal.Gen
open Idealize.ShloMosaic Idealize.ShloMosaic.TcCoe
open Cert.Attention

/-- Which keys a query sees. -/
def maskR : IVec S1024x1024 1 :=
  ori (cmpi .sle (absi (subi (broadcastInDim S1024x1024 ![0, 1] bcast_S1024x1_S1024x1024_0_1 (broadcastInDim S1024x1 ![0] bcast_S1024_S1024x1_0 (iotaInDim S1024 32 0)))
      (broadcastInDim S1024x1024 ![0, 1] bcast_S1x1024_S1024x1024_0_1 (broadcastInDim S1x1024 ![1] bcast_S1024_S1x1024_1 (iotaInDim S1024 32 0)))))
      (broadcastInDim S1024x1024 ![] bcast_S_S1024x1024 (constantI S_ 32 128#32)))
    (ori (broadcastInDim S1024x1024 ![0, 1] bcast_S1x1024_S1024x1024_0_1 (cmpi .slt (broadcastInDim S1x1024 ![1] bcast_S1024_S1x1024_1 (iotaInDim S1024 32 0))
        (broadcastInDim S1x1024 ![] bcast_S_S1x1024 (constantI S_ 32 32#32))))
      (broadcastInDim S1024x1024 ![0, 1] bcast_S1024x1_S1024x1024_0_1 (cmpi .slt (broadcastInDim S1024x1 ![0] bcast_S1024_S1024x1_0 (iotaInDim S1024 32 0))
        (broadcastInDim S1024x1 ![] bcast_S_S1024x1 (constantI S_ 32 32#32)))))

/-- Which rows see any. -/
def keepR : IVec S1024 1 := Host.reduce IntOp.ori maskR (constantI S_ 1 0#1) reducesTo_S1024x1024_S1024_d1 h_S_

variable (x : FVec Ideal S1x1024x1024 .f32) (wq : FVec Ideal S1024x16384 .f32) (k v : FVec Ideal S1x1024x128x128 .f32)
  (wo : FVec Ideal S16384x1024 .f32)

/-- The scores, masked. -/
def scoreR : FVec Ideal S1x128x1024x1024 .f32 :=
  select (broadcastInDim S1x128x1024x1024 ![0, 1, 2, 3] bcast_S1x1x1024x1024_S1x128x1024x1024_0_1_2_3 (broadcastInDim S1x1x1024x1024 ![2, 3] bcast_S1024x1024_S1x1x1024x1024_2_3 maskR))
    (mulf (Host.dotGeneral dot_S1x1024x128x128_S1x1024x128x128_S1x128x1024x1024_3_3_1_1_02_02 none
        (shapeCast S1x1024x128x128 (Host.dotGeneral dot_S1x1024x1024_S1024x16384_S1x1024x16384_2_0_01_1_n_n none x wq) shapeCasts_S1x1024x16384_S1x1024x128x128) k)
      (broadcastInDim S1x128x1024x1024 ![] bcast_S_S1x128x1024x1024 (constant S_ .f32 0x3DB504F3#32)))
    (broadcastInDim S1x128x1024x1024 ![] bcast_S_S1x128x1024x1024 (id (constant S_ .f32 0xFF800000#32)))

/-- The exponentials of the scores less their row's maximum. -/
def exR (s : FVec Ideal S1x128x1024x1024 .f32) : FVec Ideal S1x128x1024x1024 .f32 :=
  Host.exp (subf s (broadcastInDim S1x128x1024x1024 ![0, 1, 2, 3] bcast_S1x128x1024x1_S1x128x1024x1024_0_1_2_3
    (broadcastInDim S1x128x1024x1 ![0, 1, 2] bcast_S1x128x1024_S1x128x1024x1_0_1_2
      (Host.reduce FloatOps.maximumf s (constant S_ .f32 0xFF800000#32) reducesTo_S1x128x1024x1024_S1x128x1024_d3 h_S_))))

/-- The weights. -/
def weightR (e : FVec Ideal S1x128x1024x1024 .f32) : FVec Ideal S1x128x1024x1024 .f32 :=
  select (broadcastInDim S1x128x1024x1024 ![0, 1, 2, 3] bcast_S1x1x1024x1_S1x128x1024x1024_0_1_2_3 (broadcastInDim S1x1x1024x1 ![2] bcast_S1024_S1x1x1024x1_2 keepR))
    (Host.divf e (broadcastInDim S1x128x1024x1024 ![0, 1, 2, 3] bcast_S1x128x1024x1_S1x128x1024x1024_0_1_2_3
      (select (broadcastInDim S1x128x1024x1 ![0, 1, 2, 3] bcast_S1x1x1024x1_S1x128x1024x1_0_1_2_3 (broadcastInDim S1x1x1024x1 ![2] bcast_S1024_S1x1x1024x1_2 keepR))
        (broadcastInDim S1x128x1024x1 ![0, 1, 2] bcast_S1x128x1024_S1x128x1024x1_0_1_2
          (Host.reduceAdd e (constant S_ .f32 0x00000000#32) reducesTo_S1x128x1024x1024_S1x128x1024_d3 h_S_))
        (broadcastInDim S1x128x1024x1 ![] bcast_S_S1x128x1024x1 (id (constant S_ .f32 0x3F800000#32))))))
    (broadcastInDim S1x128x1024x1024 ![] bcast_S_S1x128x1024x1024 (id (constant S_ .f32 0x00000000#32)))

/-- The result, from the weights. -/
def outR (w : FVec Ideal S1x128x1024x1024 .f32) : FVec Ideal S1024x1024 .f32 :=
  shapeCast S1024x1024 (Host.dotGeneral dot_S1x1024x16384_S16384x1024_S1x1024x1024_2_0_01_1_n_n none
    (shapeCast S1x1024x16384 (transpose S1x1024x128x128 [0, 3, 1, 2] (Host.dotGeneral dot_S1x1024x128x128_S1x128x1024x1024_S1x128x128x1024_1_3_3_2_02_01 none v w)
      transposes_S1x128x128x1024_S1x1024x128x128_0_3_1_2) shapeCasts_S1x1024x128x128_S1x1024x16384) wo) shapeCasts_S1x1024x1024_S1024x1024

/-- The run's result in these terms. -/
theorem res_eq_outR (m : (ℓ : Loc nD τ sig) → Buf (Elt Ideal) ℓ) (c : Dev nD) :
    res_main_v43 m c = outR (m ((c.tc : Thread nD τ).loc main_arg3)) (m ((c.tc : Thread nD τ).loc main_arg4))
      (weightR (exR (scoreR (m ((c.tc : Thread nD τ).loc main_arg0)) (m ((c.tc : Thread nD τ).loc main_arg1)) (m ((c.tc : Thread nD τ).loc main_arg2))))) := rfl

/-- The mask's bit. -/
theorem maskR_apply (i j : Fin 1024) : maskR (ix2 i j) = BitVec.ofBool (decide (sees i j)) := by
  pointwise [maskR]
  rw [← sees_bit i j i.isLt j.isLt]
  unfold IntOp.ori
  rw [BitVec.or_assoc]

/-- A bit in a fold of the bitwise or keeps it set. -/
theorem fold_or_one {n : ℕ} (f : Fin n → BitVec 1) (i : Fin n) (hi : f i = 1#1) :
    Finset.fold IntOp.ori (0#1) f Finset.univ = 1#1 := by
  rw [← Finset.insert_erase (Finset.mem_univ i), Finset.fold_insert (Finset.notMem_erase i _), hi]
  generalize Finset.fold IntOp.ori (0#1) f _ = z
  revert z
  decide

/-- Every row sees its own column. -/
theorem keepR_apply (i : Fin 1024) : keepR (ix1 i) = 1#1 := by
  pointwise [keepR]
  refine fold_or_one _ i ?_
  rw [maskR_apply, decide_eq_true (by unfold sees; omega)]
  rfl

/-- The score before the mask. -/
def rawR (h : Fin 128) (i j : Fin 1024) : EReal :=
  (∑ d : Fin 128, (∑ e : Fin 1024, x (ix3 0 i e) * wq (ix2 e ⟨h * 128 + d, by omega⟩)) * k (ix4 0 j h d)) * Ideal.ofBits .f32 0x3DB504F3#32

/-- A score, masked. -/
theorem scoreR_apply (h : Fin 128) (i j : Fin 1024) :
    scoreR x wq k (ix4 0 h i j) = if sees i j then rawR x wq k h i j else (⊥ : EReal) := by
  pointwise [scoreR]
  rw [maskR_apply, select_bit, ← ofBits_negInf]
  rfl

/-- An exponential, its row's maximum subtracted. -/
theorem exR_apply (s) (h : Fin 128) (i j : Fin 1024) : exR s (ix4 0 h i j) =
    Ideal.exp ((s (ix4 0 h i j) : EReal) - Finset.fold max (⊥ : EReal) (fun x => s (ix4 0 h i x)) Finset.univ) := by
  pointwise [exR]
  rw [← ofBits_negInf]

/-- A weight: every row sees something, so the guards pass. -/
theorem weightR_apply (e) (h : Fin 128) (i j : Fin 1024) : weightR e (ix4 0 h i j) =
    Ideal.div (e (ix4 0 h i j)) (∑ x, (e (ix4 0 h i x) : EReal)) := by
  pointwise [weightR]
  rw [keepR_apply]
  rfl

/-- The result, from the weights, at an element. -/
theorem outR_apply (w) (i j : Fin 1024) : outR v wo w (ix2 i j) =
    ∑ a : Fin 16384, (∑ t : Fin 1024, (v (ix4 0 t ⟨a / 128, by omega⟩ ⟨a % 128, by omega⟩) : EReal) * w (ix4 0 ⟨a / 128, by omega⟩ i t)) * wo (ix2 a j) := by
  pointwise [outR]

/-- The result at an element: the heads' attention, through the output's weights. -/
theorem result_apply (m : (ℓ : Loc nD τ sig) → Buf (Elt Ideal) ℓ) (c : Dev nD) (i j : Fin 1024) :
    res_main_v43 m c (ix2 i j) = ∑ a : Fin 16384,
      early (n := 1024) (fun t => sees i t)
        (fun t => rawR (m ((c.tc : Thread nD τ).loc main_arg0)) (m ((c.tc : Thread nD τ).loc main_arg1)) (m ((c.tc : Thread nD τ).loc main_arg2)) ⟨a / 128, by omega⟩ i t)
        (fun t => m ((c.tc : Thread nD τ).loc main_arg3) (ix4 0 t ⟨a / 128, by omega⟩ ⟨a % 128, by omega⟩)) *
      m ((c.tc : Thread nD τ).loc main_arg4) (ix2 a j) := by
  rw [res_eq_outR, outR_apply]
  simp only [weightR_apply, exR_apply, scoreR_apply]
  rfl

end Cert.ReferenceIdeal.Value

end
-- ==== Proof.Ideal.Value.lean ====
/- The sum of the devices' shares is the reference's result. -/
module

public import proofs.«01_k».proof.Proof.Ideal.Share
public import proofs.«01_k».proof.Proof.Ideal.Reference

@[expose] public section

set_option maxRecDepth 16384

noncomputable section

namespace Cert.Attention

open Idealize.ShloMosaic
open Cert.KernelIdeal.Steps Cert.ReferenceIdeal.Value

/-- A sum over 16384 is a sum over sixteen blocks of 1024. -/
theorem sum_blocks (f : Fin 16384 → EReal) :
    ∑ b : Fin 16384, f b = ∑ c : Fin 16, ∑ a : Fin 1024, f ⟨c * 1024 + a, by omega⟩ := by
  rw [← Fintype.sum_prod_type' (fun (c : Fin 16) (a : Fin 1024) => f ⟨c * 1024 + a, by omega⟩)]
  refine (Fintype.sum_equiv (finProdFinEquiv (m := 16) (n := 1024)) _ f fun p => ?_).symm
  refine congrArg f (Fin.ext ?_)
  show p.1.val * 1024 + p.2.val = p.2.val + 1024 * p.1.val
  omega

section Arrays
variable (x : KernelIdeal.S1x1024x1024.Idx → EReal) (wq : Fin 16 → KernelIdeal.S1024x1024.Idx → EReal) (ks vs : KernelIdeal.S1x1024x128x128.Idx → EReal)
  (wo : Fin 16 → KernelIdeal.S1024x1024.Idx → EReal)
  (wqR : FVec Ideal ReferenceIdeal.S1024x16384 .f32) (woR : FVec Ideal ReferenceIdeal.S16384x1024 .f32)
  (hq : ∀ (c : Fin 16) (a b : Fin 1024), wq c (ix2 a b) = wqR (ix2 a ⟨c * 1024 + b, by omega⟩))
  (ho : ∀ (c : Fin 16) (a b : Fin 1024), wo c (ix2 a b) = woR (ix2 ⟨c * 1024 + a, by omega⟩ b))
  (fx : ∀ i, isReal (x i)) (fq : ∀ c i, isReal (wq c i)) (fk : ∀ i, isReal (ks i))

include fx fq fk in
/-- The scores are real. -/
theorem rawK_real (c : Fin 16) (h : Fin 8) (i t : Fin 1024) : isReal (rawK x (wq c) ks c h i t) := by
  obtain ⟨s, -, hs⟩ := ofBits_scale
  unfold rawK qK
  rw [hs]
  exact isReal.sum fun e => ((isReal.sum fun a => (fx _).mul (fq c _)).mul ⟨s, rfl⟩).mul (fk _)

include hq in
/-- A device's score is the reference's for its head. -/
theorem rawK_eq (c : Fin 16) (h : Fin 8) (g : Fin 128) (hg : (g : ℕ) = 8 * c + h) (i t : Fin 1024) :
    rawK x (wq c) ks c h i t = rawR x wqR ks g i t := by
  obtain ⟨s, h0, hs⟩ := ofBits_scale
  have e1 : g = ⟨8 * c.val + h.val, by omega⟩ := Fin.ext hg
  unfold rawK qK rawR
  rw [hs, scale_in _ _ h0]
  refine congrArg (· * (s : EReal)) (Finset.sum_congr rfl fun d _ => ?_)
  rw [← e1]
  refine congrArg (· * ks (ix4 0 t g d)) (Finset.sum_congr rfl fun a _ => ?_)
  rw [hq]
  have e2 : (⟨c * 1024 + (128 * h.val + d), by omega⟩ : Fin 16384) = ⟨g * 128 + d, by omega⟩ := Fin.ext (by show (c : ℕ) * 1024 + (128 * h.val + d) = g * 128 + d; omega)
  exact congrArg (fun b => x (ix3 0 i a) * wqR (ix2 a b)) e2

include hq ho fx fq fk in
/-- The devices' shares add up to the reference's sum over all the heads. -/
theorem parts_sum (i j : Fin 1024) :
    ∑ c : Fin 16, part x (wq c) ks vs (wo c) c i j = ∑ b : Fin 16384,
      early (n := 1024) (fun t => sees i t) (fun t => rawR x wqR ks ⟨b / 128, by omega⟩ i t)
        (fun t => vs (ix4 0 t ⟨b / 128, by omega⟩ ⟨b % 128, by omega⟩)) * woR (ix2 b j) := by
  rw [sum_blocks]
  refine Finset.sum_congr rfl fun c _ => Finset.sum_congr rfl fun a _ => ?_
  have e1 : (⟨8 * c.val + a / 128, by omega⟩ : Fin 128) = ⟨(c * 1024 + a) / 128, by omega⟩ := Fin.ext (by show 8 * c.val + a.val / 128 = (c.val * 1024 + a.val) / 128; omega)
  have e2 : (⟨a % 128, by omega⟩ : Fin 128) = ⟨(c * 1024 + a) % 128, by omega⟩ := Fin.ext (by show a.val % 128 = (c.val * 1024 + a.val) % 128; omega)
  rw [ho, late_eq_early _ _ (fun t => rawK_real x wq ks fx fq fk c _ i t) i (by omega)]
  refine congrArg (· * (woR (ix2 ⟨c * 1024 + a, by omega⟩ j) : EReal)) ?_
  have e3 : (fun t => rawK x (wq c) ks c ⟨a / 128, by omega⟩ i t) = fun t => rawR x wqR ks ⟨(c * 1024 + a) / 128, by omega⟩ i t :=
    funext fun t => rawK_eq x wq ks wqR hq c _ _ (congrArg Fin.val e1).symm i t
  have e4 : (fun t => vs (ix4 0 t ⟨8 * c.val + a / 128, by omega⟩ ⟨a % 128, by omega⟩)) = fun t : Fin 1024 => vs (ix4 0 t ⟨(c * 1024 + a) / 128, by omega⟩ ⟨(c * 1024 + a) % 128, by omega⟩) := by
    rw [e1, e2]
  exact congrArg₂ (early (n := 1024) fun t => sees i t) e3 e4

end Arrays

/-- What the precondition's comparison says: the value is real. -/
theorem real_of_bit (x : EReal) (h : Ideal.cmp .olt (max x (-x)) (Ideal.ofBits .f32 0x7F800000#32) = 1#1) : isReal x := by
  have e : Ideal.ofBits .f32 0x7F800000#32 = (⊤ : EReal) := by simp [Ideal.ofBits, Ideal.ieee]
  rw [e] at h
  have h' : max x (-x) < ⊤ := by
    by_contra hn
    simp [Ideal.cmp, hn] at h
  rw [max_lt_iff] at h'
  refine isReal_of_abs (fun hb => ?_) h'.1.ne
  rw [hb, EReal.neg_bot] at h'
  exact lt_irrefl _ h'.2

end Cert.Attention

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_scores_from_finite_KernelIdeal
public import proofs.«01_k».proof.Proof.Gen.Pre_scores_from_finite_ReferenceIdeal
public import proofs.«01_k».proof.Proof.Word.Run
public import proofs.«01_k».proof.Proof.Ideal.Run
public import proofs.«01_k».proof.Proof.Ideal.Sum
public import proofs.«01_k».proof.Proof.Ideal.Value
public import Idealize.ShloMosaic.Adequacy
public import Idealize.ShloMosaic.Init

@[expose] public section

noncomputable section

namespace Cert.Proof

open Idealize.ShloMosaic Idealize.SL.Sem Cert.Kernel

/-- The kernel on machine words: its arguments unchanged, its counters at zero. -/
theorem frame_word : Cert.quiescent_Kernel (hKernel := Cert.Kernel.Gen.facts) := fun m g _ => Cert.Kernel.Steps.run_args (F := Bits) m g

/-- The kernel on extended reals: its arguments unchanged, its counters at zero. -/
theorem frame_ideal : Cert.quiescent_KernelIdeal (hKernelIdeal := Cert.KernelIdeal.Gen.facts) :=
  fun m g _ => Cert.KernelIdeal.Steps.run_args (F := Ideal) m g

/-- The reference: its arguments unchanged; it has no counters. -/
theorem frame_reference : Cert.quiescent_ReferenceIdeal (hReferenceIdeal := Cert.ReferenceIdeal.Gen.facts) := fun m g _ =>
  (θ_run Cert.ReferenceIdeal.defs _ _).mono (fun r h => ⟨fun c => (h c).2, funext fun s => by
    rcases s with ⟨t, s⟩
    exact (nomatch s)⟩) (Cert.ReferenceIdeal.Value.run (F := Ideal) m g)

/-- The precondition makes the input, the query weights and the keys real on every device. -/
theorem args_real (m : (ℓ : Loc Cert.KernelIdeal.nD Cert.KernelIdeal.τ Cert.KernelIdeal.sig) → Buf (Elt Ideal) ℓ)
    (h : Cert.Pre_KernelIdeal_scores_from_finite_KernelIdeal (hPre_scores_from_finite_KernelIdeal := Cert.Pre_scores_from_finite_KernelIdeal.Gen.facts) m) (c : Dev Cert.KernelIdeal.nD) :
    (∀ i : Cert.KernelIdeal.S1x1024x1024.Idx, Cert.Attention.isReal (m ((c.tc : Thread Cert.KernelIdeal.nD Cert.KernelIdeal.τ).loc Cert.KernelIdeal.main_arg0) i))
    ∧ (∀ i : Cert.KernelIdeal.S1024x1024.Idx, Cert.Attention.isReal (m ((c.tc : Thread Cert.KernelIdeal.nD Cert.KernelIdeal.τ).loc Cert.KernelIdeal.main_arg1) i))
    ∧ ∀ i : Cert.KernelIdeal.S1x1024x128x128.Idx, Cert.Attention.isReal (m ((c.tc : Thread Cert.KernelIdeal.nD Cert.KernelIdeal.τ).loc Cert.KernelIdeal.main_arg2) i) :=
  ⟨fun i => Cert.Attention.real_of_bit _ (congrFun (h c).1 i), fun i => Cert.Attention.real_of_bit _ (congrFun (h c).2.1 i),
    fun i => Cert.Attention.real_of_bit _ (congrFun (h c).2.2 i)⟩

/-- The kernel's result on every device is the reference's. -/
theorem value_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hp : Cert.Pre_KernelIdeal_scores_from_finite_KernelIdeal (hPre_scores_from_finite_KernelIdeal := Cert.Pre_scores_from_finite_KernelIdeal.Gen.facts) m)
    (h : ∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 16384]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![1024, 1024]⟩ ⟨2, ![16384, 1024]⟩ 0 16 c (m' (((0 : Dev Cert.ReferenceIdeal.nD).tc : Thread Cert.ReferenceIdeal.nD Cert.ReferenceIdeal.τ).loc Cert.ReferenceIdeal.main_arg4)))
    (c : Dev Cert.KernelIdeal.nD) :
    Cert.KernelIdeal.Steps.res m c = Cert.ReferenceIdeal.Value.res_main_v43 m' 0 := by
  rw [Cert.KernelIdeal.Steps.res_eq]
  funext i
  obtain ⟨a, b, rfl⟩ : ∃ a b : Fin 1024, i = ix2 a b := ⟨i 0, i 1, eq_ix2 i⟩
  refine (Cert.KernelIdeal.Steps.fs_sum m c (ix2 a b)).trans ?_
  refine Eq.trans ?_ (Cert.ReferenceIdeal.Value.result_apply m' 0 a b).symm
  have hq : ∀ (d : Fin 16) (a b : Fin 1024), m ((Dev.tc d : Thread Cert.KernelIdeal.nD Cert.KernelIdeal.τ).loc Cert.KernelIdeal.main_arg1) (ix2 a b) =
      m' (((0 : Dev Cert.ReferenceIdeal.nD).tc : Thread Cert.ReferenceIdeal.nD Cert.ReferenceIdeal.τ).loc Cert.ReferenceIdeal.main_arg1) (ix2 a ⟨d * 1024 + b, by omega⟩) := by
    intro d a b
    rw [(h d).2.1]
    refine congrArg (m' _) (funext fun x => Fin.ext ?_)
    fin_cases x <;> rfl
  have ho : ∀ (d : Fin 16) (a b : Fin 1024), m ((Dev.tc d : Thread Cert.KernelIdeal.nD Cert.KernelIdeal.τ).loc Cert.KernelIdeal.main_arg4) (ix2 a b) =
      m' (((0 : Dev Cert.ReferenceIdeal.nD).tc : Thread Cert.ReferenceIdeal.nD Cert.ReferenceIdeal.τ).loc Cert.ReferenceIdeal.main_arg4) (ix2 ⟨d * 1024 + a, by omega⟩ b) := by
    intro d a b
    rw [(h d).2.2.2.2]
    refine congrArg (m' _) (funext fun x => Fin.ext ?_)
    fin_cases x <;> rfl
  refine Eq.trans (Finset.sum_congr rfl fun d _ => (Cert.KernelIdeal.Steps.share_at m d a b).trans ?_)
    (Cert.Attention.parts_sum (m' (((0 : Dev Cert.ReferenceIdeal.nD).tc : Thread Cert.ReferenceIdeal.nD Cert.ReferenceIdeal.τ).loc Cert.ReferenceIdeal.main_arg0))
      (fun d => m ((Dev.tc d : Thread Cert.KernelIdeal.nD Cert.KernelIdeal.τ).loc Cert.KernelIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (fun d => m ((Dev.tc d : Thread Cert.KernelIdeal.nD Cert.KernelIdeal.τ).loc Cert.KernelIdeal.main_arg4))
      _ _ hq ho (by rw [← (h c).1]; exact (args_real m hp c).1) (fun d => (args_real m hp d).2.1)
      (by rw [← (h c).2.2.1]; exact (args_real m hp c).2.2) a b)
  unfold Cert.KernelIdeal.Steps.partM
  rw [(h d).1, (h d).2.2.1, (h d).2.2.2.1]

/-- The kernel's result on every device is the reference's, over the extended reals. -/
theorem value : Cert.algebraic_KernelIdeal_ReferenceIdeal_pre_scores_from_finite_KernelIdeal (hKernelIdeal := Cert.KernelIdeal.Gen.facts)
    (hReferenceIdeal := Cert.ReferenceIdeal.Gen.facts) (hPre_scores_from_finite_KernelIdeal := Cert.Pre_scores_from_finite_KernelIdeal.Gen.facts) :=
  fun m g m' g' hp h => ⟨Cert.ReferenceIdeal.Value.res_main_v43 m' 0,
    (θ_run Cert.KernelIdeal.defs _ _).mono (fun r hr c => ⟨(hr c).1.trans (value_eq m m' hp h c), (hr c).2⟩) (Cert.KernelIdeal.Steps.run_out (F := Ideal) m g),
    (θ_run Cert.ReferenceIdeal.defs _ _).mono (fun r hr => hr 0) (Cert.ReferenceIdeal.Value.run (F := Ideal) m' g')⟩

/-- Everything claimed. -/
theorem claim : Cert.Claim := ⟨Cert.Kernel.Gen.facts, Cert.KernelIdeal.Gen.facts, Cert.ReferenceIdeal.Gen.facts,
  Cert.Pre_scores_from_finite_KernelIdeal.Gen.facts, Cert.Pre_scores_from_finite_ReferenceIdeal.Gen.facts,
  frame_word, frame_ideal, fun m g _ => frame_ideal m g trivial, frame_reference, fun m g _ => frame_reference m g trivial,
  IdealRules.named_const.statement Cert.KernelIdeal.κ "mask" .f32 0xCE6E6B28#32 ⊥ rfl, value⟩

end Cert.Proof

end
